-- ==== Defs.lean ====
def Pre_KernelMemNorm (m : (ℓ : Loc Cert.KernelMemNorm.nD Cert.KernelMemNorm.τ Cert.KernelMemNorm.sig) → Buf (Elt Bits) ℓ) : Prop :=
  True

def Pre_KernelMemNormIdeal (m : (ℓ : Loc Cert.KernelMemNormIdeal.nD Cert.KernelMemNormIdeal.τ Cert.KernelMemNormIdeal.sig) → Buf (Elt Ideal) ℓ) : Prop :=
  True

def Pre_ReferenceMemNormIdeal (m : (ℓ : Loc Cert.ReferenceMemNormIdeal.nD Cert.ReferenceMemNormIdeal.τ Cert.ReferenceMemNormIdeal.sig) → Buf (Elt Ideal) ℓ) : Prop :=
  True

def Pre_KernelFfnW (m : (ℓ : Loc Cert.KernelFfnW.nD Cert.KernelFfnW.τ Cert.KernelFfnW.sig) → Buf (Elt Bits) ℓ) : Prop :=
  True

def Pre_KernelFfnWIdeal (m : (ℓ : Loc Cert.KernelFfnWIdeal.nD Cert.KernelFfnWIdeal.τ Cert.KernelFfnWIdeal.sig) → Buf (Elt Ideal) ℓ) : Prop :=
  True

def Pre_ReferenceFfnWIdeal (m : (ℓ : Loc Cert.ReferenceFfnWIdeal.nD Cert.ReferenceFfnWIdeal.τ Cert.ReferenceFfnWIdeal.sig) → Buf (Elt Ideal) ℓ) : Prop :=
  True

def Pre_KernelFfnAct (m : (ℓ : Loc Cert.KernelFfnAct.nD Cert.KernelFfnAct.τ Cert.KernelFfnAct.sig) → Buf (Elt Bits) ℓ) : Prop :=
  True

def Pre_KernelFfnActIdeal (m : (ℓ : Loc Cert.KernelFfnActIdeal.nD Cert.KernelFfnActIdeal.τ Cert.KernelFfnActIdeal.sig) → Buf (Elt Ideal) ℓ) : Prop :=
  True

def Pre_KernelFfnActIdeal_ffn_finite [hPre_ffn_finite : Cert.Pre_ffn_finite.Facts] (m : (ℓ : Loc Cert.KernelFfnActIdeal.nD Cert.KernelFfnActIdeal.τ Cert.KernelFfnActIdeal.sig) → Buf (Elt Ideal) ℓ) : Prop :=
  ∀ c : Dev Cert.KernelFfnActIdeal.nD,
    (Cert.Pre_ffn_finite.fn (F := Ideal) (m ((c.tc : Thread Cert.KernelFfnActIdeal.nD Cert.KernelFfnActIdeal.τ).loc Cert.KernelFfnActIdeal.main_arg0)) (m ((c.tc : Thread Cert.KernelFfnActIdeal.nD Cert.KernelFfnActIdeal.τ).loc Cert.KernelFfnActIdeal.main_arg1)) (m ((c.tc : Thread Cert.KernelFfnActIdeal.nD Cert.KernelFfnActIdeal.τ).loc Cert.KernelFfnActIdeal.main_arg2)) (m ((c.tc : Thread Cert.KernelFfnActIdeal.nD Cert.KernelFfnActIdeal.τ).loc Cert.KernelFfnActIdeal.main_arg3)) (m ((c.tc : Thread Cert.KernelFfnActIdeal.nD Cert.KernelFfnActIdeal.τ).loc Cert.KernelFfnActIdeal.main_arg4)) (m ((c.tc : Thread Cert.KernelFfnActIdeal.nD Cert.KernelFfnActIdeal.τ).loc Cert.KernelFfnActIdeal.main_arg5))) = (fun _ => 1#1)

def Pre_ReferenceFfnActIdeal (m : (ℓ : Loc Cert.ReferenceFfnActIdeal.nD Cert.ReferenceFfnActIdeal.τ Cert.ReferenceFfnActIdeal.sig) → Buf (Elt Ideal) ℓ) : Prop :=
  True

def Pre_ReferenceFfnActIdeal_ffn_finite [hPre_ffn_finite : Cert.Pre_ffn_finite.Facts] (m : (ℓ : Loc Cert.ReferenceFfnActIdeal.nD Cert.ReferenceFfnActIdeal.τ Cert.ReferenceFfnActIdeal.sig) → Buf (Elt Ideal) ℓ) : Prop :=
  ∀ c : Dev Cert.ReferenceFfnActIdeal.nD,
    (Cert.Pre_ffn_finite.fn (F := Ideal) (m ((c.tc : Thread Cert.ReferenceFfnActIdeal.nD Cert.ReferenceFfnActIdeal.τ).loc Cert.ReferenceFfnActIdeal.main_arg0)) (m ((c.tc : Thread Cert.ReferenceFfnActIdeal.nD Cert.ReferenceFfnActIdeal.τ).loc Cert.ReferenceFfnActIdeal.main_arg1)) (m ((c.tc : Thread Cert.ReferenceFfnActIdeal.nD Cert.ReferenceFfnActIdeal.τ).loc Cert.ReferenceFfnActIdeal.main_arg2)) (m ((c.tc : Thread Cert.ReferenceFfnActIdeal.nD Cert.ReferenceFfnActIdeal.τ).loc Cert.ReferenceFfnActIdeal.main_arg3)) (m ((c.tc : Thread Cert.ReferenceFfnActIdeal.nD Cert.ReferenceFfnActIdeal.τ).loc Cert.ReferenceFfnActIdeal.main_arg4)) (m ((c.tc : Thread Cert.ReferenceFfnActIdeal.nD Cert.ReferenceFfnActIdeal.τ).loc Cert.ReferenceFfnActIdeal.main_arg5))) = (fun _ => 1#1)

def Pre_KernelKeyNorm (m : (ℓ : Loc Cert.KernelKeyNorm.nD Cert.KernelKeyNorm.τ Cert.KernelKeyNorm.sig) → Buf (Elt Bits) ℓ) : Prop :=
  True

def Pre_KernelKeyNormIdeal (m : (ℓ : Loc Cert.KernelKeyNormIdeal.nD Cert.KernelKeyNormIdeal.τ Cert.KernelKeyNormIdeal.sig) → Buf (Elt Ideal) ℓ) : Prop :=
  True

def Pre_ReferenceKeyNormIdeal (m : (ℓ : Loc Cert.ReferenceKeyNormIdeal.nD Cert.ReferenceKeyNormIdeal.τ Cert.ReferenceKeyNormIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_attn_finite [hPre_attn_finite : Cert.Pre_attn_finite.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_attn_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_attn_finite [hPre_attn_finite : Cert.Pre_attn_finite.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_attn_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3))) = (fun _ => 1#1)

def Pre_KernelSsmPrep (m : (ℓ : Loc Cert.KernelSsmPrep.nD Cert.KernelSsmPrep.τ Cert.KernelSsmPrep.sig) → Buf (Elt Bits) ℓ) : Prop :=
  True

def Pre_KernelSsmPrepIdeal (m : (ℓ : Loc Cert.KernelSsmPrepIdeal.nD Cert.KernelSsmPrepIdeal.τ Cert.KernelSsmPrepIdeal.sig) → Buf (Elt Ideal) ℓ) : Prop :=
  True

def Pre_KernelSsmPrepIdeal_prep_nonzero [hPre_prep_nonzero : Cert.Pre_prep_nonzero.Facts] (m : (ℓ : Loc Cert.KernelSsmPrepIdeal.nD Cert.KernelSsmPrepIdeal.τ Cert.KernelSsmPrepIdeal.sig) → Buf (Elt Ideal) ℓ) : Prop :=
  ∀ c : Dev Cert.KernelSsmPrepIdeal.nD,
    (Cert.Pre_prep_nonzero.fn (F := Ideal) (m ((c.tc : Thread Cert.KernelSsmPrepIdeal.nD Cert.KernelSsmPrepIdeal.τ).loc Cert.KernelSsmPrepIdeal.main_arg0)) (m ((c.tc : Thread Cert.KernelSsmPrepIdeal.nD Cert.KernelSsmPrepIdeal.τ).loc Cert.KernelSsmPrepIdeal.main_arg1)) (m ((c.tc : Thread Cert.KernelSsmPrepIdeal.nD Cert.KernelSsmPrepIdeal.τ).loc Cert.KernelSsmPrepIdeal.main_arg2)) (m ((c.tc : Thread Cert.KernelSsmPrepIdeal.nD Cert.KernelSsmPrepIdeal.τ).loc Cert.KernelSsmPrepIdeal.main_arg3)) (m ((c.tc : Thread Cert.KernelSsmPrepIdeal.nD Cert.KernelSsmPrepIdeal.τ).loc Cert.KernelSsmPrepIdeal.main_arg4)) (m ((c.tc : Thread Cert.KernelSsmPrepIdeal.nD Cert.KernelSsmPrepIdeal.τ).loc Cert.KernelSsmPrepIdeal.main_arg5)) (m ((c.tc : Thread Cert.KernelSsmPrepIdeal.nD Cert.KernelSsmPrepIdeal.τ).loc Cert.KernelSsmPrepIdeal.main_arg6)) (m ((c.tc : Thread Cert.KernelSsmPrepIdeal.nD Cert.KernelSsmPrepIdeal.τ).loc Cert.KernelSsmPrepIdeal.main_arg7)) (m ((c.tc : Thread Cert.KernelSsmPrepIdeal.nD Cert.KernelSsmPrepIdeal.τ).loc Cert.KernelSsmPrepIdeal.main_arg8)) (m ((c.tc : Thread Cert.KernelSsmPrepIdeal.nD Cert.KernelSsmPrepIdeal.τ).loc Cert.KernelSsmPrepIdeal.main_arg9)) (m ((c.tc : Thread Cert.KernelSsmPrepIdeal.nD Cert.KernelSsmPrepIdeal.τ).loc Cert.KernelSsmPrepIdeal.main_arg10)) (m ((c.tc : Thread Cert.KernelSsmPrepIdeal.nD Cert.KernelSsmPrepIdeal.τ).loc Cert.KernelSsmPrepIdeal.main_arg11)) (m ((c.tc : Thread Cert.KernelSsmPrepIdeal.nD Cert.KernelSsmPrepIdeal.τ).loc Cert.KernelSsmPrepIdeal.main_arg12))) = (fun _ => 1#1)

def Pre_ReferenceSsmPrepIdeal (m : (ℓ : Loc Cert.ReferenceSsmPrepIdeal.nD Cert.ReferenceSsmPrepIdeal.τ Cert.ReferenceSsmPrepIdeal.sig) → Buf (Elt Ideal) ℓ) : Prop :=
  True

def Pre_ReferenceSsmPrepIdeal_prep_nonzero [hPre_prep_nonzero : Cert.Pre_prep_nonzero.Facts] (m : (ℓ : Loc Cert.ReferenceSsmPrepIdeal.nD Cert.ReferenceSsmPrepIdeal.τ Cert.ReferenceSsmPrepIdeal.sig) → Buf (Elt Ideal) ℓ) : Prop :=
  ∀ c : Dev Cert.ReferenceSsmPrepIdeal.nD,
    (Cert.Pre_prep_nonzero.fn (F := Ideal) (m ((c.tc : Thread Cert.ReferenceSsmPrepIdeal.nD Cert.ReferenceSsmPrepIdeal.τ).loc Cert.ReferenceSsmPrepIdeal.main_arg0)) (m ((c.tc : Thread Cert.ReferenceSsmPrepIdeal.nD Cert.ReferenceSsmPrepIdeal.τ).loc Cert.ReferenceSsmPrepIdeal.main_arg1)) (m ((c.tc : Thread Cert.ReferenceSsmPrepIdeal.nD Cert.ReferenceSsmPrepIdeal.τ).loc Cert.ReferenceSsmPrepIdeal.main_arg2)) (m ((c.tc : Thread Cert.ReferenceSsmPrepIdeal.nD Cert.ReferenceSsmPrepIdeal.τ).loc Cert.ReferenceSsmPrepIdeal.main_arg3)) (m ((c.tc : Thread Cert.ReferenceSsmPrepIdeal.nD Cert.ReferenceSsmPrepIdeal.τ).loc Cert.ReferenceSsmPrepIdeal.main_arg4)) (m ((c.tc : Thread Cert.ReferenceSsmPrepIdeal.nD Cert.ReferenceSsmPrepIdeal.τ).loc Cert.ReferenceSsmPrepIdeal.main_arg5)) (m ((c.tc : Thread Cert.ReferenceSsmPrepIdeal.nD Cert.ReferenceSsmPrepIdeal.τ).loc Cert.ReferenceSsmPrepIdeal.main_arg6)) (m ((c.tc : Thread Cert.ReferenceSsmPrepIdeal.nD Cert.ReferenceSsmPrepIdeal.τ).loc Cert.ReferenceSsmPrepIdeal.main_arg7)) (m ((c.tc : Thread Cert.ReferenceSsmPrepIdeal.nD Cert.ReferenceSsmPrepIdeal.τ).loc Cert.ReferenceSsmPrepIdeal.main_arg8)) (m ((c.tc : Thread Cert.ReferenceSsmPrepIdeal.nD Cert.ReferenceSsmPrepIdeal.τ).loc Cert.ReferenceSsmPrepIdeal.main_arg9)) (m ((c.tc : Thread Cert.ReferenceSsmPrepIdeal.nD Cert.ReferenceSsmPrepIdeal.τ).loc Cert.ReferenceSsmPrepIdeal.main_arg10)) (m ((c.tc : Thread Cert.ReferenceSsmPrepIdeal.nD Cert.ReferenceSsmPrepIdeal.τ).loc Cert.ReferenceSsmPrepIdeal.main_arg11)) (m ((c.tc : Thread Cert.ReferenceSsmPrepIdeal.nD Cert.ReferenceSsmPrepIdeal.τ).loc Cert.ReferenceSsmPrepIdeal.main_arg12))) = (fun _ => 1#1)

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_ReferenceSsmIdeal (m : (ℓ : Loc Cert.ReferenceSsmIdeal.nD Cert.ReferenceSsmIdeal.τ Cert.ReferenceSsmIdeal.sig) → Buf (Elt Ideal) ℓ) : Prop :=
  True

def Pre_KernelMemNormFwd (m : (ℓ : Loc Cert.KernelMemNormFwd.nD Cert.KernelMemNormFwd.τ Cert.KernelMemNormFwd.sig) → Buf (Elt Bits) ℓ) : Prop :=
  True

def Pre_KernelMemNormFwdIdeal (m : (ℓ : Loc Cert.KernelMemNormFwdIdeal.nD Cert.KernelMemNormFwdIdeal.τ Cert.KernelMemNormFwdIdeal.sig) → Buf (Elt Ideal) ℓ) : Prop :=
  True

def Pre_ReferenceMemNormFwdIdeal (m : (ℓ : Loc Cert.ReferenceMemNormFwdIdeal.nD Cert.ReferenceMemNormFwdIdeal.τ Cert.ReferenceMemNormFwdIdeal.sig) → Buf (Elt Ideal) ℓ) : Prop :=
  True

def Pre_KernelKeyNormFwd (m : (ℓ : Loc Cert.KernelKeyNormFwd.nD Cert.KernelKeyNormFwd.τ Cert.KernelKeyNormFwd.sig) → Buf (Elt Bits) ℓ) : Prop :=
  True

def Pre_KernelKeyNormFwdIdeal (m : (ℓ : Loc Cert.KernelKeyNormFwdIdeal.nD Cert.KernelKeyNormFwdIdeal.τ Cert.KernelKeyNormFwdIdeal.sig) → Buf (Elt Ideal) ℓ) : Prop :=
  True

def Pre_ReferenceKeyNormFwdIdeal (m : (ℓ : Loc Cert.ReferenceKeyNormFwdIdeal.nD Cert.ReferenceKeyNormFwdIdeal.τ Cert.ReferenceKeyNormFwdIdeal.sig) → Buf (Elt Ideal) ℓ) : Prop :=
  True

def Pre_KernelAttnFwd (m : (ℓ : Loc Cert.KernelAttnFwd.nD Cert.KernelAttnFwd.τ Cert.KernelAttnFwd.sig) → Buf (Elt Bits) ℓ) : Prop :=
  True

def Pre_KernelAttnFwdIdeal (m : (ℓ : Loc Cert.KernelAttnFwdIdeal.nD Cert.KernelAttnFwdIdeal.τ Cert.KernelAttnFwdIdeal.sig) → Buf (Elt Ideal) ℓ) : Prop :=
  True

def Pre_KernelAttnFwdIdeal_attn_fwd_finite [hPre_attn_fwd_finite : Cert.Pre_attn_fwd_finite.Facts] (m : (ℓ : Loc Cert.KernelAttnFwdIdeal.nD Cert.KernelAttnFwdIdeal.τ Cert.KernelAttnFwdIdeal.sig) → Buf (Elt Ideal) ℓ) : Prop :=
  ∀ c : Dev Cert.KernelAttnFwdIdeal.nD,
    (Cert.Pre_attn_fwd_finite.fn (F := Ideal) (m ((c.tc : Thread Cert.KernelAttnFwdIdeal.nD Cert.KernelAttnFwdIdeal.τ).loc Cert.KernelAttnFwdIdeal.main_arg0)) (m ((c.tc : Thread Cert.KernelAttnFwdIdeal.nD Cert.KernelAttnFwdIdeal.τ).loc Cert.KernelAttnFwdIdeal.main_arg1)) (m ((c.tc : Thread Cert.KernelAttnFwdIdeal.nD Cert.KernelAttnFwdIdeal.τ).loc Cert.KernelAttnFwdIdeal.main_arg2))) = (fun _ => 1#1)

def Pre_ReferenceAttnFwdIdeal (m : (ℓ : Loc Cert.ReferenceAttnFwdIdeal.nD Cert.ReferenceAttnFwdIdeal.τ Cert.ReferenceAttnFwdIdeal.sig) → Buf (Elt Ideal) ℓ) : Prop :=
  True

def Pre_ReferenceAttnFwdIdeal_attn_fwd_finite [hPre_attn_fwd_finite : Cert.Pre_attn_fwd_finite.Facts] (m : (ℓ : Loc Cert.ReferenceAttnFwdIdeal.nD Cert.ReferenceAttnFwdIdeal.τ Cert.ReferenceAttnFwdIdeal.sig) → Buf (Elt Ideal) ℓ) : Prop :=
  ∀ c : Dev Cert.ReferenceAttnFwdIdeal.nD,
    (Cert.Pre_attn_fwd_finite.fn (F := Ideal) (m ((c.tc : Thread Cert.ReferenceAttnFwdIdeal.nD Cert.ReferenceAttnFwdIdeal.τ).loc Cert.ReferenceAttnFwdIdeal.main_arg0)) (m ((c.tc : Thread Cert.ReferenceAttnFwdIdeal.nD Cert.ReferenceAttnFwdIdeal.τ).loc Cert.ReferenceAttnFwdIdeal.main_arg1)) (m ((c.tc : Thread Cert.ReferenceAttnFwdIdeal.nD Cert.ReferenceAttnFwdIdeal.τ).loc Cert.ReferenceAttnFwdIdeal.main_arg2))) = (fun _ => 1#1)

def Pre_KernelSsmPrepFwd (m : (ℓ : Loc Cert.KernelSsmPrepFwd.nD Cert.KernelSsmPrepFwd.τ Cert.KernelSsmPrepFwd.sig) → Buf (Elt Bits) ℓ) : Prop :=
  True

def Pre_KernelSsmPrepFwdIdeal (m : (ℓ : Loc Cert.KernelSsmPrepFwdIdeal.nD Cert.KernelSsmPrepFwdIdeal.τ Cert.KernelSsmPrepFwdIdeal.sig) → Buf (Elt Ideal) ℓ) : Prop :=
  True

def Pre_ReferenceSsmPrepFwdIdeal (m : (ℓ : Loc Cert.ReferenceSsmPrepFwdIdeal.nD Cert.ReferenceSsmPrepFwdIdeal.τ Cert.ReferenceSsmPrepFwdIdeal.sig) → Buf (Elt Ideal) ℓ) : Prop :=
  True

def Pre_KernelPostFwd (m : (ℓ : Loc Cert.KernelPostFwd.nD Cert.KernelPostFwd.τ Cert.KernelPostFwd.sig) → Buf (Elt Bits) ℓ) : Prop :=
  True

def Pre_KernelPostFwdIdeal (m : (ℓ : Loc Cert.KernelPostFwdIdeal.nD Cert.KernelPostFwdIdeal.τ Cert.KernelPostFwdIdeal.sig) → Buf (Elt Ideal) ℓ) : Prop :=
  True

def Pre_ReferencePostFwdIdeal (m : (ℓ : Loc Cert.ReferencePostFwdIdeal.nD Cert.ReferencePostFwdIdeal.τ Cert.ReferencePostFwdIdeal.sig) → Buf (Elt Ideal) ℓ) : Prop :=
  True

def Pre_KernelPreFwd (m : (ℓ : Loc Cert.KernelPreFwd.nD Cert.KernelPreFwd.τ Cert.KernelPreFwd.sig) → Buf (Elt Bits) ℓ) : Prop :=
  True

def Pre_KernelPreFwdIdeal (m : (ℓ : Loc Cert.KernelPreFwdIdeal.nD Cert.KernelPreFwdIdeal.τ Cert.KernelPreFwdIdeal.sig) → Buf (Elt Ideal) ℓ) : Prop :=
  True

def quiescent_KernelMemNorm [hKernelMemNorm : Cert.KernelMemNorm.Facts] : Prop :=
  ∀ (m : (ℓ : Loc Cert.KernelMemNorm.nD Cert.KernelMemNorm.τ Cert.KernelMemNorm.sig) → Buf (Elt Bits) ℓ) (g : Dev Cert.KernelMemNorm.nD → PrngReg), Pre_KernelMemNorm m →
    θ_run (Cert.KernelMemNorm.defs (F := Bits)) (onTc (τ := Cert.KernelMemNorm.τ) (Cert.KernelMemNorm.main (F := Bits))) ⟨m, fun _ => 0, g⟩ (fun r => (∀ c : Dev Cert.KernelMemNorm.nD,
      r.2.mem ((c.tc : Thread Cert.KernelMemNorm.nD Cert.KernelMemNorm.τ).loc Cert.KernelMemNorm.main_arg0) = m ((c.tc : Thread Cert.KernelMemNorm.nD Cert.KernelMemNorm.τ).loc Cert.KernelMemNorm.main_arg0)
      ∧ r.2.mem ((c.tc : Thread Cert.KernelMemNorm.nD Cert.KernelMemNorm.τ).loc Cert.KernelMemNorm.main_arg1) = m ((c.tc : Thread Cert.KernelMemNorm.nD Cert.KernelMemNorm.τ).loc Cert.KernelMemNorm.main_arg1)
      ∧ r.2.mem ((c.tc : Thread Cert.KernelMemNorm.nD Cert.KernelMemNorm.τ).loc Cert.KernelMemNorm.main_arg2) = m ((c.tc : Thread Cert.KernelMemNorm.nD Cert.KernelMemNorm.τ).loc Cert.KernelMemNorm.main_arg2))
      ∧ r.2.sem = fun _ => 0)

def quiescent_KernelMemNormIdeal [hKernelMemNormIdeal : Cert.KernelMemNormIdeal.Facts] : Prop :=
  ∀ (m : (ℓ : Loc Cert.KernelMemNormIdeal.nD Cert.KernelMemNormIdeal.τ Cert.KernelMemNormIdeal.sig) → Buf (Elt Ideal) ℓ) (g : Dev Cert.KernelMemNormIdeal.nD → PrngReg), Pre_KernelMemNormIdeal m →
    θ_run (Cert.KernelMemNormIdeal.defs (F := Ideal)) (onTc (τ := Cert.KernelMemNormIdeal.τ) (Cert.KernelMemNormIdeal.main (F := Ideal))) ⟨m, fun _ => 0, g⟩ (fun r => (∀ c : Dev Cert.KernelMemNormIdeal.nD,
      r.2.mem ((c.tc : Thread Cert.KernelMemNormIdeal.nD Cert.KernelMemNormIdeal.τ).loc Cert.KernelMemNormIdeal.main_arg0) = m ((c.tc : Thread Cert.KernelMemNormIdeal.nD Cert.KernelMemNormIdeal.τ).loc Cert.KernelMemNormIdeal.main_arg0)
      ∧ r.2.mem ((c.tc : Thread Cert.KernelMemNormIdeal.nD Cert.KernelMemNormIdeal.τ).loc Cert.KernelMemNormIdeal.main_arg1) = m ((c.tc : Thread Cert.KernelMemNormIdeal.nD Cert.KernelMemNormIdeal.τ).loc Cert.KernelMemNormIdeal.main_arg1)
      ∧ r.2.mem ((c.tc : Thread Cert.KernelMemNormIdeal.nD Cert.KernelMemNormIdeal.τ).loc Cert.KernelMemNormIdeal.main_arg2) = m ((c.tc : Thread Cert.KernelMemNormIdeal.nD Cert.KernelMemNormIdeal.τ).loc Cert.KernelMemNormIdeal.main_arg2))
      ∧ r.2.sem = fun _ => 0)

def quiescent_ReferenceMemNormIdeal [hReferenceMemNormIdeal : Cert.ReferenceMemNormIdeal.Facts] : Prop :=
  ∀ (m : (ℓ : Loc Cert.ReferenceMemNormIdeal.nD Cert.ReferenceMemNormIdeal.τ Cert.ReferenceMemNormIdeal.sig) → Buf (Elt Ideal) ℓ) (g : Dev Cert.ReferenceMemNormIdeal.nD → PrngReg), Pre_ReferenceMemNormIdeal m →
    θ_run (Cert.ReferenceMemNormIdeal.defs (F := Ideal)) (onTc (τ := Cert.ReferenceMemNormIdeal.τ) (Cert.ReferenceMemNormIdeal.main (F := Ideal))) ⟨m, fun _ => 0, g⟩ (fun r => (∀ c : Dev Cert.ReferenceMemNormIdeal.nD,
      r.2.mem ((c.tc : Thread Cert.ReferenceMemNormIdeal.nD Cert.ReferenceMemNormIdeal.τ).loc Cert.ReferenceMemNormIdeal.main_arg0) = m ((c.tc : Thread Cert.ReferenceMemNormIdeal.nD Cert.ReferenceMemNormIdeal.τ).loc Cert.ReferenceMemNormIdeal.main_arg0)
      ∧ r.2.mem ((c.tc : Thread Cert.ReferenceMemNormIdeal.nD Cert.ReferenceMemNormIdeal.τ).loc Cert.ReferenceMemNormIdeal.main_arg1) = m ((c.tc : Thread Cert.ReferenceMemNormIdeal.nD Cert.ReferenceMemNormIdeal.τ).loc Cert.ReferenceMemNormIdeal.main_arg1)
      ∧ r.2.mem ((c.tc : Thread Cert.ReferenceMemNormIdeal.nD Cert.ReferenceMemNormIdeal.τ).loc Cert.ReferenceMemNormIdeal.main_arg2) = m ((c.tc : Thread Cert.ReferenceMemNormIdeal.nD Cert.ReferenceMemNormIdeal.τ).loc Cert.ReferenceMemNormIdeal.main_arg2))
      ∧ r.2.sem = fun _ => 0)

def quiescent_KernelFfnW [hKernelFfnW : Cert.KernelFfnW.Facts] : Prop :=
  ∀ (m : (ℓ : Loc Cert.KernelFfnW.nD Cert.KernelFfnW.τ Cert.KernelFfnW.sig) → Buf (Elt Bits) ℓ) (g : Dev Cert.KernelFfnW.nD → PrngReg), Pre_KernelFfnW m →
    θ_run (Cert.KernelFfnW.defs (F := Bits)) (onTc (τ := Cert.KernelFfnW.τ) (Cert.KernelFfnW.main (F := Bits))) ⟨m, fun _ => 0, g⟩ (fun r => (∀ c : Dev Cert.KernelFfnW.nD,
      r.2.mem ((c.tc : Thread Cert.KernelFfnW.nD Cert.KernelFfnW.τ).loc Cert.KernelFfnW.main_arg0) = m ((c.tc : Thread Cert.KernelFfnW.nD Cert.KernelFfnW.τ).loc Cert.KernelFfnW.main_arg0)
      ∧ r.2.mem ((c.tc : Thread Cert.KernelFfnW.nD Cert.KernelFfnW.τ).loc Cert.KernelFfnW.main_arg1) = m ((c.tc : Thread Cert.KernelFfnW.nD Cert.KernelFfnW.τ).loc Cert.KernelFfnW.main_arg1)
      ∧ r.2.mem ((c.tc : Thread Cert.KernelFfnW.nD Cert.KernelFfnW.τ).loc Cert.KernelFfnW.main_arg2) = m ((c.tc : Thread Cert.KernelFfnW.nD Cert.KernelFfnW.τ).loc Cert.KernelFfnW.main_arg2)
      ∧ r.2.mem ((c.tc : Thread Cert.KernelFfnW.nD Cert.KernelFfnW.τ).loc Cert.KernelFfnW.main_arg3) = m ((c.tc : Thread Cert.KernelFfnW.nD Cert.KernelFfnW.τ).loc Cert.KernelFfnW.main_arg3)
      ∧ r.2.mem ((c.tc : Thread Cert.KernelFfnW.nD Cert.KernelFfnW.τ).loc Cert.KernelFfnW.main_arg4) = m ((c.tc : Thread Cert.KernelFfnW.nD Cert.KernelFfnW.τ).loc Cert.KernelFfnW.main_arg4)
      ∧ r.2.mem ((c.tc : Thread Cert.KernelFfnW.nD Cert.KernelFfnW.τ).loc Cert.KernelFfnW.main_arg5) = m ((c.tc : Thread Cert.KernelFfnW.nD Cert.KernelFfnW.τ).loc Cert.KernelFfnW.main_arg5)
      ∧ r.2.mem ((c.tc : Thread Cert.KernelFfnW.nD Cert.KernelFfnW.τ).loc Cert.KernelFfnW.main_arg6) = m ((c.tc : Thread Cert.KernelFfnW.nD Cert.KernelFfnW.τ).loc Cert.KernelFfnW.main_arg6))
      ∧ r.2.sem = fun _ => 0)

def quiescent_KernelFfnWIdeal [hKernelFfnWIdeal : Cert.KernelFfnWIdeal.Facts] : Prop :=
  ∀ (m : (ℓ : Loc Cert.KernelFfnWIdeal.nD Cert.KernelFfnWIdeal.τ Cert.KernelFfnWIdeal.sig) → Buf (Elt Ideal) ℓ) (g : Dev Cert.KernelFfnWIdeal.nD → PrngReg), Pre_KernelFfnWIdeal m →
    θ_run (Cert.KernelFfnWIdeal.defs (F := Ideal)) (onTc (τ := Cert.KernelFfnWIdeal.τ) (Cert.KernelFfnWIdeal.main (F := Ideal))) ⟨m, fun _ => 0, g⟩ (fun r => (∀ c : Dev Cert.KernelFfnWIdeal.nD,
      r.2.mem ((c.tc : Thread Cert.KernelFfnWIdeal.nD Cert.KernelFfnWIdeal.τ).loc Cert.KernelFfnWIdeal.main_arg0) = m ((c.tc : Thread Cert.KernelFfnWIdeal.nD Cert.KernelFfnWIdeal.τ).loc Cert.KernelFfnWIdeal.main_arg0)
      ∧ r.2.mem ((c.tc : Thread Cert.KernelFfnWIdeal.nD Cert.KernelFfnWIdeal.τ).loc Cert.KernelFfnWIdeal.main_arg1) = m ((c.tc : Thread Cert.KernelFfnWIdeal.nD Cert.KernelFfnWIdeal.τ).loc Cert.KernelFfnWIdeal.main_arg1)
      ∧ r.2.mem ((c.tc : Thread Cert.KernelFfnWIdeal.nD Cert.KernelFfnWIdeal.τ).loc Cert.KernelFfnWIdeal.main_arg2) = m ((c.tc : Thread Cert.KernelFfnWIdeal.nD Cert.KernelFfnWIdeal.τ).loc Cert.KernelFfnWIdeal.main_arg2)
      ∧ r.2.mem ((c.tc : Thread Cert.KernelFfnWIdeal.nD Cert.KernelFfnWIdeal.τ).loc Cert.KernelFfnWIdeal.main_arg3) = m ((c.tc : Thread Cert.KernelFfnWIdeal.nD Cert.KernelFfnWIdeal.τ).loc Cert.KernelFfnWIdeal.main_arg3)
      ∧ r.2.mem ((c.tc : Thread Cert.KernelFfnWIdeal.nD Cert.KernelFfnWIdeal.τ).loc Cert.KernelFfnWIdeal.main_arg4) = m ((c.tc : Thread Cert.KernelFfnWIdeal.nD Cert.KernelFfnWIdeal.τ).loc Cert.KernelFfnWIdeal.main_arg4)
      ∧ r.2.mem ((c.tc : Thread Cert.KernelFfnWIdeal.nD Cert.KernelFfnWIdeal.τ).loc Cert.KernelFfnWIdeal.main_arg5) = m ((c.tc : Thread Cert.KernelFfnWIdeal.nD Cert.KernelFfnWIdeal.τ).loc Cert.KernelFfnWIdeal.main_arg5)
      ∧ r.2.mem ((c.tc : Thread Cert.KernelFfnWIdeal.nD Cert.KernelFfnWIdeal.τ).loc Cert.KernelFfnWIdeal.main_arg6) = m ((c.tc : Thread Cert.KernelFfnWIdeal.nD Cert.KernelFfnWIdeal.τ).loc Cert.KernelFfnWIdeal.main_arg6))
      ∧ r.2.sem = fun _ => 0)

def quiescent_ReferenceFfnWIdeal [hReferenceFfnWIdeal : Cert.ReferenceFfnWIdeal.Facts] : Prop :=
  ∀ (m : (ℓ : Loc Cert.ReferenceFfnWIdeal.nD Cert.ReferenceFfnWIdeal.τ Cert.ReferenceFfnWIdeal.sig) → Buf (Elt Ideal) ℓ) (g : Dev Cert.ReferenceFfnWIdeal.nD → PrngReg), Pre_ReferenceFfnWIdeal m →
    θ_run (Cert.ReferenceFfnWIdeal.defs (F := Ideal)) (onTc (τ := Cert.ReferenceFfnWIdeal.τ) (Cert.ReferenceFfnWIdeal.main (F := Ideal))) ⟨m, fun _ => 0, g⟩ (fun r => (∀ c : Dev Cert.ReferenceFfnWIdeal.nD,
      r.2.mem ((c.tc : Thread Cert.ReferenceFfnWIdeal.nD Cert.ReferenceFfnWIdeal.τ).loc Cert.ReferenceFfnWIdeal.main_arg0) = m ((c.tc : Thread Cert.ReferenceFfnWIdeal.nD Cert.ReferenceFfnWIdeal.τ).loc Cert.ReferenceFfnWIdeal.main_arg0)
      ∧ r.2.mem ((c.tc : Thread Cert.ReferenceFfnWIdeal.nD Cert.ReferenceFfnWIdeal.τ).loc Cert.ReferenceFfnWIdeal.main_arg1) = m ((c.tc : Thread Cert.ReferenceFfnWIdeal.nD Cert.ReferenceFfnWIdeal.τ).loc Cert.ReferenceFfnWIdeal.main_arg1)
      ∧ r.2.mem ((c.tc : Thread Cert.ReferenceFfnWIdeal.nD Cert.ReferenceFfnWIdeal.τ).loc Cert.ReferenceFfnWIdeal.main_arg2) = m ((c.tc : Thread Cert.ReferenceFfnWIdeal.nD Cert.ReferenceFfnWIdeal.τ).loc Cert.ReferenceFfnWIdeal.main_arg2)
      ∧ r.2.mem ((c.tc : Thread Cert.ReferenceFfnWIdeal.nD Cert.ReferenceFfnWIdeal.τ).loc Cert.ReferenceFfnWIdeal.main_arg3) = m ((c.tc : Thread Cert.ReferenceFfnWIdeal.nD Cert.ReferenceFfnWIdeal.τ).loc Cert.ReferenceFfnWIdeal.main_arg3)
      ∧ r.2.mem ((c.tc : Thread Cert.ReferenceFfnWIdeal.nD Cert.ReferenceFfnWIdeal.τ).loc Cert.ReferenceFfnWIdeal.main_arg4) = m ((c.tc : Thread Cert.ReferenceFfnWIdeal.nD Cert.ReferenceFfnWIdeal.τ).loc Cert.ReferenceFfnWIdeal.main_arg4)
      ∧ r.2.mem ((c.tc : Thread Cert.ReferenceFfnWIdeal.nD Cert.ReferenceFfnWIdeal.τ).loc Cert.ReferenceFfnWIdeal.main_arg5) = m ((c.tc : Thread Cert.ReferenceFfnWIdeal.nD Cert.ReferenceFfnWIdeal.τ).loc Cert.ReferenceFfnWIdeal.main_arg5)
      ∧ r.2.mem ((c.tc : Thread Cert.ReferenceFfnWIdeal.nD Cert.ReferenceFfnWIdeal.τ).loc Cert.ReferenceFfnWIdeal.main_arg6) = m ((c.tc : Thread Cert.ReferenceFfnWIdeal.nD Cert.ReferenceFfnWIdeal.τ).loc Cert.ReferenceFfnWIdeal.main_arg6))
      ∧ r.2.sem = fun _ => 0)

def quiescent_KernelFfnAct [hKernelFfnAct : Cert.KernelFfnAct.Facts] : Prop :=
  ∀ (m : (ℓ : Loc Cert.KernelFfnAct.nD Cert.KernelFfnAct.τ Cert.KernelFfnAct.sig) → Buf (Elt Bits) ℓ) (g : Dev Cert.KernelFfnAct.nD → PrngReg), Pre_KernelFfnAct m →
    θ_run (Cert.KernelFfnAct.defs (F := Bits)) (onTc (τ := Cert.KernelFfnAct.τ) (Cert.KernelFfnAct.main (F := Bits))) ⟨m, fun _ => 0, g⟩ (fun r => (∀ c : Dev Cert.KernelFfnAct.nD,
      r.2.mem ((c.tc : Thread Cert.KernelFfnAct.nD Cert.KernelFfnAct.τ).loc Cert.KernelFfnAct.main_arg0) = m ((c.tc : Thread Cert.KernelFfnAct.nD Cert.KernelFfnAct.τ).loc Cert.KernelFfnAct.main_arg0)
      ∧ r.2.mem ((c.tc : Thread Cert.KernelFfnAct.nD Cert.KernelFfnAct.τ).loc Cert.KernelFfnAct.main_arg1) = m ((c.tc : Thread Cert.KernelFfnAct.nD Cert.KernelFfnAct.τ).loc Cert.KernelFfnAct.main_arg1)
      ∧ r.2.mem ((c.tc : Thread Cert.KernelFfnAct.nD Cert.KernelFfnAct.τ).loc Cert.KernelFfnAct.main_arg2) = m ((c.tc : Thread Cert.KernelFfnAct.nD Cert.KernelFfnAct.τ).loc Cert.KernelFfnAct.main_arg2)
      ∧ r.2.mem ((c.tc : Thread Cert.KernelFfnAct.nD Cert.KernelFfnAct.τ).loc Cert.KernelFfnAct.main_arg3) = m ((c.tc : Thread Cert.KernelFfnAct.nD Cert.KernelFfnAct.τ).loc Cert.KernelFfnAct.main_arg3)
      ∧ r.2.mem ((c.tc : Thread Cert.KernelFfnAct.nD Cert.KernelFfnAct.τ).loc Cert.KernelFfnAct.main_arg4) = m ((c.tc : Thread Cert.KernelFfnAct.nD Cert.KernelFfnAct.τ).loc Cert.KernelFfnAct.main_arg4)
      ∧ r.2.mem ((c.tc : Thread Cert.KernelFfnAct.nD Cert.KernelFfnAct.τ).loc Cert.KernelFfnAct.main_arg5) = m ((c.tc : Thread Cert.KernelFfnAct.nD Cert.KernelFfnAct.τ).loc Cert.KernelFfnAct.main_arg5))
      ∧ r.2.sem = fun _ => 0)

def quiescent_KernelFfnActIdeal [hKernelFfnActIdeal : Cert.KernelFfnActIdeal.Facts] : Prop :=
  ∀ (m : (ℓ : Loc Cert.KernelFfnActIdeal.nD Cert.KernelFfnActIdeal.τ Cert.KernelFfnActIdeal.sig) → Buf (Elt Ideal) ℓ) (g : Dev Cert.KernelFfnActIdeal.nD → PrngReg), Pre_KernelFfnActIdeal m →
    θ_run (Cert.KernelFfnActIdeal.defs (F := Ideal)) (onTc (τ := Cert.KernelFfnActIdeal.τ) (Cert.KernelFfnActIdeal.main (F := Ideal))) ⟨m, fun _ => 0, g⟩ (fun r => (∀ c : Dev Cert.KernelFfnActIdeal.nD,
      r.2.mem ((c.tc : Thread Cert.KernelFfnActIdeal.nD Cert.KernelFfnActIdeal.τ).loc Cert.KernelFfnActIdeal.main_arg0) = m ((c.tc : Thread Cert.KernelFfnActIdeal.nD Cert.KernelFfnActIdeal.τ).loc Cert.KernelFfnActIdeal.main_arg0)
      ∧ r.2.mem ((c.tc : Thread Cert.KernelFfnActIdeal.nD Cert.KernelFfnActIdeal.τ).loc Cert.KernelFfnActIdeal.main_arg1) = m ((c.tc : Thread Cert.KernelFfnActIdeal.nD Cert.KernelFfnActIdeal.τ).loc Cert.KernelFfnActIdeal.main_arg1)
      ∧ r.2.mem ((c.tc : Thread Cert.KernelFfnActIdeal.nD Cert.KernelFfnActIdeal.τ).loc Cert.KernelFfnActIdeal.main_arg2) = m ((c.tc : Thread Cert.KernelFfnActIdeal.nD Cert.KernelFfnActIdeal.τ).loc Cert.KernelFfnActIdeal.main_arg2)
      ∧ r.2.mem ((c.tc : Thread Cert.KernelFfnActIdeal.nD Cert.KernelFfnActIdeal.τ).loc Cert.KernelFfnActIdeal.main_arg3) = m ((c.tc : Thread Cert.KernelFfnActIdeal.nD Cert.KernelFfnActIdeal.τ).loc Cert.KernelFfnActIdeal.main_arg3)
      ∧ r.2.mem ((c.tc : Thread Cert.KernelFfnActIdeal.nD Cert.KernelFfnActIdeal.τ).loc Cert.KernelFfnActIdeal.main_arg4) = m ((c.tc : Thread Cert.KernelFfnActIdeal.nD Cert.KernelFfnActIdeal.τ).loc Cert.KernelFfnActIdeal.main_arg4)
      ∧ r.2.mem ((c.tc : Thread Cert.KernelFfnActIdeal.nD Cert.KernelFfnActIdeal.τ).loc Cert.KernelFfnActIdeal.main_arg5) = m ((c.tc : Thread Cert.KernelFfnActIdeal.nD Cert.KernelFfnActIdeal.τ).loc Cert.KernelFfnActIdeal.main_arg5))
      ∧ r.2.sem = fun _ => 0)

def quiescent_KernelFfnActIdeal_pre_ffn_finite [hKernelFfnActIdeal : Cert.KernelFfnActIdeal.Facts] [hPre_ffn_finite : Cert.Pre_ffn_finite.Facts] : Prop :=
  ∀ (m : (ℓ : Loc Cert.KernelFfnActIdeal.nD Cert.KernelFfnActIdeal.τ Cert.KernelFfnActIdeal.sig) → Buf (Elt Ideal) ℓ) (g : Dev Cert.KernelFfnActIdeal.nD → PrngReg), Pre_KernelFfnActIdeal_ffn_finite m →
    θ_run (Cert.KernelFfnActIdeal.defs (F := Ideal)) (onTc (τ := Cert.KernelFfnActIdeal.τ) (Cert.KernelFfnActIdeal.main (F := Ideal))) ⟨m, fun _ => 0, g⟩ (fun r => (∀ c : Dev Cert.KernelFfnActIdeal.nD,
      r.2.mem ((c.tc : Thread Cert.KernelFfnActIdeal.nD Cert.KernelFfnActIdeal.τ).loc Cert.KernelFfnActIdeal.main_arg0) = m ((c.tc : Thread Cert.KernelFfnActIdeal.nD Cert.KernelFfnActIdeal.τ).loc Cert.KernelFfnActIdeal.main_arg0)
      ∧ r.2.mem ((c.tc : Thread Cert.KernelFfnActIdeal.nD Cert.KernelFfnActIdeal.τ).loc Cert.KernelFfnActIdeal.main_arg1) = m ((c.tc : Thread Cert.KernelFfnActIdeal.nD Cert.KernelFfnActIdeal.τ).loc Cert.KernelFfnActIdeal.main_arg1)
      ∧ r.2.mem ((c.tc : Thread Cert.KernelFfnActIdeal.nD Cert.KernelFfnActIdeal.τ).loc Cert.KernelFfnActIdeal.main_arg2) = m ((c.tc : Thread Cert.KernelFfnActIdeal.nD Cert.KernelFfnActIdeal.τ).loc Cert.KernelFfnActIdeal.main_arg2)
      ∧ r.2.mem ((c.tc : Thread Cert.KernelFfnActIdeal.nD Cert.KernelFfnActIdeal.τ).loc Cert.KernelFfnActIdeal.main_arg3) = m ((c.tc : Thread Cert.KernelFfnActIdeal.nD Cert.KernelFfnActIdeal.τ).loc Cert.KernelFfnActIdeal.main_arg3)
      ∧ r.2.mem ((c.tc : Thread Cert.KernelFfnActIdeal.nD Cert.KernelFfnActIdeal.τ).loc Cert.KernelFfnActIdeal.main_arg4) = m ((c.tc : Thread Cert.KernelFfnActIdeal.nD Cert.KernelFfnActIdeal.τ).loc Cert.KernelFfnActIdeal.main_arg4)
      ∧ r.2.mem ((c.tc : Thread Cert.KernelFfnActIdeal.nD Cert.KernelFfnActIdeal.τ).loc Cert.KernelFfnActIdeal.main_arg5) = m ((c.tc : Thread Cert.KernelFfnActIdeal.nD Cert.KernelFfnActIdeal.τ).loc Cert.KernelFfnActIdeal.main_arg5))
      ∧ r.2.sem = fun _ => 0)

def quiescent_ReferenceFfnActIdeal [hReferenceFfnActIdeal : Cert.ReferenceFfnActIdeal.Facts] : Prop :=
  ∀ (m : (ℓ : Loc Cert.ReferenceFfnActIdeal.nD Cert.ReferenceFfnActIdeal.τ Cert.ReferenceFfnActIdeal.sig) → Buf (Elt Ideal) ℓ) (g : Dev Cert.ReferenceFfnActIdeal.nD → PrngReg), Pre_ReferenceFfnActIdeal m →
    θ_run (Cert.ReferenceFfnActIdeal.defs (F := Ideal)) (onTc (τ := Cert.ReferenceFfnActIdeal.τ) (Cert.ReferenceFfnActIdeal.main (F := Ideal))) ⟨m, fun _ => 0, g⟩ (fun r => (∀ c : Dev Cert.ReferenceFfnActIdeal.nD,
      r.2.mem ((c.tc : Thread Cert.ReferenceFfnActIdeal.nD Cert.ReferenceFfnActIdeal.τ).loc Cert.ReferenceFfnActIdeal.main_arg0) = m ((c.tc : Thread Cert.ReferenceFfnActIdeal.nD Cert.ReferenceFfnActIdeal.τ).loc Cert.ReferenceFfnActIdeal.main_arg0)
      ∧ r.2.mem ((c.tc : Thread Cert.ReferenceFfnActIdeal.nD Cert.ReferenceFfnActIdeal.τ).loc Cert.ReferenceFfnActIdeal.main_arg1) = m ((c.tc : Thread Cert.ReferenceFfnActIdeal.nD Cert.ReferenceFfnActIdeal.τ).loc Cert.ReferenceFfnActIdeal.main_arg1)
      ∧ r.2.mem ((c.tc : Thread Cert.ReferenceFfnActIdeal.nD Cert.ReferenceFfnActIdeal.τ).loc Cert.ReferenceFfnActIdeal.main_arg2) = m ((c.tc : Thread Cert.ReferenceFfnActIdeal.nD Cert.ReferenceFfnActIdeal.τ).loc Cert.ReferenceFfnActIdeal.main_arg2)
      ∧ r.2.mem ((c.tc : Thread Cert.ReferenceFfnActIdeal.nD Cert.ReferenceFfnActIdeal.τ).loc Cert.ReferenceFfnActIdeal.main_arg3) = m ((c.tc : Thread Cert.ReferenceFfnActIdeal.nD Cert.ReferenceFfnActIdeal.τ).loc Cert.ReferenceFfnActIdeal.main_arg3)
      ∧ r.2.mem ((c.tc : Thread Cert.ReferenceFfnActIdeal.nD Cert.ReferenceFfnActIdeal.τ).loc Cert.ReferenceFfnActIdeal.main_arg4) = m ((c.tc : Thread Cert.ReferenceFfnActIdeal.nD Cert.ReferenceFfnActIdeal.τ).loc Cert.ReferenceFfnActIdeal.main_arg4)
      ∧ r.2.mem ((c.tc : Thread Cert.ReferenceFfnActIdeal.nD Cert.ReferenceFfnActIdeal.τ).loc Cert.ReferenceFfnActIdeal.main_arg5) = m ((c.tc : Thread Cert.ReferenceFfnActIdeal.nD Cert.ReferenceFfnActIdeal.τ).loc Cert.ReferenceFfnActIdeal.main_arg5))
      ∧ r.2.sem = fun _ => 0)

def quiescent_ReferenceFfnActIdeal_pre_ffn_finite [hReferenceFfnActIdeal : Cert.ReferenceFfnActIdeal.Facts] [hPre_ffn_finite : Cert.Pre_ffn_finite.Facts] : Prop :=
  ∀ (m : (ℓ : Loc Cert.ReferenceFfnActIdeal.nD Cert.ReferenceFfnActIdeal.τ Cert.ReferenceFfnActIdeal.sig) → Buf (Elt Ideal) ℓ) (g : Dev Cert.ReferenceFfnActIdeal.nD → PrngReg), Pre_ReferenceFfnActIdeal_ffn_finite m →
    θ_run (Cert.ReferenceFfnActIdeal.defs (F := Ideal)) (onTc (τ := Cert.ReferenceFfnActIdeal.τ) (Cert.ReferenceFfnActIdeal.main (F := Ideal))) ⟨m, fun _ => 0, g⟩ (fun r => (∀ c : Dev Cert.ReferenceFfnActIdeal.nD,
      r.2.mem ((c.tc : Thread Cert.ReferenceFfnActIdeal.nD Cert.ReferenceFfnActIdeal.τ).loc Cert.ReferenceFfnActIdeal.main_arg0) = m ((c.tc : Thread Cert.ReferenceFfnActIdeal.nD Cert.ReferenceFfnActIdeal.τ).loc Cert.ReferenceFfnActIdeal.main_arg0)
      ∧ r.2.mem ((c.tc : Thread Cert.ReferenceFfnActIdeal.nD Cert.ReferenceFfnActIdeal.τ).loc Cert.ReferenceFfnActIdeal.main_arg1) = m ((c.tc : Thread Cert.ReferenceFfnActIdeal.nD Cert.ReferenceFfnActIdeal.τ).loc Cert.ReferenceFfnActIdeal.main_arg1)
      ∧ r.2.mem ((c.tc : Thread Cert.ReferenceFfnActIdeal.nD Cert.ReferenceFfnActIdeal.τ).loc Cert.ReferenceFfnActIdeal.main_arg2) = m ((c.tc : Thread Cert.ReferenceFfnActIdeal.nD Cert.ReferenceFfnActIdeal.τ).loc Cert.ReferenceFfnActIdeal.main_arg2)
      ∧ r.2.mem ((c.tc : Thread Cert.ReferenceFfnActIdeal.nD Cert.ReferenceFfnActIdeal.τ).loc Cert.ReferenceFfnActIdeal.main_arg3) = m ((c.tc : Thread Cert.ReferenceFfnActIdeal.nD Cert.ReferenceFfnActIdeal.τ).loc Cert.ReferenceFfnActIdeal.main_arg3)
      ∧ r.2.mem ((c.tc : Thread Cert.ReferenceFfnActIdeal.nD Cert.ReferenceFfnActIdeal.τ).loc Cert.ReferenceFfnActIdeal.main_arg4) = m ((c.tc : Thread Cert.ReferenceFfnActIdeal.nD Cert.ReferenceFfnActIdeal.τ).loc Cert.ReferenceFfnActIdeal.main_arg4)
      ∧ r.2.mem ((c.tc : Thread Cert.ReferenceFfnActIdeal.nD Cert.ReferenceFfnActIdeal.τ).loc Cert.ReferenceFfnActIdeal.main_arg5) = m ((c.tc : Thread Cert.ReferenceFfnActIdeal.nD Cert.ReferenceFfnActIdeal.τ).loc Cert.ReferenceFfnActIdeal.main_arg5))
      ∧ r.2.sem = fun _ => 0)

def quiescent_KernelKeyNorm [hKernelKeyNorm : Cert.KernelKeyNorm.Facts] : Prop :=
  ∀ (m : (ℓ : Loc Cert.KernelKeyNorm.nD Cert.KernelKeyNorm.τ Cert.KernelKeyNorm.sig) → Buf (Elt Bits) ℓ) (g : Dev Cert.KernelKeyNorm.nD → PrngReg), Pre_KernelKeyNorm m →
    θ_run (Cert.KernelKeyNorm.defs (F := Bits)) (onTc (τ := Cert.KernelKeyNorm.τ) (Cert.KernelKeyNorm.main (F := Bits))) ⟨m, fun _ => 0, g⟩ (fun r => (∀ c : Dev Cert.KernelKeyNorm.nD,
      r.2.mem ((c.tc : Thread Cert.KernelKeyNorm.nD Cert.KernelKeyNorm.τ).loc Cert.KernelKeyNorm.main_arg0) = m ((c.tc : Thread Cert.KernelKeyNorm.nD Cert.KernelKeyNorm.τ).loc Cert.KernelKeyNorm.main_arg0)
      ∧ r.2.mem ((c.tc : Thread Cert.KernelKeyNorm.nD Cert.KernelKeyNorm.τ).loc Cert.KernelKeyNorm.main_arg1) = m ((c.tc : Thread Cert.KernelKeyNorm.nD Cert.KernelKeyNorm.τ).loc Cert.KernelKeyNorm.main_arg1)
      ∧ r.2.mem ((c.tc : Thread Cert.KernelKeyNorm.nD Cert.KernelKeyNorm.τ).loc Cert.KernelKeyNorm.main_arg2) = m ((c.tc : Thread Cert.KernelKeyNorm.nD Cert.KernelKeyNorm.τ).loc Cert.KernelKeyNorm.main_arg2))
      ∧ r.2.sem = fun _ => 0)

def quiescent_KernelKeyNormIdeal [hKernelKeyNormIdeal : Cert.KernelKeyNormIdeal.Facts] : Prop :=
  ∀ (m : (ℓ : Loc Cert.KernelKeyNormIdeal.nD Cert.KernelKeyNormIdeal.τ Cert.KernelKeyNormIdeal.sig) → Buf (Elt Ideal) ℓ) (g : Dev Cert.KernelKeyNormIdeal.nD → PrngReg), Pre_KernelKeyNormIdeal m →
    θ_run (Cert.KernelKeyNormIdeal.defs (F := Ideal)) (onTc (τ := Cert.KernelKeyNormIdeal.τ) (Cert.KernelKeyNormIdeal.main (F := Ideal))) ⟨m, fun _ => 0, g⟩ (fun r => (∀ c : Dev Cert.KernelKeyNormIdeal.nD,
      r.2.mem ((c.tc : Thread Cert.KernelKeyNormIdeal.nD Cert.KernelKeyNormIdeal.τ).loc Cert.KernelKeyNormIdeal.main_arg0) = m ((c.tc : Thread Cert.KernelKeyNormIdeal.nD Cert.KernelKeyNormIdeal.τ).loc Cert.KernelKeyNormIdeal.main_arg0)
      ∧ r.2.mem ((c.tc : Thread Cert.KernelKeyNormIdeal.nD Cert.KernelKeyNormIdeal.τ).loc Cert.KernelKeyNormIdeal.main_arg1) = m ((c.tc : Thread Cert.KernelKeyNormIdeal.nD Cert.KernelKeyNormIdeal.τ).loc Cert.KernelKeyNormIdeal.main_arg1)
      ∧ r.2.mem ((c.tc : Thread Cert.KernelKeyNormIdeal.nD Cert.KernelKeyNormIdeal.τ).loc Cert.KernelKeyNormIdeal.main_arg2) = m ((c.tc : Thread Cert.KernelKeyNormIdeal.nD Cert.KernelKeyNormIdeal.τ).loc Cert.KernelKeyNormIdeal.main_arg2))
      ∧ r.2.sem = fun _ => 0)

def quiescent_ReferenceKeyNormIdeal [hReferenceKeyNormIdeal : Cert.ReferenceKeyNormIdeal.Facts] : Prop :=
  ∀ (m : (ℓ : Loc Cert.ReferenceKeyNormIdeal.nD Cert.ReferenceKeyNormIdeal.τ Cert.ReferenceKeyNormIdeal.sig) → Buf (Elt Ideal) ℓ) (g : Dev Cert.ReferenceKeyNormIdeal.nD → PrngReg), Pre_ReferenceKeyNormIdeal m →
    θ_run (Cert.ReferenceKeyNormIdeal.defs (F := Ideal)) (onTc (τ := Cert.ReferenceKeyNormIdeal.τ) (Cert.ReferenceKeyNormIdeal.main (F := Ideal))) ⟨m, fun _ => 0, g⟩ (fun r => (∀ c : Dev Cert.ReferenceKeyNormIdeal.nD,
      r.2.mem ((c.tc : Thread Cert.ReferenceKeyNormIdeal.nD Cert.ReferenceKeyNormIdeal.τ).loc Cert.ReferenceKeyNormIdeal.main_arg0) = m ((c.tc : Thread Cert.ReferenceKeyNormIdeal.nD Cert.ReferenceKeyNormIdeal.τ).loc Cert.ReferenceKeyNormIdeal.main_arg0)
      ∧ r.2.mem ((c.tc : Thread Cert.ReferenceKeyNormIdeal.nD Cert.ReferenceKeyNormIdeal.τ).loc Cert.ReferenceKeyNormIdeal.main_arg1) = m ((c.tc : Thread Cert.ReferenceKeyNormIdeal.nD Cert.ReferenceKeyNormIdeal.τ).loc Cert.ReferenceKeyNormIdeal.main_arg1)
      ∧ r.2.mem ((c.tc : Thread Cert.ReferenceKeyNormIdeal.nD Cert.ReferenceKeyNormIdeal.τ).loc Cert.ReferenceKeyNormIdeal.main_arg2) = m ((c.tc : Thread Cert.ReferenceKeyNormIdeal.nD Cert.ReferenceKeyNormIdeal.τ).loc Cert.ReferenceKeyNormIdeal.main_arg2))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_KernelAttnIdeal_pre_attn_finite [hKernelAttnIdeal : Cert.KernelAttnIdeal.Facts] [hPre_attn_finite : Cert.Pre_attn_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_attn_finite m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_ReferenceAttnIdeal_pre_attn_finite [hReferenceAttnIdeal : Cert.ReferenceAttnIdeal.Facts] [hPre_attn_finite : Cert.Pre_attn_finite.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_attn_finite m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_KernelSsmPrep [hKernelSsmPrep : Cert.KernelSsmPrep.Facts] : Prop :=
  ∀ (m : (ℓ : Loc Cert.KernelSsmPrep.nD Cert.KernelSsmPrep.τ Cert.KernelSsmPrep.sig) → Buf (Elt Bits) ℓ) (g : Dev Cert.KernelSsmPrep.nD → PrngReg), Pre_KernelSsmPrep m →
    θ_run (Cert.KernelSsmPrep.defs (F := Bits)) (onTc (τ := Cert.KernelSsmPrep.τ) (Cert.KernelSsmPrep.main (F := Bits))) ⟨m, fun _ => 0, g⟩ (fun r => (∀ c : Dev Cert.KernelSsmPrep.nD,
      r.2.mem ((c.tc : Thread Cert.KernelSsmPrep.nD Cert.KernelSsmPrep.τ).loc Cert.KernelSsmPrep.main_arg0) = m ((c.tc : Thread Cert.KernelSsmPrep.nD Cert.KernelSsmPrep.τ).loc Cert.KernelSsmPrep.main_arg0)
      ∧ r.2.mem ((c.tc : Thread Cert.KernelSsmPrep.nD Cert.KernelSsmPrep.τ).loc Cert.KernelSsmPrep.main_arg1) = m ((c.tc : Thread Cert.KernelSsmPrep.nD Cert.KernelSsmPrep.τ).loc Cert.KernelSsmPrep.main_arg1)
      ∧ r.2.mem ((c.tc : Thread Cert.KernelSsmPrep.nD Cert.KernelSsmPrep.τ).loc Cert.KernelSsmPrep.main_arg2) = m ((c.tc : Thread Cert.KernelSsmPrep.nD Cert.KernelSsmPrep.τ).loc Cert.KernelSsmPrep.main_arg2)
      ∧ r.2.mem ((c.tc : Thread Cert.KernelSsmPrep.nD Cert.KernelSsmPrep.τ).loc Cert.KernelSsmPrep.main_arg3) = m ((c.tc : Thread Cert.KernelSsmPrep.nD Cert.KernelSsmPrep.τ).loc Cert.KernelSsmPrep.main_arg3)
      ∧ r.2.mem ((c.tc : Thread Cert.KernelSsmPrep.nD Cert.KernelSsmPrep.τ).loc Cert.KernelSsmPrep.main_arg4) = m ((c.tc : Thread Cert.KernelSsmPrep.nD Cert.KernelSsmPrep.τ).loc Cert.KernelSsmPrep.main_arg4)
      ∧ r.2.mem ((c.tc : Thread Cert.KernelSsmPrep.nD Cert.KernelSsmPrep.τ).loc Cert.KernelSsmPrep.main_arg5) = m ((c.tc : Thread Cert.KernelSsmPrep.nD Cert.KernelSsmPrep.τ).loc Cert.KernelSsmPrep.main_arg5)
      ∧ r.2.mem ((c.tc : Thread Cert.KernelSsmPrep.nD Cert.KernelSsmPrep.τ).loc Cert.KernelSsmPrep.main_arg6) = m ((c.tc : Thread Cert.KernelSsmPrep.nD Cert.KernelSsmPrep.τ).loc Cert.KernelSsmPrep.main_arg6)
      ∧ r.2.mem ((c.tc : Thread Cert.KernelSsmPrep.nD Cert.KernelSsmPrep.τ).loc Cert.KernelSsmPrep.main_arg7) = m ((c.tc : Thread Cert.KernelSsmPrep.nD Cert.KernelSsmPrep.τ).loc Cert.KernelSsmPrep.main_arg7)
      ∧ r.2.mem ((c.tc : Thread Cert.KernelSsmPrep.nD Cert.KernelSsmPrep.τ).loc Cert.KernelSsmPrep.main_arg8) = m ((c.tc : Thread Cert.KernelSsmPrep.nD Cert.KernelSsmPrep.τ).loc Cert.KernelSsmPrep.main_arg8)
      ∧ r.2.mem ((c.tc : Thread Cert.KernelSsmPrep.nD Cert.KernelSsmPrep.τ).loc Cert.KernelSsmPrep.main_arg9) = m ((c.tc : Thread Cert.KernelSsmPrep.nD Cert.KernelSsmPrep.τ).loc Cert.KernelSsmPrep.main_arg9)
      ∧ r.2.mem ((c.tc : Thread Cert.KernelSsmPrep.nD Cert.KernelSsmPrep.τ).loc Cert.KernelSsmPrep.main_arg10) = m ((c.tc : Thread Cert.KernelSsmPrep.nD Cert.KernelSsmPrep.τ).loc Cert.KernelSsmPrep.main_arg10)
      ∧ r.2.mem ((c.tc : Thread Cert.KernelSsmPrep.nD Cert.KernelSsmPrep.τ).loc Cert.KernelSsmPrep.main_arg11) = m ((c.tc : Thread Cert.KernelSsmPrep.nD Cert.KernelSsmPrep.τ).loc Cert.KernelSsmPrep.main_arg11)
      ∧ r.2.mem ((c.tc : Thread Cert.KernelSsmPrep.nD Cert.KernelSsmPrep.τ).loc Cert.KernelSsmPrep.main_arg12) = m ((c.tc : Thread Cert.KernelSsmPrep.nD Cert.KernelSsmPrep.τ).loc Cert.KernelSsmPrep.main_arg12))
      ∧ r.2.sem = fun _ => 0)

def quiescent_KernelSsmPrepIdeal [hKernelSsmPrepIdeal : Cert.KernelSsmPrepIdeal.Facts] : Prop :=
  ∀ (m : (ℓ : Loc Cert.KernelSsmPrepIdeal.nD Cert.KernelSsmPrepIdeal.τ Cert.KernelSsmPrepIdeal.sig) → Buf (Elt Ideal) ℓ) (g : Dev Cert.KernelSsmPrepIdeal.nD → PrngReg), Pre_KernelSsmPrepIdeal m →
    θ_run (Cert.KernelSsmPrepIdeal.defs (F := Ideal)) (onTc (τ := Cert.KernelSsmPrepIdeal.τ) (Cert.KernelSsmPrepIdeal.main (F := Ideal))) ⟨m, fun _ => 0, g⟩ (fun r => (∀ c : Dev Cert.KernelSsmPrepIdeal.nD,
      r.2.mem ((c.tc : Thread Cert.KernelSsmPrepIdeal.nD Cert.KernelSsmPrepIdeal.τ).loc Cert.KernelSsmPrepIdeal.main_arg0) = m ((c.tc : Thread Cert.KernelSsmPrepIdeal.nD Cert.KernelSsmPrepIdeal.τ).loc Cert.KernelSsmPrepIdeal.main_arg0)
      ∧ r.2.mem ((c.tc : Thread Cert.KernelSsmPrepIdeal.nD Cert.KernelSsmPrepIdeal.τ).loc Cert.KernelSsmPrepIdeal.main_arg1) = m ((c.tc : Thread Cert.KernelSsmPrepIdeal.nD Cert.KernelSsmPrepIdeal.τ).loc Cert.KernelSsmPrepIdeal.main_arg1)
      ∧ r.2.mem ((c.tc : Thread Cert.KernelSsmPrepIdeal.nD Cert.KernelSsmPrepIdeal.τ).loc Cert.KernelSsmPrepIdeal.main_arg2) = m ((c.tc : Thread Cert.KernelSsmPrepIdeal.nD Cert.KernelSsmPrepIdeal.τ).loc Cert.KernelSsmPrepIdeal.main_arg2)
      ∧ r.2.mem ((c.tc : Thread Cert.KernelSsmPrepIdeal.nD Cert.KernelSsmPrepIdeal.τ).loc Cert.KernelSsmPrepIdeal.main_arg3) = m ((c.tc : Thread Cert.KernelSsmPrepIdeal.nD Cert.KernelSsmPrepIdeal.τ).loc Cert.KernelSsmPrepIdeal.main_arg3)
      ∧ r.2.mem ((c.tc : Thread Cert.KernelSsmPrepIdeal.nD Cert.KernelSsmPrepIdeal.τ).loc Cert.KernelSsmPrepIdeal.main_arg4) = m ((c.tc : Thread Cert.KernelSsmPrepIdeal.nD Cert.KernelSsmPrepIdeal.τ).loc Cert.KernelSsmPrepIdeal.main_arg4)
      ∧ r.2.mem ((c.tc : Thread Cert.KernelSsmPrepIdeal.nD Cert.KernelSsmPrepIdeal.τ).loc Cert.KernelSsmPrepIdeal.main_arg5) = m ((c.tc : Thread Cert.KernelSsmPrepIdeal.nD Cert.KernelSsmPrepIdeal.τ).loc Cert.KernelSsmPrepIdeal.main_arg5)
      ∧ r.2.mem ((c.tc : Thread Cert.KernelSsmPrepIdeal.nD Cert.KernelSsmPrepIdeal.τ).loc Cert.KernelSsmPrepIdeal.main_arg6) = m ((c.tc : Thread Cert.KernelSsmPrepIdeal.nD Cert.KernelSsmPrepIdeal.τ).loc Cert.KernelSsmPrepIdeal.main_arg6)
      ∧ r.2.mem ((c.tc : Thread Cert.KernelSsmPrepIdeal.nD Cert.KernelSsmPrepIdeal.τ).loc Cert.KernelSsmPrepIdeal.main_arg7) = m ((c.tc : Thread Cert.KernelSsmPrepIdeal.nD Cert.KernelSsmPrepIdeal.τ).loc Cert.KernelSsmPrepIdeal.main_arg7)
      ∧ r.2.mem ((c.tc : Thread Cert.KernelSsmPrepIdeal.nD Cert.KernelSsmPrepIdeal.τ).loc Cert.KernelSsmPrepIdeal.main_arg8) = m ((c.tc : Thread Cert.KernelSsmPrepIdeal.nD Cert.KernelSsmPrepIdeal.τ).loc Cert.KernelSsmPrepIdeal.main_arg8)
      ∧ r.2.mem ((c.tc : Thread Cert.KernelSsmPrepIdeal.nD Cert.KernelSsmPrepIdeal.τ).loc Cert.KernelSsmPrepIdeal.main_arg9) = m ((c.tc : Thread Cert.KernelSsmPrepIdeal.nD Cert.KernelSsmPrepIdeal.τ).loc Cert.KernelSsmPrepIdeal.main_arg9)
      ∧ r.2.mem ((c.tc : Thread Cert.KernelSsmPrepIdeal.nD Cert.KernelSsmPrepIdeal.τ).loc Cert.KernelSsmPrepIdeal.main_arg10) = m ((c.tc : Thread Cert.KernelSsmPrepIdeal.nD Cert.KernelSsmPrepIdeal.τ).loc Cert.KernelSsmPrepIdeal.main_arg10)
      ∧ r.2.mem ((c.tc : Thread Cert.KernelSsmPrepIdeal.nD Cert.KernelSsmPrepIdeal.τ).loc Cert.KernelSsmPrepIdeal.main_arg11) = m ((c.tc : Thread Cert.KernelSsmPrepIdeal.nD Cert.KernelSsmPrepIdeal.τ).loc Cert.KernelSsmPrepIdeal.main_arg11)
      ∧ r.2.mem ((c.tc : Thread Cert.KernelSsmPrepIdeal.nD Cert.KernelSsmPrepIdeal.τ).loc Cert.KernelSsmPrepIdeal.main_arg12) = m ((c.tc : Thread Cert.KernelSsmPrepIdeal.nD Cert.KernelSsmPrepIdeal.τ).loc Cert.KernelSsmPrepIdeal.main_arg12))
      ∧ r.2.sem = fun _ => 0)

def quiescent_KernelSsmPrepIdeal_pre_prep_nonzero [hKernelSsmPrepIdeal : Cert.KernelSsmPrepIdeal.Facts] [hPre_prep_nonzero : Cert.Pre_prep_nonzero.Facts] : Prop :=
  ∀ (m : (ℓ : Loc Cert.KernelSsmPrepIdeal.nD Cert.KernelSsmPrepIdeal.τ Cert.KernelSsmPrepIdeal.sig) → Buf (Elt Ideal) ℓ) (g : Dev Cert.KernelSsmPrepIdeal.nD → PrngReg), Pre_KernelSsmPrepIdeal_prep_nonzero m →
    θ_run (Cert.KernelSsmPrepIdeal.defs (F := Ideal)) (onTc (τ := Cert.KernelSsmPrepIdeal.τ) (Cert.KernelSsmPrepIdeal.main (F := Ideal))) ⟨m, fun _ => 0, g⟩ (fun r => (∀ c : Dev Cert.KernelSsmPrepIdeal.nD,
      r.2.mem ((c.tc : Thread Cert.KernelSsmPrepIdeal.nD Cert.KernelSsmPrepIdeal.τ).loc Cert.KernelSsmPrepIdeal.main_arg0) = m ((c.tc : Thread Cert.KernelSsmPrepIdeal.nD Cert.KernelSsmPrepIdeal.τ).loc Cert.KernelSsmPrepIdeal.main_arg0)
      ∧ r.2.mem ((c.tc : Thread Cert.KernelSsmPrepIdeal.nD Cert.KernelSsmPrepIdeal.τ).loc Cert.KernelSsmPrepIdeal.main_arg1) = m ((c.tc : Thread Cert.KernelSsmPrepIdeal.nD Cert.KernelSsmPrepIdeal.τ).loc Cert.KernelSsmPrepIdeal.main_arg1)
      ∧ r.2.mem ((c.tc : Thread Cert.KernelSsmPrepIdeal.nD Cert.KernelSsmPrepIdeal.τ).loc Cert.KernelSsmPrepIdeal.main_arg2) = m ((c.tc : Thread Cert.KernelSsmPrepIdeal.nD Cert.KernelSsmPrepIdeal.τ).loc Cert.KernelSsmPrepIdeal.main_arg2)
      ∧ r.2.mem ((c.tc : Thread Cert.KernelSsmPrepIdeal.nD Cert.KernelSsmPrepIdeal.τ).loc Cert.KernelSsmPrepIdeal.main_arg3) = m ((c.tc : Thread Cert.KernelSsmPrepIdeal.nD Cert.KernelSsmPrepIdeal.τ).loc Cert.KernelSsmPrepIdeal.main_arg3)
      ∧ r.2.mem ((c.tc : Thread Cert.KernelSsmPrepIdeal.nD Cert.KernelSsmPrepIdeal.τ).loc Cert.KernelSsmPrepIdeal.main_arg4) = m ((c.tc : Thread Cert.KernelSsmPrepIdeal.nD Cert.KernelSsmPrepIdeal.τ).loc Cert.KernelSsmPrepIdeal.main_arg4)
      ∧ r.2.mem ((c.tc : Thread Cert.KernelSsmPrepIdeal.nD Cert.KernelSsmPrepIdeal.τ).loc Cert.KernelSsmPrepIdeal.main_arg5) = m ((c.tc : Thread Cert.KernelSsmPrepIdeal.nD Cert.KernelSsmPrepIdeal.τ).loc Cert.KernelSsmPrepIdeal.main_arg5)
      ∧ r.2.mem ((c.tc : Thread Cert.KernelSsmPrepIdeal.nD Cert.KernelSsmPrepIdeal.τ).loc Cert.KernelSsmPrepIdeal.main_arg6) = m ((c.tc : Thread Cert.KernelSsmPrepIdeal.nD Cert.KernelSsmPrepIdeal.τ).loc Cert.KernelSsmPrepIdeal.main_arg6)
      ∧ r.2.mem ((c.tc : Thread Cert.KernelSsmPrepIdeal.nD Cert.KernelSsmPrepIdeal.τ).loc Cert.KernelSsmPrepIdeal.main_arg7) = m ((c.tc : Thread Cert.KernelSsmPrepIdeal.nD Cert.KernelSsmPrepIdeal.τ).loc Cert.KernelSsmPrepIdeal.main_arg7)
      ∧ r.2.mem ((c.tc : Thread Cert.KernelSsmPrepIdeal.nD Cert.KernelSsmPrepIdeal.τ).loc Cert.KernelSsmPrepIdeal.main_arg8) = m ((c.tc : Thread Cert.KernelSsmPrepIdeal.nD Cert.KernelSsmPrepIdeal.τ).loc Cert.KernelSsmPrepIdeal.main_arg8)
      ∧ r.2.mem ((c.tc : Thread Cert.KernelSsmPrepIdeal.nD Cert.KernelSsmPrepIdeal.τ).loc Cert.KernelSsmPrepIdeal.main_arg9) = m ((c.tc : Thread Cert.KernelSsmPrepIdeal.nD Cert.KernelSsmPrepIdeal.τ).loc Cert.KernelSsmPrepIdeal.main_arg9)
      ∧ r.2.mem ((c.tc : Thread Cert.KernelSsmPrepIdeal.nD Cert.KernelSsmPrepIdeal.τ).loc Cert.KernelSsmPrepIdeal.main_arg10) = m ((c.tc : Thread Cert.KernelSsmPrepIdeal.nD Cert.KernelSsmPrepIdeal.τ).loc Cert.KernelSsmPrepIdeal.main_arg10)
      ∧ r.2.mem ((c.tc : Thread Cert.KernelSsmPrepIdeal.nD Cert.KernelSsmPrepIdeal.τ).loc Cert.KernelSsmPrepIdeal.main_arg11) = m ((c.tc : Thread Cert.KernelSsmPrepIdeal.nD Cert.KernelSsmPrepIdeal.τ).loc Cert.KernelSsmPrepIdeal.main_arg11)
      ∧ r.2.mem ((c.tc : Thread Cert.KernelSsmPrepIdeal.nD Cert.KernelSsmPrepIdeal.τ).loc Cert.KernelSsmPrepIdeal.main_arg12) = m ((c.tc : Thread Cert.KernelSsmPrepIdeal.nD Cert.KernelSsmPrepIdeal.τ).loc Cert.KernelSsmPrepIdeal.main_arg12))
      ∧ r.2.sem = fun _ => 0)

def quiescent_ReferenceSsmPrepIdeal [hReferenceSsmPrepIdeal : Cert.ReferenceSsmPrepIdeal.Facts] : Prop :=
  ∀ (m : (ℓ : Loc Cert.ReferenceSsmPrepIdeal.nD Cert.ReferenceSsmPrepIdeal.τ Cert.ReferenceSsmPrepIdeal.sig) → Buf (Elt Ideal) ℓ) (g : Dev Cert.ReferenceSsmPrepIdeal.nD → PrngReg), Pre_ReferenceSsmPrepIdeal m →
    θ_run (Cert.ReferenceSsmPrepIdeal.defs (F := Ideal)) (onTc (τ := Cert.ReferenceSsmPrepIdeal.τ) (Cert.ReferenceSsmPrepIdeal.main (F := Ideal))) ⟨m, fun _ => 0, g⟩ (fun r => (∀ c : Dev Cert.ReferenceSsmPrepIdeal.nD,
      r.2.mem ((c.tc : Thread Cert.ReferenceSsmPrepIdeal.nD Cert.ReferenceSsmPrepIdeal.τ).loc Cert.ReferenceSsmPrepIdeal.main_arg0) = m ((c.tc : Thread Cert.ReferenceSsmPrepIdeal.nD Cert.ReferenceSsmPrepIdeal.τ).loc Cert.ReferenceSsmPrepIdeal.main_arg0)
      ∧ r.2.mem ((c.tc : Thread Cert.ReferenceSsmPrepIdeal.nD Cert.ReferenceSsmPrepIdeal.τ).loc Cert.ReferenceSsmPrepIdeal.main_arg1) = m ((c.tc : Thread Cert.ReferenceSsmPrepIdeal.nD Cert.ReferenceSsmPrepIdeal.τ).loc Cert.ReferenceSsmPrepIdeal.main_arg1)
      ∧ r.2.mem ((c.tc : Thread Cert.ReferenceSsmPrepIdeal.nD Cert.ReferenceSsmPrepIdeal.τ).loc Cert.ReferenceSsmPrepIdeal.main_arg2) = m ((c.tc : Thread Cert.ReferenceSsmPrepIdeal.nD Cert.ReferenceSsmPrepIdeal.τ).loc Cert.ReferenceSsmPrepIdeal.main_arg2)
      ∧ r.2.mem ((c.tc : Thread Cert.ReferenceSsmPrepIdeal.nD Cert.ReferenceSsmPrepIdeal.τ).loc Cert.ReferenceSsmPrepIdeal.main_arg3) = m ((c.tc : Thread Cert.ReferenceSsmPrepIdeal.nD Cert.ReferenceSsmPrepIdeal.τ).loc Cert.ReferenceSsmPrepIdeal.main_arg3)
      ∧ r.2.mem ((c.tc : Thread Cert.ReferenceSsmPrepIdeal.nD Cert.ReferenceSsmPrepIdeal.τ).loc Cert.ReferenceSsmPrepIdeal.main_arg4) = m ((c.tc : Thread Cert.ReferenceSsmPrepIdeal.nD Cert.ReferenceSsmPrepIdeal.τ).loc Cert.ReferenceSsmPrepIdeal.main_arg4)
      ∧ r.2.mem ((c.tc : Thread Cert.ReferenceSsmPrepIdeal.nD Cert.ReferenceSsmPrepIdeal.τ).loc Cert.ReferenceSsmPrepIdeal.main_arg5) = m ((c.tc : Thread Cert.ReferenceSsmPrepIdeal.nD Cert.ReferenceSsmPrepIdeal.τ).loc Cert.ReferenceSsmPrepIdeal.main_arg5)
      ∧ r.2.mem ((c.tc : Thread Cert.ReferenceSsmPrepIdeal.nD Cert.ReferenceSsmPrepIdeal.τ).loc Cert.ReferenceSsmPrepIdeal.main_arg6) = m ((c.tc : Thread Cert.ReferenceSsmPrepIdeal.nD Cert.ReferenceSsmPrepIdeal.τ).loc Cert.ReferenceSsmPrepIdeal.main_arg6)
      ∧ r.2.mem ((c.tc : Thread Cert.ReferenceSsmPrepIdeal.nD Cert.ReferenceSsmPrepIdeal.τ).loc Cert.ReferenceSsmPrepIdeal.main_arg7) = m ((c.tc : Thread Cert.ReferenceSsmPrepIdeal.nD Cert.ReferenceSsmPrepIdeal.τ).loc Cert.ReferenceSsmPrepIdeal.main_arg7)
      ∧ r.2.mem ((c.tc : Thread Cert.ReferenceSsmPrepIdeal.nD Cert.ReferenceSsmPrepIdeal.τ).loc Cert.ReferenceSsmPrepIdeal.main_arg8) = m ((c.tc : Thread Cert.ReferenceSsmPrepIdeal.nD Cert.ReferenceSsmPrepIdeal.τ).loc Cert.ReferenceSsmPrepIdeal.main_arg8)
      ∧ r.2.mem ((c.tc : Thread Cert.ReferenceSsmPrepIdeal.nD Cert.ReferenceSsmPrepIdeal.τ).loc Cert.ReferenceSsmPrepIdeal.main_arg9) = m ((c.tc : Thread Cert.ReferenceSsmPrepIdeal.nD Cert.ReferenceSsmPrepIdeal.τ).loc Cert.ReferenceSsmPrepIdeal.main_arg9)
      ∧ r.2.mem ((c.tc : Thread Cert.ReferenceSsmPrepIdeal.nD Cert.ReferenceSsmPrepIdeal.τ).loc Cert.ReferenceSsmPrepIdeal.main_arg10) = m ((c.tc : Thread Cert.ReferenceSsmPrepIdeal.nD Cert.ReferenceSsmPrepIdeal.τ).loc Cert.ReferenceSsmPrepIdeal.main_arg10)
      ∧ r.2.mem ((c.tc : Thread Cert.ReferenceSsmPrepIdeal.nD Cert.ReferenceSsmPrepIdeal.τ).loc Cert.ReferenceSsmPrepIdeal.main_arg11) = m ((c.tc : Thread Cert.ReferenceSsmPrepIdeal.nD Cert.ReferenceSsmPrepIdeal.τ).loc Cert.ReferenceSsmPrepIdeal.main_arg11)
      ∧ r.2.mem ((c.tc : Thread Cert.ReferenceSsmPrepIdeal.nD Cert.ReferenceSsmPrepIdeal.τ).loc Cert.ReferenceSsmPrepIdeal.main_arg12) = m ((c.tc : Thread Cert.ReferenceSsmPrepIdeal.nD Cert.ReferenceSsmPrepIdeal.τ).loc Cert.ReferenceSsmPrepIdeal.main_arg12))
      ∧ r.2.sem = fun _ => 0)

def quiescent_ReferenceSsmPrepIdeal_pre_prep_nonzero [hReferenceSsmPrepIdeal : Cert.ReferenceSsmPrepIdeal.Facts] [hPre_prep_nonzero : Cert.Pre_prep_nonzero.Facts] : Prop :=
  ∀ (m : (ℓ : Loc Cert.ReferenceSsmPrepIdeal.nD Cert.ReferenceSsmPrepIdeal.τ Cert.ReferenceSsmPrepIdeal.sig) → Buf (Elt Ideal) ℓ) (g : Dev Cert.ReferenceSsmPrepIdeal.nD → PrngReg), Pre_ReferenceSsmPrepIdeal_prep_nonzero m →
    θ_run (Cert.ReferenceSsmPrepIdeal.defs (F := Ideal)) (onTc (τ := Cert.ReferenceSsmPrepIdeal.τ) (Cert.ReferenceSsmPrepIdeal.main (F := Ideal))) ⟨m, fun _ => 0, g⟩ (fun r => (∀ c : Dev Cert.ReferenceSsmPrepIdeal.nD,
      r.2.mem ((c.tc : Thread Cert.ReferenceSsmPrepIdeal.nD Cert.ReferenceSsmPrepIdeal.τ).loc Cert.ReferenceSsmPrepIdeal.main_arg0) = m ((c.tc : Thread Cert.ReferenceSsmPrepIdeal.nD Cert.ReferenceSsmPrepIdeal.τ).loc Cert.ReferenceSsmPrepIdeal.main_arg0)
      ∧ r.2.mem ((c.tc : Thread Cert.ReferenceSsmPrepIdeal.nD Cert.ReferenceSsmPrepIdeal.τ).loc Cert.ReferenceSsmPrepIdeal.main_arg1) = m ((c.tc : Thread Cert.ReferenceSsmPrepIdeal.nD Cert.ReferenceSsmPrepIdeal.τ).loc Cert.ReferenceSsmPrepIdeal.main_arg1)
      ∧ r.2.mem ((c.tc : Thread Cert.ReferenceSsmPrepIdeal.nD Cert.ReferenceSsmPrepIdeal.τ).loc Cert.ReferenceSsmPrepIdeal.main_arg2) = m ((c.tc : Thread Cert.ReferenceSsmPrepIdeal.nD Cert.ReferenceSsmPrepIdeal.τ).loc Cert.ReferenceSsmPrepIdeal.main_arg2)
      ∧ r.2.mem ((c.tc : Thread Cert.ReferenceSsmPrepIdeal.nD Cert.ReferenceSsmPrepIdeal.τ).loc Cert.ReferenceSsmPrepIdeal.main_arg3) = m ((c.tc : Thread Cert.ReferenceSsmPrepIdeal.nD Cert.ReferenceSsmPrepIdeal.τ).loc Cert.ReferenceSsmPrepIdeal.main_arg3)
      ∧ r.2.mem ((c.tc : Thread Cert.ReferenceSsmPrepIdeal.nD Cert.ReferenceSsmPrepIdeal.τ).loc Cert.ReferenceSsmPrepIdeal.main_arg4) = m ((c.tc : Thread Cert.ReferenceSsmPrepIdeal.nD Cert.ReferenceSsmPrepIdeal.τ).loc Cert.ReferenceSsmPrepIdeal.main_arg4)
      ∧ r.2.mem ((c.tc : Thread Cert.ReferenceSsmPrepIdeal.nD Cert.ReferenceSsmPrepIdeal.τ).loc Cert.ReferenceSsmPrepIdeal.main_arg5) = m ((c.tc : Thread Cert.ReferenceSsmPrepIdeal.nD Cert.ReferenceSsmPrepIdeal.τ).loc Cert.ReferenceSsmPrepIdeal.main_arg5)
      ∧ r.2.mem ((c.tc : Thread Cert.ReferenceSsmPrepIdeal.nD Cert.ReferenceSsmPrepIdeal.τ).loc Cert.ReferenceSsmPrepIdeal.main_arg6) = m ((c.tc : Thread Cert.ReferenceSsmPrepIdeal.nD Cert.ReferenceSsmPrepIdeal.τ).loc Cert.ReferenceSsmPrepIdeal.main_arg6)
      ∧ r.2.mem ((c.tc : Thread Cert.ReferenceSsmPrepIdeal.nD Cert.ReferenceSsmPrepIdeal.τ).loc Cert.ReferenceSsmPrepIdeal.main_arg7) = m ((c.tc : Thread Cert.ReferenceSsmPrepIdeal.nD Cert.ReferenceSsmPrepIdeal.τ).loc Cert.ReferenceSsmPrepIdeal.main_arg7)
      ∧ r.2.mem ((c.tc : Thread Cert.ReferenceSsmPrepIdeal.nD Cert.ReferenceSsmPrepIdeal.τ).loc Cert.ReferenceSsmPrepIdeal.main_arg8) = m ((c.tc : Thread Cert.ReferenceSsmPrepIdeal.nD Cert.ReferenceSsmPrepIdeal.τ).loc Cert.ReferenceSsmPrepIdeal.main_arg8)
      ∧ r.2.mem ((c.tc : Thread Cert.ReferenceSsmPrepIdeal.nD Cert.ReferenceSsmPrepIdeal.τ).loc Cert.ReferenceSsmPrepIdeal.main_arg9) = m ((c.tc : Thread Cert.ReferenceSsmPrepIdeal.nD Cert.ReferenceSsmPrepIdeal.τ).loc Cert.ReferenceSsmPrepIdeal.main_arg9)
      ∧ r.2.mem ((c.tc : Thread Cert.ReferenceSsmPrepIdeal.nD Cert.ReferenceSsmPrepIdeal.τ).loc Cert.ReferenceSsmPrepIdeal.main_arg10) = m ((c.tc : Thread Cert.ReferenceSsmPrepIdeal.nD Cert.ReferenceSsmPrepIdeal.τ).loc Cert.ReferenceSsmPrepIdeal.main_arg10)
      ∧ r.2.mem ((c.tc : Thread Cert.ReferenceSsmPrepIdeal.nD Cert.ReferenceSsmPrepIdeal.τ).loc Cert.ReferenceSsmPrepIdeal.main_arg11) = m ((c.tc : Thread Cert.ReferenceSsmPrepIdeal.nD Cert.ReferenceSsmPrepIdeal.τ).loc Cert.ReferenceSsmPrepIdeal.main_arg11)
      ∧ r.2.mem ((c.tc : Thread Cert.ReferenceSsmPrepIdeal.nD Cert.ReferenceSsmPrepIdeal.τ).loc Cert.ReferenceSsmPrepIdeal.main_arg12) = m ((c.tc : Thread Cert.ReferenceSsmPrepIdeal.nD Cert.ReferenceSsmPrepIdeal.τ).loc Cert.ReferenceSsmPrepIdeal.main_arg12))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4)
      ∧ r.2.mem ((c.tc : Thread Cert.KernelPost.nD Cert.KernelPost.τ).loc Cert.KernelPost.main_arg5) = m ((c.tc : Thread Cert.KernelPost.nD Cert.KernelPost.τ).loc Cert.KernelPost.main_arg5)
      ∧ r.2.mem ((c.tc : Thread Cert.KernelPost.nD Cert.KernelPost.τ).loc Cert.KernelPost.main_arg6) = m ((c.tc : Thread Cert.KernelPost.nD Cert.KernelPost.τ).loc Cert.KernelPost.main_arg6)
      ∧ r.2.mem ((c.tc : Thread Cert.KernelPost.nD Cert.KernelPost.τ).loc Cert.KernelPost.main_arg7) = m ((c.tc : Thread Cert.KernelPost.nD Cert.KernelPost.τ).loc Cert.KernelPost.main_arg7)
      ∧ r.2.mem ((c.tc : Thread Cert.KernelPost.nD Cert.KernelPost.τ).loc Cert.KernelPost.main_arg8) = m ((c.tc : Thread Cert.KernelPost.nD Cert.KernelPost.τ).loc Cert.KernelPost.main_arg8)
      ∧ r.2.mem ((c.tc : Thread Cert.KernelPost.nD Cert.KernelPost.τ).loc Cert.KernelPost.main_arg9) = m ((c.tc : Thread Cert.KernelPost.nD Cert.KernelPost.τ).loc Cert.KernelPost.main_arg9)
      ∧ r.2.mem ((c.tc : Thread Cert.KernelPost.nD Cert.KernelPost.τ).loc Cert.KernelPost.main_arg10) = m ((c.tc : Thread Cert.KernelPost.nD Cert.KernelPost.τ).loc Cert.KernelPost.main_arg10)
      ∧ r.2.mem ((c.tc : Thread Cert.KernelPost.nD Cert.KernelPost.τ).loc Cert.KernelPost.main_arg11) = m ((c.tc : Thread Cert.KernelPost.nD Cert.KernelPost.τ).loc Cert.KernelPost.main_arg11)
      ∧ r.2.mem ((c.tc : Thread Cert.KernelPost.nD Cert.KernelPost.τ).loc Cert.KernelPost.main_arg12) = m ((c.tc : Thread Cert.KernelPost.nD Cert.KernelPost.τ).loc Cert.KernelPost.main_arg12)
      ∧ r.2.mem ((c.tc : Thread Cert.KernelPost.nD Cert.KernelPost.τ).loc Cert.KernelPost.main_arg13) = m ((c.tc : Thread Cert.KernelPost.nD Cert.KernelPost.τ).loc Cert.KernelPost.main_arg13)
      ∧ r.2.mem ((c.tc : Thread Cert.KernelPost.nD Cert.KernelPost.τ).loc Cert.KernelPost.main_arg14) = m ((c.tc : Thread Cert.KernelPost.nD Cert.KernelPost.τ).loc Cert.KernelPost.main_arg14)
      ∧ r.2.mem ((c.tc : Thread Cert.KernelPost.nD Cert.KernelPost.τ).loc Cert.KernelPost.main_arg15) = m ((c.tc : Thread Cert.KernelPost.nD Cert.KernelPost.τ).loc Cert.KernelPost.main_arg15)
      ∧ r.2.mem ((c.tc : Thread Cert.KernelPost.nD Cert.KernelPost.τ).loc Cert.KernelPost.main_arg16) = m ((c.tc : Thread Cert.KernelPost.nD Cert.KernelPost.τ).loc Cert.KernelPost.main_arg16))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
      ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
      ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
      ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8)
      ∧ r.2.mem ((c.tc : Thread Cert.KernelPostIdeal.nD Cert.KernelPostIdeal.τ).loc Cert.KernelPostIdeal.main_arg9) = m ((c.tc : Thread Cert.KernelPostIdeal.nD Cert.KernelPostIdeal.τ).loc Cert.KernelPostIdeal.main_arg9)
      ∧ r.2.mem ((c.tc : Thread Cert.KernelPostIdeal.nD Cert.KernelPostIdeal.τ).loc Cert.KernelPostIdeal.main_arg10) = m ((c.tc : Thread Cert.KernelPostIdeal.nD Cert.KernelPostIdeal.τ).loc Cert.KernelPostIdeal.main_arg10)
      ∧ r.2.mem ((c.tc : Thread Cert.KernelPostIdeal.nD Cert.KernelPostIdeal.τ).loc Cert.KernelPostIdeal.main_arg11) = m ((c.tc : Thread Cert.KernelPostIdeal.nD Cert.KernelPostIdeal.τ).loc Cert.KernelPostIdeal.main_arg11)
      ∧ r.2.mem ((c.tc : Thread Cert.KernelPostIdeal.nD Cert.KernelPostIdeal.τ).loc Cert.KernelPostIdeal.main_arg12) = m ((c.tc : Thread Cert.KernelPostIdeal.nD Cert.KernelPostIdeal.τ).loc Cert.KernelPostIdeal.main_arg12)
      ∧ r.2.mem ((c.tc : Thread Cert.KernelPostIdeal.nD Cert.KernelPostIdeal.τ).loc Cert.KernelPostIdeal.main_arg13) = m ((c.tc : Thread Cert.KernelPostIdeal.nD Cert.KernelPostIdeal.τ).loc Cert.KernelPostIdeal.main_arg13)
      ∧ r.2.mem ((c.tc : Thread Cert.KernelPostIdeal.nD Cert.KernelPostIdeal.τ).loc Cert.KernelPostIdeal.main_arg14) = m ((c.tc : Thread Cert.KernelPostIdeal.nD Cert.KernelPostIdeal.τ).loc Cert.KernelPostIdeal.main_arg14)
      ∧ r.2.mem ((c.tc : Thread Cert.KernelPostIdeal.nD Cert.KernelPostIdeal.τ).loc Cert.KernelPostIdeal.main_arg15) = m ((c.tc : Thread Cert.KernelPostIdeal.nD Cert.KernelPostIdeal.τ).loc Cert.KernelPostIdeal.main_arg15)
      ∧ r.2.mem ((c.tc : Thread Cert.KernelPostIdeal.nD Cert.KernelPostIdeal.τ).loc Cert.KernelPostIdeal.main_arg16) = m ((c.tc : Thread Cert.KernelPostIdeal.nD Cert.KernelPostIdeal.τ).loc Cert.KernelPostIdeal.main_arg16))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5)
      ∧ r.2.mem ((c.tc : Thread Cert.ReferencePostIdeal.nD Cert.ReferencePostIdeal.τ).loc Cert.ReferencePostIdeal.main_arg6) = m ((c.tc : Thread Cert.ReferencePostIdeal.nD Cert.ReferencePostIdeal.τ).loc Cert.ReferencePostIdeal.main_arg6)
      ∧ r.2.mem ((c.tc : Thread Cert.ReferencePostIdeal.nD Cert.ReferencePostIdeal.τ).loc Cert.ReferencePostIdeal.main_arg7) = m ((c.tc : Thread Cert.ReferencePostIdeal.nD Cert.ReferencePostIdeal.τ).loc Cert.ReferencePostIdeal.main_arg7)
      ∧ r.2.mem ((c.tc : Thread Cert.ReferencePostIdeal.nD Cert.ReferencePostIdeal.τ).loc Cert.ReferencePostIdeal.main_arg8) = m ((c.tc : Thread Cert.ReferencePostIdeal.nD Cert.ReferencePostIdeal.τ).loc Cert.ReferencePostIdeal.main_arg8)
      ∧ r.2.mem ((c.tc : Thread Cert.ReferencePostIdeal.nD Cert.ReferencePostIdeal.τ).loc Cert.ReferencePostIdeal.main_arg9) = m ((c.tc : Thread Cert.ReferencePostIdeal.nD Cert.ReferencePostIdeal.τ).loc Cert.ReferencePostIdeal.main_arg9)
      ∧ r.2.mem ((c.tc : Thread Cert.ReferencePostIdeal.nD Cert.ReferencePostIdeal.τ).loc Cert.ReferencePostIdeal.main_arg10) = m ((c.tc : Thread Cert.ReferencePostIdeal.nD Cert.ReferencePostIdeal.τ).loc Cert.ReferencePostIdeal.main_arg10)
      ∧ r.2.mem ((c.tc : Thread Cert.ReferencePostIdeal.nD Cert.ReferencePostIdeal.τ).loc Cert.ReferencePostIdeal.main_arg11) = m ((c.tc : Thread Cert.ReferencePostIdeal.nD Cert.ReferencePostIdeal.τ).loc Cert.ReferencePostIdeal.main_arg11)
      ∧ r.2.mem ((c.tc : Thread Cert.ReferencePostIdeal.nD Cert.ReferencePostIdeal.τ).loc Cert.ReferencePostIdeal.main_arg12) = m ((c.tc : Thread Cert.ReferencePostIdeal.nD Cert.ReferencePostIdeal.τ).loc Cert.ReferencePostIdeal.main_arg12)
      ∧ r.2.mem ((c.tc : Thread Cert.ReferencePostIdeal.nD Cert.ReferencePostIdeal.τ).loc Cert.ReferencePostIdeal.main_arg13) = m ((c.tc : Thread Cert.ReferencePostIdeal.nD Cert.ReferencePostIdeal.τ).loc Cert.ReferencePostIdeal.main_arg13)
      ∧ r.2.mem ((c.tc : Thread Cert.ReferencePostIdeal.nD Cert.ReferencePostIdeal.τ).loc Cert.ReferencePostIdeal.main_arg14) = m ((c.tc : Thread Cert.ReferencePostIdeal.nD Cert.ReferencePostIdeal.τ).loc Cert.ReferencePostIdeal.main_arg14)
      ∧ r.2.mem ((c.tc : Thread Cert.ReferencePostIdeal.nD Cert.ReferencePostIdeal.τ).loc Cert.ReferencePostIdeal.main_arg15) = m ((c.tc : Thread Cert.ReferencePostIdeal.nD Cert.ReferencePostIdeal.τ).loc Cert.ReferencePostIdeal.main_arg15)
      ∧ r.2.mem ((c.tc : Thread Cert.ReferencePostIdeal.nD Cert.ReferencePostIdeal.τ).loc Cert.ReferencePostIdeal.main_arg16) = m ((c.tc : Thread Cert.ReferencePostIdeal.nD Cert.ReferencePostIdeal.τ).loc Cert.ReferencePostIdeal.main_arg16))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3)
      ∧ r.2.mem ((c.tc : Thread Cert.KernelPre.nD Cert.KernelPre.τ).loc Cert.KernelPre.main_arg4) = m ((c.tc : Thread Cert.KernelPre.nD Cert.KernelPre.τ).loc Cert.KernelPre.main_arg4)
      ∧ r.2.mem ((c.tc : Thread Cert.KernelPre.nD Cert.KernelPre.τ).loc Cert.KernelPre.main_arg5) = m ((c.tc : Thread Cert.KernelPre.nD Cert.KernelPre.τ).loc Cert.KernelPre.main_arg5)
      ∧ r.2.mem ((c.tc : Thread Cert.KernelPre.nD Cert.KernelPre.τ).loc Cert.KernelPre.main_arg6) = m ((c.tc : Thread Cert.KernelPre.nD Cert.KernelPre.τ).loc Cert.KernelPre.main_arg6)
      ∧ r.2.mem ((c.tc : Thread Cert.KernelPre.nD Cert.KernelPre.τ).loc Cert.KernelPre.main_arg7) = m ((c.tc : Thread Cert.KernelPre.nD Cert.KernelPre.τ).loc Cert.KernelPre.main_arg7)
      ∧ r.2.mem ((c.tc : Thread Cert.KernelPre.nD Cert.KernelPre.τ).loc Cert.KernelPre.main_arg8) = m ((c.tc : Thread Cert.KernelPre.nD Cert.KernelPre.τ).loc Cert.KernelPre.main_arg8)
      ∧ r.2.mem ((c.tc : Thread Cert.KernelPre.nD Cert.KernelPre.τ).loc Cert.KernelPre.main_arg9) = m ((c.tc : Thread Cert.KernelPre.nD Cert.KernelPre.τ).loc Cert.KernelPre.main_arg9)
      ∧ r.2.mem ((c.tc : Thread Cert.KernelPre.nD Cert.KernelPre.τ).loc Cert.KernelPre.main_arg10) = m ((c.tc : Thread Cert.KernelPre.nD Cert.KernelPre.τ).loc Cert.KernelPre.main_arg10)
      ∧ r.2.mem ((c.tc : Thread Cert.KernelPre.nD Cert.KernelPre.τ).loc Cert.KernelPre.main_arg11) = m ((c.tc : Thread Cert.KernelPre.nD Cert.KernelPre.τ).loc Cert.KernelPre.main_arg11)
      ∧ r.2.mem ((c.tc : Thread Cert.KernelPre.nD Cert.KernelPre.τ).loc Cert.KernelPre.main_arg12) = m ((c.tc : Thread Cert.KernelPre.nD Cert.KernelPre.τ).loc Cert.KernelPre.main_arg12)
      ∧ r.2.mem ((c.tc : Thread Cert.KernelPre.nD Cert.KernelPre.τ).loc Cert.KernelPre.main_arg13) = m ((c.tc : Thread Cert.KernelPre.nD Cert.KernelPre.τ).loc Cert.KernelPre.main_arg13)
      ∧ r.2.mem ((c.tc : Thread Cert.KernelPre.nD Cert.KernelPre.τ).loc Cert.KernelPre.main_arg14) = m ((c.tc : Thread Cert.KernelPre.nD Cert.KernelPre.τ).loc Cert.KernelPre.main_arg14))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
      ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
      ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5)
      ∧ r.2.mem ((c.tc : Thread Cert.KernelPreIdeal.nD Cert.KernelPreIdeal.τ).loc Cert.KernelPreIdeal.main_arg6) = m ((c.tc : Thread Cert.KernelPreIdeal.nD Cert.KernelPreIdeal.τ).loc Cert.KernelPreIdeal.main_arg6)
      ∧ r.2.mem ((c.tc : Thread Cert.KernelPreIdeal.nD Cert.KernelPreIdeal.τ).loc Cert.KernelPreIdeal.main_arg7) = m ((c.tc : Thread Cert.KernelPreIdeal.nD Cert.KernelPreIdeal.τ).loc Cert.KernelPreIdeal.main_arg7)
      ∧ r.2.mem ((c.tc : Thread Cert.KernelPreIdeal.nD Cert.KernelPreIdeal.τ).loc Cert.KernelPreIdeal.main_arg8) = m ((c.tc : Thread Cert.KernelPreIdeal.nD Cert.KernelPreIdeal.τ).loc Cert.KernelPreIdeal.main_arg8)
      ∧ r.2.mem ((c.tc : Thread Cert.KernelPreIdeal.nD Cert.KernelPreIdeal.τ).loc Cert.KernelPreIdeal.main_arg9) = m ((c.tc : Thread Cert.KernelPreIdeal.nD Cert.KernelPreIdeal.τ).loc Cert.KernelPreIdeal.main_arg9)
      ∧ r.2.mem ((c.tc : Thread Cert.KernelPreIdeal.nD Cert.KernelPreIdeal.τ).loc Cert.KernelPreIdeal.main_arg10) = m ((c.tc : Thread Cert.KernelPreIdeal.nD Cert.KernelPreIdeal.τ).loc Cert.KernelPreIdeal.main_arg10)
      ∧ r.2.mem ((c.tc : Thread Cert.KernelPreIdeal.nD Cert.KernelPreIdeal.τ).loc Cert.KernelPreIdeal.main_arg11) = m ((c.tc : Thread Cert.KernelPreIdeal.nD Cert.KernelPreIdeal.τ).loc Cert.KernelPreIdeal.main_arg11)
      ∧ r.2.mem ((c.tc : Thread Cert.KernelPreIdeal.nD Cert.KernelPreIdeal.τ).loc Cert.KernelPreIdeal.main_arg12) = m ((c.tc : Thread Cert.KernelPreIdeal.nD Cert.KernelPreIdeal.τ).loc Cert.KernelPreIdeal.main_arg12)
      ∧ r.2.mem ((c.tc : Thread Cert.KernelPreIdeal.nD Cert.KernelPreIdeal.τ).loc Cert.KernelPreIdeal.main_arg13) = m ((c.tc : Thread Cert.KernelPreIdeal.nD Cert.KernelPreIdeal.τ).loc Cert.KernelPreIdeal.main_arg13)
      ∧ r.2.mem ((c.tc : Thread Cert.KernelPreIdeal.nD Cert.KernelPreIdeal.τ).loc Cert.KernelPreIdeal.main_arg14) = m ((c.tc : Thread Cert.KernelPreIdeal.nD Cert.KernelPreIdeal.τ).loc Cert.KernelPreIdeal.main_arg14))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3)
      ∧ r.2.mem ((c.tc : Thread Cert.ReferencePreIdeal.nD Cert.ReferencePreIdeal.τ).loc Cert.ReferencePreIdeal.main_arg4) = m ((c.tc : Thread Cert.ReferencePreIdeal.nD Cert.ReferencePreIdeal.τ).loc Cert.ReferencePreIdeal.main_arg4)
      ∧ r.2.mem ((c.tc : Thread Cert.ReferencePreIdeal.nD Cert.ReferencePreIdeal.τ).loc Cert.ReferencePreIdeal.main_arg5) = m ((c.tc : Thread Cert.ReferencePreIdeal.nD Cert.ReferencePreIdeal.τ).loc Cert.ReferencePreIdeal.main_arg5)
      ∧ r.2.mem ((c.tc : Thread Cert.ReferencePreIdeal.nD Cert.ReferencePreIdeal.τ).loc Cert.ReferencePreIdeal.main_arg6) = m ((c.tc : Thread Cert.ReferencePreIdeal.nD Cert.ReferencePreIdeal.τ).loc Cert.ReferencePreIdeal.main_arg6)
      ∧ r.2.mem ((c.tc : Thread Cert.ReferencePreIdeal.nD Cert.ReferencePreIdeal.τ).loc Cert.ReferencePreIdeal.main_arg7) = m ((c.tc : Thread Cert.ReferencePreIdeal.nD Cert.ReferencePreIdeal.τ).loc Cert.ReferencePreIdeal.main_arg7)
      ∧ r.2.mem ((c.tc : Thread Cert.ReferencePreIdeal.nD Cert.ReferencePreIdeal.τ).loc Cert.ReferencePreIdeal.main_arg8) = m ((c.tc : Thread Cert.ReferencePreIdeal.nD Cert.ReferencePreIdeal.τ).loc Cert.ReferencePreIdeal.main_arg8)
      ∧ r.2.mem ((c.tc : Thread Cert.ReferencePreIdeal.nD Cert.ReferencePreIdeal.τ).loc Cert.ReferencePreIdeal.main_arg9) = m ((c.tc : Thread Cert.ReferencePreIdeal.nD Cert.ReferencePreIdeal.τ).loc Cert.ReferencePreIdeal.main_arg9)
      ∧ r.2.mem ((c.tc : Thread Cert.ReferencePreIdeal.nD Cert.ReferencePreIdeal.τ).loc Cert.ReferencePreIdeal.main_arg10) = m ((c.tc : Thread Cert.ReferencePreIdeal.nD Cert.ReferencePreIdeal.τ).loc Cert.ReferencePreIdeal.main_arg10)
      ∧ r.2.mem ((c.tc : Thread Cert.ReferencePreIdeal.nD Cert.ReferencePreIdeal.τ).loc Cert.ReferencePreIdeal.main_arg11) = m ((c.tc : Thread Cert.ReferencePreIdeal.nD Cert.ReferencePreIdeal.τ).loc Cert.ReferencePreIdeal.main_arg11)
      ∧ r.2.mem ((c.tc : Thread Cert.ReferencePreIdeal.nD Cert.ReferencePreIdeal.τ).loc Cert.ReferencePreIdeal.main_arg12) = m ((c.tc : Thread Cert.ReferencePreIdeal.nD Cert.ReferencePreIdeal.τ).loc Cert.ReferencePreIdeal.main_arg12)
      ∧ r.2.mem ((c.tc : Thread Cert.ReferencePreIdeal.nD Cert.ReferencePreIdeal.τ).loc Cert.ReferencePreIdeal.main_arg13) = m ((c.tc : Thread Cert.ReferencePreIdeal.nD Cert.ReferencePreIdeal.τ).loc Cert.ReferencePreIdeal.main_arg13)
      ∧ r.2.mem ((c.tc : Thread Cert.ReferencePreIdeal.nD Cert.ReferencePreIdeal.τ).loc Cert.ReferencePreIdeal.main_arg14) = m ((c.tc : Thread Cert.ReferencePreIdeal.nD Cert.ReferencePreIdeal.τ).loc Cert.ReferencePreIdeal.main_arg14))
      ∧ r.2.sem = fun _ => 0)

def quiescent_ReferenceSsmIdeal [hReferenceSsmIdeal : Cert.ReferenceSsmIdeal.Facts] : Prop :=
  ∀ (m : (ℓ : Loc Cert.ReferenceSsmIdeal.nD Cert.ReferenceSsmIdeal.τ Cert.ReferenceSsmIdeal.sig) → Buf (Elt Ideal) ℓ) (g : Dev Cert.ReferenceSsmIdeal.nD → PrngReg), Pre_ReferenceSsmIdeal m →
    θ_run (Cert.ReferenceSsmIdeal.defs (F := Ideal)) (onTc (τ := Cert.ReferenceSsmIdeal.τ) (Cert.ReferenceSsmIdeal.main (F := Ideal))) ⟨m, fun _ => 0, g⟩ (fun r => (∀ c : Dev Cert.ReferenceSsmIdeal.nD,
      r.2.mem ((c.tc : Thread Cert.ReferenceSsmIdeal.nD Cert.ReferenceSsmIdeal.τ).loc Cert.ReferenceSsmIdeal.main_arg0) = m ((c.tc : Thread Cert.ReferenceSsmIdeal.nD Cert.ReferenceSsmIdeal.τ).loc Cert.ReferenceSsmIdeal.main_arg0)
      ∧ r.2.mem ((c.tc : Thread Cert.ReferenceSsmIdeal.nD Cert.ReferenceSsmIdeal.τ).loc Cert.ReferenceSsmIdeal.main_arg1) = m ((c.tc : Thread Cert.ReferenceSsmIdeal.nD Cert.ReferenceSsmIdeal.τ).loc Cert.ReferenceSsmIdeal.main_arg1)
      ∧ r.2.mem ((c.tc : Thread Cert.ReferenceSsmIdeal.nD Cert.ReferenceSsmIdeal.τ).loc Cert.ReferenceSsmIdeal.main_arg2) = m ((c.tc : Thread Cert.ReferenceSsmIdeal.nD Cert.ReferenceSsmIdeal.τ).loc Cert.ReferenceSsmIdeal.main_arg2)
      ∧ r.2.mem ((c.tc : Thread Cert.ReferenceSsmIdeal.nD Cert.ReferenceSsmIdeal.τ).loc Cert.ReferenceSsmIdeal.main_arg3) = m ((c.tc : Thread Cert.ReferenceSsmIdeal.nD Cert.ReferenceSsmIdeal.τ).loc Cert.ReferenceSsmIdeal.main_arg3)
      ∧ r.2.mem ((c.tc : Thread Cert.ReferenceSsmIdeal.nD Cert.ReferenceSsmIdeal.τ).loc Cert.ReferenceSsmIdeal.main_arg4) = m ((c.tc : Thread Cert.ReferenceSsmIdeal.nD Cert.ReferenceSsmIdeal.τ).loc Cert.ReferenceSsmIdeal.main_arg4)
      ∧ r.2.mem ((c.tc : Thread Cert.ReferenceSsmIdeal.nD Cert.ReferenceSsmIdeal.τ).loc Cert.ReferenceSsmIdeal.main_arg5) = m ((c.tc : Thread Cert.ReferenceSsmIdeal.nD Cert.ReferenceSsmIdeal.τ).loc Cert.ReferenceSsmIdeal.main_arg5)
      ∧ r.2.mem ((c.tc : Thread Cert.ReferenceSsmIdeal.nD Cert.ReferenceSsmIdeal.τ).loc Cert.ReferenceSsmIdeal.main_arg6) = m ((c.tc : Thread Cert.ReferenceSsmIdeal.nD Cert.ReferenceSsmIdeal.τ).loc Cert.ReferenceSsmIdeal.main_arg6)
      ∧ r.2.mem ((c.tc : Thread Cert.ReferenceSsmIdeal.nD Cert.ReferenceSsmIdeal.τ).loc Cert.ReferenceSsmIdeal.main_arg7) = m ((c.tc : Thread Cert.ReferenceSsmIdeal.nD Cert.ReferenceSsmIdeal.τ).loc Cert.ReferenceSsmIdeal.main_arg7))
      ∧ r.2.sem = fun _ => 0)

def quiescent_KernelMemNormFwd [hKernelMemNormFwd : Cert.KernelMemNormFwd.Facts] : Prop :=
  ∀ (m : (ℓ : Loc Cert.KernelMemNormFwd.nD Cert.KernelMemNormFwd.τ Cert.KernelMemNormFwd.sig) → Buf (Elt Bits) ℓ) (g : Dev Cert.KernelMemNormFwd.nD → PrngReg), Pre_KernelMemNormFwd m →
    θ_run (Cert.KernelMemNormFwd.defs (F := Bits)) (onTc (τ := Cert.KernelMemNormFwd.τ) (Cert.KernelMemNormFwd.main (F := Bits))) ⟨m, fun _ => 0, g⟩ (fun r => (∀ c : Dev Cert.KernelMemNormFwd.nD,
      r.2.mem ((c.tc : Thread Cert.KernelMemNormFwd.nD Cert.KernelMemNormFwd.τ).loc Cert.KernelMemNormFwd.main_arg0) = m ((c.tc : Thread Cert.KernelMemNormFwd.nD Cert.KernelMemNormFwd.τ).loc Cert.KernelMemNormFwd.main_arg0)
      ∧ r.2.mem ((c.tc : Thread Cert.KernelMemNormFwd.nD Cert.KernelMemNormFwd.τ).loc Cert.KernelMemNormFwd.main_arg1) = m ((c.tc : Thread Cert.KernelMemNormFwd.nD Cert.KernelMemNormFwd.τ).loc Cert.KernelMemNormFwd.main_arg1))
      ∧ r.2.sem = fun _ => 0)

def quiescent_KernelMemNormFwdIdeal [hKernelMemNormFwdIdeal : Cert.KernelMemNormFwdIdeal.Facts] : Prop :=
  ∀ (m : (ℓ : Loc Cert.KernelMemNormFwdIdeal.nD Cert.KernelMemNormFwdIdeal.τ Cert.KernelMemNormFwdIdeal.sig) → Buf (Elt Ideal) ℓ) (g : Dev Cert.KernelMemNormFwdIdeal.nD → PrngReg), Pre_KernelMemNormFwdIdeal m →
    θ_run (Cert.KernelMemNormFwdIdeal.defs (F := Ideal)) (onTc (τ := Cert.KernelMemNormFwdIdeal.τ) (Cert.KernelMemNormFwdIdeal.main (F := Ideal))) ⟨m, fun _ => 0, g⟩ (fun r => (∀ c : Dev Cert.KernelMemNormFwdIdeal.nD,
      r.2.mem ((c.tc : Thread Cert.KernelMemNormFwdIdeal.nD Cert.KernelMemNormFwdIdeal.τ).loc Cert.KernelMemNormFwdIdeal.main_arg0) = m ((c.tc : Thread Cert.KernelMemNormFwdIdeal.nD Cert.KernelMemNormFwdIdeal.τ).loc Cert.KernelMemNormFwdIdeal.main_arg0)
      ∧ r.2.mem ((c.tc : Thread Cert.KernelMemNormFwdIdeal.nD Cert.KernelMemNormFwdIdeal.τ).loc Cert.KernelMemNormFwdIdeal.main_arg1) = m ((c.tc : Thread Cert.KernelMemNormFwdIdeal.nD Cert.KernelMemNormFwdIdeal.τ).loc Cert.KernelMemNormFwdIdeal.main_arg1))
      ∧ r.2.sem = fun _ => 0)

def quiescent_ReferenceMemNormFwdIdeal [hReferenceMemNormFwdIdeal : Cert.ReferenceMemNormFwdIdeal.Facts] : Prop :=
  ∀ (m : (ℓ : Loc Cert.ReferenceMemNormFwdIdeal.nD Cert.ReferenceMemNormFwdIdeal.τ Cert.ReferenceMemNormFwdIdeal.sig) → Buf (Elt Ideal) ℓ) (g : Dev Cert.ReferenceMemNormFwdIdeal.nD → PrngReg), Pre_ReferenceMemNormFwdIdeal m →
    θ_run (Cert.ReferenceMemNormFwdIdeal.defs (F := Ideal)) (onTc (τ := Cert.ReferenceMemNormFwdIdeal.τ) (Cert.ReferenceMemNormFwdIdeal.main (F := Ideal))) ⟨m, fun _ => 0, g⟩ (fun r => (∀ c : Dev Cert.ReferenceMemNormFwdIdeal.nD,
      r.2.mem ((c.tc : Thread Cert.ReferenceMemNormFwdIdeal.nD Cert.ReferenceMemNormFwdIdeal.τ).loc Cert.ReferenceMemNormFwdIdeal.main_arg0) = m ((c.tc : Thread Cert.ReferenceMemNormFwdIdeal.nD Cert.ReferenceMemNormFwdIdeal.τ).loc Cert.ReferenceMemNormFwdIdeal.main_arg0)
      ∧ r.2.mem ((c.tc : Thread Cert.ReferenceMemNormFwdIdeal.nD Cert.ReferenceMemNormFwdIdeal.τ).loc Cert.ReferenceMemNormFwdIdeal.main_arg1) = m ((c.tc : Thread Cert.ReferenceMemNormFwdIdeal.nD Cert.ReferenceMemNormFwdIdeal.τ).loc Cert.ReferenceMemNormFwdIdeal.main_arg1))
      ∧ r.2.sem = fun _ => 0)

def quiescent_KernelKeyNormFwd [hKernelKeyNormFwd : Cert.KernelKeyNormFwd.Facts] : Prop :=
  ∀ (m : (ℓ : Loc Cert.KernelKeyNormFwd.nD Cert.KernelKeyNormFwd.τ Cert.KernelKeyNormFwd.sig) → Buf (Elt Bits) ℓ) (g : Dev Cert.KernelKeyNormFwd.nD → PrngReg), Pre_KernelKeyNormFwd m →
    θ_run (Cert.KernelKeyNormFwd.defs (F := Bits)) (onTc (τ := Cert.KernelKeyNormFwd.τ) (Cert.KernelKeyNormFwd.main (F := Bits))) ⟨m, fun _ => 0, g⟩ (fun r => (∀ c : Dev Cert.KernelKeyNormFwd.nD,
      r.2.mem ((c.tc : Thread Cert.KernelKeyNormFwd.nD Cert.KernelKeyNormFwd.τ).loc Cert.KernelKeyNormFwd.main_arg0) = m ((c.tc : Thread Cert.KernelKeyNormFwd.nD Cert.KernelKeyNormFwd.τ).loc Cert.KernelKeyNormFwd.main_arg0)
      ∧ r.2.mem ((c.tc : Thread Cert.KernelKeyNormFwd.nD Cert.KernelKeyNormFwd.τ).loc Cert.KernelKeyNormFwd.main_arg1) = m ((c.tc : Thread Cert.KernelKeyNormFwd.nD Cert.KernelKeyNormFwd.τ).loc Cert.KernelKeyNormFwd.main_arg1))
      ∧ r.2.sem = fun _ => 0)

def quiescent_KernelKeyNormFwdIdeal [hKernelKeyNormFwdIdeal : Cert.KernelKeyNormFwdIdeal.Facts] : Prop :=
  ∀ (m : (ℓ : Loc Cert.KernelKeyNormFwdIdeal.nD Cert.KernelKeyNormFwdIdeal.τ Cert.KernelKeyNormFwdIdeal.sig) → Buf (Elt Ideal) ℓ) (g : Dev Cert.KernelKeyNormFwdIdeal.nD → PrngReg), Pre_KernelKeyNormFwdIdeal m →
    θ_run (Cert.KernelKeyNormFwdIdeal.defs (F := Ideal)) (onTc (τ := Cert.KernelKeyNormFwdIdeal.τ) (Cert.KernelKeyNormFwdIdeal.main (F := Ideal))) ⟨m, fun _ => 0, g⟩ (fun r => (∀ c : Dev Cert.KernelKeyNormFwdIdeal.nD,
      r.2.mem ((c.tc : Thread Cert.KernelKeyNormFwdIdeal.nD Cert.KernelKeyNormFwdIdeal.τ).loc Cert.KernelKeyNormFwdIdeal.main_arg0) = m ((c.tc : Thread Cert.KernelKeyNormFwdIdeal.nD Cert.KernelKeyNormFwdIdeal.τ).loc Cert.KernelKeyNormFwdIdeal.main_arg0)
      ∧ r.2.mem ((c.tc : Thread Cert.KernelKeyNormFwdIdeal.nD Cert.KernelKeyNormFwdIdeal.τ).loc Cert.KernelKeyNormFwdIdeal.main_arg1) = m ((c.tc : Thread Cert.KernelKeyNormFwdIdeal.nD Cert.KernelKeyNormFwdIdeal.τ).loc Cert.KernelKeyNormFwdIdeal.main_arg1))
      ∧ r.2.sem = fun _ => 0)

def quiescent_ReferenceKeyNormFwdIdeal [hReferenceKeyNormFwdIdeal : Cert.ReferenceKeyNormFwdIdeal.Facts] : Prop :=
  ∀ (m : (ℓ : Loc Cert.ReferenceKeyNormFwdIdeal.nD Cert.ReferenceKeyNormFwdIdeal.τ Cert.ReferenceKeyNormFwdIdeal.sig) → Buf (Elt Ideal) ℓ) (g : Dev Cert.ReferenceKeyNormFwdIdeal.nD → PrngReg), Pre_ReferenceKeyNormFwdIdeal m →
    θ_run (Cert.ReferenceKeyNormFwdIdeal.defs (F := Ideal)) (onTc (τ := Cert.ReferenceKeyNormFwdIdeal.τ) (Cert.ReferenceKeyNormFwdIdeal.main (F := Ideal))) ⟨m, fun _ => 0, g⟩ (fun r => (∀ c : Dev Cert.ReferenceKeyNormFwdIdeal.nD,
      r.2.mem ((c.tc : Thread Cert.ReferenceKeyNormFwdIdeal.nD Cert.ReferenceKeyNormFwdIdeal.τ).loc Cert.ReferenceKeyNormFwdIdeal.main_arg0) = m ((c.tc : Thread Cert.ReferenceKeyNormFwdIdeal.nD Cert.ReferenceKeyNormFwdIdeal.τ).loc Cert.ReferenceKeyNormFwdIdeal.main_arg0)
      ∧ r.2.mem ((c.tc : Thread Cert.ReferenceKeyNormFwdIdeal.nD Cert.ReferenceKeyNormFwdIdeal.τ).loc Cert.ReferenceKeyNormFwdIdeal.main_arg1) = m ((c.tc : Thread Cert.ReferenceKeyNormFwdIdeal.nD Cert.ReferenceKeyNormFwdIdeal.τ).loc Cert.ReferenceKeyNormFwdIdeal.main_arg1))
      ∧ r.2.sem = fun _ => 0)

def quiescent_KernelAttnFwd [hKernelAttnFwd : Cert.KernelAttnFwd.Facts] : Prop :=
  ∀ (m : (ℓ : Loc Cert.KernelAttnFwd.nD Cert.KernelAttnFwd.τ Cert.KernelAttnFwd.sig) → Buf (Elt Bits) ℓ) (g : Dev Cert.KernelAttnFwd.nD → PrngReg), Pre_KernelAttnFwd m →
    θ_run (Cert.KernelAttnFwd.defs (F := Bits)) (onTc (τ := Cert.KernelAttnFwd.τ) (Cert.KernelAttnFwd.main (F := Bits))) ⟨m, fun _ => 0, g⟩ (fun r => (∀ c : Dev Cert.KernelAttnFwd.nD,
      r.2.mem ((c.tc : Thread Cert.KernelAttnFwd.nD Cert.KernelAttnFwd.τ).loc Cert.KernelAttnFwd.main_arg0) = m ((c.tc : Thread Cert.KernelAttnFwd.nD Cert.KernelAttnFwd.τ).loc Cert.KernelAttnFwd.main_arg0)
      ∧ r.2.mem ((c.tc : Thread Cert.KernelAttnFwd.nD Cert.KernelAttnFwd.τ).loc Cert.KernelAttnFwd.main_arg1) = m ((c.tc : Thread Cert.KernelAttnFwd.nD Cert.KernelAttnFwd.τ).loc Cert.KernelAttnFwd.main_arg1)
      ∧ r.2.mem ((c.tc : Thread Cert.KernelAttnFwd.nD Cert.KernelAttnFwd.τ).loc Cert.KernelAttnFwd.main_arg2) = m ((c.tc : Thread Cert.KernelAttnFwd.nD Cert.KernelAttnFwd.τ).loc Cert.KernelAttnFwd.main_arg2))
      ∧ r.2.sem = fun _ => 0)

def quiescent_KernelAttnFwdIdeal [hKernelAttnFwdIdeal : Cert.KernelAttnFwdIdeal.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
      ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2))
      ∧ r.2.sem = fun _ => 0)

def quiescent_KernelAttnFwdIdeal_pre_attn_fwd_finite [hKernelAttnFwdIdeal : Cert.KernelAttnFwdIdeal.Facts] [hPre_attn_fwd_finite : Cert.Pre_attn_fwd_finite.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal_attn_fwd_finite m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
      ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2))
      ∧ r.2.sem = fun _ => 0)

def quiescent_ReferenceAttnFwdIdeal [hReferenceAttnFwdIdeal : Cert.ReferenceAttnFwdIdeal.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1)
      ∧ r.2.mem ((c.tc : Thread Cert.ReferenceAttnFwdIdeal.nD Cert.ReferenceAttnFwdIdeal.τ).loc Cert.ReferenceAttnFwdIdeal.main_arg2) = m ((c.tc : Thread Cert.ReferenceAttnFwdIdeal.nD Cert.ReferenceAttnFwdIdeal.τ).loc Cert.ReferenceAttnFwdIdeal.main_arg2))
      ∧ r.2.sem = fun _ => 0)

def quiescent_ReferenceAttnFwdIdeal_pre_attn_fwd_finite [hReferenceAttnFwdIdeal : Cert.ReferenceAttnFwdIdeal.Facts] [hPre_attn_fwd_finite : Cert.Pre_attn_fwd_finite.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal_attn_fwd_finite m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1)
      ∧ r.2.mem ((c.tc : Thread Cert.ReferenceAttnFwdIdeal.nD Cert.ReferenceAttnFwdIdeal.τ).loc Cert.ReferenceAttnFwdIdeal.main_arg2) = m ((c.tc : Thread Cert.ReferenceAttnFwdIdeal.nD Cert.ReferenceAttnFwdIdeal.τ).loc Cert.ReferenceAttnFwdIdeal.main_arg2))
      ∧ r.2.sem = fun _ => 0)

def quiescent_KernelSsmPrepFwd [hKernelSsmPrepFwd : Cert.KernelSsmPrepFwd.Facts] : Prop :=
  ∀ (m : (ℓ : Loc Cert.KernelSsmPrepFwd.nD Cert.KernelSsmPrepFwd.τ Cert.KernelSsmPrepFwd.sig) → Buf (Elt Bits) ℓ) (g : Dev Cert.KernelSsmPrepFwd.nD → PrngReg), Pre_KernelSsmPrepFwd m →
    θ_run (Cert.KernelSsmPrepFwd.defs (F := Bits)) (onTc (τ := Cert.KernelSsmPrepFwd.τ) (Cert.KernelSsmPrepFwd.main (F := Bits))) ⟨m, fun _ => 0, g⟩ (fun r => (∀ c : Dev Cert.KernelSsmPrepFwd.nD,
      r.2.mem ((c.tc : Thread Cert.KernelSsmPrepFwd.nD Cert.KernelSsmPrepFwd.τ).loc Cert.KernelSsmPrepFwd.main_arg0) = m ((c.tc : Thread Cert.KernelSsmPrepFwd.nD Cert.KernelSsmPrepFwd.τ).loc Cert.KernelSsmPrepFwd.main_arg0)
      ∧ r.2.mem ((c.tc : Thread Cert.KernelSsmPrepFwd.nD Cert.KernelSsmPrepFwd.τ).loc Cert.KernelSsmPrepFwd.main_arg1) = m ((c.tc : Thread Cert.KernelSsmPrepFwd.nD Cert.KernelSsmPrepFwd.τ).loc Cert.KernelSsmPrepFwd.main_arg1)
      ∧ r.2.mem ((c.tc : Thread Cert.KernelSsmPrepFwd.nD Cert.KernelSsmPrepFwd.τ).loc Cert.KernelSsmPrepFwd.main_arg2) = m ((c.tc : Thread Cert.KernelSsmPrepFwd.nD Cert.KernelSsmPrepFwd.τ).loc Cert.KernelSsmPrepFwd.main_arg2)
      ∧ r.2.mem ((c.tc : Thread Cert.KernelSsmPrepFwd.nD Cert.KernelSsmPrepFwd.τ).loc Cert.KernelSsmPrepFwd.main_arg3) = m ((c.tc : Thread Cert.KernelSsmPrepFwd.nD Cert.KernelSsmPrepFwd.τ).loc Cert.KernelSsmPrepFwd.main_arg3)
      ∧ r.2.mem ((c.tc : Thread Cert.KernelSsmPrepFwd.nD Cert.KernelSsmPrepFwd.τ).loc Cert.KernelSsmPrepFwd.main_arg4) = m ((c.tc : Thread Cert.KernelSsmPrepFwd.nD Cert.KernelSsmPrepFwd.τ).loc Cert.KernelSsmPrepFwd.main_arg4)
      ∧ r.2.mem ((c.tc : Thread Cert.KernelSsmPrepFwd.nD Cert.KernelSsmPrepFwd.τ).loc Cert.KernelSsmPrepFwd.main_arg5) = m ((c.tc : Thread Cert.KernelSsmPrepFwd.nD Cert.KernelSsmPrepFwd.τ).loc Cert.KernelSsmPrepFwd.main_arg5)
      ∧ r.2.mem ((c.tc : Thread Cert.KernelSsmPrepFwd.nD Cert.KernelSsmPrepFwd.τ).loc Cert.KernelSsmPrepFwd.main_arg6) = m ((c.tc : Thread Cert.KernelSsmPrepFwd.nD Cert.KernelSsmPrepFwd.τ).loc Cert.KernelSsmPrepFwd.main_arg6))
      ∧ r.2.sem = fun _ => 0)

def quiescent_KernelSsmPrepFwdIdeal [hKernelSsmPrepFwdIdeal : Cert.KernelSsmPrepFwdIdeal.Facts] : Prop :=
  ∀ (m : (ℓ : Loc Cert.KernelSsmPrepFwdIdeal.nD Cert.KernelSsmPrepFwdIdeal.τ Cert.KernelSsmPrepFwdIdeal.sig) → Buf (Elt Ideal) ℓ) (g : Dev Cert.KernelSsmPrepFwdIdeal.nD → PrngReg), Pre_KernelSsmPrepFwdIdeal m →
    θ_run (Cert.KernelSsmPrepFwdIdeal.defs (F := Ideal)) (onTc (τ := Cert.KernelSsmPrepFwdIdeal.τ) (Cert.KernelSsmPrepFwdIdeal.main (F := Ideal))) ⟨m, fun _ => 0, g⟩ (fun r => (∀ c : Dev Cert.KernelSsmPrepFwdIdeal.nD,
      r.2.mem ((c.tc : Thread Cert.KernelSsmPrepFwdIdeal.nD Cert.KernelSsmPrepFwdIdeal.τ).loc Cert.KernelSsmPrepFwdIdeal.main_arg0) = m ((c.tc : Thread Cert.KernelSsmPrepFwdIdeal.nD Cert.KernelSsmPrepFwdIdeal.τ).loc Cert.KernelSsmPrepFwdIdeal.main_arg0)
      ∧ r.2.mem ((c.tc : Thread Cert.KernelSsmPrepFwdIdeal.nD Cert.KernelSsmPrepFwdIdeal.τ).loc Cert.KernelSsmPrepFwdIdeal.main_arg1) = m ((c.tc : Thread Cert.KernelSsmPrepFwdIdeal.nD Cert.KernelSsmPrepFwdIdeal.τ).loc Cert.KernelSsmPrepFwdIdeal.main_arg1)
      ∧ r.2.mem ((c.tc : Thread Cert.KernelSsmPrepFwdIdeal.nD Cert.KernelSsmPrepFwdIdeal.τ).loc Cert.KernelSsmPrepFwdIdeal.main_arg2) = m ((c.tc : Thread Cert.KernelSsmPrepFwdIdeal.nD Cert.KernelSsmPrepFwdIdeal.τ).loc Cert.KernelSsmPrepFwdIdeal.main_arg2)
      ∧ r.2.mem ((c.tc : Thread Cert.KernelSsmPrepFwdIdeal.nD Cert.KernelSsmPrepFwdIdeal.τ).loc Cert.KernelSsmPrepFwdIdeal.main_arg3) = m ((c.tc : Thread Cert.KernelSsmPrepFwdIdeal.nD Cert.KernelSsmPrepFwdIdeal.τ).loc Cert.KernelSsmPrepFwdIdeal.main_arg3)
      ∧ r.2.mem ((c.tc : Thread Cert.KernelSsmPrepFwdIdeal.nD Cert.KernelSsmPrepFwdIdeal.τ).loc Cert.KernelSsmPrepFwdIdeal.main_arg4) = m ((c.tc : Thread Cert.KernelSsmPrepFwdIdeal.nD Cert.KernelSsmPrepFwdIdeal.τ).loc Cert.KernelSsmPrepFwdIdeal.main_arg4)
      ∧ r.2.mem ((c.tc : Thread Cert.KernelSsmPrepFwdIdeal.nD Cert.KernelSsmPrepFwdIdeal.τ).loc Cert.KernelSsmPrepFwdIdeal.main_arg5) = m ((c.tc : Thread Cert.KernelSsmPrepFwdIdeal.nD Cert.KernelSsmPrepFwdIdeal.τ).loc Cert.KernelSsmPrepFwdIdeal.main_arg5)
      ∧ r.2.mem ((c.tc : Thread Cert.KernelSsmPrepFwdIdeal.nD Cert.KernelSsmPrepFwdIdeal.τ).loc Cert.KernelSsmPrepFwdIdeal.main_arg6) = m ((c.tc : Thread Cert.KernelSsmPrepFwdIdeal.nD Cert.KernelSsmPrepFwdIdeal.τ).loc Cert.KernelSsmPrepFwdIdeal.main_arg6))
      ∧ r.2.sem = fun _ => 0)

def quiescent_ReferenceSsmPrepFwdIdeal [hReferenceSsmPrepFwdIdeal : Cert.ReferenceSsmPrepFwdIdeal.Facts] : Prop :=
  ∀ (m : (ℓ : Loc Cert.ReferenceSsmPrepFwdIdeal.nD Cert.ReferenceSsmPrepFwdIdeal.τ Cert.ReferenceSsmPrepFwdIdeal.sig) → Buf (Elt Ideal) ℓ) (g : Dev Cert.ReferenceSsmPrepFwdIdeal.nD → PrngReg), Pre_ReferenceSsmPrepFwdIdeal m →
    θ_run (Cert.ReferenceSsmPrepFwdIdeal.defs (F := Ideal)) (onTc (τ := Cert.ReferenceSsmPrepFwdIdeal.τ) (Cert.ReferenceSsmPrepFwdIdeal.main (F := Ideal))) ⟨m, fun _ => 0, g⟩ (fun r => (∀ c : Dev Cert.ReferenceSsmPrepFwdIdeal.nD,
      r.2.mem ((c.tc : Thread Cert.ReferenceSsmPrepFwdIdeal.nD Cert.ReferenceSsmPrepFwdIdeal.τ).loc Cert.ReferenceSsmPrepFwdIdeal.main_arg0) = m ((c.tc : Thread Cert.ReferenceSsmPrepFwdIdeal.nD Cert.ReferenceSsmPrepFwdIdeal.τ).loc Cert.ReferenceSsmPrepFwdIdeal.main_arg0)
      ∧ r.2.mem ((c.tc : Thread Cert.ReferenceSsmPrepFwdIdeal.nD Cert.ReferenceSsmPrepFwdIdeal.τ).loc Cert.ReferenceSsmPrepFwdIdeal.main_arg1) = m ((c.tc : Thread Cert.ReferenceSsmPrepFwdIdeal.nD Cert.ReferenceSsmPrepFwdIdeal.τ).loc Cert.ReferenceSsmPrepFwdIdeal.main_arg1)
      ∧ r.2.mem ((c.tc : Thread Cert.ReferenceSsmPrepFwdIdeal.nD Cert.ReferenceSsmPrepFwdIdeal.τ).loc Cert.ReferenceSsmPrepFwdIdeal.main_arg2) = m ((c.tc : Thread Cert.ReferenceSsmPrepFwdIdeal.nD Cert.ReferenceSsmPrepFwdIdeal.τ).loc Cert.ReferenceSsmPrepFwdIdeal.main_arg2)
      ∧ r.2.mem ((c.tc : Thread Cert.ReferenceSsmPrepFwdIdeal.nD Cert.ReferenceSsmPrepFwdIdeal.τ).loc Cert.ReferenceSsmPrepFwdIdeal.main_arg3) = m ((c.tc : Thread Cert.ReferenceSsmPrepFwdIdeal.nD Cert.ReferenceSsmPrepFwdIdeal.τ).loc Cert.ReferenceSsmPrepFwdIdeal.main_arg3)
      ∧ r.2.mem ((c.tc : Thread Cert.ReferenceSsmPrepFwdIdeal.nD Cert.ReferenceSsmPrepFwdIdeal.τ).loc Cert.ReferenceSsmPrepFwdIdeal.main_arg4) = m ((c.tc : Thread Cert.ReferenceSsmPrepFwdIdeal.nD Cert.ReferenceSsmPrepFwdIdeal.τ).loc Cert.ReferenceSsmPrepFwdIdeal.main_arg4)
      ∧ r.2.mem ((c.tc : Thread Cert.ReferenceSsmPrepFwdIdeal.nD Cert.ReferenceSsmPrepFwdIdeal.τ).loc Cert.ReferenceSsmPrepFwdIdeal.main_arg5) = m ((c.tc : Thread Cert.ReferenceSsmPrepFwdIdeal.nD Cert.ReferenceSsmPrepFwdIdeal.τ).loc Cert.ReferenceSsmPrepFwdIdeal.main_arg5)
      ∧ r.2.mem ((c.tc : Thread Cert.ReferenceSsmPrepFwdIdeal.nD Cert.ReferenceSsmPrepFwdIdeal.τ).loc Cert.ReferenceSsmPrepFwdIdeal.main_arg6) = m ((c.tc : Thread Cert.ReferenceSsmPrepFwdIdeal.nD Cert.ReferenceSsmPrepFwdIdeal.τ).loc Cert.ReferenceSsmPrepFwdIdeal.main_arg6))
      ∧ r.2.sem = fun _ => 0)

def quiescent_KernelPostFwd [hKernelPostFwd : Cert.KernelPostFwd.Facts] : Prop :=
  ∀ (m : (ℓ : Loc Cert.KernelPostFwd.nD Cert.KernelPostFwd.τ Cert.KernelPostFwd.sig) → Buf (Elt Bits) ℓ) (g : Dev Cert.KernelPostFwd.nD → PrngReg), Pre_KernelPostFwd m →
    θ_run (Cert.KernelPostFwd.defs (F := Bits)) (onTc (τ := Cert.KernelPostFwd.τ) (Cert.KernelPostFwd.main (F := Bits))) ⟨m, fun _ => 0, g⟩ (fun r => (∀ c : Dev Cert.KernelPostFwd.nD,
      r.2.mem ((c.tc : Thread Cert.KernelPostFwd.nD Cert.KernelPostFwd.τ).loc Cert.KernelPostFwd.main_arg0) = m ((c.tc : Thread Cert.KernelPostFwd.nD Cert.KernelPostFwd.τ).loc Cert.KernelPostFwd.main_arg0)
      ∧ r.2.mem ((c.tc : Thread Cert.KernelPostFwd.nD Cert.KernelPostFwd.τ).loc Cert.KernelPostFwd.main_arg1) = m ((c.tc : Thread Cert.KernelPostFwd.nD Cert.KernelPostFwd.τ).loc Cert.KernelPostFwd.main_arg1)
      ∧ r.2.mem ((c.tc : Thread Cert.KernelPostFwd.nD Cert.KernelPostFwd.τ).loc Cert.KernelPostFwd.main_arg2) = m ((c.tc : Thread Cert.KernelPostFwd.nD Cert.KernelPostFwd.τ).loc Cert.KernelPostFwd.main_arg2)
      ∧ r.2.mem ((c.tc : Thread Cert.KernelPostFwd.nD Cert.KernelPostFwd.τ).loc Cert.KernelPostFwd.main_arg3) = m ((c.tc : Thread Cert.KernelPostFwd.nD Cert.KernelPostFwd.τ).loc Cert.KernelPostFwd.main_arg3)
      ∧ r.2.mem ((c.tc : Thread Cert.KernelPostFwd.nD Cert.KernelPostFwd.τ).loc Cert.KernelPostFwd.main_arg4) = m ((c.tc : Thread Cert.KernelPostFwd.nD Cert.KernelPostFwd.τ).loc Cert.KernelPostFwd.main_arg4)
      ∧ r.2.mem ((c.tc : Thread Cert.KernelPostFwd.nD Cert.KernelPostFwd.τ).loc Cert.KernelPostFwd.main_arg5) = m ((c.tc : Thread Cert.KernelPostFwd.nD Cert.KernelPostFwd.τ).loc Cert.KernelPostFwd.main_arg5)
      ∧ r.2.mem ((c.tc : Thread Cert.KernelPostFwd.nD Cert.KernelPostFwd.τ).loc Cert.KernelPostFwd.main_arg6) = m ((c.tc : Thread Cert.KernelPostFwd.nD Cert.KernelPostFwd.τ).loc Cert.KernelPostFwd.main_arg6)
      ∧ r.2.mem ((c.tc : Thread Cert.KernelPostFwd.nD Cert.KernelPostFwd.τ).loc Cert.KernelPostFwd.main_arg7) = m ((c.tc : Thread Cert.KernelPostFwd.nD Cert.KernelPostFwd.τ).loc Cert.KernelPostFwd.main_arg7)
      ∧ r.2.mem ((c.tc : Thread Cert.KernelPostFwd.nD Cert.KernelPostFwd.τ).loc Cert.KernelPostFwd.main_arg8) = m ((c.tc : Thread Cert.KernelPostFwd.nD Cert.KernelPostFwd.τ).loc Cert.KernelPostFwd.main_arg8)
      ∧ r.2.mem ((c.tc : Thread Cert.KernelPostFwd.nD Cert.KernelPostFwd.τ).loc Cert.KernelPostFwd.main_arg9) = m ((c.tc : Thread Cert.KernelPostFwd.nD Cert.KernelPostFwd.τ).loc Cert.KernelPostFwd.main_arg9)
      ∧ r.2.mem ((c.tc : Thread Cert.KernelPostFwd.nD Cert.KernelPostFwd.τ).loc Cert.KernelPostFwd.main_arg10) = m ((c.tc : Thread Cert.KernelPostFwd.nD Cert.KernelPostFwd.τ).loc Cert.KernelPostFwd.main_arg10)
      ∧ r.2.mem ((c.tc : Thread Cert.KernelPostFwd.nD Cert.KernelPostFwd.τ).loc Cert.KernelPostFwd.main_arg11) = m ((c.tc : Thread Cert.KernelPostFwd.nD Cert.KernelPostFwd.τ).loc Cert.KernelPostFwd.main_arg11)
      ∧ r.2.mem ((c.tc : Thread Cert.KernelPostFwd.nD Cert.KernelPostFwd.τ).loc Cert.KernelPostFwd.main_arg12) = m ((c.tc : Thread Cert.KernelPostFwd.nD Cert.KernelPostFwd.τ).loc Cert.KernelPostFwd.main_arg12)
      ∧ r.2.mem ((c.tc : Thread Cert.KernelPostFwd.nD Cert.KernelPostFwd.τ).loc Cert.KernelPostFwd.main_arg13) = m ((c.tc : Thread Cert.KernelPostFwd.nD Cert.KernelPostFwd.τ).loc Cert.KernelPostFwd.main_arg13)
      ∧ r.2.mem ((c.tc : Thread Cert.KernelPostFwd.nD Cert.KernelPostFwd.τ).loc Cert.KernelPostFwd.main_arg14) = m ((c.tc : Thread Cert.KernelPostFwd.nD Cert.KernelPostFwd.τ).loc Cert.KernelPostFwd.main_arg14)
      ∧ r.2.mem ((c.tc : Thread Cert.KernelPostFwd.nD Cert.KernelPostFwd.τ).loc Cert.KernelPostFwd.main_arg15) = m ((c.tc : Thread Cert.KernelPostFwd.nD Cert.KernelPostFwd.τ).loc Cert.KernelPostFwd.main_arg15)
      ∧ r.2.mem ((c.tc : Thread Cert.KernelPostFwd.nD Cert.KernelPostFwd.τ).loc Cert.KernelPostFwd.main_arg16) = m ((c.tc : Thread Cert.KernelPostFwd.nD Cert.KernelPostFwd.τ).loc Cert.KernelPostFwd.main_arg16))
      ∧ r.2.sem = fun _ => 0)

def quiescent_KernelPostFwdIdeal [hKernelPostFwdIdeal : Cert.KernelPostFwdIdeal.Facts] : Prop :=
  ∀ (m : (ℓ : Loc Cert.KernelPostFwdIdeal.nD Cert.KernelPostFwdIdeal.τ Cert.KernelPostFwdIdeal.sig) → Buf (Elt Ideal) ℓ) (g : Dev Cert.KernelPostFwdIdeal.nD → PrngReg), Pre_KernelPostFwdIdeal m →
    θ_run (Cert.KernelPostFwdIdeal.defs (F := Ideal)) (onTc (τ := Cert.KernelPostFwdIdeal.τ) (Cert.KernelPostFwdIdeal.main (F := Ideal))) ⟨m, fun _ => 0, g⟩ (fun r => (∀ c : Dev Cert.KernelPostFwdIdeal.nD,
      r.2.mem ((c.tc : Thread Cert.KernelPostFwdIdeal.nD Cert.KernelPostFwdIdeal.τ).loc Cert.KernelPostFwdIdeal.main_arg0) = m ((c.tc : Thread Cert.KernelPostFwdIdeal.nD Cert.KernelPostFwdIdeal.τ).loc Cert.KernelPostFwdIdeal.main_arg0)
      ∧ r.2.mem ((c.tc : Thread Cert.KernelPostFwdIdeal.nD Cert.KernelPostFwdIdeal.τ).loc Cert.KernelPostFwdIdeal.main_arg1) = m ((c.tc : Thread Cert.KernelPostFwdIdeal.nD Cert.KernelPostFwdIdeal.τ).loc Cert.KernelPostFwdIdeal.main_arg1)
      ∧ r.2.mem ((c.tc : Thread Cert.KernelPostFwdIdeal.nD Cert.KernelPostFwdIdeal.τ).loc Cert.KernelPostFwdIdeal.main_arg2) = m ((c.tc : Thread Cert.KernelPostFwdIdeal.nD Cert.KernelPostFwdIdeal.τ).loc Cert.KernelPostFwdIdeal.main_arg2)
      ∧ r.2.mem ((c.tc : Thread Cert.KernelPostFwdIdeal.nD Cert.KernelPostFwdIdeal.τ).loc Cert.KernelPostFwdIdeal.main_arg3) = m ((c.tc : Thread Cert.KernelPostFwdIdeal.nD Cert.KernelPostFwdIdeal.τ).loc Cert.KernelPostFwdIdeal.main_arg3)
      ∧ r.2.mem ((c.tc : Thread Cert.KernelPostFwdIdeal.nD Cert.KernelPostFwdIdeal.τ).loc Cert.KernelPostFwdIdeal.main_arg4) = m ((c.tc : Thread Cert.KernelPostFwdIdeal.nD Cert.KernelPostFwdIdeal.τ).loc Cert.KernelPostFwdIdeal.main_arg4)
      ∧ r.2.mem ((c.tc : Thread Cert.KernelPostFwdIdeal.nD Cert.KernelPostFwdIdeal.τ).loc Cert.KernelPostFwdIdeal.main_arg5) = m ((c.tc : Thread Cert.KernelPostFwdIdeal.nD Cert.KernelPostFwdIdeal.τ).loc Cert.KernelPostFwdIdeal.main_arg5)
      ∧ r.2.mem ((c.tc : Thread Cert.KernelPostFwdIdeal.nD Cert.KernelPostFwdIdeal.τ).loc Cert.KernelPostFwdIdeal.main_arg6) = m ((c.tc : Thread Cert.KernelPostFwdIdeal.nD Cert.KernelPostFwdIdeal.τ).loc Cert.KernelPostFwdIdeal.main_arg6)
      ∧ r.2.mem ((c.tc : Thread Cert.KernelPostFwdIdeal.nD Cert.KernelPostFwdIdeal.τ).loc Cert.KernelPostFwdIdeal.main_arg7) = m ((c.tc : Thread Cert.KernelPostFwdIdeal.nD Cert.KernelPostFwdIdeal.τ).loc Cert.KernelPostFwdIdeal.main_arg7)
      ∧ r.2.mem ((c.tc : Thread Cert.KernelPostFwdIdeal.nD Cert.KernelPostFwdIdeal.τ).loc Cert.KernelPostFwdIdeal.main_arg8) = m ((c.tc : Thread Cert.KernelPostFwdIdeal.nD Cert.KernelPostFwdIdeal.τ).loc Cert.KernelPostFwdIdeal.main_arg8)
      ∧ r.2.mem ((c.tc : Thread Cert.KernelPostFwdIdeal.nD Cert.KernelPostFwdIdeal.τ).loc Cert.KernelPostFwdIdeal.main_arg9) = m ((c.tc : Thread Cert.KernelPostFwdIdeal.nD Cert.KernelPostFwdIdeal.τ).loc Cert.KernelPostFwdIdeal.main_arg9)
      ∧ r.2.mem ((c.tc : Thread Cert.KernelPostFwdIdeal.nD Cert.KernelPostFwdIdeal.τ).loc Cert.KernelPostFwdIdeal.main_arg10) = m ((c.tc : Thread Cert.KernelPostFwdIdeal.nD Cert.KernelPostFwdIdeal.τ).loc Cert.KernelPostFwdIdeal.main_arg10)
      ∧ r.2.mem ((c.tc : Thread Cert.KernelPostFwdIdeal.nD Cert.KernelPostFwdIdeal.τ).loc Cert.KernelPostFwdIdeal.main_arg11) = m ((c.tc : Thread Cert.KernelPostFwdIdeal.nD Cert.KernelPostFwdIdeal.τ).loc Cert.KernelPostFwdIdeal.main_arg11)
      ∧ r.2.mem ((c.tc : Thread Cert.KernelPostFwdIdeal.nD Cert.KernelPostFwdIdeal.τ).loc Cert.KernelPostFwdIdeal.main_arg12) = m ((c.tc : Thread Cert.KernelPostFwdIdeal.nD Cert.KernelPostFwdIdeal.τ).loc Cert.KernelPostFwdIdeal.main_arg12)
      ∧ r.2.mem ((c.tc : Thread Cert.KernelPostFwdIdeal.nD Cert.KernelPostFwdIdeal.τ).loc Cert.KernelPostFwdIdeal.main_arg13) = m ((c.tc : Thread Cert.KernelPostFwdIdeal.nD Cert.KernelPostFwdIdeal.τ).loc Cert.KernelPostFwdIdeal.main_arg13)
      ∧ r.2.mem ((c.tc : Thread Cert.KernelPostFwdIdeal.nD Cert.KernelPostFwdIdeal.τ).loc Cert.KernelPostFwdIdeal.main_arg14) = m ((c.tc : Thread Cert.KernelPostFwdIdeal.nD Cert.KernelPostFwdIdeal.τ).loc Cert.KernelPostFwdIdeal.main_arg14)
      ∧ r.2.mem ((c.tc : Thread Cert.KernelPostFwdIdeal.nD Cert.KernelPostFwdIdeal.τ).loc Cert.KernelPostFwdIdeal.main_arg15) = m ((c.tc : Thread Cert.KernelPostFwdIdeal.nD Cert.KernelPostFwdIdeal.τ).loc Cert.KernelPostFwdIdeal.main_arg15)
      ∧ r.2.mem ((c.tc : Thread Cert.KernelPostFwdIdeal.nD Cert.KernelPostFwdIdeal.τ).loc Cert.KernelPostFwdIdeal.main_arg16) = m ((c.tc : Thread Cert.KernelPostFwdIdeal.nD Cert.KernelPostFwdIdeal.τ).loc Cert.KernelPostFwdIdeal.main_arg16))
      ∧ r.2.sem = fun _ => 0)

def quiescent_ReferencePostFwdIdeal [hReferencePostFwdIdeal : Cert.ReferencePostFwdIdeal.Facts] : Prop :=
  ∀ (m : (ℓ : Loc Cert.ReferencePostFwdIdeal.nD Cert.ReferencePostFwdIdeal.τ Cert.ReferencePostFwdIdeal.sig) → Buf (Elt Ideal) ℓ) (g : Dev Cert.ReferencePostFwdIdeal.nD → PrngReg), Pre_ReferencePostFwdIdeal m →
    θ_run (Cert.ReferencePostFwdIdeal.defs (F := Ideal)) (onTc (τ := Cert.ReferencePostFwdIdeal.τ) (Cert.ReferencePostFwdIdeal.main (F := Ideal))) ⟨m, fun _ => 0, g⟩ (fun r => (∀ c : Dev Cert.ReferencePostFwdIdeal.nD,
      r.2.mem ((c.tc : Thread Cert.ReferencePostFwdIdeal.nD Cert.ReferencePostFwdIdeal.τ).loc Cert.ReferencePostFwdIdeal.main_arg0) = m ((c.tc : Thread Cert.ReferencePostFwdIdeal.nD Cert.ReferencePostFwdIdeal.τ).loc Cert.ReferencePostFwdIdeal.main_arg0)
      ∧ r.2.mem ((c.tc : Thread Cert.ReferencePostFwdIdeal.nD Cert.ReferencePostFwdIdeal.τ).loc Cert.ReferencePostFwdIdeal.main_arg1) = m ((c.tc : Thread Cert.ReferencePostFwdIdeal.nD Cert.ReferencePostFwdIdeal.τ).loc Cert.ReferencePostFwdIdeal.main_arg1)
      ∧ r.2.mem ((c.tc : Thread Cert.ReferencePostFwdIdeal.nD Cert.ReferencePostFwdIdeal.τ).loc Cert.ReferencePostFwdIdeal.main_arg2) = m ((c.tc : Thread Cert.ReferencePostFwdIdeal.nD Cert.ReferencePostFwdIdeal.τ).loc Cert.ReferencePostFwdIdeal.main_arg2)
      ∧ r.2.mem ((c.tc : Thread Cert.ReferencePostFwdIdeal.nD Cert.ReferencePostFwdIdeal.τ).loc Cert.ReferencePostFwdIdeal.main_arg3) = m ((c.tc : Thread Cert.ReferencePostFwdIdeal.nD Cert.ReferencePostFwdIdeal.τ).loc Cert.ReferencePostFwdIdeal.main_arg3)
      ∧ r.2.mem ((c.tc : Thread Cert.ReferencePostFwdIdeal.nD Cert.ReferencePostFwdIdeal.τ).loc Cert.ReferencePostFwdIdeal.main_arg4) = m ((c.tc : Thread Cert.ReferencePostFwdIdeal.nD Cert.ReferencePostFwdIdeal.τ).loc Cert.ReferencePostFwdIdeal.main_arg4)
      ∧ r.2.mem ((c.tc : Thread Cert.ReferencePostFwdIdeal.nD Cert.ReferencePostFwdIdeal.τ).loc Cert.ReferencePostFwdIdeal.main_arg5) = m ((c.tc : Thread Cert.ReferencePostFwdIdeal.nD Cert.ReferencePostFwdIdeal.τ).loc Cert.ReferencePostFwdIdeal.main_arg5)
      ∧ r.2.mem ((c.tc : Thread Cert.ReferencePostFwdIdeal.nD Cert.ReferencePostFwdIdeal.τ).loc Cert.ReferencePostFwdIdeal.main_arg6) = m ((c.tc : Thread Cert.ReferencePostFwdIdeal.nD Cert.ReferencePostFwdIdeal.τ).loc Cert.ReferencePostFwdIdeal.main_arg6)
      ∧ r.2.mem ((c.tc : Thread Cert.ReferencePostFwdIdeal.nD Cert.ReferencePostFwdIdeal.τ).loc Cert.ReferencePostFwdIdeal.main_arg7) = m ((c.tc : Thread Cert.ReferencePostFwdIdeal.nD Cert.ReferencePostFwdIdeal.τ).loc Cert.ReferencePostFwdIdeal.main_arg7)
      ∧ r.2.mem ((c.tc : Thread Cert.ReferencePostFwdIdeal.nD Cert.ReferencePostFwdIdeal.τ).loc Cert.ReferencePostFwdIdeal.main_arg8) = m ((c.tc : Thread Cert.ReferencePostFwdIdeal.nD Cert.ReferencePostFwdIdeal.τ).loc Cert.ReferencePostFwdIdeal.main_arg8)
      ∧ r.2.mem ((c.tc : Thread Cert.ReferencePostFwdIdeal.nD Cert.ReferencePostFwdIdeal.τ).loc Cert.ReferencePostFwdIdeal.main_arg9) = m ((c.tc : Thread Cert.ReferencePostFwdIdeal.nD Cert.ReferencePostFwdIdeal.τ).loc Cert.ReferencePostFwdIdeal.main_arg9)
      ∧ r.2.mem ((c.tc : Thread Cert.ReferencePostFwdIdeal.nD Cert.ReferencePostFwdIdeal.τ).loc Cert.ReferencePostFwdIdeal.main_arg10) = m ((c.tc : Thread Cert.ReferencePostFwdIdeal.nD Cert.ReferencePostFwdIdeal.τ).loc Cert.ReferencePostFwdIdeal.main_arg10)
      ∧ r.2.mem ((c.tc : Thread Cert.ReferencePostFwdIdeal.nD Cert.ReferencePostFwdIdeal.τ).loc Cert.ReferencePostFwdIdeal.main_arg11) = m ((c.tc : Thread Cert.ReferencePostFwdIdeal.nD Cert.ReferencePostFwdIdeal.τ).loc Cert.ReferencePostFwdIdeal.main_arg11)
      ∧ r.2.mem ((c.tc : Thread Cert.ReferencePostFwdIdeal.nD Cert.ReferencePostFwdIdeal.τ).loc Cert.ReferencePostFwdIdeal.main_arg12) = m ((c.tc : Thread Cert.ReferencePostFwdIdeal.nD Cert.ReferencePostFwdIdeal.τ).loc Cert.ReferencePostFwdIdeal.main_arg12)
      ∧ r.2.mem ((c.tc : Thread Cert.ReferencePostFwdIdeal.nD Cert.ReferencePostFwdIdeal.τ).loc Cert.ReferencePostFwdIdeal.main_arg13) = m ((c.tc : Thread Cert.ReferencePostFwdIdeal.nD Cert.ReferencePostFwdIdeal.τ).loc Cert.ReferencePostFwdIdeal.main_arg13)
      ∧ r.2.mem ((c.tc : Thread Cert.ReferencePostFwdIdeal.nD Cert.ReferencePostFwdIdeal.τ).loc Cert.ReferencePostFwdIdeal.main_arg14) = m ((c.tc : Thread Cert.ReferencePostFwdIdeal.nD Cert.ReferencePostFwdIdeal.τ).loc Cert.ReferencePostFwdIdeal.main_arg14)
      ∧ r.2.mem ((c.tc : Thread Cert.ReferencePostFwdIdeal.nD Cert.ReferencePostFwdIdeal.τ).loc Cert.ReferencePostFwdIdeal.main_arg15) = m ((c.tc : Thread Cert.ReferencePostFwdIdeal.nD Cert.ReferencePostFwdIdeal.τ).loc Cert.ReferencePostFwdIdeal.main_arg15)
      ∧ r.2.mem ((c.tc : Thread Cert.ReferencePostFwdIdeal.nD Cert.ReferencePostFwdIdeal.τ).loc Cert.ReferencePostFwdIdeal.main_arg16) = m ((c.tc : Thread Cert.ReferencePostFwdIdeal.nD Cert.ReferencePostFwdIdeal.τ).loc Cert.ReferencePostFwdIdeal.main_arg16))
      ∧ r.2.sem = fun _ => 0)

def quiescent_KernelPreFwd [hKernelPreFwd : Cert.KernelPreFwd.Facts] : Prop :=
  ∀ (m : (ℓ : Loc Cert.KernelPreFwd.nD Cert.KernelPreFwd.τ Cert.KernelPreFwd.sig) → Buf (Elt Bits) ℓ) (g : Dev Cert.KernelPreFwd.nD → PrngReg), Pre_KernelPreFwd m →
    θ_run (Cert.KernelPreFwd.defs (F := Bits)) (onTc (τ := Cert.KernelPreFwd.τ) (Cert.KernelPreFwd.main (F := Bits))) ⟨m, fun _ => 0, g⟩ (fun r => (∀ c : Dev Cert.KernelPreFwd.nD,
      r.2.mem ((c.tc : Thread Cert.KernelPreFwd.nD Cert.KernelPreFwd.τ).loc Cert.KernelPreFwd.main_arg0) = m ((c.tc : Thread Cert.KernelPreFwd.nD Cert.KernelPreFwd.τ).loc Cert.KernelPreFwd.main_arg0)
      ∧ r.2.mem ((c.tc : Thread Cert.KernelPreFwd.nD Cert.KernelPreFwd.τ).loc Cert.KernelPreFwd.main_arg1) = m ((c.tc : Thread Cert.KernelPreFwd.nD Cert.KernelPreFwd.τ).loc Cert.KernelPreFwd.main_arg1)
      ∧ r.2.mem ((c.tc : Thread Cert.KernelPreFwd.nD Cert.KernelPreFwd.τ).loc Cert.KernelPreFwd.main_arg2) = m ((c.tc : Thread Cert.KernelPreFwd.nD Cert.KernelPreFwd.τ).loc Cert.KernelPreFwd.main_arg2)
      ∧ r.2.mem ((c.tc : Thread Cert.KernelPreFwd.nD Cert.KernelPreFwd.τ).loc Cert.KernelPreFwd.main_arg3) = m ((c.tc : Thread Cert.KernelPreFwd.nD Cert.KernelPreFwd.τ).loc Cert.KernelPreFwd.main_arg3)
      ∧ r.2.mem ((c.tc : Thread Cert.KernelPreFwd.nD Cert.KernelPreFwd.τ).loc Cert.KernelPreFwd.main_arg4) = m ((c.tc : Thread Cert.KernelPreFwd.nD Cert.KernelPreFwd.τ).loc Cert.KernelPreFwd.main_arg4)
      ∧ r.2.mem ((c.tc : Thread Cert.KernelPreFwd.nD Cert.KernelPreFwd.τ).loc Cert.KernelPreFwd.main_arg5) = m ((c.tc : Thread Cert.KernelPreFwd.nD Cert.KernelPreFwd.τ).loc Cert.KernelPreFwd.main_arg5)
      ∧ r.2.mem ((c.tc : Thread Cert.KernelPreFwd.nD Cert.KernelPreFwd.τ).loc Cert.KernelPreFwd.main_arg6) = m ((c.tc : Thread Cert.KernelPreFwd.nD Cert.KernelPreFwd.τ).loc Cert.KernelPreFwd.main_arg6)
      ∧ r.2.mem ((c.tc : Thread Cert.KernelPreFwd.nD Cert.KernelPreFwd.τ).loc Cert.KernelPreFwd.main_arg7) = m ((c.tc : Thread Cert.KernelPreFwd.nD Cert.KernelPreFwd.τ).loc Cert.KernelPreFwd.main_arg7)
      ∧ r.2.mem ((c.tc : Thread Cert.KernelPreFwd.nD Cert.KernelPreFwd.τ).loc Cert.KernelPreFwd.main_arg8) = m ((c.tc : Thread Cert.KernelPreFwd.nD Cert.KernelPreFwd.τ).loc Cert.KernelPreFwd.main_arg8)
      ∧ r.2.mem ((c.tc : Thread Cert.KernelPreFwd.nD Cert.KernelPreFwd.τ).loc Cert.KernelPreFwd.main_arg9) = m ((c.tc : Thread Cert.KernelPreFwd.nD Cert.KernelPreFwd.τ).loc Cert.KernelPreFwd.main_arg9)
      ∧ r.2.mem ((c.tc : Thread Cert.KernelPreFwd.nD Cert.KernelPreFwd.τ).loc Cert.KernelPreFwd.main_arg10) = m ((c.tc : Thread Cert.KernelPreFwd.nD Cert.KernelPreFwd.τ).loc Cert.KernelPreFwd.main_arg10)
      ∧ r.2.mem ((c.tc : Thread Cert.KernelPreFwd.nD Cert.KernelPreFwd.τ).loc Cert.KernelPreFwd.main_arg11) = m ((c.tc : Thread Cert.KernelPreFwd.nD Cert.KernelPreFwd.τ).loc Cert.KernelPreFwd.main_arg11)
      ∧ r.2.mem ((c.tc : Thread Cert.KernelPreFwd.nD Cert.KernelPreFwd.τ).loc Cert.KernelPreFwd.main_arg12) = m ((c.tc : Thread Cert.KernelPreFwd.nD Cert.KernelPreFwd.τ).loc Cert.KernelPreFwd.main_arg12)
      ∧ r.2.mem ((c.tc : Thread Cert.KernelPreFwd.nD Cert.KernelPreFwd.τ).loc Cert.KernelPreFwd.main_arg13) = m ((c.tc : Thread Cert.KernelPreFwd.nD Cert.KernelPreFwd.τ).loc Cert.KernelPreFwd.main_arg13)
      ∧ r.2.mem ((c.tc : Thread Cert.KernelPreFwd.nD Cert.KernelPreFwd.τ).loc Cert.KernelPreFwd.main_arg14) = m ((c.tc : Thread Cert.KernelPreFwd.nD Cert.KernelPreFwd.τ).loc Cert.KernelPreFwd.main_arg14))
      ∧ r.2.sem = fun _ => 0)

def quiescent_KernelPreFwdIdeal [hKernelPreFwdIdeal : Cert.KernelPreFwdIdeal.Facts] : Prop :=
  ∀ (m : (ℓ : Loc Cert.KernelPreFwdIdeal.nD Cert.KernelPreFwdIdeal.τ Cert.KernelPreFwdIdeal.sig) → Buf (Elt Ideal) ℓ) (g : Dev Cert.KernelPreFwdIdeal.nD → PrngReg), Pre_KernelPreFwdIdeal m →
    θ_run (Cert.KernelPreFwdIdeal.defs (F := Ideal)) (onTc (τ := Cert.KernelPreFwdIdeal.τ) (Cert.KernelPreFwdIdeal.main (F := Ideal))) ⟨m, fun _ => 0, g⟩ (fun r => (∀ c : Dev Cert.KernelPreFwdIdeal.nD,
      r.2.mem ((c.tc : Thread Cert.KernelPreFwdIdeal.nD Cert.KernelPreFwdIdeal.τ).loc Cert.KernelPreFwdIdeal.main_arg0) = m ((c.tc : Thread Cert.KernelPreFwdIdeal.nD Cert.KernelPreFwdIdeal.τ).loc Cert.KernelPreFwdIdeal.main_arg0)
      ∧ r.2.mem ((c.tc : Thread Cert.KernelPreFwdIdeal.nD Cert.KernelPreFwdIdeal.τ).loc Cert.KernelPreFwdIdeal.main_arg1) = m ((c.tc : Thread Cert.KernelPreFwdIdeal.nD Cert.KernelPreFwdIdeal.τ).loc Cert.KernelPreFwdIdeal.main_arg1)
      ∧ r.2.mem ((c.tc : Thread Cert.KernelPreFwdIdeal.nD Cert.KernelPreFwdIdeal.τ).loc Cert.KernelPreFwdIdeal.main_arg2) = m ((c.tc : Thread Cert.KernelPreFwdIdeal.nD Cert.KernelPreFwdIdeal.τ).loc Cert.KernelPreFwdIdeal.main_arg2)
      ∧ r.2.mem ((c.tc : Thread Cert.KernelPreFwdIdeal.nD Cert.KernelPreFwdIdeal.τ).loc Cert.KernelPreFwdIdeal.main_arg3) = m ((c.tc : Thread Cert.KernelPreFwdIdeal.nD Cert.KernelPreFwdIdeal.τ).loc Cert.KernelPreFwdIdeal.main_arg3)
      ∧ r.2.mem ((c.tc : Thread Cert.KernelPreFwdIdeal.nD Cert.KernelPreFwdIdeal.τ).loc Cert.KernelPreFwdIdeal.main_arg4) = m ((c.tc : Thread Cert.KernelPreFwdIdeal.nD Cert.KernelPreFwdIdeal.τ).loc Cert.KernelPreFwdIdeal.main_arg4)
      ∧ r.2.mem ((c.tc : Thread Cert.KernelPreFwdIdeal.nD Cert.KernelPreFwdIdeal.τ).loc Cert.KernelPreFwdIdeal.main_arg5) = m ((c.tc : Thread Cert.KernelPreFwdIdeal.nD Cert.KernelPreFwdIdeal.τ).loc Cert.KernelPreFwdIdeal.main_arg5)
      ∧ r.2.mem ((c.tc : Thread Cert.KernelPreFwdIdeal.nD Cert.KernelPreFwdIdeal.τ).loc Cert.KernelPreFwdIdeal.main_arg6) = m ((c.tc : Thread Cert.KernelPreFwdIdeal.nD Cert.KernelPreFwdIdeal.τ).loc Cert.KernelPreFwdIdeal.main_arg6)
      ∧ r.2.mem ((c.tc : Thread Cert.KernelPreFwdIdeal.nD Cert.KernelPreFwdIdeal.τ).loc Cert.KernelPreFwdIdeal.main_arg7) = m ((c.tc : Thread Cert.KernelPreFwdIdeal.nD Cert.KernelPreFwdIdeal.τ).loc Cert.KernelPreFwdIdeal.main_arg7)
      ∧ r.2.mem ((c.tc : Thread Cert.KernelPreFwdIdeal.nD Cert.KernelPreFwdIdeal.τ).loc Cert.KernelPreFwdIdeal.main_arg8) = m ((c.tc : Thread Cert.KernelPreFwdIdeal.nD Cert.KernelPreFwdIdeal.τ).loc Cert.KernelPreFwdIdeal.main_arg8)
      ∧ r.2.mem ((c.tc : Thread Cert.KernelPreFwdIdeal.nD Cert.KernelPreFwdIdeal.τ).loc Cert.KernelPreFwdIdeal.main_arg9) = m ((c.tc : Thread Cert.KernelPreFwdIdeal.nD Cert.KernelPreFwdIdeal.τ).loc Cert.KernelPreFwdIdeal.main_arg9)
      ∧ r.2.mem ((c.tc : Thread Cert.KernelPreFwdIdeal.nD Cert.KernelPreFwdIdeal.τ).loc Cert.KernelPreFwdIdeal.main_arg10) = m ((c.tc : Thread Cert.KernelPreFwdIdeal.nD Cert.KernelPreFwdIdeal.τ).loc Cert.KernelPreFwdIdeal.main_arg10)
      ∧ r.2.mem ((c.tc : Thread Cert.KernelPreFwdIdeal.nD Cert.KernelPreFwdIdeal.τ).loc Cert.KernelPreFwdIdeal.main_arg11) = m ((c.tc : Thread Cert.KernelPreFwdIdeal.nD Cert.KernelPreFwdIdeal.τ).loc Cert.KernelPreFwdIdeal.main_arg11)
      ∧ r.2.mem ((c.tc : Thread Cert.KernelPreFwdIdeal.nD Cert.KernelPreFwdIdeal.τ).loc Cert.KernelPreFwdIdeal.main_arg12) = m ((c.tc : Thread Cert.KernelPreFwdIdeal.nD Cert.KernelPreFwdIdeal.τ).loc Cert.KernelPreFwdIdeal.main_arg12)
      ∧ r.2.mem ((c.tc : Thread Cert.KernelPreFwdIdeal.nD Cert.KernelPreFwdIdeal.τ).loc Cert.KernelPreFwdIdeal.main_arg13) = m ((c.tc : Thread Cert.KernelPreFwdIdeal.nD Cert.KernelPreFwdIdeal.τ).loc Cert.KernelPreFwdIdeal.main_arg13)
      ∧ r.2.mem ((c.tc : Thread Cert.KernelPreFwdIdeal.nD Cert.KernelPreFwdIdeal.τ).loc Cert.KernelPreFwdIdeal.main_arg14) = m ((c.tc : Thread Cert.KernelPreFwdIdeal.nD Cert.KernelPreFwdIdeal.τ).loc Cert.KernelPreFwdIdeal.main_arg14))
      ∧ r.2.sem = fun _ => 0)

def preserves_KernelMemNorm_KernelMemNormIdeal : Prop :=
  True

def algebraic_KernelMemNormIdeal_ReferenceMemNormIdeal [hKernelMemNormIdeal : Cert.KernelMemNormIdeal.Facts] [hReferenceMemNormIdeal : Cert.ReferenceMemNormIdeal.Facts] : Prop :=
  ∀ (m : (ℓ : Loc Cert.KernelMemNormIdeal.nD Cert.KernelMemNormIdeal.τ Cert.KernelMemNormIdeal.sig) → Buf (Elt Ideal) ℓ) (g : Dev Cert.KernelMemNormIdeal.nD → PrngReg)
    (m' : (ℓ : Loc Cert.ReferenceMemNormIdeal.nD Cert.ReferenceMemNormIdeal.τ Cert.ReferenceMemNormIdeal.sig) → Buf (Elt Ideal) ℓ) (g' : Dev Cert.ReferenceMemNormIdeal.nD → PrngReg), Pre_KernelMemNormIdeal m →
    (∀ c : Dev Cert.KernelMemNormIdeal.nD,
      m' ((c.tc : Thread Cert.ReferenceMemNormIdeal.nD Cert.ReferenceMemNormIdeal.τ).loc Cert.ReferenceMemNormIdeal.main_arg0) = m ((c.tc : Thread Cert.KernelMemNormIdeal.nD Cert.KernelMemNormIdeal.τ).loc Cert.KernelMemNormIdeal.main_arg0)
      ∧ m' ((c.tc : Thread Cert.ReferenceMemNormIdeal.nD Cert.ReferenceMemNormIdeal.τ).loc Cert.ReferenceMemNormIdeal.main_arg1) = m ((c.tc : Thread Cert.KernelMemNormIdeal.nD Cert.KernelMemNormIdeal.τ).loc Cert.KernelMemNormIdeal.main_arg1)
      ∧ m' ((c.tc : Thread Cert.ReferenceMemNormIdeal.nD Cert.ReferenceMemNormIdeal.τ).loc Cert.ReferenceMemNormIdeal.main_arg2) = m ((c.tc : Thread Cert.KernelMemNormIdeal.nD Cert.KernelMemNormIdeal.τ).loc Cert.KernelMemNormIdeal.main_arg2)) →
    ∃ (v0 : (c : Dev Cert.KernelMemNormIdeal.nD) → Buf (Elt Ideal) ((c.tc : Thread Cert.KernelMemNormIdeal.nD Cert.KernelMemNormIdeal.τ).loc Cert.KernelMemNormIdeal.main_v2)),
      θ_run (Cert.KernelMemNormIdeal.defs (F := Ideal)) (onTc (τ := Cert.KernelMemNormIdeal.τ) (Cert.KernelMemNormIdeal.main (F := Ideal))) ⟨m, fun _ => 0, g⟩ (fun r => ∀ c : Dev Cert.KernelMemNormIdeal.nD,
          r.2.mem ((c.tc : Thread Cert.KernelMemNormIdeal.nD Cert.KernelMemNormIdeal.τ).loc Cert.KernelMemNormIdeal.main_v2) = v0 c
          ∧ r.2.mem ((c.tc : Thread Cert.KernelMemNormIdeal.nD Cert.KernelMemNormIdeal.τ).loc Cert.KernelMemNormIdeal.main_arg0) = m ((c.tc : Thread Cert.KernelMemNormIdeal.nD Cert.KernelMemNormIdeal.τ).loc Cert.KernelMemNormIdeal.main_arg0)
          ∧ r.2.mem ((c.tc : Thread Cert.KernelMemNormIdeal.nD Cert.KernelMemNormIdeal.τ).loc Cert.KernelMemNormIdeal.main_arg1) = m ((c.tc : Thread Cert.KernelMemNormIdeal.nD Cert.KernelMemNormIdeal.τ).loc Cert.KernelMemNormIdeal.main_arg1)
          ∧ r.2.mem ((c.tc : Thread Cert.KernelMemNormIdeal.nD Cert.KernelMemNormIdeal.τ).loc Cert.KernelMemNormIdeal.main_arg2) = m ((c.tc : Thread Cert.KernelMemNormIdeal.nD Cert.KernelMemNormIdeal.τ).loc Cert.KernelMemNormIdeal.main_arg2))
      ∧ θ_run (Cert.ReferenceMemNormIdeal.defs (F := Ideal)) (onTc (τ := Cert.ReferenceMemNormIdeal.τ) (Cert.ReferenceMemNormIdeal.main (F := Ideal))) ⟨m', fun _ => 0, g'⟩ (fun r => ∀ c : Dev Cert.ReferenceMemNormIdeal.nD,
          r.2.mem ((c.tc : Thread Cert.ReferenceMemNormIdeal.nD Cert.ReferenceMemNormIdeal.τ).loc Cert.ReferenceMemNormIdeal.main_v20) = v0 c
          ∧ r.2.mem ((c.tc : Thread Cert.ReferenceMemNormIdeal.nD Cert.ReferenceMemNormIdeal.τ).loc Cert.ReferenceMemNormIdeal.main_arg0) = m' ((c.tc : Thread Cert.ReferenceMemNormIdeal.nD Cert.ReferenceMemNormIdeal.τ).loc Cert.ReferenceMemNormIdeal.main_arg0)
          ∧ r.2.mem ((c.tc : Thread Cert.ReferenceMemNormIdeal.nD Cert.ReferenceMemNormIdeal.τ).loc Cert.ReferenceMemNormIdeal.main_arg1) = m' ((c.tc : Thread Cert.ReferenceMemNormIdeal.nD Cert.ReferenceMemNormIdeal.τ).loc Cert.ReferenceMemNormIdeal.main_arg1)
          ∧ r.2.mem ((c.tc : Thread Cert.ReferenceMemNormIdeal.nD Cert.ReferenceMemNormIdeal.τ).loc Cert.ReferenceMemNormIdeal.main_arg2) = m' ((c.tc : Thread Cert.ReferenceMemNormIdeal.nD Cert.ReferenceMemNormIdeal.τ).loc Cert.ReferenceMemNormIdeal.main_arg2))

def preserves_KernelFfnW_KernelFfnWIdeal : Prop :=
  True

def algebraic_KernelFfnWIdeal_ReferenceFfnWIdeal [hKernelFfnWIdeal : Cert.KernelFfnWIdeal.Facts] [hReferenceFfnWIdeal : Cert.ReferenceFfnWIdeal.Facts] : Prop :=
  ∀ (m : (ℓ : Loc Cert.KernelFfnWIdeal.nD Cert.KernelFfnWIdeal.τ Cert.KernelFfnWIdeal.sig) → Buf (Elt Ideal) ℓ) (g : Dev Cert.KernelFfnWIdeal.nD → PrngReg)
    (m' : (ℓ : Loc Cert.ReferenceFfnWIdeal.nD Cert.ReferenceFfnWIdeal.τ Cert.ReferenceFfnWIdeal.sig) → Buf (Elt Ideal) ℓ) (g' : Dev Cert.ReferenceFfnWIdeal.nD → PrngReg), Pre_KernelFfnWIdeal m →
    (∀ c : Dev Cert.KernelFfnWIdeal.nD,
      m' ((c.tc : Thread Cert.ReferenceFfnWIdeal.nD Cert.ReferenceFfnWIdeal.τ).loc Cert.ReferenceFfnWIdeal.main_arg0) = m ((c.tc : Thread Cert.KernelFfnWIdeal.nD Cert.KernelFfnWIdeal.τ).loc Cert.KernelFfnWIdeal.main_arg0)
      ∧ m' ((c.tc : Thread Cert.ReferenceFfnWIdeal.nD Cert.ReferenceFfnWIdeal.τ).loc Cert.ReferenceFfnWIdeal.main_arg1) = m ((c.tc : Thread Cert.KernelFfnWIdeal.nD Cert.KernelFfnWIdeal.τ).loc Cert.KernelFfnWIdeal.main_arg1)
      ∧ m' ((c.tc : Thread Cert.ReferenceFfnWIdeal.nD Cert.ReferenceFfnWIdeal.τ).loc Cert.ReferenceFfnWIdeal.main_arg2) = m ((c.tc : Thread Cert.KernelFfnWIdeal.nD Cert.KernelFfnWIdeal.τ).loc Cert.KernelFfnWIdeal.main_arg2)
      ∧ m' ((c.tc : Thread Cert.ReferenceFfnWIdeal.nD Cert.ReferenceFfnWIdeal.τ).loc Cert.ReferenceFfnWIdeal.main_arg3) = m ((c.tc : Thread Cert.KernelFfnWIdeal.nD Cert.KernelFfnWIdeal.τ).loc Cert.KernelFfnWIdeal.main_arg3)
      ∧ m' ((c.tc : Thread Cert.ReferenceFfnWIdeal.nD Cert.ReferenceFfnWIdeal.τ).loc Cert.ReferenceFfnWIdeal.main_arg4) = m ((c.tc : Thread Cert.KernelFfnWIdeal.nD Cert.KernelFfnWIdeal.τ).loc Cert.KernelFfnWIdeal.main_arg4)
      ∧ m' ((c.tc : Thread Cert.ReferenceFfnWIdeal.nD Cert.ReferenceFfnWIdeal.τ).loc Cert.ReferenceFfnWIdeal.main_arg5) = m ((c.tc : Thread Cert.KernelFfnWIdeal.nD Cert.KernelFfnWIdeal.τ).loc Cert.KernelFfnWIdeal.main_arg5)
      ∧ m' ((c.tc : Thread Cert.ReferenceFfnWIdeal.nD Cert.ReferenceFfnWIdeal.τ).loc Cert.ReferenceFfnWIdeal.main_arg6) = m ((c.tc : Thread Cert.KernelFfnWIdeal.nD Cert.KernelFfnWIdeal.τ).loc Cert.KernelFfnWIdeal.main_arg6)) →
    ∃ (v0 : (c : Dev Cert.KernelFfnWIdeal.nD) → Buf (Elt Ideal) ((c.tc : Thread Cert.KernelFfnWIdeal.nD Cert.KernelFfnWIdeal.τ).loc Cert.KernelFfnWIdeal.main_v33_0)) (v1 : (c : Dev Cert.KernelFfnWIdeal.nD) → Buf (Elt Ideal) ((c.tc : Thread Cert.KernelFfnWIdeal.nD Cert.KernelFfnWIdeal.τ).loc Cert.KernelFfnWIdeal.main_v33_1)) (v2 : (c : Dev Cert.KernelFfnWIdeal.nD) → Buf (Elt Ideal) ((c.tc : Thread Cert.KernelFfnWIdeal.nD Cert.KernelFfnWIdeal.τ).loc Cert.KernelFfnWIdeal.main_v33_2)),
      θ_run (Cert.KernelFfnWIdeal.defs (F := Ideal)) (onTc (τ := Cert.KernelFfnWIdeal.τ) (Cert.KernelFfnWIdeal.main (F := Ideal))) ⟨m, fun _ => 0, g⟩ (fun r => ∀ c : Dev Cert.KernelFfnWIdeal.nD,
          r.2.mem ((c.tc : Thread Cert.KernelFfnWIdeal.nD Cert.KernelFfnWIdeal.τ).loc Cert.KernelFfnWIdeal.main_v33_0) = v0 c
          ∧ r.2.mem ((c.tc : Thread Cert.KernelFfnWIdeal.nD Cert.KernelFfnWIdeal.τ).loc Cert.KernelFfnWIdeal.main_v33_1) = v1 c
          ∧ r.2.mem ((c.tc : Thread Cert.KernelFfnWIdeal.nD Cert.KernelFfnWIdeal.τ).loc Cert.KernelFfnWIdeal.main_v33_2) = v2 c
          ∧ r.2.mem ((c.tc : Thread Cert.KernelFfnWIdeal.nD Cert.KernelFfnWIdeal.τ).loc Cert.KernelFfnWIdeal.main_arg0) = m ((c.tc : Thread Cert.KernelFfnWIdeal.nD Cert.KernelFfnWIdeal.τ).loc Cert.KernelFfnWIdeal.main_arg0)
          ∧ r.2.mem ((c.tc : Thread Cert.KernelFfnWIdeal.nD Cert.KernelFfnWIdeal.τ).loc Cert.KernelFfnWIdeal.main_arg1) = m ((c.tc : Thread Cert.KernelFfnWIdeal.nD Cert.KernelFfnWIdeal.τ).loc Cert.KernelFfnWIdeal.main_arg1)
          ∧ r.2.mem ((c.tc : Thread Cert.KernelFfnWIdeal.nD Cert.KernelFfnWIdeal.τ).loc Cert.KernelFfnWIdeal.main_arg2) = m ((c.tc : Thread Cert.KernelFfnWIdeal.nD Cert.KernelFfnWIdeal.τ).loc Cert.KernelFfnWIdeal.main_arg2)
          ∧ r.2.mem ((c.tc : Thread Cert.KernelFfnWIdeal.nD Cert.KernelFfnWIdeal.τ).loc Cert.KernelFfnWIdeal.main_arg3) = m ((c.tc : Thread Cert.KernelFfnWIdeal.nD Cert.KernelFfnWIdeal.τ).loc Cert.KernelFfnWIdeal.main_arg3)
          ∧ r.2.mem ((c.tc : Thread Cert.KernelFfnWIdeal.nD Cert.KernelFfnWIdeal.τ).loc Cert.KernelFfnWIdeal.main_arg4) = m ((c.tc : Thread Cert.KernelFfnWIdeal.nD Cert.KernelFfnWIdeal.τ).loc Cert.KernelFfnWIdeal.main_arg4)
          ∧ r.2.mem ((c.tc : Thread Cert.KernelFfnWIdeal.nD Cert.KernelFfnWIdeal.τ).loc Cert.KernelFfnWIdeal.main_arg5) = m ((c.tc : Thread Cert.KernelFfnWIdeal.nD Cert.KernelFfnWIdeal.τ).loc Cert.KernelFfnWIdeal.main_arg5)
          ∧ r.2.mem ((c.tc : Thread Cert.KernelFfnWIdeal.nD Cert.KernelFfnWIdeal.τ).loc Cert.KernelFfnWIdeal.main_arg6) = m ((c.tc : Thread Cert.KernelFfnWIdeal.nD Cert.KernelFfnWIdeal.τ).loc Cert.KernelFfnWIdeal.main_arg6))
      ∧ θ_run (Cert.ReferenceFfnWIdeal.defs (F := Ideal)) (onTc (τ := Cert.ReferenceFfnWIdeal.τ) (Cert.ReferenceFfnWIdeal.main (F := Ideal))) ⟨m', fun _ => 0, g'⟩ (fun r => ∀ c : Dev Cert.ReferenceFfnWIdeal.nD,
          r.2.mem ((c.tc : Thread Cert.ReferenceFfnWIdeal.nD Cert.ReferenceFfnWIdeal.τ).loc Cert.ReferenceFfnWIdeal.main_v38) = v0 c
          ∧ r.2.mem ((c.tc : Thread Cert.ReferenceFfnWIdeal.nD Cert.ReferenceFfnWIdeal.τ).loc Cert.ReferenceFfnWIdeal.main_v41) = v1 c
          ∧ r.2.mem ((c.tc : Thread Cert.ReferenceFfnWIdeal.nD Cert.ReferenceFfnWIdeal.τ).loc Cert.ReferenceFfnWIdeal.main_v42) = v2 c
          ∧ r.2.mem ((c.tc : Thread Cert.ReferenceFfnWIdeal.nD Cert.ReferenceFfnWIdeal.τ).loc Cert.ReferenceFfnWIdeal.main_arg0) = m' ((c.tc : Thread Cert.ReferenceFfnWIdeal.nD Cert.ReferenceFfnWIdeal.τ).loc Cert.ReferenceFfnWIdeal.main_arg0)
          ∧ r.2.mem ((c.tc : Thread Cert.ReferenceFfnWIdeal.nD Cert.ReferenceFfnWIdeal.τ).loc Cert.ReferenceFfnWIdeal.main_arg1) = m' ((c.tc : Thread Cert.ReferenceFfnWIdeal.nD Cert.ReferenceFfnWIdeal.τ).loc Cert.ReferenceFfnWIdeal.main_arg1)
          ∧ r.2.mem ((c.tc : Thread Cert.ReferenceFfnWIdeal.nD Cert.ReferenceFfnWIdeal.τ).loc Cert.ReferenceFfnWIdeal.main_arg2) = m' ((c.tc : Thread Cert.ReferenceFfnWIdeal.nD Cert.ReferenceFfnWIdeal.τ).loc Cert.ReferenceFfnWIdeal.main_arg2)
          ∧ r.2.mem ((c.tc : Thread Cert.ReferenceFfnWIdeal.nD Cert.ReferenceFfnWIdeal.τ).loc Cert.ReferenceFfnWIdeal.main_arg3) = m' ((c.tc : Thread Cert.ReferenceFfnWIdeal.nD Cert.ReferenceFfnWIdeal.τ).loc Cert.ReferenceFfnWIdeal.main_arg3)
          ∧ r.2.mem ((c.tc : Thread Cert.ReferenceFfnWIdeal.nD Cert.ReferenceFfnWIdeal.τ).loc Cert.ReferenceFfnWIdeal.main_arg4) = m' ((c.tc : Thread Cert.ReferenceFfnWIdeal.nD Cert.ReferenceFfnWIdeal.τ).loc Cert.ReferenceFfnWIdeal.main_arg4)
          ∧ r.2.mem ((c.tc : Thread Cert.ReferenceFfnWIdeal.nD Cert.ReferenceFfnWIdeal.τ).loc Cert.ReferenceFfnWIdeal.main_arg5) = m' ((c.tc : Thread Cert.ReferenceFfnWIdeal.nD Cert.ReferenceFfnWIdeal.τ).loc Cert.ReferenceFfnWIdeal.main_arg5)
          ∧ r.2.mem ((c.tc : Thread Cert.ReferenceFfnWIdeal.nD Cert.ReferenceFfnWIdeal.τ).loc Cert.ReferenceFfnWIdeal.main_arg6) = m' ((c.tc : Thread Cert.ReferenceFfnWIdeal.nD Cert.ReferenceFfnWIdeal.τ).loc Cert.ReferenceFfnWIdeal.main_arg6))

def preserves_KernelFfnAct_KernelFfnActIdeal : Prop :=
  True

def algebraic_KernelFfnActIdeal_ReferenceFfnActIdeal_pre_ffn_finite [hKernelFfnActIdeal : Cert.KernelFfnActIdeal.Facts] [hReferenceFfnActIdeal : Cert.ReferenceFfnActIdeal.Facts] [hPre_ffn_finite : Cert.Pre_ffn_finite.Facts] : Prop :=
  ∀ (m : (ℓ : Loc Cert.KernelFfnActIdeal.nD Cert.KernelFfnActIdeal.τ Cert.KernelFfnActIdeal.sig) → Buf (Elt Ideal) ℓ) (g : Dev Cert.KernelFfnActIdeal.nD → PrngReg)
    (m' : (ℓ : Loc Cert.ReferenceFfnActIdeal.nD Cert.ReferenceFfnActIdeal.τ Cert.ReferenceFfnActIdeal.sig) → Buf (Elt Ideal) ℓ) (g' : Dev Cert.ReferenceFfnActIdeal.nD → PrngReg), Pre_KernelFfnActIdeal_ffn_finite m →
    (∀ c : Dev Cert.KernelFfnActIdeal.nD,
      m' ((c.tc : Thread Cert.ReferenceFfnActIdeal.nD Cert.ReferenceFfnActIdeal.τ).loc Cert.ReferenceFfnActIdeal.main_arg0) = m ((c.tc : Thread Cert.KernelFfnActIdeal.nD Cert.KernelFfnActIdeal.τ).loc Cert.KernelFfnActIdeal.main_arg0)
      ∧ m' ((c.tc : Thread Cert.ReferenceFfnActIdeal.nD Cert.ReferenceFfnActIdeal.τ).loc Cert.ReferenceFfnActIdeal.main_arg1) = m ((c.tc : Thread Cert.KernelFfnActIdeal.nD Cert.KernelFfnActIdeal.τ).loc Cert.KernelFfnActIdeal.main_arg1)
      ∧ m' ((c.tc : Thread Cert.ReferenceFfnActIdeal.nD Cert.ReferenceFfnActIdeal.τ).loc Cert.ReferenceFfnActIdeal.main_arg2) = m ((c.tc : Thread Cert.KernelFfnActIdeal.nD Cert.KernelFfnActIdeal.τ).loc Cert.KernelFfnActIdeal.main_arg2)
      ∧ m' ((c.tc : Thread Cert.ReferenceFfnActIdeal.nD Cert.ReferenceFfnActIdeal.τ).loc Cert.ReferenceFfnActIdeal.main_arg3) = m ((c.tc : Thread Cert.KernelFfnActIdeal.nD Cert.KernelFfnActIdeal.τ).loc Cert.KernelFfnActIdeal.main_arg3)
      ∧ m' ((c.tc : Thread Cert.ReferenceFfnActIdeal.nD Cert.ReferenceFfnActIdeal.τ).loc Cert.ReferenceFfnActIdeal.main_arg4) = m ((c.tc : Thread Cert.KernelFfnActIdeal.nD Cert.KernelFfnActIdeal.τ).loc Cert.KernelFfnActIdeal.main_arg4)
      ∧ m' ((c.tc : Thread Cert.ReferenceFfnActIdeal.nD Cert.ReferenceFfnActIdeal.τ).loc Cert.ReferenceFfnActIdeal.main_arg5) = m ((c.tc : Thread Cert.KernelFfnActIdeal.nD Cert.KernelFfnActIdeal.τ).loc Cert.KernelFfnActIdeal.main_arg5)) →
    ∃ (v0 : (c : Dev Cert.KernelFfnActIdeal.nD) → Buf (Elt Ideal) ((c.tc : Thread Cert.KernelFfnActIdeal.nD Cert.KernelFfnActIdeal.τ).loc Cert.KernelFfnActIdeal.main_v38_0)) (v1 : (c : Dev Cert.KernelFfnActIdeal.nD) → Buf (Elt Ideal) ((c.tc : Thread Cert.KernelFfnActIdeal.nD Cert.KernelFfnActIdeal.τ).loc Cert.KernelFfnActIdeal.main_v38_1)) (v2 : (c : Dev Cert.KernelFfnActIdeal.nD) → Buf (Elt Ideal) ((c.tc : Thread Cert.KernelFfnActIdeal.nD Cert.KernelFfnActIdeal.τ).loc Cert.KernelFfnActIdeal.main_v38_2)) (v3 : (c : Dev Cert.KernelFfnActIdeal.nD) → Buf (Elt Ideal) ((c.tc : Thread Cert.KernelFfnActIdeal.nD Cert.KernelFfnActIdeal.τ).loc Cert.KernelFfnActIdeal.main_v38_3)),
      θ_run (Cert.KernelFfnActIdeal.defs (F := Ideal)) (onTc (τ := Cert.KernelFfnActIdeal.τ) (Cert.KernelFfnActIdeal.main (F := Ideal))) ⟨m, fun _ => 0, g⟩ (fun r => ∀ c : Dev Cert.KernelFfnActIdeal.nD,
          r.2.mem ((c.tc : Thread Cert.KernelFfnActIdeal.nD Cert.KernelFfnActIdeal.τ).loc Cert.KernelFfnActIdeal.main_v38_0) = v0 c
          ∧ r.2.mem ((c.tc : Thread Cert.KernelFfnActIdeal.nD Cert.KernelFfnActIdeal.τ).loc Cert.KernelFfnActIdeal.main_v38_1) = v1 c
          ∧ r.2.mem ((c.tc : Thread Cert.KernelFfnActIdeal.nD Cert.KernelFfnActIdeal.τ).loc Cert.KernelFfnActIdeal.main_v38_2) = v2 c
          ∧ r.2.mem ((c.tc : Thread Cert.KernelFfnActIdeal.nD Cert.KernelFfnActIdeal.τ).loc Cert.KernelFfnActIdeal.main_v38_3) = v3 c
          ∧ r.2.mem ((c.tc : Thread Cert.KernelFfnActIdeal.nD Cert.KernelFfnActIdeal.τ).loc Cert.KernelFfnActIdeal.main_arg0) = m ((c.tc : Thread Cert.KernelFfnActIdeal.nD Cert.KernelFfnActIdeal.τ).loc Cert.KernelFfnActIdeal.main_arg0)
          ∧ r.2.mem ((c.tc : Thread Cert.KernelFfnActIdeal.nD Cert.KernelFfnActIdeal.τ).loc Cert.KernelFfnActIdeal.main_arg1) = m ((c.tc : Thread Cert.KernelFfnActIdeal.nD Cert.KernelFfnActIdeal.τ).loc Cert.KernelFfnActIdeal.main_arg1)
          ∧ r.2.mem ((c.tc : Thread Cert.KernelFfnActIdeal.nD Cert.KernelFfnActIdeal.τ).loc Cert.KernelFfnActIdeal.main_arg2) = m ((c.tc : Thread Cert.KernelFfnActIdeal.nD Cert.KernelFfnActIdeal.τ).loc Cert.KernelFfnActIdeal.main_arg2)
          ∧ r.2.mem ((c.tc : Thread Cert.KernelFfnActIdeal.nD Cert.KernelFfnActIdeal.τ).loc Cert.KernelFfnActIdeal.main_arg3) = m ((c.tc : Thread Cert.KernelFfnActIdeal.nD Cert.KernelFfnActIdeal.τ).loc Cert.KernelFfnActIdeal.main_arg3)
          ∧ r.2.mem ((c.tc : Thread Cert.KernelFfnActIdeal.nD Cert.KernelFfnActIdeal.τ).loc Cert.KernelFfnActIdeal.main_arg4) = m ((c.tc : Thread Cert.KernelFfnActIdeal.nD Cert.KernelFfnActIdeal.τ).loc Cert.KernelFfnActIdeal.main_arg4)
          ∧ r.2.mem ((c.tc : Thread Cert.KernelFfnActIdeal.nD Cert.KernelFfnActIdeal.τ).loc Cert.KernelFfnActIdeal.main_arg5) = m ((c.tc : Thread Cert.KernelFfnActIdeal.nD Cert.KernelFfnActIdeal.τ).loc Cert.KernelFfnActIdeal.main_arg5))
      ∧ θ_run (Cert.ReferenceFfnActIdeal.defs (F := Ideal)) (onTc (τ := Cert.ReferenceFfnActIdeal.τ) (Cert.ReferenceFfnActIdeal.main (F := Ideal))) ⟨m', fun _ => 0, g'⟩ (fun r => ∀ c : Dev Cert.ReferenceFfnActIdeal.nD,
          r.2.mem ((c.tc : Thread Cert.ReferenceFfnActIdeal.nD Cert.ReferenceFfnActIdeal.τ).loc Cert.ReferenceFfnActIdeal.main_v96) = v0 c
          ∧ r.2.mem ((c.tc : Thread Cert.ReferenceFfnActIdeal.nD Cert.ReferenceFfnActIdeal.τ).loc Cert.ReferenceFfnActIdeal.main_v60) = v1 c
          ∧ r.2.mem ((c.tc : Thread Cert.ReferenceFfnActIdeal.nD Cert.ReferenceFfnActIdeal.τ).loc Cert.ReferenceFfnActIdeal.main_v99) = v2 c
          ∧ r.2.mem ((c.tc : Thread Cert.ReferenceFfnActIdeal.nD Cert.ReferenceFfnActIdeal.τ).loc Cert.ReferenceFfnActIdeal.main_v102) = v3 c
          ∧ r.2.mem ((c.tc : Thread Cert.ReferenceFfnActIdeal.nD Cert.ReferenceFfnActIdeal.τ).loc Cert.ReferenceFfnActIdeal.main_arg0) = m' ((c.tc : Thread Cert.ReferenceFfnActIdeal.nD Cert.ReferenceFfnActIdeal.τ).loc Cert.ReferenceFfnActIdeal.main_arg0)
          ∧ r.2.mem ((c.tc : Thread Cert.ReferenceFfnActIdeal.nD Cert.ReferenceFfnActIdeal.τ).loc Cert.ReferenceFfnActIdeal.main_arg1) = m' ((c.tc : Thread Cert.ReferenceFfnActIdeal.nD Cert.ReferenceFfnActIdeal.τ).loc Cert.ReferenceFfnActIdeal.main_arg1)
          ∧ r.2.mem ((c.tc : Thread Cert.ReferenceFfnActIdeal.nD Cert.ReferenceFfnActIdeal.τ).loc Cert.ReferenceFfnActIdeal.main_arg2) = m' ((c.tc : Thread Cert.ReferenceFfnActIdeal.nD Cert.ReferenceFfnActIdeal.τ).loc Cert.ReferenceFfnActIdeal.main_arg2)
          ∧ r.2.mem ((c.tc : Thread Cert.ReferenceFfnActIdeal.nD Cert.ReferenceFfnActIdeal.τ).loc Cert.ReferenceFfnActIdeal.main_arg3) = m' ((c.tc : Thread Cert.ReferenceFfnActIdeal.nD Cert.ReferenceFfnActIdeal.τ).loc Cert.ReferenceFfnActIdeal.main_arg3)
          ∧ r.2.mem ((c.tc : Thread Cert.ReferenceFfnActIdeal.nD Cert.ReferenceFfnActIdeal.τ).loc Cert.ReferenceFfnActIdeal.main_arg4) = m' ((c.tc : Thread Cert.ReferenceFfnActIdeal.nD Cert.ReferenceFfnActIdeal.τ).loc Cert.ReferenceFfnActIdeal.main_arg4)
          ∧ r.2.mem ((c.tc : Thread Cert.ReferenceFfnActIdeal.nD Cert.ReferenceFfnActIdeal.τ).loc Cert.ReferenceFfnActIdeal.main_arg5) = m' ((c.tc : Thread Cert.ReferenceFfnActIdeal.nD Cert.ReferenceFfnActIdeal.τ).loc Cert.ReferenceFfnActIdeal.main_arg5))

def preserves_KernelKeyNorm_KernelKeyNormIdeal : Prop :=
  True

def algebraic_KernelKeyNormIdeal_ReferenceKeyNormIdeal [hKernelKeyNormIdeal : Cert.KernelKeyNormIdeal.Facts] [hReferenceKeyNormIdeal : Cert.ReferenceKeyNormIdeal.Facts] : Prop :=
  ∀ (m : (ℓ : Loc Cert.KernelKeyNormIdeal.nD Cert.KernelKeyNormIdeal.τ Cert.KernelKeyNormIdeal.sig) → Buf (Elt Ideal) ℓ) (g : Dev Cert.KernelKeyNormIdeal.nD → PrngReg)
    (m' : (ℓ : Loc Cert.ReferenceKeyNormIdeal.nD Cert.ReferenceKeyNormIdeal.τ Cert.ReferenceKeyNormIdeal.sig) → Buf (Elt Ideal) ℓ) (g' : Dev Cert.ReferenceKeyNormIdeal.nD → PrngReg), Pre_KernelKeyNormIdeal m →
    (∀ c : Dev Cert.KernelKeyNormIdeal.nD,
      m' ((c.tc : Thread Cert.ReferenceKeyNormIdeal.nD Cert.ReferenceKeyNormIdeal.τ).loc Cert.ReferenceKeyNormIdeal.main_arg0) = m ((c.tc : Thread Cert.KernelKeyNormIdeal.nD Cert.KernelKeyNormIdeal.τ).loc Cert.KernelKeyNormIdeal.main_arg0)
      ∧ m' ((c.tc : Thread Cert.ReferenceKeyNormIdeal.nD Cert.ReferenceKeyNormIdeal.τ).loc Cert.ReferenceKeyNormIdeal.main_arg1) = m ((c.tc : Thread Cert.KernelKeyNormIdeal.nD Cert.KernelKeyNormIdeal.τ).loc Cert.KernelKeyNormIdeal.main_arg1)
      ∧ m' ((c.tc : Thread Cert.ReferenceKeyNormIdeal.nD Cert.ReferenceKeyNormIdeal.τ).loc Cert.ReferenceKeyNormIdeal.main_arg2) = m ((c.tc : Thread Cert.KernelKeyNormIdeal.nD Cert.KernelKeyNormIdeal.τ).loc Cert.KernelKeyNormIdeal.main_arg2)) →
    ∃ (v0 : (c : Dev Cert.KernelKeyNormIdeal.nD) → Buf (Elt Ideal) ((c.tc : Thread Cert.KernelKeyNormIdeal.nD Cert.KernelKeyNormIdeal.τ).loc Cert.KernelKeyNormIdeal.main_v0_0)) (v1 : (c : Dev Cert.KernelKeyNormIdeal.nD) → Buf (Elt Ideal) ((c.tc : Thread Cert.KernelKeyNormIdeal.nD Cert.KernelKeyNormIdeal.τ).loc Cert.KernelKeyNormIdeal.main_v0_1)),
      θ_run (Cert.KernelKeyNormIdeal.defs (F := Ideal)) (onTc (τ := Cert.KernelKeyNormIdeal.τ) (Cert.KernelKeyNormIdeal.main (F := Ideal))) ⟨m, fun _ => 0, g⟩ (fun r => ∀ c : Dev Cert.KernelKeyNormIdeal.nD,
          r.2.mem ((c.tc : Thread Cert.KernelKeyNormIdeal.nD Cert.KernelKeyNormIdeal.τ).loc Cert.KernelKeyNormIdeal.main_v0_0) = v0 c
          ∧ r.2.mem ((c.tc : Thread Cert.KernelKeyNormIdeal.nD Cert.KernelKeyNormIdeal.τ).loc Cert.KernelKeyNormIdeal.main_v0_1) = v1 c
          ∧ r.2.mem ((c.tc : Thread Cert.KernelKeyNormIdeal.nD Cert.KernelKeyNormIdeal.τ).loc Cert.KernelKeyNormIdeal.main_arg0) = m ((c.tc : Thread Cert.KernelKeyNormIdeal.nD Cert.KernelKeyNormIdeal.τ).loc Cert.KernelKeyNormIdeal.main_arg0)
          ∧ r.2.mem ((c.tc : Thread Cert.KernelKeyNormIdeal.nD Cert.KernelKeyNormIdeal.τ).loc Cert.KernelKeyNormIdeal.main_arg1) = m ((c.tc : Thread Cert.KernelKeyNormIdeal.nD Cert.KernelKeyNormIdeal.τ).loc Cert.KernelKeyNormIdeal.main_arg1)
          ∧ r.2.mem ((c.tc : Thread Cert.KernelKeyNormIdeal.nD Cert.KernelKeyNormIdeal.τ).loc Cert.KernelKeyNormIdeal.main_arg2) = m ((c.tc : Thread Cert.KernelKeyNormIdeal.nD Cert.KernelKeyNormIdeal.τ).loc Cert.KernelKeyNormIdeal.main_arg2))
      ∧ θ_run (Cert.ReferenceKeyNormIdeal.defs (F := Ideal)) (onTc (τ := Cert.ReferenceKeyNormIdeal.τ) (Cert.ReferenceKeyNormIdeal.main (F := Ideal))) ⟨m', fun _ => 0, g'⟩ (fun r => ∀ c : Dev Cert.ReferenceKeyNormIdeal.nD,
          r.2.mem ((c.tc : Thread Cert.ReferenceKeyNormIdeal.nD Cert.ReferenceKeyNormIdeal.τ).loc Cert.ReferenceKeyNormIdeal.main_v46) = v0 c
          ∧ r.2.mem ((c.tc : Thread Cert.ReferenceKeyNormIdeal.nD Cert.ReferenceKeyNormIdeal.τ).loc Cert.ReferenceKeyNormIdeal.main_v42) = v1 c
          ∧ r.2.mem ((c.tc : Thread Cert.ReferenceKeyNormIdeal.nD Cert.ReferenceKeyNormIdeal.τ).loc Cert.ReferenceKeyNormIdeal.main_arg0) = m' ((c.tc : Thread Cert.ReferenceKeyNormIdeal.nD Cert.ReferenceKeyNormIdeal.τ).loc Cert.ReferenceKeyNormIdeal.main_arg0)
          ∧ r.2.mem ((c.tc : Thread Cert.ReferenceKeyNormIdeal.nD Cert.ReferenceKeyNormIdeal.τ).loc Cert.ReferenceKeyNormIdeal.main_arg1) = m' ((c.tc : Thread Cert.ReferenceKeyNormIdeal.nD Cert.ReferenceKeyNormIdeal.τ).loc Cert.ReferenceKeyNormIdeal.main_arg1)
          ∧ r.2.mem ((c.tc : Thread Cert.ReferenceKeyNormIdeal.nD Cert.ReferenceKeyNormIdeal.τ).loc Cert.ReferenceKeyNormIdeal.main_arg2) = m' ((c.tc : Thread Cert.ReferenceKeyNormIdeal.nD Cert.ReferenceKeyNormIdeal.τ).loc Cert.ReferenceKeyNormIdeal.main_arg2))

def preserves_KernelAttn_KernelAttnIdeal : Prop :=
  IdealRules.named_const.Statement Cert.KernelAttnIdeal.κ "mask" .f32 0xF149F2CA#32 ⊥

def algebraic_KernelAttnIdeal_ReferenceAttnIdeal_pre_attn_finite [hKernelAttnIdeal : Cert.KernelAttnIdeal.Facts] [hReferenceAttnIdeal : Cert.ReferenceAttnIdeal.Facts] [hPre_attn_finite : Cert.Pre_attn_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_attn_finite m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)) →
    ∃ (v0 : (c : Dev Cert.KernelAttnIdeal.nD) → Buf (Elt Ideal) ((c.tc : Thread Cert.KernelAttnIdeal.nD Cert.KernelAttnIdeal.τ).loc Cert.KernelAttnIdeal.main_v41_0)) (v1 : (c : Dev Cert.KernelAttnIdeal.nD) → Buf (Elt Ideal) ((c.tc : Thread Cert.KernelAttnIdeal.nD Cert.KernelAttnIdeal.τ).loc Cert.KernelAttnIdeal.main_v41_1)) (v2 : (c : Dev Cert.KernelAttnIdeal.nD) → Buf (Elt Ideal) ((c.tc : Thread Cert.KernelAttnIdeal.nD Cert.KernelAttnIdeal.τ).loc Cert.KernelAttnIdeal.main_v41_2)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v41_0) = v0 c
          ∧ r.2.mem ((c.tc : Thread Cert.KernelAttnIdeal.nD Cert.KernelAttnIdeal.τ).loc Cert.KernelAttnIdeal.main_v41_1) = v1 c
          ∧ r.2.mem ((c.tc : Thread Cert.KernelAttnIdeal.nD Cert.KernelAttnIdeal.τ).loc Cert.KernelAttnIdeal.main_v41_2) = v2 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v72) = v0 c
          ∧ r.2.mem ((c.tc : Thread Cert.ReferenceAttnIdeal.nD Cert.ReferenceAttnIdeal.τ).loc Cert.ReferenceAttnIdeal.main_v75) = v1 c
          ∧ r.2.mem ((c.tc : Thread Cert.ReferenceAttnIdeal.nD Cert.ReferenceAttnIdeal.τ).loc Cert.ReferenceAttnIdeal.main_v77) = v2 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3))

def preserves_KernelSsmPrep_KernelSsmPrepIdeal : Prop :=
  True

def algebraic_KernelSsmPrepIdeal_ReferenceSsmPrepIdeal_pre_prep_nonzero [hKernelSsmPrepIdeal : Cert.KernelSsmPrepIdeal.Facts] [hReferenceSsmPrepIdeal : Cert.ReferenceSsmPrepIdeal.Facts] [hPre_prep_nonzero : Cert.Pre_prep_nonzero.Facts] : Prop :=
  ∀ (m : (ℓ : Loc Cert.KernelSsmPrepIdeal.nD Cert.KernelSsmPrepIdeal.τ Cert.KernelSsmPrepIdeal.sig) → Buf (Elt Ideal) ℓ) (g : Dev Cert.KernelSsmPrepIdeal.nD → PrngReg)
    (m' : (ℓ : Loc Cert.ReferenceSsmPrepIdeal.nD Cert.ReferenceSsmPrepIdeal.τ Cert.ReferenceSsmPrepIdeal.sig) → Buf (Elt Ideal) ℓ) (g' : Dev Cert.ReferenceSsmPrepIdeal.nD → PrngReg), Pre_KernelSsmPrepIdeal_prep_nonzero m →
    (∀ c : Dev Cert.KernelSsmPrepIdeal.nD,
      m' ((c.tc : Thread Cert.ReferenceSsmPrepIdeal.nD Cert.ReferenceSsmPrepIdeal.τ).loc Cert.ReferenceSsmPrepIdeal.main_arg0) = m ((c.tc : Thread Cert.KernelSsmPrepIdeal.nD Cert.KernelSsmPrepIdeal.τ).loc Cert.KernelSsmPrepIdeal.main_arg0)
      ∧ m' ((c.tc : Thread Cert.ReferenceSsmPrepIdeal.nD Cert.ReferenceSsmPrepIdeal.τ).loc Cert.ReferenceSsmPrepIdeal.main_arg1) = m ((c.tc : Thread Cert.KernelSsmPrepIdeal.nD Cert.KernelSsmPrepIdeal.τ).loc Cert.KernelSsmPrepIdeal.main_arg1)
      ∧ m' ((c.tc : Thread Cert.ReferenceSsmPrepIdeal.nD Cert.ReferenceSsmPrepIdeal.τ).loc Cert.ReferenceSsmPrepIdeal.main_arg2) = m ((c.tc : Thread Cert.KernelSsmPrepIdeal.nD Cert.KernelSsmPrepIdeal.τ).loc Cert.KernelSsmPrepIdeal.main_arg2)
      ∧ m' ((c.tc : Thread Cert.ReferenceSsmPrepIdeal.nD Cert.ReferenceSsmPrepIdeal.τ).loc Cert.ReferenceSsmPrepIdeal.main_arg3) = m ((c.tc : Thread Cert.KernelSsmPrepIdeal.nD Cert.KernelSsmPrepIdeal.τ).loc Cert.KernelSsmPrepIdeal.main_arg3)
      ∧ m' ((c.tc : Thread Cert.ReferenceSsmPrepIdeal.nD Cert.ReferenceSsmPrepIdeal.τ).loc Cert.ReferenceSsmPrepIdeal.main_arg4) = m ((c.tc : Thread Cert.KernelSsmPrepIdeal.nD Cert.KernelSsmPrepIdeal.τ).loc Cert.KernelSsmPrepIdeal.main_arg4)
      ∧ m' ((c.tc : Thread Cert.ReferenceSsmPrepIdeal.nD Cert.ReferenceSsmPrepIdeal.τ).loc Cert.ReferenceSsmPrepIdeal.main_arg5) = m ((c.tc : Thread Cert.KernelSsmPrepIdeal.nD Cert.KernelSsmPrepIdeal.τ).loc Cert.KernelSsmPrepIdeal.main_arg5)
      ∧ m' ((c.tc : Thread Cert.ReferenceSsmPrepIdeal.nD Cert.ReferenceSsmPrepIdeal.τ).loc Cert.ReferenceSsmPrepIdeal.main_arg6) = m ((c.tc : Thread Cert.KernelSsmPrepIdeal.nD Cert.KernelSsmPrepIdeal.τ).loc Cert.KernelSsmPrepIdeal.main_arg6)
      ∧ m' ((c.tc : Thread Cert.ReferenceSsmPrepIdeal.nD Cert.ReferenceSsmPrepIdeal.τ).loc Cert.ReferenceSsmPrepIdeal.main_arg7) = m ((c.tc : Thread Cert.KernelSsmPrepIdeal.nD Cert.KernelSsmPrepIdeal.τ).loc Cert.KernelSsmPrepIdeal.main_arg7)
      ∧ m' ((c.tc : Thread Cert.ReferenceSsmPrepIdeal.nD Cert.ReferenceSsmPrepIdeal.τ).loc Cert.ReferenceSsmPrepIdeal.main_arg8) = m ((c.tc : Thread Cert.KernelSsmPrepIdeal.nD Cert.KernelSsmPrepIdeal.τ).loc Cert.KernelSsmPrepIdeal.main_arg8)
      ∧ m' ((c.tc : Thread Cert.ReferenceSsmPrepIdeal.nD Cert.ReferenceSsmPrepIdeal.τ).loc Cert.ReferenceSsmPrepIdeal.main_arg9) = m ((c.tc : Thread Cert.KernelSsmPrepIdeal.nD Cert.KernelSsmPrepIdeal.τ).loc Cert.KernelSsmPrepIdeal.main_arg9)
      ∧ m' ((c.tc : Thread Cert.ReferenceSsmPrepIdeal.nD Cert.ReferenceSsmPrepIdeal.τ).loc Cert.ReferenceSsmPrepIdeal.main_arg10) = m ((c.tc : Thread Cert.KernelSsmPrepIdeal.nD Cert.KernelSsmPrepIdeal.τ).loc Cert.KernelSsmPrepIdeal.main_arg10)
      ∧ m' ((c.tc : Thread Cert.ReferenceSsmPrepIdeal.nD Cert.ReferenceSsmPrepIdeal.τ).loc Cert.ReferenceSsmPrepIdeal.main_arg11) = m ((c.tc : Thread Cert.KernelSsmPrepIdeal.nD Cert.KernelSsmPrepIdeal.τ).loc Cert.KernelSsmPrepIdeal.main_arg11)
      ∧ m' ((c.tc : Thread Cert.ReferenceSsmPrepIdeal.nD Cert.ReferenceSsmPrepIdeal.τ).loc Cert.ReferenceSsmPrepIdeal.main_arg12) = m ((c.tc : Thread Cert.KernelSsmPrepIdeal.nD Cert.KernelSsmPrepIdeal.τ).loc Cert.KernelSsmPrepIdeal.main_arg12)) →
    ∃ (v0 : (c : Dev Cert.KernelSsmPrepIdeal.nD) → Buf (Elt Ideal) ((c.tc : Thread Cert.KernelSsmPrepIdeal.nD Cert.KernelSsmPrepIdeal.τ).loc Cert.KernelSsmPrepIdeal.main_v0_0)) (v1 : (c : Dev Cert.KernelSsmPrepIdeal.nD) → Buf (Elt Ideal) ((c.tc : Thread Cert.KernelSsmPrepIdeal.nD Cert.KernelSsmPrepIdeal.τ).loc Cert.KernelSsmPrepIdeal.main_v0_1)) (v2 : (c : Dev Cert.KernelSsmPrepIdeal.nD) → Buf (Elt Ideal) ((c.tc : Thread Cert.KernelSsmPrepIdeal.nD Cert.KernelSsmPrepIdeal.τ).loc Cert.KernelSsmPrepIdeal.main_v0_2)) (v3 : (c : Dev Cert.KernelSsmPrepIdeal.nD) → Buf (Elt Ideal) ((c.tc : Thread Cert.KernelSsmPrepIdeal.nD Cert.KernelSsmPrepIdeal.τ).loc Cert.KernelSsmPrepIdeal.main_v0_3)) (v4 : (c : Dev Cert.KernelSsmPrepIdeal.nD) → Buf (Elt Ideal) ((c.tc : Thread Cert.KernelSsmPrepIdeal.nD Cert.KernelSsmPrepIdeal.τ).loc Cert.KernelSsmPrepIdeal.main_v0_4)) (v5 : (c : Dev Cert.KernelSsmPrepIdeal.nD) → Buf (Elt Ideal) ((c.tc : Thread Cert.KernelSsmPrepIdeal.nD Cert.KernelSsmPrepIdeal.τ).loc Cert.KernelSsmPrepIdeal.main_v0_5)) (v6 : (c : Dev Cert.KernelSsmPrepIdeal.nD) → Buf (Elt Ideal) ((c.tc : Thread Cert.KernelSsmPrepIdeal.nD Cert.KernelSsmPrepIdeal.τ).loc Cert.KernelSsmPrepIdeal.main_v0_6)),
      θ_run (Cert.KernelSsmPrepIdeal.defs (F := Ideal)) (onTc (τ := Cert.KernelSsmPrepIdeal.τ) (Cert.KernelSsmPrepIdeal.main (F := Ideal))) ⟨m, fun _ => 0, g⟩ (fun r => ∀ c : Dev Cert.KernelSsmPrepIdeal.nD,
          r.2.mem ((c.tc : Thread Cert.KernelSsmPrepIdeal.nD Cert.KernelSsmPrepIdeal.τ).loc Cert.KernelSsmPrepIdeal.main_v0_0) = v0 c
          ∧ r.2.mem ((c.tc : Thread Cert.KernelSsmPrepIdeal.nD Cert.KernelSsmPrepIdeal.τ).loc Cert.KernelSsmPrepIdeal.main_v0_1) = v1 c
          ∧ r.2.mem ((c.tc : Thread Cert.KernelSsmPrepIdeal.nD Cert.KernelSsmPrepIdeal.τ).loc Cert.KernelSsmPrepIdeal.main_v0_2) = v2 c
          ∧ r.2.mem ((c.tc : Thread Cert.KernelSsmPrepIdeal.nD Cert.KernelSsmPrepIdeal.τ).loc Cert.KernelSsmPrepIdeal.main_v0_3) = v3 c
          ∧ r.2.mem ((c.tc : Thread Cert.KernelSsmPrepIdeal.nD Cert.KernelSsmPrepIdeal.τ).loc Cert.KernelSsmPrepIdeal.main_v0_4) = v4 c
          ∧ r.2.mem ((c.tc : Thread Cert.KernelSsmPrepIdeal.nD Cert.KernelSsmPrepIdeal.τ).loc Cert.KernelSsmPrepIdeal.main_v0_5) = v5 c
          ∧ r.2.mem ((c.tc : Thread Cert.KernelSsmPrepIdeal.nD Cert.KernelSsmPrepIdeal.τ).loc Cert.KernelSsmPrepIdeal.main_v0_6) = v6 c
          ∧ r.2.mem ((c.tc : Thread Cert.KernelSsmPrepIdeal.nD Cert.KernelSsmPrepIdeal.τ).loc Cert.KernelSsmPrepIdeal.main_arg0) = m ((c.tc : Thread Cert.KernelSsmPrepIdeal.nD Cert.KernelSsmPrepIdeal.τ).loc Cert.KernelSsmPrepIdeal.main_arg0)
          ∧ r.2.mem ((c.tc : Thread Cert.KernelSsmPrepIdeal.nD Cert.KernelSsmPrepIdeal.τ).loc Cert.KernelSsmPrepIdeal.main_arg1) = m ((c.tc : Thread Cert.KernelSsmPrepIdeal.nD Cert.KernelSsmPrepIdeal.τ).loc Cert.KernelSsmPrepIdeal.main_arg1)
          ∧ r.2.mem ((c.tc : Thread Cert.KernelSsmPrepIdeal.nD Cert.KernelSsmPrepIdeal.τ).loc Cert.KernelSsmPrepIdeal.main_arg2) = m ((c.tc : Thread Cert.KernelSsmPrepIdeal.nD Cert.KernelSsmPrepIdeal.τ).loc Cert.KernelSsmPrepIdeal.main_arg2)
          ∧ r.2.mem ((c.tc : Thread Cert.KernelSsmPrepIdeal.nD Cert.KernelSsmPrepIdeal.τ).loc Cert.KernelSsmPrepIdeal.main_arg3) = m ((c.tc : Thread Cert.KernelSsmPrepIdeal.nD Cert.KernelSsmPrepIdeal.τ).loc Cert.KernelSsmPrepIdeal.main_arg3)
          ∧ r.2.mem ((c.tc : Thread Cert.KernelSsmPrepIdeal.nD Cert.KernelSsmPrepIdeal.τ).loc Cert.KernelSsmPrepIdeal.main_arg4) = m ((c.tc : Thread Cert.KernelSsmPrepIdeal.nD Cert.KernelSsmPrepIdeal.τ).loc Cert.KernelSsmPrepIdeal.main_arg4)
          ∧ r.2.mem ((c.tc : Thread Cert.KernelSsmPrepIdeal.nD Cert.KernelSsmPrepIdeal.τ).loc Cert.KernelSsmPrepIdeal.main_arg5) = m ((c.tc : Thread Cert.KernelSsmPrepIdeal.nD Cert.KernelSsmPrepIdeal.τ).loc Cert.KernelSsmPrepIdeal.main_arg5)
          ∧ r.2.mem ((c.tc : Thread Cert.KernelSsmPrepIdeal.nD Cert.KernelSsmPrepIdeal.τ).loc Cert.KernelSsmPrepIdeal.main_arg6) = m ((c.tc : Thread Cert.KernelSsmPrepIdeal.nD Cert.KernelSsmPrepIdeal.τ).loc Cert.KernelSsmPrepIdeal.main_arg6)
          ∧ r.2.mem ((c.tc : Thread Cert.KernelSsmPrepIdeal.nD Cert.KernelSsmPrepIdeal.τ).loc Cert.KernelSsmPrepIdeal.main_arg7) = m ((c.tc : Thread Cert.KernelSsmPrepIdeal.nD Cert.KernelSsmPrepIdeal.τ).loc Cert.KernelSsmPrepIdeal.main_arg7)
          ∧ r.2.mem ((c.tc : Thread Cert.KernelSsmPrepIdeal.nD Cert.KernelSsmPrepIdeal.τ).loc Cert.KernelSsmPrepIdeal.main_arg8) = m ((c.tc : Thread Cert.KernelSsmPrepIdeal.nD Cert.KernelSsmPrepIdeal.τ).loc Cert.KernelSsmPrepIdeal.main_arg8)
          ∧ r.2.mem ((c.tc : Thread Cert.KernelSsmPrepIdeal.nD Cert.KernelSsmPrepIdeal.τ).loc Cert.KernelSsmPrepIdeal.main_arg9) = m ((c.tc : Thread Cert.KernelSsmPrepIdeal.nD Cert.KernelSsmPrepIdeal.τ).loc Cert.KernelSsmPrepIdeal.main_arg9)
          ∧ r.2.mem ((c.tc : Thread Cert.KernelSsmPrepIdeal.nD Cert.KernelSsmPrepIdeal.τ).loc Cert.KernelSsmPrepIdeal.main_arg10) = m ((c.tc : Thread Cert.KernelSsmPrepIdeal.nD Cert.KernelSsmPrepIdeal.τ).loc Cert.KernelSsmPrepIdeal.main_arg10)
          ∧ r.2.mem ((c.tc : Thread Cert.KernelSsmPrepIdeal.nD Cert.KernelSsmPrepIdeal.τ).loc Cert.KernelSsmPrepIdeal.main_arg11) = m ((c.tc : Thread Cert.KernelSsmPrepIdeal.nD Cert.KernelSsmPrepIdeal.τ).loc Cert.KernelSsmPrepIdeal.main_arg11)
          ∧ r.2.mem ((c.tc : Thread Cert.KernelSsmPrepIdeal.nD Cert.KernelSsmPrepIdeal.τ).loc Cert.KernelSsmPrepIdeal.main_arg12) = m ((c.tc : Thread Cert.KernelSsmPrepIdeal.nD Cert.KernelSsmPrepIdeal.τ).loc Cert.KernelSsmPrepIdeal.main_arg12))
      ∧ θ_run (Cert.ReferenceSsmPrepIdeal.defs (F := Ideal)) (onTc (τ := Cert.ReferenceSsmPrepIdeal.τ) (Cert.ReferenceSsmPrepIdeal.main (F := Ideal))) ⟨m', fun _ => 0, g'⟩ (fun r => ∀ c : Dev Cert.ReferenceSsmPrepIdeal.nD,
          r.2.mem ((c.tc : Thread Cert.ReferenceSsmPrepIdeal.nD Cert.ReferenceSsmPrepIdeal.τ).loc Cert.ReferenceSsmPrepIdeal.main_v207) = v0 c
          ∧ r.2.mem ((c.tc : Thread Cert.ReferenceSsmPrepIdeal.nD Cert.ReferenceSsmPrepIdeal.τ).loc Cert.ReferenceSsmPrepIdeal.main_v199) = v1 c
          ∧ r.2.mem ((c.tc : Thread Cert.ReferenceSsmPrepIdeal.nD Cert.ReferenceSsmPrepIdeal.τ).loc Cert.ReferenceSsmPrepIdeal.main_v208) = v2 c
          ∧ r.2.mem ((c.tc : Thread Cert.ReferenceSsmPrepIdeal.nD Cert.ReferenceSsmPrepIdeal.τ).loc Cert.ReferenceSsmPrepIdeal.main_v146) = v3 c
          ∧ r.2.mem ((c.tc : Thread Cert.ReferenceSsmPrepIdeal.nD Cert.ReferenceSsmPrepIdeal.τ).loc Cert.ReferenceSsmPrepIdeal.main_v145) = v4 c
          ∧ r.2.mem ((c.tc : Thread Cert.ReferenceSsmPrepIdeal.nD Cert.ReferenceSsmPrepIdeal.τ).loc Cert.ReferenceSsmPrepIdeal.main_v97) = v5 c
          ∧ r.2.mem ((c.tc : Thread Cert.ReferenceSsmPrepIdeal.nD Cert.ReferenceSsmPrepIdeal.τ).loc Cert.ReferenceSsmPrepIdeal.main_v90) = v6 c
          ∧ r.2.mem ((c.tc : Thread Cert.ReferenceSsmPrepIdeal.nD Cert.ReferenceSsmPrepIdeal.τ).loc Cert.ReferenceSsmPrepIdeal.main_arg0) = m' ((c.tc : Thread Cert.ReferenceSsmPrepIdeal.nD Cert.ReferenceSsmPrepIdeal.τ).loc Cert.ReferenceSsmPrepIdeal.main_arg0)
          ∧ r.2.mem ((c.tc : Thread Cert.ReferenceSsmPrepIdeal.nD Cert.ReferenceSsmPrepIdeal.τ).loc Cert.ReferenceSsmPrepIdeal.main_arg1) = m' ((c.tc : Thread Cert.ReferenceSsmPrepIdeal.nD Cert.ReferenceSsmPrepIdeal.τ).loc Cert.ReferenceSsmPrepIdeal.main_arg1)
          ∧ r.2.mem ((c.tc : Thread Cert.ReferenceSsmPrepIdeal.nD Cert.ReferenceSsmPrepIdeal.τ).loc Cert.ReferenceSsmPrepIdeal.main_arg2) = m' ((c.tc : Thread Cert.ReferenceSsmPrepIdeal.nD Cert.ReferenceSsmPrepIdeal.τ).loc Cert.ReferenceSsmPrepIdeal.main_arg2)
          ∧ r.2.mem ((c.tc : Thread Cert.ReferenceSsmPrepIdeal.nD Cert.ReferenceSsmPrepIdeal.τ).loc Cert.ReferenceSsmPrepIdeal.main_arg3) = m' ((c.tc : Thread Cert.ReferenceSsmPrepIdeal.nD Cert.ReferenceSsmPrepIdeal.τ).loc Cert.ReferenceSsmPrepIdeal.main_arg3)
          ∧ r.2.mem ((c.tc : Thread Cert.ReferenceSsmPrepIdeal.nD Cert.ReferenceSsmPrepIdeal.τ).loc Cert.ReferenceSsmPrepIdeal.main_arg4) = m' ((c.tc : Thread Cert.ReferenceSsmPrepIdeal.nD Cert.ReferenceSsmPrepIdeal.τ).loc Cert.ReferenceSsmPrepIdeal.main_arg4)
          ∧ r.2.mem ((c.tc : Thread Cert.ReferenceSsmPrepIdeal.nD Cert.ReferenceSsmPrepIdeal.τ).loc Cert.ReferenceSsmPrepIdeal.main_arg5) = m' ((c.tc : Thread Cert.ReferenceSsmPrepIdeal.nD Cert.ReferenceSsmPrepIdeal.τ).loc Cert.ReferenceSsmPrepIdeal.main_arg5)
          ∧ r.2.mem ((c.tc : Thread Cert.ReferenceSsmPrepIdeal.nD Cert.ReferenceSsmPrepIdeal.τ).loc Cert.ReferenceSsmPrepIdeal.main_arg6) = m' ((c.tc : Thread Cert.ReferenceSsmPrepIdeal.nD Cert.ReferenceSsmPrepIdeal.τ).loc Cert.ReferenceSsmPrepIdeal.main_arg6)
          ∧ r.2.mem ((c.tc : Thread Cert.ReferenceSsmPrepIdeal.nD Cert.ReferenceSsmPrepIdeal.τ).loc Cert.ReferenceSsmPrepIdeal.main_arg7) = m' ((c.tc : Thread Cert.ReferenceSsmPrepIdeal.nD Cert.ReferenceSsmPrepIdeal.τ).loc Cert.ReferenceSsmPrepIdeal.main_arg7)
          ∧ r.2.mem ((c.tc : Thread Cert.ReferenceSsmPrepIdeal.nD Cert.ReferenceSsmPrepIdeal.τ).loc Cert.ReferenceSsmPrepIdeal.main_arg8) = m' ((c.tc : Thread Cert.ReferenceSsmPrepIdeal.nD Cert.ReferenceSsmPrepIdeal.τ).loc Cert.ReferenceSsmPrepIdeal.main_arg8)
          ∧ r.2.mem ((c.tc : Thread Cert.ReferenceSsmPrepIdeal.nD Cert.ReferenceSsmPrepIdeal.τ).loc Cert.ReferenceSsmPrepIdeal.main_arg9) = m' ((c.tc : Thread Cert.ReferenceSsmPrepIdeal.nD Cert.ReferenceSsmPrepIdeal.τ).loc Cert.ReferenceSsmPrepIdeal.main_arg9)
          ∧ r.2.mem ((c.tc : Thread Cert.ReferenceSsmPrepIdeal.nD Cert.ReferenceSsmPrepIdeal.τ).loc Cert.ReferenceSsmPrepIdeal.main_arg10) = m' ((c.tc : Thread Cert.ReferenceSsmPrepIdeal.nD Cert.ReferenceSsmPrepIdeal.τ).loc Cert.ReferenceSsmPrepIdeal.main_arg10)
          ∧ r.2.mem ((c.tc : Thread Cert.ReferenceSsmPrepIdeal.nD Cert.ReferenceSsmPrepIdeal.τ).loc Cert.ReferenceSsmPrepIdeal.main_arg11) = m' ((c.tc : Thread Cert.ReferenceSsmPrepIdeal.nD Cert.ReferenceSsmPrepIdeal.τ).loc Cert.ReferenceSsmPrepIdeal.main_arg11)
          ∧ r.2.mem ((c.tc : Thread Cert.ReferenceSsmPrepIdeal.nD Cert.ReferenceSsmPrepIdeal.τ).loc Cert.ReferenceSsmPrepIdeal.main_arg12) = m' ((c.tc : Thread Cert.ReferenceSsmPrepIdeal.nD Cert.ReferenceSsmPrepIdeal.τ).loc Cert.ReferenceSsmPrepIdeal.main_arg12))

def preserves_KernelPost_KernelPostIdeal : Prop :=
  True

def preserves_KernelPre_KernelPreIdeal : Prop :=
  True

def preserves_KernelMemNormFwd_KernelMemNormFwdIdeal : Prop :=
  True

def algebraic_KernelMemNormFwdIdeal_ReferenceMemNormFwdIdeal [hKernelMemNormFwdIdeal : Cert.KernelMemNormFwdIdeal.Facts] [hReferenceMemNormFwdIdeal : Cert.ReferenceMemNormFwdIdeal.Facts] : Prop :=
  ∀ (m : (ℓ : Loc Cert.KernelMemNormFwdIdeal.nD Cert.KernelMemNormFwdIdeal.τ Cert.KernelMemNormFwdIdeal.sig) → Buf (Elt Ideal) ℓ) (g : Dev Cert.KernelMemNormFwdIdeal.nD → PrngReg)
    (m' : (ℓ : Loc Cert.ReferenceMemNormFwdIdeal.nD Cert.ReferenceMemNormFwdIdeal.τ Cert.ReferenceMemNormFwdIdeal.sig) → Buf (Elt Ideal) ℓ) (g' : Dev Cert.ReferenceMemNormFwdIdeal.nD → PrngReg), Pre_KernelMemNormFwdIdeal m →
    (∀ c : Dev Cert.KernelMemNormFwdIdeal.nD,
      m' ((c.tc : Thread Cert.ReferenceMemNormFwdIdeal.nD Cert.ReferenceMemNormFwdIdeal.τ).loc Cert.ReferenceMemNormFwdIdeal.main_arg0) = m ((c.tc : Thread Cert.KernelMemNormFwdIdeal.nD Cert.KernelMemNormFwdIdeal.τ).loc Cert.KernelMemNormFwdIdeal.main_arg0)
      ∧ m' ((c.tc : Thread Cert.ReferenceMemNormFwdIdeal.nD Cert.ReferenceMemNormFwdIdeal.τ).loc Cert.ReferenceMemNormFwdIdeal.main_arg1) = m ((c.tc : Thread Cert.KernelMemNormFwdIdeal.nD Cert.KernelMemNormFwdIdeal.τ).loc Cert.KernelMemNormFwdIdeal.main_arg1)) →
    ∃ (v0 : (c : Dev Cert.KernelMemNormFwdIdeal.nD) → Buf (Elt Ideal) ((c.tc : Thread Cert.KernelMemNormFwdIdeal.nD Cert.KernelMemNormFwdIdeal.τ).loc Cert.KernelMemNormFwdIdeal.main_v1)),
      θ_run (Cert.KernelMemNormFwdIdeal.defs (F := Ideal)) (onTc (τ := Cert.KernelMemNormFwdIdeal.τ) (Cert.KernelMemNormFwdIdeal.main (F := Ideal))) ⟨m, fun _ => 0, g⟩ (fun r => ∀ c : Dev Cert.KernelMemNormFwdIdeal.nD,
          r.2.mem ((c.tc : Thread Cert.KernelMemNormFwdIdeal.nD Cert.KernelMemNormFwdIdeal.τ).loc Cert.KernelMemNormFwdIdeal.main_v1) = v0 c
          ∧ r.2.mem ((c.tc : Thread Cert.KernelMemNormFwdIdeal.nD Cert.KernelMemNormFwdIdeal.τ).loc Cert.KernelMemNormFwdIdeal.main_arg0) = m ((c.tc : Thread Cert.KernelMemNormFwdIdeal.nD Cert.KernelMemNormFwdIdeal.τ).loc Cert.KernelMemNormFwdIdeal.main_arg0)
          ∧ r.2.mem ((c.tc : Thread Cert.KernelMemNormFwdIdeal.nD Cert.KernelMemNormFwdIdeal.τ).loc Cert.KernelMemNormFwdIdeal.main_arg1) = m ((c.tc : Thread Cert.KernelMemNormFwdIdeal.nD Cert.KernelMemNormFwdIdeal.τ).loc Cert.KernelMemNormFwdIdeal.main_arg1))
      ∧ θ_run (Cert.ReferenceMemNormFwdIdeal.defs (F := Ideal)) (onTc (τ := Cert.ReferenceMemNormFwdIdeal.τ) (Cert.ReferenceMemNormFwdIdeal.main (F := Ideal))) ⟨m', fun _ => 0, g'⟩ (fun r => ∀ c : Dev Cert.ReferenceMemNormFwdIdeal.nD,
          r.2.mem ((c.tc : Thread Cert.ReferenceMemNormFwdIdeal.nD Cert.ReferenceMemNormFwdIdeal.τ).loc Cert.ReferenceMemNormFwdIdeal.main_v15) = v0 c
          ∧ r.2.mem ((c.tc : Thread Cert.ReferenceMemNormFwdIdeal.nD Cert.ReferenceMemNormFwdIdeal.τ).loc Cert.ReferenceMemNormFwdIdeal.main_arg0) = m' ((c.tc : Thread Cert.ReferenceMemNormFwdIdeal.nD Cert.ReferenceMemNormFwdIdeal.τ).loc Cert.ReferenceMemNormFwdIdeal.main_arg0)
          ∧ r.2.mem ((c.tc : Thread Cert.ReferenceMemNormFwdIdeal.nD Cert.ReferenceMemNormFwdIdeal.τ).loc Cert.ReferenceMemNormFwdIdeal.main_arg1) = m' ((c.tc : Thread Cert.ReferenceMemNormFwdIdeal.nD Cert.ReferenceMemNormFwdIdeal.τ).loc Cert.ReferenceMemNormFwdIdeal.main_arg1))

def preserves_KernelKeyNormFwd_KernelKeyNormFwdIdeal : Prop :=
  True

def algebraic_KernelKeyNormFwdIdeal_ReferenceKeyNormFwdIdeal [hKernelKeyNormFwdIdeal : Cert.KernelKeyNormFwdIdeal.Facts] [hReferenceKeyNormFwdIdeal : Cert.ReferenceKeyNormFwdIdeal.Facts] : Prop :=
  ∀ (m : (ℓ : Loc Cert.KernelKeyNormFwdIdeal.nD Cert.KernelKeyNormFwdIdeal.τ Cert.KernelKeyNormFwdIdeal.sig) → Buf (Elt Ideal) ℓ) (g : Dev Cert.KernelKeyNormFwdIdeal.nD → PrngReg)
    (m' : (ℓ : Loc Cert.ReferenceKeyNormFwdIdeal.nD Cert.ReferenceKeyNormFwdIdeal.τ Cert.ReferenceKeyNormFwdIdeal.sig) → Buf (Elt Ideal) ℓ) (g' : Dev Cert.ReferenceKeyNormFwdIdeal.nD → PrngReg), Pre_KernelKeyNormFwdIdeal m →
    (∀ c : Dev Cert.KernelKeyNormFwdIdeal.nD,
      m' ((c.tc : Thread Cert.ReferenceKeyNormFwdIdeal.nD Cert.ReferenceKeyNormFwdIdeal.τ).loc Cert.ReferenceKeyNormFwdIdeal.main_arg0) = m ((c.tc : Thread Cert.KernelKeyNormFwdIdeal.nD Cert.KernelKeyNormFwdIdeal.τ).loc Cert.KernelKeyNormFwdIdeal.main_arg0)
      ∧ m' ((c.tc : Thread Cert.ReferenceKeyNormFwdIdeal.nD Cert.ReferenceKeyNormFwdIdeal.τ).loc Cert.ReferenceKeyNormFwdIdeal.main_arg1) = m ((c.tc : Thread Cert.KernelKeyNormFwdIdeal.nD Cert.KernelKeyNormFwdIdeal.τ).loc Cert.KernelKeyNormFwdIdeal.main_arg1)) →
    ∃ (v0 : (c : Dev Cert.KernelKeyNormFwdIdeal.nD) → Buf (Elt Ideal) ((c.tc : Thread Cert.KernelKeyNormFwdIdeal.nD Cert.KernelKeyNormFwdIdeal.τ).loc Cert.KernelKeyNormFwdIdeal.main_v0)),
      θ_run (Cert.KernelKeyNormFwdIdeal.defs (F := Ideal)) (onTc (τ := Cert.KernelKeyNormFwdIdeal.τ) (Cert.KernelKeyNormFwdIdeal.main (F := Ideal))) ⟨m, fun _ => 0, g⟩ (fun r => ∀ c : Dev Cert.KernelKeyNormFwdIdeal.nD,
          r.2.mem ((c.tc : Thread Cert.KernelKeyNormFwdIdeal.nD Cert.KernelKeyNormFwdIdeal.τ).loc Cert.KernelKeyNormFwdIdeal.main_v0) = v0 c
          ∧ r.2.mem ((c.tc : Thread Cert.KernelKeyNormFwdIdeal.nD Cert.KernelKeyNormFwdIdeal.τ).loc Cert.KernelKeyNormFwdIdeal.main_arg0) = m ((c.tc : Thread Cert.KernelKeyNormFwdIdeal.nD Cert.KernelKeyNormFwdIdeal.τ).loc Cert.KernelKeyNormFwdIdeal.main_arg0)
          ∧ r.2.mem ((c.tc : Thread Cert.KernelKeyNormFwdIdeal.nD Cert.KernelKeyNormFwdIdeal.τ).loc Cert.KernelKeyNormFwdIdeal.main_arg1) = m ((c.tc : Thread Cert.KernelKeyNormFwdIdeal.nD Cert.KernelKeyNormFwdIdeal.τ).loc Cert.KernelKeyNormFwdIdeal.main_arg1))
      ∧ θ_run (Cert.ReferenceKeyNormFwdIdeal.defs (F := Ideal)) (onTc (τ := Cert.ReferenceKeyNormFwdIdeal.τ) (Cert.ReferenceKeyNormFwdIdeal.main (F := Ideal))) ⟨m', fun _ => 0, g'⟩ (fun r => ∀ c : Dev Cert.ReferenceKeyNormFwdIdeal.nD,
          r.2.mem ((c.tc : Thread Cert.ReferenceKeyNormFwdIdeal.nD Cert.ReferenceKeyNormFwdIdeal.τ).loc Cert.ReferenceKeyNormFwdIdeal.main_v17) = v0 c
          ∧ r.2.mem ((c.tc : Thread Cert.ReferenceKeyNormFwdIdeal.nD Cert.ReferenceKeyNormFwdIdeal.τ).loc Cert.ReferenceKeyNormFwdIdeal.main_arg0) = m' ((c.tc : Thread Cert.ReferenceKeyNormFwdIdeal.nD Cert.ReferenceKeyNormFwdIdeal.τ).loc Cert.ReferenceKeyNormFwdIdeal.main_arg0)
          ∧ r.2.mem ((c.tc : Thread Cert.ReferenceKeyNormFwdIdeal.nD Cert.ReferenceKeyNormFwdIdeal.τ).loc Cert.ReferenceKeyNormFwdIdeal.main_arg1) = m' ((c.tc : Thread Cert.ReferenceKeyNormFwdIdeal.nD Cert.ReferenceKeyNormFwdIdeal.τ).loc Cert.ReferenceKeyNormFwdIdeal.main_arg1))

def preserves_KernelAttnFwd_KernelAttnFwdIdeal : Prop :=
  IdealRules.named_const.Statement Cert.KernelAttnFwdIdeal.κ "mask" .f32 0xF149F2CA#32 ⊥

def algebraic_KernelAttnFwdIdeal_ReferenceAttnFwdIdeal_pre_attn_fwd_finite [hKernelAttnFwdIdeal : Cert.KernelAttnFwdIdeal.Facts] [hReferenceAttnFwdIdeal : Cert.ReferenceAttnFwdIdeal.Facts] [hPre_attn_fwd_finite : Cert.Pre_attn_fwd_finite.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg)
    (m' : (ℓ : Loc Cert.ReferenceAttnFwdIdeal.nD Cert.ReferenceAttnFwdIdeal.τ Cert.ReferenceAttnFwdIdeal.sig) → Buf (Elt Ideal) ℓ) (g' : Dev Cert.ReferenceAttnFwdIdeal.nD → PrngReg), Pre_KernelAttnFwdIdeal_attn_fwd_finite m →
    (∀ c : Dev Cert.KernelAttnFwdIdeal.nD,
      m' ((c.tc : Thread Cert.ReferenceAttnFwdIdeal.nD Cert.ReferenceAttnFwdIdeal.τ).loc Cert.ReferenceAttnFwdIdeal.main_arg0) = m ((c.tc : Thread Cert.KernelAttnFwdIdeal.nD Cert.KernelAttnFwdIdeal.τ).loc Cert.KernelAttnFwdIdeal.main_arg0)
      ∧ m' ((c.tc : Thread Cert.ReferenceAttnFwdIdeal.nD Cert.ReferenceAttnFwdIdeal.τ).loc Cert.ReferenceAttnFwdIdeal.main_arg1) = m ((c.tc : Thread Cert.KernelAttnFwdIdeal.nD Cert.KernelAttnFwdIdeal.τ).loc Cert.KernelAttnFwdIdeal.main_arg1)
      ∧ m' ((c.tc : Thread Cert.ReferenceAttnFwdIdeal.nD Cert.ReferenceAttnFwdIdeal.τ).loc Cert.ReferenceAttnFwdIdeal.main_arg2) = m ((c.tc : Thread Cert.KernelAttnFwdIdeal.nD Cert.KernelAttnFwdIdeal.τ).loc Cert.KernelAttnFwdIdeal.main_arg2)) →
    ∃ (v0 : (c : Dev Cert.KernelAttnFwdIdeal.nD) → Buf (Elt Ideal) ((c.tc : Thread Cert.KernelAttnFwdIdeal.nD Cert.KernelAttnFwdIdeal.τ).loc Cert.KernelAttnFwdIdeal.main_v10_0)) (v1 : (c : Dev Cert.KernelAttnFwdIdeal.nD) → Buf (Elt Ideal) ((c.tc : Thread Cert.KernelAttnFwdIdeal.nD Cert.KernelAttnFwdIdeal.τ).loc Cert.KernelAttnFwdIdeal.main_v10_1)),
      θ_run (Cert.KernelAttnFwdIdeal.defs (F := Ideal)) (onTc (τ := Cert.KernelAttnFwdIdeal.τ) (Cert.KernelAttnFwdIdeal.main (F := Ideal))) ⟨m, fun _ => 0, g⟩ (fun r => ∀ c : Dev Cert.KernelAttnFwdIdeal.nD,
          r.2.mem ((c.tc : Thread Cert.KernelAttnFwdIdeal.nD Cert.KernelAttnFwdIdeal.τ).loc Cert.KernelAttnFwdIdeal.main_v10_0) = v0 c
          ∧ r.2.mem ((c.tc : Thread Cert.KernelAttnFwdIdeal.nD Cert.KernelAttnFwdIdeal.τ).loc Cert.KernelAttnFwdIdeal.main_v10_1) = v1 c
          ∧ r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
          ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
          ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2))
      ∧ θ_run (Cert.ReferenceAttnFwdIdeal.defs (F := Ideal)) (onTc (τ := Cert.ReferenceAttnFwdIdeal.τ) (Cert.ReferenceAttnFwdIdeal.main (F := Ideal))) ⟨m', fun _ => 0, g'⟩ (fun r => ∀ c : Dev Cert.ReferenceAttnFwdIdeal.nD,
          r.2.mem ((c.tc : Thread Cert.ReferenceAttnFwdIdeal.nD Cert.ReferenceAttnFwdIdeal.τ).loc Cert.ReferenceAttnFwdIdeal.main_v24) = v0 c
          ∧ r.2.mem ((c.tc : Thread Cert.ReferenceAttnFwdIdeal.nD Cert.ReferenceAttnFwdIdeal.τ).loc Cert.ReferenceAttnFwdIdeal.main_v27) = v1 c
          ∧ r.2.mem ((c.tc : Thread Cert.ReferenceAttnFwdIdeal.nD Cert.ReferenceAttnFwdIdeal.τ).loc Cert.ReferenceAttnFwdIdeal.main_arg0) = m' ((c.tc : Thread Cert.ReferenceAttnFwdIdeal.nD Cert.ReferenceAttnFwdIdeal.τ).loc Cert.ReferenceAttnFwdIdeal.main_arg0)
          ∧ r.2.mem ((c.tc : Thread Cert.ReferenceAttnFwdIdeal.nD Cert.ReferenceAttnFwdIdeal.τ).loc Cert.ReferenceAttnFwdIdeal.main_arg1) = m' ((c.tc : Thread Cert.ReferenceAttnFwdIdeal.nD Cert.ReferenceAttnFwdIdeal.τ).loc Cert.ReferenceAttnFwdIdeal.main_arg1)
          ∧ r.2.mem ((c.tc : Thread Cert.ReferenceAttnFwdIdeal.nD Cert.ReferenceAttnFwdIdeal.τ).loc Cert.ReferenceAttnFwdIdeal.main_arg2) = m' ((c.tc : Thread Cert.ReferenceAttnFwdIdeal.nD Cert.ReferenceAttnFwdIdeal.τ).loc Cert.ReferenceAttnFwdIdeal.main_arg2))

def preserves_KernelSsmPrepFwd_KernelSsmPrepFwdIdeal : Prop :=
  True

def algebraic_KernelSsmPrepFwdIdeal_ReferenceSsmPrepFwdIdeal [hKernelSsmPrepFwdIdeal : Cert.KernelSsmPrepFwdIdeal.Facts] [hReferenceSsmPrepFwdIdeal : Cert.ReferenceSsmPrepFwdIdeal.Facts] : Prop :=
  ∀ (m : (ℓ : Loc Cert.KernelSsmPrepFwdIdeal.nD Cert.KernelSsmPrepFwdIdeal.τ Cert.KernelSsmPrepFwdIdeal.sig) → Buf (Elt Ideal) ℓ) (g : Dev Cert.KernelSsmPrepFwdIdeal.nD → PrngReg)
    (m' : (ℓ : Loc Cert.ReferenceSsmPrepFwdIdeal.nD Cert.ReferenceSsmPrepFwdIdeal.τ Cert.ReferenceSsmPrepFwdIdeal.sig) → Buf (Elt Ideal) ℓ) (g' : Dev Cert.ReferenceSsmPrepFwdIdeal.nD → PrngReg), Pre_KernelSsmPrepFwdIdeal m →
    (∀ c : Dev Cert.KernelSsmPrepFwdIdeal.nD,
      m' ((c.tc : Thread Cert.ReferenceSsmPrepFwdIdeal.nD Cert.ReferenceSsmPrepFwdIdeal.τ).loc Cert.ReferenceSsmPrepFwdIdeal.main_arg0) = m ((c.tc : Thread Cert.KernelSsmPrepFwdIdeal.nD Cert.KernelSsmPrepFwdIdeal.τ).loc Cert.KernelSsmPrepFwdIdeal.main_arg0)
      ∧ m' ((c.tc : Thread Cert.ReferenceSsmPrepFwdIdeal.nD Cert.ReferenceSsmPrepFwdIdeal.τ).loc Cert.ReferenceSsmPrepFwdIdeal.main_arg1) = m ((c.tc : Thread Cert.KernelSsmPrepFwdIdeal.nD Cert.KernelSsmPrepFwdIdeal.τ).loc Cert.KernelSsmPrepFwdIdeal.main_arg1)
      ∧ m' ((c.tc : Thread Cert.ReferenceSsmPrepFwdIdeal.nD Cert.ReferenceSsmPrepFwdIdeal.τ).loc Cert.ReferenceSsmPrepFwdIdeal.main_arg2) = m ((c.tc : Thread Cert.KernelSsmPrepFwdIdeal.nD Cert.KernelSsmPrepFwdIdeal.τ).loc Cert.KernelSsmPrepFwdIdeal.main_arg2)
      ∧ m' ((c.tc : Thread Cert.ReferenceSsmPrepFwdIdeal.nD Cert.ReferenceSsmPrepFwdIdeal.τ).loc Cert.ReferenceSsmPrepFwdIdeal.main_arg3) = m ((c.tc : Thread Cert.KernelSsmPrepFwdIdeal.nD Cert.KernelSsmPrepFwdIdeal.τ).loc Cert.KernelSsmPrepFwdIdeal.main_arg3)
      ∧ m' ((c.tc : Thread Cert.ReferenceSsmPrepFwdIdeal.nD Cert.ReferenceSsmPrepFwdIdeal.τ).loc Cert.ReferenceSsmPrepFwdIdeal.main_arg4) = m ((c.tc : Thread Cert.KernelSsmPrepFwdIdeal.nD Cert.KernelSsmPrepFwdIdeal.τ).loc Cert.KernelSsmPrepFwdIdeal.main_arg4)
      ∧ m' ((c.tc : Thread Cert.ReferenceSsmPrepFwdIdeal.nD Cert.ReferenceSsmPrepFwdIdeal.τ).loc Cert.ReferenceSsmPrepFwdIdeal.main_arg5) = m ((c.tc : Thread Cert.KernelSsmPrepFwdIdeal.nD Cert.KernelSsmPrepFwdIdeal.τ).loc Cert.KernelSsmPrepFwdIdeal.main_arg5)
      ∧ m' ((c.tc : Thread Cert.ReferenceSsmPrepFwdIdeal.nD Cert.ReferenceSsmPrepFwdIdeal.τ).loc Cert.ReferenceSsmPrepFwdIdeal.main_arg6) = m ((c.tc : Thread Cert.KernelSsmPrepFwdIdeal.nD Cert.KernelSsmPrepFwdIdeal.τ).loc Cert.KernelSsmPrepFwdIdeal.main_arg6)) →
    ∃ (v0 : (c : Dev Cert.KernelSsmPrepFwdIdeal.nD) → Buf (Elt Ideal) ((c.tc : Thread Cert.KernelSsmPrepFwdIdeal.nD Cert.KernelSsmPrepFwdIdeal.τ).loc Cert.KernelSsmPrepFwdIdeal.main_v0_0)) (v1 : (c : Dev Cert.KernelSsmPrepFwdIdeal.nD) → Buf (Elt Ideal) ((c.tc : Thread Cert.KernelSsmPrepFwdIdeal.nD Cert.KernelSsmPrepFwdIdeal.τ).loc Cert.KernelSsmPrepFwdIdeal.main_v0_1)) (v2 : (c : Dev Cert.KernelSsmPrepFwdIdeal.nD) → Buf (Elt Ideal) ((c.tc : Thread Cert.KernelSsmPrepFwdIdeal.nD Cert.KernelSsmPrepFwdIdeal.τ).loc Cert.KernelSsmPrepFwdIdeal.main_v0_2)) (v3 : (c : Dev Cert.KernelSsmPrepFwdIdeal.nD) → Buf (Elt Ideal) ((c.tc : Thread Cert.KernelSsmPrepFwdIdeal.nD Cert.KernelSsmPrepFwdIdeal.τ).loc Cert.KernelSsmPrepFwdIdeal.main_v0_3)) (v4 : (c : Dev Cert.KernelSsmPrepFwdIdeal.nD) → Buf (Elt Ideal) ((c.tc : Thread Cert.KernelSsmPrepFwdIdeal.nD Cert.KernelSsmPrepFwdIdeal.τ).loc Cert.KernelSsmPrepFwdIdeal.main_v0_4)) (v5 : (c : Dev Cert.KernelSsmPrepFwdIdeal.nD) → Buf (Elt Ideal) ((c.tc : Thread Cert.KernelSsmPrepFwdIdeal.nD Cert.KernelSsmPrepFwdIdeal.τ).loc Cert.KernelSsmPrepFwdIdeal.main_v0_5)),
      θ_run (Cert.KernelSsmPrepFwdIdeal.defs (F := Ideal)) (onTc (τ := Cert.KernelSsmPrepFwdIdeal.τ) (Cert.KernelSsmPrepFwdIdeal.main (F := Ideal))) ⟨m, fun _ => 0, g⟩ (fun r => ∀ c : Dev Cert.KernelSsmPrepFwdIdeal.nD,
          r.2.mem ((c.tc : Thread Cert.KernelSsmPrepFwdIdeal.nD Cert.KernelSsmPrepFwdIdeal.τ).loc Cert.KernelSsmPrepFwdIdeal.main_v0_0) = v0 c
          ∧ r.2.mem ((c.tc : Thread Cert.KernelSsmPrepFwdIdeal.nD Cert.KernelSsmPrepFwdIdeal.τ).loc Cert.KernelSsmPrepFwdIdeal.main_v0_1) = v1 c
          ∧ r.2.mem ((c.tc : Thread Cert.KernelSsmPrepFwdIdeal.nD Cert.KernelSsmPrepFwdIdeal.τ).loc Cert.KernelSsmPrepFwdIdeal.main_v0_2) = v2 c
          ∧ r.2.mem ((c.tc : Thread Cert.KernelSsmPrepFwdIdeal.nD Cert.KernelSsmPrepFwdIdeal.τ).loc Cert.KernelSsmPrepFwdIdeal.main_v0_3) = v3 c
          ∧ r.2.mem ((c.tc : Thread Cert.KernelSsmPrepFwdIdeal.nD Cert.KernelSsmPrepFwdIdeal.τ).loc Cert.KernelSsmPrepFwdIdeal.main_v0_4) = v4 c
          ∧ r.2.mem ((c.tc : Thread Cert.KernelSsmPrepFwdIdeal.nD Cert.KernelSsmPrepFwdIdeal.τ).loc Cert.KernelSsmPrepFwdIdeal.main_v0_5) = v5 c
          ∧ r.2.mem ((c.tc : Thread Cert.KernelSsmPrepFwdIdeal.nD Cert.KernelSsmPrepFwdIdeal.τ).loc Cert.KernelSsmPrepFwdIdeal.main_arg0) = m ((c.tc : Thread Cert.KernelSsmPrepFwdIdeal.nD Cert.KernelSsmPrepFwdIdeal.τ).loc Cert.KernelSsmPrepFwdIdeal.main_arg0)
          ∧ r.2.mem ((c.tc : Thread Cert.KernelSsmPrepFwdIdeal.nD Cert.KernelSsmPrepFwdIdeal.τ).loc Cert.KernelSsmPrepFwdIdeal.main_arg1) = m ((c.tc : Thread Cert.KernelSsmPrepFwdIdeal.nD Cert.KernelSsmPrepFwdIdeal.τ).loc Cert.KernelSsmPrepFwdIdeal.main_arg1)
          ∧ r.2.mem ((c.tc : Thread Cert.KernelSsmPrepFwdIdeal.nD Cert.KernelSsmPrepFwdIdeal.τ).loc Cert.KernelSsmPrepFwdIdeal.main_arg2) = m ((c.tc : Thread Cert.KernelSsmPrepFwdIdeal.nD Cert.KernelSsmPrepFwdIdeal.τ).loc Cert.KernelSsmPrepFwdIdeal.main_arg2)
          ∧ r.2.mem ((c.tc : Thread Cert.KernelSsmPrepFwdIdeal.nD Cert.KernelSsmPrepFwdIdeal.τ).loc Cert.KernelSsmPrepFwdIdeal.main_arg3) = m ((c.tc : Thread Cert.KernelSsmPrepFwdIdeal.nD Cert.KernelSsmPrepFwdIdeal.τ).loc Cert.KernelSsmPrepFwdIdeal.main_arg3)
          ∧ r.2.mem ((c.tc : Thread Cert.KernelSsmPrepFwdIdeal.nD Cert.KernelSsmPrepFwdIdeal.τ).loc Cert.KernelSsmPrepFwdIdeal.main_arg4) = m ((c.tc : Thread Cert.KernelSsmPrepFwdIdeal.nD Cert.KernelSsmPrepFwdIdeal.τ).loc Cert.KernelSsmPrepFwdIdeal.main_arg4)
          ∧ r.2.mem ((c.tc : Thread Cert.KernelSsmPrepFwdIdeal.nD Cert.KernelSsmPrepFwdIdeal.τ).loc Cert.KernelSsmPrepFwdIdeal.main_arg5) = m ((c.tc : Thread Cert.KernelSsmPrepFwdIdeal.nD Cert.KernelSsmPrepFwdIdeal.τ).loc Cert.KernelSsmPrepFwdIdeal.main_arg5)
          ∧ r.2.mem ((c.tc : Thread Cert.KernelSsmPrepFwdIdeal.nD Cert.KernelSsmPrepFwdIdeal.τ).loc Cert.KernelSsmPrepFwdIdeal.main_arg6) = m ((c.tc : Thread Cert.KernelSsmPrepFwdIdeal.nD Cert.KernelSsmPrepFwdIdeal.τ).loc Cert.KernelSsmPrepFwdIdeal.main_arg6))
      ∧ θ_run (Cert.ReferenceSsmPrepFwdIdeal.defs (F := Ideal)) (onTc (τ := Cert.ReferenceSsmPrepFwdIdeal.τ) (Cert.ReferenceSsmPrepFwdIdeal.main (F := Ideal))) ⟨m', fun _ => 0, g'⟩ (fun r => ∀ c : Dev Cert.ReferenceSsmPrepFwdIdeal.nD,
          r.2.mem ((c.tc : Thread Cert.ReferenceSsmPrepFwdIdeal.nD Cert.ReferenceSsmPrepFwdIdeal.τ).loc Cert.ReferenceSsmPrepFwdIdeal.main_v49) = v0 c
          ∧ r.2.mem ((c.tc : Thread Cert.ReferenceSsmPrepFwdIdeal.nD Cert.ReferenceSsmPrepFwdIdeal.τ).loc Cert.ReferenceSsmPrepFwdIdeal.main_v51) = v1 c
          ∧ r.2.mem ((c.tc : Thread Cert.ReferenceSsmPrepFwdIdeal.nD Cert.ReferenceSsmPrepFwdIdeal.τ).loc Cert.ReferenceSsmPrepFwdIdeal.main_v75) = v2 c
          ∧ r.2.mem ((c.tc : Thread Cert.ReferenceSsmPrepFwdIdeal.nD Cert.ReferenceSsmPrepFwdIdeal.τ).loc Cert.ReferenceSsmPrepFwdIdeal.main_v76) = v3 c
          ∧ r.2.mem ((c.tc : Thread Cert.ReferenceSsmPrepFwdIdeal.nD Cert.ReferenceSsmPrepFwdIdeal.τ).loc Cert.ReferenceSsmPrepFwdIdeal.main_v77) = v4 c
          ∧ r.2.mem ((c.tc : Thread Cert.ReferenceSsmPrepFwdIdeal.nD Cert.ReferenceSsmPrepFwdIdeal.τ).loc Cert.ReferenceSsmPrepFwdIdeal.main_v78) = v5 c
          ∧ r.2.mem ((c.tc : Thread Cert.ReferenceSsmPrepFwdIdeal.nD Cert.ReferenceSsmPrepFwdIdeal.τ).loc Cert.ReferenceSsmPrepFwdIdeal.main_arg0) = m' ((c.tc : Thread Cert.ReferenceSsmPrepFwdIdeal.nD Cert.ReferenceSsmPrepFwdIdeal.τ).loc Cert.ReferenceSsmPrepFwdIdeal.main_arg0)
          ∧ r.2.mem ((c.tc : Thread Cert.ReferenceSsmPrepFwdIdeal.nD Cert.ReferenceSsmPrepFwdIdeal.τ).loc Cert.ReferenceSsmPrepFwdIdeal.main_arg1) = m' ((c.tc : Thread Cert.ReferenceSsmPrepFwdIdeal.nD Cert.ReferenceSsmPrepFwdIdeal.τ).loc Cert.ReferenceSsmPrepFwdIdeal.main_arg1)
          ∧ r.2.mem ((c.tc : Thread Cert.ReferenceSsmPrepFwdIdeal.nD Cert.ReferenceSsmPrepFwdIdeal.τ).loc Cert.ReferenceSsmPrepFwdIdeal.main_arg2) = m' ((c.tc : Thread Cert.ReferenceSsmPrepFwdIdeal.nD Cert.ReferenceSsmPrepFwdIdeal.τ).loc Cert.ReferenceSsmPrepFwdIdeal.main_arg2)
          ∧ r.2.mem ((c.tc : Thread Cert.ReferenceSsmPrepFwdIdeal.nD Cert.ReferenceSsmPrepFwdIdeal.τ).loc Cert.ReferenceSsmPrepFwdIdeal.main_arg3) = m' ((c.tc : Thread Cert.ReferenceSsmPrepFwdIdeal.nD Cert.ReferenceSsmPrepFwdIdeal.τ).loc Cert.ReferenceSsmPrepFwdIdeal.main_arg3)
          ∧ r.2.mem ((c.tc : Thread Cert.ReferenceSsmPrepFwdIdeal.nD Cert.ReferenceSsmPrepFwdIdeal.τ).loc Cert.ReferenceSsmPrepFwdIdeal.main_arg4) = m' ((c.tc : Thread Cert.ReferenceSsmPrepFwdIdeal.nD Cert.ReferenceSsmPrepFwdIdeal.τ).loc Cert.ReferenceSsmPrepFwdIdeal.main_arg4)
          ∧ r.2.mem ((c.tc : Thread Cert.ReferenceSsmPrepFwdIdeal.nD Cert.ReferenceSsmPrepFwdIdeal.τ).loc Cert.ReferenceSsmPrepFwdIdeal.main_arg5) = m' ((c.tc : Thread Cert.ReferenceSsmPrepFwdIdeal.nD Cert.ReferenceSsmPrepFwdIdeal.τ).loc Cert.ReferenceSsmPrepFwdIdeal.main_arg5)
          ∧ r.2.mem ((c.tc : Thread Cert.ReferenceSsmPrepFwdIdeal.nD Cert.ReferenceSsmPrepFwdIdeal.τ).loc Cert.ReferenceSsmPrepFwdIdeal.main_arg6) = m' ((c.tc : Thread Cert.ReferenceSsmPrepFwdIdeal.nD Cert.ReferenceSsmPrepFwdIdeal.τ).loc Cert.ReferenceSsmPrepFwdIdeal.main_arg6))

def preserves_KernelPostFwd_KernelPostFwdIdeal : Prop :=
  True

def preserves_KernelPreFwd_KernelPreFwdIdeal : Prop :=
  True

def Claim : Prop :=
  ∃ (hKernelMemNorm : Cert.KernelMemNorm.Facts) (hKernelMemNormIdeal : Cert.KernelMemNormIdeal.Facts) (hReferenceMemNormIdeal : Cert.ReferenceMemNormIdeal.Facts) (hKernelFfnW : Cert.KernelFfnW.Facts) (hKernelFfnWIdeal : Cert.KernelFfnWIdeal.Facts) (hReferenceFfnWIdeal : Cert.ReferenceFfnWIdeal.Facts) (hKernelFfnAct : Cert.KernelFfnAct.Facts) (hKernelFfnActIdeal : Cert.KernelFfnActIdeal.Facts) (hReferenceFfnActIdeal : Cert.ReferenceFfnActIdeal.Facts) (hKernelKeyNorm : Cert.KernelKeyNorm.Facts) (hKernelKeyNormIdeal : Cert.KernelKeyNormIdeal.Facts) (hReferenceKeyNormIdeal : Cert.ReferenceKeyNormIdeal.Facts) (hKernelAttn : Cert.KernelAttn.Facts) (hKernelAttnIdeal : Cert.KernelAttnIdeal.Facts) (hReferenceAttnIdeal : Cert.ReferenceAttnIdeal.Facts) (hKernelSsmPrep : Cert.KernelSsmPrep.Facts) (hKernelSsmPrepIdeal : Cert.KernelSsmPrepIdeal.Facts) (hReferenceSsmPrepIdeal : Cert.ReferenceSsmPrepIdeal.Facts) (hKernelPost : Cert.KernelPost.Facts) (hKernelPostIdeal : Cert.KernelPostIdeal.Facts) (hReferencePostIdeal : Cert.ReferencePostIdeal.Facts) (hKernelPre : Cert.KernelPre.Facts) (hKernelPreIdeal : Cert.KernelPreIdeal.Facts) (hReferencePreIdeal : Cert.ReferencePreIdeal.Facts) (hReferenceSsmIdeal : Cert.ReferenceSsmIdeal.Facts) (hKernelMemNormFwd : Cert.KernelMemNormFwd.Facts) (hKernelMemNormFwdIdeal : Cert.KernelMemNormFwdIdeal.Facts) (hReferenceMemNormFwdIdeal : Cert.ReferenceMemNormFwdIdeal.Facts) (hKernelKeyNormFwd : Cert.KernelKeyNormFwd.Facts) (hKernelKeyNormFwdIdeal : Cert.KernelKeyNormFwdIdeal.Facts) (hReferenceKeyNormFwdIdeal : Cert.ReferenceKeyNormFwdIdeal.Facts) (hKernelAttnFwd : Cert.KernelAttnFwd.Facts) (hKernelAttnFwdIdeal : Cert.KernelAttnFwdIdeal.Facts) (hReferenceAttnFwdIdeal : Cert.ReferenceAttnFwdIdeal.Facts) (hKernelSsmPrepFwd : Cert.KernelSsmPrepFwd.Facts) (hKernelSsmPrepFwdIdeal : Cert.KernelSsmPrepFwdIdeal.Facts) (hReferenceSsmPrepFwdIdeal : Cert.ReferenceSsmPrepFwdIdeal.Facts) (hKernelPostFwd : Cert.KernelPostFwd.Facts) (hKernelPostFwdIdeal : Cert.KernelPostFwdIdeal.Facts) (hReferencePostFwdIdeal : Cert.ReferencePostFwdIdeal.Facts) (hKernelPreFwd : Cert.KernelPreFwd.Facts) (hKernelPreFwdIdeal : Cert.KernelPreFwdIdeal.Facts) (hPre_ffn_finite : Cert.Pre_ffn_finite.Facts) (hPre_attn_finite : Cert.Pre_attn_finite.Facts) (hPre_prep_nonzero : Cert.Pre_prep_nonzero.Facts) (hPre_attn_fwd_finite : Cert.Pre_attn_fwd_finite.Facts),
    quiescent_KernelMemNorm (hKernelMemNorm := hKernelMemNorm)
    ∧ quiescent_KernelMemNormIdeal (hKernelMemNormIdeal := hKernelMemNormIdeal)
    ∧ quiescent_ReferenceMemNormIdeal (hReferenceMemNormIdeal := hReferenceMemNormIdeal)
    ∧ quiescent_KernelFfnW (hKernelFfnW := hKernelFfnW)
    ∧ quiescent_KernelFfnWIdeal (hKernelFfnWIdeal := hKernelFfnWIdeal)
    ∧ quiescent_ReferenceFfnWIdeal (hReferenceFfnWIdeal := hReferenceFfnWIdeal)
    ∧ quiescent_KernelFfnAct (hKernelFfnAct := hKernelFfnAct)
    ∧ quiescent_KernelFfnActIdeal (hKernelFfnActIdeal := hKernelFfnActIdeal)
    ∧ quiescent_KernelFfnActIdeal_pre_ffn_finite (hKernelFfnActIdeal := hKernelFfnActIdeal) (hPre_ffn_finite := hPre_ffn_finite)
    ∧ quiescent_ReferenceFfnActIdeal (hReferenceFfnActIdeal := hReferenceFfnActIdeal)
    ∧ quiescent_ReferenceFfnActIdeal_pre_ffn_finite (hReferenceFfnActIdeal := hReferenceFfnActIdeal) (hPre_ffn_finite := hPre_ffn_finite)
    ∧ quiescent_KernelKeyNorm (hKernelKeyNorm := hKernelKeyNorm)
    ∧ quiescent_KernelKeyNormIdeal (hKernelKeyNormIdeal := hKernelKeyNormIdeal)
    ∧ quiescent_ReferenceKeyNormIdeal (hReferenceKeyNormIdeal := hReferenceKeyNormIdeal)
    ∧ quiescent_KernelAttn (hKernelAttn := hKernelAttn)
    ∧ quiescent_KernelAttnIdeal (hKernelAttnIdeal := hKernelAttnIdeal)
    ∧ quiescent_KernelAttnIdeal_pre_attn_finite (hKernelAttnIdeal := hKernelAttnIdeal) (hPre_attn_finite := hPre_attn_finite)
    ∧ quiescent_ReferenceAttnIdeal (hReferenceAttnIdeal := hReferenceAttnIdeal)
    ∧ quiescent_ReferenceAttnIdeal_pre_attn_finite (hReferenceAttnIdeal := hReferenceAttnIdeal) (hPre_attn_finite := hPre_attn_finite)
    ∧ quiescent_KernelSsmPrep (hKernelSsmPrep := hKernelSsmPrep)
    ∧ quiescent_KernelSsmPrepIdeal (hKernelSsmPrepIdeal := hKernelSsmPrepIdeal)
    ∧ quiescent_KernelSsmPrepIdeal_pre_prep_nonzero (hKernelSsmPrepIdeal := hKernelSsmPrepIdeal) (hPre_prep_nonzero := hPre_prep_nonzero)
    ∧ quiescent_ReferenceSsmPrepIdeal (hReferenceSsmPrepIdeal := hReferenceSsmPrepIdeal)
    ∧ quiescent_ReferenceSsmPrepIdeal_pre_prep_nonzero (hReferenceSsmPrepIdeal := hReferenceSsmPrepIdeal) (hPre_prep_nonzero := hPre_prep_nonzero)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_ReferenceSsmIdeal (hReferenceSsmIdeal := hReferenceSsmIdeal)
    ∧ quiescent_KernelMemNormFwd (hKernelMemNormFwd := hKernelMemNormFwd)
    ∧ quiescent_KernelMemNormFwdIdeal (hKernelMemNormFwdIdeal := hKernelMemNormFwdIdeal)
    ∧ quiescent_ReferenceMemNormFwdIdeal (hReferenceMemNormFwdIdeal := hReferenceMemNormFwdIdeal)
    ∧ quiescent_KernelKeyNormFwd (hKernelKeyNormFwd := hKernelKeyNormFwd)
    ∧ quiescent_KernelKeyNormFwdIdeal (hKernelKeyNormFwdIdeal := hKernelKeyNormFwdIdeal)
    ∧ quiescent_ReferenceKeyNormFwdIdeal (hReferenceKeyNormFwdIdeal := hReferenceKeyNormFwdIdeal)
    ∧ quiescent_KernelAttnFwd (hKernelAttnFwd := hKernelAttnFwd)
    ∧ quiescent_KernelAttnFwdIdeal (hKernelAttnFwdIdeal := hKernelAttnFwdIdeal)
    ∧ quiescent_KernelAttnFwdIdeal_pre_attn_fwd_finite (hKernelAttnFwdIdeal := hKernelAttnFwdIdeal) (hPre_attn_fwd_finite := hPre_attn_fwd_finite)
    ∧ quiescent_ReferenceAttnFwdIdeal (hReferenceAttnFwdIdeal := hReferenceAttnFwdIdeal)
    ∧ quiescent_ReferenceAttnFwdIdeal_pre_attn_fwd_finite (hReferenceAttnFwdIdeal := hReferenceAttnFwdIdeal) (hPre_attn_fwd_finite := hPre_attn_fwd_finite)
    ∧ quiescent_KernelSsmPrepFwd (hKernelSsmPrepFwd := hKernelSsmPrepFwd)
    ∧ quiescent_KernelSsmPrepFwdIdeal (hKernelSsmPrepFwdIdeal := hKernelSsmPrepFwdIdeal)
    ∧ quiescent_ReferenceSsmPrepFwdIdeal (hReferenceSsmPrepFwdIdeal := hReferenceSsmPrepFwdIdeal)
    ∧ quiescent_KernelPostFwd (hKernelPostFwd := hKernelPostFwd)
    ∧ quiescent_KernelPostFwdIdeal (hKernelPostFwdIdeal := hKernelPostFwdIdeal)
    ∧ quiescent_ReferencePostFwdIdeal (hReferencePostFwdIdeal := hReferencePostFwdIdeal)
    ∧ quiescent_KernelPreFwd (hKernelPreFwd := hKernelPreFwd)
    ∧ quiescent_KernelPreFwdIdeal (hKernelPreFwdIdeal := hKernelPreFwdIdeal)
    ∧ preserves_KernelMemNorm_KernelMemNormIdeal
    ∧ algebraic_KernelMemNormIdeal_ReferenceMemNormIdeal (hKernelMemNormIdeal := hKernelMemNormIdeal) (hReferenceMemNormIdeal := hReferenceMemNormIdeal)
    ∧ preserves_KernelFfnW_KernelFfnWIdeal
    ∧ algebraic_KernelFfnWIdeal_ReferenceFfnWIdeal (hKernelFfnWIdeal := hKernelFfnWIdeal) (hReferenceFfnWIdeal := hReferenceFfnWIdeal)
    ∧ preserves_KernelFfnAct_KernelFfnActIdeal
    ∧ algebraic_KernelFfnActIdeal_ReferenceFfnActIdeal_pre_ffn_finite (hKernelFfnActIdeal := hKernelFfnActIdeal) (hReferenceFfnActIdeal := hReferenceFfnActIdeal) (hPre_ffn_finite := hPre_ffn_finite)
    ∧ preserves_KernelKeyNorm_KernelKeyNormIdeal
    ∧ algebraic_KernelKeyNormIdeal_ReferenceKeyNormIdeal (hKernelKeyNormIdeal := hKernelKeyNormIdeal) (hReferenceKeyNormIdeal := hReferenceKeyNormIdeal)
    ∧ preserves_KernelAttn_KernelAttnIdeal
    ∧ algebraic_KernelAttnIdeal_ReferenceAttnIdeal_pre_attn_finite (hKernelAttnIdeal := hKernelAttnIdeal) (hReferenceAttnIdeal := hReferenceAttnIdeal) (hPre_attn_finite := hPre_attn_finite)
    ∧ preserves_KernelSsmPrep_KernelSsmPrepIdeal
    ∧ algebraic_KernelSsmPrepIdeal_ReferenceSsmPrepIdeal_pre_prep_nonzero (hKernelSsmPrepIdeal := hKernelSsmPrepIdeal) (hReferenceSsmPrepIdeal := hReferenceSsmPrepIdeal) (hPre_prep_nonzero := hPre_prep_nonzero)
    ∧ preserves_KernelPost_KernelPostIdeal
    ∧ preserves_KernelPre_KernelPreIdeal
    ∧ preserves_KernelMemNormFwd_KernelMemNormFwdIdeal
    ∧ algebraic_KernelMemNormFwdIdeal_ReferenceMemNormFwdIdeal (hKernelMemNormFwdIdeal := hKernelMemNormFwdIdeal) (hReferenceMemNormFwdIdeal := hReferenceMemNormFwdIdeal)
    ∧ preserves_KernelKeyNormFwd_KernelKeyNormFwdIdeal
    ∧ algebraic_KernelKeyNormFwdIdeal_ReferenceKeyNormFwdIdeal (hKernelKeyNormFwdIdeal := hKernelKeyNormFwdIdeal) (hReferenceKeyNormFwdIdeal := hReferenceKeyNormFwdIdeal)
    ∧ preserves_KernelAttnFwd_KernelAttnFwdIdeal
    ∧ algebraic_KernelAttnFwdIdeal_ReferenceAttnFwdIdeal_pre_attn_fwd_finite (hKernelAttnFwdIdeal := hKernelAttnFwdIdeal) (hReferenceAttnFwdIdeal := hReferenceAttnFwdIdeal) (hPre_attn_fwd_finite := hPre_attn_fwd_finite)
    ∧ preserves_KernelSsmPrepFwd_KernelSsmPrepFwdIdeal
    ∧ algebraic_KernelSsmPrepFwdIdeal_ReferenceSsmPrepFwdIdeal (hKernelSsmPrepFwdIdeal := hKernelSsmPrepFwdIdeal) (hReferenceSsmPrepFwdIdeal := hReferenceSsmPrepFwdIdeal)
    ∧ preserves_KernelPostFwd_KernelPostFwdIdeal
    ∧ preserves_KernelPreFwd_KernelPreFwdIdeal
-- ==== Pre_attn_finite.lean ====
abbrev S1x4096x4x192 : Shape := ⟨4, ![1, 4096, 4, 192]⟩
abbrev S1x4096x4x128 : Shape := ⟨4, ![1, 4096, 4, 128]⟩
abbrev S_ : Shape := ⟨0, ![]⟩

class Facts : Prop where
  bcast_S_S1x4096x4x192 : S_.BroadcastsInDim S1x4096x4x192 (![] : Fin 0 → Fin S1x4096x4x192.rank)
  reducesTo_S1x4096x4x192_S_d0_1_2_3 : S1x4096x4x192.ReducesTo [0, 1, 2, 3] S_
  h_S_ : 0 < S_.numel
  bcast_S_S1x4096x4x128 : S_.BroadcastsInDim S1x4096x4x128 (![] : Fin 0 → Fin S1x4096x4x128.rank)
  reducesTo_S1x4096x4x128_S_d0_1_2_3 : S1x4096x4x128.ReducesTo [0, 1, 2, 3] S_

variable [Facts]

def fn_part1 {F : FTy → Type} [FloatOps F] (main_v13 : IVec S_ 1) (main_v16 : IVec S1x4096x4x128 1) : IVec S_ 1 :=
  let main_c_5 : IVec S_ 1 := constantI S_ 1 1#1
  let main_v17 : IVec S_ 1 := (fun x v => Host.reduce IntOp.andi x v reducesTo_S1x4096x4x128_S_d0_1_2_3 h_S_) main_v16 main_c_5
  let main_v18 : IVec S_ 1 := andi main_v13 main_v17
  main_v18

def fn {F : FTy → Type} [FloatOps F] (main_arg0 : FVec F S1x4096x4x192 .f32) (main_arg1 : FVec F S1x4096x4x192 .f32) (main_arg2 : FVec F S1x4096x4x128 .f32) (main_arg3 : FVec F S1x4096x4x128 .f32) : IVec S_ 1 :=
  let main_v0 : FVec F S1x4096x4x192 .f32 := Host.absf main_arg0
  let main_cst : FVec F S_ .f32 := constant S_ .f32 0x7F800000#32
  let main_v1 : FVec F S1x4096x4x192 .f32 := broadcastInDim S1x4096x4x192 ![] bcast_S_S1x4096x4x192 main_cst
  let main_v2 : IVec S1x4096x4x192 1 := cmpf .olt main_v0 main_v1
  let main_c : IVec S_ 1 := constantI S_ 1 1#1
  let main_v3 : IVec S_ 1 := (fun x v => Host.reduce IntOp.andi x v reducesTo_S1x4096x4x192_S_d0_1_2_3 h_S_) main_v2 main_c
  let main_v4 : FVec F S1x4096x4x192 .f32 := Host.absf main_arg1
  let main_cst_0 : FVec F S_ .f32 := constant S_ .f32 0x7F800000#32
  let main_v5 : FVec F S1x4096x4x192 .f32 := broadcastInDim S1x4096x4x192 ![] bcast_S_S1x4096x4x192 main_cst_0
  let main_v6 : IVec S1x4096x4x192 1 := cmpf .olt main_v4 main_v5
  let main_c_1 : IVec S_ 1 := constantI S_ 1 1#1
  let main_v7 : IVec S_ 1 := (fun x v => Host.reduce IntOp.andi x v reducesTo_S1x4096x4x192_S_d0_1_2_3 h_S_) main_v6 main_c_1
  let main_v8 : IVec S_ 1 := andi main_v3 main_v7
  let main_v9 : FVec F S1x4096x4x128 .f32 := Host.absf main_arg2
  let main_cst_2 : FVec F S_ .f32 := constant S_ .f32 0x7F800000#32
  let main_v10 : FVec F S1x4096x4x128 .f32 := broadcastInDim S1x4096x4x128 ![] bcast_S_S1x4096x4x128 main_cst_2
  let main_v11 : IVec S1x4096x4x128 1 := cmpf .olt main_v9 main_v10
  let main_c_3 : IVec S_ 1 := constantI S_ 1 1#1
  let main_v12 : IVec S_ 1 := (fun x v => Host.reduce IntOp.andi x v reducesTo_S1x4096x4x128_S_d0_1_2_3 h_S_) main_v11 main_c_3
  let main_v13 : IVec S_ 1 := andi main_v8 main_v12
  let main_v14 : FVec F S1x4096x4x128 .f32 := Host.absf main_arg3
  let main_cst_4 : FVec F S_ .f32 := constant S_ .f32 0x7F800000#32
  let main_v15 : FVec F S1x4096x4x128 .f32 := broadcastInDim S1x4096x4x128 ![] bcast_S_S1x4096x4x128 main_cst_4
  let main_v16 : IVec S1x4096x4x128 1 := cmpf .olt main_v14 main_v15
  fn_part1 (F := F) main_v13 main_v16
-- ==== Pre_attn_fwd_finite.lean ====
abbrev S1x4096x4x192 : Shape := ⟨4, ![1, 4096, 4, 192]⟩
abbrev S1x4096x4x128 : Shape := ⟨4, ![1, 4096, 4, 128]⟩
abbrev S_ : Shape := ⟨0, ![]⟩

class Facts : Prop where
  bcast_S_S1x4096x4x192 : S_.BroadcastsInDim S1x4096x4x192 (![] : Fin 0 → Fin S1x4096x4x192.rank)
  reducesTo_S1x4096x4x192_S_d0_1_2_3 : S1x4096x4x192.ReducesTo [0, 1, 2, 3] S_
  h_S_ : 0 < S_.numel
  bcast_S_S1x4096x4x128 : S_.BroadcastsInDim S1x4096x4x128 (![] : Fin 0 → Fin S1x4096x4x128.rank)
  reducesTo_S1x4096x4x128_S_d0_1_2_3 : S1x4096x4x128.ReducesTo [0, 1, 2, 3] S_

variable [Facts]

def fn {F : FTy → Type} [FloatOps F] (main_arg0 : FVec F S1x4096x4x192 .f32) (main_arg1 : FVec F S1x4096x4x192 .f32) (main_arg2 : FVec F S1x4096x4x128 .f32) : IVec S_ 1 :=
  let main_v0 : FVec F S1x4096x4x192 .f32 := Host.absf main_arg0
  let main_cst : FVec F S_ .f32 := constant S_ .f32 0x7F800000#32
  let main_v1 : FVec F S1x4096x4x192 .f32 := broadcastInDim S1x4096x4x192 ![] bcast_S_S1x4096x4x192 main_cst
  let main_v2 : IVec S1x4096x4x192 1 := cmpf .olt main_v0 main_v1
  let main_c : IVec S_ 1 := constantI S_ 1 1#1
  let main_v3 : IVec S_ 1 := (fun x v => Host.reduce IntOp.andi x v reducesTo_S1x4096x4x192_S_d0_1_2_3 h_S_) main_v2 main_c
  let main_v4 : FVec F S1x4096x4x192 .f32 := Host.absf main_arg1
  let main_cst_0 : FVec F S_ .f32 := constant S_ .f32 0x7F800000#32
  let main_v5 : FVec F S1x4096x4x192 .f32 := broadcastInDim S1x4096x4x192 ![] bcast_S_S1x4096x4x192 main_cst_0
  let main_v6 : IVec S1x4096x4x192 1 := cmpf .olt main_v4 main_v5
  let main_c_1 : IVec S_ 1 := constantI S_ 1 1#1
  let main_v7 : IVec S_ 1 := (fun x v => Host.reduce IntOp.andi x v reducesTo_S1x4096x4x192_S_d0_1_2_3 h_S_) main_v6 main_c_1
  let main_v8 : IVec S_ 1 := andi main_v3 main_v7
  let main_v9 : FVec F S1x4096x4x128 .f32 := Host.absf main_arg2
  let main_cst_2 : FVec F S_ .f32 := constant S_ .f32 0x7F800000#32
  let main_v10 : FVec F S1x4096x4x128 .f32 := broadcastInDim S1x4096x4x128 ![] bcast_S_S1x4096x4x128 main_cst_2
  let main_v11 : IVec S1x4096x4x128 1 := cmpf .olt main_v9 main_v10
  let main_c_3 : IVec S_ 1 := constantI S_ 1 1#1
  let main_v12 : IVec S_ 1 := (fun x v => Host.reduce IntOp.andi x v reducesTo_S1x4096x4x128_S_d0_1_2_3 h_S_) main_v11 main_c_3
  let main_v13 : IVec S_ 1 := andi main_v8 main_v12
  main_v13
-- ==== Pre_ffn_finite.lean ====
abbrev S1x4096x1024 : Shape := ⟨3, ![1, 4096, 1024]⟩
abbrev S1x1024 : Shape := ⟨2, ![1, 1024]⟩
abbrev S1x1024x2752 : Shape := ⟨3, ![1, 1024, 2752]⟩
abbrev S1x2752x1024 : Shape := ⟨3, ![1, 2752, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2752 : S_.BroadcastsInDim S1x1024x2752 (![] : Fin 0 → Fin S1x1024x2752.rank)
  reducesTo_S1x1024x2752_S_d0_1_2 : S1x1024x2752.ReducesTo [0, 1, 2] S_
  bcast_S_S1x2752x1024 : S_.BroadcastsInDim S1x2752x1024 (![] : Fin 0 → Fin S1x2752x1024.rank)
  reducesTo_S1x2752x1024_S_d0_1_2 : S1x2752x1024.ReducesTo [0, 1, 2] S_

variable [Facts]

def fn_part1 {F : FTy → Type} [FloatOps F] (main_arg4 : FVec F S1x2752x1024 .f32) (main_arg5 : FVec F S1x4096x1024 .f32) (main_v13 : IVec S_ 1) (main_v16 : IVec S1x1024x2752 1) : IVec S_ 1 :=
  let main_c_5 : IVec S_ 1 := constantI S_ 1 1#1
  let main_v17 : IVec S_ 1 := (fun x v => Host.reduce IntOp.andi x v reducesTo_S1x1024x2752_S_d0_1_2 h_S_) main_v16 main_c_5
  let main_v18 : IVec S_ 1 := andi main_v13 main_v17
  let main_v19 : FVec F S1x2752x1024 .f32 := Host.absf main_arg4
  let main_cst_6 : FVec F S_ .f32 := constant S_ .f32 0x7F800000#32
  let main_v20 : FVec F S1x2752x1024 .f32 := broadcastInDim S1x2752x1024 ![] bcast_S_S1x2752x1024 main_cst_6
  let main_v21 : IVec S1x2752x1024 1 := cmpf .olt main_v19 main_v20
  let main_c_7 : IVec S_ 1 := constantI S_ 1 1#1
  let main_v22 : IVec S_ 1 := (fun x v => Host.reduce IntOp.andi x v reducesTo_S1x2752x1024_S_d0_1_2 h_S_) main_v21 main_c_7
  let main_v23 : IVec S_ 1 := andi main_v18 main_v22
  let main_v24 : FVec F S1x4096x1024 .f32 := Host.absf main_arg5
  let main_cst_8 : FVec F S_ .f32 := constant S_ .f32 0x7F800000#32
  let main_v25 : FVec F S1x4096x1024 .f32 := broadcastInDim S1x4096x1024 ![] bcast_S_S1x4096x1024 main_cst_8
  let main_v26 : IVec S1x4096x1024 1 := cmpf .olt main_v24 main_v25
  let main_c_9 : IVec S_ 1 := constantI S_ 1 1#1
  let main_v27 : IVec S_ 1 := (fun x v => Host.reduce IntOp.andi x v reducesTo_S1x4096x1024_S_d0_1_2 h_S_) main_v26 main_c_9
  let main_v28 : IVec S_ 1 := andi main_v23 main_v27
  main_v28

def fn {F : FTy → Type} [FloatOps F] (main_arg0 : FVec F S1x4096x1024 .f32) (main_arg1 : FVec F S1x1024 .f32) (main_arg2 : FVec F S1x1024x2752 .f32) (main_arg3 : FVec F S1x1024x2752 .f32) (main_arg4 : FVec F S1x2752x1024 .f32) (main_arg5 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2752 .f32 := Host.absf main_arg2
  let main_cst_2 : FVec F S_ .f32 := constant S_ .f32 0x7F800000#32
  let main_v10 : FVec F S1x1024x2752 .f32 := broadcastInDim S1x1024x2752 ![] bcast_S_S1x1024x2752 main_cst_2
  let main_v11 : IVec S1x1024x2752 1 := cmpf .olt main_v9 main_v10
  let main_c_3 : IVec S_ 1 := constantI S_ 1 1#1
  let main_v12 : IVec S_ 1 := (fun x v => Host.reduce IntOp.andi x v reducesTo_S1x1024x2752_S_d0_1_2 h_S_) main_v11 main_c_3
  let main_v13 : IVec S_ 1 := andi main_v8 main_v12
  let main_v14 : FVec F S1x1024x2752 .f32 := Host.absf main_arg3
  let main_cst_4 : FVec F S_ .f32 := constant S_ .f32 0x7F800000#32
  let main_v15 : FVec F S1x1024x2752 .f32 := broadcastInDim S1x1024x2752 ![] bcast_S_S1x1024x2752 main_cst_4
  let main_v16 : IVec S1x1024x2752 1 := cmpf .olt main_v14 main_v15
  fn_part1 (F := F) main_arg4 main_arg5 main_v13 main_v16
-- ==== Pre_prep_nonzero.lean ====
abbrev S32x64 : Shape := ⟨2, ![32, 64]⟩
abbrev S32x1 : Shape := ⟨2, ![32, 1]⟩
abbrev S512x64 : Shape := ⟨2, ![512, 64]⟩
abbrev S8x2048 : Shape := ⟨2, ![8, 2048]⟩
abbrev S4x128x512 : Shape := ⟨3, ![4, 128, 512]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel

variable [Facts]

def fn {F : FTy → Type} [FloatOps F] (main_arg0 : FVec F S32x64 .f32) (main_arg1 : FVec F S32x64 .f32) (main_arg2 : FVec F S32x1 .f32) (main_arg3 : FVec F S512x64 .f32) (main_arg4 : FVec F S512x64 .f32) (main_arg5 : FVec F S512x64 .f32) (main_arg6 : FVec F S512x64 .f32) (main_arg7 : FVec F S8x2048 .f32) (main_arg8 : FVec F S8x2048 .f32) (main_arg9 : FVec F S4x128x512 .f32) (main_arg10 : FVec F S4x128x512 .f32) (main_arg11 : FVec F S4x128x512 .f32) (main_arg12 : FVec F S4x128x512 .f32) : IVec S_ 1 :=
  let main_v0 : FVec F S32x64 .f32 := mulf main_arg0 main_arg0
  let main_v1 : FVec F S32x64 .f32 := mulf main_arg1 main_arg1
  let main_v2 : FVec F S32x64 .f32 := addf main_v0 main_v1
  let main_cst : FVec F S_ .f32 := constant S_ .f32 0x00000000#32
  let main_v3 : FVec F S32x64 .f32 := broadcastInDim S32x64 ![] bcast_S_S32x64 main_cst
  let main_v4 : IVec S32x64 1 := cmpf .ogt main_v2 main_v3
  let main_c : IVec S_ 1 := constantI S_ 1 1#1
  let main_v5 : IVec S_ 1 := (fun x v => Host.reduce IntOp.andi x v reducesTo_S32x64_S_d0_1 h_S_) main_v4 main_c
  main_v5
-- ==== KernelMemNorm.lean ====
abbrev S1x256x1024 : Shape := ⟨3, ![1, 256, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 4
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x256x1024, .f32⟩
  | .hbm, ⟨3, _⟩ => ⟨S256x1024, .f32⟩
  | .hbm, ⟨4, _⟩ => ⟨S256x1024, .f32⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S1x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceMemNormIdeal.lean ====
abbrev S1x256x1024 : Shape := ⟨3, ![1, 256, 1024]⟩
abbrev S1x1024 : Shape := ⟨2, ![1, 1024]⟩
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 29
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x256x1024, .f32⟩
  | .hbm, ⟨3, _⟩ => ⟨S256x1024, .f32⟩
  | .hbm, ⟨4, _⟩ => ⟨S1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S_, .f32⟩
  | .hbm, ⟨27, _⟩ => ⟨S1024, .f32⟩
  | .hbm, ⟨28, _⟩ => ⟨S1x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KernelFfnW.lean ====
abbrev S1x4096x1024 : Shape := ⟨3, ![1, 4096, 1024]⟩
abbrev S1x1024 : Shape := ⟨2, ![1, 1024]⟩
abbrev S1x1024x2752 : Shape := ⟨3, ![1, 1024, 2752]⟩
abbrev S4096x2752 : Shape := ⟨2, ![4096, 2752]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2752 : Shape := ⟨2, ![1024, 2752]⟩
abbrev S4096x4x688 : Shape := ⟨3, ![4096, 4, 688]⟩
abbrev S4x4096x688 : Shape := ⟨3, ![4, 4096, 688]⟩
abbrev S4x688x1024 : Shape := ⟨3, ![4, 688, 1024]⟩
abbrev S1024x1024 : Shape := ⟨2, ![1024, 1024]⟩
abbrev S1x1024x688 : Shape := ⟨3, ![1, 1024, 688]⟩
abbrev S1x688x1024 : Shape := ⟨3, ![1, 688, 1024]⟩
abbrev S1024x688 : Shape := ⟨2, ![1024, 688]⟩
abbrev S688x1024 : Shape := ⟨2, ![688, 1024]⟩

abbrev nBuf : Space → Nat
  | .hbm => 46
  | .vmem => 18
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2752, .f32⟩
  | .hbm, ⟨3, _⟩ => ⟨S1x1024x2752, .f32⟩
  | .hbm, ⟨4, _⟩ => ⟨S1x4096x1024, .f32⟩
  | .hbm, ⟨5, _⟩ => ⟨S4096x2752, .f32⟩
  | .hbm, ⟨6, _⟩ => ⟨S4096x2752, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x2752, .f32⟩
  | .hbm, ⟨26, _⟩ => ⟨S4096x2752, .f32⟩
  | .hbm, ⟨27, _⟩ => ⟨S4096x4x688, .f32⟩
  | .hbm, ⟨28, _⟩ => ⟨S4x4096x688, .f32⟩
  | .hbm, ⟨29, _⟩ => ⟨S4x4096x688, .bf16⟩
  | .hbm, ⟨30, _⟩ => ⟨S1024x2752, .f32⟩
  | .hbm, ⟨31, _⟩ => ⟨S4096x2752, .f32⟩
  | .hbm, ⟨32, _⟩ => ⟨S4096x4x688, .f32⟩
  | .hbm, ⟨33, _⟩ => ⟨S4x4096x688, .f32⟩
  | .hbm, ⟨34, _⟩ => ⟨S4x4096x688, .bf16⟩
  | .hbm, ⟨35, _⟩ => ⟨S4096x1024, .bf16⟩
  | .hbm, ⟨36, _⟩ => ⟨S4096x1024, .f32⟩
  | .hbm, ⟨37, _⟩ => ⟨S4096x4x688, .f32⟩
  | .hbm, ⟨38, _⟩ => ⟨S4x4096x688, .f32⟩
  | .hbm, ⟨39, _⟩ => ⟨S4x4096x688, .bf16⟩
  | .hbm, ⟨40, _⟩ => ⟨S4096x4x688, .f32⟩
  | .hbm, ⟨41, _⟩ => ⟨S4x4096x688, .f32⟩
  | .hbm, ⟨42, _⟩ => ⟨S4x4096x688, .bf16⟩
  | .hbm, ⟨43, _⟩ => ⟨S4x688x1024, .f32⟩
  | .hbm, ⟨44, _⟩ => ⟨S4x688x1024, .f32⟩
  | .hbm, ⟨45, _⟩ => ⟨S4x688x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x688, .bf16⟩
  | .local _ .vmem, ⟨5, _⟩ => ⟨S1x1024x688, .bf16⟩
  | .local _ .vmem, ⟨6, _⟩ => ⟨S1x1024x688, .bf16⟩
  | .local _ .vmem, ⟨7, _⟩ => ⟨S1x1024x688, .bf16⟩
  | .local _ .vmem, ⟨8, _⟩ => ⟨S1x1024x688, .bf16⟩
  | .local _ .vmem, ⟨9, _⟩ => ⟨S1x1024x688, .bf16⟩
  | .local _ .vmem, ⟨10, _⟩ => ⟨S1x1024x688, .bf16⟩
  | .local _ .vmem, ⟨11, _⟩ => ⟨S1x1024x688, .bf16⟩
  | .local _ .vmem, ⟨12, _⟩ => ⟨S1x688x1024, .f32⟩
  | .local _ .vmem, ⟨13, _⟩ => ⟨S1x688x1024, .f32⟩
  | .local _ .vmem, ⟨14, _⟩ => ⟨S1x688x1024, .f32⟩
  | .local _ .vmem, ⟨15, _⟩ => ⟨S1x688x1024, .f32⟩
  | .local _ .vmem, ⟨16, _⟩ => ⟨S1x688x1024, .f32⟩
  | .local _ .vmem, ⟨17, _⟩ => ⟨S1x688x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x688 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x688x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceFfnWIdeal.lean ====
abbrev S1x4096x1024 : Shape := ⟨3, ![1, 4096, 1024]⟩
abbrev S1x1024 : Shape := ⟨2, ![1, 1024]⟩
abbrev S1x1024x2752 : Shape := ⟨3, ![1, 1024, 2752]⟩
abbrev S4096x2752 : Shape := ⟨2, ![4096, 2752]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2752 : Shape := ⟨2, ![1024, 2752]⟩
abbrev S2752x1024 : Shape := ⟨2, ![2752, 1024]⟩
abbrev S4x688x1024 : Shape := ⟨3, ![4, 688, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2752, .f32⟩
  | .hbm, ⟨3, _⟩ => ⟨S1x1024x2752, .f32⟩
  | .hbm, ⟨4, _⟩ => ⟨S1x4096x1024, .f32⟩
  | .hbm, ⟨5, _⟩ => ⟨S4096x2752, .f32⟩
  | .hbm, ⟨6, _⟩ => ⟨S4096x2752, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x2752, .f32⟩
  | .hbm, ⟨26, _⟩ => ⟨S4096x2752, .f32⟩
  | .hbm, ⟨27, _⟩ => ⟨S1024x2752, .f32⟩
  | .hbm, ⟨28, _⟩ => ⟨S4096x2752, .f32⟩
  | .hbm, ⟨29, _⟩ => ⟨S2752x1024, .f32⟩
  | .hbm, ⟨30, _⟩ => ⟨S1024x2752, .f32⟩
  | .hbm, ⟨31, _⟩ => ⟨S1x1024x2752, .f32⟩
  | .hbm, ⟨32, _⟩ => ⟨S2752x1024, .f32⟩
  | .hbm, ⟨33, _⟩ => ⟨S1024x2752, .f32⟩
  | .hbm, ⟨34, _⟩ => ⟨S1x1024x2752, .f32⟩
  | .hbm, ⟨35, _⟩ => ⟨S_, .f32⟩
  | .hbm, ⟨36, _⟩ => ⟨S2752x1024, .f32⟩
  | .hbm, ⟨37, _⟩ => ⟨S4096x2752, .f32⟩
  | .hbm, ⟨38, _⟩ => ⟨S4096x2752, .f32⟩
  | .hbm, ⟨39, _⟩ => ⟨S_, .f32⟩
  | .hbm, ⟨40, _⟩ => ⟨S4096x2752, .f32⟩
  | .hbm, ⟨41, _⟩ => ⟨S4096x2752, .f32⟩
  | .hbm, ⟨42, _⟩ => ⟨S_, .f32⟩
  | .hbm, ⟨43, _⟩ => ⟨S4096x2752, .f32⟩
  | .hbm, ⟨44, _⟩ => ⟨S4096x2752, .f32⟩
  | .hbm, ⟨45, _⟩ => ⟨S4096x2752, .f32⟩
  | .hbm, ⟨46, _⟩ => ⟨S4096x2752, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S1024x2752, .f32⟩
  | .hbm, ⟨56, _⟩ => ⟨S2752x1024, .f32⟩
  | .hbm, ⟨57, _⟩ => ⟨S1024x2752, .f32⟩
  | .hbm, ⟨58, _⟩ => ⟨S2752x1024, .f32⟩
  | .hbm, ⟨59, _⟩ => ⟨S4x688x1024, .f32⟩
  | .hbm, ⟨60, _⟩ => ⟨S1024x2752, .f32⟩
  | .hbm, ⟨61, _⟩ => ⟨S2752x1024, .f32⟩
  | .hbm, ⟨62, _⟩ => ⟨S4x688x1024, .f32⟩
  | .hbm, ⟨63, _⟩ => ⟨S4x688x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== KernelFfnAct.lean ====
abbrev S1x4096x1024 : Shape := ⟨3, ![1, 4096, 1024]⟩
abbrev S1x1024 : Shape := ⟨2, ![1, 1024]⟩
abbrev S1x1024x2752 : Shape := ⟨3, ![1, 1024, 2752]⟩
abbrev S1x2752x1024 : Shape := ⟨3, ![1, 2752, 1024]⟩
abbrev S1024x2752 : Shape := ⟨2, ![1024, 2752]⟩
abbrev S2752x1024 : Shape := ⟨2, ![2752, 1024]⟩
abbrev S4x688x1024 : Shape := ⟨3, ![4, 688, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2752 : Shape := ⟨2, ![4096, 2752]⟩
abbrev S4096x4x688 : Shape := ⟨3, ![4096, 4, 688]⟩
abbrev S4x4096x688 : Shape := ⟨3, ![4, 4096, 688]⟩
abbrev S512x1024 : Shape := ⟨2, ![512, 1024]⟩
abbrev S2x512x688 : Shape := ⟨3, ![2, 512, 688]⟩
abbrev S2x688x1024 : Shape := ⟨3, ![2, 688, 1024]⟩
abbrev S256x1024 : Shape := ⟨2, ![256, 1024]⟩
abbrev S1x688x1024 : Shape := ⟨3, ![1, 688, 1024]⟩
abbrev S688x1024 : Shape := ⟨2, ![688, 1024]⟩
abbrev S256x688 : Shape := ⟨2, ![256, 688]⟩
abbrev S1x256x688 : Shape := ⟨3, ![1, 256, 688]⟩
abbrev S512 : Shape := ⟨1, ![512]⟩
abbrev S512x1 : Shape := ⟨2, ![512, 1]⟩

abbrev nBuf : Space → Nat
  | .hbm => 51
  | .vmem => 24
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2752, .f32⟩
  | .hbm, ⟨3, _⟩ => ⟨S1x1024x2752, .f32⟩
  | .hbm, ⟨4, _⟩ => ⟨S1x2752x1024, .f32⟩
  | .hbm, ⟨5, _⟩ => ⟨S1x4096x1024, .f32⟩
  | .hbm, ⟨6, _⟩ => ⟨S1024x2752, .f32⟩
  | .hbm, ⟨7, _⟩ => ⟨S2752x1024, .f32⟩
  | .hbm, ⟨8, _⟩ => ⟨S2752x1024, .bf16⟩
  | .hbm, ⟨9, _⟩ => ⟨S4x688x1024, .bf16⟩
  | .hbm, ⟨10, _⟩ => ⟨S1024x2752, .f32⟩
  | .hbm, ⟨11, _⟩ => ⟨S2752x1024, .f32⟩
  | .hbm, ⟨12, _⟩ => ⟨S2752x1024, .bf16⟩
  | .hbm, ⟨13, _⟩ => ⟨S4x688x1024, .bf16⟩
  | .hbm, ⟨14, _⟩ => ⟨S2752x1024, .f32⟩
  | .hbm, ⟨15, _⟩ => ⟨S2752x1024, .bf16⟩
  | .hbm, ⟨16, _⟩ => ⟨S4x688x1024, .bf16⟩
  | .hbm, ⟨17, _⟩ => ⟨S4096x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1024x2752, .f32⟩
  | .hbm, ⟨36, _⟩ => ⟨S4096x2752, .f32⟩
  | .hbm, ⟨37, _⟩ => ⟨S4096x4x688, .f32⟩
  | .hbm, ⟨38, _⟩ => ⟨S4x4096x688, .f32⟩
  | .hbm, ⟨39, _⟩ => ⟨S4x4096x688, .bf16⟩
  | .hbm, ⟨40, _⟩ => ⟨S1024x2752, .f32⟩
  | .hbm, ⟨41, _⟩ => ⟨S4096x2752, .f32⟩
  | .hbm, ⟨42, _⟩ => ⟨S4096x4x688, .f32⟩
  | .hbm, ⟨43, _⟩ => ⟨S4x4096x688, .f32⟩
  | .hbm, ⟨44, _⟩ => ⟨S4x4096x688, .bf16⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4x4096x688, .bf16⟩
  | .hbm, ⟨50, _⟩ => ⟨S4x4096x688, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2x512x688, .bf16⟩
  | .local _ .vmem, ⟨6, _⟩ => ⟨S2x512x688, .bf16⟩
  | .local _ .vmem, ⟨7, _⟩ => ⟨S2x512x688, .bf16⟩
  | .local _ .vmem, ⟨8, _⟩ => ⟨S2x512x688, .bf16⟩
  | .local _ .vmem, ⟨9, _⟩ => ⟨S2x688x1024, .bf16⟩
  | .local _ .vmem, ⟨10, _⟩ => ⟨S2x688x1024, .bf16⟩
  | .local _ .vmem, ⟨11, _⟩ => ⟨S2x688x1024, .bf16⟩
  | .local _ .vmem, ⟨12, _⟩ => ⟨S2x688x1024, .bf16⟩
  | .local _ .vmem, ⟨13, _⟩ => ⟨S2x688x1024, .bf16⟩
  | .local _ .vmem, ⟨14, _⟩ => ⟨S2x688x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S2x512x688, .bf16⟩
  | .local _ .vmem, ⟨19, _⟩ => ⟨S2x512x688, .bf16⟩
  | .local _ .vmem, ⟨20, _⟩ => ⟨S2x512x688, .bf16⟩
  | .local _ .vmem, ⟨21, _⟩ => ⟨S2x512x688, .bf16⟩
  | .local _ .vmem, ⟨22, _⟩ => ⟨S512x1024, .bf16⟩
  | .local _ .vmem, ⟨23, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38_0 : Ref sig .tc := ⟨.hbm, 47, rfl⟩
abbrev main_v38_1 : Ref sig .tc := ⟨.hbm, 48, rfl⟩
abbrev main_v38_2 : Ref sig .tc := ⟨.hbm, 49, rfl⟩
abbrev main_v38_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v167 : BitVec 1 := Scalar.cmpi .eq arg1 c1_i32
  let v168 : BitVec 32 := Scalar.extui v167
  let c0_i32_125 : BitVec 32 := 0#32
  let v169 : BitVec 1 := Scalar.cmpi .ne v168 c0_i32_125
  v169

def k0_cond3 (i : grid0.Coords) : BitVec 1 :=
  let arg0 : BitVec 32 := BitVec.ofNat 32 (i 0).val
  let c0_i32_142 : BitVec 32 := 0#32
  let v203 : BitVec 1 := Scalar.cmpi .eq arg0 c0_i32_142
  let v204 : BitVec 32 := Scalar.extui v203
  let c0_i32_143 : BitVec 32 := 0#32
  let v205 : BitVec 1 := Scalar.cmpi .ne v204 c0_i32_143
  v205

def k0_cond4 (i : grid0.Coords) : BitVec 1 :=
  let arg0 : BitVec 32 := BitVec.ofNat 32 (i 0).val
  let c0_i32_144 : BitVec 32 := 0#32
  let v206 : BitVec 1 := Scalar.cmpi .ne arg0 c0_i32_144
  let v207 : BitVec 32 := Scalar.extui v206
  let c0_i32_145 : BitVec 32 := 0#32
  let v208 : BitVec 1 := Scalar.cmpi .ne v207 c0_i32_145
  v208

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x512x688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x512x688 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x512x688 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceFfnActIdeal.lean ====
abbrev S1x4096x1024 : Shape := ⟨3, ![1, 4096, 1024]⟩
abbrev S1x1024 : Shape := ⟨2, ![1, 1024]⟩
abbrev S1x1024x2752 : Shape := ⟨3, ![1, 1024, 2752]⟩
abbrev S1x2752x1024 : Shape := ⟨3, ![1, 2752, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2752 : Shape := ⟨2, ![1024, 2752]⟩
abbrev S2752x1024 : Shape := ⟨2, ![2752, 1024]⟩
abbrev S4096x2752 : Shape := ⟨2, ![4096, 2752]⟩
abbrev S4096x4x688 : Shape := ⟨3, ![4096, 4, 688]⟩
abbrev S4x4096x688 : Shape := ⟨3, ![4, 4096, 688]⟩

abbrev nBuf : Space → Nat
  | .hbm => 155
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x2752, .f32⟩
  | 3 => ⟨S1x1024x2752, .f32⟩
  | 4 => ⟨S1x2752x1024, .f32⟩
  | 5 => ⟨S1x4096x1024, .f32⟩
  | 6 => ⟨S4096x1024, .f32⟩
  | 7 => ⟨S4096x1024, .f32⟩
  | 8 => ⟨S1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S1024x2752, .f32⟩
  | 30 => ⟨S1024x2752, .f32⟩
  | 31 => ⟨S2752x1024, .f32⟩
  | 32 => ⟨S4096x2752, .f32⟩
  | 33 => ⟨S4096x2752, .f32⟩
  | 34 => ⟨S4096x2752, .f32⟩
  | 35 => ⟨S_, .f32⟩
  | 36 => ⟨S4096x2752, .f32⟩
  | 37 => ⟨S4096x2752, .f32⟩
  | 38 => ⟨S_, .f32⟩
  | 39 => ⟨S4096x2752, .f32⟩
  | 40 => ⟨S4096x2752, .f32⟩
  | 41 => ⟨S_, .f32⟩
  | 42 => ⟨S4096x2752, .f32⟩
  | 43 => ⟨S4096x2752, .f32⟩
  | 44 => ⟨S4096x2752, .f32⟩
  | 45 => ⟨S4096x2752, .f32⟩
  | 46 => ⟨S4096x2752, .f32⟩
  | 47 => ⟨S4096x2752, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x2752, .f32⟩
  | 58 => ⟨S4096x2752, .f32⟩
  | 59 => ⟨S4096x2752, .f32⟩
  | 60 => ⟨S4096x1024, .f32⟩
  | 61 => ⟨S4096x2752, .f32⟩
  | 62 => ⟨S4096x2752, .f32⟩
  | 63 => ⟨S4096x2752, .f32⟩
  | 64 => ⟨S4096x2752, .f32⟩
  | 65 => ⟨S4096x1024, .f32⟩
  | 66 => ⟨S4096x1024, .f32⟩
  | 67 => ⟨S4096x1024, .f32⟩
  | 68 => ⟨S_, .f32⟩
  | 69 => ⟨S1024, .f32⟩
  | 70 => ⟨S1x1024, .f32⟩
  | 71 => ⟨S4096x1024, .f32⟩
  | 72 => ⟨S4096x1024, .f32⟩
  | 73 => ⟨S_, .f32⟩
  | 74 => ⟨S1024, .f32⟩
  | 75 => ⟨S4096x1024, .f32⟩
  | 76 => ⟨S_, .f32⟩
  | 77 => ⟨S4096, .f32⟩
  | 78 => ⟨S4096x1, .f32⟩
  | 79 => ⟨S4096x1024, .f32⟩
  | 80 => ⟨S4096x1024, .f32⟩
  | 81 => ⟨S4096x1, .f32⟩
  | 82 => ⟨S_, .f32⟩
  | 83 => ⟨S4096x1, .f32⟩
  | 84 => ⟨S4096x1, .f32⟩
  | 85 => ⟨S_, .f32⟩
  | 86 => ⟨S4096, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S1x1024, .f32⟩
  | 93 => ⟨S1x4096x1024, .f32⟩
  | 94 => ⟨S1x4096x1024, .f32⟩
  | 95 => ⟨S1x4096x1024, .f32⟩
  | 96 => ⟨S4096x1024, .f32⟩
  | 97 => ⟨S1024, .f32⟩
  | 98 => ⟨S4096x1024, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096x1, .f32⟩
  | 107 => ⟨S4096x1, .f32⟩
  | 108 => ⟨S4096x1, .f32⟩
  | 109 => ⟨S4096x1024, .f32⟩
  | 110 => ⟨S4096x1024, .f32⟩
  | 111 => ⟨S1x1024, .f32⟩
  | 112 => ⟨S4096x1024, .f32⟩
  | 113 => ⟨S4096x1024, .f32⟩
  | 114 => ⟨S1024x2752, .f32⟩
  | 115 => ⟨S4096x2752, .f32⟩
  | 116 => ⟨S1024x2752, .f32⟩
  | 117 => ⟨S4096x2752, .f32⟩
  | 118 => ⟨S4096x2752, .f32⟩
  | 119 => ⟨S4096x2752, .f32⟩
  | 120 => ⟨S_, .f32⟩
  | 121 => ⟨S4096x2752, .f32⟩
  | 122 => ⟨S4096x2752, .f32⟩
  | 123 => ⟨S_, .f32⟩
  | 124 => ⟨S4096x2752, .f32⟩
  | 125 => ⟨S4096x2752, .f32⟩
  | 126 => ⟨S_, .f32⟩
  | 127 => ⟨S4096x2752, .f32⟩
  | _ => ⟨S1x4096x1024, .f32⟩

abbrev hbmTy0_1 (i : Nat) : BufTy := match i % 128 with
  | 0 => ⟨S4096x2752, .f32⟩
  | 1 => ⟨S4096x2752, .f32⟩
  | 2 => ⟨S4096x2752, .f32⟩
  | 3 => ⟨S4096x2752, .f32⟩
  | 4 => ⟨S2752x1024, .f32⟩
  | 5 => ⟨S4096x1024, .f32⟩
  | 6 => ⟨S_, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S4096x2752, .f32⟩
  | 14 => ⟨S4096x2752, .f32⟩
  | 15 => ⟨S4096x2752, .f32⟩
  | 16 => ⟨S4096x2752, .f32⟩
  | 17 => ⟨S4096x2752, .f32⟩
  | 18 => ⟨S4096x2752, .f32⟩
  | 19 => ⟨S4096x2752, .f32⟩
  | 20 => ⟨S4096x1024, .f32⟩
  | 21 => ⟨S4096x4x688, .f32⟩
  | 22 => ⟨S4x4096x688, .f32⟩
  | 23 => ⟨S4x4096x688, .bf16⟩
  | 24 => ⟨S4096x4x688, .f32⟩
  | 25 => ⟨S4x4096x688, .f32⟩
  | 26 => ⟨S4x4096x688, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_10 : Ref sig .tc := ⟨.hbm, 99, rfl⟩
abbrev main_v67 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call2_v0 : Ref sig .tc := ⟨.hbm, 118, rfl⟩
abbrev main_call2_v1 : Ref sig .tc := ⟨.hbm, 119, rfl⟩
abbrev main_call2_cst : Ref sig .tc := ⟨.hbm, 120, rfl⟩
abbrev main_call2_v2 : Ref sig .tc := ⟨.hbm, 121, rfl⟩
abbrev main_call2_v3 : Ref sig .tc := ⟨.hbm, 122, rfl⟩
abbrev main_call2_cst_0 : Ref sig .tc := ⟨.hbm, 123, rfl⟩
abbrev main_call2_v4 : Ref sig .tc := ⟨.hbm, 124, rfl⟩
abbrev main_v83_2 : Ref sig .tc := ⟨.hbm, 125, rfl⟩
abbrev main_call2_cst_1 : Ref sig .tc := ⟨.hbm, 126, rfl⟩
abbrev main_call2_v6 : Ref sig .tc := ⟨.hbm, 127, rfl⟩
abbrev main_call2_v7 : Ref sig .tc := ⟨.hbm, 128, rfl⟩
abbrev main_v83_1 : Ref sig .tc := ⟨.hbm, 129, rfl⟩
abbrev main_v83_0 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_13 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_14 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩

abbrev nD : Nat := 1
abbrev τ : Topo := Topo.v7x

variable {F : FTy → Type} [FloatOps F]
-- ==== KernelKeyNorm.lean ====
abbrev S256x1024 : Shape := ⟨2, ![256, 1024]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S128 : Shape := ⟨1, ![128]⟩
abbrev S256x384 : Shape := ⟨2, ![256, 384]⟩
abbrev S256x256 : Shape := ⟨2, ![256, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x128, .f32⟩
  | .hbm, ⟨2, _⟩ => ⟨S256x512, .f32⟩
  | .hbm, ⟨3, _⟩ => ⟨S256x512, .f32⟩
  | .hbm, ⟨4, _⟩ => ⟨S1x128, .f32⟩
  | .local _ .vmem, ⟨0, _⟩ => ⟨S256x512, .f32⟩
  | .local _ .vmem, ⟨1, _⟩ => ⟨S1x128, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceKeyNormIdeal.lean ====
abbrev S256x1024 : Shape := ⟨2, ![256, 1024]⟩
abbrev S1x128 : Shape := ⟨2, ![1, 128]⟩
abbrev S256x512 : Shape := ⟨2, ![256, 512]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S128 : Shape := ⟨1, ![128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩

abbrev nBuf : Space → Nat
  | .hbm => 60
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x128, .f32⟩
  | .hbm, ⟨2, _⟩ => ⟨S256x512, .f32⟩
  | .hbm, ⟨3, _⟩ => ⟨S256x2x4x128, .f32⟩
  | .hbm, ⟨4, _⟩ => ⟨S256x1x4x128, .f32⟩
  | .hbm, ⟨5, _⟩ => ⟨S256x4x128, .f32⟩
  | .hbm, ⟨6, _⟩ => ⟨S128, .f32⟩
  | .hbm, ⟨7, _⟩ => ⟨S256x4x128, .f32⟩
  | .hbm, ⟨8, _⟩ => ⟨S_, .f32⟩
  | .hbm, ⟨9, _⟩ => ⟨S256x4, .f32⟩
  | .hbm, ⟨10, _⟩ => ⟨S256x4x1, .f32⟩
  | .hbm, ⟨11, _⟩ => ⟨S_, .f32⟩
  | .hbm, ⟨12, _⟩ => ⟨S256x4x1, .f32⟩
  | .hbm, ⟨13, _⟩ => ⟨S256x4x1, .f32⟩
  | .hbm, ⟨14, _⟩ => ⟨S_, .f32⟩
  | .hbm, ⟨15, _⟩ => ⟨S256x4x1, .f32⟩
  | .hbm, ⟨16, _⟩ => ⟨S256x4x1, .f32⟩
  | .hbm, ⟨17, _⟩ => ⟨S256x4x1, .f32⟩
  | .hbm, ⟨18, _⟩ => ⟨S256x4x1, .f32⟩
  | .hbm, ⟨19, _⟩ => ⟨S_, .f32⟩
  | .hbm, ⟨20, _⟩ => ⟨S256x4x1, .f32⟩
  | .hbm, ⟨21, _⟩ => ⟨S256x4x1, .f32⟩
  | .hbm, ⟨22, _⟩ => ⟨S256x4x128, .f32⟩
  | .hbm, ⟨23, _⟩ => ⟨S256x4x128, .f32⟩
  | .hbm, ⟨24, _⟩ => ⟨S1x1x128, .f32⟩
  | .hbm, ⟨25, _⟩ => ⟨S256x4x128, .f32⟩
  | .hbm, ⟨26, _⟩ => ⟨S256x4x128, .f32⟩
  | .hbm, ⟨27, _⟩ => ⟨S256x512, .f32⟩
  | .hbm, ⟨28, _⟩ => ⟨S256x4x128, .f32⟩
  | .hbm, ⟨29, _⟩ => ⟨S256x4x128, .f32⟩
  | .hbm, ⟨30, _⟩ => ⟨S_, .f32⟩
  | .hbm, ⟨31, _⟩ => ⟨S128, .f32⟩
  | .hbm, ⟨32, _⟩ => ⟨S1x1x128, .f32⟩
  | .hbm, ⟨33, _⟩ => ⟨S256x4x128, .f32⟩
  | .hbm, ⟨34, _⟩ => ⟨S256x4x128, .f32⟩
  | .hbm, ⟨35, _⟩ => ⟨S_, .f32⟩
  | .hbm, ⟨36, _⟩ => ⟨S128, .f32⟩
  | .hbm, ⟨37, _⟩ => ⟨S256x4x128, .f32⟩
  | .hbm, ⟨38, _⟩ => ⟨S_, .f32⟩
  | .hbm, ⟨39, _⟩ => ⟨S256x4, .f32⟩
  | .hbm, ⟨40, _⟩ => ⟨S256x4x1, .f32⟩
  | .hbm, ⟨41, _⟩ => ⟨S256x4x128, .f32⟩
  | .hbm, ⟨42, _⟩ => ⟨S256x4x128, .f32⟩
  | .hbm, ⟨43, _⟩ => ⟨S256x4x1, .f32⟩
  | .hbm, ⟨44, _⟩ => ⟨S_, .f32⟩
  | .hbm, ⟨45, _⟩ => ⟨S256x4x1, .f32⟩
  | .hbm, ⟨46, _⟩ => ⟨S256x4x1, .f32⟩
  | .hbm, ⟨47, _⟩ => ⟨S_, .f32⟩
  | .hbm, ⟨48, _⟩ => ⟨S256x4, .f32⟩
  | .hbm, ⟨49, _⟩ => ⟨S256x4x128, .f32⟩
  | .hbm, ⟨50, _⟩ => ⟨S256x4x128, .f32⟩
  | .hbm, ⟨51, _⟩ => ⟨S256x4x128, .f32⟩
  | .hbm, ⟨52, _⟩ => ⟨S256x4x128, .f32⟩
  | .hbm, ⟨53, _⟩ => ⟨S256x4x128, .f32⟩
  | .hbm, ⟨54, _⟩ => ⟨S1x128, .f32⟩
  | .hbm, ⟨55, _⟩ => ⟨S256x1x4x128, .f32⟩
  | .hbm, ⟨56, _⟩ => ⟨S_, .f32⟩
  | .hbm, ⟨57, _⟩ => ⟨S256x2x4x128, .f32⟩
  | .hbm, ⟨58, _⟩ => ⟨S256x1024, .f32⟩
  | .hbm, ⟨59, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== KernelAttn.lean ====
abbrev S1x4096x4x192 : Shape := ⟨4, ![1, 4096, 4, 192]⟩
abbrev S1x4096x4x128 : Shape := ⟨4, ![1, 4096, 4, 128]⟩
abbrev S10 : Shape := ⟨1, ![10]⟩
abbrev S4096x4x192 : Shape := ⟨3, ![4096, 4, 192]⟩
abbrev S4x4096x4096 : Shape := ⟨3, ![4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x4096 : Shape := ⟨2, ![4, 4096]⟩
abbrev S4x4096x1 : Shape := ⟨3, ![4, 4096, 1]⟩
abbrev S4096x4x128 : Shape := ⟨3, ![4096, 4, 128]⟩
abbrev S4x128x4096 : Shape := ⟨3, ![4, 128, 4096]⟩
abbrev S4096x512 : Shape := ⟨2, ![4096, 512]⟩
abbrev S4x4096x128 : Shape := ⟨3, ![4, 4096, 128]⟩
abbrev S4096x4x256 : Shape := ⟨3, ![4096, 4, 256]⟩
abbrev S4096x1024 : Shape := ⟨2, ![4096, 1024]⟩
abbrev S1024x256 : Shape := ⟨2, ![1024, 256]⟩
abbrev S1 : Shape := ⟨1, ![1]⟩
abbrev S1024x128 : Shape := ⟨2, ![1024, 128]⟩
abbrev S1x1024x128 : Shape := ⟨3, ![1, 1024, 128]⟩
abbrev S4096x256 : Shape := ⟨2, ![4096, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 53
  | .vmem => 18
  | .smem => 2
  | _ => 0

abbrev bufTy : (tb : Table) → Fin (tcTables nBuf tb) → BufTy
  | .hbm, ⟨0, _⟩ => ⟨S1x4096x4x192, .f32⟩
  | .hbm, ⟨1, _⟩ => ⟨S1x4096x4x192, .f32⟩
  | .hbm, ⟨2, _⟩ => ⟨S1x4096x4x128, .f32⟩
  | .hbm, ⟨3, _⟩ => ⟨S1x4096x4x128, .f32⟩
  | .hbm, ⟨4, _⟩ => ⟨S4096x4x192, .f32⟩
  | .hbm, ⟨5, _⟩ => ⟨S4096x4x192, .f32⟩
  | .hbm, ⟨6, _⟩ => ⟨S4x4096x4096, .f32⟩
  | .hbm, ⟨7, _⟩ => ⟨S4096, .i32⟩
  | .hbm, ⟨8, _⟩ => ⟨S4096x1, .i32⟩
  | .hbm, ⟨9, _⟩ => ⟨S1x4096, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S4x4096x4096, .i1⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4096x4x128, .f32⟩
  | .hbm, ⟨29, _⟩ => ⟨S4x128x4096, .f32⟩
  | .hbm, ⟨30, _⟩ => ⟨S4096x4x128, .f32⟩
  | .hbm, ⟨31, _⟩ => ⟨S4096x512, .f32⟩
  | .hbm, ⟨32, _⟩ => ⟨S4x4096x1, .f32⟩
  | .hbm, ⟨33, _⟩ => ⟨S4x4096x1, .f32⟩
  | .hbm, ⟨34, _⟩ => ⟨S4x4096x128, .f32⟩
  | .hbm, ⟨35, _⟩ => ⟨S4096x4x192, .f32⟩
  | .hbm, ⟨36, _⟩ => ⟨S_, .f32⟩
  | .hbm, ⟨37, _⟩ => ⟨S4096x4x256, .f32⟩
  | .hbm, ⟨38, _⟩ => ⟨S4096x1024, .f32⟩
  | .hbm, ⟨39, _⟩ => ⟨S4096x1024, .bf16⟩
  | .hbm, ⟨40, _⟩ => ⟨S4096x4x192, .f32⟩
  | .hbm, ⟨41, _⟩ => ⟨S_, .f32⟩
  | .hbm, ⟨42, _⟩ => ⟨S4096x4x256, .f32⟩
  | .hbm, ⟨43, _⟩ => ⟨S4096x1024, .f32⟩
  | .hbm, ⟨44, _⟩ => ⟨S4096x1024, .bf16⟩
  | .hbm, ⟨45, _⟩ => ⟨S4096x4x128, .f32⟩
  | .hbm, ⟨46, _⟩ => ⟨S4096x512, .f32⟩
  | .hbm, ⟨47, _⟩ => ⟨S4096x512, .bf16⟩
  | .hbm, ⟨48, _⟩ => ⟨S4096x4x128, .f32⟩
  | .hbm, ⟨49, _⟩ => ⟨S4096x512, .f32⟩
  | .hbm, ⟨50, _⟩ => ⟨S4096x1024, .f32⟩
  | .hbm, ⟨51, _⟩ => ⟨S4096x1024, .f32⟩
  | .hbm, ⟨52, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1024x128, .f32⟩
  | .local _ .vmem, ⟨11, _⟩ => ⟨S1x1024x128, .f32⟩
  | .local _ .vmem, ⟨12, _⟩ => ⟨S4096x256, .f32⟩
  | .local _ .vmem, ⟨13, _⟩ => ⟨S4096x256, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | .local _ .smem, ⟨0, _⟩ => ⟨S10, .i32⟩
  | .local _ .smem, ⟨1, _⟩ => ⟨S10, .i32⟩
  | _, _ => ⟨S1x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41_0 : Ref sig .tc := ⟨.hbm, 50, rfl⟩
abbrev main_v41_1 : Ref sig .tc := ⟨.hbm, 51, rfl⟩
abbrev main_v41_2 : Ref sig .tc := ⟨.hbm, 52, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v53 : BitVec 32 := Scalar.muli v1 c1024_i32
  v53
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c1024_i32 : BitVec 32 := 1024#32
  let v53 : BitVec 32 := Scalar.muli v1 c1024_i32
  let v54 : BitVec 32 := v53
  let v55 : Index := Scalar.indexCast v54
  let c0_23 : Index := 0#32
  ![v55.toNat, 0]
def k0_mult2 (v1 : BitVec 32) : BitVec 32 :=
  let c1024_i32 : BitVec 32 := 1024#32
  let v48 : BitVec 32 := Scalar.muli v1 c1024_i32
  v48
def k0_cond4 (v1 : BitVec 32) (v3 : BitVec 32) : BitVec 1 :=
  let v13 : BitVec 1 := Scalar.cmpi .slt v3 v1
  let v14 : BitVec 32 := Scalar.extui v13
  let c0_i32_3 : BitVec 32 := 0#32
  let v15 : BitVec 1 := Scalar.cmpi .ne v14 c0_i32_3
  v15

def k0_off3 (v1 : BitVec 32) : Fin 2 → Nat :=
  let c1024_i32 : BitVec 32 := 1024#32
  let v48 : BitVec 32 := Scalar.muli v1 c1024_i32
  let v49 : BitVec 32 := v48
  let v50 : Index := Scalar.indexCast v49
  let c0_22 : Index := 0#32
  ![v50.toNat, 0]

def k0_chk1 (v1 : BitVec 32) (v3 : BitVec 32) : Prop :=
  (∀ (k0_h3 : k0_cond3 v1 v3 = 1#1), 1024 ∣ (k0_mult1 v1).toNat) ∧
  (∀ (k0_h3 : k0_cond3 v1 v3 = 1#1), ∀ a, (k0_off2 v1) a + S1024x256.size a ≤ S4096x256.size a) ∧
  (∀ (k0_h4 : k0_cond4 v1 v3 = 1#1), 1024 ∣ (k0_mult2 v1).toNat) ∧
  (∀ (k0_h4 : k0_cond4 v1 v3 = 1#1), ∀ a, (k0_off3 v1) a + S1024x256.size a ≤ S4096x256.size a)
theorem k0_mult1_dvd : ∀ (v1 : BitVec 32) (v3 : BitVec 32) (k0_hw1 : k0_chk1 v1 v3), ∀ (k0_h3 : k0_cond3 v1 v3 = 1#1), 1024 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1024x256.size a ≤ S4096x256.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 1024 ∣ (k0_mult2 v1).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v1) a + S1024x256.size a ≤ S4096x256.size a := fun v1 v3 k0_hw1 k0_h4 => k0_hw1.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .eq v3 v1
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAttnIdeal.lean ====
variable {F : FTy → Type} [FloatOps F] [Named F]
def κ : String → Option EReal := fun
  | "mask" => some ⊥
  | _ => none
-- ==== ReferenceAttnIdeal.lean ====
abbrev S1x4096x4x192 : Shape := ⟨4, ![1, 4096, 4, 192]⟩
abbrev S1x4096x4x128 : Shape := ⟨4, ![1, 4096, 4, 128]⟩
abbrev S4096x4x192 : Shape := ⟨3, ![4096, 4, 192]⟩
abbrev S4096x4x128 : Shape := ⟨3, ![4096, 4, 128]⟩
abbrev S4x4096x4096 : Shape := ⟨3, ![4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x4096x192 : Shape := ⟨3, ![4, 4096, 192]⟩
abbrev S4096x4x256 : Shape := ⟨3, ![4096, 4, 256]⟩
abbrev S4096x1024 : Shape := ⟨2, ![4096, 1024]⟩
abbrev S4096x512 : Shape := ⟨2, ![4096, 512]⟩

abbrev nBuf : Space → Nat
  | .hbm => 99
  | .vmem => 0
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x4x192, .f32⟩
  | .hbm, ⟨2, _⟩ => ⟨S1x4096x4x128, .f32⟩
  | .hbm, ⟨3, _⟩ => ⟨S1x4096x4x128, .f32⟩
  | .hbm, ⟨4, _⟩ => ⟨S4096x4x192, .f32⟩
  | .hbm, ⟨5, _⟩ => ⟨S4096x4x192, .f32⟩
  | .hbm, ⟨6, _⟩ => ⟨S4096x4x128, .f32⟩
  | .hbm, ⟨7, _⟩ => ⟨S4x4096x4096, .f32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S4x4096x4096, .i1⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .i1⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .i1⟩
  | .hbm, ⟨34, _⟩ => ⟨S_, .f32⟩
  | .hbm, ⟨35, _⟩ => ⟨S4x4096, .f32⟩
  | .hbm, ⟨36, _⟩ => ⟨S4x4096, .i1⟩
  | .hbm, ⟨37, _⟩ => ⟨S_, .f32⟩
  | .hbm, ⟨38, _⟩ => ⟨S4x4096, .f32⟩
  | .hbm, ⟨39, _⟩ => ⟨S_, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S4x4096, .f32⟩
  | .hbm, ⟨44, _⟩ => ⟨S4x4096, .f32⟩
  | .hbm, ⟨45, _⟩ => ⟨S4x4096x1, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S4x4096x4096, .f32⟩
  | .hbm, ⟨53, _⟩ => ⟨S4x4096x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S4x128x4096, .f32⟩
  | .hbm, ⟨59, _⟩ => ⟨S4096x4x128, .f32⟩
  | .hbm, ⟨60, _⟩ => ⟨S4096x4x128, .f32⟩
  | .hbm, ⟨61, _⟩ => ⟨S4x128x4096, .f32⟩
  | .hbm, ⟨62, _⟩ => ⟨S4x4096x4096, .f32⟩
  | .hbm, ⟨63, _⟩ => ⟨S4x128x4096, .f32⟩
  | .hbm, ⟨64, _⟩ => ⟨S4096x4x128, .f32⟩
  | .hbm, ⟨65, _⟩ => ⟨S4x4096x4096, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S4x4096x1, .f32⟩
  | .hbm, ⟨72, _⟩ => ⟨S4x4096x4096, .f32⟩
  | .hbm, ⟨73, _⟩ => ⟨S4x4096x4096, .f32⟩
  | .hbm, ⟨74, _⟩ => ⟨S_, .f32⟩
  | .hbm, ⟨75, _⟩ => ⟨S4x4096, .f32⟩
  | .hbm, ⟨76, _⟩ => ⟨S4x4096x4096, .f32⟩
  | .hbm, ⟨77, _⟩ => ⟨S4x4096x4096, .f32⟩
  | .hbm, ⟨78, _⟩ => ⟨S4x4096x4096, .f32⟩
  | .hbm, ⟨79, _⟩ => ⟨S_, .f32⟩
  | .hbm, ⟨80, _⟩ => ⟨S4x4096x4096, .f32⟩
  | .hbm, ⟨81, _⟩ => ⟨S4x4096x4096, .f32⟩
  | .hbm, ⟨82, _⟩ => ⟨S4x4096x192, .f32⟩
  | .hbm, ⟨83, _⟩ => ⟨S4096x4x192, .f32⟩
  | .hbm, ⟨84, _⟩ => ⟨S4x4096x192, .f32⟩
  | .hbm, ⟨85, _⟩ => ⟨S4096x4x192, .f32⟩
  | .hbm, ⟨86, _⟩ => ⟨S1x4096x4x128, .f32⟩
  | .hbm, ⟨87, _⟩ => ⟨S1x4096x4x192, .f32⟩
  | .hbm, ⟨88, _⟩ => ⟨S1x4096x4x192, .f32⟩
  | .hbm, ⟨89, _⟩ => ⟨S4096x4x192, .f32⟩
  | .hbm, ⟨90, _⟩ => ⟨S_, .f32⟩
  | .hbm, ⟨91, _⟩ => ⟨S4096x4x256, .f32⟩
  | .hbm, ⟨92, _⟩ => ⟨S4096x1024, .f32⟩
  | .hbm, ⟨93, _⟩ => ⟨S4096x4x192, .f32⟩
  | .hbm, ⟨94, _⟩ => ⟨S_, .f32⟩
  | .hbm, ⟨95, _⟩ => ⟨S4096x4x256, .f32⟩
  | .hbm, ⟨96, _⟩ => ⟨S4096x1024, .f32⟩
  | .hbm, ⟨97, _⟩ => ⟨S4096x4x128, .f32⟩
  | .hbm, ⟨98, _⟩ => ⟨S4096x512, .f32⟩
  | _, _ => ⟨S1x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_14 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== KernelSsmPrep.lean ====
abbrev S32x64 : Shape := ⟨2, ![32, 64]⟩
abbrev S32x1 : Shape := ⟨2, ![32, 1]⟩
abbrev S512x64 : Shape := ⟨2, ![512, 64]⟩
abbrev S8x2048 : Shape := ⟨2, ![8, 2048]⟩
abbrev S4x128x512 : Shape := ⟨3, ![4, 128, 512]⟩
abbrev S128x64 : Shape := ⟨2, ![128, 64]⟩
abbrev S8x512 : Shape := ⟨2, ![8, 512]⟩
abbrev S1x128x512 : Shape := ⟨3, ![1, 128, 512]⟩
abbrev S128x32 : Shape := ⟨2, ![128, 32]⟩
abbrev S64x512 : Shape := ⟨2, ![64, 512]⟩
abbrev S128x512 : Shape := ⟨2, ![128, 512]⟩
abbrev S32x512 : Shape := ⟨2, ![32, 512]⟩
abbrev S512 : Shape := ⟨1, ![512]⟩
abbrev S1x512 : Shape := ⟨2, ![1, 512]⟩
abbrev S64x32 : Shape := ⟨2, ![64, 32]⟩
abbrev S32 : Shape := ⟨1, ![32]⟩

abbrev nBuf : Space → Nat
  | .hbm => 20
  | .vmem => 34
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S8x2048, .f32⟩
  | .hbm, ⟨8, _⟩ => ⟨S8x2048, .f32⟩
  | .hbm, ⟨9, _⟩ => ⟨S4x128x512, .f32⟩
  | .hbm, ⟨10, _⟩ => ⟨S4x128x512, .f32⟩
  | .hbm, ⟨11, _⟩ => ⟨S4x128x512, .f32⟩
  | .hbm, ⟨12, _⟩ => ⟨S4x128x512, .f32⟩
  | .hbm, ⟨13, _⟩ => ⟨S32x64, .f32⟩
  | .hbm, ⟨14, _⟩ => ⟨S32x64, .f32⟩
  | .hbm, ⟨15, _⟩ => ⟨S32x1, .f32⟩
  | .hbm, ⟨16, _⟩ => ⟨S512x64, .f32⟩
  | .hbm, ⟨17, _⟩ => ⟨S512x64, .f32⟩
  | .hbm, ⟨18, _⟩ => ⟨S512x64, .f32⟩
  | .hbm, ⟨19, _⟩ => ⟨S512x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S32x64, .f32⟩
  | .local _ .vmem, ⟨24, _⟩ => ⟨S32x64, .f32⟩
  | .local _ .vmem, ⟨25, _⟩ => ⟨S32x1, .f32⟩
  | .local _ .vmem, ⟨26, _⟩ => ⟨S128x64, .f32⟩
  | .local _ .vmem, ⟨27, _⟩ => ⟨S128x64, .f32⟩
  | .local _ .vmem, ⟨28, _⟩ => ⟨S128x64, .f32⟩
  | .local _ .vmem, ⟨29, _⟩ => ⟨S128x64, .f32⟩
  | .local _ .vmem, ⟨30, _⟩ => ⟨S128x64, .f32⟩
  | .local _ .vmem, ⟨31, _⟩ => ⟨S128x64, .f32⟩
  | .local _ .vmem, ⟨32, _⟩ => ⟨S128x64, .f32⟩
  | .local _ .vmem, ⟨33, _⟩ => ⟨S128x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceSsmPrepIdeal.lean ====
abbrev S32x64 : Shape := ⟨2, ![32, 64]⟩
abbrev S32x1 : Shape := ⟨2, ![32, 1]⟩
abbrev S512x64 : Shape := ⟨2, ![512, 64]⟩
abbrev S8x2048 : Shape := ⟨2, ![8, 2048]⟩
abbrev S4x128x512 : Shape := ⟨3, ![4, 128, 512]⟩
abbrev S_ : Shape := ⟨0, ![]⟩
abbrev S32x16x64 : Shape := ⟨3, ![32, 16, 64]⟩
abbrev S32x1x64 : Shape := ⟨3, ![32, 1, 64]⟩
abbrev S8x8 : Shape := ⟨2, ![8, 8]⟩
abbrev S1x8x1x8x1 : Shape := ⟨5, ![1, 8, 1, 8, 1]⟩
abbrev S1x2048 : Shape := ⟨2, ![1, 2048]⟩
abbrev S4x8x16x1x64 : Shape := ⟨5, ![4, 8, 16, 1, 64]⟩
abbrev S4x8x16x8x64 : Shape := ⟨5, ![4, 8, 16, 8, 64]⟩
abbrev S4x8x16x64 : Shape := ⟨4, ![4, 8, 16, 64]⟩
abbrev S2048 : Shape := ⟨1, ![2048]⟩
abbrev S32 : Shape := ⟨1, ![32]⟩

abbrev nBuf : Space → Nat
  | .hbm => 243
  | .vmem => 0
  | .smem => 0
  | _ => 0

abbrev hbmTy0_0 (i : Nat) : BufTy := match i % 128 with
  | 0 => ⟨S32x64, .f32⟩
  | 1 => ⟨S32x64, .f32⟩
  | 2 => ⟨S32x1, .f32⟩
  | 3 => ⟨S512x64, .f32⟩
  | 4 => ⟨S512x64, .f32⟩
  | 5 => ⟨S512x64, .f32⟩
  | 6 => ⟨S512x64, .f32⟩
  | 7 => ⟨S8x2048, .f32⟩
  | 8 => ⟨S8x2048, .f32⟩
  | 9 => ⟨S4x128x512, .f32⟩
  | 10 => ⟨S4x128x512, .f32⟩
  | 11 => ⟨S4x128x512, .f32⟩
  | 12 => ⟨S4x128x512, .f32⟩
  | 13 => ⟨S32x1, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S_, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S_, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S_, .f32⟩
  | 47 => ⟨S32x64, .f32⟩
  | 48 => ⟨S32x64, .f32⟩
  | 49 => ⟨S32x16x64, .f32⟩
  | 50 => ⟨S32x16x64, .f32⟩
  | 51 => ⟨S32x1x64, .f32⟩
  | 52 => ⟨S32x16x64, .f32⟩
  | 53 => ⟨S32x16x64, .f32⟩
  | 54 => ⟨S32x1x64, .f32⟩
  | 55 => ⟨S32x16x64, .f32⟩
  | 56 => ⟨S32x16x64, .f32⟩
  | 57 => ⟨S32x16x64, .f32⟩
  | 58 => ⟨S32x1x64, .f32⟩
  | 59 => ⟨S32x16x64, .f32⟩
  | 60 => ⟨S32x16x64, .f32⟩
  | 61 => ⟨S32x1x64, .f32⟩
  | 62 => ⟨S32x16x64, .f32⟩
  | 63 => ⟨S32x16x64, .f32⟩
  | 64 => ⟨S32x16x64, .f32⟩
  | 65 => ⟨S8x8, .i32⟩
  | 66 => ⟨S8x8, .i32⟩
  | 67 => ⟨S_, .i32⟩
  | 68 => ⟨S8x8, .i32⟩
  | 69 => ⟨S8x8, .i32⟩
  | 70 => ⟨S8x8, .i1⟩
  | 71 => ⟨S8x8, .f32⟩
  | 72 => ⟨S1x8x1x8x1, .f32⟩
  | 73 => ⟨S1x2048, .f32⟩
  | 74 => ⟨S8x2048, .f32⟩
  | 75 => ⟨S1x2048, .f32⟩
  | 76 => ⟨S8x2048, .f32⟩
  | 77 => ⟨S4x8x16x1x64, .f32⟩
  | 78 => ⟨S4x8x16x8x64, .f32⟩
  | 79 => ⟨S4x8x16x8x64, .f32⟩
  | 80 => ⟨S4x8x16x8x64, .f32⟩
  | 81 => ⟨S4x128x512, .f32⟩
  | 82 => ⟨S4x8x16x1x64, .f32⟩
  | 83 => ⟨S4x8x16x8x64, .f32⟩
  | 84 => ⟨S4x8x16x8x64, .f32⟩
  | 85 => ⟨S4x8x16x8x64, .f32⟩
  | 86 => ⟨S4x128x512, .f32⟩
  | 87 => ⟨S32x16x64, .f32⟩
  | 88 => ⟨S4x8x16x1x64, .f32⟩
  | 89 => ⟨S4x8x16x8x64, .f32⟩
  | 90 => ⟨S4x8x16x8x64, .f32⟩
  | 91 => ⟨S4x8x16x8x64, .f32⟩
  | 92 => ⟨S4x128x512, .f32⟩
  | 93 => ⟨S32x16x64, .f32⟩
  | 94 => ⟨S32x16x64, .f32⟩
  | 95 => ⟨S4x8x16x1x64, .f32⟩
  | 96 => ⟨S4x8x16x8x64, .f32⟩
  | 97 => ⟨S4x8x16x8x64, .f32⟩
  | 98 => ⟨S4x8x16x8x64, .f32⟩
  | 99 => ⟨S4x128x512, .f32⟩
  | 100 => ⟨S4x8x16x8x64, .f32⟩
  | 101 => ⟨S4x8x16x8x64, .f32⟩
  | 102 => ⟨S4x8x16x8x64, .f32⟩
  | 103 => ⟨S_, .f32⟩
  | 104 => ⟨S4x8x16x64, .f32⟩
  | 105 => ⟨S4x8x16x1x64, .f32⟩
  | 106 => ⟨S32x16x64, .f32⟩
  | 107 => ⟨S32x16x64, .f32⟩
  | 108 => ⟨S512x64, .f32⟩
  | 109 => ⟨S4x8x16x8x64, .f32⟩
  | 110 => ⟨S4x8x16x8x64, .f32⟩
  | 111 => ⟨S4x8x16x8x64, .f32⟩
  | 112 => ⟨S_, .f32⟩
  | 113 => ⟨S4x8x16x64, .f32⟩
  | 114 => ⟨S4x8x16x1x64, .f32⟩
  | 115 => ⟨S32x16x64, .f32⟩
  | 116 => ⟨S512x64, .f32⟩
  | 117 => ⟨S4x8x16x8x64, .f32⟩
  | 118 => ⟨S4x8x16x8x64, .f32⟩
  | 119 => ⟨S4x8x16x8x64, .f32⟩
  | 120 => ⟨S_, .f32⟩
  | 121 => ⟨S4x8x16x64, .f32⟩
  | 122 => ⟨S4x8x16x1x64, .f32⟩
  | 123 => ⟨S32x16x64, .f32⟩
  | 124 => ⟨S4x8x16x8x64, .f32⟩
  | 125 => ⟨S4x8x16x8x64, .f32⟩
  | 126 => ⟨S4x8x16x8x64, .f32⟩
  | 127 => ⟨S_, .f32⟩
  | _ => ⟨S32x64, .f32⟩

abbrev hbmTy0_1 (i : Nat) : BufTy := match i % 128 with
  | 0 => ⟨S4x8x16x64, .f32⟩
  | 1 => ⟨S4x8x16x1x64, .f32⟩
  | 2 => ⟨S32x16x64, .f32⟩
  | 3 => ⟨S_, .f32⟩
  | 4 => ⟨S2048, .f32⟩
  | 5 => ⟨S1x2048, .f32⟩
  | 6 => ⟨S32x64, .f32⟩
  | 7 => ⟨S_, .f32⟩
  | 8 => ⟨S2048, .f32⟩
  | 9 => ⟨S1x2048, .f32⟩
  | 10 => ⟨S32x64, .f32⟩
  | 11 => ⟨S32x16x64, .f32⟩
  | 12 => ⟨S32x16x64, .f32⟩
  | 13 => ⟨S32x16x64, .f32⟩
  | 14 => ⟨S_, .f32⟩
  | 15 => ⟨S32x64, .f32⟩
  | 16 => ⟨S32x1x64, .f32⟩
  | 17 => ⟨S_, .f32⟩
  | 18 => ⟨S32x64, .f32⟩
  | 19 => ⟨S32x16x64, .f32⟩
  | 20 => ⟨S32x16x64, .f32⟩
  | 21 => ⟨S32x16x64, .f32⟩
  | 22 => ⟨S_, .f32⟩
  | 23 => ⟨S32x64, .f32⟩
  | 24 => ⟨S32x1x64, .f32⟩
  | 25 => ⟨S_, .f32⟩
  | 26 => ⟨S32x64, .f32⟩
  | 27 => ⟨S32x16x64, .f32⟩
  | 28 => ⟨S32x16x64, .f32⟩
  | 29 => ⟨S32x16x64, .f32⟩
  | 30 => ⟨S32x16x64, .f32⟩
  | 31 => ⟨S32x16x64, .f32⟩
  | 32 => ⟨S_, .f32⟩
  | 33 => ⟨S32x64, .f32⟩
  | 34 => ⟨S32x1x64, .f32⟩
  | 35 => ⟨S_, .f32⟩
  | 36 => ⟨S32x64, .f32⟩
  | 37 => ⟨S32x64, .f32⟩
  | 38 => ⟨S32x16x64, .f32⟩
  | 39 => ⟨S32x16x64, .f32⟩
  | 40 => ⟨S32x16x64, .f32⟩
  | 41 => ⟨S32x16x64, .f32⟩
  | 42 => ⟨S_, .f32⟩
  | 43 => ⟨S32x64, .f32⟩
  | 44 => ⟨S32x1x64, .f32⟩
  | 45 => ⟨S_, .f32⟩
  | 46 => ⟨S32x64, .f32⟩
  | 47 => ⟨S32x64, .f32⟩
  | 48 => ⟨S512x64, .f32⟩
  | 49 => ⟨S512x64, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S32x64, .f32⟩
  | 56 => ⟨S32x64, .f32⟩
  | 57 => ⟨S32x64, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S32x64, .f32⟩
  | 64 => ⟨S32x64, .f32⟩
  | 65 => ⟨S32x64, .f32⟩
  | 66 => ⟨S32x64, .f32⟩
  | 67 => ⟨S32x64, .f32⟩
  | 68 => ⟨S32x64, .f32⟩
  | 69 => ⟨S32x64, .f32⟩
  | 70 => ⟨S32x64, .f32⟩
  | 71 => ⟨S32x64, .f32⟩
  | 72 => ⟨S32x64, .f32⟩
  | 73 => ⟨S32x64, .f32⟩
  | 74 => ⟨S32x64, .f32⟩
  | 75 => ⟨S32x64, .f32⟩
  | 76 => ⟨S32x64, .f32⟩
  | 77 => ⟨S32x64, .f32⟩
  | 78 => ⟨S32x64, .f32⟩
  | 79 => ⟨S32x64, .f32⟩
  | 80 => ⟨S32x64, .f32⟩
  | 81 => ⟨S32x64, .f32⟩
  | 82 => ⟨S32x64, .f32⟩
  | 83 => ⟨S32x64, .f32⟩
  | 84 => ⟨S32x64, .f32⟩
  | 85 => ⟨S32x64, .f32⟩
  | 86 => ⟨S_, .f32⟩
  | 87 => ⟨S32, .f32⟩
  | 88 => ⟨S32x1, .f32⟩
  | 89 => ⟨S32x64, .f32⟩
  | 90 => ⟨S32x64, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S32x64, .f32⟩
  | 98 => ⟨S_, .f32⟩
  | 99 => ⟨S32, .f32⟩
  | 100 => ⟨S32x1, .f32⟩
  | 101 => ⟨S32x1, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S_, .f32⟩
  | 108 => ⟨S32, .f32⟩
  | 109 => ⟨S32x1, .f32⟩
  | 110 => ⟨S32x1, .f32⟩
  | 111 => ⟨S32x64, .f32⟩
  | 112 => ⟨S32x64, .f32⟩
  | 113 => ⟨S32x64, .f32⟩
  | 114 => ⟨S32x1, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_2 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_3 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_4 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_5 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_6 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_cst_7 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_8 : Ref sig .tc := ⟨.hbm, 142, rfl⟩
abbrev main_v119 : Ref sig .tc := ⟨.hbm, 143, rfl⟩
abbrev main_v120 : Ref sig .tc := ⟨.hbm, 144, rfl⟩
abbrev main_cst_9 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_cst_10 : Ref sig .tc := ⟨.hbm, 150, rfl⟩
abbrev main_v125 : Ref sig .tc := ⟨.hbm, 151, rfl⟩
abbrev main_v126 : Ref sig .tc := ⟨.hbm, 152, rfl⟩
abbrev main_cst_11 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_cst_12 : Ref sig .tc := ⟨.hbm, 160, rfl⟩
abbrev main_v133 : Ref sig .tc := ⟨.hbm, 161, rfl⟩
abbrev main_v134 : Ref sig .tc := ⟨.hbm, 162, rfl⟩
abbrev main_cst_13 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_14 : Ref sig .tc := ⟨.hbm, 170, rfl⟩
abbrev main_v141 : Ref sig .tc := ⟨.hbm, 171, rfl⟩
abbrev main_v142 : Ref sig .tc := ⟨.hbm, 172, rfl⟩
abbrev main_cst_15 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_cst_16 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_cst_17 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_cst_18 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩

abbrev nD : Nat := 1
abbrev τ : Topo := Topo.v7x

variable {F : FTy → Type} [FloatOps F]
-- ==== KernelPost.lean ====
abbrev S4096x512 : Shape := ⟨2, ![4096, 512]⟩
abbrev S4096x1024 : Shape := ⟨2, ![4096, 1024]⟩
abbrev S256x512 : Shape := ⟨2, ![256, 512]⟩
abbrev S256x1024 : Shape := ⟨2, ![256, 1024]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S1024x512 : Shape := ⟨2, ![1024, 512]⟩
abbrev S1x128 : Shape := ⟨2, ![1, 128]⟩
abbrev S512x1024 : Shape := ⟨2, ![512, 1024]⟩
abbrev S1024x4x128 : Shape := ⟨3, ![1024, 4, 128]⟩
abbrev S4x1024x128 : Shape := ⟨3, ![4, 1024, 128]⟩
abbrev S1024x128 : Shape := ⟨2, ![1024, 128]⟩
abbrev S256 : Shape := ⟨1, ![256]⟩
abbrev S256x1 : Shape := ⟨2, ![256, 1]⟩
abbrev S1x1024x128 : Shape := ⟨3, ![1, 1024, 128]⟩
abbrev S256x128 : Shape := ⟨2, ![256, 128]⟩
abbrev S256x256 : Shape := ⟨2, ![256, 256]⟩
abbrev S256x384 : Shape := ⟨2, ![256, 384]⟩
abbrev S128 : Shape := ⟨1, ![128]⟩
abbrev S1024 : Shape := ⟨1, ![1024]⟩
abbrev S512 : Shape := ⟨1, ![512]⟩

abbrev nBuf : Space → Nat
  | .hbm => 43
  | .vmem => 44
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S256x512, .f32⟩
  | .hbm, ⟨5, _⟩ => ⟨S256x1024, .f32⟩
  | .hbm, ⟨6, _⟩ => ⟨S1x512, .f32⟩
  | .hbm, ⟨7, _⟩ => ⟨S512x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1024x1024, .f32⟩
  | .hbm, ⟨12, _⟩ => ⟨S1x1024, .f32⟩
  | .hbm, ⟨13, _⟩ => ⟨S1024x512, .f32⟩
  | .hbm, ⟨14, _⟩ => ⟨S1x128, .f32⟩
  | .hbm, ⟨15, _⟩ => ⟨S512x1024, .f32⟩
  | .hbm, ⟨16, _⟩ => ⟨S4096x1024, .f32⟩
  | .hbm, ⟨17, _⟩ => ⟨S1024x4x128, .f32⟩
  | .hbm, ⟨18, _⟩ => ⟨S4x1024x128, .f32⟩
  | .hbm, ⟨19, _⟩ => ⟨S512x512, .bf16⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S4x1024x128, .bf16⟩
  | .hbm, ⟨25, _⟩ => ⟨S512x1024, .bf16⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x1024, .f32⟩
  | .hbm, ⟨30, _⟩ => ⟨S256x512, .f32⟩
  | .hbm, ⟨31, _⟩ => ⟨S256x512, .f32⟩
  | .hbm, ⟨32, _⟩ => ⟨S1x512, .f32⟩
  | .hbm, ⟨33, _⟩ => ⟨S512x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S512x1024, .f32⟩
  | .hbm, ⟨38, _⟩ => ⟨S512x1024, .f32⟩
  | .hbm, ⟨39, _⟩ => ⟨S1x1024, .f32⟩
  | .hbm, ⟨40, _⟩ => ⟨S4x1024x128, .f32⟩
  | .hbm, ⟨41, _⟩ => ⟨S1x128, .f32⟩
  | .hbm, ⟨42, _⟩ => ⟨S512x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S4x1024x128, .bf16⟩
  | .local _ .vmem, ⟨19, _⟩ => ⟨S1x128, .f32⟩
  | .local _ .vmem, ⟨20, _⟩ => ⟨S512x1024, .bf16⟩
  | .local _ .vmem, ⟨21, _⟩ => ⟨S256x1024, .f32⟩
  | .local _ .vmem, ⟨22, _⟩ => ⟨S256x1024, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x1024, .f32⟩
  | .local _ .vmem, ⟨30, _⟩ => ⟨S256x1024, .f32⟩
  | .local _ .vmem, ⟨31, _⟩ => ⟨S256x512, .f32⟩
  | .local _ .vmem, ⟨32, _⟩ => ⟨S256x512, .f32⟩
  | .local _ .vmem, ⟨33, _⟩ => ⟨S1x512, .f32⟩
  | .local _ .vmem, ⟨34, _⟩ => ⟨S512x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S512x1024, .f32⟩
  | .local _ .vmem, ⟨39, _⟩ => ⟨S512x1024, .f32⟩
  | .local _ .vmem, ⟨40, _⟩ => ⟨S1x1024, .f32⟩
  | .local _ .vmem, ⟨41, _⟩ => ⟨S4x1024x128, .f32⟩
  | .local _ .vmem, ⟨42, _⟩ => ⟨S1x128, .f32⟩
  | .local _ .vmem, ⟨43, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v9_3 : Ref sig .tc := ⟨.hbm, 29, rfl⟩
abbrev main_v9_4 : Ref sig .tc := ⟨.hbm, 30, rfl⟩
abbrev main_v9_5 : Ref sig .tc := ⟨.hbm, 31, rfl⟩
abbrev main_v9_6 : Ref sig .tc := ⟨.hbm, 32, rfl⟩
abbrev main_v9_7 : Ref sig .tc := ⟨.hbm, 33, rfl⟩
abbrev main_v9_8 : Ref sig .tc := ⟨.hbm, 34, rfl⟩
abbrev main_v9_9 : Ref sig .tc := ⟨.hbm, 35, rfl⟩
abbrev main_v9_10 : Ref sig .tc := ⟨.hbm, 36, rfl⟩
abbrev main_v9_11 : Ref sig .tc := ⟨.hbm, 37, rfl⟩
abbrev main_v9_12 : Ref sig .tc := ⟨.hbm, 38, rfl⟩
abbrev main_v9_13 : Ref sig .tc := ⟨.hbm, 39, rfl⟩
abbrev main_v9_14 : Ref sig .tc := ⟨.hbm, 40, rfl⟩
abbrev main_v9_15 : Ref sig .tc := ⟨.hbm, 41, rfl⟩
abbrev main_v9_16 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg26_0 : Ref sig .tc := ⟨.vmem, 35, rfl⟩
abbrev cc0_stg27_0 : Ref sig .tc := ⟨.vmem, 36, rfl⟩
abbrev cc0_stg28_0 : Ref sig .tc := ⟨.vmem, 37, rfl⟩
abbrev cc0_stg29_0 : Ref sig .tc := ⟨.vmem, 38, rfl⟩
abbrev cc0_stg30_0 : Ref sig .tc := ⟨.vmem, 39, rfl⟩
abbrev cc0_stg31_0 : Ref sig .tc := ⟨.vmem, 40, rfl⟩
abbrev cc0_stg32_0 : Ref sig .tc := ⟨.vmem, 41, rfl⟩
abbrev cc0_stg33_0 : Ref sig .tc := ⟨.vmem, 42, rfl⟩
abbrev cc0_stg34_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem23_0 : DmaSem sig := 32
abbrev cc0_sem24_0 : DmaSem sig := 33
abbrev cc0_sem25_0 : DmaSem sig := 34
abbrev cc0_sem26_0 : DmaSem sig := 35
abbrev cc0_sem27_0 : DmaSem sig := 36
abbrev cc0_sem28_0 : DmaSem sig := 37
abbrev cc0_sem29_0 : DmaSem sig := 38
abbrev cc0_sem30_0 : DmaSem sig := 39
abbrev cc0_sem31_0 : DmaSem sig := 40
abbrev cc0_sem32_0 : DmaSem sig := 41
abbrev cc0_sem33_0 : DmaSem sig := 42
abbrev cc0_sem34_0 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S256x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S512x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S512x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S512x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S4x1024x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S512x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]
-- ==== ReferencePostIdeal.lean ====
abbrev S4096x512 : Shape := ⟨2, ![4096, 512]⟩
abbrev S4096x1024 : Shape := ⟨2, ![4096, 1024]⟩
abbrev S256x512 : Shape := ⟨2, ![256, 512]⟩
abbrev S256x1024 : Shape := ⟨2, ![256, 1024]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S1024x512 : Shape := ⟨2, ![1024, 512]⟩
abbrev S1x128 : Shape := ⟨2, ![1, 128]⟩
abbrev S512x1024 : Shape := ⟨2, ![512, 1024]⟩
abbrev S_ : Shape := ⟨0, ![]⟩
abbrev S4096 : Shape := ⟨1, ![4096]⟩
abbrev S4096x1 : Shape := ⟨2, ![4096, 1]⟩
abbrev S4096x4x128 : Shape := ⟨3, ![4096, 4, 128]⟩
abbrev S128 : Shape := ⟨1, ![128]⟩
abbrev S4096x4 : Shape := ⟨2, ![4096, 4]⟩
abbrev S4096x4x1 : Shape := ⟨3, ![4096, 4, 1]⟩
abbrev S1x1x128 : Shape := ⟨3, ![1, 1, 128]⟩
abbrev S256x4x128 : Shape := ⟨3, ![256, 4, 128]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩
abbrev S1024 : Shape := ⟨1, ![1024]⟩
abbrev S512 : Shape := ⟨1, ![512]⟩
abbrev S1024x4x128 : Shape := ⟨3, ![1024, 4, 128]⟩
abbrev S4x1024x128 : Shape := ⟨3, ![4, 1024, 128]⟩

abbrev nBuf : Space → Nat
  | .hbm => 370
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x1024, .f32⟩
  | 4 => ⟨S256x512, .f32⟩
  | 5 => ⟨S256x1024, .f32⟩
  | 6 => ⟨S1x512, .f32⟩
  | 7 => ⟨S512x512, .f32⟩
  | 8 => ⟨S1x512, .f32⟩
  | 9 => ⟨S1x512, .f32⟩
  | 10 => ⟨S1x512, .f32⟩
  | 11 => ⟨S1024x1024, .f32⟩
  | 12 => ⟨S1x1024, .f32⟩
  | 13 => ⟨S1024x512, .f32⟩
  | 14 => ⟨S1x128, .f32⟩
  | 15 => ⟨S512x1024, .f32⟩
  | 16 => ⟨S4096x1024, .f32⟩
  | 17 => ⟨S256x512, .f32⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S4096x512, .f32⟩
  | 64 => ⟨S4096x512, .f32⟩
  | 65 => ⟨S4096x512, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x1, .f32⟩
  | 76 => ⟨S4096x1, .f32⟩
  | 77 => ⟨S_, .f32⟩
  | 78 => ⟨S4096x1, .f32⟩
  | 79 => ⟨S4096x1, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S_, .f32⟩
  | 86 => ⟨S4096, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x1, .f32⟩
  | 95 => ⟨S4096x1, .f32⟩
  | 96 => ⟨S_, .f32⟩
  | 97 => ⟨S4096x1, .f32⟩
  | 98 => ⟨S4096x1, .f32⟩
  | 99 => ⟨S4096x512, .f32⟩
  | 100 => ⟨S4096x512, .f32⟩
  | 101 => ⟨S4096x512, .f32⟩
  | 102 => ⟨S4096x512, .f32⟩
  | 103 => ⟨S4096x1024, .f32⟩
  | 104 => ⟨S4096x1024, .f32⟩
  | 105 => ⟨S4096x1024, .f32⟩
  | 106 => ⟨S4096x1024, .f32⟩
  | 107 => ⟨S_, .f32⟩
  | 108 => ⟨S4096, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096x1, .f32⟩
  | 115 => ⟨S4096x1, .f32⟩
  | 116 => ⟨S4096x1, .f32⟩
  | 117 => ⟨S4096x1, .f32⟩
  | 118 => ⟨S_, .f32⟩
  | 119 => ⟨S4096x1, .f32⟩
  | 120 => ⟨S4096x1, .f32⟩
  | 121 => ⟨S4096x1024, .f32⟩
  | 122 => ⟨S4096x1024, .f32⟩
  | 123 => ⟨S4096x1024, .f32⟩
  | 124 => ⟨S4096x1024, .f32⟩
  | 125 => ⟨S4096x512, .f32⟩
  | 126 => ⟨S4096x4x128, .f32⟩
  | 127 => ⟨S128, .f32⟩
  | _ => ⟨S4096x512, .f32⟩

abbrev hbmTy0_1 (i : Nat) : BufTy := match i % 128 with
  | 0 => ⟨S4096x4x128, .f32⟩
  | 1 => ⟨S_, .f32⟩
  | 2 => ⟨S4096x4, .f32⟩
  | 3 => ⟨S4096x4x1, .f32⟩
  | 4 => ⟨S_, .f32⟩
  | 5 => ⟨S4096x4x1, .f32⟩
  | 6 => ⟨S4096x4x1, .f32⟩
  | 7 => ⟨S_, .f32⟩
  | 8 => ⟨S4096x4x1, .f32⟩
  | 9 => ⟨S4096x4x1, .f32⟩
  | 10 => ⟨S4096x4x1, .f32⟩
  | 11 => ⟨S4096x4x1, .f32⟩
  | 12 => ⟨S_, .f32⟩
  | 13 => ⟨S4096x4x1, .f32⟩
  | 14 => ⟨S4096x4x1, .f32⟩
  | 15 => ⟨S4096x4x128, .f32⟩
  | 16 => ⟨S4096x4x128, .f32⟩
  | 17 => ⟨S1x1x128, .f32⟩
  | 18 => ⟨S4096x4x128, .f32⟩
  | 19 => ⟨S4096x4x128, .f32⟩
  | 20 => ⟨S256x4x128, .f32⟩
  | 21 => ⟨S4x4096x256, .f32⟩
  | 22 => ⟨S_, .f32⟩
  | 23 => ⟨S4x4096x256, .f32⟩
  | 24 => ⟨S4x4096x256, .f32⟩
  | 25 => ⟨S_, .f32⟩
  | 26 => ⟨S4x4096, .f32⟩
  | 27 => ⟨S4x4096x1, .f32⟩
  | 28 => ⟨S4x4096x256, .f32⟩
  | 29 => ⟨S4x4096x256, .i1⟩
  | 30 => ⟨S4x4096x256, .f32⟩
  | 31 => ⟨S_, .f32⟩
  | 32 => ⟨S4x4096, .f32⟩
  | 33 => ⟨S_, .f32⟩
  | 34 => ⟨S4x4096, .f32⟩
  | 35 => ⟨S4x4096, .f32⟩
  | 36 => ⟨S_, .f32⟩
  | 37 => ⟨S4x4096, .f32⟩
  | 38 => ⟨S4x4096, .i1⟩
  | 39 => ⟨S_, .f32⟩
  | 40 => ⟨S4x4096, .f32⟩
  | 41 => ⟨S4x4096, .i1⟩
  | 42 => ⟨S_, .f32⟩
  | 43 => ⟨S4x4096, .f32⟩
  | 44 => ⟨S_, .f32⟩
  | 45 => ⟨S4x4096, .f32⟩
  | 46 => ⟨S_, .f32⟩
  | 47 => ⟨S4x4096, .f32⟩
  | 48 => ⟨S4x4096, .f32⟩
  | 49 => ⟨S4x4096, .f32⟩
  | 50 => ⟨S4x4096x1, .f32⟩
  | 51 => ⟨S4x4096x256, .f32⟩
  | 52 => ⟨S4x4096x256, .f32⟩
  | 53 => ⟨S4x4096x256, .f32⟩
  | 54 => ⟨S_, .f32⟩
  | 55 => ⟨S4x4096, .f32⟩
  | 56 => ⟨S4x4096x1, .f32⟩
  | 57 => ⟨S4x4096x256, .f32⟩
  | 58 => ⟨S4x4096x256, .f32⟩
  | 59 => ⟨S4x4096x1, .f32⟩
  | 60 => ⟨S_, .f32⟩
  | 61 => ⟨S4x4096x1, .f32⟩
  | 62 => ⟨S4x4096x1, .f32⟩
  | 63 => ⟨S256x4x128, .f32⟩
  | 64 => ⟨S4x128x4096, .f32⟩
  | 65 => ⟨S4096x4x128, .f32⟩
  | 66 => ⟨S4096x512, .f32⟩
  | 67 => ⟨S4096x1024, .f32⟩
  | 68 => ⟨S4096x1024, .f32⟩
  | 69 => ⟨S4096x1024, .f32⟩
  | 70 => ⟨S4096x1024, .f32⟩
  | 71 => ⟨S1024x512, .f32⟩
  | 72 => ⟨S512x1024, .f32⟩
  | 73 => ⟨S4096x512, .f32⟩
  | 74 => ⟨S4096x4x128, .f32⟩
  | 75 => ⟨S4x128x4096, .f32⟩
  | 76 => ⟨S4x4096x256, .f32⟩
  | 77 => ⟨S4x128x256, .f32⟩
  | 78 => ⟨S256x4x128, .f32⟩
  | 79 => ⟨S256x512, .f32⟩
  | 80 => ⟨S4x4096x256, .f32⟩
  | 81 => ⟨S4x4096x256, .f32⟩
  | 82 => ⟨S4x4096x256, .f32⟩
  | 83 => ⟨S_, .f32⟩
  | 84 => ⟨S4x4096, .f32⟩
  | 85 => ⟨S4x4096x1, .f32⟩
  | 86 => ⟨S4x4096x1, .f32⟩
  | 87 => ⟨S4x4096x256, .f32⟩
  | 88 => ⟨S4x4096x256, .f32⟩
  | 89 => ⟨S_, .f32⟩
  | 90 => ⟨S4x4096, .f32⟩
  | 91 => ⟨S4x4096x256, .f32⟩
  | 92 => ⟨S4x4096x256, .f32⟩
  | 93 => ⟨S4x4096x256, .f32⟩
  | 94 => ⟨S_, .f32⟩
  | 95 => ⟨S4x4096x256, .f32⟩
  | 96 => ⟨S4x4096x256, .f32⟩
  | 97 => ⟨S4x256x128, .f32⟩
  | 98 => ⟨S256x4x128, .f32⟩
  | 99 => ⟨S4x4096x128, .f32⟩
  | 100 => ⟨S4096x4x128, .f32⟩
  | 101 => ⟨S256x512, .f32⟩
  | 102 => ⟨S4096x4x128, .f32⟩
  | 103 => ⟨S_, .f32⟩
  | 104 => ⟨S128, .f32⟩
  | 105 => ⟨S1x1x128, .f32⟩
  | 106 => ⟨S4096x4x128, .f32⟩
  | 107 => ⟨S4096x4x128, .f32⟩
  | 108 => ⟨S_, .f32⟩
  | 109 => ⟨S128, .f32⟩
  | 110 => ⟨S4096x4x128, .f32⟩
  | 111 => ⟨S_, .f32⟩
  | 112 => ⟨S4096x4, .f32⟩
  | 113 => ⟨S4096x4x1, .f32⟩
  | 114 => ⟨S4096x4x128, .f32⟩
  | 115 => ⟨S4096x4x128, .f32⟩
  | 116 => ⟨S4096x4x1, .f32⟩
  | 117 => ⟨S_, .f32⟩
  | 118 => ⟨S4096x4x1, .f32⟩
  | 119 => ⟨S4096x4x1, .f32⟩
  | 120 => ⟨S_, .f32⟩
  | 121 => ⟨S4096x4, .f32⟩
  | 122 => ⟨S4096x4x128, .f32⟩
  | 123 => ⟨S4096x4x128, .f32⟩
  | 124 => ⟨S4096x4x128, .f32⟩
  | 125 => ⟨S4096x4x128, .f32⟩
  | 126 => ⟨S4096x4x128, .f32⟩
  | 127 => ⟨S1x128, .f32⟩
  | _ => ⟨S4096x512, .f32⟩

abbrev hbmTy0_2 (i : Nat) : BufTy := match i % 128 with
  | 0 => ⟨S4096x512, .f32⟩
  | 1 => ⟨S512x1024, .f32⟩
  | 2 => ⟨S1024x512, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S4096x1024, .f32⟩
  | 9 => ⟨S4096x1024, .f32⟩
  | 10 => ⟨S4096x1024, .f32⟩
  | 11 => ⟨S_, .f32⟩
  | 12 => ⟨S4096, .f32⟩
  | 13 => ⟨S4096x1, .f32⟩
  | 14 => ⟨S4096x1024, .f32⟩
  | 15 => ⟨S4096x1024, .f32⟩
  | 16 => ⟨S4096x1024, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S1024x1024, .f32⟩
  | 29 => ⟨S1024x1024, .f32⟩
  | 30 => ⟨S4096x1024, .f32⟩
  | 31 => ⟨S4096x512, .f32⟩
  | 32 => ⟨S4096x512, .f32⟩
  | 33 => ⟨S4096x512, .f32⟩
  | 34 => ⟨S_, .f32⟩
  | 35 => ⟨S512, .f32⟩
  | 36 => ⟨S1x512, .f32⟩
  | 37 => ⟨S4096x512, .f32⟩
  | 38 => ⟨S4096x512, .f32⟩
  | 39 => ⟨S4096x512, .f32⟩
  | 40 => ⟨S_, .f32⟩
  | 41 => ⟨S4096, .f32⟩
  | 42 => ⟨S4096x1, .f32⟩
  | 43 => ⟨S4096x512, .f32⟩
  | 44 => ⟨S4096x512, .f32⟩
  | 45 => ⟨S4096x1, .f32⟩
  | 46 => ⟨S_, .f32⟩
  | 47 => ⟨S4096x1, .f32⟩
  | 48 => ⟨S4096x1, .f32⟩
  | 49 => ⟨S_, .f32⟩
  | 50 => ⟨S4096, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S_, .f32⟩
  | 58 => ⟨S512, .f32⟩
  | 59 => ⟨S1x512, .f32⟩
  | 60 => ⟨S4096x512, .f32⟩
  | 61 => ⟨S4096x512, .f32⟩
  | 62 => ⟨S4096x512, .f32⟩
  | 63 => ⟨S_, .f32⟩
  | 64 => ⟨S4096, .f32⟩
  | 65 => ⟨S4096x1, .f32⟩
  | 66 => ⟨S4096x512, .f32⟩
  | 67 => ⟨S4096x512, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096, .f32⟩
  | 74 => ⟨S4096x512, .f32⟩
  | 75 => ⟨S4096x512, .f32⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S_, .f32⟩
  | 83 => ⟨S512, .f32⟩
  | 84 => ⟨S1x512, .f32⟩
  | 85 => ⟨S512x512, .f32⟩
  | 86 => ⟨S512x512, .f32⟩
  | 87 => ⟨S4096x512, .f32⟩
  | 88 => ⟨S4096x512, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S4096x512, .f32⟩
  | 95 => ⟨S_, .f32⟩
  | 96 => ⟨S4096x512, .f32⟩
  | 97 => ⟨S4096x512, .f32⟩
  | 98 => ⟨S4096x512, .f32⟩
  | 99 => ⟨S_, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S_, .f32⟩
  | 108 => ⟨S512, .f32⟩
  | 109 => ⟨S1x512, .f32⟩
  | 110 => ⟨S1024x4x128, .f32⟩
  | 111 => ⟨S4x1024x128, .f32⟩
  | 112 => ⟨S512x1024, .f32⟩
  | 113 => ⟨S512x1024, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_cst_10 : Ref sig .tc := ⟨.hbm, 69, rfl⟩
abbrev main_v41 : Ref sig .tc := ⟨.hbm, 70, rfl⟩
abbrev main_v42 : Ref sig .tc := ⟨.hbm, 71, rfl⟩
abbrev main_cst_11 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_13 : Ref sig .tc := ⟨.hbm, 85, rfl⟩
abbrev main_v54 : Ref sig .tc := ⟨.hbm, 86, rfl⟩
abbrev main_v55 : Ref sig .tc := ⟨.hbm, 87, rfl⟩
abbrev main_cst_14 : Ref sig .tc := ⟨.hbm, 88, rfl⟩
abbrev main_v56 : Ref sig .tc := ⟨.hbm, 89, rfl⟩
abbrev main_v57 : Ref sig .tc := ⟨.hbm, 90, rfl⟩
abbrev main_cst_15 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_16 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_17 : Ref sig .tc := ⟨.hbm, 107, rfl⟩
abbrev main_v72 : Ref sig .tc := ⟨.hbm, 108, rfl⟩
abbrev main_v73 : Ref sig .tc := ⟨.hbm, 109, rfl⟩
abbrev main_cst_18 : Ref sig .tc := ⟨.hbm, 110, rfl⟩
abbrev main_v74 : Ref sig .tc := ⟨.hbm, 111, rfl⟩
abbrev main_v75 : Ref sig .tc := ⟨.hbm, 112, rfl⟩
abbrev main_cst_19 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_20 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_21 : Ref sig .tc := ⟨.hbm, 129, rfl⟩
abbrev main_v90 : Ref sig .tc := ⟨.hbm, 130, rfl⟩
abbrev main_v91 : Ref sig .tc := ⟨.hbm, 131, rfl⟩
abbrev main_cst_22 : Ref sig .tc := ⟨.hbm, 132, rfl⟩
abbrev main_v92 : Ref sig .tc := ⟨.hbm, 133, rfl⟩
abbrev main_v93 : Ref sig .tc := ⟨.hbm, 134, rfl⟩
abbrev main_cst_23 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_24 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_25 : Ref sig .tc := ⟨.hbm, 150, rfl⟩
abbrev main_v107 : Ref sig .tc := ⟨.hbm, 151, rfl⟩
abbrev main_v108 : Ref sig .tc := ⟨.hbm, 152, rfl⟩
abbrev main_cst_26 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_27 : Ref sig .tc := ⟨.hbm, 159, rfl⟩
abbrev main_v114 : Ref sig .tc := ⟨.hbm, 160, rfl⟩
abbrev main_cst_28 : Ref sig .tc := ⟨.hbm, 161, rfl⟩
abbrev main_v115 : Ref sig .tc := ⟨.hbm, 162, rfl⟩
abbrev main_v116 : Ref sig .tc := ⟨.hbm, 163, rfl⟩
abbrev main_cst_29 : Ref sig .tc := ⟨.hbm, 164, rfl⟩
abbrev main_v117 : Ref sig .tc := ⟨.hbm, 165, rfl⟩
abbrev main_v118 : Ref sig .tc := ⟨.hbm, 166, rfl⟩
abbrev main_cst_30 : Ref sig .tc := ⟨.hbm, 167, rfl⟩
abbrev main_v119 : Ref sig .tc := ⟨.hbm, 168, rfl⟩
abbrev main_v120 : Ref sig .tc := ⟨.hbm, 169, rfl⟩
abbrev main_cst_31 : Ref sig .tc := ⟨.hbm, 170, rfl⟩
abbrev main_v121 : Ref sig .tc := ⟨.hbm, 171, rfl⟩
abbrev main_cst_32 : Ref sig .tc := ⟨.hbm, 172, rfl⟩
abbrev main_v122 : Ref sig .tc := ⟨.hbm, 173, rfl⟩
abbrev main_cst_33 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_34 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_35 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_36 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_37 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_cst_38 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_cst_39 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_cst_40 : Ref sig .tc := ⟨.hbm, 236, rfl⟩
abbrev main_v178 : Ref sig .tc := ⟨.hbm, 237, rfl⟩
abbrev main_v179 : Ref sig .tc := ⟨.hbm, 238, rfl⟩
abbrev main_cst_41 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_42 : Ref sig .tc := ⟨.hbm, 245, rfl⟩
abbrev main_v185 : Ref sig .tc := ⟨.hbm, 246, rfl⟩
abbrev main_v186 : Ref sig .tc := ⟨.hbm, 247, rfl⟩
abbrev main_cst_43 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_cst_44 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_cst_45 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_cst_46 : Ref sig .tc := ⟨.hbm, 274, rfl⟩
abbrev main_v210 : Ref sig .tc := ⟨.hbm, 275, rfl⟩
abbrev main_v211 : Ref sig .tc := ⟨.hbm, 276, rfl⟩
abbrev main_cst_47 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_cst_48 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_cst_49 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_cst_50 : Ref sig .tc := ⟨.hbm, 302, rfl⟩
abbrev main_v234 : Ref sig .tc := ⟨.hbm, 303, rfl⟩
abbrev main_v235 : Ref sig .tc := ⟨.hbm, 304, rfl⟩
abbrev main_cst_51 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_cst_52 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_cst_53 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_cst_54 : Ref sig .tc := ⟨.hbm, 325, rfl⟩
abbrev main_v253 : Ref sig .tc := ⟨.hbm, 326, rfl⟩
abbrev main_v254 : Ref sig .tc := ⟨.hbm, 327, rfl⟩
abbrev main_cst_55 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_cst_56 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_cst_57 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_cst_58 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_cst_59 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_cst_60 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩

abbrev nD : Nat := 1
abbrev τ : Topo := Topo.v7x

variable {F : FTy → Type} [FloatOps F]
-- ==== KernelPre.lean ====
abbrev S4096x1024 : Shape := ⟨2, ![4096, 1024]⟩
abbrev S4096 : Shape := ⟨1, ![4096]⟩
abbrev S1x1024 : Shape := ⟨2, ![1, 1024]⟩
abbrev S1024x1216 : Shape := ⟨2, ![1024, 1216]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S1x192 : Shape := ⟨2, ![1, 192]⟩
abbrev S4096x512 : Shape := ⟨2, ![4096, 512]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x64 : Shape := ⟨2, ![4096, 64]⟩
abbrev S4096x256 : Shape := ⟨2, ![4096, 256]⟩
abbrev S4096x96 : Shape := ⟨2, ![4096, 96]⟩
abbrev S4096x160 : Shape := ⟨2, ![4096, 160]⟩
abbrev S1024x384 : Shape := ⟨2, ![1024, 384]⟩
abbrev S1024x256 : Shape := ⟨2, ![1024, 256]⟩
abbrev S1024x64 : Shape := ⟨2, ![1024, 64]⟩
abbrev S1024x128 : Shape := ⟨2, ![1024, 128]⟩
abbrev S1024x512 : Shape := ⟨2, ![1024, 512]⟩
abbrev S384x4x192 : Shape := ⟨3, ![384, 4, 192]⟩
abbrev S4x384x192 : Shape := ⟨3, ![4, 384, 192]⟩
abbrev S4x384x256 : Shape := ⟨3, ![4, 384, 256]⟩
abbrev S256x4x256 : Shape := ⟨3, ![256, 4, 256]⟩
abbrev S4x256x256 : Shape := ⟨3, ![4, 256, 256]⟩
abbrev S256x256 : Shape := ⟨2, ![256, 256]⟩
abbrev S256x512 : Shape := ⟨2, ![256, 512]⟩
abbrev S128x1024 : Shape := ⟨2, ![128, 1024]⟩
abbrev S128x256 : Shape := ⟨2, ![128, 256]⟩
abbrev S384x256 : Shape := ⟨2, ![384, 256]⟩
abbrev S128 : Shape := ⟨1, ![128]⟩
abbrev S128x1 : Shape := ⟨2, ![128, 1]⟩
abbrev S128x384 : Shape := ⟨2, ![128, 384]⟩
abbrev S128x128 : Shape := ⟨2, ![128, 128]⟩
abbrev S1x384x256 : Shape := ⟨3, ![1, 384, 256]⟩
abbrev S1x256x256 : Shape := ⟨3, ![1, 256, 256]⟩
abbrev S128x512 : Shape := ⟨2, ![128, 512]⟩
abbrev S256 : Shape := ⟨1, ![256]⟩
abbrev S384 : Shape := ⟨1, ![384]⟩
abbrev S1024 : Shape := ⟨1, ![1024]⟩

abbrev nBuf : Space → Nat
  | .hbm => 85
  | .vmem => 42
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1x1024, .f32⟩
  | .hbm, ⟨3, _⟩ => ⟨S1024x1216, .f32⟩
  | .hbm, ⟨4, _⟩ => ⟨S1x384, .f32⟩
  | .hbm, ⟨5, _⟩ => ⟨S384x768, .f32⟩
  | .hbm, ⟨6, _⟩ => ⟨S1x256, .f32⟩
  | .hbm, ⟨7, _⟩ => ⟨S256x1024, .f32⟩
  | .hbm, ⟨8, _⟩ => ⟨S1x192, .f32⟩
  | .hbm, ⟨9, _⟩ => ⟨S1x192, .f32⟩
  | .hbm, ⟨10, _⟩ => ⟨S4096x1024, .f32⟩
  | .hbm, ⟨11, _⟩ => ⟨S4096x1024, .f32⟩
  | .hbm, ⟨12, _⟩ => ⟨S4096x512, .f32⟩
  | .hbm, ⟨13, _⟩ => ⟨S4096x512, .f32⟩
  | .hbm, ⟨14, _⟩ => ⟨S4096x1024, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4096, .f32⟩
  | .hbm, ⟨24, _⟩ => ⟨S4096x1, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S_, .f32⟩
  | .hbm, ⟨32, _⟩ => ⟨S4096x128, .f32⟩
  | .hbm, ⟨33, _⟩ => ⟨S_, .f32⟩
  | .hbm, ⟨34, _⟩ => ⟨S4096x64, .f32⟩
  | .hbm, ⟨35, _⟩ => ⟨S4096x256, .f32⟩
  | .hbm, ⟨36, _⟩ => ⟨S_, .f32⟩
  | .hbm, ⟨37, _⟩ => ⟨S4096x128, .f32⟩
  | .hbm, ⟨38, _⟩ => ⟨S4096x32, .f32⟩
  | .hbm, ⟨39, _⟩ => ⟨S_, .f32⟩
  | .hbm, ⟨40, _⟩ => ⟨S4096x96, .f32⟩
  | .hbm, ⟨41, _⟩ => ⟨S4096x256, .f32⟩
  | .hbm, ⟨42, _⟩ => ⟨S_, .f32⟩
  | .hbm, ⟨43, _⟩ => ⟨S4096x160, .f32⟩
  | .hbm, ⟨44, _⟩ => ⟨S_, .f32⟩
  | .hbm, ⟨45, _⟩ => ⟨S4096x64, .f32⟩
  | .hbm, ⟨46, _⟩ => ⟨S4096x256, .f32⟩
  | .hbm, ⟨47, _⟩ => ⟨S1024x384, .f32⟩
  | .hbm, ⟨48, _⟩ => ⟨S1024x384, .bf16⟩
  | .hbm, ⟨49, _⟩ => ⟨S1024x256, .f32⟩
  | .hbm, ⟨50, _⟩ => ⟨S1024x256, .bf16⟩
  | .hbm, ⟨51, _⟩ => ⟨S1024x64, .f32⟩
  | .hbm, ⟨52, _⟩ => ⟨S_, .i32⟩
  | .hbm, ⟨53, _⟩ => ⟨S_, .f32⟩
  | .hbm, ⟨54, _⟩ => ⟨S1024x128, .f32⟩
  | .hbm, ⟨55, _⟩ => ⟨S1024x128, .bf16⟩
  | .hbm, ⟨56, _⟩ => ⟨S1024x512, .f32⟩
  | .hbm, ⟨57, _⟩ => ⟨S1024x512, .bf16⟩
  | .hbm, ⟨58, _⟩ => ⟨S384x4x192, .f32⟩
  | .hbm, ⟨59, _⟩ => ⟨S4x384x192, .f32⟩
  | .hbm, ⟨60, _⟩ => ⟨S_, .i32⟩
  | .hbm, ⟨61, _⟩ => ⟨S_, .f32⟩
  | .hbm, ⟨62, _⟩ => ⟨S4x384x256, .f32⟩
  | .hbm, ⟨63, _⟩ => ⟨S4x384x256, .bf16⟩
  | .hbm, ⟨64, _⟩ => ⟨S256x4x256, .f32⟩
  | .hbm, ⟨65, _⟩ => ⟨S4x256x256, .f32⟩
  | .hbm, ⟨66, _⟩ => ⟨S4x256x256, .bf16⟩
  | .hbm, ⟨67, _⟩ => ⟨S_, .i32⟩
  | .hbm, ⟨68, _⟩ => ⟨S_, .f32⟩
  | .hbm, ⟨69, _⟩ => ⟨S1x256, .f32⟩
  | .hbm, ⟨70, _⟩ => ⟨S_, .i32⟩
  | .hbm, ⟨71, _⟩ => ⟨S_, .f32⟩
  | .hbm, ⟨72, _⟩ => ⟨S1x256, .f32⟩
  | .hbm, ⟨73, _⟩ => ⟨S4096x1024, .f32⟩
  | .hbm, ⟨74, _⟩ => ⟨S1x1024, .f32⟩
  | .hbm, ⟨75, _⟩ => ⟨S1024x384, .f32⟩
  | .hbm, ⟨76, _⟩ => ⟨S1024x256, .f32⟩
  | .hbm, ⟨77, _⟩ => ⟨S1024x128, .f32⟩
  | .hbm, ⟨78, _⟩ => ⟨S1024x512, .f32⟩
  | .hbm, ⟨79, _⟩ => ⟨S1x384, .f32⟩
  | .hbm, ⟨80, _⟩ => ⟨S1x256, .f32⟩
  | .hbm, ⟨81, _⟩ => ⟨S4x384x256, .f32⟩
  | .hbm, ⟨82, _⟩ => ⟨S4x256x256, .f32⟩
  | .hbm, ⟨83, _⟩ => ⟨S1x256, .f32⟩
  | .hbm, ⟨84, _⟩ => ⟨S1x256, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S1x1024, .f32⟩
  | .local _ .vmem, ⟨9, _⟩ => ⟨S1024x384, .bf16⟩
  | .local _ .vmem, ⟨10, _⟩ => ⟨S1024x256, .bf16⟩
  | .local _ .vmem, ⟨11, _⟩ => ⟨S1024x128, .bf16⟩
  | .local _ .vmem, ⟨12, _⟩ => ⟨S1024x512, .bf16⟩
  | .local _ .vmem, ⟨13, _⟩ => ⟨S1x384, .f32⟩
  | .local _ .vmem, ⟨14, _⟩ => ⟨S1x256, .f32⟩
  | .local _ .vmem, ⟨15, _⟩ => ⟨S4x384x256, .bf16⟩
  | .local _ .vmem, ⟨16, _⟩ => ⟨S4x256x256, .bf16⟩
  | .local _ .vmem, ⟨17, _⟩ => ⟨S1x256, .f32⟩
  | .local _ .vmem, ⟨18, _⟩ => ⟨S1x256, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S1x1024, .f32⟩
  | .local _ .vmem, ⟨32, _⟩ => ⟨S1024x384, .f32⟩
  | .local _ .vmem, ⟨33, _⟩ => ⟨S1024x256, .f32⟩
  | .local _ .vmem, ⟨34, _⟩ => ⟨S1024x128, .f32⟩
  | .local _ .vmem, ⟨35, _⟩ => ⟨S1024x512, .f32⟩
  | .local _ .vmem, ⟨36, _⟩ => ⟨S1x384, .f32⟩
  | .local _ .vmem, ⟨37, _⟩ => ⟨S1x256, .f32⟩
  | .local _ .vmem, ⟨38, _⟩ => ⟨S4x384x256, .f32⟩
  | .local _ .vmem, ⟨39, _⟩ => ⟨S4x256x256, .f32⟩
  | .local _ .vmem, ⟨40, _⟩ => ⟨S1x256, .f32⟩
  | .local _ .vmem, ⟨41, _⟩ => ⟨S1x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c : Ref sig .tc := ⟨.hbm, 52, rfl⟩
abbrev main_call0_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_call1_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_call2_v0 : Ref sig .tc := ⟨.hbm, 68, rfl⟩
abbrev main_v40 : Ref sig .tc := ⟨.hbm, 69, rfl⟩
abbrev main_c_9 : Ref sig .tc := ⟨.hbm, 70, rfl⟩
abbrev main_call3_v0 : Ref sig .tc := ⟨.hbm, 71, rfl⟩
abbrev main_v41 : Ref sig .tc := ⟨.hbm, 72, rfl⟩
abbrev main_v42_0 : Ref sig .tc := ⟨.hbm, 73, rfl⟩
abbrev main_v42_1 : Ref sig .tc := ⟨.hbm, 74, rfl⟩
abbrev main_v42_2 : Ref sig .tc := ⟨.hbm, 75, rfl⟩
abbrev main_v42_3 : Ref sig .tc := ⟨.hbm, 76, rfl⟩
abbrev main_v42_4 : Ref sig .tc := ⟨.hbm, 77, rfl⟩
abbrev main_v42_5 : Ref sig .tc := ⟨.hbm, 78, rfl⟩
abbrev main_v42_6 : Ref sig .tc := ⟨.hbm, 79, rfl⟩
abbrev main_v42_7 : Ref sig .tc := ⟨.hbm, 80, rfl⟩
abbrev main_v42_8 : Ref sig .tc := ⟨.hbm, 81, rfl⟩
abbrev main_v42_9 : Ref sig .tc := ⟨.hbm, 82, rfl⟩
abbrev main_v42_10 : Ref sig .tc := ⟨.hbm, 83, rfl⟩
abbrev main_v42_11 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg24_0 : Ref sig .tc := ⟨.vmem, 34, rfl⟩
abbrev cc0_stg25_0 : Ref sig .tc := ⟨.vmem, 35, rfl⟩
abbrev cc0_stg26_0 : Ref sig .tc := ⟨.vmem, 36, rfl⟩
abbrev cc0_stg27_0 : Ref sig .tc := ⟨.vmem, 37, rfl⟩
abbrev cc0_stg28_0 : Ref sig .tc := ⟨.vmem, 38, rfl⟩
abbrev cc0_stg29_0 : Ref sig .tc := ⟨.vmem, 39, rfl⟩
abbrev cc0_stg30_0 : Ref sig .tc := ⟨.vmem, 40, rfl⟩
abbrev cc0_stg31_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem22_0 : DmaSem sig := 32
abbrev cc0_sem23_0 : DmaSem sig := 33
abbrev cc0_sem24_0 : DmaSem sig := 34
abbrev cc0_sem25_0 : DmaSem sig := 35
abbrev cc0_sem26_0 : DmaSem sig := 36
abbrev cc0_sem27_0 : DmaSem sig := 37
abbrev cc0_sem28_0 : DmaSem sig := 38
abbrev cc0_sem29_0 : DmaSem sig := 39
abbrev cc0_sem30_0 : DmaSem sig := 40
abbrev cc0_sem31_0 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x384x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x384 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1024x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1024x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S4x384x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S4x256x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]
-- ==== ReferencePreIdeal.lean ====
abbrev S4096x1024 : Shape := ⟨2, ![4096, 1024]⟩
abbrev S4096 : Shape := ⟨1, ![4096]⟩
abbrev S1x1024 : Shape := ⟨2, ![1, 1024]⟩
abbrev S1024x1216 : Shape := ⟨2, ![1024, 1216]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S1x192 : Shape := ⟨2, ![1, 192]⟩
abbrev S4096x512 : Shape := ⟨2, ![4096, 512]⟩
abbrev S_ : Shape := ⟨0, ![]⟩
abbrev S4096x1 : Shape := ⟨2, ![4096, 1]⟩
abbrev S4096x1216 : Shape := ⟨2, ![4096, 1216]⟩
abbrev S4096x384 : Shape := ⟨2, ![4096, 384]⟩
abbrev S4096x256 : Shape := ⟨2, ![4096, 256]⟩
abbrev S4096x64 : Shape := ⟨2, ![4096, 64]⟩
abbrev S4096x768 : Shape := ⟨2, ![4096, 768]⟩
abbrev S4096x4x192 : Shape := ⟨3, ![4096, 4, 192]⟩
abbrev S4096x4x256 : Shape := ⟨3, ![4096, 4, 256]⟩
abbrev S4096x4x128 : Shape := ⟨3, ![4096, 4, 128]⟩
abbrev S4096x1x64 : Shape := ⟨3, ![4096, 1, 64]⟩
abbrev S4096x4x64 : Shape := ⟨3, ![4096, 4, 64]⟩
abbrev S192 : Shape := ⟨1, ![192]⟩
abbrev S4096x4 : Shape := ⟨2, ![4096, 4]⟩
abbrev S4096x4x1 : Shape := ⟨3, ![4096, 4, 1]⟩
abbrev S1x1x192 : Shape := ⟨3, ![1, 1, 192]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4096x4x32 : Shape := ⟨3, ![4096, 4, 32]⟩
abbrev S1024x256 : Shape := ⟨2, ![1024, 256]⟩
abbrev S256 : Shape := ⟨1, ![256]⟩
abbrev S768x384 : Shape := ⟨2, ![768, 384]⟩
abbrev S384 : Shape := ⟨1, ![384]⟩
abbrev S1216x1024 : Shape := ⟨2, ![1216, 1024]⟩
abbrev S1024 : Shape := ⟨1, ![1024]⟩
abbrev S1024x384 : Shape := ⟨2, ![1024, 384]⟩
abbrev S1024x64 : Shape := ⟨2, ![1024, 64]⟩
abbrev S1024x128 : Shape := ⟨2, ![1024, 128]⟩
abbrev S1024x512 : Shape := ⟨2, ![1024, 512]⟩
abbrev S384x4x192 : Shape := ⟨3, ![384, 4, 192]⟩
abbrev S4x384x192 : Shape := ⟨3, ![4, 384, 192]⟩
abbrev S4x384x256 : Shape := ⟨3, ![4, 384, 256]⟩
abbrev S256x4x256 : Shape := ⟨3, ![256, 4, 256]⟩
abbrev S4x256x256 : Shape := ⟨3, ![4, 256, 256]⟩

abbrev nBuf : Space → Nat
  | .hbm => 436
  | .vmem => 0
  | .smem => 0
  | _ => 0

abbrev hbmTy0_0 (i : Nat) : BufTy := match i % 128 with
  | 0 => ⟨S4096x1024, .f32⟩
  | 1 => ⟨S4096, .i32⟩
  | 2 => ⟨S1x1024, .f32⟩
  | 3 => ⟨S1024x1216, .f32⟩
  | 4 => ⟨S1x384, .f32⟩
  | 5 => ⟨S384x768, .f32⟩
  | 6 => ⟨S1x256, .f32⟩
  | 7 => ⟨S256x1024, .f32⟩
  | 8 => ⟨S1x192, .f32⟩
  | 9 => ⟨S1x192, .f32⟩
  | 10 => ⟨S4096x1024, .f32⟩
  | 11 => ⟨S4096x1024, .f32⟩
  | 12 => ⟨S4096x512, .f32⟩
  | 13 => ⟨S4096x512, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S4096x1024, .f32⟩
  | 33 => ⟨S4096x1024, .f32⟩
  | 34 => ⟨S4096x1216, .f32⟩
  | 35 => ⟨S4096x384, .f32⟩
  | 36 => ⟨S4096x256, .f32⟩
  | 37 => ⟨S4096x64, .f32⟩
  | 38 => ⟨S4096x512, .f32⟩
  | 39 => ⟨S4096x384, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x384, .f32⟩
  | 55 => ⟨S4096x384, .f32⟩
  | 56 => ⟨S4096x384, .f32⟩
  | 57 => ⟨S4096x384, .f32⟩
  | 58 => ⟨S4096x768, .f32⟩
  | 59 => ⟨S4096x4x192, .f32⟩
  | 60 => ⟨S4096x256, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x256, .f32⟩
  | 76 => ⟨S4096x256, .f32⟩
  | 77 => ⟨S4096x256, .f32⟩
  | 78 => ⟨S4096x256, .f32⟩
  | 79 => ⟨S4096x1024, .f32⟩
  | 80 => ⟨S4096x4x256, .f32⟩
  | 81 => ⟨S4096x4x128, .f32⟩
  | 82 => ⟨S4096x1x64, .f32⟩
  | 83 => ⟨S4096x4x64, .f32⟩
  | 84 => ⟨S4096x4x192, .f32⟩
  | 85 => ⟨S192, .f32⟩
  | 86 => ⟨S4096x4x192, .f32⟩
  | 87 => ⟨S_, .f32⟩
  | 88 => ⟨S4096x4, .f32⟩
  | 89 => ⟨S4096x4x1, .f32⟩
  | 90 => ⟨S_, .f32⟩
  | 91 => ⟨S4096x4x1, .f32⟩
  | 92 => ⟨S4096x4x1, .f32⟩
  | 93 => ⟨S_, .f32⟩
  | 94 => ⟨S4096x4x1, .f32⟩
  | 95 => ⟨S4096x4x1, .f32⟩
  | 96 => ⟨S4096x4x1, .f32⟩
  | 97 => ⟨S4096x4x1, .f32⟩
  | 98 => ⟨S_, .f32⟩
  | 99 => ⟨S4096x4x1, .f32⟩
  | 100 => ⟨S4096x4x1, .f32⟩
  | 101 => ⟨S4096x4x192, .f32⟩
  | 102 => ⟨S4096x4x192, .f32⟩
  | 103 => ⟨S1x1x192, .f32⟩
  | 104 => ⟨S4096x4x192, .f32⟩
  | 105 => ⟨S4096x4x192, .f32⟩
  | 106 => ⟨S192, .f32⟩
  | 107 => ⟨S4096x4x192, .f32⟩
  | 108 => ⟨S_, .f32⟩
  | 109 => ⟨S4096x4, .f32⟩
  | 110 => ⟨S4096x4x1, .f32⟩
  | 111 => ⟨S_, .f32⟩
  | 112 => ⟨S4096x4x1, .f32⟩
  | 113 => ⟨S4096x4x1, .f32⟩
  | 114 => ⟨S_, .f32⟩
  | 115 => ⟨S4096x4x1, .f32⟩
  | 116 => ⟨S4096x4x1, .f32⟩
  | 117 => ⟨S4096x4x1, .f32⟩
  | 118 => ⟨S4096x4x1, .f32⟩
  | 119 => ⟨S_, .f32⟩
  | 120 => ⟨S4096x4x1, .f32⟩
  | 121 => ⟨S4096x4x1, .f32⟩
  | 122 => ⟨S4096x4x192, .f32⟩
  | 123 => ⟨S4096x4x192, .f32⟩
  | 124 => ⟨S1x1x192, .f32⟩
  | 125 => ⟨S4096x4x192, .f32⟩
  | 126 => ⟨S4096x4x192, .f32⟩
  | 127 => ⟨S4096x4x128, .f32⟩
  | _ => ⟨S4096x1024, .f32⟩

abbrev hbmTy0_1 (i : Nat) : BufTy := match i % 128 with
  | 0 => ⟨S4096x4x64, .f32⟩
  | 1 => ⟨S32, .f32⟩
  | 2 => ⟨S32, .f32⟩
  | 3 => ⟨S_, .f32⟩
  | 4 => ⟨S32, .f32⟩
  | 5 => ⟨S32, .f32⟩
  | 6 => ⟨S_, .f32⟩
  | 7 => ⟨S32, .f32⟩
  | 8 => ⟨S32, .f32⟩
  | 9 => ⟨S4096, .f32⟩
  | 10 => ⟨S4096x1, .f32⟩
  | 11 => ⟨S1x32, .f32⟩
  | 12 => ⟨S4096x32, .f32⟩
  | 13 => ⟨S4096x32, .f32⟩
  | 14 => ⟨S4096x32, .f32⟩
  | 15 => ⟨S4096x1x32, .f32⟩
  | 16 => ⟨S4096x1x32, .f32⟩
  | 17 => ⟨S4096x1x32, .f32⟩
  | 18 => ⟨S4096x4x32, .f32⟩
  | 19 => ⟨S4096x4x32, .f32⟩
  | 20 => ⟨S4096x4x32, .f32⟩
  | 21 => ⟨S4096x4x32, .f32⟩
  | 22 => ⟨S4096x4x32, .f32⟩
  | 23 => ⟨S4096x4x32, .f32⟩
  | 24 => ⟨S4096x4x32, .f32⟩
  | 25 => ⟨S4096x4x32, .f32⟩
  | 26 => ⟨S4096x4x32, .f32⟩
  | 27 => ⟨S4096x4x32, .f32⟩
  | 28 => ⟨S4096x4x32, .f32⟩
  | 29 => ⟨S4096x4x32, .f32⟩
  | 30 => ⟨S4096x4x64, .f32⟩
  | 31 => ⟨S4096x4x192, .f32⟩
  | 32 => ⟨S_, .f32⟩
  | 33 => ⟨S4096x4x192, .f32⟩
  | 34 => ⟨S4096x4x192, .f32⟩
  | 35 => ⟨S_, .f32⟩
  | 36 => ⟨S4096x4x64, .f32⟩
  | 37 => ⟨S4096x4x256, .f32⟩
  | 38 => ⟨S_, .f32⟩
  | 39 => ⟨S4096x4x64, .f32⟩
  | 40 => ⟨S4096x1024, .f32⟩
  | 41 => ⟨S4096x4x128, .f32⟩
  | 42 => ⟨S4096x4x64, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S4096, .f32⟩
  | 52 => ⟨S4096x1, .f32⟩
  | 53 => ⟨S1x32, .f32⟩
  | 54 => ⟨S4096x32, .f32⟩
  | 55 => ⟨S4096x32, .f32⟩
  | 56 => ⟨S4096x32, .f32⟩
  | 57 => ⟨S4096x1x32, .f32⟩
  | 58 => ⟨S4096x1x32, .f32⟩
  | 59 => ⟨S4096x1x32, .f32⟩
  | 60 => ⟨S4096x4x32, .f32⟩
  | 61 => ⟨S4096x4x32, .f32⟩
  | 62 => ⟨S4096x4x32, .f32⟩
  | 63 => ⟨S4096x4x32, .f32⟩
  | 64 => ⟨S4096x4x32, .f32⟩
  | 65 => ⟨S4096x4x32, .f32⟩
  | 66 => ⟨S4096x4x32, .f32⟩
  | 67 => ⟨S4096x4x32, .f32⟩
  | 68 => ⟨S4096x4x32, .f32⟩
  | 69 => ⟨S4096x4x32, .f32⟩
  | 70 => ⟨S4096x4x32, .f32⟩
  | 71 => ⟨S4096x4x32, .f32⟩
  | 72 => ⟨S4096x4x64, .f32⟩
  | 73 => ⟨S4096x4x192, .f32⟩
  | 74 => ⟨S_, .f32⟩
  | 75 => ⟨S4096x4x64, .f32⟩
  | 76 => ⟨S4096x4x256, .f32⟩
  | 77 => ⟨S_, .f32⟩
  | 78 => ⟨S4096x4x64, .f32⟩
  | 79 => ⟨S4096x1024, .f32⟩
  | 80 => ⟨S4096x4x128, .f32⟩
  | 81 => ⟨S4096x512, .f32⟩
  | 82 => ⟨S4096x4x128, .f32⟩
  | 83 => ⟨S_, .f32⟩
  | 84 => ⟨S4096x4x256, .f32⟩
  | 85 => ⟨S4096x4x256, .f32⟩
  | 86 => ⟨S4096x4x192, .f32⟩
  | 87 => ⟨S4096x4x64, .f32⟩
  | 88 => ⟨S4096x4x128, .f32⟩
  | 89 => ⟨S4096x4x64, .f32⟩
  | 90 => ⟨S4096x4x32, .f32⟩
  | 91 => ⟨S4096x4x32, .f32⟩
  | 92 => ⟨S4096x4x32, .f32⟩
  | 93 => ⟨S4096x4x32, .f32⟩
  | 94 => ⟨S4096x4x32, .f32⟩
  | 95 => ⟨S4096x4x32, .f32⟩
  | 96 => ⟨S4096x4x32, .f32⟩
  | 97 => ⟨S4096x4x32, .f32⟩
  | 98 => ⟨S4096x4x32, .f32⟩
  | 99 => ⟨S4096x4x32, .f32⟩
  | 100 => ⟨S4096x4x32, .f32⟩
  | 101 => ⟨S4096x4x32, .f32⟩
  | 102 => ⟨S4096x4x32, .f32⟩
  | 103 => ⟨S_, .f32⟩
  | 104 => ⟨S4096x4x64, .f32⟩
  | 105 => ⟨S_, .f32⟩
  | 106 => ⟨S4096x4x64, .f32⟩
  | 107 => ⟨S4096x4x64, .f32⟩
  | 108 => ⟨S_, .f32⟩
  | 109 => ⟨S4096x4x192, .f32⟩
  | 110 => ⟨S_, .f32⟩
  | 111 => ⟨S4096x4x192, .f32⟩
  | 112 => ⟨S4096x4x192, .f32⟩
  | 113 => ⟨S4096x4x256, .f32⟩
  | 114 => ⟨S4096x4x192, .f32⟩
  | 115 => ⟨S4096x4x64, .f32⟩
  | 116 => ⟨S_, .f32⟩
  | 117 => ⟨S4096x4x192, .f32⟩
  | 118 => ⟨S4096x4x192, .f32⟩
  | 119 => ⟨S4096x4x128, .f32⟩
  | 120 => ⟨S4096x4x64, .f32⟩
  | 121 => ⟨S4096x4x32, .f32⟩
  | 122 => ⟨S4096x4x32, .f32⟩
  | 123 => ⟨S4096x4x32, .f32⟩
  | 124 => ⟨S4096x4x32, .f32⟩
  | 125 => ⟨S4096x4x32, .f32⟩
  | 126 => ⟨S4096x4x32, .f32⟩
  | 127 => ⟨S4096x4x32, .f32⟩
  | _ => ⟨S4096x1024, .f32⟩

abbrev hbmTy0_2 (i : Nat) : BufTy := match i % 128 with
  | 0 => ⟨S4096x4x32, .f32⟩
  | 1 => ⟨S4096x4x32, .f32⟩
  | 2 => ⟨S4096x4x32, .f32⟩
  | 3 => ⟨S4096x4x32, .f32⟩
  | 4 => ⟨S4096x4x32, .f32⟩
  | 5 => ⟨S4096x4x32, .f32⟩
  | 6 => ⟨S_, .f32⟩
  | 7 => ⟨S4096x4x64, .f32⟩
  | 8 => ⟨S_, .f32⟩
  | 9 => ⟨S4096x4x64, .f32⟩
  | 10 => ⟨S4096x4x64, .f32⟩
  | 11 => ⟨S_, .f32⟩
  | 12 => ⟨S4096x4x192, .f32⟩
  | 13 => ⟨S_, .f32⟩
  | 14 => ⟨S4096x4x192, .f32⟩
  | 15 => ⟨S4096x4x192, .f32⟩
  | 16 => ⟨S4096x4x192, .f32⟩
  | 17 => ⟨S_, .f32⟩
  | 18 => ⟨S192, .f32⟩
  | 19 => ⟨S1x1x192, .f32⟩
  | 20 => ⟨S4096x4x192, .f32⟩
  | 21 => ⟨S4096x4x192, .f32⟩
  | 22 => ⟨S_, .f32⟩
  | 23 => ⟨S192, .f32⟩
  | 24 => ⟨S4096x4x192, .f32⟩
  | 25 => ⟨S_, .f32⟩
  | 26 => ⟨S4096x4, .f32⟩
  | 27 => ⟨S4096x4x1, .f32⟩
  | 28 => ⟨S4096x4x192, .f32⟩
  | 29 => ⟨S4096x4x192, .f32⟩
  | 30 => ⟨S4096x4x1, .f32⟩
  | 31 => ⟨S_, .f32⟩
  | 32 => ⟨S4096x4x1, .f32⟩
  | 33 => ⟨S4096x4x1, .f32⟩
  | 34 => ⟨S_, .f32⟩
  | 35 => ⟨S4096x4, .f32⟩
  | 36 => ⟨S4096x4x192, .f32⟩
  | 37 => ⟨S4096x4x192, .f32⟩
  | 38 => ⟨S4096x4x192, .f32⟩
  | 39 => ⟨S4096x4x192, .f32⟩
  | 40 => ⟨S4096x4x192, .f32⟩
  | 41 => ⟨S1x192, .f32⟩
  | 42 => ⟨S4096x4x192, .f32⟩
  | 43 => ⟨S_, .f32⟩
  | 44 => ⟨S192, .f32⟩
  | 45 => ⟨S1x1x192, .f32⟩
  | 46 => ⟨S4096x4x192, .f32⟩
  | 47 => ⟨S4096x4x192, .f32⟩
  | 48 => ⟨S_, .f32⟩
  | 49 => ⟨S192, .f32⟩
  | 50 => ⟨S4096x4x192, .f32⟩
  | 51 => ⟨S_, .f32⟩
  | 52 => ⟨S4096x4, .f32⟩
  | 53 => ⟨S4096x4x1, .f32⟩
  | 54 => ⟨S4096x4x192, .f32⟩
  | 55 => ⟨S4096x4x192, .f32⟩
  | 56 => ⟨S4096x4x1, .f32⟩
  | 57 => ⟨S_, .f32⟩
  | 58 => ⟨S4096x4x1, .f32⟩
  | 59 => ⟨S4096x4x1, .f32⟩
  | 60 => ⟨S_, .f32⟩
  | 61 => ⟨S4096x4, .f32⟩
  | 62 => ⟨S4096x4x192, .f32⟩
  | 63 => ⟨S4096x4x192, .f32⟩
  | 64 => ⟨S4096x4x192, .f32⟩
  | 65 => ⟨S4096x4x192, .f32⟩
  | 66 => ⟨S4096x4x192, .f32⟩
  | 67 => ⟨S1x192, .f32⟩
  | 68 => ⟨S4096x4x128, .f32⟩
  | 69 => ⟨S4096x4x64, .f32⟩
  | 70 => ⟨S_, .f32⟩
  | 71 => ⟨S4096x64, .f32⟩
  | 72 => ⟨S4096x1x64, .f32⟩
  | 73 => ⟨S_, .f32⟩
  | 74 => ⟨S4096x64, .f32⟩
  | 75 => ⟨S_, .f32⟩
  | 76 => ⟨S4096x4x256, .f32⟩
  | 77 => ⟨S4096x4x256, .f32⟩
  | 78 => ⟨S4096x1024, .f32⟩
  | 79 => ⟨S1024x256, .f32⟩
  | 80 => ⟨S256x1024, .f32⟩
  | 81 => ⟨S4096x256, .f32⟩
  | 82 => ⟨S4096x256, .f32⟩
  | 83 => ⟨S_, .f32⟩
  | 84 => ⟨S256, .f32⟩
  | 85 => ⟨S1x256, .f32⟩
  | 86 => ⟨S4096x256, .f32⟩
  | 87 => ⟨S4096x256, .f32⟩
  | 88 => ⟨S4096x256, .f32⟩
  | 89 => ⟨S_, .f32⟩
  | 90 => ⟨S4096, .f32⟩
  | 91 => ⟨S4096x1, .f32⟩
  | 92 => ⟨S4096x256, .f32⟩
  | 93 => ⟨S4096x256, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x256, .f32⟩
  | 101 => ⟨S4096x256, .f32⟩
  | 102 => ⟨S4096x256, .f32⟩
  | 103 => ⟨S4096x256, .f32⟩
  | 104 => ⟨S4096x256, .f32⟩
  | 105 => ⟨S4096x768, .f32⟩
  | 106 => ⟨S768x384, .f32⟩
  | 107 => ⟨S384x768, .f32⟩
  | 108 => ⟨S4096x384, .f32⟩
  | 109 => ⟨S4096x384, .f32⟩
  | 110 => ⟨S_, .f32⟩
  | 111 => ⟨S384, .f32⟩
  | 112 => ⟨S1x384, .f32⟩
  | 113 => ⟨S4096x384, .f32⟩
  | 114 => ⟨S4096x384, .f32⟩
  | 115 => ⟨S4096x384, .f32⟩
  | 116 => ⟨S_, .f32⟩
  | 117 => ⟨S4096, .f32⟩
  | 118 => ⟨S4096x1, .f32⟩
  | 119 => ⟨S4096x384, .f32⟩
  | 120 => ⟨S4096x384, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x384, .f32⟩
  | _ => ⟨S4096x1024, .f32⟩

abbrev hbmTy0_3 (i : Nat) : BufTy := match i % 128 with
  | 0 => ⟨S4096x384, .f32⟩
  | 1 => ⟨S4096x384, .f32⟩
  | 2 => ⟨S4096x384, .f32⟩
  | 3 => ⟨S4096x384, .f32⟩
  | 4 => ⟨S4096x1216, .f32⟩
  | 5 => ⟨S1216x1024, .f32⟩
  | 6 => ⟨S1024x1216, .f32⟩
  | 7 => ⟨S4096x1024, .f32⟩
  | 8 => ⟨S4096x1024, .f32⟩
  | 9 => ⟨S_, .f32⟩
  | 10 => ⟨S1024, .f32⟩
  | 11 => ⟨S1x1024, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S4096x1024, .f32⟩
  | 19 => ⟨S4096x1024, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S1024x384, .f32⟩
  | 33 => ⟨S1024x256, .f32⟩
  | 34 => ⟨S1024x64, .f32⟩
  | 35 => ⟨S_, .i32⟩
  | 36 => ⟨S_, .f32⟩
  | 37 => ⟨S1024x128, .f32⟩
  | 38 => ⟨S1024x512, .f32⟩
  | 39 => ⟨S384x4x192, .f32⟩
  | 40 => ⟨S4x384x192, .f32⟩
  | 41 => ⟨S_, .i32⟩
  | 42 => ⟨S_, .f32⟩
  | 43 => ⟨S4x384x256, .f32⟩
  | 44 => ⟨S256x4x256, .f32⟩
  | 45 => ⟨S4x256x256, .f32⟩
  | 46 => ⟨S_, .i32⟩
  | 47 => ⟨S_, .f32⟩
  | 48 => ⟨S1x256, .f32⟩
  | 49 => ⟨S_, .i32⟩
  | 50 => ⟨S_, .f32⟩
  | 51 => ⟨S1x256, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_15 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_cst_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_v97 : Ref sig .tc := ⟨.hbm, 133, rfl⟩
abbrev main_cst_20 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_21 : Ref sig .tc := ⟨.hbm, 160, rfl⟩
abbrev main_v123 : Ref sig .tc := ⟨.hbm, 161, rfl⟩
abbrev main_v124 : Ref sig .tc := ⟨.hbm, 162, rfl⟩
abbrev main_cst_22 : Ref sig .tc := ⟨.hbm, 163, rfl⟩
abbrev main_v125 : Ref sig .tc := ⟨.hbm, 164, rfl⟩
abbrev main_v126 : Ref sig .tc := ⟨.hbm, 165, rfl⟩
abbrev main_cst_23 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_24 : Ref sig .tc := ⟨.hbm, 173, rfl⟩
abbrev main_v133 : Ref sig .tc := ⟨.hbm, 174, rfl⟩
abbrev main_v134 : Ref sig .tc := ⟨.hbm, 175, rfl⟩
abbrev main_cst_25 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_26 : Ref sig .tc := ⟨.hbm, 202, rfl⟩
abbrev main_v160 : Ref sig .tc := ⟨.hbm, 203, rfl⟩
abbrev main_v161 : Ref sig .tc := ⟨.hbm, 204, rfl⟩
abbrev main_cst_27 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_cst_28 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_cst_29 : Ref sig .tc := ⟨.hbm, 231, rfl⟩
abbrev main_v186 : Ref sig .tc := ⟨.hbm, 232, rfl⟩
abbrev main_cst_30 : Ref sig .tc := ⟨.hbm, 233, rfl⟩
abbrev main_v187 : Ref sig .tc := ⟨.hbm, 234, rfl⟩
abbrev main_v188 : Ref sig .tc := ⟨.hbm, 235, rfl⟩
abbrev main_cst_31 : Ref sig .tc := ⟨.hbm, 236, rfl⟩
abbrev main_v189 : Ref sig .tc := ⟨.hbm, 237, rfl⟩
abbrev main_cst_32 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_cst_33 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_cst_34 : Ref sig .tc := ⟨.hbm, 262, rfl⟩
abbrev main_v212 : Ref sig .tc := ⟨.hbm, 263, rfl⟩
abbrev main_cst_35 : Ref sig .tc := ⟨.hbm, 264, rfl⟩
abbrev main_v213 : Ref sig .tc := ⟨.hbm, 265, rfl⟩
abbrev main_v214 : Ref sig .tc := ⟨.hbm, 266, rfl⟩
abbrev main_cst_36 : Ref sig .tc := ⟨.hbm, 267, rfl⟩
abbrev main_v215 : Ref sig .tc := ⟨.hbm, 268, rfl⟩
abbrev main_cst_37 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_cst_38 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_cst_39 : Ref sig .tc := ⟨.hbm, 278, rfl⟩
abbrev main_v223 : Ref sig .tc := ⟨.hbm, 279, rfl⟩
abbrev main_v224 : Ref sig .tc := ⟨.hbm, 280, rfl⟩
abbrev main_cst_40 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_cst_41 : Ref sig .tc := ⟨.hbm, 287, rfl⟩
abbrev main_v230 : Ref sig .tc := ⟨.hbm, 288, rfl⟩
abbrev main_v231 : Ref sig .tc := ⟨.hbm, 289, rfl⟩
abbrev main_cst_42 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_cst_43 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_cst_44 : Ref sig .tc := ⟨.hbm, 304, rfl⟩
abbrev main_v244 : Ref sig .tc := ⟨.hbm, 305, rfl⟩
abbrev main_v245 : Ref sig .tc := ⟨.hbm, 306, rfl⟩
abbrev main_cst_45 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_cst_46 : Ref sig .tc := ⟨.hbm, 313, rfl⟩
abbrev main_v251 : Ref sig .tc := ⟨.hbm, 314, rfl⟩
abbrev main_v252 : Ref sig .tc := ⟨.hbm, 315, rfl⟩
abbrev main_cst_47 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_cst_48 : Ref sig .tc := ⟨.hbm, 326, rfl⟩
abbrev main_v262 : Ref sig .tc := ⟨.hbm, 327, rfl⟩
abbrev main_v263 : Ref sig .tc := ⟨.hbm, 328, rfl⟩
abbrev main_cst_49 : Ref sig .tc := ⟨.hbm, 329, rfl⟩
abbrev main_v264 : Ref sig .tc := ⟨.hbm, 330, rfl⟩
abbrev main_cst_50 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_cst_51 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_cst_52 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_cst_53 : Ref sig .tc := ⟨.hbm, 351, rfl⟩
abbrev main_v282 : Ref sig .tc := ⟨.hbm, 352, rfl⟩
abbrev main_v283 : Ref sig .tc := ⟨.hbm, 353, rfl⟩
abbrev main_cst_54 : Ref sig .tc := ⟨.hbm, 354, rfl⟩
abbrev main_v284 : Ref sig .tc := ⟨.hbm, 355, rfl⟩
abbrev main_v285 : Ref sig .tc := ⟨.hbm, 356, rfl⟩
abbrev main_v286 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_cst_55 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_cst_56 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_v304 : Ref sig .tc := ⟨.hbm, 377, rfl⟩
abbrev main_cst_57 : Ref sig .tc := ⟨.hbm, 378, rfl⟩
abbrev main_v305 : Ref sig .tc := ⟨.hbm, 379, rfl⟩
abbrev main_v306 : Ref sig .tc := ⟨.hbm, 380, rfl⟩
abbrev main_cst_58 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_v316 : Ref sig .tc := ⟨.hbm, 391, rfl⟩
abbrev main_v317 : Ref sig .tc := ⟨.hbm, 392, rfl⟩
abbrev main_cst_59 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_v322 : Ref sig .tc := ⟨.hbm, 398, rfl⟩
abbrev main_cst_60 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_v327 : Ref sig .tc := ⟨.hbm, 404, rfl⟩
abbrev main_cst_61 : Ref sig .tc := ⟨.hbm, 405, rfl⟩
abbrev main_v328 : Ref sig .tc := ⟨.hbm, 406, rfl⟩
abbrev main_v329 : Ref sig .tc := ⟨.hbm, 407, rfl⟩
abbrev main_cst_62 : Ref sig .tc := ⟨.hbm, 408, rfl⟩
abbrev main_v330 : Ref sig .tc := ⟨.hbm, 409, rfl⟩
abbrev main_v331 : Ref sig .tc := ⟨.hbm, 410, rfl⟩
abbrev main_v332 : Ref sig .tc := ⟨.hbm, 411, rfl⟩
abbrev main_v333 : Ref sig .tc := ⟨.hbm, 412, rfl⟩
abbrev main_v334 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev main_v339 : Ref sig .tc := ⟨.hbm, 418, rfl⟩
abbrev main_c : Ref sig .tc := ⟨.hbm, 419, rfl⟩
abbrev main_call0_v0 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩
abbrev main_v343 : Ref sig .tc := ⟨.hbm, 424, rfl⟩
abbrev main_c_63 : Ref sig .tc := ⟨.hbm, 425, rfl⟩
abbrev main_call1_v0 : Ref sig .tc := ⟨.hbm, 426, rfl⟩
abbrev main_v344 : Ref sig .tc := ⟨.hbm, 427, rfl⟩
abbrev main_v345 : Ref sig .tc := ⟨.hbm, 428, rfl⟩
abbrev main_v346 : Ref sig .tc := ⟨.hbm, 429, rfl⟩
abbrev main_c_64 : Ref sig .tc := ⟨.hbm, 430, rfl⟩
abbrev main_call2_v0 : Ref sig .tc := ⟨.hbm, 431, rfl⟩
abbrev main_v347 : Ref sig .tc := ⟨.hbm, 432, rfl⟩
abbrev main_c_65 : Ref sig .tc := ⟨.hbm, 433, rfl⟩
abbrev main_call3_v0 : Ref sig .tc := ⟨.hbm, 434, rfl⟩
abbrev main_v348 : Ref sig .tc := ⟨.hbm, 435, rfl⟩

abbrev nD : Nat := 1
abbrev τ : Topo := Topo.v7x

variable {F : FTy → Type} [FloatOps F]
-- ==== ReferenceSsmIdeal.lean ====
abbrev S4096x512 : Shape := ⟨2, ![4096, 512]⟩
abbrev S4x128x512 : Shape := ⟨3, ![4, 128, 512]⟩
abbrev S1x2048 : Shape := ⟨2, ![1, 2048]⟩
abbrev S4096x2048 : Shape := ⟨2, ![4096, 2048]⟩
abbrev S4096x4x128 : Shape := ⟨3, ![4096, 4, 128]⟩
abbrev S4x512x4096 : Shape := ⟨3, ![4, 512, 4096]⟩
abbrev S4096x4x512 : Shape := ⟨3, ![4096, 4, 512]⟩
abbrev S2048x2048 : Shape := ⟨2, ![2048, 2048]⟩
abbrev S1024x2048 : Shape := ⟨2, ![1024, 2048]⟩
abbrev S512x2048 : Shape := ⟨2, ![512, 2048]⟩
abbrev S256x2048 : Shape := ⟨2, ![256, 2048]⟩
abbrev S128x2048 : Shape := ⟨2, ![128, 2048]⟩
abbrev S64x2048 : Shape := ⟨2, ![64, 2048]⟩
abbrev S32x2048 : Shape := ⟨2, ![32, 2048]⟩
abbrev S16x2048 : Shape := ⟨2, ![16, 2048]⟩
abbrev S8x2048 : Shape := ⟨2, ![8, 2048]⟩
abbrev S4x2048 : Shape := ⟨2, ![4, 2048]⟩
abbrev S2x2048 : Shape := ⟨2, ![2, 2048]⟩
abbrev S1x1x2048 : Shape := ⟨3, ![1, 1, 2048]⟩
abbrev S1x2x2048 : Shape := ⟨3, ![1, 2, 2048]⟩
abbrev S2x1x2048 : Shape := ⟨3, ![2, 1, 2048]⟩
abbrev S2x2x2048 : Shape := ⟨3, ![2, 2, 2048]⟩
abbrev S3x2048 : Shape := ⟨2, ![3, 2048]⟩
abbrev S4x1x2048 : Shape := ⟨3, ![4, 1, 2048]⟩
abbrev S4x2x2048 : Shape := ⟨3, ![4, 2, 2048]⟩
abbrev S7x2048 : Shape := ⟨2, ![7, 2048]⟩
abbrev S8x1x2048 : Shape := ⟨3, ![8, 1, 2048]⟩
abbrev S8x2x2048 : Shape := ⟨3, ![8, 2, 2048]⟩
abbrev S15x2048 : Shape := ⟨2, ![15, 2048]⟩
abbrev S16x1x2048 : Shape := ⟨3, ![16, 1, 2048]⟩
abbrev S16x2x2048 : Shape := ⟨3, ![16, 2, 2048]⟩
abbrev S31x2048 : Shape := ⟨2, ![31, 2048]⟩
abbrev S32x1x2048 : Shape := ⟨3, ![32, 1, 2048]⟩
abbrev S32x2x2048 : Shape := ⟨3, ![32, 2, 2048]⟩
abbrev S63x2048 : Shape := ⟨2, ![63, 2048]⟩
abbrev S64x1x2048 : Shape := ⟨3, ![64, 1, 2048]⟩
abbrev S64x2x2048 : Shape := ⟨3, ![64, 2, 2048]⟩
abbrev S127x2048 : Shape := ⟨2, ![127, 2048]⟩
abbrev S128x1x2048 : Shape := ⟨3, ![128, 1, 2048]⟩
abbrev S128x2x2048 : Shape := ⟨3, ![128, 2, 2048]⟩
abbrev S255x2048 : Shape := ⟨2, ![255, 2048]⟩
abbrev S256x1x2048 : Shape := ⟨3, ![256, 1, 2048]⟩
abbrev S256x2x2048 : Shape := ⟨3, ![256, 2, 2048]⟩
abbrev S511x2048 : Shape := ⟨2, ![511, 2048]⟩
abbrev S512x1x2048 : Shape := ⟨3, ![512, 1, 2048]⟩
abbrev S512x2x2048 : Shape := ⟨3, ![512, 2, 2048]⟩
abbrev S1023x2048 : Shape := ⟨2, ![1023, 2048]⟩
abbrev S1024x1x2048 : Shape := ⟨3, ![1024, 1, 2048]⟩
abbrev S1024x2x2048 : Shape := ⟨3, ![1024, 2, 2048]⟩
abbrev S2047x2048 : Shape := ⟨2, ![2047, 2048]⟩
abbrev S2048x1x2048 : Shape := ⟨3, ![2048, 1, 2048]⟩
abbrev S2048x2x2048 : Shape := ⟨3, ![2048, 2, 2048]⟩
abbrev S4x128x4096 : Shape := ⟨3, ![4, 128, 4096]⟩
abbrev S4x4096x512 : Shape := ⟨3, ![4, 4096, 512]⟩
abbrev S_ : Shape := ⟨0, ![]⟩
abbrev S4x4096x128 : Shape := ⟨3, ![4, 4096, 128]⟩
abbrev S4x512x128 : Shape := ⟨3, ![4, 512, 128]⟩
abbrev S2048 : Shape := ⟨1, ![2048]⟩

abbrev nBuf : Space → Nat
  | .hbm => 1976
  | .vmem => 0
  | .smem => 0
  | _ => 0

abbrev hbmTy0_0 (i : Nat) : BufTy := match i % 128 with
  | 0 => ⟨S4096x512, .f32⟩
  | 1 => ⟨S4096x512, .f32⟩
  | 2 => ⟨S4x128x512, .f32⟩
  | 3 => ⟨S4x128x512, .f32⟩
  | 4 => ⟨S4x128x512, .f32⟩
  | 5 => ⟨S4x128x512, .f32⟩
  | 6 => ⟨S1x2048, .f32⟩
  | 7 => ⟨S1x2048, .f32⟩
  | 8 => ⟨S4096x2048, .f32⟩
  | 9 => ⟨S4096x2048, .f32⟩
  | 10 => ⟨S4096x4x128, .f32⟩
  | 11 => ⟨S4x512x4096, .f32⟩
  | 12 => ⟨S4096x4x512, .f32⟩
  | 13 => ⟨S4096x2048, .f32⟩
  | 14 => ⟨S4096x4x128, .f32⟩
  | 15 => ⟨S4x512x4096, .f32⟩
  | 16 => ⟨S4096x4x512, .f32⟩
  | 17 => ⟨S4096x2048, .f32⟩
  | 18 => ⟨S2048x2048, .f32⟩
  | 19 => ⟨S2048x2048, .f32⟩
  | 20 => ⟨S2048x2048, .f32⟩
  | 21 => ⟨S2048x2048, .f32⟩
  | 22 => ⟨S2048x2048, .f32⟩
  | 23 => ⟨S2048x2048, .f32⟩
  | 24 => ⟨S2048x2048, .f32⟩
  | 25 => ⟨S2048x2048, .f32⟩
  | 26 => ⟨S2048x2048, .f32⟩
  | 27 => ⟨S2048x2048, .f32⟩
  | 28 => ⟨S2048x2048, .f32⟩
  | 29 => ⟨S2048x2048, .f32⟩
  | 30 => ⟨S2048x2048, .f32⟩
  | 31 => ⟨S2048x2048, .f32⟩
  | 32 => ⟨S2048x2048, .f32⟩
  | 33 => ⟨S2048x2048, .f32⟩
  | 34 => ⟨S2048x2048, .f32⟩
  | 35 => ⟨S2048x2048, .f32⟩
  | 36 => ⟨S2048x2048, .f32⟩
  | 37 => ⟨S2048x2048, .f32⟩
  | 38 => ⟨S2048x2048, .f32⟩
  | 39 => ⟨S2048x2048, .f32⟩
  | 40 => ⟨S1024x2048, .f32⟩
  | 41 => ⟨S1024x2048, .f32⟩
  | 42 => ⟨S1024x2048, .f32⟩
  | 43 => ⟨S1024x2048, .f32⟩
  | 44 => ⟨S1024x2048, .f32⟩
  | 45 => ⟨S1024x2048, .f32⟩
  | 46 => ⟨S1024x2048, .f32⟩
  | 47 => ⟨S1024x2048, .f32⟩
  | 48 => ⟨S1024x2048, .f32⟩
  | 49 => ⟨S1024x2048, .f32⟩
  | 50 => ⟨S1024x2048, .f32⟩
  | 51 => ⟨S1024x2048, .f32⟩
  | 52 => ⟨S1024x2048, .f32⟩
  | 53 => ⟨S1024x2048, .f32⟩
  | 54 => ⟨S1024x2048, .f32⟩
  | 55 => ⟨S1024x2048, .f32⟩
  | 56 => ⟨S1024x2048, .f32⟩
  | 57 => ⟨S1024x2048, .f32⟩
  | 58 => ⟨S1024x2048, .f32⟩
  | 59 => ⟨S1024x2048, .f32⟩
  | 60 => ⟨S1024x2048, .f32⟩
  | 61 => ⟨S1024x2048, .f32⟩
  | 62 => ⟨S512x2048, .f32⟩
  | 63 => ⟨S512x2048, .f32⟩
  | 64 => ⟨S512x2048, .f32⟩
  | 65 => ⟨S512x2048, .f32⟩
  | 66 => ⟨S512x2048, .f32⟩
  | 67 => ⟨S512x2048, .f32⟩
  | 68 => ⟨S512x2048, .f32⟩
  | 69 => ⟨S512x2048, .f32⟩
  | 70 => ⟨S512x2048, .f32⟩
  | 71 => ⟨S512x2048, .f32⟩
  | 72 => ⟨S512x2048, .f32⟩
  | 73 => ⟨S512x2048, .f32⟩
  | 74 => ⟨S512x2048, .f32⟩
  | 75 => ⟨S512x2048, .f32⟩
  | 76 => ⟨S512x2048, .f32⟩
  | 77 => ⟨S512x2048, .f32⟩
  | 78 => ⟨S512x2048, .f32⟩
  | 79 => ⟨S512x2048, .f32⟩
  | 80 => ⟨S512x2048, .f32⟩
  | 81 => ⟨S512x2048, .f32⟩
  | 82 => ⟨S512x2048, .f32⟩
  | 83 => ⟨S512x2048, .f32⟩
  | 84 => ⟨S256x2048, .f32⟩
  | 85 => ⟨S256x2048, .f32⟩
  | 86 => ⟨S256x2048, .f32⟩
  | 87 => ⟨S256x2048, .f32⟩
  | 88 => ⟨S256x2048, .f32⟩
  | 89 => ⟨S256x2048, .f32⟩
  | 90 => ⟨S256x2048, .f32⟩
  | 91 => ⟨S256x2048, .f32⟩
  | 92 => ⟨S256x2048, .f32⟩
  | 93 => ⟨S256x2048, .f32⟩
  | 94 => ⟨S256x2048, .f32⟩
  | 95 => ⟨S256x2048, .f32⟩
  | 96 => ⟨S256x2048, .f32⟩
  | 97 => ⟨S256x2048, .f32⟩
  | 98 => ⟨S256x2048, .f32⟩
  | 99 => ⟨S256x2048, .f32⟩
  | 100 => ⟨S256x2048, .f32⟩
  | 101 => ⟨S256x2048, .f32⟩
  | 102 => ⟨S256x2048, .f32⟩
  | 103 => ⟨S256x2048, .f32⟩
  | 104 => ⟨S256x2048, .f32⟩
  | 105 => ⟨S256x2048, .f32⟩
  | 106 => ⟨S128x2048, .f32⟩
  | 107 => ⟨S128x2048, .f32⟩
  | 108 => ⟨S128x2048, .f32⟩
  | 109 => ⟨S128x2048, .f32⟩
  | 110 => ⟨S128x2048, .f32⟩
  | 111 => ⟨S128x2048, .f32⟩
  | 112 => ⟨S128x2048, .f32⟩
  | 113 => ⟨S128x2048, .f32⟩
  | 114 => ⟨S128x2048, .f32⟩
  | 115 => ⟨S128x2048, .f32⟩
  | 116 => ⟨S128x2048, .f32⟩
  | 117 => ⟨S128x2048, .f32⟩
  | 118 => ⟨S128x2048, .f32⟩
  | 119 => ⟨S128x2048, .f32⟩
  | 120 => ⟨S128x2048, .f32⟩
  | 121 => ⟨S128x2048, .f32⟩
  | 122 => ⟨S128x2048, .f32⟩
  | 123 => ⟨S128x2048, .f32⟩
  | 124 => ⟨S128x2048, .f32⟩
  | 125 => ⟨S128x2048, .f32⟩
  | 126 => ⟨S128x2048, .f32⟩
  | 127 => ⟨S128x2048, .f32⟩
  | _ => ⟨S4096x512, .f32⟩

abbrev hbmTy0_1 (i : Nat) : BufTy := match i % 128 with
  | 0 => ⟨S64x2048, .f32⟩
  | 1 => ⟨S64x2048, .f32⟩
  | 2 => ⟨S64x2048, .f32⟩
  | 3 => ⟨S64x2048, .f32⟩
  | 4 => ⟨S64x2048, .f32⟩
  | 5 => ⟨S64x2048, .f32⟩
  | 6 => ⟨S64x2048, .f32⟩
  | 7 => ⟨S64x2048, .f32⟩
  | 8 => ⟨S64x2048, .f32⟩
  | 9 => ⟨S64x2048, .f32⟩
  | 10 => ⟨S64x2048, .f32⟩
  | 11 => ⟨S64x2048, .f32⟩
  | 12 => ⟨S64x2048, .f32⟩
  | 13 => ⟨S64x2048, .f32⟩
  | 14 => ⟨S64x2048, .f32⟩
  | 15 => ⟨S64x2048, .f32⟩
  | 16 => ⟨S64x2048, .f32⟩
  | 17 => ⟨S64x2048, .f32⟩
  | 18 => ⟨S64x2048, .f32⟩
  | 19 => ⟨S64x2048, .f32⟩
  | 20 => ⟨S64x2048, .f32⟩
  | 21 => ⟨S64x2048, .f32⟩
  | 22 => ⟨S32x2048, .f32⟩
  | 23 => ⟨S32x2048, .f32⟩
  | 24 => ⟨S32x2048, .f32⟩
  | 25 => ⟨S32x2048, .f32⟩
  | 26 => ⟨S32x2048, .f32⟩
  | 27 => ⟨S32x2048, .f32⟩
  | 28 => ⟨S32x2048, .f32⟩
  | 29 => ⟨S32x2048, .f32⟩
  | 30 => ⟨S32x2048, .f32⟩
  | 31 => ⟨S32x2048, .f32⟩
  | 32 => ⟨S32x2048, .f32⟩
  | 33 => ⟨S32x2048, .f32⟩
  | 34 => ⟨S32x2048, .f32⟩
  | 35 => ⟨S32x2048, .f32⟩
  | 36 => ⟨S32x2048, .f32⟩
  | 37 => ⟨S32x2048, .f32⟩
  | 38 => ⟨S32x2048, .f32⟩
  | 39 => ⟨S32x2048, .f32⟩
  | 40 => ⟨S32x2048, .f32⟩
  | 41 => ⟨S32x2048, .f32⟩
  | 42 => ⟨S32x2048, .f32⟩
  | 43 => ⟨S32x2048, .f32⟩
  | 44 => ⟨S16x2048, .f32⟩
  | 45 => ⟨S16x2048, .f32⟩
  | 46 => ⟨S16x2048, .f32⟩
  | 47 => ⟨S16x2048, .f32⟩
  | 48 => ⟨S16x2048, .f32⟩
  | 49 => ⟨S16x2048, .f32⟩
  | 50 => ⟨S16x2048, .f32⟩
  | 51 => ⟨S16x2048, .f32⟩
  | 52 => ⟨S16x2048, .f32⟩
  | 53 => ⟨S16x2048, .f32⟩
  | 54 => ⟨S16x2048, .f32⟩
  | 55 => ⟨S16x2048, .f32⟩
  | 56 => ⟨S16x2048, .f32⟩
  | 57 => ⟨S16x2048, .f32⟩
  | 58 => ⟨S16x2048, .f32⟩
  | 59 => ⟨S16x2048, .f32⟩
  | 60 => ⟨S16x2048, .f32⟩
  | 61 => ⟨S16x2048, .f32⟩
  | 62 => ⟨S16x2048, .f32⟩
  | 63 => ⟨S16x2048, .f32⟩
  | 64 => ⟨S16x2048, .f32⟩
  | 65 => ⟨S16x2048, .f32⟩
  | 66 => ⟨S8x2048, .f32⟩
  | 67 => ⟨S8x2048, .f32⟩
  | 68 => ⟨S8x2048, .f32⟩
  | 69 => ⟨S8x2048, .f32⟩
  | 70 => ⟨S8x2048, .f32⟩
  | 71 => ⟨S8x2048, .f32⟩
  | 72 => ⟨S8x2048, .f32⟩
  | 73 => ⟨S8x2048, .f32⟩
  | 74 => ⟨S8x2048, .f32⟩
  | 75 => ⟨S8x2048, .f32⟩
  | 76 => ⟨S8x2048, .f32⟩
  | 77 => ⟨S8x2048, .f32⟩
  | 78 => ⟨S8x2048, .f32⟩
  | 79 => ⟨S8x2048, .f32⟩
  | 80 => ⟨S8x2048, .f32⟩
  | 81 => ⟨S8x2048, .f32⟩
  | 82 => ⟨S8x2048, .f32⟩
  | 83 => ⟨S8x2048, .f32⟩
  | 84 => ⟨S8x2048, .f32⟩
  | 85 => ⟨S8x2048, .f32⟩
  | 86 => ⟨S8x2048, .f32⟩
  | 87 => ⟨S8x2048, .f32⟩
  | 88 => ⟨S4x2048, .f32⟩
  | 89 => ⟨S4x2048, .f32⟩
  | 90 => ⟨S4x2048, .f32⟩
  | 91 => ⟨S4x2048, .f32⟩
  | 92 => ⟨S4x2048, .f32⟩
  | 93 => ⟨S4x2048, .f32⟩
  | 94 => ⟨S4x2048, .f32⟩
  | 95 => ⟨S4x2048, .f32⟩
  | 96 => ⟨S4x2048, .f32⟩
  | 97 => ⟨S4x2048, .f32⟩
  | 98 => ⟨S4x2048, .f32⟩
  | 99 => ⟨S4x2048, .f32⟩
  | 100 => ⟨S4x2048, .f32⟩
  | 101 => ⟨S4x2048, .f32⟩
  | 102 => ⟨S4x2048, .f32⟩
  | 103 => ⟨S4x2048, .f32⟩
  | 104 => ⟨S4x2048, .f32⟩
  | 105 => ⟨S4x2048, .f32⟩
  | 106 => ⟨S4x2048, .f32⟩
  | 107 => ⟨S4x2048, .f32⟩
  | 108 => ⟨S4x2048, .f32⟩
  | 109 => ⟨S4x2048, .f32⟩
  | 110 => ⟨S2x2048, .f32⟩
  | 111 => ⟨S2x2048, .f32⟩
  | 112 => ⟨S2x2048, .f32⟩
  | 113 => ⟨S2x2048, .f32⟩
  | 114 => ⟨S2x2048, .f32⟩
  | 115 => ⟨S2x2048, .f32⟩
  | 116 => ⟨S2x2048, .f32⟩
  | 117 => ⟨S2x2048, .f32⟩
  | 118 => ⟨S2x2048, .f32⟩
  | 119 => ⟨S2x2048, .f32⟩
  | 120 => ⟨S2x2048, .f32⟩
  | 121 => ⟨S2x2048, .f32⟩
  | 122 => ⟨S2x2048, .f32⟩
  | 123 => ⟨S2x2048, .f32⟩
  | 124 => ⟨S2x2048, .f32⟩
  | 125 => ⟨S2x2048, .f32⟩
  | 126 => ⟨S2x2048, .f32⟩
  | 127 => ⟨S2x2048, .f32⟩
  | _ => ⟨S4096x512, .f32⟩

abbrev hbmTy0_2 (i : Nat) : BufTy := match i % 128 with
  | 0 => ⟨S2x2048, .f32⟩
  | 1 => ⟨S2x2048, .f32⟩
  | 2 => ⟨S2x2048, .f32⟩
  | 3 => ⟨S2x2048, .f32⟩
  | 4 => ⟨S1x2048, .f32⟩
  | 5 => ⟨S1x2048, .f32⟩
  | 6 => ⟨S1x2048, .f32⟩
  | 7 => ⟨S1x2048, .f32⟩
  | 8 => ⟨S1x2048, .f32⟩
  | 9 => ⟨S1x2048, .f32⟩
  | 10 => ⟨S1x2048, .f32⟩
  | 11 => ⟨S1x2048, .f32⟩
  | 12 => ⟨S1x2048, .f32⟩
  | 13 => ⟨S1x2048, .f32⟩
  | 14 => ⟨S1x2048, .f32⟩
  | 15 => ⟨S1x2048, .f32⟩
  | 16 => ⟨S1x2048, .f32⟩
  | 17 => ⟨S1x2048, .f32⟩
  | 18 => ⟨S1x2048, .f32⟩
  | 19 => ⟨S1x2048, .f32⟩
  | 20 => ⟨S1x2048, .f32⟩
  | 21 => ⟨S1x2048, .f32⟩
  | 22 => ⟨S1x2048, .f32⟩
  | 23 => ⟨S1x2048, .f32⟩
  | 24 => ⟨S1x2048, .f32⟩
  | 25 => ⟨S1x2048, .f32⟩
  | 26 => ⟨S1x1x2048, .f32⟩
  | 27 => ⟨S1x1x2048, .f32⟩
  | 28 => ⟨S1x2x2048, .f32⟩
  | 29 => ⟨S2x2048, .f32⟩
  | 30 => ⟨S1x1x2048, .f32⟩
  | 31 => ⟨S1x1x2048, .f32⟩
  | 32 => ⟨S1x2x2048, .f32⟩
  | 33 => ⟨S2x2048, .f32⟩
  | 34 => ⟨S1x1x2048, .f32⟩
  | 35 => ⟨S1x1x2048, .f32⟩
  | 36 => ⟨S1x2x2048, .f32⟩
  | 37 => ⟨S2x2048, .f32⟩
  | 38 => ⟨S1x1x2048, .f32⟩
  | 39 => ⟨S1x1x2048, .f32⟩
  | 40 => ⟨S1x2x2048, .f32⟩
  | 41 => ⟨S2x2048, .f32⟩
  | 42 => ⟨S1x2048, .f32⟩
  | 43 => ⟨S1x2048, .f32⟩
  | 44 => ⟨S1x2048, .f32⟩
  | 45 => ⟨S1x2048, .f32⟩
  | 46 => ⟨S1x2048, .f32⟩
  | 47 => ⟨S1x2048, .f32⟩
  | 48 => ⟨S1x2048, .f32⟩
  | 49 => ⟨S1x2048, .f32⟩
  | 50 => ⟨S1x2048, .f32⟩
  | 51 => ⟨S1x2048, .f32⟩
  | 52 => ⟨S1x2048, .f32⟩
  | 53 => ⟨S1x2048, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S1x2048, .f32⟩
  | 60 => ⟨S1x2048, .f32⟩
  | 61 => ⟨S1x2048, .f32⟩
  | 62 => ⟨S1x2048, .f32⟩
  | 63 => ⟨S1x2048, .f32⟩
  | 64 => ⟨S1x2048, .f32⟩
  | 65 => ⟨S2x2048, .f32⟩
  | 66 => ⟨S1x2048, .f32⟩
  | 67 => ⟨S2x2048, .f32⟩
  | 68 => ⟨S1x2048, .f32⟩
  | 69 => ⟨S2x2048, .f32⟩
  | 70 => ⟨S1x2048, .f32⟩
  | 71 => ⟨S2x2048, .f32⟩
  | 72 => ⟨S2x1x2048, .f32⟩
  | 73 => ⟨S2x1x2048, .f32⟩
  | 74 => ⟨S2x2x2048, .f32⟩
  | 75 => ⟨S4x2048, .f32⟩
  | 76 => ⟨S2x1x2048, .f32⟩
  | 77 => ⟨S2x1x2048, .f32⟩
  | 78 => ⟨S2x2x2048, .f32⟩
  | 79 => ⟨S4x2048, .f32⟩
  | 80 => ⟨S2x1x2048, .f32⟩
  | 81 => ⟨S2x1x2048, .f32⟩
  | 82 => ⟨S2x2x2048, .f32⟩
  | 83 => ⟨S4x2048, .f32⟩
  | 84 => ⟨S2x1x2048, .f32⟩
  | 85 => ⟨S2x1x2048, .f32⟩
  | 86 => ⟨S2x2x2048, .f32⟩
  | 87 => ⟨S4x2048, .f32⟩
  | 88 => ⟨S3x2048, .f32⟩
  | 89 => ⟨S3x2048, .f32⟩
  | 90 => ⟨S3x2048, .f32⟩
  | 91 => ⟨S3x2048, .f32⟩
  | 92 => ⟨S3x2048, .f32⟩
  | 93 => ⟨S3x2048, .f32⟩
  | 94 => ⟨S3x2048, .f32⟩
  | 95 => ⟨S3x2048, .f32⟩
  | 96 => ⟨S3x2048, .f32⟩
  | 97 => ⟨S3x2048, .f32⟩
  | 98 => ⟨S3x2048, .f32⟩
  | 99 => ⟨S3x2048, .f32⟩
  | 100 => ⟨S3x2048, .f32⟩
  | 101 => ⟨S3x2048, .f32⟩
  | 102 => ⟨S3x2048, .f32⟩
  | 103 => ⟨S3x2048, .f32⟩
  | 104 => ⟨S3x2048, .f32⟩
  | 105 => ⟨S3x2048, .f32⟩
  | 106 => ⟨S3x2048, .f32⟩
  | 107 => ⟨S3x2048, .f32⟩
  | 108 => ⟨S3x2048, .f32⟩
  | 109 => ⟨S3x2048, .f32⟩
  | 110 => ⟨S1x2048, .f32⟩
  | 111 => ⟨S4x2048, .f32⟩
  | 112 => ⟨S1x2048, .f32⟩
  | 113 => ⟨S4x2048, .f32⟩
  | 114 => ⟨S1x2048, .f32⟩
  | 115 => ⟨S4x2048, .f32⟩
  | 116 => ⟨S1x2048, .f32⟩
  | 117 => ⟨S4x2048, .f32⟩
  | 118 => ⟨S4x1x2048, .f32⟩
  | 119 => ⟨S4x1x2048, .f32⟩
  | 120 => ⟨S4x2x2048, .f32⟩
  | 121 => ⟨S8x2048, .f32⟩
  | 122 => ⟨S4x1x2048, .f32⟩
  | 123 => ⟨S4x1x2048, .f32⟩
  | 124 => ⟨S4x2x2048, .f32⟩
  | 125 => ⟨S8x2048, .f32⟩
  | 126 => ⟨S4x1x2048, .f32⟩
  | 127 => ⟨S4x1x2048, .f32⟩
  | _ => ⟨S4096x512, .f32⟩

abbrev hbmTy0_3 (i : Nat) : BufTy := match i % 128 with
  | 0 => ⟨S4x2x2048, .f32⟩
  | 1 => ⟨S8x2048, .f32⟩
  | 2 => ⟨S4x1x2048, .f32⟩
  | 3 => ⟨S4x1x2048, .f32⟩
  | 4 => ⟨S4x2x2048, .f32⟩
  | 5 => ⟨S8x2048, .f32⟩
  | 6 => ⟨S7x2048, .f32⟩
  | 7 => ⟨S7x2048, .f32⟩
  | 8 => ⟨S7x2048, .f32⟩
  | 9 => ⟨S7x2048, .f32⟩
  | 10 => ⟨S7x2048, .f32⟩
  | 11 => ⟨S7x2048, .f32⟩
  | 12 => ⟨S7x2048, .f32⟩
  | 13 => ⟨S7x2048, .f32⟩
  | 14 => ⟨S7x2048, .f32⟩
  | 15 => ⟨S7x2048, .f32⟩
  | 16 => ⟨S7x2048, .f32⟩
  | 17 => ⟨S7x2048, .f32⟩
  | 18 => ⟨S7x2048, .f32⟩
  | 19 => ⟨S7x2048, .f32⟩
  | 20 => ⟨S7x2048, .f32⟩
  | 21 => ⟨S7x2048, .f32⟩
  | 22 => ⟨S7x2048, .f32⟩
  | 23 => ⟨S7x2048, .f32⟩
  | 24 => ⟨S7x2048, .f32⟩
  | 25 => ⟨S7x2048, .f32⟩
  | 26 => ⟨S7x2048, .f32⟩
  | 27 => ⟨S7x2048, .f32⟩
  | 28 => ⟨S1x2048, .f32⟩
  | 29 => ⟨S8x2048, .f32⟩
  | 30 => ⟨S1x2048, .f32⟩
  | 31 => ⟨S8x2048, .f32⟩
  | 32 => ⟨S1x2048, .f32⟩
  | 33 => ⟨S8x2048, .f32⟩
  | 34 => ⟨S1x2048, .f32⟩
  | 35 => ⟨S8x2048, .f32⟩
  | 36 => ⟨S8x1x2048, .f32⟩
  | 37 => ⟨S8x1x2048, .f32⟩
  | 38 => ⟨S8x2x2048, .f32⟩
  | 39 => ⟨S16x2048, .f32⟩
  | 40 => ⟨S8x1x2048, .f32⟩
  | 41 => ⟨S8x1x2048, .f32⟩
  | 42 => ⟨S8x2x2048, .f32⟩
  | 43 => ⟨S16x2048, .f32⟩
  | 44 => ⟨S8x1x2048, .f32⟩
  | 45 => ⟨S8x1x2048, .f32⟩
  | 46 => ⟨S8x2x2048, .f32⟩
  | 47 => ⟨S16x2048, .f32⟩
  | 48 => ⟨S8x1x2048, .f32⟩
  | 49 => ⟨S8x1x2048, .f32⟩
  | 50 => ⟨S8x2x2048, .f32⟩
  | 51 => ⟨S16x2048, .f32⟩
  | 52 => ⟨S15x2048, .f32⟩
  | 53 => ⟨S15x2048, .f32⟩
  | 54 => ⟨S15x2048, .f32⟩
  | 55 => ⟨S15x2048, .f32⟩
  | 56 => ⟨S15x2048, .f32⟩
  | 57 => ⟨S15x2048, .f32⟩
  | 58 => ⟨S15x2048, .f32⟩
  | 59 => ⟨S15x2048, .f32⟩
  | 60 => ⟨S15x2048, .f32⟩
  | 61 => ⟨S15x2048, .f32⟩
  | 62 => ⟨S15x2048, .f32⟩
  | 63 => ⟨S15x2048, .f32⟩
  | 64 => ⟨S15x2048, .f32⟩
  | 65 => ⟨S15x2048, .f32⟩
  | 66 => ⟨S15x2048, .f32⟩
  | 67 => ⟨S15x2048, .f32⟩
  | 68 => ⟨S15x2048, .f32⟩
  | 69 => ⟨S15x2048, .f32⟩
  | 70 => ⟨S15x2048, .f32⟩
  | 71 => ⟨S15x2048, .f32⟩
  | 72 => ⟨S15x2048, .f32⟩
  | 73 => ⟨S15x2048, .f32⟩
  | 74 => ⟨S1x2048, .f32⟩
  | 75 => ⟨S16x2048, .f32⟩
  | 76 => ⟨S1x2048, .f32⟩
  | 77 => ⟨S16x2048, .f32⟩
  | 78 => ⟨S1x2048, .f32⟩
  | 79 => ⟨S16x2048, .f32⟩
  | 80 => ⟨S1x2048, .f32⟩
  | 81 => ⟨S16x2048, .f32⟩
  | 82 => ⟨S16x1x2048, .f32⟩
  | 83 => ⟨S16x1x2048, .f32⟩
  | 84 => ⟨S16x2x2048, .f32⟩
  | 85 => ⟨S32x2048, .f32⟩
  | 86 => ⟨S16x1x2048, .f32⟩
  | 87 => ⟨S16x1x2048, .f32⟩
  | 88 => ⟨S16x2x2048, .f32⟩
  | 89 => ⟨S32x2048, .f32⟩
  | 90 => ⟨S16x1x2048, .f32⟩
  | 91 => ⟨S16x1x2048, .f32⟩
  | 92 => ⟨S16x2x2048, .f32⟩
  | 93 => ⟨S32x2048, .f32⟩
  | 94 => ⟨S16x1x2048, .f32⟩
  | 95 => ⟨S16x1x2048, .f32⟩
  | 96 => ⟨S16x2x2048, .f32⟩
  | 97 => ⟨S32x2048, .f32⟩
  | 98 => ⟨S31x2048, .f32⟩
  | 99 => ⟨S31x2048, .f32⟩
  | 100 => ⟨S31x2048, .f32⟩
  | 101 => ⟨S31x2048, .f32⟩
  | 102 => ⟨S31x2048, .f32⟩
  | 103 => ⟨S31x2048, .f32⟩
  | 104 => ⟨S31x2048, .f32⟩
  | 105 => ⟨S31x2048, .f32⟩
  | 106 => ⟨S31x2048, .f32⟩
  | 107 => ⟨S31x2048, .f32⟩
  | 108 => ⟨S31x2048, .f32⟩
  | 109 => ⟨S31x2048, .f32⟩
  | 110 => ⟨S31x2048, .f32⟩
  | 111 => ⟨S31x2048, .f32⟩
  | 112 => ⟨S31x2048, .f32⟩
  | 113 => ⟨S31x2048, .f32⟩
  | 114 => ⟨S31x2048, .f32⟩
  | 115 => ⟨S31x2048, .f32⟩
  | 116 => ⟨S31x2048, .f32⟩
  | 117 => ⟨S31x2048, .f32⟩
  | 118 => ⟨S31x2048, .f32⟩
  | 119 => ⟨S31x2048, .f32⟩
  | 120 => ⟨S1x2048, .f32⟩
  | 121 => ⟨S32x2048, .f32⟩
  | 122 => ⟨S1x2048, .f32⟩
  | 123 => ⟨S32x2048, .f32⟩
  | 124 => ⟨S1x2048, .f32⟩
  | 125 => ⟨S32x2048, .f32⟩
  | 126 => ⟨S1x2048, .f32⟩
  | 127 => ⟨S32x2048, .f32⟩
  | _ => ⟨S4096x512, .f32⟩

abbrev hbmTy0_4 (i : Nat) : BufTy := match i % 128 with
  | 0 => ⟨S32x1x2048, .f32⟩
  | 1 => ⟨S32x1x2048, .f32⟩
  | 2 => ⟨S32x2x2048, .f32⟩
  | 3 => ⟨S64x2048, .f32⟩
  | 4 => ⟨S32x1x2048, .f32⟩
  | 5 => ⟨S32x1x2048, .f32⟩
  | 6 => ⟨S32x2x2048, .f32⟩
  | 7 => ⟨S64x2048, .f32⟩
  | 8 => ⟨S32x1x2048, .f32⟩
  | 9 => ⟨S32x1x2048, .f32⟩
  | 10 => ⟨S32x2x2048, .f32⟩
  | 11 => ⟨S64x2048, .f32⟩
  | 12 => ⟨S32x1x2048, .f32⟩
  | 13 => ⟨S32x1x2048, .f32⟩
  | 14 => ⟨S32x2x2048, .f32⟩
  | 15 => ⟨S64x2048, .f32⟩
  | 16 => ⟨S63x2048, .f32⟩
  | 17 => ⟨S63x2048, .f32⟩
  | 18 => ⟨S63x2048, .f32⟩
  | 19 => ⟨S63x2048, .f32⟩
  | 20 => ⟨S63x2048, .f32⟩
  | 21 => ⟨S63x2048, .f32⟩
  | 22 => ⟨S63x2048, .f32⟩
  | 23 => ⟨S63x2048, .f32⟩
  | 24 => ⟨S63x2048, .f32⟩
  | 25 => ⟨S63x2048, .f32⟩
  | 26 => ⟨S63x2048, .f32⟩
  | 27 => ⟨S63x2048, .f32⟩
  | 28 => ⟨S63x2048, .f32⟩
  | 29 => ⟨S63x2048, .f32⟩
  | 30 => ⟨S63x2048, .f32⟩
  | 31 => ⟨S63x2048, .f32⟩
  | 32 => ⟨S63x2048, .f32⟩
  | 33 => ⟨S63x2048, .f32⟩
  | 34 => ⟨S63x2048, .f32⟩
  | 35 => ⟨S63x2048, .f32⟩
  | 36 => ⟨S63x2048, .f32⟩
  | 37 => ⟨S63x2048, .f32⟩
  | 38 => ⟨S1x2048, .f32⟩
  | 39 => ⟨S64x2048, .f32⟩
  | 40 => ⟨S1x2048, .f32⟩
  | 41 => ⟨S64x2048, .f32⟩
  | 42 => ⟨S1x2048, .f32⟩
  | 43 => ⟨S64x2048, .f32⟩
  | 44 => ⟨S1x2048, .f32⟩
  | 45 => ⟨S64x2048, .f32⟩
  | 46 => ⟨S64x1x2048, .f32⟩
  | 47 => ⟨S64x1x2048, .f32⟩
  | 48 => ⟨S64x2x2048, .f32⟩
  | 49 => ⟨S128x2048, .f32⟩
  | 50 => ⟨S64x1x2048, .f32⟩
  | 51 => ⟨S64x1x2048, .f32⟩
  | 52 => ⟨S64x2x2048, .f32⟩
  | 53 => ⟨S128x2048, .f32⟩
  | 54 => ⟨S64x1x2048, .f32⟩
  | 55 => ⟨S64x1x2048, .f32⟩
  | 56 => ⟨S64x2x2048, .f32⟩
  | 57 => ⟨S128x2048, .f32⟩
  | 58 => ⟨S64x1x2048, .f32⟩
  | 59 => ⟨S64x1x2048, .f32⟩
  | 60 => ⟨S64x2x2048, .f32⟩
  | 61 => ⟨S128x2048, .f32⟩
  | 62 => ⟨S127x2048, .f32⟩
  | 63 => ⟨S127x2048, .f32⟩
  | 64 => ⟨S127x2048, .f32⟩
  | 65 => ⟨S127x2048, .f32⟩
  | 66 => ⟨S127x2048, .f32⟩
  | 67 => ⟨S127x2048, .f32⟩
  | 68 => ⟨S127x2048, .f32⟩
  | 69 => ⟨S127x2048, .f32⟩
  | 70 => ⟨S127x2048, .f32⟩
  | 71 => ⟨S127x2048, .f32⟩
  | 72 => ⟨S127x2048, .f32⟩
  | 73 => ⟨S127x2048, .f32⟩
  | 74 => ⟨S127x2048, .f32⟩
  | 75 => ⟨S127x2048, .f32⟩
  | 76 => ⟨S127x2048, .f32⟩
  | 77 => ⟨S127x2048, .f32⟩
  | 78 => ⟨S127x2048, .f32⟩
  | 79 => ⟨S127x2048, .f32⟩
  | 80 => ⟨S127x2048, .f32⟩
  | 81 => ⟨S127x2048, .f32⟩
  | 82 => ⟨S127x2048, .f32⟩
  | 83 => ⟨S127x2048, .f32⟩
  | 84 => ⟨S1x2048, .f32⟩
  | 85 => ⟨S128x2048, .f32⟩
  | 86 => ⟨S1x2048, .f32⟩
  | 87 => ⟨S128x2048, .f32⟩
  | 88 => ⟨S1x2048, .f32⟩
  | 89 => ⟨S128x2048, .f32⟩
  | 90 => ⟨S1x2048, .f32⟩
  | 91 => ⟨S128x2048, .f32⟩
  | 92 => ⟨S128x1x2048, .f32⟩
  | 93 => ⟨S128x1x2048, .f32⟩
  | 94 => ⟨S128x2x2048, .f32⟩
  | 95 => ⟨S256x2048, .f32⟩
  | 96 => ⟨S128x1x2048, .f32⟩
  | 97 => ⟨S128x1x2048, .f32⟩
  | 98 => ⟨S128x2x2048, .f32⟩
  | 99 => ⟨S256x2048, .f32⟩
  | 100 => ⟨S128x1x2048, .f32⟩
  | 101 => ⟨S128x1x2048, .f32⟩
  | 102 => ⟨S128x2x2048, .f32⟩
  | 103 => ⟨S256x2048, .f32⟩
  | 104 => ⟨S128x1x2048, .f32⟩
  | 105 => ⟨S128x1x2048, .f32⟩
  | 106 => ⟨S128x2x2048, .f32⟩
  | 107 => ⟨S256x2048, .f32⟩
  | 108 => ⟨S255x2048, .f32⟩
  | 109 => ⟨S255x2048, .f32⟩
  | 110 => ⟨S255x2048, .f32⟩
  | 111 => ⟨S255x2048, .f32⟩
  | 112 => ⟨S255x2048, .f32⟩
  | 113 => ⟨S255x2048, .f32⟩
  | 114 => ⟨S255x2048, .f32⟩
  | 115 => ⟨S255x2048, .f32⟩
  | 116 => ⟨S255x2048, .f32⟩
  | 117 => ⟨S255x2048, .f32⟩
  | 118 => ⟨S255x2048, .f32⟩
  | 119 => ⟨S255x2048, .f32⟩
  | 120 => ⟨S255x2048, .f32⟩
  | 121 => ⟨S255x2048, .f32⟩
  | 122 => ⟨S255x2048, .f32⟩
  | 123 => ⟨S255x2048, .f32⟩
  | 124 => ⟨S255x2048, .f32⟩
  | 125 => ⟨S255x2048, .f32⟩
  | 126 => ⟨S255x2048, .f32⟩
  | 127 => ⟨S255x2048, .f32⟩
  | _ => ⟨S4096x512, .f32⟩

abbrev hbmTy0_5 (i : Nat) : BufTy := match i % 128 with
  | 0 => ⟨S255x2048, .f32⟩
  | 1 => ⟨S255x2048, .f32⟩
  | 2 => ⟨S1x2048, .f32⟩
  | 3 => ⟨S256x2048, .f32⟩
  | 4 => ⟨S1x2048, .f32⟩
  | 5 => ⟨S256x2048, .f32⟩
  | 6 => ⟨S1x2048, .f32⟩
  | 7 => ⟨S256x2048, .f32⟩
  | 8 => ⟨S1x2048, .f32⟩
  | 9 => ⟨S256x2048, .f32⟩
  | 10 => ⟨S256x1x2048, .f32⟩
  | 11 => ⟨S256x1x2048, .f32⟩
  | 12 => ⟨S256x2x2048, .f32⟩
  | 13 => ⟨S512x2048, .f32⟩
  | 14 => ⟨S256x1x2048, .f32⟩
  | 15 => ⟨S256x1x2048, .f32⟩
  | 16 => ⟨S256x2x2048, .f32⟩
  | 17 => ⟨S512x2048, .f32⟩
  | 18 => ⟨S256x1x2048, .f32⟩
  | 19 => ⟨S256x1x2048, .f32⟩
  | 20 => ⟨S256x2x2048, .f32⟩
  | 21 => ⟨S512x2048, .f32⟩
  | 22 => ⟨S256x1x2048, .f32⟩
  | 23 => ⟨S256x1x2048, .f32⟩
  | 24 => ⟨S256x2x2048, .f32⟩
  | 25 => ⟨S512x2048, .f32⟩
  | 26 => ⟨S511x2048, .f32⟩
  | 27 => ⟨S511x2048, .f32⟩
  | 28 => ⟨S511x2048, .f32⟩
  | 29 => ⟨S511x2048, .f32⟩
  | 30 => ⟨S511x2048, .f32⟩
  | 31 => ⟨S511x2048, .f32⟩
  | 32 => ⟨S511x2048, .f32⟩
  | 33 => ⟨S511x2048, .f32⟩
  | 34 => ⟨S511x2048, .f32⟩
  | 35 => ⟨S511x2048, .f32⟩
  | 36 => ⟨S511x2048, .f32⟩
  | 37 => ⟨S511x2048, .f32⟩
  | 38 => ⟨S511x2048, .f32⟩
  | 39 => ⟨S511x2048, .f32⟩
  | 40 => ⟨S511x2048, .f32⟩
  | 41 => ⟨S511x2048, .f32⟩
  | 42 => ⟨S511x2048, .f32⟩
  | 43 => ⟨S511x2048, .f32⟩
  | 44 => ⟨S511x2048, .f32⟩
  | 45 => ⟨S511x2048, .f32⟩
  | 46 => ⟨S511x2048, .f32⟩
  | 47 => ⟨S511x2048, .f32⟩
  | 48 => ⟨S1x2048, .f32⟩
  | 49 => ⟨S512x2048, .f32⟩
  | 50 => ⟨S1x2048, .f32⟩
  | 51 => ⟨S512x2048, .f32⟩
  | 52 => ⟨S1x2048, .f32⟩
  | 53 => ⟨S512x2048, .f32⟩
  | 54 => ⟨S1x2048, .f32⟩
  | 55 => ⟨S512x2048, .f32⟩
  | 56 => ⟨S512x1x2048, .f32⟩
  | 57 => ⟨S512x1x2048, .f32⟩
  | 58 => ⟨S512x2x2048, .f32⟩
  | 59 => ⟨S1024x2048, .f32⟩
  | 60 => ⟨S512x1x2048, .f32⟩
  | 61 => ⟨S512x1x2048, .f32⟩
  | 62 => ⟨S512x2x2048, .f32⟩
  | 63 => ⟨S1024x2048, .f32⟩
  | 64 => ⟨S512x1x2048, .f32⟩
  | 65 => ⟨S512x1x2048, .f32⟩
  | 66 => ⟨S512x2x2048, .f32⟩
  | 67 => ⟨S1024x2048, .f32⟩
  | 68 => ⟨S512x1x2048, .f32⟩
  | 69 => ⟨S512x1x2048, .f32⟩
  | 70 => ⟨S512x2x2048, .f32⟩
  | 71 => ⟨S1024x2048, .f32⟩
  | 72 => ⟨S1023x2048, .f32⟩
  | 73 => ⟨S1023x2048, .f32⟩
  | 74 => ⟨S1023x2048, .f32⟩
  | 75 => ⟨S1023x2048, .f32⟩
  | 76 => ⟨S1023x2048, .f32⟩
  | 77 => ⟨S1023x2048, .f32⟩
  | 78 => ⟨S1023x2048, .f32⟩
  | 79 => ⟨S1023x2048, .f32⟩
  | 80 => ⟨S1023x2048, .f32⟩
  | 81 => ⟨S1023x2048, .f32⟩
  | 82 => ⟨S1023x2048, .f32⟩
  | 83 => ⟨S1023x2048, .f32⟩
  | 84 => ⟨S1023x2048, .f32⟩
  | 85 => ⟨S1023x2048, .f32⟩
  | 86 => ⟨S1023x2048, .f32⟩
  | 87 => ⟨S1023x2048, .f32⟩
  | 88 => ⟨S1023x2048, .f32⟩
  | 89 => ⟨S1023x2048, .f32⟩
  | 90 => ⟨S1023x2048, .f32⟩
  | 91 => ⟨S1023x2048, .f32⟩
  | 92 => ⟨S1023x2048, .f32⟩
  | 93 => ⟨S1023x2048, .f32⟩
  | 94 => ⟨S1x2048, .f32⟩
  | 95 => ⟨S1024x2048, .f32⟩
  | 96 => ⟨S1x2048, .f32⟩
  | 97 => ⟨S1024x2048, .f32⟩
  | 98 => ⟨S1x2048, .f32⟩
  | 99 => ⟨S1024x2048, .f32⟩
  | 100 => ⟨S1x2048, .f32⟩
  | 101 => ⟨S1024x2048, .f32⟩
  | 102 => ⟨S1024x1x2048, .f32⟩
  | 103 => ⟨S1024x1x2048, .f32⟩
  | 104 => ⟨S1024x2x2048, .f32⟩
  | 105 => ⟨S2048x2048, .f32⟩
  | 106 => ⟨S1024x1x2048, .f32⟩
  | 107 => ⟨S1024x1x2048, .f32⟩
  | 108 => ⟨S1024x2x2048, .f32⟩
  | 109 => ⟨S2048x2048, .f32⟩
  | 110 => ⟨S1024x1x2048, .f32⟩
  | 111 => ⟨S1024x1x2048, .f32⟩
  | 112 => ⟨S1024x2x2048, .f32⟩
  | 113 => ⟨S2048x2048, .f32⟩
  | 114 => ⟨S1024x1x2048, .f32⟩
  | 115 => ⟨S1024x1x2048, .f32⟩
  | 116 => ⟨S1024x2x2048, .f32⟩
  | 117 => ⟨S2048x2048, .f32⟩
  | 118 => ⟨S2047x2048, .f32⟩
  | 119 => ⟨S2047x2048, .f32⟩
  | 120 => ⟨S2047x2048, .f32⟩
  | 121 => ⟨S2047x2048, .f32⟩
  | 122 => ⟨S2047x2048, .f32⟩
  | 123 => ⟨S2047x2048, .f32⟩
  | 124 => ⟨S2047x2048, .f32⟩
  | 125 => ⟨S2047x2048, .f32⟩
  | 126 => ⟨S2047x2048, .f32⟩
  | 127 => ⟨S2047x2048, .f32⟩
  | _ => ⟨S4096x512, .f32⟩

abbrev hbmTy0_6 (i : Nat) : BufTy := match i % 128 with
  | 0 => ⟨S2047x2048, .f32⟩
  | 1 => ⟨S2047x2048, .f32⟩
  | 2 => ⟨S2047x2048, .f32⟩
  | 3 => ⟨S2047x2048, .f32⟩
  | 4 => ⟨S2047x2048, .f32⟩
  | 5 => ⟨S2047x2048, .f32⟩
  | 6 => ⟨S2047x2048, .f32⟩
  | 7 => ⟨S2047x2048, .f32⟩
  | 8 => ⟨S2047x2048, .f32⟩
  | 9 => ⟨S2047x2048, .f32⟩
  | 10 => ⟨S2047x2048, .f32⟩
  | 11 => ⟨S2047x2048, .f32⟩
  | 12 => ⟨S1x2048, .f32⟩
  | 13 => ⟨S2048x2048, .f32⟩
  | 14 => ⟨S1x2048, .f32⟩
  | 15 => ⟨S2048x2048, .f32⟩
  | 16 => ⟨S1x2048, .f32⟩
  | 17 => ⟨S2048x2048, .f32⟩
  | 18 => ⟨S1x2048, .f32⟩
  | 19 => ⟨S2048x2048, .f32⟩
  | 20 => ⟨S2048x1x2048, .f32⟩
  | 21 => ⟨S2048x1x2048, .f32⟩
  | 22 => ⟨S2048x2x2048, .f32⟩
  | 23 => ⟨S4096x2048, .f32⟩
  | 24 => ⟨S2048x1x2048, .f32⟩
  | 25 => ⟨S2048x1x2048, .f32⟩
  | 26 => ⟨S2048x2x2048, .f32⟩
  | 27 => ⟨S4096x2048, .f32⟩
  | 28 => ⟨S2048x1x2048, .f32⟩
  | 29 => ⟨S2048x1x2048, .f32⟩
  | 30 => ⟨S2048x2x2048, .f32⟩
  | 31 => ⟨S4096x2048, .f32⟩
  | 32 => ⟨S2048x1x2048, .f32⟩
  | 33 => ⟨S2048x1x2048, .f32⟩
  | 34 => ⟨S2048x2x2048, .f32⟩
  | 35 => ⟨S4096x2048, .f32⟩
  | 36 => ⟨S4096x4x512, .f32⟩
  | 37 => ⟨S4x128x4096, .f32⟩
  | 38 => ⟨S4096x4x128, .f32⟩
  | 39 => ⟨S4096x512, .f32⟩
  | 40 => ⟨S4096x4x512, .f32⟩
  | 41 => ⟨S4x128x4096, .f32⟩
  | 42 => ⟨S4096x4x128, .f32⟩
  | 43 => ⟨S4096x512, .f32⟩
  | 44 => ⟨S4096x512, .f32⟩
  | 45 => ⟨S4096x512, .f32⟩
  | 46 => ⟨S4096x512, .f32⟩
  | 47 => ⟨S4096x4x128, .f32⟩
  | 48 => ⟨S4x128x4096, .f32⟩
  | 49 => ⟨S4x4096x512, .f32⟩
  | 50 => ⟨S4096x4x512, .f32⟩
  | 51 => ⟨S4x128x512, .f32⟩
  | 52 => ⟨S4096x2048, .f32⟩
  | 53 => ⟨S4096x4x128, .f32⟩
  | 54 => ⟨S4x128x4096, .f32⟩
  | 55 => ⟨S4x4096x512, .f32⟩
  | 56 => ⟨S4096x4x512, .f32⟩
  | 57 => ⟨S4x128x512, .f32⟩
  | 58 => ⟨S4096x2048, .f32⟩
  | 59 => ⟨S2048x2x2048, .f32⟩
  | 60 => ⟨S2048x1x2048, .f32⟩
  | 61 => ⟨S2048x2048, .f32⟩
  | 62 => ⟨S2048x1x2048, .f32⟩
  | 63 => ⟨S2048x2048, .f32⟩
  | 64 => ⟨S2048x2x2048, .f32⟩
  | 65 => ⟨S2048x1x2048, .f32⟩
  | 66 => ⟨S2048x2048, .f32⟩
  | 67 => ⟨S2048x1x2048, .f32⟩
  | 68 => ⟨S2048x2048, .f32⟩
  | 69 => ⟨S1x2048, .f32⟩
  | 70 => ⟨S2047x2048, .f32⟩
  | 71 => ⟨S_, .f32⟩
  | 72 => ⟨S2048x2048, .f32⟩
  | 73 => ⟨S1x2048, .f32⟩
  | 74 => ⟨S2047x2048, .f32⟩
  | 75 => ⟨S_, .f32⟩
  | 76 => ⟨S2048x2048, .f32⟩
  | 77 => ⟨S2047x2048, .f32⟩
  | 78 => ⟨S2047x2048, .f32⟩
  | 79 => ⟨S2047x2048, .f32⟩
  | 80 => ⟨S2047x2048, .f32⟩
  | 81 => ⟨S2047x2048, .f32⟩
  | 82 => ⟨S2047x2048, .f32⟩
  | 83 => ⟨S2047x2048, .f32⟩
  | 84 => ⟨S2047x2048, .f32⟩
  | 85 => ⟨S2047x2048, .f32⟩
  | 86 => ⟨S2047x2048, .f32⟩
  | 87 => ⟨S2047x2048, .f32⟩
  | 88 => ⟨S2047x2048, .f32⟩
  | 89 => ⟨S2047x2048, .f32⟩
  | 90 => ⟨S_, .f32⟩
  | 91 => ⟨S2048x2048, .f32⟩
  | 92 => ⟨S2048x2048, .f32⟩
  | 93 => ⟨S_, .f32⟩
  | 94 => ⟨S2048x2048, .f32⟩
  | 95 => ⟨S2048x2048, .f32⟩
  | 96 => ⟨S_, .f32⟩
  | 97 => ⟨S2048x2048, .f32⟩
  | 98 => ⟨S_, .f32⟩
  | 99 => ⟨S2048x2048, .f32⟩
  | 100 => ⟨S_, .f32⟩
  | 101 => ⟨S2048x2048, .f32⟩
  | 102 => ⟨S2048x2048, .f32⟩
  | 103 => ⟨S_, .f32⟩
  | 104 => ⟨S2048x2048, .f32⟩
  | 105 => ⟨S2048x2048, .f32⟩
  | 106 => ⟨S1024x2x2048, .f32⟩
  | 107 => ⟨S1024x1x2048, .f32⟩
  | 108 => ⟨S1024x2048, .f32⟩
  | 109 => ⟨S1024x1x2048, .f32⟩
  | 110 => ⟨S1024x2048, .f32⟩
  | 111 => ⟨S1024x2x2048, .f32⟩
  | 112 => ⟨S1024x1x2048, .f32⟩
  | 113 => ⟨S1024x2048, .f32⟩
  | 114 => ⟨S1024x1x2048, .f32⟩
  | 115 => ⟨S1024x2048, .f32⟩
  | 116 => ⟨S1x2048, .f32⟩
  | 117 => ⟨S1023x2048, .f32⟩
  | 118 => ⟨S_, .f32⟩
  | 119 => ⟨S1024x2048, .f32⟩
  | 120 => ⟨S1x2048, .f32⟩
  | 121 => ⟨S1023x2048, .f32⟩
  | 122 => ⟨S_, .f32⟩
  | 123 => ⟨S1024x2048, .f32⟩
  | 124 => ⟨S1023x2048, .f32⟩
  | 125 => ⟨S1023x2048, .f32⟩
  | 126 => ⟨S1023x2048, .f32⟩
  | 127 => ⟨S1023x2048, .f32⟩
  | _ => ⟨S4096x512, .f32⟩

abbrev hbmTy0_7 (i : Nat) : BufTy := match i % 128 with
  | 0 => ⟨S1023x2048, .f32⟩
  | 1 => ⟨S1023x2048, .f32⟩
  | 2 => ⟨S1023x2048, .f32⟩
  | 3 => ⟨S1023x2048, .f32⟩
  | 4 => ⟨S1023x2048, .f32⟩
  | 5 => ⟨S1023x2048, .f32⟩
  | 6 => ⟨S1023x2048, .f32⟩
  | 7 => ⟨S1023x2048, .f32⟩
  | 8 => ⟨S1023x2048, .f32⟩
  | 9 => ⟨S_, .f32⟩
  | 10 => ⟨S1024x2048, .f32⟩
  | 11 => ⟨S1024x2048, .f32⟩
  | 12 => ⟨S_, .f32⟩
  | 13 => ⟨S1024x2048, .f32⟩
  | 14 => ⟨S1024x2048, .f32⟩
  | 15 => ⟨S_, .f32⟩
  | 16 => ⟨S1024x2048, .f32⟩
  | 17 => ⟨S_, .f32⟩
  | 18 => ⟨S1024x2048, .f32⟩
  | 19 => ⟨S_, .f32⟩
  | 20 => ⟨S1024x2048, .f32⟩
  | 21 => ⟨S1024x2048, .f32⟩
  | 22 => ⟨S_, .f32⟩
  | 23 => ⟨S1024x2048, .f32⟩
  | 24 => ⟨S1024x2048, .f32⟩
  | 25 => ⟨S512x2x2048, .f32⟩
  | 26 => ⟨S512x1x2048, .f32⟩
  | 27 => ⟨S512x2048, .f32⟩
  | 28 => ⟨S512x1x2048, .f32⟩
  | 29 => ⟨S512x2048, .f32⟩
  | 30 => ⟨S512x2x2048, .f32⟩
  | 31 => ⟨S512x1x2048, .f32⟩
  | 32 => ⟨S512x2048, .f32⟩
  | 33 => ⟨S512x1x2048, .f32⟩
  | 34 => ⟨S512x2048, .f32⟩
  | 35 => ⟨S1x2048, .f32⟩
  | 36 => ⟨S511x2048, .f32⟩
  | 37 => ⟨S_, .f32⟩
  | 38 => ⟨S512x2048, .f32⟩
  | 39 => ⟨S1x2048, .f32⟩
  | 40 => ⟨S511x2048, .f32⟩
  | 41 => ⟨S_, .f32⟩
  | 42 => ⟨S512x2048, .f32⟩
  | 43 => ⟨S511x2048, .f32⟩
  | 44 => ⟨S511x2048, .f32⟩
  | 45 => ⟨S511x2048, .f32⟩
  | 46 => ⟨S511x2048, .f32⟩
  | 47 => ⟨S511x2048, .f32⟩
  | 48 => ⟨S511x2048, .f32⟩
  | 49 => ⟨S511x2048, .f32⟩
  | 50 => ⟨S511x2048, .f32⟩
  | 51 => ⟨S511x2048, .f32⟩
  | 52 => ⟨S511x2048, .f32⟩
  | 53 => ⟨S511x2048, .f32⟩
  | 54 => ⟨S511x2048, .f32⟩
  | 55 => ⟨S511x2048, .f32⟩
  | 56 => ⟨S_, .f32⟩
  | 57 => ⟨S512x2048, .f32⟩
  | 58 => ⟨S512x2048, .f32⟩
  | 59 => ⟨S_, .f32⟩
  | 60 => ⟨S512x2048, .f32⟩
  | 61 => ⟨S512x2048, .f32⟩
  | 62 => ⟨S_, .f32⟩
  | 63 => ⟨S512x2048, .f32⟩
  | 64 => ⟨S_, .f32⟩
  | 65 => ⟨S512x2048, .f32⟩
  | 66 => ⟨S_, .f32⟩
  | 67 => ⟨S512x2048, .f32⟩
  | 68 => ⟨S512x2048, .f32⟩
  | 69 => ⟨S_, .f32⟩
  | 70 => ⟨S512x2048, .f32⟩
  | 71 => ⟨S512x2048, .f32⟩
  | 72 => ⟨S256x2x2048, .f32⟩
  | 73 => ⟨S256x1x2048, .f32⟩
  | 74 => ⟨S256x2048, .f32⟩
  | 75 => ⟨S256x1x2048, .f32⟩
  | 76 => ⟨S256x2048, .f32⟩
  | 77 => ⟨S256x2x2048, .f32⟩
  | 78 => ⟨S256x1x2048, .f32⟩
  | 79 => ⟨S256x2048, .f32⟩
  | 80 => ⟨S256x1x2048, .f32⟩
  | 81 => ⟨S256x2048, .f32⟩
  | 82 => ⟨S1x2048, .f32⟩
  | 83 => ⟨S255x2048, .f32⟩
  | 84 => ⟨S_, .f32⟩
  | 85 => ⟨S256x2048, .f32⟩
  | 86 => ⟨S1x2048, .f32⟩
  | 87 => ⟨S255x2048, .f32⟩
  | 88 => ⟨S_, .f32⟩
  | 89 => ⟨S256x2048, .f32⟩
  | 90 => ⟨S255x2048, .f32⟩
  | 91 => ⟨S255x2048, .f32⟩
  | 92 => ⟨S255x2048, .f32⟩
  | 93 => ⟨S255x2048, .f32⟩
  | 94 => ⟨S255x2048, .f32⟩
  | 95 => ⟨S255x2048, .f32⟩
  | 96 => ⟨S255x2048, .f32⟩
  | 97 => ⟨S255x2048, .f32⟩
  | 98 => ⟨S255x2048, .f32⟩
  | 99 => ⟨S255x2048, .f32⟩
  | 100 => ⟨S255x2048, .f32⟩
  | 101 => ⟨S255x2048, .f32⟩
  | 102 => ⟨S255x2048, .f32⟩
  | 103 => ⟨S_, .f32⟩
  | 104 => ⟨S256x2048, .f32⟩
  | 105 => ⟨S256x2048, .f32⟩
  | 106 => ⟨S_, .f32⟩
  | 107 => ⟨S256x2048, .f32⟩
  | 108 => ⟨S256x2048, .f32⟩
  | 109 => ⟨S_, .f32⟩
  | 110 => ⟨S256x2048, .f32⟩
  | 111 => ⟨S_, .f32⟩
  | 112 => ⟨S256x2048, .f32⟩
  | 113 => ⟨S_, .f32⟩
  | 114 => ⟨S256x2048, .f32⟩
  | 115 => ⟨S256x2048, .f32⟩
  | 116 => ⟨S_, .f32⟩
  | 117 => ⟨S256x2048, .f32⟩
  | 118 => ⟨S256x2048, .f32⟩
  | 119 => ⟨S128x2x2048, .f32⟩
  | 120 => ⟨S128x1x2048, .f32⟩
  | 121 => ⟨S128x2048, .f32⟩
  | 122 => ⟨S128x1x2048, .f32⟩
  | 123 => ⟨S128x2048, .f32⟩
  | 124 => ⟨S128x2x2048, .f32⟩
  | 125 => ⟨S128x1x2048, .f32⟩
  | 126 => ⟨S128x2048, .f32⟩
  | 127 => ⟨S128x1x2048, .f32⟩
  | _ => ⟨S4096x512, .f32⟩

abbrev hbmTy0_8 (i : Nat) : BufTy := match i % 128 with
  | 0 => ⟨S128x2048, .f32⟩
  | 1 => ⟨S1x2048, .f32⟩
  | 2 => ⟨S127x2048, .f32⟩
  | 3 => ⟨S_, .f32⟩
  | 4 => ⟨S128x2048, .f32⟩
  | 5 => ⟨S1x2048, .f32⟩
  | 6 => ⟨S127x2048, .f32⟩
  | 7 => ⟨S_, .f32⟩
  | 8 => ⟨S128x2048, .f32⟩
  | 9 => ⟨S127x2048, .f32⟩
  | 10 => ⟨S127x2048, .f32⟩
  | 11 => ⟨S127x2048, .f32⟩
  | 12 => ⟨S127x2048, .f32⟩
  | 13 => ⟨S127x2048, .f32⟩
  | 14 => ⟨S127x2048, .f32⟩
  | 15 => ⟨S127x2048, .f32⟩
  | 16 => ⟨S127x2048, .f32⟩
  | 17 => ⟨S127x2048, .f32⟩
  | 18 => ⟨S127x2048, .f32⟩
  | 19 => ⟨S127x2048, .f32⟩
  | 20 => ⟨S127x2048, .f32⟩
  | 21 => ⟨S127x2048, .f32⟩
  | 22 => ⟨S_, .f32⟩
  | 23 => ⟨S128x2048, .f32⟩
  | 24 => ⟨S128x2048, .f32⟩
  | 25 => ⟨S_, .f32⟩
  | 26 => ⟨S128x2048, .f32⟩
  | 27 => ⟨S128x2048, .f32⟩
  | 28 => ⟨S_, .f32⟩
  | 29 => ⟨S128x2048, .f32⟩
  | 30 => ⟨S_, .f32⟩
  | 31 => ⟨S128x2048, .f32⟩
  | 32 => ⟨S_, .f32⟩
  | 33 => ⟨S128x2048, .f32⟩
  | 34 => ⟨S128x2048, .f32⟩
  | 35 => ⟨S_, .f32⟩
  | 36 => ⟨S128x2048, .f32⟩
  | 37 => ⟨S128x2048, .f32⟩
  | 38 => ⟨S64x2x2048, .f32⟩
  | 39 => ⟨S64x1x2048, .f32⟩
  | 40 => ⟨S64x2048, .f32⟩
  | 41 => ⟨S64x1x2048, .f32⟩
  | 42 => ⟨S64x2048, .f32⟩
  | 43 => ⟨S64x2x2048, .f32⟩
  | 44 => ⟨S64x1x2048, .f32⟩
  | 45 => ⟨S64x2048, .f32⟩
  | 46 => ⟨S64x1x2048, .f32⟩
  | 47 => ⟨S64x2048, .f32⟩
  | 48 => ⟨S1x2048, .f32⟩
  | 49 => ⟨S63x2048, .f32⟩
  | 50 => ⟨S_, .f32⟩
  | 51 => ⟨S64x2048, .f32⟩
  | 52 => ⟨S1x2048, .f32⟩
  | 53 => ⟨S63x2048, .f32⟩
  | 54 => ⟨S_, .f32⟩
  | 55 => ⟨S64x2048, .f32⟩
  | 56 => ⟨S63x2048, .f32⟩
  | 57 => ⟨S63x2048, .f32⟩
  | 58 => ⟨S63x2048, .f32⟩
  | 59 => ⟨S63x2048, .f32⟩
  | 60 => ⟨S63x2048, .f32⟩
  | 61 => ⟨S63x2048, .f32⟩
  | 62 => ⟨S63x2048, .f32⟩
  | 63 => ⟨S63x2048, .f32⟩
  | 64 => ⟨S63x2048, .f32⟩
  | 65 => ⟨S63x2048, .f32⟩
  | 66 => ⟨S63x2048, .f32⟩
  | 67 => ⟨S63x2048, .f32⟩
  | 68 => ⟨S63x2048, .f32⟩
  | 69 => ⟨S_, .f32⟩
  | 70 => ⟨S64x2048, .f32⟩
  | 71 => ⟨S64x2048, .f32⟩
  | 72 => ⟨S_, .f32⟩
  | 73 => ⟨S64x2048, .f32⟩
  | 74 => ⟨S64x2048, .f32⟩
  | 75 => ⟨S_, .f32⟩
  | 76 => ⟨S64x2048, .f32⟩
  | 77 => ⟨S_, .f32⟩
  | 78 => ⟨S64x2048, .f32⟩
  | 79 => ⟨S_, .f32⟩
  | 80 => ⟨S64x2048, .f32⟩
  | 81 => ⟨S64x2048, .f32⟩
  | 82 => ⟨S_, .f32⟩
  | 83 => ⟨S64x2048, .f32⟩
  | 84 => ⟨S64x2048, .f32⟩
  | 85 => ⟨S32x2x2048, .f32⟩
  | 86 => ⟨S32x1x2048, .f32⟩
  | 87 => ⟨S32x2048, .f32⟩
  | 88 => ⟨S32x1x2048, .f32⟩
  | 89 => ⟨S32x2048, .f32⟩
  | 90 => ⟨S32x2x2048, .f32⟩
  | 91 => ⟨S32x1x2048, .f32⟩
  | 92 => ⟨S32x2048, .f32⟩
  | 93 => ⟨S32x1x2048, .f32⟩
  | 94 => ⟨S32x2048, .f32⟩
  | 95 => ⟨S1x2048, .f32⟩
  | 96 => ⟨S31x2048, .f32⟩
  | 97 => ⟨S_, .f32⟩
  | 98 => ⟨S32x2048, .f32⟩
  | 99 => ⟨S1x2048, .f32⟩
  | 100 => ⟨S31x2048, .f32⟩
  | 101 => ⟨S_, .f32⟩
  | 102 => ⟨S32x2048, .f32⟩
  | 103 => ⟨S31x2048, .f32⟩
  | 104 => ⟨S31x2048, .f32⟩
  | 105 => ⟨S31x2048, .f32⟩
  | 106 => ⟨S31x2048, .f32⟩
  | 107 => ⟨S31x2048, .f32⟩
  | 108 => ⟨S31x2048, .f32⟩
  | 109 => ⟨S31x2048, .f32⟩
  | 110 => ⟨S31x2048, .f32⟩
  | 111 => ⟨S31x2048, .f32⟩
  | 112 => ⟨S31x2048, .f32⟩
  | 113 => ⟨S31x2048, .f32⟩
  | 114 => ⟨S31x2048, .f32⟩
  | 115 => ⟨S31x2048, .f32⟩
  | 116 => ⟨S_, .f32⟩
  | 117 => ⟨S32x2048, .f32⟩
  | 118 => ⟨S32x2048, .f32⟩
  | 119 => ⟨S_, .f32⟩
  | 120 => ⟨S32x2048, .f32⟩
  | 121 => ⟨S32x2048, .f32⟩
  | 122 => ⟨S_, .f32⟩
  | 123 => ⟨S32x2048, .f32⟩
  | 124 => ⟨S_, .f32⟩
  | 125 => ⟨S32x2048, .f32⟩
  | 126 => ⟨S_, .f32⟩
  | 127 => ⟨S32x2048, .f32⟩
  | _ => ⟨S4096x512, .f32⟩

abbrev hbmTy0_9 (i : Nat) : BufTy := match i % 128 with
  | 0 => ⟨S32x2048, .f32⟩
  | 1 => ⟨S_, .f32⟩
  | 2 => ⟨S32x2048, .f32⟩
  | 3 => ⟨S32x2048, .f32⟩
  | 4 => ⟨S16x2x2048, .f32⟩
  | 5 => ⟨S16x1x2048, .f32⟩
  | 6 => ⟨S16x2048, .f32⟩
  | 7 => ⟨S16x1x2048, .f32⟩
  | 8 => ⟨S16x2048, .f32⟩
  | 9 => ⟨S16x2x2048, .f32⟩
  | 10 => ⟨S16x1x2048, .f32⟩
  | 11 => ⟨S16x2048, .f32⟩
  | 12 => ⟨S16x1x2048, .f32⟩
  | 13 => ⟨S16x2048, .f32⟩
  | 14 => ⟨S1x2048, .f32⟩
  | 15 => ⟨S15x2048, .f32⟩
  | 16 => ⟨S_, .f32⟩
  | 17 => ⟨S16x2048, .f32⟩
  | 18 => ⟨S1x2048, .f32⟩
  | 19 => ⟨S15x2048, .f32⟩
  | 20 => ⟨S_, .f32⟩
  | 21 => ⟨S16x2048, .f32⟩
  | 22 => ⟨S15x2048, .f32⟩
  | 23 => ⟨S15x2048, .f32⟩
  | 24 => ⟨S15x2048, .f32⟩
  | 25 => ⟨S15x2048, .f32⟩
  | 26 => ⟨S15x2048, .f32⟩
  | 27 => ⟨S15x2048, .f32⟩
  | 28 => ⟨S15x2048, .f32⟩
  | 29 => ⟨S15x2048, .f32⟩
  | 30 => ⟨S15x2048, .f32⟩
  | 31 => ⟨S15x2048, .f32⟩
  | 32 => ⟨S15x2048, .f32⟩
  | 33 => ⟨S15x2048, .f32⟩
  | 34 => ⟨S15x2048, .f32⟩
  | 35 => ⟨S_, .f32⟩
  | 36 => ⟨S16x2048, .f32⟩
  | 37 => ⟨S16x2048, .f32⟩
  | 38 => ⟨S_, .f32⟩
  | 39 => ⟨S16x2048, .f32⟩
  | 40 => ⟨S16x2048, .f32⟩
  | 41 => ⟨S_, .f32⟩
  | 42 => ⟨S16x2048, .f32⟩
  | 43 => ⟨S_, .f32⟩
  | 44 => ⟨S16x2048, .f32⟩
  | 45 => ⟨S_, .f32⟩
  | 46 => ⟨S16x2048, .f32⟩
  | 47 => ⟨S16x2048, .f32⟩
  | 48 => ⟨S_, .f32⟩
  | 49 => ⟨S16x2048, .f32⟩
  | 50 => ⟨S16x2048, .f32⟩
  | 51 => ⟨S8x2x2048, .f32⟩
  | 52 => ⟨S8x1x2048, .f32⟩
  | 53 => ⟨S8x2048, .f32⟩
  | 54 => ⟨S8x1x2048, .f32⟩
  | 55 => ⟨S8x2048, .f32⟩
  | 56 => ⟨S8x2x2048, .f32⟩
  | 57 => ⟨S8x1x2048, .f32⟩
  | 58 => ⟨S8x2048, .f32⟩
  | 59 => ⟨S8x1x2048, .f32⟩
  | 60 => ⟨S8x2048, .f32⟩
  | 61 => ⟨S1x2048, .f32⟩
  | 62 => ⟨S7x2048, .f32⟩
  | 63 => ⟨S_, .f32⟩
  | 64 => ⟨S8x2048, .f32⟩
  | 65 => ⟨S1x2048, .f32⟩
  | 66 => ⟨S7x2048, .f32⟩
  | 67 => ⟨S_, .f32⟩
  | 68 => ⟨S8x2048, .f32⟩
  | 69 => ⟨S7x2048, .f32⟩
  | 70 => ⟨S7x2048, .f32⟩
  | 71 => ⟨S7x2048, .f32⟩
  | 72 => ⟨S7x2048, .f32⟩
  | 73 => ⟨S7x2048, .f32⟩
  | 74 => ⟨S7x2048, .f32⟩
  | 75 => ⟨S7x2048, .f32⟩
  | 76 => ⟨S7x2048, .f32⟩
  | 77 => ⟨S7x2048, .f32⟩
  | 78 => ⟨S7x2048, .f32⟩
  | 79 => ⟨S7x2048, .f32⟩
  | 80 => ⟨S7x2048, .f32⟩
  | 81 => ⟨S7x2048, .f32⟩
  | 82 => ⟨S_, .f32⟩
  | 83 => ⟨S8x2048, .f32⟩
  | 84 => ⟨S8x2048, .f32⟩
  | 85 => ⟨S_, .f32⟩
  | 86 => ⟨S8x2048, .f32⟩
  | 87 => ⟨S8x2048, .f32⟩
  | 88 => ⟨S_, .f32⟩
  | 89 => ⟨S8x2048, .f32⟩
  | 90 => ⟨S_, .f32⟩
  | 91 => ⟨S8x2048, .f32⟩
  | 92 => ⟨S_, .f32⟩
  | 93 => ⟨S8x2048, .f32⟩
  | 94 => ⟨S8x2048, .f32⟩
  | 95 => ⟨S_, .f32⟩
  | 96 => ⟨S8x2048, .f32⟩
  | 97 => ⟨S8x2048, .f32⟩
  | 98 => ⟨S4x2x2048, .f32⟩
  | 99 => ⟨S4x1x2048, .f32⟩
  | 100 => ⟨S4x2048, .f32⟩
  | 101 => ⟨S4x1x2048, .f32⟩
  | 102 => ⟨S4x2048, .f32⟩
  | 103 => ⟨S4x2x2048, .f32⟩
  | 104 => ⟨S4x1x2048, .f32⟩
  | 105 => ⟨S4x2048, .f32⟩
  | 106 => ⟨S4x1x2048, .f32⟩
  | 107 => ⟨S4x2048, .f32⟩
  | 108 => ⟨S1x2048, .f32⟩
  | 109 => ⟨S3x2048, .f32⟩
  | 110 => ⟨S_, .f32⟩
  | 111 => ⟨S4x2048, .f32⟩
  | 112 => ⟨S1x2048, .f32⟩
  | 113 => ⟨S3x2048, .f32⟩
  | 114 => ⟨S_, .f32⟩
  | 115 => ⟨S4x2048, .f32⟩
  | 116 => ⟨S3x2048, .f32⟩
  | 117 => ⟨S3x2048, .f32⟩
  | 118 => ⟨S3x2048, .f32⟩
  | 119 => ⟨S3x2048, .f32⟩
  | 120 => ⟨S3x2048, .f32⟩
  | 121 => ⟨S3x2048, .f32⟩
  | 122 => ⟨S3x2048, .f32⟩
  | 123 => ⟨S3x2048, .f32⟩
  | 124 => ⟨S3x2048, .f32⟩
  | 125 => ⟨S3x2048, .f32⟩
  | 126 => ⟨S3x2048, .f32⟩
  | 127 => ⟨S3x2048, .f32⟩
  | _ => ⟨S4096x512, .f32⟩

abbrev hbmTy0_10 (i : Nat) : BufTy := match i % 128 with
  | 0 => ⟨S3x2048, .f32⟩
  | 1 => ⟨S_, .f32⟩
  | 2 => ⟨S4x2048, .f32⟩
  | 3 => ⟨S4x2048, .f32⟩
  | 4 => ⟨S_, .f32⟩
  | 5 => ⟨S4x2048, .f32⟩
  | 6 => ⟨S4x2048, .f32⟩
  | 7 => ⟨S_, .f32⟩
  | 8 => ⟨S4x2048, .f32⟩
  | 9 => ⟨S_, .f32⟩
  | 10 => ⟨S4x2048, .f32⟩
  | 11 => ⟨S_, .f32⟩
  | 12 => ⟨S4x2048, .f32⟩
  | 13 => ⟨S4x2048, .f32⟩
  | 14 => ⟨S_, .f32⟩
  | 15 => ⟨S4x2048, .f32⟩
  | 16 => ⟨S4x2048, .f32⟩
  | 17 => ⟨S2x2x2048, .f32⟩
  | 18 => ⟨S2x1x2048, .f32⟩
  | 19 => ⟨S2x2048, .f32⟩
  | 20 => ⟨S2x1x2048, .f32⟩
  | 21 => ⟨S2x2048, .f32⟩
  | 22 => ⟨S2x2x2048, .f32⟩
  | 23 => ⟨S2x1x2048, .f32⟩
  | 24 => ⟨S2x2048, .f32⟩
  | 25 => ⟨S2x1x2048, .f32⟩
  | 26 => ⟨S2x2048, .f32⟩
  | 27 => ⟨S1x2048, .f32⟩
  | 28 => ⟨S1x2048, .f32⟩
  | 29 => ⟨S_, .f32⟩
  | 30 => ⟨S2x2048, .f32⟩
  | 31 => ⟨S1x2048, .f32⟩
  | 32 => ⟨S1x2048, .f32⟩
  | 33 => ⟨S_, .f32⟩
  | 34 => ⟨S2x2048, .f32⟩
  | 35 => ⟨S1x2048, .f32⟩
  | 36 => ⟨S1x2048, .f32⟩
  | 37 => ⟨S1x2048, .f32⟩
  | 38 => ⟨S1x2048, .f32⟩
  | 39 => ⟨S1x2048, .f32⟩
  | 40 => ⟨S1x2048, .f32⟩
  | 41 => ⟨S1x2048, .f32⟩
  | 42 => ⟨S1x2048, .f32⟩
  | 43 => ⟨S1x2048, .f32⟩
  | 44 => ⟨S1x2048, .f32⟩
  | 45 => ⟨S1x2048, .f32⟩
  | 46 => ⟨S1x2048, .f32⟩
  | 47 => ⟨S1x2048, .f32⟩
  | 48 => ⟨S_, .f32⟩
  | 49 => ⟨S2x2048, .f32⟩
  | 50 => ⟨S2x2048, .f32⟩
  | 51 => ⟨S_, .f32⟩
  | 52 => ⟨S2x2048, .f32⟩
  | 53 => ⟨S2x2048, .f32⟩
  | 54 => ⟨S_, .f32⟩
  | 55 => ⟨S2x2048, .f32⟩
  | 56 => ⟨S_, .f32⟩
  | 57 => ⟨S2x2048, .f32⟩
  | 58 => ⟨S_, .f32⟩
  | 59 => ⟨S2x2048, .f32⟩
  | 60 => ⟨S2x2048, .f32⟩
  | 61 => ⟨S_, .f32⟩
  | 62 => ⟨S2x2048, .f32⟩
  | 63 => ⟨S2x2048, .f32⟩
  | 64 => ⟨S1x2x2048, .f32⟩
  | 65 => ⟨S1x1x2048, .f32⟩
  | 66 => ⟨S1x2048, .f32⟩
  | 67 => ⟨S1x1x2048, .f32⟩
  | 68 => ⟨S1x2048, .f32⟩
  | 69 => ⟨S1x2x2048, .f32⟩
  | 70 => ⟨S1x1x2048, .f32⟩
  | 71 => ⟨S1x2048, .f32⟩
  | 72 => ⟨S1x1x2048, .f32⟩
  | 73 => ⟨S1x2048, .f32⟩
  | 74 => ⟨S1x2048, .f32⟩
  | 75 => ⟨S1x2048, .f32⟩
  | 76 => ⟨S1x2048, .f32⟩
  | 77 => ⟨S1x2048, .f32⟩
  | 78 => ⟨S1x2048, .f32⟩
  | 79 => ⟨S1x2048, .f32⟩
  | 80 => ⟨S1x2048, .f32⟩
  | 81 => ⟨S1x2048, .f32⟩
  | 82 => ⟨S1x2048, .f32⟩
  | 83 => ⟨S1x2048, .f32⟩
  | 84 => ⟨S1x2048, .f32⟩
  | 85 => ⟨S1x2048, .f32⟩
  | 86 => ⟨S1x2048, .f32⟩
  | 87 => ⟨S1x2048, .f32⟩
  | 88 => ⟨S1x2048, .f32⟩
  | 89 => ⟨S_, .f32⟩
  | 90 => ⟨S2x2048, .f32⟩
  | 91 => ⟨S_, .f32⟩
  | 92 => ⟨S2x2048, .f32⟩
  | 93 => ⟨S_, .f32⟩
  | 94 => ⟨S2x2048, .f32⟩
  | 95 => ⟨S_, .f32⟩
  | 96 => ⟨S2x2048, .f32⟩
  | 97 => ⟨S_, .f32⟩
  | 98 => ⟨S2x2048, .f32⟩
  | 99 => ⟨S2x2048, .f32⟩
  | 100 => ⟨S_, .f32⟩
  | 101 => ⟨S2x2048, .f32⟩
  | 102 => ⟨S2x2048, .f32⟩
  | 103 => ⟨S2x2048, .f32⟩
  | 104 => ⟨S2x2048, .f32⟩
  | 105 => ⟨S2x2048, .f32⟩
  | 106 => ⟨S2x2048, .f32⟩
  | 107 => ⟨S2x2048, .f32⟩
  | 108 => ⟨S2x2048, .f32⟩
  | 109 => ⟨S2x2048, .f32⟩
  | 110 => ⟨S2x2048, .f32⟩
  | 111 => ⟨S2x2048, .f32⟩
  | 112 => ⟨S2x2048, .f32⟩
  | 113 => ⟨S2x2048, .f32⟩
  | 114 => ⟨S2x2048, .f32⟩
  | 115 => ⟨S2x2048, .f32⟩
  | 116 => ⟨S2x2048, .f32⟩
  | 117 => ⟨S2x2048, .f32⟩
  | 118 => ⟨S2x2048, .f32⟩
  | 119 => ⟨S2x2048, .f32⟩
  | 120 => ⟨S2x2048, .f32⟩
  | 121 => ⟨S2x2048, .f32⟩
  | 122 => ⟨S2x2048, .f32⟩
  | 123 => ⟨S2x2048, .f32⟩
  | 124 => ⟨S2x2048, .f32⟩
  | 125 => ⟨S2x2048, .f32⟩
  | 126 => ⟨S2x2048, .f32⟩
  | 127 => ⟨S2x2048, .f32⟩
  | _ => ⟨S4096x512, .f32⟩

abbrev hbmTy0_11 (i : Nat) : BufTy := match i % 128 with
  | 0 => ⟨S2x2048, .f32⟩
  | 1 => ⟨S2x2048, .f32⟩
  | 2 => ⟨S2x2048, .f32⟩
  | 3 => ⟨S2x2048, .f32⟩
  | 4 => ⟨S2x2048, .f32⟩
  | 5 => ⟨S2x2048, .f32⟩
  | 6 => ⟨S2x2048, .f32⟩
  | 7 => ⟨S_, .f32⟩
  | 8 => ⟨S4x2048, .f32⟩
  | 9 => ⟨S_, .f32⟩
  | 10 => ⟨S4x2048, .f32⟩
  | 11 => ⟨S_, .f32⟩
  | 12 => ⟨S4x2048, .f32⟩
  | 13 => ⟨S_, .f32⟩
  | 14 => ⟨S4x2048, .f32⟩
  | 15 => ⟨S_, .f32⟩
  | 16 => ⟨S4x2048, .f32⟩
  | 17 => ⟨S4x2048, .f32⟩
  | 18 => ⟨S_, .f32⟩
  | 19 => ⟨S4x2048, .f32⟩
  | 20 => ⟨S4x2048, .f32⟩
  | 21 => ⟨S_, .f32⟩
  | 22 => ⟨S4x2048, .f32⟩
  | 23 => ⟨S4x2048, .f32⟩
  | 24 => ⟨S_, .f32⟩
  | 25 => ⟨S4x2048, .f32⟩
  | 26 => ⟨S4x2048, .f32⟩
  | 27 => ⟨S4x2048, .f32⟩
  | 28 => ⟨S4x2048, .f32⟩
  | 29 => ⟨S4x2048, .f32⟩
  | 30 => ⟨S4x2048, .f32⟩
  | 31 => ⟨S4x2048, .f32⟩
  | 32 => ⟨S4x2048, .f32⟩
  | 33 => ⟨S4x2048, .f32⟩
  | 34 => ⟨S4x2048, .f32⟩
  | 35 => ⟨S4x2048, .f32⟩
  | 36 => ⟨S4x2048, .f32⟩
  | 37 => ⟨S4x2048, .f32⟩
  | 38 => ⟨S4x2048, .f32⟩
  | 39 => ⟨S4x2048, .f32⟩
  | 40 => ⟨S4x2048, .f32⟩
  | 41 => ⟨S4x2048, .f32⟩
  | 42 => ⟨S4x2048, .f32⟩
  | 43 => ⟨S4x2048, .f32⟩
  | 44 => ⟨S4x2048, .f32⟩
  | 45 => ⟨S4x2048, .f32⟩
  | 46 => ⟨S4x2048, .f32⟩
  | 47 => ⟨S4x2048, .f32⟩
  | 48 => ⟨S4x2048, .f32⟩
  | 49 => ⟨S4x2048, .f32⟩
  | 50 => ⟨S4x2048, .f32⟩
  | 51 => ⟨S4x2048, .f32⟩
  | 52 => ⟨S4x2048, .f32⟩
  | 53 => ⟨S4x2048, .f32⟩
  | 54 => ⟨S4x2048, .f32⟩
  | 55 => ⟨S4x2048, .f32⟩
  | 56 => ⟨S4x2048, .f32⟩
  | 57 => ⟨S4x2048, .f32⟩
  | 58 => ⟨S4x2048, .f32⟩
  | 59 => ⟨S_, .f32⟩
  | 60 => ⟨S8x2048, .f32⟩
  | 61 => ⟨S_, .f32⟩
  | 62 => ⟨S8x2048, .f32⟩
  | 63 => ⟨S_, .f32⟩
  | 64 => ⟨S8x2048, .f32⟩
  | 65 => ⟨S_, .f32⟩
  | 66 => ⟨S8x2048, .f32⟩
  | 67 => ⟨S_, .f32⟩
  | 68 => ⟨S8x2048, .f32⟩
  | 69 => ⟨S8x2048, .f32⟩
  | 70 => ⟨S_, .f32⟩
  | 71 => ⟨S8x2048, .f32⟩
  | 72 => ⟨S8x2048, .f32⟩
  | 73 => ⟨S_, .f32⟩
  | 74 => ⟨S8x2048, .f32⟩
  | 75 => ⟨S8x2048, .f32⟩
  | 76 => ⟨S_, .f32⟩
  | 77 => ⟨S8x2048, .f32⟩
  | 78 => ⟨S8x2048, .f32⟩
  | 79 => ⟨S8x2048, .f32⟩
  | 80 => ⟨S8x2048, .f32⟩
  | 81 => ⟨S8x2048, .f32⟩
  | 82 => ⟨S8x2048, .f32⟩
  | 83 => ⟨S8x2048, .f32⟩
  | 84 => ⟨S8x2048, .f32⟩
  | 85 => ⟨S8x2048, .f32⟩
  | 86 => ⟨S8x2048, .f32⟩
  | 87 => ⟨S8x2048, .f32⟩
  | 88 => ⟨S8x2048, .f32⟩
  | 89 => ⟨S8x2048, .f32⟩
  | 90 => ⟨S8x2048, .f32⟩
  | 91 => ⟨S8x2048, .f32⟩
  | 92 => ⟨S8x2048, .f32⟩
  | 93 => ⟨S8x2048, .f32⟩
  | 94 => ⟨S8x2048, .f32⟩
  | 95 => ⟨S8x2048, .f32⟩
  | 96 => ⟨S8x2048, .f32⟩
  | 97 => ⟨S8x2048, .f32⟩
  | 98 => ⟨S8x2048, .f32⟩
  | 99 => ⟨S8x2048, .f32⟩
  | 100 => ⟨S8x2048, .f32⟩
  | 101 => ⟨S8x2048, .f32⟩
  | 102 => ⟨S8x2048, .f32⟩
  | 103 => ⟨S8x2048, .f32⟩
  | 104 => ⟨S8x2048, .f32⟩
  | 105 => ⟨S8x2048, .f32⟩
  | 106 => ⟨S8x2048, .f32⟩
  | 107 => ⟨S8x2048, .f32⟩
  | 108 => ⟨S8x2048, .f32⟩
  | 109 => ⟨S8x2048, .f32⟩
  | 110 => ⟨S8x2048, .f32⟩
  | 111 => ⟨S_, .f32⟩
  | 112 => ⟨S16x2048, .f32⟩
  | 113 => ⟨S_, .f32⟩
  | 114 => ⟨S16x2048, .f32⟩
  | 115 => ⟨S_, .f32⟩
  | 116 => ⟨S16x2048, .f32⟩
  | 117 => ⟨S_, .f32⟩
  | 118 => ⟨S16x2048, .f32⟩
  | 119 => ⟨S_, .f32⟩
  | 120 => ⟨S16x2048, .f32⟩
  | 121 => ⟨S16x2048, .f32⟩
  | 122 => ⟨S_, .f32⟩
  | 123 => ⟨S16x2048, .f32⟩
  | 124 => ⟨S16x2048, .f32⟩
  | 125 => ⟨S_, .f32⟩
  | 126 => ⟨S16x2048, .f32⟩
  | 127 => ⟨S16x2048, .f32⟩
  | _ => ⟨S4096x512, .f32⟩

abbrev hbmTy0_12 (i : Nat) : BufTy := match i % 128 with
  | 0 => ⟨S_, .f32⟩
  | 1 => ⟨S16x2048, .f32⟩
  | 2 => ⟨S16x2048, .f32⟩
  | 3 => ⟨S16x2048, .f32⟩
  | 4 => ⟨S16x2048, .f32⟩
  | 5 => ⟨S16x2048, .f32⟩
  | 6 => ⟨S16x2048, .f32⟩
  | 7 => ⟨S16x2048, .f32⟩
  | 8 => ⟨S16x2048, .f32⟩
  | 9 => ⟨S16x2048, .f32⟩
  | 10 => ⟨S16x2048, .f32⟩
  | 11 => ⟨S16x2048, .f32⟩
  | 12 => ⟨S16x2048, .f32⟩
  | 13 => ⟨S16x2048, .f32⟩
  | 14 => ⟨S16x2048, .f32⟩
  | 15 => ⟨S16x2048, .f32⟩
  | 16 => ⟨S16x2048, .f32⟩
  | 17 => ⟨S16x2048, .f32⟩
  | 18 => ⟨S16x2048, .f32⟩
  | 19 => ⟨S16x2048, .f32⟩
  | 20 => ⟨S16x2048, .f32⟩
  | 21 => ⟨S16x2048, .f32⟩
  | 22 => ⟨S16x2048, .f32⟩
  | 23 => ⟨S16x2048, .f32⟩
  | 24 => ⟨S16x2048, .f32⟩
  | 25 => ⟨S16x2048, .f32⟩
  | 26 => ⟨S16x2048, .f32⟩
  | 27 => ⟨S16x2048, .f32⟩
  | 28 => ⟨S16x2048, .f32⟩
  | 29 => ⟨S16x2048, .f32⟩
  | 30 => ⟨S16x2048, .f32⟩
  | 31 => ⟨S16x2048, .f32⟩
  | 32 => ⟨S16x2048, .f32⟩
  | 33 => ⟨S16x2048, .f32⟩
  | 34 => ⟨S16x2048, .f32⟩
  | 35 => ⟨S_, .f32⟩
  | 36 => ⟨S32x2048, .f32⟩
  | 37 => ⟨S_, .f32⟩
  | 38 => ⟨S32x2048, .f32⟩
  | 39 => ⟨S_, .f32⟩
  | 40 => ⟨S32x2048, .f32⟩
  | 41 => ⟨S_, .f32⟩
  | 42 => ⟨S32x2048, .f32⟩
  | 43 => ⟨S_, .f32⟩
  | 44 => ⟨S32x2048, .f32⟩
  | 45 => ⟨S32x2048, .f32⟩
  | 46 => ⟨S_, .f32⟩
  | 47 => ⟨S32x2048, .f32⟩
  | 48 => ⟨S32x2048, .f32⟩
  | 49 => ⟨S_, .f32⟩
  | 50 => ⟨S32x2048, .f32⟩
  | 51 => ⟨S32x2048, .f32⟩
  | 52 => ⟨S_, .f32⟩
  | 53 => ⟨S32x2048, .f32⟩
  | 54 => ⟨S32x2048, .f32⟩
  | 55 => ⟨S32x2048, .f32⟩
  | 56 => ⟨S32x2048, .f32⟩
  | 57 => ⟨S32x2048, .f32⟩
  | 58 => ⟨S32x2048, .f32⟩
  | 59 => ⟨S32x2048, .f32⟩
  | 60 => ⟨S32x2048, .f32⟩
  | 61 => ⟨S32x2048, .f32⟩
  | 62 => ⟨S32x2048, .f32⟩
  | 63 => ⟨S32x2048, .f32⟩
  | 64 => ⟨S32x2048, .f32⟩
  | 65 => ⟨S32x2048, .f32⟩
  | 66 => ⟨S32x2048, .f32⟩
  | 67 => ⟨S32x2048, .f32⟩
  | 68 => ⟨S32x2048, .f32⟩
  | 69 => ⟨S32x2048, .f32⟩
  | 70 => ⟨S32x2048, .f32⟩
  | 71 => ⟨S32x2048, .f32⟩
  | 72 => ⟨S32x2048, .f32⟩
  | 73 => ⟨S32x2048, .f32⟩
  | 74 => ⟨S32x2048, .f32⟩
  | 75 => ⟨S32x2048, .f32⟩
  | 76 => ⟨S32x2048, .f32⟩
  | 77 => ⟨S32x2048, .f32⟩
  | 78 => ⟨S32x2048, .f32⟩
  | 79 => ⟨S32x2048, .f32⟩
  | 80 => ⟨S32x2048, .f32⟩
  | 81 => ⟨S32x2048, .f32⟩
  | 82 => ⟨S32x2048, .f32⟩
  | 83 => ⟨S32x2048, .f32⟩
  | 84 => ⟨S32x2048, .f32⟩
  | 85 => ⟨S32x2048, .f32⟩
  | 86 => ⟨S32x2048, .f32⟩
  | 87 => ⟨S_, .f32⟩
  | 88 => ⟨S64x2048, .f32⟩
  | 89 => ⟨S_, .f32⟩
  | 90 => ⟨S64x2048, .f32⟩
  | 91 => ⟨S_, .f32⟩
  | 92 => ⟨S64x2048, .f32⟩
  | 93 => ⟨S_, .f32⟩
  | 94 => ⟨S64x2048, .f32⟩
  | 95 => ⟨S_, .f32⟩
  | 96 => ⟨S64x2048, .f32⟩
  | 97 => ⟨S64x2048, .f32⟩
  | 98 => ⟨S_, .f32⟩
  | 99 => ⟨S64x2048, .f32⟩
  | 100 => ⟨S64x2048, .f32⟩
  | 101 => ⟨S_, .f32⟩
  | 102 => ⟨S64x2048, .f32⟩
  | 103 => ⟨S64x2048, .f32⟩
  | 104 => ⟨S_, .f32⟩
  | 105 => ⟨S64x2048, .f32⟩
  | 106 => ⟨S64x2048, .f32⟩
  | 107 => ⟨S64x2048, .f32⟩
  | 108 => ⟨S64x2048, .f32⟩
  | 109 => ⟨S64x2048, .f32⟩
  | 110 => ⟨S64x2048, .f32⟩
  | 111 => ⟨S64x2048, .f32⟩
  | 112 => ⟨S64x2048, .f32⟩
  | 113 => ⟨S64x2048, .f32⟩
  | 114 => ⟨S64x2048, .f32⟩
  | 115 => ⟨S64x2048, .f32⟩
  | 116 => ⟨S64x2048, .f32⟩
  | 117 => ⟨S64x2048, .f32⟩
  | 118 => ⟨S64x2048, .f32⟩
  | 119 => ⟨S64x2048, .f32⟩
  | 120 => ⟨S64x2048, .f32⟩
  | 121 => ⟨S64x2048, .f32⟩
  | 122 => ⟨S64x2048, .f32⟩
  | 123 => ⟨S64x2048, .f32⟩
  | 124 => ⟨S64x2048, .f32⟩
  | 125 => ⟨S64x2048, .f32⟩
  | 126 => ⟨S64x2048, .f32⟩
  | 127 => ⟨S64x2048, .f32⟩
  | _ => ⟨S4096x512, .f32⟩

abbrev hbmTy0_13 (i : Nat) : BufTy := match i % 128 with
  | 0 => ⟨S64x2048, .f32⟩
  | 1 => ⟨S64x2048, .f32⟩
  | 2 => ⟨S64x2048, .f32⟩
  | 3 => ⟨S64x2048, .f32⟩
  | 4 => ⟨S64x2048, .f32⟩
  | 5 => ⟨S64x2048, .f32⟩
  | 6 => ⟨S64x2048, .f32⟩
  | 7 => ⟨S64x2048, .f32⟩
  | 8 => ⟨S64x2048, .f32⟩
  | 9 => ⟨S64x2048, .f32⟩
  | 10 => ⟨S64x2048, .f32⟩
  | 11 => ⟨S_, .f32⟩
  | 12 => ⟨S128x2048, .f32⟩
  | 13 => ⟨S_, .f32⟩
  | 14 => ⟨S128x2048, .f32⟩
  | 15 => ⟨S_, .f32⟩
  | 16 => ⟨S128x2048, .f32⟩
  | 17 => ⟨S_, .f32⟩
  | 18 => ⟨S128x2048, .f32⟩
  | 19 => ⟨S_, .f32⟩
  | 20 => ⟨S128x2048, .f32⟩
  | 21 => ⟨S128x2048, .f32⟩
  | 22 => ⟨S_, .f32⟩
  | 23 => ⟨S128x2048, .f32⟩
  | 24 => ⟨S128x2048, .f32⟩
  | 25 => ⟨S_, .f32⟩
  | 26 => ⟨S128x2048, .f32⟩
  | 27 => ⟨S128x2048, .f32⟩
  | 28 => ⟨S_, .f32⟩
  | 29 => ⟨S128x2048, .f32⟩
  | 30 => ⟨S128x2048, .f32⟩
  | 31 => ⟨S128x2048, .f32⟩
  | 32 => ⟨S128x2048, .f32⟩
  | 33 => ⟨S128x2048, .f32⟩
  | 34 => ⟨S128x2048, .f32⟩
  | 35 => ⟨S128x2048, .f32⟩
  | 36 => ⟨S128x2048, .f32⟩
  | 37 => ⟨S128x2048, .f32⟩
  | 38 => ⟨S128x2048, .f32⟩
  | 39 => ⟨S128x2048, .f32⟩
  | 40 => ⟨S128x2048, .f32⟩
  | 41 => ⟨S128x2048, .f32⟩
  | 42 => ⟨S128x2048, .f32⟩
  | 43 => ⟨S128x2048, .f32⟩
  | 44 => ⟨S128x2048, .f32⟩
  | 45 => ⟨S128x2048, .f32⟩
  | 46 => ⟨S128x2048, .f32⟩
  | 47 => ⟨S128x2048, .f32⟩
  | 48 => ⟨S128x2048, .f32⟩
  | 49 => ⟨S128x2048, .f32⟩
  | 50 => ⟨S128x2048, .f32⟩
  | 51 => ⟨S128x2048, .f32⟩
  | 52 => ⟨S128x2048, .f32⟩
  | 53 => ⟨S128x2048, .f32⟩
  | 54 => ⟨S128x2048, .f32⟩
  | 55 => ⟨S128x2048, .f32⟩
  | 56 => ⟨S128x2048, .f32⟩
  | 57 => ⟨S128x2048, .f32⟩
  | 58 => ⟨S128x2048, .f32⟩
  | 59 => ⟨S128x2048, .f32⟩
  | 60 => ⟨S128x2048, .f32⟩
  | 61 => ⟨S128x2048, .f32⟩
  | 62 => ⟨S128x2048, .f32⟩
  | 63 => ⟨S_, .f32⟩
  | 64 => ⟨S256x2048, .f32⟩
  | 65 => ⟨S_, .f32⟩
  | 66 => ⟨S256x2048, .f32⟩
  | 67 => ⟨S_, .f32⟩
  | 68 => ⟨S256x2048, .f32⟩
  | 69 => ⟨S_, .f32⟩
  | 70 => ⟨S256x2048, .f32⟩
  | 71 => ⟨S_, .f32⟩
  | 72 => ⟨S256x2048, .f32⟩
  | 73 => ⟨S256x2048, .f32⟩
  | 74 => ⟨S_, .f32⟩
  | 75 => ⟨S256x2048, .f32⟩
  | 76 => ⟨S256x2048, .f32⟩
  | 77 => ⟨S_, .f32⟩
  | 78 => ⟨S256x2048, .f32⟩
  | 79 => ⟨S256x2048, .f32⟩
  | 80 => ⟨S_, .f32⟩
  | 81 => ⟨S256x2048, .f32⟩
  | 82 => ⟨S256x2048, .f32⟩
  | 83 => ⟨S256x2048, .f32⟩
  | 84 => ⟨S256x2048, .f32⟩
  | 85 => ⟨S256x2048, .f32⟩
  | 86 => ⟨S256x2048, .f32⟩
  | 87 => ⟨S256x2048, .f32⟩
  | 88 => ⟨S256x2048, .f32⟩
  | 89 => ⟨S256x2048, .f32⟩
  | 90 => ⟨S256x2048, .f32⟩
  | 91 => ⟨S256x2048, .f32⟩
  | 92 => ⟨S256x2048, .f32⟩
  | 93 => ⟨S256x2048, .f32⟩
  | 94 => ⟨S256x2048, .f32⟩
  | 95 => ⟨S256x2048, .f32⟩
  | 96 => ⟨S256x2048, .f32⟩
  | 97 => ⟨S256x2048, .f32⟩
  | 98 => ⟨S256x2048, .f32⟩
  | 99 => ⟨S256x2048, .f32⟩
  | 100 => ⟨S256x2048, .f32⟩
  | 101 => ⟨S256x2048, .f32⟩
  | 102 => ⟨S256x2048, .f32⟩
  | 103 => ⟨S256x2048, .f32⟩
  | 104 => ⟨S256x2048, .f32⟩
  | 105 => ⟨S256x2048, .f32⟩
  | 106 => ⟨S256x2048, .f32⟩
  | 107 => ⟨S256x2048, .f32⟩
  | 108 => ⟨S256x2048, .f32⟩
  | 109 => ⟨S256x2048, .f32⟩
  | 110 => ⟨S256x2048, .f32⟩
  | 111 => ⟨S256x2048, .f32⟩
  | 112 => ⟨S256x2048, .f32⟩
  | 113 => ⟨S256x2048, .f32⟩
  | 114 => ⟨S256x2048, .f32⟩
  | 115 => ⟨S_, .f32⟩
  | 116 => ⟨S512x2048, .f32⟩
  | 117 => ⟨S_, .f32⟩
  | 118 => ⟨S512x2048, .f32⟩
  | 119 => ⟨S_, .f32⟩
  | 120 => ⟨S512x2048, .f32⟩
  | 121 => ⟨S_, .f32⟩
  | 122 => ⟨S512x2048, .f32⟩
  | 123 => ⟨S_, .f32⟩
  | 124 => ⟨S512x2048, .f32⟩
  | 125 => ⟨S512x2048, .f32⟩
  | 126 => ⟨S_, .f32⟩
  | 127 => ⟨S512x2048, .f32⟩
  | _ => ⟨S4096x512, .f32⟩

abbrev hbmTy0_14 (i : Nat) : BufTy := match i % 128 with
  | 0 => ⟨S512x2048, .f32⟩
  | 1 => ⟨S_, .f32⟩
  | 2 => ⟨S512x2048, .f32⟩
  | 3 => ⟨S512x2048, .f32⟩
  | 4 => ⟨S_, .f32⟩
  | 5 => ⟨S512x2048, .f32⟩
  | 6 => ⟨S512x2048, .f32⟩
  | 7 => ⟨S512x2048, .f32⟩
  | 8 => ⟨S512x2048, .f32⟩
  | 9 => ⟨S512x2048, .f32⟩
  | 10 => ⟨S512x2048, .f32⟩
  | 11 => ⟨S512x2048, .f32⟩
  | 12 => ⟨S512x2048, .f32⟩
  | 13 => ⟨S512x2048, .f32⟩
  | 14 => ⟨S512x2048, .f32⟩
  | 15 => ⟨S512x2048, .f32⟩
  | 16 => ⟨S512x2048, .f32⟩
  | 17 => ⟨S512x2048, .f32⟩
  | 18 => ⟨S512x2048, .f32⟩
  | 19 => ⟨S512x2048, .f32⟩
  | 20 => ⟨S512x2048, .f32⟩
  | 21 => ⟨S512x2048, .f32⟩
  | 22 => ⟨S512x2048, .f32⟩
  | 23 => ⟨S512x2048, .f32⟩
  | 24 => ⟨S512x2048, .f32⟩
  | 25 => ⟨S512x2048, .f32⟩
  | 26 => ⟨S512x2048, .f32⟩
  | 27 => ⟨S512x2048, .f32⟩
  | 28 => ⟨S512x2048, .f32⟩
  | 29 => ⟨S512x2048, .f32⟩
  | 30 => ⟨S512x2048, .f32⟩
  | 31 => ⟨S512x2048, .f32⟩
  | 32 => ⟨S512x2048, .f32⟩
  | 33 => ⟨S512x2048, .f32⟩
  | 34 => ⟨S512x2048, .f32⟩
  | 35 => ⟨S512x2048, .f32⟩
  | 36 => ⟨S512x2048, .f32⟩
  | 37 => ⟨S512x2048, .f32⟩
  | 38 => ⟨S512x2048, .f32⟩
  | 39 => ⟨S_, .f32⟩
  | 40 => ⟨S1024x2048, .f32⟩
  | 41 => ⟨S_, .f32⟩
  | 42 => ⟨S1024x2048, .f32⟩
  | 43 => ⟨S_, .f32⟩
  | 44 => ⟨S1024x2048, .f32⟩
  | 45 => ⟨S_, .f32⟩
  | 46 => ⟨S1024x2048, .f32⟩
  | 47 => ⟨S_, .f32⟩
  | 48 => ⟨S1024x2048, .f32⟩
  | 49 => ⟨S1024x2048, .f32⟩
  | 50 => ⟨S_, .f32⟩
  | 51 => ⟨S1024x2048, .f32⟩
  | 52 => ⟨S1024x2048, .f32⟩
  | 53 => ⟨S_, .f32⟩
  | 54 => ⟨S1024x2048, .f32⟩
  | 55 => ⟨S1024x2048, .f32⟩
  | 56 => ⟨S_, .f32⟩
  | 57 => ⟨S1024x2048, .f32⟩
  | 58 => ⟨S1024x2048, .f32⟩
  | 59 => ⟨S1024x2048, .f32⟩
  | 60 => ⟨S1024x2048, .f32⟩
  | 61 => ⟨S1024x2048, .f32⟩
  | 62 => ⟨S1024x2048, .f32⟩
  | 63 => ⟨S1024x2048, .f32⟩
  | 64 => ⟨S1024x2048, .f32⟩
  | 65 => ⟨S1024x2048, .f32⟩
  | 66 => ⟨S1024x2048, .f32⟩
  | 67 => ⟨S1024x2048, .f32⟩
  | 68 => ⟨S1024x2048, .f32⟩
  | 69 => ⟨S1024x2048, .f32⟩
  | 70 => ⟨S1024x2048, .f32⟩
  | 71 => ⟨S1024x2048, .f32⟩
  | 72 => ⟨S1024x2048, .f32⟩
  | 73 => ⟨S1024x2048, .f32⟩
  | 74 => ⟨S1024x2048, .f32⟩
  | 75 => ⟨S1024x2048, .f32⟩
  | 76 => ⟨S1024x2048, .f32⟩
  | 77 => ⟨S1024x2048, .f32⟩
  | 78 => ⟨S1024x2048, .f32⟩
  | 79 => ⟨S1024x2048, .f32⟩
  | 80 => ⟨S1024x2048, .f32⟩
  | 81 => ⟨S1024x2048, .f32⟩
  | 82 => ⟨S1024x2048, .f32⟩
  | 83 => ⟨S1024x2048, .f32⟩
  | 84 => ⟨S1024x2048, .f32⟩
  | 85 => ⟨S1024x2048, .f32⟩
  | 86 => ⟨S1024x2048, .f32⟩
  | 87 => ⟨S1024x2048, .f32⟩
  | 88 => ⟨S1024x2048, .f32⟩
  | 89 => ⟨S1024x2048, .f32⟩
  | 90 => ⟨S1024x2048, .f32⟩
  | 91 => ⟨S_, .f32⟩
  | 92 => ⟨S2048x2048, .f32⟩
  | 93 => ⟨S_, .f32⟩
  | 94 => ⟨S2048x2048, .f32⟩
  | 95 => ⟨S_, .f32⟩
  | 96 => ⟨S2048x2048, .f32⟩
  | 97 => ⟨S_, .f32⟩
  | 98 => ⟨S2048x2048, .f32⟩
  | 99 => ⟨S_, .f32⟩
  | 100 => ⟨S2048x2048, .f32⟩
  | 101 => ⟨S2048x2048, .f32⟩
  | 102 => ⟨S_, .f32⟩
  | 103 => ⟨S2048x2048, .f32⟩
  | 104 => ⟨S2048x2048, .f32⟩
  | 105 => ⟨S_, .f32⟩
  | 106 => ⟨S2048x2048, .f32⟩
  | 107 => ⟨S2048x2048, .f32⟩
  | 108 => ⟨S_, .f32⟩
  | 109 => ⟨S2048x2048, .f32⟩
  | 110 => ⟨S2048x2048, .f32⟩
  | 111 => ⟨S2048x2048, .f32⟩
  | 112 => ⟨S2048x2048, .f32⟩
  | 113 => ⟨S2048x2048, .f32⟩
  | 114 => ⟨S2048x2048, .f32⟩
  | 115 => ⟨S2048x2048, .f32⟩
  | 116 => ⟨S2048x2048, .f32⟩
  | 117 => ⟨S2048x2048, .f32⟩
  | 118 => ⟨S2048x2048, .f32⟩
  | 119 => ⟨S2048x2048, .f32⟩
  | 120 => ⟨S2048x2048, .f32⟩
  | 121 => ⟨S2048x2048, .f32⟩
  | 122 => ⟨S2048x2048, .f32⟩
  | 123 => ⟨S2048x2048, .f32⟩
  | 124 => ⟨S2048x2048, .f32⟩
  | 125 => ⟨S2048x2048, .f32⟩
  | 126 => ⟨S2048x2048, .f32⟩
  | 127 => ⟨S2048x2048, .f32⟩
  | _ => ⟨S4096x512, .f32⟩

abbrev hbmTy0_15 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S2048x2048, .f32⟩
  | 10 => ⟨S2048x2048, .f32⟩
  | 11 => ⟨S2048x2048, .f32⟩
  | 12 => ⟨S2048x2048, .f32⟩
  | 13 => ⟨S2048x2048, .f32⟩
  | 14 => ⟨S2048x2048, .f32⟩
  | 15 => ⟨S_, .f32⟩
  | 16 => ⟨S4096x2048, .f32⟩
  | 17 => ⟨S_, .f32⟩
  | 18 => ⟨S4096x2048, .f32⟩
  | 19 => ⟨S_, .f32⟩
  | 20 => ⟨S4096x2048, .f32⟩
  | 21 => ⟨S_, .f32⟩
  | 22 => ⟨S4096x2048, .f32⟩
  | 23 => ⟨S_, .f32⟩
  | 24 => ⟨S4096x2048, .f32⟩
  | 25 => ⟨S4096x2048, .f32⟩
  | 26 => ⟨S_, .f32⟩
  | 27 => ⟨S4096x2048, .f32⟩
  | 28 => ⟨S4096x2048, .f32⟩
  | 29 => ⟨S_, .f32⟩
  | 30 => ⟨S4096x2048, .f32⟩
  | 31 => ⟨S4096x2048, .f32⟩
  | 32 => ⟨S_, .f32⟩
  | 33 => ⟨S4096x2048, .f32⟩
  | 34 => ⟨S4096x2048, .f32⟩
  | 35 => ⟨S4096x4x512, .f32⟩
  | 36 => ⟨S4x512x4096, .f32⟩
  | 37 => ⟨S4x4096x128, .f32⟩
  | 38 => ⟨S4096x4x128, .f32⟩
  | 39 => ⟨S4x512x128, .f32⟩
  | 40 => ⟨S4x128x512, .f32⟩
  | 41 => ⟨S4096x512, .f32⟩
  | 42 => ⟨S4096x4x512, .f32⟩
  | 43 => ⟨S4x512x4096, .f32⟩
  | 44 => ⟨S4x4096x128, .f32⟩
  | 45 => ⟨S4096x4x128, .f32⟩
  | 46 => ⟨S4x512x128, .f32⟩
  | 47 => ⟨S4x128x512, .f32⟩
  | 48 => ⟨S4096x512, .f32⟩
  | 49 => ⟨S4096x512, .f32⟩
  | 50 => ⟨S_, .f32⟩
  | 51 => ⟨S2048, .f32⟩
  | 52 => ⟨S1x2048, .f32⟩
  | 53 => ⟨S_, .f32⟩
  | 54 => ⟨S2048, .f32⟩
  | 55 => ⟨S1x2048, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_v246 : Ref sig .tc := ⟨.hbm, 254, rfl⟩
abbrev main_v247 : Ref sig .tc := ⟨.hbm, 255, rfl⟩
abbrev main_v248 : Ref sig .tc := ⟨.hbm, 256, rfl⟩
abbrev main_v249 : Ref sig .tc := ⟨.hbm, 257, rfl⟩
abbrev main_v250 : Ref sig .tc := ⟨.hbm, 258, rfl⟩
abbrev main_v251 : Ref sig .tc := ⟨.hbm, 259, rfl⟩
abbrev main_v252 : Ref sig .tc := ⟨.hbm, 260, rfl⟩
abbrev main_v253 : Ref sig .tc := ⟨.hbm, 261, rfl⟩
abbrev main_v254 : Ref sig .tc := ⟨.hbm, 262, rfl⟩
abbrev main_v255 : Ref sig .tc := ⟨.hbm, 263, rfl⟩
abbrev main_v256 : Ref sig .tc := ⟨.hbm, 264, rfl⟩
abbrev main_v257 : Ref sig .tc := ⟨.hbm, 265, rfl⟩
abbrev main_v258 : Ref sig .tc := ⟨.hbm, 266, rfl⟩
abbrev main_v259 : Ref sig .tc := ⟨.hbm, 267, rfl⟩
abbrev main_v260 : Ref sig .tc := ⟨.hbm, 268, rfl⟩
abbrev main_v261 : Ref sig .tc := ⟨.hbm, 269, rfl⟩
abbrev main_v262 : Ref sig .tc := ⟨.hbm, 270, rfl⟩
abbrev main_v263 : Ref sig .tc := ⟨.hbm, 271, rfl⟩
abbrev main_v264 : Ref sig .tc := ⟨.hbm, 272, rfl⟩
abbrev main_v265 : Ref sig .tc := ⟨.hbm, 273, rfl⟩
abbrev main_v266 : Ref sig .tc := ⟨.hbm, 274, rfl⟩
abbrev main_v267 : Ref sig .tc := ⟨.hbm, 275, rfl⟩
abbrev main_v268 : Ref sig .tc := ⟨.hbm, 276, rfl⟩
abbrev main_v269 : Ref sig .tc := ⟨.hbm, 277, rfl⟩
abbrev main_v270 : Ref sig .tc := ⟨.hbm, 278, rfl⟩
abbrev main_v271 : Ref sig .tc := ⟨.hbm, 279, rfl⟩
abbrev main_v272 : Ref sig .tc := ⟨.hbm, 280, rfl⟩
abbrev main_v273 : Ref sig .tc := ⟨.hbm, 281, rfl⟩
abbrev main_v274 : Ref sig .tc := ⟨.hbm, 282, rfl⟩
abbrev main_v275 : Ref sig .tc := ⟨.hbm, 283, rfl⟩
abbrev main_v276 : Ref sig .tc := ⟨.hbm, 284, rfl⟩
abbrev main_v277 : Ref sig .tc := ⟨.hbm, 285, rfl⟩
abbrev main_v278 : Ref sig .tc := ⟨.hbm, 286, rfl⟩
abbrev main_v279 : Ref sig .tc := ⟨.hbm, 287, rfl⟩
abbrev main_v280 : Ref sig .tc := ⟨.hbm, 288, rfl⟩
abbrev main_v281 : Ref sig .tc := ⟨.hbm, 289, rfl⟩
abbrev main_v282 : Ref sig .tc := ⟨.hbm, 290, rfl⟩
abbrev main_v283 : Ref sig .tc := ⟨.hbm, 291, rfl⟩
abbrev main_v284 : Ref sig .tc := ⟨.hbm, 292, rfl⟩
abbrev main_v285 : Ref sig .tc := ⟨.hbm, 293, rfl⟩
abbrev main_v286 : Ref sig .tc := ⟨.hbm, 294, rfl⟩
abbrev main_v287 : Ref sig .tc := ⟨.hbm, 295, rfl⟩
abbrev main_v288 : Ref sig .tc := ⟨.hbm, 296, rfl⟩
abbrev main_v289 : Ref sig .tc := ⟨.hbm, 297, rfl⟩
abbrev main_v290 : Ref sig .tc := ⟨.hbm, 298, rfl⟩
abbrev main_v291 : Ref sig .tc := ⟨.hbm, 299, rfl⟩
abbrev main_v292 : Ref sig .tc := ⟨.hbm, 300, rfl⟩
abbrev main_v293 : Ref sig .tc := ⟨.hbm, 301, rfl⟩
abbrev main_v294 : Ref sig .tc := ⟨.hbm, 302, rfl⟩
abbrev main_v295 : Ref sig .tc := ⟨.hbm, 303, rfl⟩
abbrev main_v296 : Ref sig .tc := ⟨.hbm, 304, rfl⟩
abbrev main_v297 : Ref sig .tc := ⟨.hbm, 305, rfl⟩
abbrev main_v298 : Ref sig .tc := ⟨.hbm, 306, rfl⟩
abbrev main_v299 : Ref sig .tc := ⟨.hbm, 307, rfl⟩
abbrev main_v300 : Ref sig .tc := ⟨.hbm, 308, rfl⟩
abbrev main_v301 : Ref sig .tc := ⟨.hbm, 309, rfl⟩
abbrev main_v302 : Ref sig .tc := ⟨.hbm, 310, rfl⟩
abbrev main_v303 : Ref sig .tc := ⟨.hbm, 311, rfl⟩
abbrev main_v304 : Ref sig .tc := ⟨.hbm, 312, rfl⟩
abbrev main_v305 : Ref sig .tc := ⟨.hbm, 313, rfl⟩
abbrev main_v306 : Ref sig .tc := ⟨.hbm, 314, rfl⟩
abbrev main_v307 : Ref sig .tc := ⟨.hbm, 315, rfl⟩
abbrev main_v308 : Ref sig .tc := ⟨.hbm, 316, rfl⟩
abbrev main_v309 : Ref sig .tc := ⟨.hbm, 317, rfl⟩
abbrev main_v310 : Ref sig .tc := ⟨.hbm, 318, rfl⟩
abbrev main_v311 : Ref sig .tc := ⟨.hbm, 319, rfl⟩
abbrev main_v312 : Ref sig .tc := ⟨.hbm, 320, rfl⟩
abbrev main_v313 : Ref sig .tc := ⟨.hbm, 321, rfl⟩
abbrev main_v314 : Ref sig .tc := ⟨.hbm, 322, rfl⟩
abbrev main_v315 : Ref sig .tc := ⟨.hbm, 323, rfl⟩
abbrev main_v316 : Ref sig .tc := ⟨.hbm, 324, rfl⟩
abbrev main_v317 : Ref sig .tc := ⟨.hbm, 325, rfl⟩
abbrev main_v318 : Ref sig .tc := ⟨.hbm, 326, rfl⟩
abbrev main_v319 : Ref sig .tc := ⟨.hbm, 327, rfl⟩
abbrev main_v320 : Ref sig .tc := ⟨.hbm, 328, rfl⟩
abbrev main_v321 : Ref sig .tc := ⟨.hbm, 329, rfl⟩
abbrev main_v322 : Ref sig .tc := ⟨.hbm, 330, rfl⟩
abbrev main_v323 : Ref sig .tc := ⟨.hbm, 331, rfl⟩
abbrev main_v324 : Ref sig .tc := ⟨.hbm, 332, rfl⟩
abbrev main_v325 : Ref sig .tc := ⟨.hbm, 333, rfl⟩
abbrev main_v326 : Ref sig .tc := ⟨.hbm, 334, rfl⟩
abbrev main_v327 : Ref sig .tc := ⟨.hbm, 335, rfl⟩
abbrev main_v328 : Ref sig .tc := ⟨.hbm, 336, rfl⟩
abbrev main_v329 : Ref sig .tc := ⟨.hbm, 337, rfl⟩
abbrev main_v330 : Ref sig .tc := ⟨.hbm, 338, rfl⟩
abbrev main_v331 : Ref sig .tc := ⟨.hbm, 339, rfl⟩
abbrev main_v332 : Ref sig .tc := ⟨.hbm, 340, rfl⟩
abbrev main_v333 : Ref sig .tc := ⟨.hbm, 341, rfl⟩
abbrev main_v334 : Ref sig .tc := ⟨.hbm, 342, rfl⟩
abbrev main_v335 : Ref sig .tc := ⟨.hbm, 343, rfl⟩
abbrev main_v336 : Ref sig .tc := ⟨.hbm, 344, rfl⟩
abbrev main_v337 : Ref sig .tc := ⟨.hbm, 345, rfl⟩
abbrev main_v338 : Ref sig .tc := ⟨.hbm, 346, rfl⟩
abbrev main_v339 : Ref sig .tc := ⟨.hbm, 347, rfl⟩
abbrev main_v340 : Ref sig .tc := ⟨.hbm, 348, rfl⟩
abbrev main_v341 : Ref sig .tc := ⟨.hbm, 349, rfl⟩
abbrev main_v342 : Ref sig .tc := ⟨.hbm, 350, rfl⟩
abbrev main_v343 : Ref sig .tc := ⟨.hbm, 351, rfl⟩
abbrev main_v344 : Ref sig .tc := ⟨.hbm, 352, rfl⟩
abbrev main_v345 : Ref sig .tc := ⟨.hbm, 353, rfl⟩
abbrev main_v346 : Ref sig .tc := ⟨.hbm, 354, rfl⟩
abbrev main_v347 : Ref sig .tc := ⟨.hbm, 355, rfl⟩
abbrev main_v348 : Ref sig .tc := ⟨.hbm, 356, rfl⟩
abbrev main_v349 : Ref sig .tc := ⟨.hbm, 357, rfl⟩
abbrev main_v350 : Ref sig .tc := ⟨.hbm, 358, rfl⟩
abbrev main_v351 : Ref sig .tc := ⟨.hbm, 359, rfl⟩
abbrev main_v352 : Ref sig .tc := ⟨.hbm, 360, rfl⟩
abbrev main_v353 : Ref sig .tc := ⟨.hbm, 361, rfl⟩
abbrev main_v354 : Ref sig .tc := ⟨.hbm, 362, rfl⟩
abbrev main_v355 : Ref sig .tc := ⟨.hbm, 363, rfl⟩
abbrev main_v356 : Ref sig .tc := ⟨.hbm, 364, rfl⟩
abbrev main_v357 : Ref sig .tc := ⟨.hbm, 365, rfl⟩
abbrev main_v358 : Ref sig .tc := ⟨.hbm, 366, rfl⟩
abbrev main_v359 : Ref sig .tc := ⟨.hbm, 367, rfl⟩
abbrev main_v360 : Ref sig .tc := ⟨.hbm, 368, rfl⟩
abbrev main_v361 : Ref sig .tc := ⟨.hbm, 369, rfl⟩
abbrev main_v362 : Ref sig .tc := ⟨.hbm, 370, rfl⟩
abbrev main_v363 : Ref sig .tc := ⟨.hbm, 371, rfl⟩
abbrev main_v364 : Ref sig .tc := ⟨.hbm, 372, rfl⟩
abbrev main_v365 : Ref sig .tc := ⟨.hbm, 373, rfl⟩
abbrev main_v366 : Ref sig .tc := ⟨.hbm, 374, rfl⟩
abbrev main_v367 : Ref sig .tc := ⟨.hbm, 375, rfl⟩
abbrev main_v368 : Ref sig .tc := ⟨.hbm, 376, rfl⟩
abbrev main_v369 : Ref sig .tc := ⟨.hbm, 377, rfl⟩
abbrev main_v370 : Ref sig .tc := ⟨.hbm, 378, rfl⟩
abbrev main_v371 : Ref sig .tc := ⟨.hbm, 379, rfl⟩
abbrev main_v372 : Ref sig .tc := ⟨.hbm, 380, rfl⟩
abbrev main_v373 : Ref sig .tc := ⟨.hbm, 381, rfl⟩
abbrev main_v374 : Ref sig .tc := ⟨.hbm, 382, rfl⟩
abbrev main_v375 : Ref sig .tc := ⟨.hbm, 383, rfl⟩
abbrev main_v376 : Ref sig .tc := ⟨.hbm, 384, rfl⟩
abbrev main_v377 : Ref sig .tc := ⟨.hbm, 385, rfl⟩
abbrev main_v378 : Ref sig .tc := ⟨.hbm, 386, rfl⟩
abbrev main_v379 : Ref sig .tc := ⟨.hbm, 387, rfl⟩
abbrev main_v380 : Ref sig .tc := ⟨.hbm, 388, rfl⟩
abbrev main_v381 : Ref sig .tc := ⟨.hbm, 389, rfl⟩
abbrev main_v382 : Ref sig .tc := ⟨.hbm, 390, rfl⟩
abbrev main_v383 : Ref sig .tc := ⟨.hbm, 391, rfl⟩
abbrev main_v384 : Ref sig .tc := ⟨.hbm, 392, rfl⟩
abbrev main_v385 : Ref sig .tc := ⟨.hbm, 393, rfl⟩
abbrev main_v386 : Ref sig .tc := ⟨.hbm, 394, rfl⟩
abbrev main_v387 : Ref sig .tc := ⟨.hbm, 395, rfl⟩
abbrev main_v388 : Ref sig .tc := ⟨.hbm, 396, rfl⟩
abbrev main_v389 : Ref sig .tc := ⟨.hbm, 397, rfl⟩
abbrev main_v390 : Ref sig .tc := ⟨.hbm, 398, rfl⟩
abbrev main_v391 : Ref sig .tc := ⟨.hbm, 399, rfl⟩
abbrev main_v392 : Ref sig .tc := ⟨.hbm, 400, rfl⟩
abbrev main_v393 : Ref sig .tc := ⟨.hbm, 401, rfl⟩
abbrev main_v394 : Ref sig .tc := ⟨.hbm, 402, rfl⟩
abbrev main_v395 : Ref sig .tc := ⟨.hbm, 403, rfl⟩
abbrev main_v396 : Ref sig .tc := ⟨.hbm, 404, rfl⟩
abbrev main_v397 : Ref sig .tc := ⟨.hbm, 405, rfl⟩
abbrev main_v398 : Ref sig .tc := ⟨.hbm, 406, rfl⟩
abbrev main_v399 : Ref sig .tc := ⟨.hbm, 407, rfl⟩
abbrev main_v400 : Ref sig .tc := ⟨.hbm, 408, rfl⟩
abbrev main_v401 : Ref sig .tc := ⟨.hbm, 409, rfl⟩
abbrev main_v402 : Ref sig .tc := ⟨.hbm, 410, rfl⟩
abbrev main_v403 : Ref sig .tc := ⟨.hbm, 411, rfl⟩
abbrev main_v404 : Ref sig .tc := ⟨.hbm, 412, rfl⟩
abbrev main_v405 : Ref sig .tc := ⟨.hbm, 413, rfl⟩
abbrev main_v406 : Ref sig .tc := ⟨.hbm, 414, rfl⟩
abbrev main_v407 : Ref sig .tc := ⟨.hbm, 415, rfl⟩
abbrev main_v408 : Ref sig .tc := ⟨.hbm, 416, rfl⟩
abbrev main_v409 : Ref sig .tc := ⟨.hbm, 417, rfl⟩
abbrev main_v410 : Ref sig .tc := ⟨.hbm, 418, rfl⟩
abbrev main_v411 : Ref sig .tc := ⟨.hbm, 419, rfl⟩
abbrev main_v412 : Ref sig .tc := ⟨.hbm, 420, rfl⟩
abbrev main_v413 : Ref sig .tc := ⟨.hbm, 421, rfl⟩
abbrev main_v414 : Ref sig .tc := ⟨.hbm, 422, rfl⟩
abbrev main_v415 : Ref sig .tc := ⟨.hbm, 423, rfl⟩
abbrev main_v416 : Ref sig .tc := ⟨.hbm, 424, rfl⟩
abbrev main_v417 : Ref sig .tc := ⟨.hbm, 425, rfl⟩
abbrev main_v418 : Ref sig .tc := ⟨.hbm, 426, rfl⟩
abbrev main_v419 : Ref sig .tc := ⟨.hbm, 427, rfl⟩
abbrev main_v420 : Ref sig .tc := ⟨.hbm, 428, rfl⟩
abbrev main_v421 : Ref sig .tc := ⟨.hbm, 429, rfl⟩
abbrev main_v422 : Ref sig .tc := ⟨.hbm, 430, rfl⟩
abbrev main_v423 : Ref sig .tc := ⟨.hbm, 431, rfl⟩
abbrev main_v424 : Ref sig .tc := ⟨.hbm, 432, rfl⟩
abbrev main_v425 : Ref sig .tc := ⟨.hbm, 433, rfl⟩
abbrev main_v426 : Ref sig .tc := ⟨.hbm, 434, rfl⟩
abbrev main_v427 : Ref sig .tc := ⟨.hbm, 435, rfl⟩
abbrev main_v428 : Ref sig .tc := ⟨.hbm, 436, rfl⟩
abbrev main_v429 : Ref sig .tc := ⟨.hbm, 437, rfl⟩
abbrev main_v430 : Ref sig .tc := ⟨.hbm, 438, rfl⟩
abbrev main_v431 : Ref sig .tc := ⟨.hbm, 439, rfl⟩
abbrev main_v432 : Ref sig .tc := ⟨.hbm, 440, rfl⟩
abbrev main_v433 : Ref sig .tc := ⟨.hbm, 441, rfl⟩
abbrev main_v434 : Ref sig .tc := ⟨.hbm, 442, rfl⟩
abbrev main_v435 : Ref sig .tc := ⟨.hbm, 443, rfl⟩
abbrev main_v436 : Ref sig .tc := ⟨.hbm, 444, rfl⟩
abbrev main_v437 : Ref sig .tc := ⟨.hbm, 445, rfl⟩
abbrev main_v438 : Ref sig .tc := ⟨.hbm, 446, rfl⟩
abbrev main_v439 : Ref sig .tc := ⟨.hbm, 447, rfl⟩
abbrev main_v440 : Ref sig .tc := ⟨.hbm, 448, rfl⟩
abbrev main_v441 : Ref sig .tc := ⟨.hbm, 449, rfl⟩
abbrev main_v442 : Ref sig .tc := ⟨.hbm, 450, rfl⟩
abbrev main_v443 : Ref sig .tc := ⟨.hbm, 451, rfl⟩
abbrev main_v444 : Ref sig .tc := ⟨.hbm, 452, rfl⟩
abbrev main_v445 : Ref sig .tc := ⟨.hbm, 453, rfl⟩
abbrev main_v446 : Ref sig .tc := ⟨.hbm, 454, rfl⟩
abbrev main_v447 : Ref sig .tc := ⟨.hbm, 455, rfl⟩
abbrev main_v448 : Ref sig .tc := ⟨.hbm, 456, rfl⟩
abbrev main_v449 : Ref sig .tc := ⟨.hbm, 457, rfl⟩
abbrev main_v450 : Ref sig .tc := ⟨.hbm, 458, rfl⟩
abbrev main_v451 : Ref sig .tc := ⟨.hbm, 459, rfl⟩
abbrev main_v452 : Ref sig .tc := ⟨.hbm, 460, rfl⟩
abbrev main_v453 : Ref sig .tc := ⟨.hbm, 461, rfl⟩
abbrev main_v454 : Ref sig .tc := ⟨.hbm, 462, rfl⟩
abbrev main_v455 : Ref sig .tc := ⟨.hbm, 463, rfl⟩
abbrev main_v456 : Ref sig .tc := ⟨.hbm, 464, rfl⟩
abbrev main_v457 : Ref sig .tc := ⟨.hbm, 465, rfl⟩
abbrev main_v458 : Ref sig .tc := ⟨.hbm, 466, rfl⟩
abbrev main_v459 : Ref sig .tc := ⟨.hbm, 467, rfl⟩
abbrev main_v460 : Ref sig .tc := ⟨.hbm, 468, rfl⟩
abbrev main_v461 : Ref sig .tc := ⟨.hbm, 469, rfl⟩
abbrev main_v462 : Ref sig .tc := ⟨.hbm, 470, rfl⟩
abbrev main_v463 : Ref sig .tc := ⟨.hbm, 471, rfl⟩
abbrev main_v464 : Ref sig .tc := ⟨.hbm, 472, rfl⟩
abbrev main_v465 : Ref sig .tc := ⟨.hbm, 473, rfl⟩
abbrev main_v466 : Ref sig .tc := ⟨.hbm, 474, rfl⟩
abbrev main_v467 : Ref sig .tc := ⟨.hbm, 475, rfl⟩
abbrev main_v468 : Ref sig .tc := ⟨.hbm, 476, rfl⟩
abbrev main_v469 : Ref sig .tc := ⟨.hbm, 477, rfl⟩
abbrev main_v470 : Ref sig .tc := ⟨.hbm, 478, rfl⟩
abbrev main_v471 : Ref sig .tc := ⟨.hbm, 479, rfl⟩
abbrev main_v472 : Ref sig .tc := ⟨.hbm, 480, rfl⟩
abbrev main_v473 : Ref sig .tc := ⟨.hbm, 481, rfl⟩
abbrev main_v474 : Ref sig .tc := ⟨.hbm, 482, rfl⟩
abbrev main_v475 : Ref sig .tc := ⟨.hbm, 483, rfl⟩
abbrev main_v476 : Ref sig .tc := ⟨.hbm, 484, rfl⟩
abbrev main_v477 : Ref sig .tc := ⟨.hbm, 485, rfl⟩
abbrev main_v478 : Ref sig .tc := ⟨.hbm, 486, rfl⟩
abbrev main_v479 : Ref sig .tc := ⟨.hbm, 487, rfl⟩
abbrev main_v480 : Ref sig .tc := ⟨.hbm, 488, rfl⟩
abbrev main_v481 : Ref sig .tc := ⟨.hbm, 489, rfl⟩
abbrev main_v482 : Ref sig .tc := ⟨.hbm, 490, rfl⟩
abbrev main_v483 : Ref sig .tc := ⟨.hbm, 491, rfl⟩
abbrev main_v484 : Ref sig .tc := ⟨.hbm, 492, rfl⟩
abbrev main_v485 : Ref sig .tc := ⟨.hbm, 493, rfl⟩
abbrev main_v486 : Ref sig .tc := ⟨.hbm, 494, rfl⟩
abbrev main_v487 : Ref sig .tc := ⟨.hbm, 495, rfl⟩
abbrev main_v488 : Ref sig .tc := ⟨.hbm, 496, rfl⟩
abbrev main_v489 : Ref sig .tc := ⟨.hbm, 497, rfl⟩
abbrev main_v490 : Ref sig .tc := ⟨.hbm, 498, rfl⟩
abbrev main_v491 : Ref sig .tc := ⟨.hbm, 499, rfl⟩
abbrev main_v492 : Ref sig .tc := ⟨.hbm, 500, rfl⟩
abbrev main_v493 : Ref sig .tc := ⟨.hbm, 501, rfl⟩
abbrev main_v494 : Ref sig .tc := ⟨.hbm, 502, rfl⟩
abbrev main_v495 : Ref sig .tc := ⟨.hbm, 503, rfl⟩
abbrev main_v496 : Ref sig .tc := ⟨.hbm, 504, rfl⟩
abbrev main_v497 : Ref sig .tc := ⟨.hbm, 505, rfl⟩
abbrev main_v498 : Ref sig .tc := ⟨.hbm, 506, rfl⟩
abbrev main_v499 : Ref sig .tc := ⟨.hbm, 507, rfl⟩
abbrev main_v500 : Ref sig .tc := ⟨.hbm, 508, rfl⟩
abbrev main_v501 : Ref sig .tc := ⟨.hbm, 509, rfl⟩
abbrev main_v502 : Ref sig .tc := ⟨.hbm, 510, rfl⟩
abbrev main_v503 : Ref sig .tc := ⟨.hbm, 511, rfl⟩
abbrev main_v504 : Ref sig .tc := ⟨.hbm, 512, rfl⟩
abbrev main_v505 : Ref sig .tc := ⟨.hbm, 513, rfl⟩
abbrev main_v506 : Ref sig .tc := ⟨.hbm, 514, rfl⟩
abbrev main_v507 : Ref sig .tc := ⟨.hbm, 515, rfl⟩
abbrev main_v508 : Ref sig .tc := ⟨.hbm, 516, rfl⟩
abbrev main_v509 : Ref sig .tc := ⟨.hbm, 517, rfl⟩
abbrev main_v510 : Ref sig .tc := ⟨.hbm, 518, rfl⟩
abbrev main_v511 : Ref sig .tc := ⟨.hbm, 519, rfl⟩
abbrev main_v512 : Ref sig .tc := ⟨.hbm, 520, rfl⟩
abbrev main_v513 : Ref sig .tc := ⟨.hbm, 521, rfl⟩
abbrev main_v514 : Ref sig .tc := ⟨.hbm, 522, rfl⟩
abbrev main_v515 : Ref sig .tc := ⟨.hbm, 523, rfl⟩
abbrev main_v516 : Ref sig .tc := ⟨.hbm, 524, rfl⟩
abbrev main_v517 : Ref sig .tc := ⟨.hbm, 525, rfl⟩
abbrev main_v518 : Ref sig .tc := ⟨.hbm, 526, rfl⟩
abbrev main_v519 : Ref sig .tc := ⟨.hbm, 527, rfl⟩
abbrev main_v520 : Ref sig .tc := ⟨.hbm, 528, rfl⟩
abbrev main_v521 : Ref sig .tc := ⟨.hbm, 529, rfl⟩
abbrev main_v522 : Ref sig .tc := ⟨.hbm, 530, rfl⟩
abbrev main_v523 : Ref sig .tc := ⟨.hbm, 531, rfl⟩
abbrev main_v524 : Ref sig .tc := ⟨.hbm, 532, rfl⟩
abbrev main_v525 : Ref sig .tc := ⟨.hbm, 533, rfl⟩
abbrev main_v526 : Ref sig .tc := ⟨.hbm, 534, rfl⟩
abbrev main_v527 : Ref sig .tc := ⟨.hbm, 535, rfl⟩
abbrev main_v528 : Ref sig .tc := ⟨.hbm, 536, rfl⟩
abbrev main_v529 : Ref sig .tc := ⟨.hbm, 537, rfl⟩
abbrev main_v530 : Ref sig .tc := ⟨.hbm, 538, rfl⟩
abbrev main_v531 : Ref sig .tc := ⟨.hbm, 539, rfl⟩
abbrev main_v532 : Ref sig .tc := ⟨.hbm, 540, rfl⟩
abbrev main_v533 : Ref sig .tc := ⟨.hbm, 541, rfl⟩
abbrev main_v534 : Ref sig .tc := ⟨.hbm, 542, rfl⟩
abbrev main_v535 : Ref sig .tc := ⟨.hbm, 543, rfl⟩
abbrev main_v536 : Ref sig .tc := ⟨.hbm, 544, rfl⟩
abbrev main_v537 : Ref sig .tc := ⟨.hbm, 545, rfl⟩
abbrev main_v538 : Ref sig .tc := ⟨.hbm, 546, rfl⟩
abbrev main_v539 : Ref sig .tc := ⟨.hbm, 547, rfl⟩
abbrev main_v540 : Ref sig .tc := ⟨.hbm, 548, rfl⟩
abbrev main_v541 : Ref sig .tc := ⟨.hbm, 549, rfl⟩
abbrev main_v542 : Ref sig .tc := ⟨.hbm, 550, rfl⟩
abbrev main_v543 : Ref sig .tc := ⟨.hbm, 551, rfl⟩
abbrev main_v544 : Ref sig .tc := ⟨.hbm, 552, rfl⟩
abbrev main_v545 : Ref sig .tc := ⟨.hbm, 553, rfl⟩
abbrev main_v546 : Ref sig .tc := ⟨.hbm, 554, rfl⟩
abbrev main_v547 : Ref sig .tc := ⟨.hbm, 555, rfl⟩
abbrev main_v548 : Ref sig .tc := ⟨.hbm, 556, rfl⟩
abbrev main_v549 : Ref sig .tc := ⟨.hbm, 557, rfl⟩
abbrev main_v550 : Ref sig .tc := ⟨.hbm, 558, rfl⟩
abbrev main_v551 : Ref sig .tc := ⟨.hbm, 559, rfl⟩
abbrev main_v552 : Ref sig .tc := ⟨.hbm, 560, rfl⟩
abbrev main_v553 : Ref sig .tc := ⟨.hbm, 561, rfl⟩
abbrev main_v554 : Ref sig .tc := ⟨.hbm, 562, rfl⟩
abbrev main_v555 : Ref sig .tc := ⟨.hbm, 563, rfl⟩
abbrev main_v556 : Ref sig .tc := ⟨.hbm, 564, rfl⟩
abbrev main_v557 : Ref sig .tc := ⟨.hbm, 565, rfl⟩
abbrev main_v558 : Ref sig .tc := ⟨.hbm, 566, rfl⟩
abbrev main_v559 : Ref sig .tc := ⟨.hbm, 567, rfl⟩
abbrev main_v560 : Ref sig .tc := ⟨.hbm, 568, rfl⟩
abbrev main_v561 : Ref sig .tc := ⟨.hbm, 569, rfl⟩
abbrev main_v562 : Ref sig .tc := ⟨.hbm, 570, rfl⟩
abbrev main_v563 : Ref sig .tc := ⟨.hbm, 571, rfl⟩
abbrev main_v564 : Ref sig .tc := ⟨.hbm, 572, rfl⟩
abbrev main_v565 : Ref sig .tc := ⟨.hbm, 573, rfl⟩
abbrev main_v566 : Ref sig .tc := ⟨.hbm, 574, rfl⟩
abbrev main_v567 : Ref sig .tc := ⟨.hbm, 575, rfl⟩
abbrev main_v568 : Ref sig .tc := ⟨.hbm, 576, rfl⟩
abbrev main_v569 : Ref sig .tc := ⟨.hbm, 577, rfl⟩
abbrev main_v570 : Ref sig .tc := ⟨.hbm, 578, rfl⟩
abbrev main_v571 : Ref sig .tc := ⟨.hbm, 579, rfl⟩
abbrev main_v572 : Ref sig .tc := ⟨.hbm, 580, rfl⟩
abbrev main_v573 : Ref sig .tc := ⟨.hbm, 581, rfl⟩
abbrev main_v574 : Ref sig .tc := ⟨.hbm, 582, rfl⟩
abbrev main_v575 : Ref sig .tc := ⟨.hbm, 583, rfl⟩
abbrev main_v576 : Ref sig .tc := ⟨.hbm, 584, rfl⟩
abbrev main_v577 : Ref sig .tc := ⟨.hbm, 585, rfl⟩
abbrev main_v578 : Ref sig .tc := ⟨.hbm, 586, rfl⟩
abbrev main_v579 : Ref sig .tc := ⟨.hbm, 587, rfl⟩
abbrev main_v580 : Ref sig .tc := ⟨.hbm, 588, rfl⟩
abbrev main_v581 : Ref sig .tc := ⟨.hbm, 589, rfl⟩
abbrev main_v582 : Ref sig .tc := ⟨.hbm, 590, rfl⟩
abbrev main_v583 : Ref sig .tc := ⟨.hbm, 591, rfl⟩
abbrev main_v584 : Ref sig .tc := ⟨.hbm, 592, rfl⟩
abbrev main_v585 : Ref sig .tc := ⟨.hbm, 593, rfl⟩
abbrev main_v586 : Ref sig .tc := ⟨.hbm, 594, rfl⟩
abbrev main_v587 : Ref sig .tc := ⟨.hbm, 595, rfl⟩
abbrev main_v588 : Ref sig .tc := ⟨.hbm, 596, rfl⟩
abbrev main_v589 : Ref sig .tc := ⟨.hbm, 597, rfl⟩
abbrev main_v590 : Ref sig .tc := ⟨.hbm, 598, rfl⟩
abbrev main_v591 : Ref sig .tc := ⟨.hbm, 599, rfl⟩
abbrev main_v592 : Ref sig .tc := ⟨.hbm, 600, rfl⟩
abbrev main_v593 : Ref sig .tc := ⟨.hbm, 601, rfl⟩
abbrev main_v594 : Ref sig .tc := ⟨.hbm, 602, rfl⟩
abbrev main_v595 : Ref sig .tc := ⟨.hbm, 603, rfl⟩
abbrev main_v596 : Ref sig .tc := ⟨.hbm, 604, rfl⟩
abbrev main_v597 : Ref sig .tc := ⟨.hbm, 605, rfl⟩
abbrev main_v598 : Ref sig .tc := ⟨.hbm, 606, rfl⟩
abbrev main_v599 : Ref sig .tc := ⟨.hbm, 607, rfl⟩
abbrev main_v600 : Ref sig .tc := ⟨.hbm, 608, rfl⟩
abbrev main_v601 : Ref sig .tc := ⟨.hbm, 609, rfl⟩
abbrev main_v602 : Ref sig .tc := ⟨.hbm, 610, rfl⟩
abbrev main_v603 : Ref sig .tc := ⟨.hbm, 611, rfl⟩
abbrev main_v604 : Ref sig .tc := ⟨.hbm, 612, rfl⟩
abbrev main_v605 : Ref sig .tc := ⟨.hbm, 613, rfl⟩
abbrev main_v606 : Ref sig .tc := ⟨.hbm, 614, rfl⟩
abbrev main_v607 : Ref sig .tc := ⟨.hbm, 615, rfl⟩
abbrev main_v608 : Ref sig .tc := ⟨.hbm, 616, rfl⟩
abbrev main_v609 : Ref sig .tc := ⟨.hbm, 617, rfl⟩
abbrev main_v610 : Ref sig .tc := ⟨.hbm, 618, rfl⟩
abbrev main_v611 : Ref sig .tc := ⟨.hbm, 619, rfl⟩
abbrev main_v612 : Ref sig .tc := ⟨.hbm, 620, rfl⟩
abbrev main_v613 : Ref sig .tc := ⟨.hbm, 621, rfl⟩
abbrev main_v614 : Ref sig .tc := ⟨.hbm, 622, rfl⟩
abbrev main_v615 : Ref sig .tc := ⟨.hbm, 623, rfl⟩
abbrev main_v616 : Ref sig .tc := ⟨.hbm, 624, rfl⟩
abbrev main_v617 : Ref sig .tc := ⟨.hbm, 625, rfl⟩
abbrev main_v618 : Ref sig .tc := ⟨.hbm, 626, rfl⟩
abbrev main_v619 : Ref sig .tc := ⟨.hbm, 627, rfl⟩
abbrev main_v620 : Ref sig .tc := ⟨.hbm, 628, rfl⟩
abbrev main_v621 : Ref sig .tc := ⟨.hbm, 629, rfl⟩
abbrev main_v622 : Ref sig .tc := ⟨.hbm, 630, rfl⟩
abbrev main_v623 : Ref sig .tc := ⟨.hbm, 631, rfl⟩
abbrev main_v624 : Ref sig .tc := ⟨.hbm, 632, rfl⟩
abbrev main_v625 : Ref sig .tc := ⟨.hbm, 633, rfl⟩
abbrev main_v626 : Ref sig .tc := ⟨.hbm, 634, rfl⟩
abbrev main_v627 : Ref sig .tc := ⟨.hbm, 635, rfl⟩
abbrev main_v628 : Ref sig .tc := ⟨.hbm, 636, rfl⟩
abbrev main_v629 : Ref sig .tc := ⟨.hbm, 637, rfl⟩
abbrev main_v630 : Ref sig .tc := ⟨.hbm, 638, rfl⟩
abbrev main_v631 : Ref sig .tc := ⟨.hbm, 639, rfl⟩
abbrev main_v632 : Ref sig .tc := ⟨.hbm, 640, rfl⟩
abbrev main_v633 : Ref sig .tc := ⟨.hbm, 641, rfl⟩
abbrev main_v634 : Ref sig .tc := ⟨.hbm, 642, rfl⟩
abbrev main_v635 : Ref sig .tc := ⟨.hbm, 643, rfl⟩
abbrev main_v636 : Ref sig .tc := ⟨.hbm, 644, rfl⟩
abbrev main_v637 : Ref sig .tc := ⟨.hbm, 645, rfl⟩
abbrev main_v638 : Ref sig .tc := ⟨.hbm, 646, rfl⟩
abbrev main_v639 : Ref sig .tc := ⟨.hbm, 647, rfl⟩
abbrev main_v640 : Ref sig .tc := ⟨.hbm, 648, rfl⟩
abbrev main_v641 : Ref sig .tc := ⟨.hbm, 649, rfl⟩
abbrev main_v642 : Ref sig .tc := ⟨.hbm, 650, rfl⟩
abbrev main_v643 : Ref sig .tc := ⟨.hbm, 651, rfl⟩
abbrev main_v644 : Ref sig .tc := ⟨.hbm, 652, rfl⟩
abbrev main_v645 : Ref sig .tc := ⟨.hbm, 653, rfl⟩
abbrev main_v646 : Ref sig .tc := ⟨.hbm, 654, rfl⟩
abbrev main_v647 : Ref sig .tc := ⟨.hbm, 655, rfl⟩
abbrev main_v648 : Ref sig .tc := ⟨.hbm, 656, rfl⟩
abbrev main_v649 : Ref sig .tc := ⟨.hbm, 657, rfl⟩
abbrev main_v650 : Ref sig .tc := ⟨.hbm, 658, rfl⟩
abbrev main_v651 : Ref sig .tc := ⟨.hbm, 659, rfl⟩
abbrev main_v652 : Ref sig .tc := ⟨.hbm, 660, rfl⟩
abbrev main_v653 : Ref sig .tc := ⟨.hbm, 661, rfl⟩
abbrev main_v654 : Ref sig .tc := ⟨.hbm, 662, rfl⟩
abbrev main_v655 : Ref sig .tc := ⟨.hbm, 663, rfl⟩
abbrev main_v656 : Ref sig .tc := ⟨.hbm, 664, rfl⟩
abbrev main_v657 : Ref sig .tc := ⟨.hbm, 665, rfl⟩
abbrev main_v658 : Ref sig .tc := ⟨.hbm, 666, rfl⟩
abbrev main_v659 : Ref sig .tc := ⟨.hbm, 667, rfl⟩
abbrev main_v660 : Ref sig .tc := ⟨.hbm, 668, rfl⟩
abbrev main_v661 : Ref sig .tc := ⟨.hbm, 669, rfl⟩
abbrev main_v662 : Ref sig .tc := ⟨.hbm, 670, rfl⟩
abbrev main_v663 : Ref sig .tc := ⟨.hbm, 671, rfl⟩
abbrev main_v664 : Ref sig .tc := ⟨.hbm, 672, rfl⟩
abbrev main_v665 : Ref sig .tc := ⟨.hbm, 673, rfl⟩
abbrev main_v666 : Ref sig .tc := ⟨.hbm, 674, rfl⟩
abbrev main_v667 : Ref sig .tc := ⟨.hbm, 675, rfl⟩
abbrev main_v668 : Ref sig .tc := ⟨.hbm, 676, rfl⟩
abbrev main_v669 : Ref sig .tc := ⟨.hbm, 677, rfl⟩
abbrev main_v670 : Ref sig .tc := ⟨.hbm, 678, rfl⟩
abbrev main_v671 : Ref sig .tc := ⟨.hbm, 679, rfl⟩
abbrev main_v672 : Ref sig .tc := ⟨.hbm, 680, rfl⟩
abbrev main_v673 : Ref sig .tc := ⟨.hbm, 681, rfl⟩
abbrev main_v674 : Ref sig .tc := ⟨.hbm, 682, rfl⟩
abbrev main_v675 : Ref sig .tc := ⟨.hbm, 683, rfl⟩
abbrev main_v676 : Ref sig .tc := ⟨.hbm, 684, rfl⟩
abbrev main_v677 : Ref sig .tc := ⟨.hbm, 685, rfl⟩
abbrev main_v678 : Ref sig .tc := ⟨.hbm, 686, rfl⟩
abbrev main_v679 : Ref sig .tc := ⟨.hbm, 687, rfl⟩
abbrev main_v680 : Ref sig .tc := ⟨.hbm, 688, rfl⟩
abbrev main_v681 : Ref sig .tc := ⟨.hbm, 689, rfl⟩
abbrev main_v682 : Ref sig .tc := ⟨.hbm, 690, rfl⟩
abbrev main_v683 : Ref sig .tc := ⟨.hbm, 691, rfl⟩
abbrev main_v684 : Ref sig .tc := ⟨.hbm, 692, rfl⟩
abbrev main_v685 : Ref sig .tc := ⟨.hbm, 693, rfl⟩
abbrev main_v686 : Ref sig .tc := ⟨.hbm, 694, rfl⟩
abbrev main_v687 : Ref sig .tc := ⟨.hbm, 695, rfl⟩
abbrev main_v688 : Ref sig .tc := ⟨.hbm, 696, rfl⟩
abbrev main_v689 : Ref sig .tc := ⟨.hbm, 697, rfl⟩
abbrev main_v690 : Ref sig .tc := ⟨.hbm, 698, rfl⟩
abbrev main_v691 : Ref sig .tc := ⟨.hbm, 699, rfl⟩
abbrev main_v692 : Ref sig .tc := ⟨.hbm, 700, rfl⟩
abbrev main_v693 : Ref sig .tc := ⟨.hbm, 701, rfl⟩
abbrev main_v694 : Ref sig .tc := ⟨.hbm, 702, rfl⟩
abbrev main_v695 : Ref sig .tc := ⟨.hbm, 703, rfl⟩
abbrev main_v696 : Ref sig .tc := ⟨.hbm, 704, rfl⟩
abbrev main_v697 : Ref sig .tc := ⟨.hbm, 705, rfl⟩
abbrev main_v698 : Ref sig .tc := ⟨.hbm, 706, rfl⟩
abbrev main_v699 : Ref sig .tc := ⟨.hbm, 707, rfl⟩
abbrev main_v700 : Ref sig .tc := ⟨.hbm, 708, rfl⟩
abbrev main_v701 : Ref sig .tc := ⟨.hbm, 709, rfl⟩
abbrev main_v702 : Ref sig .tc := ⟨.hbm, 710, rfl⟩
abbrev main_v703 : Ref sig .tc := ⟨.hbm, 711, rfl⟩
abbrev main_v704 : Ref sig .tc := ⟨.hbm, 712, rfl⟩
abbrev main_v705 : Ref sig .tc := ⟨.hbm, 713, rfl⟩
abbrev main_v706 : Ref sig .tc := ⟨.hbm, 714, rfl⟩
abbrev main_v707 : Ref sig .tc := ⟨.hbm, 715, rfl⟩
abbrev main_v708 : Ref sig .tc := ⟨.hbm, 716, rfl⟩
abbrev main_v709 : Ref sig .tc := ⟨.hbm, 717, rfl⟩
abbrev main_v710 : Ref sig .tc := ⟨.hbm, 718, rfl⟩
abbrev main_v711 : Ref sig .tc := ⟨.hbm, 719, rfl⟩
abbrev main_v712 : Ref sig .tc := ⟨.hbm, 720, rfl⟩
abbrev main_v713 : Ref sig .tc := ⟨.hbm, 721, rfl⟩
abbrev main_v714 : Ref sig .tc := ⟨.hbm, 722, rfl⟩
abbrev main_v715 : Ref sig .tc := ⟨.hbm, 723, rfl⟩
abbrev main_v716 : Ref sig .tc := ⟨.hbm, 724, rfl⟩
abbrev main_v717 : Ref sig .tc := ⟨.hbm, 725, rfl⟩
abbrev main_v718 : Ref sig .tc := ⟨.hbm, 726, rfl⟩
abbrev main_v719 : Ref sig .tc := ⟨.hbm, 727, rfl⟩
abbrev main_v720 : Ref sig .tc := ⟨.hbm, 728, rfl⟩
abbrev main_v721 : Ref sig .tc := ⟨.hbm, 729, rfl⟩
abbrev main_v722 : Ref sig .tc := ⟨.hbm, 730, rfl⟩
abbrev main_v723 : Ref sig .tc := ⟨.hbm, 731, rfl⟩
abbrev main_v724 : Ref sig .tc := ⟨.hbm, 732, rfl⟩
abbrev main_v725 : Ref sig .tc := ⟨.hbm, 733, rfl⟩
abbrev main_v726 : Ref sig .tc := ⟨.hbm, 734, rfl⟩
abbrev main_v727 : Ref sig .tc := ⟨.hbm, 735, rfl⟩
abbrev main_v728 : Ref sig .tc := ⟨.hbm, 736, rfl⟩
abbrev main_v729 : Ref sig .tc := ⟨.hbm, 737, rfl⟩
abbrev main_v730 : Ref sig .tc := ⟨.hbm, 738, rfl⟩
abbrev main_v731 : Ref sig .tc := ⟨.hbm, 739, rfl⟩
abbrev main_v732 : Ref sig .tc := ⟨.hbm, 740, rfl⟩
abbrev main_v733 : Ref sig .tc := ⟨.hbm, 741, rfl⟩
abbrev main_v734 : Ref sig .tc := ⟨.hbm, 742, rfl⟩
abbrev main_v735 : Ref sig .tc := ⟨.hbm, 743, rfl⟩
abbrev main_v736 : Ref sig .tc := ⟨.hbm, 744, rfl⟩
abbrev main_v737 : Ref sig .tc := ⟨.hbm, 745, rfl⟩
abbrev main_v738 : Ref sig .tc := ⟨.hbm, 746, rfl⟩
abbrev main_v739 : Ref sig .tc := ⟨.hbm, 747, rfl⟩
abbrev main_v740 : Ref sig .tc := ⟨.hbm, 748, rfl⟩
abbrev main_v741 : Ref sig .tc := ⟨.hbm, 749, rfl⟩
abbrev main_v742 : Ref sig .tc := ⟨.hbm, 750, rfl⟩
abbrev main_v743 : Ref sig .tc := ⟨.hbm, 751, rfl⟩
abbrev main_v744 : Ref sig .tc := ⟨.hbm, 752, rfl⟩
abbrev main_v745 : Ref sig .tc := ⟨.hbm, 753, rfl⟩
abbrev main_v746 : Ref sig .tc := ⟨.hbm, 754, rfl⟩
abbrev main_v747 : Ref sig .tc := ⟨.hbm, 755, rfl⟩
abbrev main_v748 : Ref sig .tc := ⟨.hbm, 756, rfl⟩
abbrev main_v749 : Ref sig .tc := ⟨.hbm, 757, rfl⟩
abbrev main_v750 : Ref sig .tc := ⟨.hbm, 758, rfl⟩
abbrev main_v751 : Ref sig .tc := ⟨.hbm, 759, rfl⟩
abbrev main_v752 : Ref sig .tc := ⟨.hbm, 760, rfl⟩
abbrev main_v753 : Ref sig .tc := ⟨.hbm, 761, rfl⟩
abbrev main_v754 : Ref sig .tc := ⟨.hbm, 762, rfl⟩
abbrev main_v755 : Ref sig .tc := ⟨.hbm, 763, rfl⟩
abbrev main_v756 : Ref sig .tc := ⟨.hbm, 764, rfl⟩
abbrev main_v757 : Ref sig .tc := ⟨.hbm, 765, rfl⟩
abbrev main_v758 : Ref sig .tc := ⟨.hbm, 766, rfl⟩
abbrev main_v759 : Ref sig .tc := ⟨.hbm, 767, rfl⟩
abbrev main_v760 : Ref sig .tc := ⟨.hbm, 768, rfl⟩
abbrev main_v761 : Ref sig .tc := ⟨.hbm, 769, rfl⟩
abbrev main_v762 : Ref sig .tc := ⟨.hbm, 770, rfl⟩
abbrev main_v763 : Ref sig .tc := ⟨.hbm, 771, rfl⟩
abbrev main_v764 : Ref sig .tc := ⟨.hbm, 772, rfl⟩
abbrev main_v765 : Ref sig .tc := ⟨.hbm, 773, rfl⟩
abbrev main_v766 : Ref sig .tc := ⟨.hbm, 774, rfl⟩
abbrev main_v767 : Ref sig .tc := ⟨.hbm, 775, rfl⟩
abbrev main_v768 : Ref sig .tc := ⟨.hbm, 776, rfl⟩
abbrev main_v769 : Ref sig .tc := ⟨.hbm, 777, rfl⟩
abbrev main_v770 : Ref sig .tc := ⟨.hbm, 778, rfl⟩
abbrev main_v771 : Ref sig .tc := ⟨.hbm, 779, rfl⟩
abbrev main_v772 : Ref sig .tc := ⟨.hbm, 780, rfl⟩
abbrev main_v773 : Ref sig .tc := ⟨.hbm, 781, rfl⟩
abbrev main_v774 : Ref sig .tc := ⟨.hbm, 782, rfl⟩
abbrev main_v775 : Ref sig .tc := ⟨.hbm, 783, rfl⟩
abbrev main_v776 : Ref sig .tc := ⟨.hbm, 784, rfl⟩
abbrev main_v777 : Ref sig .tc := ⟨.hbm, 785, rfl⟩
abbrev main_v778 : Ref sig .tc := ⟨.hbm, 786, rfl⟩
abbrev main_v779 : Ref sig .tc := ⟨.hbm, 787, rfl⟩
abbrev main_v780 : Ref sig .tc := ⟨.hbm, 788, rfl⟩
abbrev main_v781 : Ref sig .tc := ⟨.hbm, 789, rfl⟩
abbrev main_v782 : Ref sig .tc := ⟨.hbm, 790, rfl⟩
abbrev main_v783 : Ref sig .tc := ⟨.hbm, 791, rfl⟩
abbrev main_v784 : Ref sig .tc := ⟨.hbm, 792, rfl⟩
abbrev main_v785 : Ref sig .tc := ⟨.hbm, 793, rfl⟩
abbrev main_v786 : Ref sig .tc := ⟨.hbm, 794, rfl⟩
abbrev main_v787 : Ref sig .tc := ⟨.hbm, 795, rfl⟩
abbrev main_v788 : Ref sig .tc := ⟨.hbm, 796, rfl⟩
abbrev main_v789 : Ref sig .tc := ⟨.hbm, 797, rfl⟩
abbrev main_v790 : Ref sig .tc := ⟨.hbm, 798, rfl⟩
abbrev main_v791 : Ref sig .tc := ⟨.hbm, 799, rfl⟩
abbrev main_v792 : Ref sig .tc := ⟨.hbm, 800, rfl⟩
abbrev main_v793 : Ref sig .tc := ⟨.hbm, 801, rfl⟩
abbrev main_v794 : Ref sig .tc := ⟨.hbm, 802, rfl⟩
abbrev main_v795 : Ref sig .tc := ⟨.hbm, 803, rfl⟩
abbrev main_v796 : Ref sig .tc := ⟨.hbm, 804, rfl⟩
abbrev main_v797 : Ref sig .tc := ⟨.hbm, 805, rfl⟩
abbrev main_v798 : Ref sig .tc := ⟨.hbm, 806, rfl⟩
abbrev main_v799 : Ref sig .tc := ⟨.hbm, 807, rfl⟩
abbrev main_v800 : Ref sig .tc := ⟨.hbm, 808, rfl⟩
abbrev main_v801 : Ref sig .tc := ⟨.hbm, 809, rfl⟩
abbrev main_v802 : Ref sig .tc := ⟨.hbm, 810, rfl⟩
abbrev main_v803 : Ref sig .tc := ⟨.hbm, 811, rfl⟩
abbrev main_v804 : Ref sig .tc := ⟨.hbm, 812, rfl⟩
abbrev main_v805 : Ref sig .tc := ⟨.hbm, 813, rfl⟩
abbrev main_v806 : Ref sig .tc := ⟨.hbm, 814, rfl⟩
abbrev main_v807 : Ref sig .tc := ⟨.hbm, 815, rfl⟩
abbrev main_v808 : Ref sig .tc := ⟨.hbm, 816, rfl⟩
abbrev main_v809 : Ref sig .tc := ⟨.hbm, 817, rfl⟩
abbrev main_v810 : Ref sig .tc := ⟨.hbm, 818, rfl⟩
abbrev main_v811 : Ref sig .tc := ⟨.hbm, 819, rfl⟩
abbrev main_v812 : Ref sig .tc := ⟨.hbm, 820, rfl⟩
abbrev main_v813 : Ref sig .tc := ⟨.hbm, 821, rfl⟩
abbrev main_v814 : Ref sig .tc := ⟨.hbm, 822, rfl⟩
abbrev main_v815 : Ref sig .tc := ⟨.hbm, 823, rfl⟩
abbrev main_v816 : Ref sig .tc := ⟨.hbm, 824, rfl⟩
abbrev main_v817 : Ref sig .tc := ⟨.hbm, 825, rfl⟩
abbrev main_v818 : Ref sig .tc := ⟨.hbm, 826, rfl⟩
abbrev main_v819 : Ref sig .tc := ⟨.hbm, 827, rfl⟩
abbrev main_v820 : Ref sig .tc := ⟨.hbm, 828, rfl⟩
abbrev main_v821 : Ref sig .tc := ⟨.hbm, 829, rfl⟩
abbrev main_v822 : Ref sig .tc := ⟨.hbm, 830, rfl⟩
abbrev main_v823 : Ref sig .tc := ⟨.hbm, 831, rfl⟩
abbrev main_v824 : Ref sig .tc := ⟨.hbm, 832, rfl⟩
abbrev main_v825 : Ref sig .tc := ⟨.hbm, 833, rfl⟩
abbrev main_v826 : Ref sig .tc := ⟨.hbm, 834, rfl⟩
abbrev main_v827 : Ref sig .tc := ⟨.hbm, 835, rfl⟩
abbrev main_v828 : Ref sig .tc := ⟨.hbm, 836, rfl⟩
abbrev main_v829 : Ref sig .tc := ⟨.hbm, 837, rfl⟩
abbrev main_v830 : Ref sig .tc := ⟨.hbm, 838, rfl⟩
abbrev main_cst : Ref sig .tc := ⟨.hbm, 839, rfl⟩
abbrev main_v831 : Ref sig .tc := ⟨.hbm, 840, rfl⟩
abbrev main_v832 : Ref sig .tc := ⟨.hbm, 841, rfl⟩
abbrev main_v833 : Ref sig .tc := ⟨.hbm, 842, rfl⟩
abbrev main_cst_0 : Ref sig .tc := ⟨.hbm, 843, rfl⟩
abbrev main_v834 : Ref sig .tc := ⟨.hbm, 844, rfl⟩
abbrev main_v835 : Ref sig .tc := ⟨.hbm, 845, rfl⟩
abbrev main_v836 : Ref sig .tc := ⟨.hbm, 846, rfl⟩
abbrev main_v837 : Ref sig .tc := ⟨.hbm, 847, rfl⟩
abbrev main_v838 : Ref sig .tc := ⟨.hbm, 848, rfl⟩
abbrev main_v839 : Ref sig .tc := ⟨.hbm, 849, rfl⟩
abbrev main_v840 : Ref sig .tc := ⟨.hbm, 850, rfl⟩
abbrev main_v841 : Ref sig .tc := ⟨.hbm, 851, rfl⟩
abbrev main_v842 : Ref sig .tc := ⟨.hbm, 852, rfl⟩
abbrev main_v843 : Ref sig .tc := ⟨.hbm, 853, rfl⟩
abbrev main_v844 : Ref sig .tc := ⟨.hbm, 854, rfl⟩
abbrev main_v845 : Ref sig .tc := ⟨.hbm, 855, rfl⟩
abbrev main_v846 : Ref sig .tc := ⟨.hbm, 856, rfl⟩
abbrev main_v847 : Ref sig .tc := ⟨.hbm, 857, rfl⟩
abbrev main_cst_1 : Ref sig .tc := ⟨.hbm, 858, rfl⟩
abbrev main_v848 : Ref sig .tc := ⟨.hbm, 859, rfl⟩
abbrev main_v849 : Ref sig .tc := ⟨.hbm, 860, rfl⟩
abbrev main_cst_2 : Ref sig .tc := ⟨.hbm, 861, rfl⟩
abbrev main_v850 : Ref sig .tc := ⟨.hbm, 862, rfl⟩
abbrev main_v851 : Ref sig .tc := ⟨.hbm, 863, rfl⟩
abbrev main_cst_3 : Ref sig .tc := ⟨.hbm, 864, rfl⟩
abbrev main_v852 : Ref sig .tc := ⟨.hbm, 865, rfl⟩
abbrev main_cst_4 : Ref sig .tc := ⟨.hbm, 866, rfl⟩
abbrev main_v853 : Ref sig .tc := ⟨.hbm, 867, rfl⟩
abbrev main_cst_5 : Ref sig .tc := ⟨.hbm, 868, rfl⟩
abbrev main_v854 : Ref sig .tc := ⟨.hbm, 869, rfl⟩
abbrev main_v855 : Ref sig .tc := ⟨.hbm, 870, rfl⟩
abbrev main_cst_6 : Ref sig .tc := ⟨.hbm, 871, rfl⟩
abbrev main_v856 : Ref sig .tc := ⟨.hbm, 872, rfl⟩
abbrev main_v857 : Ref sig .tc := ⟨.hbm, 873, rfl⟩
abbrev main_v858 : Ref sig .tc := ⟨.hbm, 874, rfl⟩
abbrev main_v859 : Ref sig .tc := ⟨.hbm, 875, rfl⟩
abbrev main_v860 : Ref sig .tc := ⟨.hbm, 876, rfl⟩
abbrev main_v861 : Ref sig .tc := ⟨.hbm, 877, rfl⟩
abbrev main_v862 : Ref sig .tc := ⟨.hbm, 878, rfl⟩
abbrev main_v863 : Ref sig .tc := ⟨.hbm, 879, rfl⟩
abbrev main_v864 : Ref sig .tc := ⟨.hbm, 880, rfl⟩
abbrev main_v865 : Ref sig .tc := ⟨.hbm, 881, rfl⟩
abbrev main_v866 : Ref sig .tc := ⟨.hbm, 882, rfl⟩
abbrev main_v867 : Ref sig .tc := ⟨.hbm, 883, rfl⟩
abbrev main_v868 : Ref sig .tc := ⟨.hbm, 884, rfl⟩
abbrev main_v869 : Ref sig .tc := ⟨.hbm, 885, rfl⟩
abbrev main_cst_7 : Ref sig .tc := ⟨.hbm, 886, rfl⟩
abbrev main_v870 : Ref sig .tc := ⟨.hbm, 887, rfl⟩
abbrev main_v871 : Ref sig .tc := ⟨.hbm, 888, rfl⟩
abbrev main_v872 : Ref sig .tc := ⟨.hbm, 889, rfl⟩
abbrev main_cst_8 : Ref sig .tc := ⟨.hbm, 890, rfl⟩
abbrev main_v873 : Ref sig .tc := ⟨.hbm, 891, rfl⟩
abbrev main_v874 : Ref sig .tc := ⟨.hbm, 892, rfl⟩
abbrev main_v875 : Ref sig .tc := ⟨.hbm, 893, rfl⟩
abbrev main_v876 : Ref sig .tc := ⟨.hbm, 894, rfl⟩
abbrev main_v877 : Ref sig .tc := ⟨.hbm, 895, rfl⟩
abbrev main_v878 : Ref sig .tc := ⟨.hbm, 896, rfl⟩
abbrev main_v879 : Ref sig .tc := ⟨.hbm, 897, rfl⟩
abbrev main_v880 : Ref sig .tc := ⟨.hbm, 898, rfl⟩
abbrev main_v881 : Ref sig .tc := ⟨.hbm, 899, rfl⟩
abbrev main_v882 : Ref sig .tc := ⟨.hbm, 900, rfl⟩
abbrev main_v883 : Ref sig .tc := ⟨.hbm, 901, rfl⟩
abbrev main_v884 : Ref sig .tc := ⟨.hbm, 902, rfl⟩
abbrev main_v885 : Ref sig .tc := ⟨.hbm, 903, rfl⟩
abbrev main_v886 : Ref sig .tc := ⟨.hbm, 904, rfl⟩
abbrev main_cst_9 : Ref sig .tc := ⟨.hbm, 905, rfl⟩
abbrev main_v887 : Ref sig .tc := ⟨.hbm, 906, rfl⟩
abbrev main_v888 : Ref sig .tc := ⟨.hbm, 907, rfl⟩
abbrev main_cst_10 : Ref sig .tc := ⟨.hbm, 908, rfl⟩
abbrev main_v889 : Ref sig .tc := ⟨.hbm, 909, rfl⟩
abbrev main_v890 : Ref sig .tc := ⟨.hbm, 910, rfl⟩
abbrev main_cst_11 : Ref sig .tc := ⟨.hbm, 911, rfl⟩
abbrev main_v891 : Ref sig .tc := ⟨.hbm, 912, rfl⟩
abbrev main_cst_12 : Ref sig .tc := ⟨.hbm, 913, rfl⟩
abbrev main_v892 : Ref sig .tc := ⟨.hbm, 914, rfl⟩
abbrev main_cst_13 : Ref sig .tc := ⟨.hbm, 915, rfl⟩
abbrev main_v893 : Ref sig .tc := ⟨.hbm, 916, rfl⟩
abbrev main_v894 : Ref sig .tc := ⟨.hbm, 917, rfl⟩
abbrev main_cst_14 : Ref sig .tc := ⟨.hbm, 918, rfl⟩
abbrev main_v895 : Ref sig .tc := ⟨.hbm, 919, rfl⟩
abbrev main_v896 : Ref sig .tc := ⟨.hbm, 920, rfl⟩
abbrev main_v897 : Ref sig .tc := ⟨.hbm, 921, rfl⟩
abbrev main_v898 : Ref sig .tc := ⟨.hbm, 922, rfl⟩
abbrev main_v899 : Ref sig .tc := ⟨.hbm, 923, rfl⟩
abbrev main_v900 : Ref sig .tc := ⟨.hbm, 924, rfl⟩
abbrev main_v901 : Ref sig .tc := ⟨.hbm, 925, rfl⟩
abbrev main_v902 : Ref sig .tc := ⟨.hbm, 926, rfl⟩
abbrev main_v903 : Ref sig .tc := ⟨.hbm, 927, rfl⟩
abbrev main_v904 : Ref sig .tc := ⟨.hbm, 928, rfl⟩
abbrev main_v905 : Ref sig .tc := ⟨.hbm, 929, rfl⟩
abbrev main_v906 : Ref sig .tc := ⟨.hbm, 930, rfl⟩
abbrev main_v907 : Ref sig .tc := ⟨.hbm, 931, rfl⟩
abbrev main_v908 : Ref sig .tc := ⟨.hbm, 932, rfl⟩
abbrev main_cst_15 : Ref sig .tc := ⟨.hbm, 933, rfl⟩
abbrev main_v909 : Ref sig .tc := ⟨.hbm, 934, rfl⟩
abbrev main_v910 : Ref sig .tc := ⟨.hbm, 935, rfl⟩
abbrev main_v911 : Ref sig .tc := ⟨.hbm, 936, rfl⟩
abbrev main_cst_16 : Ref sig .tc := ⟨.hbm, 937, rfl⟩
abbrev main_v912 : Ref sig .tc := ⟨.hbm, 938, rfl⟩
abbrev main_v913 : Ref sig .tc := ⟨.hbm, 939, rfl⟩
abbrev main_v914 : Ref sig .tc := ⟨.hbm, 940, rfl⟩
abbrev main_v915 : Ref sig .tc := ⟨.hbm, 941, rfl⟩
abbrev main_v916 : Ref sig .tc := ⟨.hbm, 942, rfl⟩
abbrev main_v917 : Ref sig .tc := ⟨.hbm, 943, rfl⟩
abbrev main_v918 : Ref sig .tc := ⟨.hbm, 944, rfl⟩
abbrev main_v919 : Ref sig .tc := ⟨.hbm, 945, rfl⟩
abbrev main_v920 : Ref sig .tc := ⟨.hbm, 946, rfl⟩
abbrev main_v921 : Ref sig .tc := ⟨.hbm, 947, rfl⟩
abbrev main_v922 : Ref sig .tc := ⟨.hbm, 948, rfl⟩
abbrev main_v923 : Ref sig .tc := ⟨.hbm, 949, rfl⟩
abbrev main_v924 : Ref sig .tc := ⟨.hbm, 950, rfl⟩
abbrev main_v925 : Ref sig .tc := ⟨.hbm, 951, rfl⟩
abbrev main_cst_17 : Ref sig .tc := ⟨.hbm, 952, rfl⟩
abbrev main_v926 : Ref sig .tc := ⟨.hbm, 953, rfl⟩
abbrev main_v927 : Ref sig .tc := ⟨.hbm, 954, rfl⟩
abbrev main_cst_18 : Ref sig .tc := ⟨.hbm, 955, rfl⟩
abbrev main_v928 : Ref sig .tc := ⟨.hbm, 956, rfl⟩
abbrev main_v929 : Ref sig .tc := ⟨.hbm, 957, rfl⟩
abbrev main_cst_19 : Ref sig .tc := ⟨.hbm, 958, rfl⟩
abbrev main_v930 : Ref sig .tc := ⟨.hbm, 959, rfl⟩
abbrev main_cst_20 : Ref sig .tc := ⟨.hbm, 960, rfl⟩
abbrev main_v931 : Ref sig .tc := ⟨.hbm, 961, rfl⟩
abbrev main_cst_21 : Ref sig .tc := ⟨.hbm, 962, rfl⟩
abbrev main_v932 : Ref sig .tc := ⟨.hbm, 963, rfl⟩
abbrev main_v933 : Ref sig .tc := ⟨.hbm, 964, rfl⟩
abbrev main_cst_22 : Ref sig .tc := ⟨.hbm, 965, rfl⟩
abbrev main_v934 : Ref sig .tc := ⟨.hbm, 966, rfl⟩
abbrev main_v935 : Ref sig .tc := ⟨.hbm, 967, rfl⟩
abbrev main_v936 : Ref sig .tc := ⟨.hbm, 968, rfl⟩
abbrev main_v937 : Ref sig .tc := ⟨.hbm, 969, rfl⟩
abbrev main_v938 : Ref sig .tc := ⟨.hbm, 970, rfl⟩
abbrev main_v939 : Ref sig .tc := ⟨.hbm, 971, rfl⟩
abbrev main_v940 : Ref sig .tc := ⟨.hbm, 972, rfl⟩
abbrev main_v941 : Ref sig .tc := ⟨.hbm, 973, rfl⟩
abbrev main_v942 : Ref sig .tc := ⟨.hbm, 974, rfl⟩
abbrev main_v943 : Ref sig .tc := ⟨.hbm, 975, rfl⟩
abbrev main_v944 : Ref sig .tc := ⟨.hbm, 976, rfl⟩
abbrev main_v945 : Ref sig .tc := ⟨.hbm, 977, rfl⟩
abbrev main_v946 : Ref sig .tc := ⟨.hbm, 978, rfl⟩
abbrev main_v947 : Ref sig .tc := ⟨.hbm, 979, rfl⟩
abbrev main_cst_23 : Ref sig .tc := ⟨.hbm, 980, rfl⟩
abbrev main_v948 : Ref sig .tc := ⟨.hbm, 981, rfl⟩
abbrev main_v949 : Ref sig .tc := ⟨.hbm, 982, rfl⟩
abbrev main_v950 : Ref sig .tc := ⟨.hbm, 983, rfl⟩
abbrev main_cst_24 : Ref sig .tc := ⟨.hbm, 984, rfl⟩
abbrev main_v951 : Ref sig .tc := ⟨.hbm, 985, rfl⟩
abbrev main_v952 : Ref sig .tc := ⟨.hbm, 986, rfl⟩
abbrev main_v953 : Ref sig .tc := ⟨.hbm, 987, rfl⟩
abbrev main_v954 : Ref sig .tc := ⟨.hbm, 988, rfl⟩
abbrev main_v955 : Ref sig .tc := ⟨.hbm, 989, rfl⟩
abbrev main_v956 : Ref sig .tc := ⟨.hbm, 990, rfl⟩
abbrev main_v957 : Ref sig .tc := ⟨.hbm, 991, rfl⟩
abbrev main_v958 : Ref sig .tc := ⟨.hbm, 992, rfl⟩
abbrev main_v959 : Ref sig .tc := ⟨.hbm, 993, rfl⟩
abbrev main_v960 : Ref sig .tc := ⟨.hbm, 994, rfl⟩
abbrev main_v961 : Ref sig .tc := ⟨.hbm, 995, rfl⟩
abbrev main_v962 : Ref sig .tc := ⟨.hbm, 996, rfl⟩
abbrev main_v963 : Ref sig .tc := ⟨.hbm, 997, rfl⟩
abbrev main_v964 : Ref sig .tc := ⟨.hbm, 998, rfl⟩
abbrev main_cst_25 : Ref sig .tc := ⟨.hbm, 999, rfl⟩
abbrev main_v965 : Ref sig .tc := ⟨.hbm, 1000, rfl⟩
abbrev main_v966 : Ref sig .tc := ⟨.hbm, 1001, rfl⟩
abbrev main_cst_26 : Ref sig .tc := ⟨.hbm, 1002, rfl⟩
abbrev main_v967 : Ref sig .tc := ⟨.hbm, 1003, rfl⟩
abbrev main_v968 : Ref sig .tc := ⟨.hbm, 1004, rfl⟩
abbrev main_cst_27 : Ref sig .tc := ⟨.hbm, 1005, rfl⟩
abbrev main_v969 : Ref sig .tc := ⟨.hbm, 1006, rfl⟩
abbrev main_cst_28 : Ref sig .tc := ⟨.hbm, 1007, rfl⟩
abbrev main_v970 : Ref sig .tc := ⟨.hbm, 1008, rfl⟩
abbrev main_cst_29 : Ref sig .tc := ⟨.hbm, 1009, rfl⟩
abbrev main_v971 : Ref sig .tc := ⟨.hbm, 1010, rfl⟩
abbrev main_v972 : Ref sig .tc := ⟨.hbm, 1011, rfl⟩
abbrev main_cst_30 : Ref sig .tc := ⟨.hbm, 1012, rfl⟩
abbrev main_v973 : Ref sig .tc := ⟨.hbm, 1013, rfl⟩
abbrev main_v974 : Ref sig .tc := ⟨.hbm, 1014, rfl⟩
abbrev main_v975 : Ref sig .tc := ⟨.hbm, 1015, rfl⟩
abbrev main_v976 : Ref sig .tc := ⟨.hbm, 1016, rfl⟩
abbrev main_v977 : Ref sig .tc := ⟨.hbm, 1017, rfl⟩
abbrev main_v978 : Ref sig .tc := ⟨.hbm, 1018, rfl⟩
abbrev main_v979 : Ref sig .tc := ⟨.hbm, 1019, rfl⟩
abbrev main_v980 : Ref sig .tc := ⟨.hbm, 1020, rfl⟩
abbrev main_v981 : Ref sig .tc := ⟨.hbm, 1021, rfl⟩
abbrev main_v982 : Ref sig .tc := ⟨.hbm, 1022, rfl⟩
abbrev main_v983 : Ref sig .tc := ⟨.hbm, 1023, rfl⟩
abbrev main_v984 : Ref sig .tc := ⟨.hbm, 1024, rfl⟩
abbrev main_v985 : Ref sig .tc := ⟨.hbm, 1025, rfl⟩
abbrev main_v986 : Ref sig .tc := ⟨.hbm, 1026, rfl⟩
abbrev main_cst_31 : Ref sig .tc := ⟨.hbm, 1027, rfl⟩
abbrev main_v987 : Ref sig .tc := ⟨.hbm, 1028, rfl⟩
abbrev main_v988 : Ref sig .tc := ⟨.hbm, 1029, rfl⟩
abbrev main_v989 : Ref sig .tc := ⟨.hbm, 1030, rfl⟩
abbrev main_cst_32 : Ref sig .tc := ⟨.hbm, 1031, rfl⟩
abbrev main_v990 : Ref sig .tc := ⟨.hbm, 1032, rfl⟩
abbrev main_v991 : Ref sig .tc := ⟨.hbm, 1033, rfl⟩
abbrev main_v992 : Ref sig .tc := ⟨.hbm, 1034, rfl⟩
abbrev main_v993 : Ref sig .tc := ⟨.hbm, 1035, rfl⟩
abbrev main_v994 : Ref sig .tc := ⟨.hbm, 1036, rfl⟩
abbrev main_v995 : Ref sig .tc := ⟨.hbm, 1037, rfl⟩
abbrev main_v996 : Ref sig .tc := ⟨.hbm, 1038, rfl⟩
abbrev main_v997 : Ref sig .tc := ⟨.hbm, 1039, rfl⟩
abbrev main_v998 : Ref sig .tc := ⟨.hbm, 1040, rfl⟩
abbrev main_v999 : Ref sig .tc := ⟨.hbm, 1041, rfl⟩
abbrev main_v1000 : Ref sig .tc := ⟨.hbm, 1042, rfl⟩
abbrev main_v1001 : Ref sig .tc := ⟨.hbm, 1043, rfl⟩
abbrev main_v1002 : Ref sig .tc := ⟨.hbm, 1044, rfl⟩
abbrev main_v1003 : Ref sig .tc := ⟨.hbm, 1045, rfl⟩
abbrev main_cst_33 : Ref sig .tc := ⟨.hbm, 1046, rfl⟩
abbrev main_v1004 : Ref sig .tc := ⟨.hbm, 1047, rfl⟩
abbrev main_v1005 : Ref sig .tc := ⟨.hbm, 1048, rfl⟩
abbrev main_cst_34 : Ref sig .tc := ⟨.hbm, 1049, rfl⟩
abbrev main_v1006 : Ref sig .tc := ⟨.hbm, 1050, rfl⟩
abbrev main_v1007 : Ref sig .tc := ⟨.hbm, 1051, rfl⟩
abbrev main_cst_35 : Ref sig .tc := ⟨.hbm, 1052, rfl⟩
abbrev main_v1008 : Ref sig .tc := ⟨.hbm, 1053, rfl⟩
abbrev main_cst_36 : Ref sig .tc := ⟨.hbm, 1054, rfl⟩
abbrev main_v1009 : Ref sig .tc := ⟨.hbm, 1055, rfl⟩
abbrev main_cst_37 : Ref sig .tc := ⟨.hbm, 1056, rfl⟩
abbrev main_v1010 : Ref sig .tc := ⟨.hbm, 1057, rfl⟩
abbrev main_v1011 : Ref sig .tc := ⟨.hbm, 1058, rfl⟩
abbrev main_cst_38 : Ref sig .tc := ⟨.hbm, 1059, rfl⟩
abbrev main_v1012 : Ref sig .tc := ⟨.hbm, 1060, rfl⟩
abbrev main_v1013 : Ref sig .tc := ⟨.hbm, 1061, rfl⟩
abbrev main_v1014 : Ref sig .tc := ⟨.hbm, 1062, rfl⟩
abbrev main_v1015 : Ref sig .tc := ⟨.hbm, 1063, rfl⟩
abbrev main_v1016 : Ref sig .tc := ⟨.hbm, 1064, rfl⟩
abbrev main_v1017 : Ref sig .tc := ⟨.hbm, 1065, rfl⟩
abbrev main_v1018 : Ref sig .tc := ⟨.hbm, 1066, rfl⟩
abbrev main_v1019 : Ref sig .tc := ⟨.hbm, 1067, rfl⟩
abbrev main_v1020 : Ref sig .tc := ⟨.hbm, 1068, rfl⟩
abbrev main_v1021 : Ref sig .tc := ⟨.hbm, 1069, rfl⟩
abbrev main_v1022 : Ref sig .tc := ⟨.hbm, 1070, rfl⟩
abbrev main_v1023 : Ref sig .tc := ⟨.hbm, 1071, rfl⟩
abbrev main_v1024 : Ref sig .tc := ⟨.hbm, 1072, rfl⟩
abbrev main_v1025 : Ref sig .tc := ⟨.hbm, 1073, rfl⟩
abbrev main_cst_39 : Ref sig .tc := ⟨.hbm, 1074, rfl⟩
abbrev main_v1026 : Ref sig .tc := ⟨.hbm, 1075, rfl⟩
abbrev main_v1027 : Ref sig .tc := ⟨.hbm, 1076, rfl⟩
abbrev main_v1028 : Ref sig .tc := ⟨.hbm, 1077, rfl⟩
abbrev main_cst_40 : Ref sig .tc := ⟨.hbm, 1078, rfl⟩
abbrev main_v1029 : Ref sig .tc := ⟨.hbm, 1079, rfl⟩
abbrev main_v1030 : Ref sig .tc := ⟨.hbm, 1080, rfl⟩
abbrev main_v1031 : Ref sig .tc := ⟨.hbm, 1081, rfl⟩
abbrev main_v1032 : Ref sig .tc := ⟨.hbm, 1082, rfl⟩
abbrev main_v1033 : Ref sig .tc := ⟨.hbm, 1083, rfl⟩
abbrev main_v1034 : Ref sig .tc := ⟨.hbm, 1084, rfl⟩
abbrev main_v1035 : Ref sig .tc := ⟨.hbm, 1085, rfl⟩
abbrev main_v1036 : Ref sig .tc := ⟨.hbm, 1086, rfl⟩
abbrev main_v1037 : Ref sig .tc := ⟨.hbm, 1087, rfl⟩
abbrev main_v1038 : Ref sig .tc := ⟨.hbm, 1088, rfl⟩
abbrev main_v1039 : Ref sig .tc := ⟨.hbm, 1089, rfl⟩
abbrev main_v1040 : Ref sig .tc := ⟨.hbm, 1090, rfl⟩
abbrev main_v1041 : Ref sig .tc := ⟨.hbm, 1091, rfl⟩
abbrev main_v1042 : Ref sig .tc := ⟨.hbm, 1092, rfl⟩
abbrev main_cst_41 : Ref sig .tc := ⟨.hbm, 1093, rfl⟩
abbrev main_v1043 : Ref sig .tc := ⟨.hbm, 1094, rfl⟩
abbrev main_v1044 : Ref sig .tc := ⟨.hbm, 1095, rfl⟩
abbrev main_cst_42 : Ref sig .tc := ⟨.hbm, 1096, rfl⟩
abbrev main_v1045 : Ref sig .tc := ⟨.hbm, 1097, rfl⟩
abbrev main_v1046 : Ref sig .tc := ⟨.hbm, 1098, rfl⟩
abbrev main_cst_43 : Ref sig .tc := ⟨.hbm, 1099, rfl⟩
abbrev main_v1047 : Ref sig .tc := ⟨.hbm, 1100, rfl⟩
abbrev main_cst_44 : Ref sig .tc := ⟨.hbm, 1101, rfl⟩
abbrev main_v1048 : Ref sig .tc := ⟨.hbm, 1102, rfl⟩
abbrev main_cst_45 : Ref sig .tc := ⟨.hbm, 1103, rfl⟩
abbrev main_v1049 : Ref sig .tc := ⟨.hbm, 1104, rfl⟩
abbrev main_v1050 : Ref sig .tc := ⟨.hbm, 1105, rfl⟩
abbrev main_cst_46 : Ref sig .tc := ⟨.hbm, 1106, rfl⟩
abbrev main_v1051 : Ref sig .tc := ⟨.hbm, 1107, rfl⟩
abbrev main_v1052 : Ref sig .tc := ⟨.hbm, 1108, rfl⟩
abbrev main_v1053 : Ref sig .tc := ⟨.hbm, 1109, rfl⟩
abbrev main_v1054 : Ref sig .tc := ⟨.hbm, 1110, rfl⟩
abbrev main_v1055 : Ref sig .tc := ⟨.hbm, 1111, rfl⟩
abbrev main_v1056 : Ref sig .tc := ⟨.hbm, 1112, rfl⟩
abbrev main_v1057 : Ref sig .tc := ⟨.hbm, 1113, rfl⟩
abbrev main_v1058 : Ref sig .tc := ⟨.hbm, 1114, rfl⟩
abbrev main_v1059 : Ref sig .tc := ⟨.hbm, 1115, rfl⟩
abbrev main_v1060 : Ref sig .tc := ⟨.hbm, 1116, rfl⟩
abbrev main_v1061 : Ref sig .tc := ⟨.hbm, 1117, rfl⟩
abbrev main_v1062 : Ref sig .tc := ⟨.hbm, 1118, rfl⟩
abbrev main_v1063 : Ref sig .tc := ⟨.hbm, 1119, rfl⟩
abbrev main_v1064 : Ref sig .tc := ⟨.hbm, 1120, rfl⟩
abbrev main_cst_47 : Ref sig .tc := ⟨.hbm, 1121, rfl⟩
abbrev main_v1065 : Ref sig .tc := ⟨.hbm, 1122, rfl⟩
abbrev main_v1066 : Ref sig .tc := ⟨.hbm, 1123, rfl⟩
abbrev main_v1067 : Ref sig .tc := ⟨.hbm, 1124, rfl⟩
abbrev main_cst_48 : Ref sig .tc := ⟨.hbm, 1125, rfl⟩
abbrev main_v1068 : Ref sig .tc := ⟨.hbm, 1126, rfl⟩
abbrev main_v1069 : Ref sig .tc := ⟨.hbm, 1127, rfl⟩
abbrev main_v1070 : Ref sig .tc := ⟨.hbm, 1128, rfl⟩
abbrev main_v1071 : Ref sig .tc := ⟨.hbm, 1129, rfl⟩
abbrev main_v1072 : Ref sig .tc := ⟨.hbm, 1130, rfl⟩
abbrev main_v1073 : Ref sig .tc := ⟨.hbm, 1131, rfl⟩
abbrev main_v1074 : Ref sig .tc := ⟨.hbm, 1132, rfl⟩
abbrev main_v1075 : Ref sig .tc := ⟨.hbm, 1133, rfl⟩
abbrev main_v1076 : Ref sig .tc := ⟨.hbm, 1134, rfl⟩
abbrev main_v1077 : Ref sig .tc := ⟨.hbm, 1135, rfl⟩
abbrev main_v1078 : Ref sig .tc := ⟨.hbm, 1136, rfl⟩
abbrev main_v1079 : Ref sig .tc := ⟨.hbm, 1137, rfl⟩
abbrev main_v1080 : Ref sig .tc := ⟨.hbm, 1138, rfl⟩
abbrev main_v1081 : Ref sig .tc := ⟨.hbm, 1139, rfl⟩
abbrev main_cst_49 : Ref sig .tc := ⟨.hbm, 1140, rfl⟩
abbrev main_v1082 : Ref sig .tc := ⟨.hbm, 1141, rfl⟩
abbrev main_v1083 : Ref sig .tc := ⟨.hbm, 1142, rfl⟩
abbrev main_cst_50 : Ref sig .tc := ⟨.hbm, 1143, rfl⟩
abbrev main_v1084 : Ref sig .tc := ⟨.hbm, 1144, rfl⟩
abbrev main_v1085 : Ref sig .tc := ⟨.hbm, 1145, rfl⟩
abbrev main_cst_51 : Ref sig .tc := ⟨.hbm, 1146, rfl⟩
abbrev main_v1086 : Ref sig .tc := ⟨.hbm, 1147, rfl⟩
abbrev main_cst_52 : Ref sig .tc := ⟨.hbm, 1148, rfl⟩
abbrev main_v1087 : Ref sig .tc := ⟨.hbm, 1149, rfl⟩
abbrev main_cst_53 : Ref sig .tc := ⟨.hbm, 1150, rfl⟩
abbrev main_v1088 : Ref sig .tc := ⟨.hbm, 1151, rfl⟩
abbrev main_v1089 : Ref sig .tc := ⟨.hbm, 1152, rfl⟩
abbrev main_cst_54 : Ref sig .tc := ⟨.hbm, 1153, rfl⟩
abbrev main_v1090 : Ref sig .tc := ⟨.hbm, 1154, rfl⟩
abbrev main_v1091 : Ref sig .tc := ⟨.hbm, 1155, rfl⟩
abbrev main_v1092 : Ref sig .tc := ⟨.hbm, 1156, rfl⟩
abbrev main_v1093 : Ref sig .tc := ⟨.hbm, 1157, rfl⟩
abbrev main_v1094 : Ref sig .tc := ⟨.hbm, 1158, rfl⟩
abbrev main_v1095 : Ref sig .tc := ⟨.hbm, 1159, rfl⟩
abbrev main_v1096 : Ref sig .tc := ⟨.hbm, 1160, rfl⟩
abbrev main_v1097 : Ref sig .tc := ⟨.hbm, 1161, rfl⟩
abbrev main_v1098 : Ref sig .tc := ⟨.hbm, 1162, rfl⟩
abbrev main_v1099 : Ref sig .tc := ⟨.hbm, 1163, rfl⟩
abbrev main_v1100 : Ref sig .tc := ⟨.hbm, 1164, rfl⟩
abbrev main_v1101 : Ref sig .tc := ⟨.hbm, 1165, rfl⟩
abbrev main_v1102 : Ref sig .tc := ⟨.hbm, 1166, rfl⟩
abbrev main_v1103 : Ref sig .tc := ⟨.hbm, 1167, rfl⟩
abbrev main_cst_55 : Ref sig .tc := ⟨.hbm, 1168, rfl⟩
abbrev main_v1104 : Ref sig .tc := ⟨.hbm, 1169, rfl⟩
abbrev main_v1105 : Ref sig .tc := ⟨.hbm, 1170, rfl⟩
abbrev main_v1106 : Ref sig .tc := ⟨.hbm, 1171, rfl⟩
abbrev main_cst_56 : Ref sig .tc := ⟨.hbm, 1172, rfl⟩
abbrev main_v1107 : Ref sig .tc := ⟨.hbm, 1173, rfl⟩
abbrev main_v1108 : Ref sig .tc := ⟨.hbm, 1174, rfl⟩
abbrev main_v1109 : Ref sig .tc := ⟨.hbm, 1175, rfl⟩
abbrev main_v1110 : Ref sig .tc := ⟨.hbm, 1176, rfl⟩
abbrev main_v1111 : Ref sig .tc := ⟨.hbm, 1177, rfl⟩
abbrev main_v1112 : Ref sig .tc := ⟨.hbm, 1178, rfl⟩
abbrev main_v1113 : Ref sig .tc := ⟨.hbm, 1179, rfl⟩
abbrev main_v1114 : Ref sig .tc := ⟨.hbm, 1180, rfl⟩
abbrev main_v1115 : Ref sig .tc := ⟨.hbm, 1181, rfl⟩
abbrev main_v1116 : Ref sig .tc := ⟨.hbm, 1182, rfl⟩
abbrev main_v1117 : Ref sig .tc := ⟨.hbm, 1183, rfl⟩
abbrev main_v1118 : Ref sig .tc := ⟨.hbm, 1184, rfl⟩
abbrev main_v1119 : Ref sig .tc := ⟨.hbm, 1185, rfl⟩
abbrev main_v1120 : Ref sig .tc := ⟨.hbm, 1186, rfl⟩
abbrev main_cst_57 : Ref sig .tc := ⟨.hbm, 1187, rfl⟩
abbrev main_v1121 : Ref sig .tc := ⟨.hbm, 1188, rfl⟩
abbrev main_v1122 : Ref sig .tc := ⟨.hbm, 1189, rfl⟩
abbrev main_cst_58 : Ref sig .tc := ⟨.hbm, 1190, rfl⟩
abbrev main_v1123 : Ref sig .tc := ⟨.hbm, 1191, rfl⟩
abbrev main_v1124 : Ref sig .tc := ⟨.hbm, 1192, rfl⟩
abbrev main_cst_59 : Ref sig .tc := ⟨.hbm, 1193, rfl⟩
abbrev main_v1125 : Ref sig .tc := ⟨.hbm, 1194, rfl⟩
abbrev main_cst_60 : Ref sig .tc := ⟨.hbm, 1195, rfl⟩
abbrev main_v1126 : Ref sig .tc := ⟨.hbm, 1196, rfl⟩
abbrev main_cst_61 : Ref sig .tc := ⟨.hbm, 1197, rfl⟩
abbrev main_v1127 : Ref sig .tc := ⟨.hbm, 1198, rfl⟩
abbrev main_v1128 : Ref sig .tc := ⟨.hbm, 1199, rfl⟩
abbrev main_cst_62 : Ref sig .tc := ⟨.hbm, 1200, rfl⟩
abbrev main_v1129 : Ref sig .tc := ⟨.hbm, 1201, rfl⟩
abbrev main_v1130 : Ref sig .tc := ⟨.hbm, 1202, rfl⟩
abbrev main_v1131 : Ref sig .tc := ⟨.hbm, 1203, rfl⟩
abbrev main_v1132 : Ref sig .tc := ⟨.hbm, 1204, rfl⟩
abbrev main_v1133 : Ref sig .tc := ⟨.hbm, 1205, rfl⟩
abbrev main_v1134 : Ref sig .tc := ⟨.hbm, 1206, rfl⟩
abbrev main_v1135 : Ref sig .tc := ⟨.hbm, 1207, rfl⟩
abbrev main_v1136 : Ref sig .tc := ⟨.hbm, 1208, rfl⟩
abbrev main_v1137 : Ref sig .tc := ⟨.hbm, 1209, rfl⟩
abbrev main_v1138 : Ref sig .tc := ⟨.hbm, 1210, rfl⟩
abbrev main_v1139 : Ref sig .tc := ⟨.hbm, 1211, rfl⟩
abbrev main_v1140 : Ref sig .tc := ⟨.hbm, 1212, rfl⟩
abbrev main_v1141 : Ref sig .tc := ⟨.hbm, 1213, rfl⟩
abbrev main_v1142 : Ref sig .tc := ⟨.hbm, 1214, rfl⟩
abbrev main_cst_63 : Ref sig .tc := ⟨.hbm, 1215, rfl⟩
abbrev main_v1143 : Ref sig .tc := ⟨.hbm, 1216, rfl⟩
abbrev main_v1144 : Ref sig .tc := ⟨.hbm, 1217, rfl⟩
abbrev main_v1145 : Ref sig .tc := ⟨.hbm, 1218, rfl⟩
abbrev main_cst_64 : Ref sig .tc := ⟨.hbm, 1219, rfl⟩
abbrev main_v1146 : Ref sig .tc := ⟨.hbm, 1220, rfl⟩
abbrev main_v1147 : Ref sig .tc := ⟨.hbm, 1221, rfl⟩
abbrev main_v1148 : Ref sig .tc := ⟨.hbm, 1222, rfl⟩
abbrev main_v1149 : Ref sig .tc := ⟨.hbm, 1223, rfl⟩
abbrev main_v1150 : Ref sig .tc := ⟨.hbm, 1224, rfl⟩
abbrev main_v1151 : Ref sig .tc := ⟨.hbm, 1225, rfl⟩
abbrev main_v1152 : Ref sig .tc := ⟨.hbm, 1226, rfl⟩
abbrev main_v1153 : Ref sig .tc := ⟨.hbm, 1227, rfl⟩
abbrev main_v1154 : Ref sig .tc := ⟨.hbm, 1228, rfl⟩
abbrev main_v1155 : Ref sig .tc := ⟨.hbm, 1229, rfl⟩
abbrev main_v1156 : Ref sig .tc := ⟨.hbm, 1230, rfl⟩
abbrev main_v1157 : Ref sig .tc := ⟨.hbm, 1231, rfl⟩
abbrev main_v1158 : Ref sig .tc := ⟨.hbm, 1232, rfl⟩
abbrev main_v1159 : Ref sig .tc := ⟨.hbm, 1233, rfl⟩
abbrev main_cst_65 : Ref sig .tc := ⟨.hbm, 1234, rfl⟩
abbrev main_v1160 : Ref sig .tc := ⟨.hbm, 1235, rfl⟩
abbrev main_v1161 : Ref sig .tc := ⟨.hbm, 1236, rfl⟩
abbrev main_cst_66 : Ref sig .tc := ⟨.hbm, 1237, rfl⟩
abbrev main_v1162 : Ref sig .tc := ⟨.hbm, 1238, rfl⟩
abbrev main_v1163 : Ref sig .tc := ⟨.hbm, 1239, rfl⟩
abbrev main_cst_67 : Ref sig .tc := ⟨.hbm, 1240, rfl⟩
abbrev main_v1164 : Ref sig .tc := ⟨.hbm, 1241, rfl⟩
abbrev main_cst_68 : Ref sig .tc := ⟨.hbm, 1242, rfl⟩
abbrev main_v1165 : Ref sig .tc := ⟨.hbm, 1243, rfl⟩
abbrev main_cst_69 : Ref sig .tc := ⟨.hbm, 1244, rfl⟩
abbrev main_v1166 : Ref sig .tc := ⟨.hbm, 1245, rfl⟩
abbrev main_v1167 : Ref sig .tc := ⟨.hbm, 1246, rfl⟩
abbrev main_cst_70 : Ref sig .tc := ⟨.hbm, 1247, rfl⟩
abbrev main_v1168 : Ref sig .tc := ⟨.hbm, 1248, rfl⟩
abbrev main_v1169 : Ref sig .tc := ⟨.hbm, 1249, rfl⟩
abbrev main_v1170 : Ref sig .tc := ⟨.hbm, 1250, rfl⟩
abbrev main_v1171 : Ref sig .tc := ⟨.hbm, 1251, rfl⟩
abbrev main_v1172 : Ref sig .tc := ⟨.hbm, 1252, rfl⟩
abbrev main_v1173 : Ref sig .tc := ⟨.hbm, 1253, rfl⟩
abbrev main_v1174 : Ref sig .tc := ⟨.hbm, 1254, rfl⟩
abbrev main_v1175 : Ref sig .tc := ⟨.hbm, 1255, rfl⟩
abbrev main_v1176 : Ref sig .tc := ⟨.hbm, 1256, rfl⟩
abbrev main_v1177 : Ref sig .tc := ⟨.hbm, 1257, rfl⟩
abbrev main_v1178 : Ref sig .tc := ⟨.hbm, 1258, rfl⟩
abbrev main_v1179 : Ref sig .tc := ⟨.hbm, 1259, rfl⟩
abbrev main_v1180 : Ref sig .tc := ⟨.hbm, 1260, rfl⟩
abbrev main_v1181 : Ref sig .tc := ⟨.hbm, 1261, rfl⟩
abbrev main_cst_71 : Ref sig .tc := ⟨.hbm, 1262, rfl⟩
abbrev main_v1182 : Ref sig .tc := ⟨.hbm, 1263, rfl⟩
abbrev main_v1183 : Ref sig .tc := ⟨.hbm, 1264, rfl⟩
abbrev main_v1184 : Ref sig .tc := ⟨.hbm, 1265, rfl⟩
abbrev main_cst_72 : Ref sig .tc := ⟨.hbm, 1266, rfl⟩
abbrev main_v1185 : Ref sig .tc := ⟨.hbm, 1267, rfl⟩
abbrev main_v1186 : Ref sig .tc := ⟨.hbm, 1268, rfl⟩
abbrev main_v1187 : Ref sig .tc := ⟨.hbm, 1269, rfl⟩
abbrev main_v1188 : Ref sig .tc := ⟨.hbm, 1270, rfl⟩
abbrev main_v1189 : Ref sig .tc := ⟨.hbm, 1271, rfl⟩
abbrev main_v1190 : Ref sig .tc := ⟨.hbm, 1272, rfl⟩
abbrev main_v1191 : Ref sig .tc := ⟨.hbm, 1273, rfl⟩
abbrev main_v1192 : Ref sig .tc := ⟨.hbm, 1274, rfl⟩
abbrev main_v1193 : Ref sig .tc := ⟨.hbm, 1275, rfl⟩
abbrev main_v1194 : Ref sig .tc := ⟨.hbm, 1276, rfl⟩
abbrev main_v1195 : Ref sig .tc := ⟨.hbm, 1277, rfl⟩
abbrev main_v1196 : Ref sig .tc := ⟨.hbm, 1278, rfl⟩
abbrev main_v1197 : Ref sig .tc := ⟨.hbm, 1279, rfl⟩
abbrev main_v1198 : Ref sig .tc := ⟨.hbm, 1280, rfl⟩
abbrev main_cst_73 : Ref sig .tc := ⟨.hbm, 1281, rfl⟩
abbrev main_v1199 : Ref sig .tc := ⟨.hbm, 1282, rfl⟩
abbrev main_v1200 : Ref sig .tc := ⟨.hbm, 1283, rfl⟩
abbrev main_cst_74 : Ref sig .tc := ⟨.hbm, 1284, rfl⟩
abbrev main_v1201 : Ref sig .tc := ⟨.hbm, 1285, rfl⟩
abbrev main_v1202 : Ref sig .tc := ⟨.hbm, 1286, rfl⟩
abbrev main_cst_75 : Ref sig .tc := ⟨.hbm, 1287, rfl⟩
abbrev main_v1203 : Ref sig .tc := ⟨.hbm, 1288, rfl⟩
abbrev main_cst_76 : Ref sig .tc := ⟨.hbm, 1289, rfl⟩
abbrev main_v1204 : Ref sig .tc := ⟨.hbm, 1290, rfl⟩
abbrev main_cst_77 : Ref sig .tc := ⟨.hbm, 1291, rfl⟩
abbrev main_v1205 : Ref sig .tc := ⟨.hbm, 1292, rfl⟩
abbrev main_v1206 : Ref sig .tc := ⟨.hbm, 1293, rfl⟩
abbrev main_cst_78 : Ref sig .tc := ⟨.hbm, 1294, rfl⟩
abbrev main_v1207 : Ref sig .tc := ⟨.hbm, 1295, rfl⟩
abbrev main_v1208 : Ref sig .tc := ⟨.hbm, 1296, rfl⟩
abbrev main_v1209 : Ref sig .tc := ⟨.hbm, 1297, rfl⟩
abbrev main_v1210 : Ref sig .tc := ⟨.hbm, 1298, rfl⟩
abbrev main_v1211 : Ref sig .tc := ⟨.hbm, 1299, rfl⟩
abbrev main_v1212 : Ref sig .tc := ⟨.hbm, 1300, rfl⟩
abbrev main_v1213 : Ref sig .tc := ⟨.hbm, 1301, rfl⟩
abbrev main_v1214 : Ref sig .tc := ⟨.hbm, 1302, rfl⟩
abbrev main_v1215 : Ref sig .tc := ⟨.hbm, 1303, rfl⟩
abbrev main_v1216 : Ref sig .tc := ⟨.hbm, 1304, rfl⟩
abbrev main_v1217 : Ref sig .tc := ⟨.hbm, 1305, rfl⟩
abbrev main_v1218 : Ref sig .tc := ⟨.hbm, 1306, rfl⟩
abbrev main_v1219 : Ref sig .tc := ⟨.hbm, 1307, rfl⟩
abbrev main_v1220 : Ref sig .tc := ⟨.hbm, 1308, rfl⟩
abbrev main_cst_79 : Ref sig .tc := ⟨.hbm, 1309, rfl⟩
abbrev main_v1221 : Ref sig .tc := ⟨.hbm, 1310, rfl⟩
abbrev main_v1222 : Ref sig .tc := ⟨.hbm, 1311, rfl⟩
abbrev main_v1223 : Ref sig .tc := ⟨.hbm, 1312, rfl⟩
abbrev main_cst_80 : Ref sig .tc := ⟨.hbm, 1313, rfl⟩
abbrev main_v1224 : Ref sig .tc := ⟨.hbm, 1314, rfl⟩
abbrev main_v1225 : Ref sig .tc := ⟨.hbm, 1315, rfl⟩
abbrev main_v1226 : Ref sig .tc := ⟨.hbm, 1316, rfl⟩
abbrev main_v1227 : Ref sig .tc := ⟨.hbm, 1317, rfl⟩
abbrev main_v1228 : Ref sig .tc := ⟨.hbm, 1318, rfl⟩
abbrev main_v1229 : Ref sig .tc := ⟨.hbm, 1319, rfl⟩
abbrev main_v1230 : Ref sig .tc := ⟨.hbm, 1320, rfl⟩
abbrev main_v1231 : Ref sig .tc := ⟨.hbm, 1321, rfl⟩
abbrev main_v1232 : Ref sig .tc := ⟨.hbm, 1322, rfl⟩
abbrev main_v1233 : Ref sig .tc := ⟨.hbm, 1323, rfl⟩
abbrev main_v1234 : Ref sig .tc := ⟨.hbm, 1324, rfl⟩
abbrev main_v1235 : Ref sig .tc := ⟨.hbm, 1325, rfl⟩
abbrev main_v1236 : Ref sig .tc := ⟨.hbm, 1326, rfl⟩
abbrev main_v1237 : Ref sig .tc := ⟨.hbm, 1327, rfl⟩
abbrev main_cst_81 : Ref sig .tc := ⟨.hbm, 1328, rfl⟩
abbrev main_v1238 : Ref sig .tc := ⟨.hbm, 1329, rfl⟩
abbrev main_v1239 : Ref sig .tc := ⟨.hbm, 1330, rfl⟩
abbrev main_cst_82 : Ref sig .tc := ⟨.hbm, 1331, rfl⟩
abbrev main_v1240 : Ref sig .tc := ⟨.hbm, 1332, rfl⟩
abbrev main_v1241 : Ref sig .tc := ⟨.hbm, 1333, rfl⟩
abbrev main_cst_83 : Ref sig .tc := ⟨.hbm, 1334, rfl⟩
abbrev main_v1242 : Ref sig .tc := ⟨.hbm, 1335, rfl⟩
abbrev main_cst_84 : Ref sig .tc := ⟨.hbm, 1336, rfl⟩
abbrev main_v1243 : Ref sig .tc := ⟨.hbm, 1337, rfl⟩
abbrev main_cst_85 : Ref sig .tc := ⟨.hbm, 1338, rfl⟩
abbrev main_v1244 : Ref sig .tc := ⟨.hbm, 1339, rfl⟩
abbrev main_v1245 : Ref sig .tc := ⟨.hbm, 1340, rfl⟩
abbrev main_cst_86 : Ref sig .tc := ⟨.hbm, 1341, rfl⟩
abbrev main_v1246 : Ref sig .tc := ⟨.hbm, 1342, rfl⟩
abbrev main_v1247 : Ref sig .tc := ⟨.hbm, 1343, rfl⟩
abbrev main_v1248 : Ref sig .tc := ⟨.hbm, 1344, rfl⟩
abbrev main_v1249 : Ref sig .tc := ⟨.hbm, 1345, rfl⟩
abbrev main_v1250 : Ref sig .tc := ⟨.hbm, 1346, rfl⟩
abbrev main_v1251 : Ref sig .tc := ⟨.hbm, 1347, rfl⟩
abbrev main_v1252 : Ref sig .tc := ⟨.hbm, 1348, rfl⟩
abbrev main_v1253 : Ref sig .tc := ⟨.hbm, 1349, rfl⟩
abbrev main_v1254 : Ref sig .tc := ⟨.hbm, 1350, rfl⟩
abbrev main_v1255 : Ref sig .tc := ⟨.hbm, 1351, rfl⟩
abbrev main_v1256 : Ref sig .tc := ⟨.hbm, 1352, rfl⟩
abbrev main_v1257 : Ref sig .tc := ⟨.hbm, 1353, rfl⟩
abbrev main_v1258 : Ref sig .tc := ⟨.hbm, 1354, rfl⟩
abbrev main_v1259 : Ref sig .tc := ⟨.hbm, 1355, rfl⟩
abbrev main_v1260 : Ref sig .tc := ⟨.hbm, 1356, rfl⟩
abbrev main_v1261 : Ref sig .tc := ⟨.hbm, 1357, rfl⟩
abbrev main_v1262 : Ref sig .tc := ⟨.hbm, 1358, rfl⟩
abbrev main_v1263 : Ref sig .tc := ⟨.hbm, 1359, rfl⟩
abbrev main_v1264 : Ref sig .tc := ⟨.hbm, 1360, rfl⟩
abbrev main_v1265 : Ref sig .tc := ⟨.hbm, 1361, rfl⟩
abbrev main_v1266 : Ref sig .tc := ⟨.hbm, 1362, rfl⟩
abbrev main_v1267 : Ref sig .tc := ⟨.hbm, 1363, rfl⟩
abbrev main_v1268 : Ref sig .tc := ⟨.hbm, 1364, rfl⟩
abbrev main_v1269 : Ref sig .tc := ⟨.hbm, 1365, rfl⟩
abbrev main_v1270 : Ref sig .tc := ⟨.hbm, 1366, rfl⟩
abbrev main_v1271 : Ref sig .tc := ⟨.hbm, 1367, rfl⟩
abbrev main_v1272 : Ref sig .tc := ⟨.hbm, 1368, rfl⟩
abbrev main_cst_87 : Ref sig .tc := ⟨.hbm, 1369, rfl⟩
abbrev main_v1273 : Ref sig .tc := ⟨.hbm, 1370, rfl⟩
abbrev main_cst_88 : Ref sig .tc := ⟨.hbm, 1371, rfl⟩
abbrev main_v1274 : Ref sig .tc := ⟨.hbm, 1372, rfl⟩
abbrev main_cst_89 : Ref sig .tc := ⟨.hbm, 1373, rfl⟩
abbrev main_v1275 : Ref sig .tc := ⟨.hbm, 1374, rfl⟩
abbrev main_cst_90 : Ref sig .tc := ⟨.hbm, 1375, rfl⟩
abbrev main_v1276 : Ref sig .tc := ⟨.hbm, 1376, rfl⟩
abbrev main_cst_91 : Ref sig .tc := ⟨.hbm, 1377, rfl⟩
abbrev main_v1277 : Ref sig .tc := ⟨.hbm, 1378, rfl⟩
abbrev main_v1278 : Ref sig .tc := ⟨.hbm, 1379, rfl⟩
abbrev main_cst_92 : Ref sig .tc := ⟨.hbm, 1380, rfl⟩
abbrev main_v1279 : Ref sig .tc := ⟨.hbm, 1381, rfl⟩
abbrev main_v1280 : Ref sig .tc := ⟨.hbm, 1382, rfl⟩
abbrev main_v1281 : Ref sig .tc := ⟨.hbm, 1383, rfl⟩
abbrev main_v1282 : Ref sig .tc := ⟨.hbm, 1384, rfl⟩
abbrev main_v1283 : Ref sig .tc := ⟨.hbm, 1385, rfl⟩
abbrev main_v1284 : Ref sig .tc := ⟨.hbm, 1386, rfl⟩
abbrev main_v1285 : Ref sig .tc := ⟨.hbm, 1387, rfl⟩
abbrev main_v1286 : Ref sig .tc := ⟨.hbm, 1388, rfl⟩
abbrev main_v1287 : Ref sig .tc := ⟨.hbm, 1389, rfl⟩
abbrev main_v1288 : Ref sig .tc := ⟨.hbm, 1390, rfl⟩
abbrev main_v1289 : Ref sig .tc := ⟨.hbm, 1391, rfl⟩
abbrev main_v1290 : Ref sig .tc := ⟨.hbm, 1392, rfl⟩
abbrev main_v1291 : Ref sig .tc := ⟨.hbm, 1393, rfl⟩
abbrev main_v1292 : Ref sig .tc := ⟨.hbm, 1394, rfl⟩
abbrev main_v1293 : Ref sig .tc := ⟨.hbm, 1395, rfl⟩
abbrev main_v1294 : Ref sig .tc := ⟨.hbm, 1396, rfl⟩
abbrev main_v1295 : Ref sig .tc := ⟨.hbm, 1397, rfl⟩
abbrev main_v1296 : Ref sig .tc := ⟨.hbm, 1398, rfl⟩
abbrev main_v1297 : Ref sig .tc := ⟨.hbm, 1399, rfl⟩
abbrev main_v1298 : Ref sig .tc := ⟨.hbm, 1400, rfl⟩
abbrev main_v1299 : Ref sig .tc := ⟨.hbm, 1401, rfl⟩
abbrev main_v1300 : Ref sig .tc := ⟨.hbm, 1402, rfl⟩
abbrev main_v1301 : Ref sig .tc := ⟨.hbm, 1403, rfl⟩
abbrev main_v1302 : Ref sig .tc := ⟨.hbm, 1404, rfl⟩
abbrev main_v1303 : Ref sig .tc := ⟨.hbm, 1405, rfl⟩
abbrev main_v1304 : Ref sig .tc := ⟨.hbm, 1406, rfl⟩
abbrev main_v1305 : Ref sig .tc := ⟨.hbm, 1407, rfl⟩
abbrev main_v1306 : Ref sig .tc := ⟨.hbm, 1408, rfl⟩
abbrev main_v1307 : Ref sig .tc := ⟨.hbm, 1409, rfl⟩
abbrev main_v1308 : Ref sig .tc := ⟨.hbm, 1410, rfl⟩
abbrev main_v1309 : Ref sig .tc := ⟨.hbm, 1411, rfl⟩
abbrev main_v1310 : Ref sig .tc := ⟨.hbm, 1412, rfl⟩
abbrev main_v1311 : Ref sig .tc := ⟨.hbm, 1413, rfl⟩
abbrev main_v1312 : Ref sig .tc := ⟨.hbm, 1414, rfl⟩
abbrev main_cst_93 : Ref sig .tc := ⟨.hbm, 1415, rfl⟩
abbrev main_v1313 : Ref sig .tc := ⟨.hbm, 1416, rfl⟩
abbrev main_cst_94 : Ref sig .tc := ⟨.hbm, 1417, rfl⟩
abbrev main_v1314 : Ref sig .tc := ⟨.hbm, 1418, rfl⟩
abbrev main_cst_95 : Ref sig .tc := ⟨.hbm, 1419, rfl⟩
abbrev main_v1315 : Ref sig .tc := ⟨.hbm, 1420, rfl⟩
abbrev main_cst_96 : Ref sig .tc := ⟨.hbm, 1421, rfl⟩
abbrev main_v1316 : Ref sig .tc := ⟨.hbm, 1422, rfl⟩
abbrev main_cst_97 : Ref sig .tc := ⟨.hbm, 1423, rfl⟩
abbrev main_v1317 : Ref sig .tc := ⟨.hbm, 1424, rfl⟩
abbrev main_v1318 : Ref sig .tc := ⟨.hbm, 1425, rfl⟩
abbrev main_cst_98 : Ref sig .tc := ⟨.hbm, 1426, rfl⟩
abbrev main_v1319 : Ref sig .tc := ⟨.hbm, 1427, rfl⟩
abbrev main_v1320 : Ref sig .tc := ⟨.hbm, 1428, rfl⟩
abbrev main_cst_99 : Ref sig .tc := ⟨.hbm, 1429, rfl⟩
abbrev main_v1321 : Ref sig .tc := ⟨.hbm, 1430, rfl⟩
abbrev main_v1322 : Ref sig .tc := ⟨.hbm, 1431, rfl⟩
abbrev main_cst_100 : Ref sig .tc := ⟨.hbm, 1432, rfl⟩
abbrev main_v1323 : Ref sig .tc := ⟨.hbm, 1433, rfl⟩
abbrev main_v1324 : Ref sig .tc := ⟨.hbm, 1434, rfl⟩
abbrev main_v1325 : Ref sig .tc := ⟨.hbm, 1435, rfl⟩
abbrev main_v1326 : Ref sig .tc := ⟨.hbm, 1436, rfl⟩
abbrev main_v1327 : Ref sig .tc := ⟨.hbm, 1437, rfl⟩
abbrev main_v1328 : Ref sig .tc := ⟨.hbm, 1438, rfl⟩
abbrev main_v1329 : Ref sig .tc := ⟨.hbm, 1439, rfl⟩
abbrev main_v1330 : Ref sig .tc := ⟨.hbm, 1440, rfl⟩
abbrev main_v1331 : Ref sig .tc := ⟨.hbm, 1441, rfl⟩
abbrev main_v1332 : Ref sig .tc := ⟨.hbm, 1442, rfl⟩
abbrev main_v1333 : Ref sig .tc := ⟨.hbm, 1443, rfl⟩
abbrev main_v1334 : Ref sig .tc := ⟨.hbm, 1444, rfl⟩
abbrev main_v1335 : Ref sig .tc := ⟨.hbm, 1445, rfl⟩
abbrev main_v1336 : Ref sig .tc := ⟨.hbm, 1446, rfl⟩
abbrev main_v1337 : Ref sig .tc := ⟨.hbm, 1447, rfl⟩
abbrev main_v1338 : Ref sig .tc := ⟨.hbm, 1448, rfl⟩
abbrev main_v1339 : Ref sig .tc := ⟨.hbm, 1449, rfl⟩
abbrev main_v1340 : Ref sig .tc := ⟨.hbm, 1450, rfl⟩
abbrev main_v1341 : Ref sig .tc := ⟨.hbm, 1451, rfl⟩
abbrev main_v1342 : Ref sig .tc := ⟨.hbm, 1452, rfl⟩
abbrev main_v1343 : Ref sig .tc := ⟨.hbm, 1453, rfl⟩
abbrev main_v1344 : Ref sig .tc := ⟨.hbm, 1454, rfl⟩
abbrev main_v1345 : Ref sig .tc := ⟨.hbm, 1455, rfl⟩
abbrev main_v1346 : Ref sig .tc := ⟨.hbm, 1456, rfl⟩
abbrev main_v1347 : Ref sig .tc := ⟨.hbm, 1457, rfl⟩
abbrev main_v1348 : Ref sig .tc := ⟨.hbm, 1458, rfl⟩
abbrev main_v1349 : Ref sig .tc := ⟨.hbm, 1459, rfl⟩
abbrev main_v1350 : Ref sig .tc := ⟨.hbm, 1460, rfl⟩
abbrev main_v1351 : Ref sig .tc := ⟨.hbm, 1461, rfl⟩
abbrev main_v1352 : Ref sig .tc := ⟨.hbm, 1462, rfl⟩
abbrev main_v1353 : Ref sig .tc := ⟨.hbm, 1463, rfl⟩
abbrev main_v1354 : Ref sig .tc := ⟨.hbm, 1464, rfl⟩
abbrev main_v1355 : Ref sig .tc := ⟨.hbm, 1465, rfl⟩
abbrev main_v1356 : Ref sig .tc := ⟨.hbm, 1466, rfl⟩
abbrev main_cst_101 : Ref sig .tc := ⟨.hbm, 1467, rfl⟩
abbrev main_v1357 : Ref sig .tc := ⟨.hbm, 1468, rfl⟩
abbrev main_cst_102 : Ref sig .tc := ⟨.hbm, 1469, rfl⟩
abbrev main_v1358 : Ref sig .tc := ⟨.hbm, 1470, rfl⟩
abbrev main_cst_103 : Ref sig .tc := ⟨.hbm, 1471, rfl⟩
abbrev main_v1359 : Ref sig .tc := ⟨.hbm, 1472, rfl⟩
abbrev main_cst_104 : Ref sig .tc := ⟨.hbm, 1473, rfl⟩
abbrev main_v1360 : Ref sig .tc := ⟨.hbm, 1474, rfl⟩
abbrev main_cst_105 : Ref sig .tc := ⟨.hbm, 1475, rfl⟩
abbrev main_v1361 : Ref sig .tc := ⟨.hbm, 1476, rfl⟩
abbrev main_v1362 : Ref sig .tc := ⟨.hbm, 1477, rfl⟩
abbrev main_cst_106 : Ref sig .tc := ⟨.hbm, 1478, rfl⟩
abbrev main_v1363 : Ref sig .tc := ⟨.hbm, 1479, rfl⟩
abbrev main_v1364 : Ref sig .tc := ⟨.hbm, 1480, rfl⟩
abbrev main_cst_107 : Ref sig .tc := ⟨.hbm, 1481, rfl⟩
abbrev main_v1365 : Ref sig .tc := ⟨.hbm, 1482, rfl⟩
abbrev main_v1366 : Ref sig .tc := ⟨.hbm, 1483, rfl⟩
abbrev main_cst_108 : Ref sig .tc := ⟨.hbm, 1484, rfl⟩
abbrev main_v1367 : Ref sig .tc := ⟨.hbm, 1485, rfl⟩
abbrev main_v1368 : Ref sig .tc := ⟨.hbm, 1486, rfl⟩
abbrev main_v1369 : Ref sig .tc := ⟨.hbm, 1487, rfl⟩
abbrev main_v1370 : Ref sig .tc := ⟨.hbm, 1488, rfl⟩
abbrev main_v1371 : Ref sig .tc := ⟨.hbm, 1489, rfl⟩
abbrev main_v1372 : Ref sig .tc := ⟨.hbm, 1490, rfl⟩
abbrev main_v1373 : Ref sig .tc := ⟨.hbm, 1491, rfl⟩
abbrev main_v1374 : Ref sig .tc := ⟨.hbm, 1492, rfl⟩
abbrev main_v1375 : Ref sig .tc := ⟨.hbm, 1493, rfl⟩
abbrev main_v1376 : Ref sig .tc := ⟨.hbm, 1494, rfl⟩
abbrev main_v1377 : Ref sig .tc := ⟨.hbm, 1495, rfl⟩
abbrev main_v1378 : Ref sig .tc := ⟨.hbm, 1496, rfl⟩
abbrev main_v1379 : Ref sig .tc := ⟨.hbm, 1497, rfl⟩
abbrev main_v1380 : Ref sig .tc := ⟨.hbm, 1498, rfl⟩
abbrev main_v1381 : Ref sig .tc := ⟨.hbm, 1499, rfl⟩
abbrev main_v1382 : Ref sig .tc := ⟨.hbm, 1500, rfl⟩
abbrev main_v1383 : Ref sig .tc := ⟨.hbm, 1501, rfl⟩
abbrev main_v1384 : Ref sig .tc := ⟨.hbm, 1502, rfl⟩
abbrev main_v1385 : Ref sig .tc := ⟨.hbm, 1503, rfl⟩
abbrev main_v1386 : Ref sig .tc := ⟨.hbm, 1504, rfl⟩
abbrev main_v1387 : Ref sig .tc := ⟨.hbm, 1505, rfl⟩
abbrev main_v1388 : Ref sig .tc := ⟨.hbm, 1506, rfl⟩
abbrev main_v1389 : Ref sig .tc := ⟨.hbm, 1507, rfl⟩
abbrev main_v1390 : Ref sig .tc := ⟨.hbm, 1508, rfl⟩
abbrev main_v1391 : Ref sig .tc := ⟨.hbm, 1509, rfl⟩
abbrev main_v1392 : Ref sig .tc := ⟨.hbm, 1510, rfl⟩
abbrev main_v1393 : Ref sig .tc := ⟨.hbm, 1511, rfl⟩
abbrev main_v1394 : Ref sig .tc := ⟨.hbm, 1512, rfl⟩
abbrev main_v1395 : Ref sig .tc := ⟨.hbm, 1513, rfl⟩
abbrev main_v1396 : Ref sig .tc := ⟨.hbm, 1514, rfl⟩
abbrev main_v1397 : Ref sig .tc := ⟨.hbm, 1515, rfl⟩
abbrev main_v1398 : Ref sig .tc := ⟨.hbm, 1516, rfl⟩
abbrev main_v1399 : Ref sig .tc := ⟨.hbm, 1517, rfl⟩
abbrev main_v1400 : Ref sig .tc := ⟨.hbm, 1518, rfl⟩
abbrev main_cst_109 : Ref sig .tc := ⟨.hbm, 1519, rfl⟩
abbrev main_v1401 : Ref sig .tc := ⟨.hbm, 1520, rfl⟩
abbrev main_cst_110 : Ref sig .tc := ⟨.hbm, 1521, rfl⟩
abbrev main_v1402 : Ref sig .tc := ⟨.hbm, 1522, rfl⟩
abbrev main_cst_111 : Ref sig .tc := ⟨.hbm, 1523, rfl⟩
abbrev main_v1403 : Ref sig .tc := ⟨.hbm, 1524, rfl⟩
abbrev main_cst_112 : Ref sig .tc := ⟨.hbm, 1525, rfl⟩
abbrev main_v1404 : Ref sig .tc := ⟨.hbm, 1526, rfl⟩
abbrev main_cst_113 : Ref sig .tc := ⟨.hbm, 1527, rfl⟩
abbrev main_v1405 : Ref sig .tc := ⟨.hbm, 1528, rfl⟩
abbrev main_v1406 : Ref sig .tc := ⟨.hbm, 1529, rfl⟩
abbrev main_cst_114 : Ref sig .tc := ⟨.hbm, 1530, rfl⟩
abbrev main_v1407 : Ref sig .tc := ⟨.hbm, 1531, rfl⟩
abbrev main_v1408 : Ref sig .tc := ⟨.hbm, 1532, rfl⟩
abbrev main_cst_115 : Ref sig .tc := ⟨.hbm, 1533, rfl⟩
abbrev main_v1409 : Ref sig .tc := ⟨.hbm, 1534, rfl⟩
abbrev main_v1410 : Ref sig .tc := ⟨.hbm, 1535, rfl⟩
abbrev main_cst_116 : Ref sig .tc := ⟨.hbm, 1536, rfl⟩
abbrev main_v1411 : Ref sig .tc := ⟨.hbm, 1537, rfl⟩
abbrev main_v1412 : Ref sig .tc := ⟨.hbm, 1538, rfl⟩
abbrev main_v1413 : Ref sig .tc := ⟨.hbm, 1539, rfl⟩
abbrev main_v1414 : Ref sig .tc := ⟨.hbm, 1540, rfl⟩
abbrev main_v1415 : Ref sig .tc := ⟨.hbm, 1541, rfl⟩
abbrev main_v1416 : Ref sig .tc := ⟨.hbm, 1542, rfl⟩
abbrev main_v1417 : Ref sig .tc := ⟨.hbm, 1543, rfl⟩
abbrev main_v1418 : Ref sig .tc := ⟨.hbm, 1544, rfl⟩
abbrev main_v1419 : Ref sig .tc := ⟨.hbm, 1545, rfl⟩
abbrev main_v1420 : Ref sig .tc := ⟨.hbm, 1546, rfl⟩
abbrev main_v1421 : Ref sig .tc := ⟨.hbm, 1547, rfl⟩
abbrev main_v1422 : Ref sig .tc := ⟨.hbm, 1548, rfl⟩
abbrev main_v1423 : Ref sig .tc := ⟨.hbm, 1549, rfl⟩
abbrev main_v1424 : Ref sig .tc := ⟨.hbm, 1550, rfl⟩
abbrev main_v1425 : Ref sig .tc := ⟨.hbm, 1551, rfl⟩
abbrev main_v1426 : Ref sig .tc := ⟨.hbm, 1552, rfl⟩
abbrev main_v1427 : Ref sig .tc := ⟨.hbm, 1553, rfl⟩
abbrev main_v1428 : Ref sig .tc := ⟨.hbm, 1554, rfl⟩
abbrev main_v1429 : Ref sig .tc := ⟨.hbm, 1555, rfl⟩
abbrev main_v1430 : Ref sig .tc := ⟨.hbm, 1556, rfl⟩
abbrev main_v1431 : Ref sig .tc := ⟨.hbm, 1557, rfl⟩
abbrev main_v1432 : Ref sig .tc := ⟨.hbm, 1558, rfl⟩
abbrev main_v1433 : Ref sig .tc := ⟨.hbm, 1559, rfl⟩
abbrev main_v1434 : Ref sig .tc := ⟨.hbm, 1560, rfl⟩
abbrev main_v1435 : Ref sig .tc := ⟨.hbm, 1561, rfl⟩
abbrev main_v1436 : Ref sig .tc := ⟨.hbm, 1562, rfl⟩
abbrev main_v1437 : Ref sig .tc := ⟨.hbm, 1563, rfl⟩
abbrev main_v1438 : Ref sig .tc := ⟨.hbm, 1564, rfl⟩
abbrev main_v1439 : Ref sig .tc := ⟨.hbm, 1565, rfl⟩
abbrev main_v1440 : Ref sig .tc := ⟨.hbm, 1566, rfl⟩
abbrev main_v1441 : Ref sig .tc := ⟨.hbm, 1567, rfl⟩
abbrev main_v1442 : Ref sig .tc := ⟨.hbm, 1568, rfl⟩
abbrev main_v1443 : Ref sig .tc := ⟨.hbm, 1569, rfl⟩
abbrev main_v1444 : Ref sig .tc := ⟨.hbm, 1570, rfl⟩
abbrev main_cst_117 : Ref sig .tc := ⟨.hbm, 1571, rfl⟩
abbrev main_v1445 : Ref sig .tc := ⟨.hbm, 1572, rfl⟩
abbrev main_cst_118 : Ref sig .tc := ⟨.hbm, 1573, rfl⟩
abbrev main_v1446 : Ref sig .tc := ⟨.hbm, 1574, rfl⟩
abbrev main_cst_119 : Ref sig .tc := ⟨.hbm, 1575, rfl⟩
abbrev main_v1447 : Ref sig .tc := ⟨.hbm, 1576, rfl⟩
abbrev main_cst_120 : Ref sig .tc := ⟨.hbm, 1577, rfl⟩
abbrev main_v1448 : Ref sig .tc := ⟨.hbm, 1578, rfl⟩
abbrev main_cst_121 : Ref sig .tc := ⟨.hbm, 1579, rfl⟩
abbrev main_v1449 : Ref sig .tc := ⟨.hbm, 1580, rfl⟩
abbrev main_v1450 : Ref sig .tc := ⟨.hbm, 1581, rfl⟩
abbrev main_cst_122 : Ref sig .tc := ⟨.hbm, 1582, rfl⟩
abbrev main_v1451 : Ref sig .tc := ⟨.hbm, 1583, rfl⟩
abbrev main_v1452 : Ref sig .tc := ⟨.hbm, 1584, rfl⟩
abbrev main_cst_123 : Ref sig .tc := ⟨.hbm, 1585, rfl⟩
abbrev main_v1453 : Ref sig .tc := ⟨.hbm, 1586, rfl⟩
abbrev main_v1454 : Ref sig .tc := ⟨.hbm, 1587, rfl⟩
abbrev main_cst_124 : Ref sig .tc := ⟨.hbm, 1588, rfl⟩
abbrev main_v1455 : Ref sig .tc := ⟨.hbm, 1589, rfl⟩
abbrev main_v1456 : Ref sig .tc := ⟨.hbm, 1590, rfl⟩
abbrev main_v1457 : Ref sig .tc := ⟨.hbm, 1591, rfl⟩
abbrev main_v1458 : Ref sig .tc := ⟨.hbm, 1592, rfl⟩
abbrev main_v1459 : Ref sig .tc := ⟨.hbm, 1593, rfl⟩
abbrev main_v1460 : Ref sig .tc := ⟨.hbm, 1594, rfl⟩
abbrev main_v1461 : Ref sig .tc := ⟨.hbm, 1595, rfl⟩
abbrev main_v1462 : Ref sig .tc := ⟨.hbm, 1596, rfl⟩
abbrev main_v1463 : Ref sig .tc := ⟨.hbm, 1597, rfl⟩
abbrev main_v1464 : Ref sig .tc := ⟨.hbm, 1598, rfl⟩
abbrev main_v1465 : Ref sig .tc := ⟨.hbm, 1599, rfl⟩
abbrev main_v1466 : Ref sig .tc := ⟨.hbm, 1600, rfl⟩
abbrev main_v1467 : Ref sig .tc := ⟨.hbm, 1601, rfl⟩
abbrev main_v1468 : Ref sig .tc := ⟨.hbm, 1602, rfl⟩
abbrev main_v1469 : Ref sig .tc := ⟨.hbm, 1603, rfl⟩
abbrev main_v1470 : Ref sig .tc := ⟨.hbm, 1604, rfl⟩
abbrev main_v1471 : Ref sig .tc := ⟨.hbm, 1605, rfl⟩
abbrev main_v1472 : Ref sig .tc := ⟨.hbm, 1606, rfl⟩
abbrev main_v1473 : Ref sig .tc := ⟨.hbm, 1607, rfl⟩
abbrev main_v1474 : Ref sig .tc := ⟨.hbm, 1608, rfl⟩
abbrev main_v1475 : Ref sig .tc := ⟨.hbm, 1609, rfl⟩
abbrev main_v1476 : Ref sig .tc := ⟨.hbm, 1610, rfl⟩
abbrev main_v1477 : Ref sig .tc := ⟨.hbm, 1611, rfl⟩
abbrev main_v1478 : Ref sig .tc := ⟨.hbm, 1612, rfl⟩
abbrev main_v1479 : Ref sig .tc := ⟨.hbm, 1613, rfl⟩
abbrev main_v1480 : Ref sig .tc := ⟨.hbm, 1614, rfl⟩
abbrev main_v1481 : Ref sig .tc := ⟨.hbm, 1615, rfl⟩
abbrev main_v1482 : Ref sig .tc := ⟨.hbm, 1616, rfl⟩
abbrev main_v1483 : Ref sig .tc := ⟨.hbm, 1617, rfl⟩
abbrev main_v1484 : Ref sig .tc := ⟨.hbm, 1618, rfl⟩
abbrev main_v1485 : Ref sig .tc := ⟨.hbm, 1619, rfl⟩
abbrev main_v1486 : Ref sig .tc := ⟨.hbm, 1620, rfl⟩
abbrev main_v1487 : Ref sig .tc := ⟨.hbm, 1621, rfl⟩
abbrev main_v1488 : Ref sig .tc := ⟨.hbm, 1622, rfl⟩
abbrev main_cst_125 : Ref sig .tc := ⟨.hbm, 1623, rfl⟩
abbrev main_v1489 : Ref sig .tc := ⟨.hbm, 1624, rfl⟩
abbrev main_cst_126 : Ref sig .tc := ⟨.hbm, 1625, rfl⟩
abbrev main_v1490 : Ref sig .tc := ⟨.hbm, 1626, rfl⟩
abbrev main_cst_127 : Ref sig .tc := ⟨.hbm, 1627, rfl⟩
abbrev main_v1491 : Ref sig .tc := ⟨.hbm, 1628, rfl⟩
abbrev main_cst_128 : Ref sig .tc := ⟨.hbm, 1629, rfl⟩
abbrev main_v1492 : Ref sig .tc := ⟨.hbm, 1630, rfl⟩
abbrev main_cst_129 : Ref sig .tc := ⟨.hbm, 1631, rfl⟩
abbrev main_v1493 : Ref sig .tc := ⟨.hbm, 1632, rfl⟩
abbrev main_v1494 : Ref sig .tc := ⟨.hbm, 1633, rfl⟩
abbrev main_cst_130 : Ref sig .tc := ⟨.hbm, 1634, rfl⟩
abbrev main_v1495 : Ref sig .tc := ⟨.hbm, 1635, rfl⟩
abbrev main_v1496 : Ref sig .tc := ⟨.hbm, 1636, rfl⟩
abbrev main_cst_131 : Ref sig .tc := ⟨.hbm, 1637, rfl⟩
abbrev main_v1497 : Ref sig .tc := ⟨.hbm, 1638, rfl⟩
abbrev main_v1498 : Ref sig .tc := ⟨.hbm, 1639, rfl⟩
abbrev main_cst_132 : Ref sig .tc := ⟨.hbm, 1640, rfl⟩
abbrev main_v1499 : Ref sig .tc := ⟨.hbm, 1641, rfl⟩
abbrev main_v1500 : Ref sig .tc := ⟨.hbm, 1642, rfl⟩
abbrev main_v1501 : Ref sig .tc := ⟨.hbm, 1643, rfl⟩
abbrev main_v1502 : Ref sig .tc := ⟨.hbm, 1644, rfl⟩
abbrev main_v1503 : Ref sig .tc := ⟨.hbm, 1645, rfl⟩
abbrev main_v1504 : Ref sig .tc := ⟨.hbm, 1646, rfl⟩
abbrev main_v1505 : Ref sig .tc := ⟨.hbm, 1647, rfl⟩
abbrev main_v1506 : Ref sig .tc := ⟨.hbm, 1648, rfl⟩
abbrev main_v1507 : Ref sig .tc := ⟨.hbm, 1649, rfl⟩
abbrev main_v1508 : Ref sig .tc := ⟨.hbm, 1650, rfl⟩
abbrev main_v1509 : Ref sig .tc := ⟨.hbm, 1651, rfl⟩
abbrev main_v1510 : Ref sig .tc := ⟨.hbm, 1652, rfl⟩
abbrev main_v1511 : Ref sig .tc := ⟨.hbm, 1653, rfl⟩
abbrev main_v1512 : Ref sig .tc := ⟨.hbm, 1654, rfl⟩
abbrev main_v1513 : Ref sig .tc := ⟨.hbm, 1655, rfl⟩
abbrev main_v1514 : Ref sig .tc := ⟨.hbm, 1656, rfl⟩
abbrev main_v1515 : Ref sig .tc := ⟨.hbm, 1657, rfl⟩
abbrev main_v1516 : Ref sig .tc := ⟨.hbm, 1658, rfl⟩
abbrev main_v1517 : Ref sig .tc := ⟨.hbm, 1659, rfl⟩
abbrev main_v1518 : Ref sig .tc := ⟨.hbm, 1660, rfl⟩
abbrev main_v1519 : Ref sig .tc := ⟨.hbm, 1661, rfl⟩
abbrev main_v1520 : Ref sig .tc := ⟨.hbm, 1662, rfl⟩
abbrev main_v1521 : Ref sig .tc := ⟨.hbm, 1663, rfl⟩
abbrev main_v1522 : Ref sig .tc := ⟨.hbm, 1664, rfl⟩
abbrev main_v1523 : Ref sig .tc := ⟨.hbm, 1665, rfl⟩
abbrev main_v1524 : Ref sig .tc := ⟨.hbm, 1666, rfl⟩
abbrev main_v1525 : Ref sig .tc := ⟨.hbm, 1667, rfl⟩
abbrev main_v1526 : Ref sig .tc := ⟨.hbm, 1668, rfl⟩
abbrev main_v1527 : Ref sig .tc := ⟨.hbm, 1669, rfl⟩
abbrev main_v1528 : Ref sig .tc := ⟨.hbm, 1670, rfl⟩
abbrev main_v1529 : Ref sig .tc := ⟨.hbm, 1671, rfl⟩
abbrev main_v1530 : Ref sig .tc := ⟨.hbm, 1672, rfl⟩
abbrev main_v1531 : Ref sig .tc := ⟨.hbm, 1673, rfl⟩
abbrev main_v1532 : Ref sig .tc := ⟨.hbm, 1674, rfl⟩
abbrev main_cst_133 : Ref sig .tc := ⟨.hbm, 1675, rfl⟩
abbrev main_v1533 : Ref sig .tc := ⟨.hbm, 1676, rfl⟩
abbrev main_cst_134 : Ref sig .tc := ⟨.hbm, 1677, rfl⟩
abbrev main_v1534 : Ref sig .tc := ⟨.hbm, 1678, rfl⟩
abbrev main_cst_135 : Ref sig .tc := ⟨.hbm, 1679, rfl⟩
abbrev main_v1535 : Ref sig .tc := ⟨.hbm, 1680, rfl⟩
abbrev main_cst_136 : Ref sig .tc := ⟨.hbm, 1681, rfl⟩
abbrev main_v1536 : Ref sig .tc := ⟨.hbm, 1682, rfl⟩
abbrev main_cst_137 : Ref sig .tc := ⟨.hbm, 1683, rfl⟩
abbrev main_v1537 : Ref sig .tc := ⟨.hbm, 1684, rfl⟩
abbrev main_v1538 : Ref sig .tc := ⟨.hbm, 1685, rfl⟩
abbrev main_cst_138 : Ref sig .tc := ⟨.hbm, 1686, rfl⟩
abbrev main_v1539 : Ref sig .tc := ⟨.hbm, 1687, rfl⟩
abbrev main_v1540 : Ref sig .tc := ⟨.hbm, 1688, rfl⟩
abbrev main_cst_139 : Ref sig .tc := ⟨.hbm, 1689, rfl⟩
abbrev main_v1541 : Ref sig .tc := ⟨.hbm, 1690, rfl⟩
abbrev main_v1542 : Ref sig .tc := ⟨.hbm, 1691, rfl⟩
abbrev main_cst_140 : Ref sig .tc := ⟨.hbm, 1692, rfl⟩
abbrev main_v1543 : Ref sig .tc := ⟨.hbm, 1693, rfl⟩
abbrev main_v1544 : Ref sig .tc := ⟨.hbm, 1694, rfl⟩
abbrev main_v1545 : Ref sig .tc := ⟨.hbm, 1695, rfl⟩
abbrev main_v1546 : Ref sig .tc := ⟨.hbm, 1696, rfl⟩
abbrev main_v1547 : Ref sig .tc := ⟨.hbm, 1697, rfl⟩
abbrev main_v1548 : Ref sig .tc := ⟨.hbm, 1698, rfl⟩
abbrev main_v1549 : Ref sig .tc := ⟨.hbm, 1699, rfl⟩
abbrev main_v1550 : Ref sig .tc := ⟨.hbm, 1700, rfl⟩
abbrev main_v1551 : Ref sig .tc := ⟨.hbm, 1701, rfl⟩
abbrev main_v1552 : Ref sig .tc := ⟨.hbm, 1702, rfl⟩
abbrev main_v1553 : Ref sig .tc := ⟨.hbm, 1703, rfl⟩
abbrev main_v1554 : Ref sig .tc := ⟨.hbm, 1704, rfl⟩
abbrev main_v1555 : Ref sig .tc := ⟨.hbm, 1705, rfl⟩
abbrev main_v1556 : Ref sig .tc := ⟨.hbm, 1706, rfl⟩
abbrev main_v1557 : Ref sig .tc := ⟨.hbm, 1707, rfl⟩
abbrev main_v1558 : Ref sig .tc := ⟨.hbm, 1708, rfl⟩
abbrev main_v1559 : Ref sig .tc := ⟨.hbm, 1709, rfl⟩
abbrev main_v1560 : Ref sig .tc := ⟨.hbm, 1710, rfl⟩
abbrev main_v1561 : Ref sig .tc := ⟨.hbm, 1711, rfl⟩
abbrev main_v1562 : Ref sig .tc := ⟨.hbm, 1712, rfl⟩
abbrev main_v1563 : Ref sig .tc := ⟨.hbm, 1713, rfl⟩
abbrev main_v1564 : Ref sig .tc := ⟨.hbm, 1714, rfl⟩
abbrev main_v1565 : Ref sig .tc := ⟨.hbm, 1715, rfl⟩
abbrev main_v1566 : Ref sig .tc := ⟨.hbm, 1716, rfl⟩
abbrev main_v1567 : Ref sig .tc := ⟨.hbm, 1717, rfl⟩
abbrev main_v1568 : Ref sig .tc := ⟨.hbm, 1718, rfl⟩
abbrev main_v1569 : Ref sig .tc := ⟨.hbm, 1719, rfl⟩
abbrev main_v1570 : Ref sig .tc := ⟨.hbm, 1720, rfl⟩
abbrev main_v1571 : Ref sig .tc := ⟨.hbm, 1721, rfl⟩
abbrev main_v1572 : Ref sig .tc := ⟨.hbm, 1722, rfl⟩
abbrev main_v1573 : Ref sig .tc := ⟨.hbm, 1723, rfl⟩
abbrev main_v1574 : Ref sig .tc := ⟨.hbm, 1724, rfl⟩
abbrev main_v1575 : Ref sig .tc := ⟨.hbm, 1725, rfl⟩
abbrev main_v1576 : Ref sig .tc := ⟨.hbm, 1726, rfl⟩
abbrev main_cst_141 : Ref sig .tc := ⟨.hbm, 1727, rfl⟩
abbrev main_v1577 : Ref sig .tc := ⟨.hbm, 1728, rfl⟩
abbrev main_cst_142 : Ref sig .tc := ⟨.hbm, 1729, rfl⟩
abbrev main_v1578 : Ref sig .tc := ⟨.hbm, 1730, rfl⟩
abbrev main_cst_143 : Ref sig .tc := ⟨.hbm, 1731, rfl⟩
abbrev main_v1579 : Ref sig .tc := ⟨.hbm, 1732, rfl⟩
abbrev main_cst_144 : Ref sig .tc := ⟨.hbm, 1733, rfl⟩
abbrev main_v1580 : Ref sig .tc := ⟨.hbm, 1734, rfl⟩
abbrev main_cst_145 : Ref sig .tc := ⟨.hbm, 1735, rfl⟩
abbrev main_v1581 : Ref sig .tc := ⟨.hbm, 1736, rfl⟩
abbrev main_v1582 : Ref sig .tc := ⟨.hbm, 1737, rfl⟩
abbrev main_cst_146 : Ref sig .tc := ⟨.hbm, 1738, rfl⟩
abbrev main_v1583 : Ref sig .tc := ⟨.hbm, 1739, rfl⟩
abbrev main_v1584 : Ref sig .tc := ⟨.hbm, 1740, rfl⟩
abbrev main_cst_147 : Ref sig .tc := ⟨.hbm, 1741, rfl⟩
abbrev main_v1585 : Ref sig .tc := ⟨.hbm, 1742, rfl⟩
abbrev main_v1586 : Ref sig .tc := ⟨.hbm, 1743, rfl⟩
abbrev main_cst_148 : Ref sig .tc := ⟨.hbm, 1744, rfl⟩
abbrev main_v1587 : Ref sig .tc := ⟨.hbm, 1745, rfl⟩
abbrev main_v1588 : Ref sig .tc := ⟨.hbm, 1746, rfl⟩
abbrev main_v1589 : Ref sig .tc := ⟨.hbm, 1747, rfl⟩
abbrev main_v1590 : Ref sig .tc := ⟨.hbm, 1748, rfl⟩
abbrev main_v1591 : Ref sig .tc := ⟨.hbm, 1749, rfl⟩
abbrev main_v1592 : Ref sig .tc := ⟨.hbm, 1750, rfl⟩
abbrev main_v1593 : Ref sig .tc := ⟨.hbm, 1751, rfl⟩
abbrev main_v1594 : Ref sig .tc := ⟨.hbm, 1752, rfl⟩
abbrev main_v1595 : Ref sig .tc := ⟨.hbm, 1753, rfl⟩
abbrev main_v1596 : Ref sig .tc := ⟨.hbm, 1754, rfl⟩
abbrev main_v1597 : Ref sig .tc := ⟨.hbm, 1755, rfl⟩
abbrev main_v1598 : Ref sig .tc := ⟨.hbm, 1756, rfl⟩
abbrev main_v1599 : Ref sig .tc := ⟨.hbm, 1757, rfl⟩
abbrev main_v1600 : Ref sig .tc := ⟨.hbm, 1758, rfl⟩
abbrev main_v1601 : Ref sig .tc := ⟨.hbm, 1759, rfl⟩
abbrev main_v1602 : Ref sig .tc := ⟨.hbm, 1760, rfl⟩
abbrev main_v1603 : Ref sig .tc := ⟨.hbm, 1761, rfl⟩
abbrev main_v1604 : Ref sig .tc := ⟨.hbm, 1762, rfl⟩
abbrev main_v1605 : Ref sig .tc := ⟨.hbm, 1763, rfl⟩
abbrev main_v1606 : Ref sig .tc := ⟨.hbm, 1764, rfl⟩
abbrev main_v1607 : Ref sig .tc := ⟨.hbm, 1765, rfl⟩
abbrev main_v1608 : Ref sig .tc := ⟨.hbm, 1766, rfl⟩
abbrev main_v1609 : Ref sig .tc := ⟨.hbm, 1767, rfl⟩
abbrev main_v1610 : Ref sig .tc := ⟨.hbm, 1768, rfl⟩
abbrev main_v1611 : Ref sig .tc := ⟨.hbm, 1769, rfl⟩
abbrev main_v1612 : Ref sig .tc := ⟨.hbm, 1770, rfl⟩
abbrev main_v1613 : Ref sig .tc := ⟨.hbm, 1771, rfl⟩
abbrev main_v1614 : Ref sig .tc := ⟨.hbm, 1772, rfl⟩
abbrev main_v1615 : Ref sig .tc := ⟨.hbm, 1773, rfl⟩
abbrev main_v1616 : Ref sig .tc := ⟨.hbm, 1774, rfl⟩
abbrev main_v1617 : Ref sig .tc := ⟨.hbm, 1775, rfl⟩
abbrev main_v1618 : Ref sig .tc := ⟨.hbm, 1776, rfl⟩
abbrev main_v1619 : Ref sig .tc := ⟨.hbm, 1777, rfl⟩
abbrev main_v1620 : Ref sig .tc := ⟨.hbm, 1778, rfl⟩
abbrev main_cst_149 : Ref sig .tc := ⟨.hbm, 1779, rfl⟩
abbrev main_v1621 : Ref sig .tc := ⟨.hbm, 1780, rfl⟩
abbrev main_cst_150 : Ref sig .tc := ⟨.hbm, 1781, rfl⟩
abbrev main_v1622 : Ref sig .tc := ⟨.hbm, 1782, rfl⟩
abbrev main_cst_151 : Ref sig .tc := ⟨.hbm, 1783, rfl⟩
abbrev main_v1623 : Ref sig .tc := ⟨.hbm, 1784, rfl⟩
abbrev main_cst_152 : Ref sig .tc := ⟨.hbm, 1785, rfl⟩
abbrev main_v1624 : Ref sig .tc := ⟨.hbm, 1786, rfl⟩
abbrev main_cst_153 : Ref sig .tc := ⟨.hbm, 1787, rfl⟩
abbrev main_v1625 : Ref sig .tc := ⟨.hbm, 1788, rfl⟩
abbrev main_v1626 : Ref sig .tc := ⟨.hbm, 1789, rfl⟩
abbrev main_cst_154 : Ref sig .tc := ⟨.hbm, 1790, rfl⟩
abbrev main_v1627 : Ref sig .tc := ⟨.hbm, 1791, rfl⟩
abbrev main_v1628 : Ref sig .tc := ⟨.hbm, 1792, rfl⟩
abbrev main_cst_155 : Ref sig .tc := ⟨.hbm, 1793, rfl⟩
abbrev main_v1629 : Ref sig .tc := ⟨.hbm, 1794, rfl⟩
abbrev main_v1630 : Ref sig .tc := ⟨.hbm, 1795, rfl⟩
abbrev main_cst_156 : Ref sig .tc := ⟨.hbm, 1796, rfl⟩
abbrev main_v1631 : Ref sig .tc := ⟨.hbm, 1797, rfl⟩
abbrev main_v1632 : Ref sig .tc := ⟨.hbm, 1798, rfl⟩
abbrev main_v1633 : Ref sig .tc := ⟨.hbm, 1799, rfl⟩
abbrev main_v1634 : Ref sig .tc := ⟨.hbm, 1800, rfl⟩
abbrev main_v1635 : Ref sig .tc := ⟨.hbm, 1801, rfl⟩
abbrev main_v1636 : Ref sig .tc := ⟨.hbm, 1802, rfl⟩
abbrev main_v1637 : Ref sig .tc := ⟨.hbm, 1803, rfl⟩
abbrev main_v1638 : Ref sig .tc := ⟨.hbm, 1804, rfl⟩
abbrev main_v1639 : Ref sig .tc := ⟨.hbm, 1805, rfl⟩
abbrev main_v1640 : Ref sig .tc := ⟨.hbm, 1806, rfl⟩
abbrev main_v1641 : Ref sig .tc := ⟨.hbm, 1807, rfl⟩
abbrev main_v1642 : Ref sig .tc := ⟨.hbm, 1808, rfl⟩
abbrev main_v1643 : Ref sig .tc := ⟨.hbm, 1809, rfl⟩
abbrev main_v1644 : Ref sig .tc := ⟨.hbm, 1810, rfl⟩
abbrev main_v1645 : Ref sig .tc := ⟨.hbm, 1811, rfl⟩
abbrev main_v1646 : Ref sig .tc := ⟨.hbm, 1812, rfl⟩
abbrev main_v1647 : Ref sig .tc := ⟨.hbm, 1813, rfl⟩
abbrev main_v1648 : Ref sig .tc := ⟨.hbm, 1814, rfl⟩
abbrev main_v1649 : Ref sig .tc := ⟨.hbm, 1815, rfl⟩
abbrev main_v1650 : Ref sig .tc := ⟨.hbm, 1816, rfl⟩
abbrev main_v1651 : Ref sig .tc := ⟨.hbm, 1817, rfl⟩
abbrev main_v1652 : Ref sig .tc := ⟨.hbm, 1818, rfl⟩
abbrev main_v1653 : Ref sig .tc := ⟨.hbm, 1819, rfl⟩
abbrev main_v1654 : Ref sig .tc := ⟨.hbm, 1820, rfl⟩
abbrev main_v1655 : Ref sig .tc := ⟨.hbm, 1821, rfl⟩
abbrev main_v1656 : Ref sig .tc := ⟨.hbm, 1822, rfl⟩
abbrev main_v1657 : Ref sig .tc := ⟨.hbm, 1823, rfl⟩
abbrev main_v1658 : Ref sig .tc := ⟨.hbm, 1824, rfl⟩
abbrev main_v1659 : Ref sig .tc := ⟨.hbm, 1825, rfl⟩
abbrev main_v1660 : Ref sig .tc := ⟨.hbm, 1826, rfl⟩
abbrev main_v1661 : Ref sig .tc := ⟨.hbm, 1827, rfl⟩
abbrev main_v1662 : Ref sig .tc := ⟨.hbm, 1828, rfl⟩
abbrev main_v1663 : Ref sig .tc := ⟨.hbm, 1829, rfl⟩
abbrev main_v1664 : Ref sig .tc := ⟨.hbm, 1830, rfl⟩
abbrev main_cst_157 : Ref sig .tc := ⟨.hbm, 1831, rfl⟩
abbrev main_v1665 : Ref sig .tc := ⟨.hbm, 1832, rfl⟩
abbrev main_cst_158 : Ref sig .tc := ⟨.hbm, 1833, rfl⟩
abbrev main_v1666 : Ref sig .tc := ⟨.hbm, 1834, rfl⟩
abbrev main_cst_159 : Ref sig .tc := ⟨.hbm, 1835, rfl⟩
abbrev main_v1667 : Ref sig .tc := ⟨.hbm, 1836, rfl⟩
abbrev main_cst_160 : Ref sig .tc := ⟨.hbm, 1837, rfl⟩
abbrev main_v1668 : Ref sig .tc := ⟨.hbm, 1838, rfl⟩
abbrev main_cst_161 : Ref sig .tc := ⟨.hbm, 1839, rfl⟩
abbrev main_v1669 : Ref sig .tc := ⟨.hbm, 1840, rfl⟩
abbrev main_v1670 : Ref sig .tc := ⟨.hbm, 1841, rfl⟩
abbrev main_cst_162 : Ref sig .tc := ⟨.hbm, 1842, rfl⟩
abbrev main_v1671 : Ref sig .tc := ⟨.hbm, 1843, rfl⟩
abbrev main_v1672 : Ref sig .tc := ⟨.hbm, 1844, rfl⟩
abbrev main_cst_163 : Ref sig .tc := ⟨.hbm, 1845, rfl⟩
abbrev main_v1673 : Ref sig .tc := ⟨.hbm, 1846, rfl⟩
abbrev main_v1674 : Ref sig .tc := ⟨.hbm, 1847, rfl⟩
abbrev main_cst_164 : Ref sig .tc := ⟨.hbm, 1848, rfl⟩
abbrev main_v1675 : Ref sig .tc := ⟨.hbm, 1849, rfl⟩
abbrev main_v1676 : Ref sig .tc := ⟨.hbm, 1850, rfl⟩
abbrev main_v1677 : Ref sig .tc := ⟨.hbm, 1851, rfl⟩
abbrev main_v1678 : Ref sig .tc := ⟨.hbm, 1852, rfl⟩
abbrev main_v1679 : Ref sig .tc := ⟨.hbm, 1853, rfl⟩
abbrev main_v1680 : Ref sig .tc := ⟨.hbm, 1854, rfl⟩
abbrev main_v1681 : Ref sig .tc := ⟨.hbm, 1855, rfl⟩
abbrev main_v1682 : Ref sig .tc := ⟨.hbm, 1856, rfl⟩
abbrev main_v1683 : Ref sig .tc := ⟨.hbm, 1857, rfl⟩
abbrev main_v1684 : Ref sig .tc := ⟨.hbm, 1858, rfl⟩
abbrev main_v1685 : Ref sig .tc := ⟨.hbm, 1859, rfl⟩
abbrev main_v1686 : Ref sig .tc := ⟨.hbm, 1860, rfl⟩
abbrev main_v1687 : Ref sig .tc := ⟨.hbm, 1861, rfl⟩
abbrev main_v1688 : Ref sig .tc := ⟨.hbm, 1862, rfl⟩
abbrev main_v1689 : Ref sig .tc := ⟨.hbm, 1863, rfl⟩
abbrev main_v1690 : Ref sig .tc := ⟨.hbm, 1864, rfl⟩
abbrev main_v1691 : Ref sig .tc := ⟨.hbm, 1865, rfl⟩
abbrev main_v1692 : Ref sig .tc := ⟨.hbm, 1866, rfl⟩
abbrev main_v1693 : Ref sig .tc := ⟨.hbm, 1867, rfl⟩
abbrev main_v1694 : Ref sig .tc := ⟨.hbm, 1868, rfl⟩
abbrev main_v1695 : Ref sig .tc := ⟨.hbm, 1869, rfl⟩
abbrev main_v1696 : Ref sig .tc := ⟨.hbm, 1870, rfl⟩
abbrev main_v1697 : Ref sig .tc := ⟨.hbm, 1871, rfl⟩
abbrev main_v1698 : Ref sig .tc := ⟨.hbm, 1872, rfl⟩
abbrev main_v1699 : Ref sig .tc := ⟨.hbm, 1873, rfl⟩
abbrev main_v1700 : Ref sig .tc := ⟨.hbm, 1874, rfl⟩
abbrev main_v1701 : Ref sig .tc := ⟨.hbm, 1875, rfl⟩
abbrev main_v1702 : Ref sig .tc := ⟨.hbm, 1876, rfl⟩
abbrev main_v1703 : Ref sig .tc := ⟨.hbm, 1877, rfl⟩
abbrev main_v1704 : Ref sig .tc := ⟨.hbm, 1878, rfl⟩
abbrev main_v1705 : Ref sig .tc := ⟨.hbm, 1879, rfl⟩
abbrev main_v1706 : Ref sig .tc := ⟨.hbm, 1880, rfl⟩
abbrev main_v1707 : Ref sig .tc := ⟨.hbm, 1881, rfl⟩
abbrev main_v1708 : Ref sig .tc := ⟨.hbm, 1882, rfl⟩
abbrev main_cst_165 : Ref sig .tc := ⟨.hbm, 1883, rfl⟩
abbrev main_v1709 : Ref sig .tc := ⟨.hbm, 1884, rfl⟩
abbrev main_cst_166 : Ref sig .tc := ⟨.hbm, 1885, rfl⟩
abbrev main_v1710 : Ref sig .tc := ⟨.hbm, 1886, rfl⟩
abbrev main_cst_167 : Ref sig .tc := ⟨.hbm, 1887, rfl⟩
abbrev main_v1711 : Ref sig .tc := ⟨.hbm, 1888, rfl⟩
abbrev main_cst_168 : Ref sig .tc := ⟨.hbm, 1889, rfl⟩
abbrev main_v1712 : Ref sig .tc := ⟨.hbm, 1890, rfl⟩
abbrev main_cst_169 : Ref sig .tc := ⟨.hbm, 1891, rfl⟩
abbrev main_v1713 : Ref sig .tc := ⟨.hbm, 1892, rfl⟩
abbrev main_v1714 : Ref sig .tc := ⟨.hbm, 1893, rfl⟩
abbrev main_cst_170 : Ref sig .tc := ⟨.hbm, 1894, rfl⟩
abbrev main_v1715 : Ref sig .tc := ⟨.hbm, 1895, rfl⟩
abbrev main_v1716 : Ref sig .tc := ⟨.hbm, 1896, rfl⟩
abbrev main_cst_171 : Ref sig .tc := ⟨.hbm, 1897, rfl⟩
abbrev main_v1717 : Ref sig .tc := ⟨.hbm, 1898, rfl⟩
abbrev main_v1718 : Ref sig .tc := ⟨.hbm, 1899, rfl⟩
abbrev main_cst_172 : Ref sig .tc := ⟨.hbm, 1900, rfl⟩
abbrev main_v1719 : Ref sig .tc := ⟨.hbm, 1901, rfl⟩
abbrev main_v1720 : Ref sig .tc := ⟨.hbm, 1902, rfl⟩
abbrev main_v1721 : Ref sig .tc := ⟨.hbm, 1903, rfl⟩
abbrev main_v1722 : Ref sig .tc := ⟨.hbm, 1904, rfl⟩
abbrev main_v1723 : Ref sig .tc := ⟨.hbm, 1905, rfl⟩
abbrev main_v1724 : Ref sig .tc := ⟨.hbm, 1906, rfl⟩
abbrev main_v1725 : Ref sig .tc := ⟨.hbm, 1907, rfl⟩
abbrev main_v1726 : Ref sig .tc := ⟨.hbm, 1908, rfl⟩
abbrev main_v1727 : Ref sig .tc := ⟨.hbm, 1909, rfl⟩
abbrev main_v1728 : Ref sig .tc := ⟨.hbm, 1910, rfl⟩
abbrev main_v1729 : Ref sig .tc := ⟨.hbm, 1911, rfl⟩
abbrev main_v1730 : Ref sig .tc := ⟨.hbm, 1912, rfl⟩
abbrev main_v1731 : Ref sig .tc := ⟨.hbm, 1913, rfl⟩
abbrev main_v1732 : Ref sig .tc := ⟨.hbm, 1914, rfl⟩
abbrev main_v1733 : Ref sig .tc := ⟨.hbm, 1915, rfl⟩
abbrev main_v1734 : Ref sig .tc := ⟨.hbm, 1916, rfl⟩
abbrev main_v1735 : Ref sig .tc := ⟨.hbm, 1917, rfl⟩
abbrev main_v1736 : Ref sig .tc := ⟨.hbm, 1918, rfl⟩
abbrev main_v1737 : Ref sig .tc := ⟨.hbm, 1919, rfl⟩
abbrev main_v1738 : Ref sig .tc := ⟨.hbm, 1920, rfl⟩
abbrev main_v1739 : Ref sig .tc := ⟨.hbm, 1921, rfl⟩
abbrev main_v1740 : Ref sig .tc := ⟨.hbm, 1922, rfl⟩
abbrev main_v1741 : Ref sig .tc := ⟨.hbm, 1923, rfl⟩
abbrev main_v1742 : Ref sig .tc := ⟨.hbm, 1924, rfl⟩
abbrev main_v1743 : Ref sig .tc := ⟨.hbm, 1925, rfl⟩
abbrev main_v1744 : Ref sig .tc := ⟨.hbm, 1926, rfl⟩
abbrev main_v1745 : Ref sig .tc := ⟨.hbm, 1927, rfl⟩
abbrev main_v1746 : Ref sig .tc := ⟨.hbm, 1928, rfl⟩
abbrev main_v1747 : Ref sig .tc := ⟨.hbm, 1929, rfl⟩
abbrev main_v1748 : Ref sig .tc := ⟨.hbm, 1930, rfl⟩
abbrev main_v1749 : Ref sig .tc := ⟨.hbm, 1931, rfl⟩
abbrev main_v1750 : Ref sig .tc := ⟨.hbm, 1932, rfl⟩
abbrev main_v1751 : Ref sig .tc := ⟨.hbm, 1933, rfl⟩
abbrev main_v1752 : Ref sig .tc := ⟨.hbm, 1934, rfl⟩
abbrev main_cst_173 : Ref sig .tc := ⟨.hbm, 1935, rfl⟩
abbrev main_v1753 : Ref sig .tc := ⟨.hbm, 1936, rfl⟩
abbrev main_cst_174 : Ref sig .tc := ⟨.hbm, 1937, rfl⟩
abbrev main_v1754 : Ref sig .tc := ⟨.hbm, 1938, rfl⟩
abbrev main_cst_175 : Ref sig .tc := ⟨.hbm, 1939, rfl⟩
abbrev main_v1755 : Ref sig .tc := ⟨.hbm, 1940, rfl⟩
abbrev main_cst_176 : Ref sig .tc := ⟨.hbm, 1941, rfl⟩
abbrev main_v1756 : Ref sig .tc := ⟨.hbm, 1942, rfl⟩
abbrev main_cst_177 : Ref sig .tc := ⟨.hbm, 1943, rfl⟩
abbrev main_v1757 : Ref sig .tc := ⟨.hbm, 1944, rfl⟩
abbrev main_v1758 : Ref sig .tc := ⟨.hbm, 1945, rfl⟩
abbrev main_cst_178 : Ref sig .tc := ⟨.hbm, 1946, rfl⟩
abbrev main_v1759 : Ref sig .tc := ⟨.hbm, 1947, rfl⟩
abbrev main_v1760 : Ref sig .tc := ⟨.hbm, 1948, rfl⟩
abbrev main_cst_179 : Ref sig .tc := ⟨.hbm, 1949, rfl⟩
abbrev main_v1761 : Ref sig .tc := ⟨.hbm, 1950, rfl⟩
abbrev main_v1762 : Ref sig .tc := ⟨.hbm, 1951, rfl⟩
abbrev main_cst_180 : Ref sig .tc := ⟨.hbm, 1952, rfl⟩
abbrev main_v1763 : Ref sig .tc := ⟨.hbm, 1953, rfl⟩
abbrev main_v1764 : Ref sig .tc := ⟨.hbm, 1954, rfl⟩
abbrev main_v1765 : Ref sig .tc := ⟨.hbm, 1955, rfl⟩
abbrev main_v1766 : Ref sig .tc := ⟨.hbm, 1956, rfl⟩
abbrev main_v1767 : Ref sig .tc := ⟨.hbm, 1957, rfl⟩
abbrev main_v1768 : Ref sig .tc := ⟨.hbm, 1958, rfl⟩
abbrev main_v1769 : Ref sig .tc := ⟨.hbm, 1959, rfl⟩
abbrev main_v1770 : Ref sig .tc := ⟨.hbm, 1960, rfl⟩
abbrev main_v1771 : Ref sig .tc := ⟨.hbm, 1961, rfl⟩
abbrev main_v1772 : Ref sig .tc := ⟨.hbm, 1962, rfl⟩
abbrev main_v1773 : Ref sig .tc := ⟨.hbm, 1963, rfl⟩
abbrev main_v1774 : Ref sig .tc := ⟨.hbm, 1964, rfl⟩
abbrev main_v1775 : Ref sig .tc := ⟨.hbm, 1965, rfl⟩
abbrev main_v1776 : Ref sig .tc := ⟨.hbm, 1966, rfl⟩
abbrev main_v1777 : Ref sig .tc := ⟨.hbm, 1967, rfl⟩
abbrev main_v1778 : Ref sig .tc := ⟨.hbm, 1968, rfl⟩
abbrev main_v1779 : Ref sig .tc := ⟨.hbm, 1969, rfl⟩
abbrev main_cst_181 : Ref sig .tc := ⟨.hbm, 1970, rfl⟩
abbrev main_v1780 : Ref sig .tc := ⟨.hbm, 1971, rfl⟩
abbrev main_v1781 : Ref sig .tc := ⟨.hbm, 1972, rfl⟩
abbrev main_cst_182 : Ref sig .tc := ⟨.hbm, 1973, rfl⟩
abbrev main_v1782 : Ref sig .tc := ⟨.hbm, 1974, rfl⟩
abbrev main_v1783 : Ref sig .tc := ⟨.hbm, 1975, rfl⟩

abbrev nD : Nat := 1
abbrev τ : Topo := Topo.v7x

variable {F : FTy → Type} [FloatOps F]
-- ==== KernelMemNormFwd.lean ====
abbrev S1x256x1024 : Shape := ⟨3, ![1, 256, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S256x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceMemNormFwdIdeal.lean ====
abbrev S1x256x1024 : Shape := ⟨3, ![1, 256, 1024]⟩
abbrev S1x1024 : Shape := ⟨2, ![1, 1024]⟩
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 21
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S256x1024, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelKeyNormFwd.lean ====
abbrev S256x1024 : Shape := ⟨2, ![256, 1024]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x128, .f32⟩
  | .hbm, ⟨2, _⟩ => ⟨S256x512, .f32⟩
  | .local _ .vmem, ⟨0, _⟩ => ⟨S256x512, .f32⟩
  | .local _ .vmem, ⟨1, _⟩ => ⟨S1x128, .f32⟩
  | .local _ .vmem, ⟨2, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceKeyNormFwdIdeal.lean ====
abbrev S256x1024 : Shape := ⟨2, ![256, 1024]⟩
abbrev S1x128 : Shape := ⟨2, ![1, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S128 : Shape := ⟨1, ![128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩
abbrev S256x512 : Shape := ⟨2, ![256, 512]⟩

abbrev nBuf : Space → Nat
  | .hbm => 23
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x128, .f32⟩
  | .hbm, ⟨2, _⟩ => ⟨S256x2x4x128, .f32⟩
  | .hbm, ⟨3, _⟩ => ⟨S256x1x4x128, .f32⟩
  | .hbm, ⟨4, _⟩ => ⟨S256x4x128, .f32⟩
  | .hbm, ⟨5, _⟩ => ⟨S128, .f32⟩
  | .hbm, ⟨6, _⟩ => ⟨S256x4x128, .f32⟩
  | .hbm, ⟨7, _⟩ => ⟨S_, .f32⟩
  | .hbm, ⟨8, _⟩ => ⟨S256x4, .f32⟩
  | .hbm, ⟨9, _⟩ => ⟨S256x4x1, .f32⟩
  | .hbm, ⟨10, _⟩ => ⟨S_, .f32⟩
  | .hbm, ⟨11, _⟩ => ⟨S256x4x1, .f32⟩
  | .hbm, ⟨12, _⟩ => ⟨S256x4x1, .f32⟩
  | .hbm, ⟨13, _⟩ => ⟨S_, .f32⟩
  | .hbm, ⟨14, _⟩ => ⟨S256x4x1, .f32⟩
  | .hbm, ⟨15, _⟩ => ⟨S256x4x1, .f32⟩
  | .hbm, ⟨16, _⟩ => ⟨S256x4x1, .f32⟩
  | .hbm, ⟨17, _⟩ => ⟨S256x4x128, .f32⟩
  | .hbm, ⟨18, _⟩ => ⟨S256x4x128, .f32⟩
  | .hbm, ⟨19, _⟩ => ⟨S1x1x128, .f32⟩
  | .hbm, ⟨20, _⟩ => ⟨S256x4x128, .f32⟩
  | .hbm, ⟨21, _⟩ => ⟨S256x4x128, .f32⟩
  | .hbm, ⟨22, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== KernelAttnFwd.lean ====
abbrev S1x4096x4x192 : Shape := ⟨4, ![1, 4096, 4, 192]⟩
abbrev S1x4096x4x128 : Shape := ⟨4, ![1, 4096, 4, 128]⟩
abbrev S10 : Shape := ⟨1, ![10]⟩
abbrev S4096x4x192 : Shape := ⟨3, ![4096, 4, 192]⟩
abbrev S_ : Shape := ⟨0, ![]⟩
abbrev S4096x4x256 : Shape := ⟨3, ![4096, 4, 256]⟩
abbrev S4096x1024 : Shape := ⟨2, ![4096, 1024]⟩
abbrev S4096x4x128 : Shape := ⟨3, ![4096, 4, 128]⟩
abbrev S4096x512 : Shape := ⟨2, ![4096, 512]⟩
abbrev S4x4096x128 : Shape := ⟨3, ![4, 4096, 128]⟩
abbrev S1024x256 : Shape := ⟨2, ![1024, 256]⟩
abbrev S1 : Shape := ⟨1, ![1]⟩
abbrev S1024x128 : Shape := ⟨2, ![1024, 128]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 17
  | .vmem => 13
  | .smem => 2
  | _ => 0

abbrev bufTy : (tb : Table) → Fin (tcTables nBuf tb) → BufTy
  | .hbm, ⟨0, _⟩ => ⟨S1x4096x4x192, .f32⟩
  | .hbm, ⟨1, _⟩ => ⟨S1x4096x4x192, .f32⟩
  | .hbm, ⟨2, _⟩ => ⟨S1x4096x4x128, .f32⟩
  | .hbm, ⟨3, _⟩ => ⟨S4096x4x192, .f32⟩
  | .hbm, ⟨4, _⟩ => ⟨S_, .f32⟩
  | .hbm, ⟨5, _⟩ => ⟨S4096x4x256, .f32⟩
  | .hbm, ⟨6, _⟩ => ⟨S4096x1024, .f32⟩
  | .hbm, ⟨7, _⟩ => ⟨S4096x1024, .bf16⟩
  | .hbm, ⟨8, _⟩ => ⟨S4096x4x192, .f32⟩
  | .hbm, ⟨9, _⟩ => ⟨S_, .f32⟩
  | .hbm, ⟨10, _⟩ => ⟨S4096x4x256, .f32⟩
  | .hbm, ⟨11, _⟩ => ⟨S4096x1024, .f32⟩
  | .hbm, ⟨12, _⟩ => ⟨S4096x1024, .bf16⟩
  | .hbm, ⟨13, _⟩ => ⟨S4096x4x128, .f32⟩
  | .hbm, ⟨14, _⟩ => ⟨S4096x512, .f32⟩
  | .hbm, ⟨15, _⟩ => ⟨S4096x512, .f32⟩
  | .hbm, ⟨16, _⟩ => ⟨S4x4096x128, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .smem, ⟨0, _⟩ => ⟨S10, .i32⟩
  | .local _ .smem, ⟨1, _⟩ => ⟨S10, .i32⟩
  | _, _ => ⟨S1x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelAttnFwdIdeal.lean ====
variable {F : FTy → Type} [FloatOps F] [Named F]
def κ : String → Option EReal := fun
  | "mask" => some ⊥
  | _ => none
-- ==== ReferenceAttnFwdIdeal.lean ====
abbrev S1x4096x4x192 : Shape := ⟨4, ![1, 4096, 4, 192]⟩
abbrev S1x4096x4x128 : Shape := ⟨4, ![1, 4096, 4, 128]⟩
abbrev S4096x4x192 : Shape := ⟨3, ![4096, 4, 192]⟩
abbrev S4x4096x4096 : Shape := ⟨3, ![4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x4096 : Shape := ⟨2, ![4, 4096]⟩
abbrev S4x4096x1 : Shape := ⟨3, ![4, 4096, 1]⟩
abbrev S4096x4x128 : Shape := ⟨3, ![4096, 4, 128]⟩
abbrev S4x128x4096 : Shape := ⟨3, ![4, 128, 4096]⟩
abbrev S4096x512 : Shape := ⟨2, ![4096, 512]⟩
abbrev S4x4096x128 : Shape := ⟨3, ![4, 4096, 128]⟩

abbrev nBuf : Space → Nat
  | .hbm => 34
  | .vmem => 0
  | .smem => 0
  | _ => 0

abbrev bufTy : (tb : Table) → Fin (tcTables nBuf tb) → BufTy
  | .hbm, ⟨0, _⟩ => ⟨S1x4096x4x192, .f32⟩
  | .hbm, ⟨1, _⟩ => ⟨S1x4096x4x192, .f32⟩
  | .hbm, ⟨2, _⟩ => ⟨S1x4096x4x128, .f32⟩
  | .hbm, ⟨3, _⟩ => ⟨S4096x4x192, .f32⟩
  | .hbm, ⟨4, _⟩ => ⟨S4096x4x192, .f32⟩
  | .hbm, ⟨5, _⟩ => ⟨S4x4096x4096, .f32⟩
  | .hbm, ⟨6, _⟩ => ⟨S4096, .i32⟩
  | .hbm, ⟨7, _⟩ => ⟨S4096x1, .i32⟩
  | .hbm, ⟨8, _⟩ => ⟨S1x4096, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S4x4096x4096, .i1⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4096x4x128, .f32⟩
  | .hbm, ⟨28, _⟩ => ⟨S4x128x4096, .f32⟩
  | .hbm, ⟨29, _⟩ => ⟨S4096x4x128, .f32⟩
  | .hbm, ⟨30, _⟩ => ⟨S4096x512, .f32⟩
  | .hbm, ⟨31, _⟩ => ⟨S4x4096x1, .f32⟩
  | .hbm, ⟨32, _⟩ => ⟨S4x4096x1, .f32⟩
  | .hbm, ⟨33, _⟩ => ⟨S4x4096x128, .f32⟩
  | _, _ => ⟨S1x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== KernelSsmPrepFwd.lean ====
abbrev S32x64 : Shape := ⟨2, ![32, 64]⟩
abbrev S32x1 : Shape := ⟨2, ![32, 1]⟩
abbrev S512x64 : Shape := ⟨2, ![512, 64]⟩
abbrev S8x2048 : Shape := ⟨2, ![8, 2048]⟩
abbrev S4x128x512 : Shape := ⟨3, ![4, 128, 512]⟩
abbrev S128x64 : Shape := ⟨2, ![128, 64]⟩
abbrev S8x512 : Shape := ⟨2, ![8, 512]⟩
abbrev S1x128x512 : Shape := ⟨3, ![1, 128, 512]⟩
abbrev S128x32 : Shape := ⟨2, ![128, 32]⟩
abbrev S64x512 : Shape := ⟨2, ![64, 512]⟩
abbrev S128x512 : Shape := ⟨2, ![128, 512]⟩
abbrev S32x512 : Shape := ⟨2, ![32, 512]⟩
abbrev S512 : Shape := ⟨1, ![512]⟩
abbrev S1x512 : Shape := ⟨2, ![1, 512]⟩

abbrev nBuf : Space → Nat
  | .hbm => 13
  | .vmem => 23
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S8x2048, .f32⟩
  | .hbm, ⟨8, _⟩ => ⟨S8x2048, .f32⟩
  | .hbm, ⟨9, _⟩ => ⟨S4x128x512, .bf16⟩
  | .hbm, ⟨10, _⟩ => ⟨S4x128x512, .bf16⟩
  | .hbm, ⟨11, _⟩ => ⟨S4x128x512, .bf16⟩
  | .hbm, ⟨12, _⟩ => ⟨S4x128x512, .bf16⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S1x128x512, .bf16⟩
  | .local _ .vmem, ⟨16, _⟩ => ⟨S1x128x512, .bf16⟩
  | .local _ .vmem, ⟨17, _⟩ => ⟨S1x128x512, .bf16⟩
  | .local _ .vmem, ⟨18, _⟩ => ⟨S1x128x512, .bf16⟩
  | .local _ .vmem, ⟨19, _⟩ => ⟨S1x128x512, .bf16⟩
  | .local _ .vmem, ⟨20, _⟩ => ⟨S1x128x512, .bf16⟩
  | .local _ .vmem, ⟨21, _⟩ => ⟨S1x128x512, .bf16⟩
  | .local _ .vmem, ⟨22, _⟩ => ⟨S1x128x512, .bf16⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceSsmPrepFwdIdeal.lean ====
abbrev S32x64 : Shape := ⟨2, ![32, 64]⟩
abbrev S32x1 : Shape := ⟨2, ![32, 1]⟩
abbrev S512x64 : Shape := ⟨2, ![512, 64]⟩
abbrev S_ : Shape := ⟨0, ![]⟩
abbrev S32x16x64 : Shape := ⟨3, ![32, 16, 64]⟩
abbrev S32x1x64 : Shape := ⟨3, ![32, 1, 64]⟩
abbrev S8x8 : Shape := ⟨2, ![8, 8]⟩
abbrev S1x8x1x8x1 : Shape := ⟨5, ![1, 8, 1, 8, 1]⟩
abbrev S1x2048 : Shape := ⟨2, ![1, 2048]⟩
abbrev S8x2048 : Shape := ⟨2, ![8, 2048]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩

abbrev nBuf : Space → Nat
  | .hbm => 88
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S32x1, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S_, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x16x64, .f32⟩
  | .hbm, ⟨34, _⟩ => ⟨S32x16x64, .f32⟩
  | .hbm, ⟨35, _⟩ => ⟨S32x1x64, .f32⟩
  | .hbm, ⟨36, _⟩ => ⟨S32x16x64, .f32⟩
  | .hbm, ⟨37, _⟩ => ⟨S32x16x64, .f32⟩
  | .hbm, ⟨38, _⟩ => ⟨S32x1x64, .f32⟩
  | .hbm, ⟨39, _⟩ => ⟨S32x16x64, .f32⟩
  | .hbm, ⟨40, _⟩ => ⟨S32x16x64, .f32⟩
  | .hbm, ⟨41, _⟩ => ⟨S32x16x64, .f32⟩
  | .hbm, ⟨42, _⟩ => ⟨S32x1x64, .f32⟩
  | .hbm, ⟨43, _⟩ => ⟨S32x16x64, .f32⟩
  | .hbm, ⟨44, _⟩ => ⟨S32x16x64, .f32⟩
  | .hbm, ⟨45, _⟩ => ⟨S32x1x64, .f32⟩
  | .hbm, ⟨46, _⟩ => ⟨S32x16x64, .f32⟩
  | .hbm, ⟨47, _⟩ => ⟨S32x16x64, .f32⟩
  | .hbm, ⟨48, _⟩ => ⟨S32x16x64, .f32⟩
  | .hbm, ⟨49, _⟩ => ⟨S8x8, .i32⟩
  | .hbm, ⟨50, _⟩ => ⟨S8x8, .i32⟩
  | .hbm, ⟨51, _⟩ => ⟨S_, .i32⟩
  | .hbm, ⟨52, _⟩ => ⟨S8x8, .i32⟩
  | .hbm, ⟨53, _⟩ => ⟨S8x8, .i32⟩
  | .hbm, ⟨54, _⟩ => ⟨S8x8, .i1⟩
  | .hbm, ⟨55, _⟩ => ⟨S8x8, .f32⟩
  | .hbm, ⟨56, _⟩ => ⟨S1x8x1x8x1, .f32⟩
  | .hbm, ⟨57, _⟩ => ⟨S1x2048, .f32⟩
  | .hbm, ⟨58, _⟩ => ⟨S8x2048, .f32⟩
  | .hbm, ⟨59, _⟩ => ⟨S1x2048, .f32⟩
  | .hbm, ⟨60, _⟩ => ⟨S8x2048, .f32⟩
  | .hbm, ⟨61, _⟩ => ⟨S4x8x16x1x64, .f32⟩
  | .hbm, ⟨62, _⟩ => ⟨S4x8x16x8x64, .f32⟩
  | .hbm, ⟨63, _⟩ => ⟨S4x8x16x8x64, .f32⟩
  | .hbm, ⟨64, _⟩ => ⟨S4x8x16x8x64, .f32⟩
  | .hbm, ⟨65, _⟩ => ⟨S4x128x512, .f32⟩
  | .hbm, ⟨66, _⟩ => ⟨S4x8x16x1x64, .f32⟩
  | .hbm, ⟨67, _⟩ => ⟨S4x8x16x8x64, .f32⟩
  | .hbm, ⟨68, _⟩ => ⟨S4x8x16x8x64, .f32⟩
  | .hbm, ⟨69, _⟩ => ⟨S4x8x16x8x64, .f32⟩
  | .hbm, ⟨70, _⟩ => ⟨S4x128x512, .f32⟩
  | .hbm, ⟨71, _⟩ => ⟨S32x16x64, .f32⟩
  | .hbm, ⟨72, _⟩ => ⟨S4x8x16x1x64, .f32⟩
  | .hbm, ⟨73, _⟩ => ⟨S4x8x16x8x64, .f32⟩
  | .hbm, ⟨74, _⟩ => ⟨S4x8x16x8x64, .f32⟩
  | .hbm, ⟨75, _⟩ => ⟨S4x8x16x8x64, .f32⟩
  | .hbm, ⟨76, _⟩ => ⟨S4x128x512, .f32⟩
  | .hbm, ⟨77, _⟩ => ⟨S32x16x64, .f32⟩
  | .hbm, ⟨78, _⟩ => ⟨S32x16x64, .f32⟩
  | .hbm, ⟨79, _⟩ => ⟨S4x8x16x1x64, .f32⟩
  | .hbm, ⟨80, _⟩ => ⟨S4x8x16x8x64, .f32⟩
  | .hbm, ⟨81, _⟩ => ⟨S4x8x16x8x64, .f32⟩
  | .hbm, ⟨82, _⟩ => ⟨S4x8x16x8x64, .f32⟩
  | .hbm, ⟨83, _⟩ => ⟨S4x128x512, .f32⟩
  | .hbm, ⟨84, _⟩ => ⟨S4x128x512, .bf16⟩
  | .hbm, ⟨85, _⟩ => ⟨S4x128x512, .bf16⟩
  | .hbm, ⟨86, _⟩ => ⟨S4x128x512, .bf16⟩
  | .hbm, ⟨87, _⟩ => ⟨S4x128x512, .bf16⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩

abbrev nD : Nat := 1
abbrev τ : Topo := Topo.v7x

variable {F : FTy → Type} [FloatOps F]
-- ==== KernelPostFwd.lean ====
abbrev S4096x512 : Shape := ⟨2, ![4096, 512]⟩
abbrev S4096x1024 : Shape := ⟨2, ![4096, 1024]⟩
abbrev S256x512 : Shape := ⟨2, ![256, 512]⟩
abbrev S256x1024 : Shape := ⟨2, ![256, 1024]⟩
abbrev S1x512 : Shape := ⟨2, ![1, 512]⟩
abbrev S512x512 : Shape := ⟨2, ![512, 512]⟩
abbrev S512x1024 : Shape := ⟨2, ![512, 1024]⟩
abbrev S1x1024 : Shape := ⟨2, ![1, 1024]⟩
abbrev S4x1024x128 : Shape := ⟨3, ![4, 1024, 128]⟩
abbrev S1x128 : Shape := ⟨2, ![1, 128]⟩
abbrev S256 : Shape := ⟨1, ![256]⟩
abbrev S256x1 : Shape := ⟨2, ![256, 1]⟩
abbrev S1x1024x128 : Shape := ⟨3, ![1, 1024, 128]⟩
abbrev S1024x128 : Shape := ⟨2, ![1024, 128]⟩
abbrev S256x128 : Shape := ⟨2, ![256, 128]⟩
abbrev S256x256 : Shape := ⟨2, ![256, 256]⟩

abbrev nBuf : Space → Nat
  | .hbm => 18
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S256x512, .f32⟩
  | .hbm, ⟨5, _⟩ => ⟨S256x1024, .f32⟩
  | .hbm, ⟨6, _⟩ => ⟨S1x512, .f32⟩
  | .hbm, ⟨7, _⟩ => ⟨S512x512, .bf16⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S512x1024, .bf16⟩
  | .hbm, ⟨12, _⟩ => ⟨S512x1024, .bf16⟩
  | .hbm, ⟨13, _⟩ => ⟨S1x1024, .f32⟩
  | .hbm, ⟨14, _⟩ => ⟨S4x1024x128, .bf16⟩
  | .hbm, ⟨15, _⟩ => ⟨S1x128, .f32⟩
  | .hbm, ⟨16, _⟩ => ⟨S512x1024, .bf16⟩
  | .hbm, ⟨17, _⟩ => ⟨S4096x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S4x1024x128, .bf16⟩
  | .local _ .vmem, ⟨19, _⟩ => ⟨S1x128, .f32⟩
  | .local _ .vmem, ⟨20, _⟩ => ⟨S512x1024, .bf16⟩
  | .local _ .vmem, ⟨21, _⟩ => ⟨S256x1024, .f32⟩
  | .local _ .vmem, ⟨22, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferencePostFwdIdeal.lean ====
abbrev S4096x512 : Shape := ⟨2, ![4096, 512]⟩
abbrev S4096x1024 : Shape := ⟨2, ![4096, 1024]⟩
abbrev S256x512 : Shape := ⟨2, ![256, 512]⟩
abbrev S256x1024 : Shape := ⟨2, ![256, 1024]⟩
abbrev S1x512 : Shape := ⟨2, ![1, 512]⟩
abbrev S512x512 : Shape := ⟨2, ![512, 512]⟩
abbrev S512x1024 : Shape := ⟨2, ![512, 1024]⟩
abbrev S1x1024 : Shape := ⟨2, ![1, 1024]⟩
abbrev S4x1024x128 : Shape := ⟨3, ![4, 1024, 128]⟩
abbrev S1x128 : Shape := ⟨2, ![1, 128]⟩
abbrev S1024x1024 : Shape := ⟨2, ![1024, 1024]⟩
abbrev S1024x4x128 : Shape := ⟨3, ![1024, 4, 128]⟩
abbrev S1024x512 : Shape := ⟨2, ![1024, 512]⟩
abbrev S_ : Shape := ⟨0, ![]⟩
abbrev S4096 : Shape := ⟨1, ![4096]⟩
abbrev S4096x1 : Shape := ⟨2, ![4096, 1]⟩
abbrev S4096x4x128 : Shape := ⟨3, ![4096, 4, 128]⟩
abbrev S128 : Shape := ⟨1, ![128]⟩
abbrev S4096x4 : Shape := ⟨2, ![4096, 4]⟩
abbrev S4096x4x1 : Shape := ⟨3, ![4096, 4, 1]⟩
abbrev S1x1x128 : Shape := ⟨3, ![1, 1, 128]⟩
abbrev S256x4x128 : Shape := ⟨3, ![256, 4, 128]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 149
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x1024, .f32⟩
  | 4 => ⟨S256x512, .f32⟩
  | 5 => ⟨S256x1024, .f32⟩
  | 6 => ⟨S1x512, .f32⟩
  | 7 => ⟨S512x512, .bf16⟩
  | 8 => ⟨S1x512, .f32⟩
  | 9 => ⟨S1x512, .f32⟩
  | 10 => ⟨S1x512, .f32⟩
  | 11 => ⟨S512x1024, .bf16⟩
  | 12 => ⟨S512x1024, .bf16⟩
  | 13 => ⟨S1x1024, .f32⟩
  | 14 => ⟨S4x1024x128, .bf16⟩
  | 15 => ⟨S1x128, .f32⟩
  | 16 => ⟨S512x1024, .bf16⟩
  | 17 => ⟨S1024x1024, .bf16⟩
  | 18 => ⟨S1024x1024, .f32⟩
  | 19 => ⟨S4x1024x128, .f32⟩
  | 20 => ⟨S1024x4x128, .f32⟩
  | 21 => ⟨S1024x512, .f32⟩
  | 22 => ⟨S256x512, .f32⟩
  | 23 => ⟨S512x512, .f32⟩
  | 24 => ⟨S512x1024, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S_, .f32⟩
  | 74 => ⟨S4096, .f32⟩
  | 75 => ⟨S4096x1, .f32⟩
  | 76 => ⟨S_, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x1, .f32⟩
  | 83 => ⟨S4096x512, .f32⟩
  | 84 => ⟨S4096x512, .f32⟩
  | 85 => ⟨S4096x512, .f32⟩
  | 86 => ⟨S4096x512, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096x1, .f32⟩
  | 99 => ⟨S4096x1, .f32⟩
  | 100 => ⟨S4096x1, .f32⟩
  | 101 => ⟨S4096x1024, .f32⟩
  | 102 => ⟨S4096x1024, .f32⟩
  | 103 => ⟨S4096x1024, .f32⟩
  | 104 => ⟨S4096x1024, .f32⟩
  | 105 => ⟨S4096x512, .f32⟩
  | 106 => ⟨S4096x4x128, .f32⟩
  | 107 => ⟨S128, .f32⟩
  | 108 => ⟨S4096x4x128, .f32⟩
  | 109 => ⟨S_, .f32⟩
  | 110 => ⟨S4096x4, .f32⟩
  | 111 => ⟨S4096x4x1, .f32⟩
  | 112 => ⟨S_, .f32⟩
  | 113 => ⟨S4096x4x1, .f32⟩
  | 114 => ⟨S4096x4x1, .f32⟩
  | 115 => ⟨S_, .f32⟩
  | 116 => ⟨S4096x4x1, .f32⟩
  | 117 => ⟨S4096x4x1, .f32⟩
  | 118 => ⟨S4096x4x1, .f32⟩
  | 119 => ⟨S4096x4x128, .f32⟩
  | 120 => ⟨S4096x4x128, .f32⟩
  | 121 => ⟨S1x1x128, .f32⟩
  | 122 => ⟨S4096x4x128, .f32⟩
  | 123 => ⟨S4096x4x128, .f32⟩
  | 124 => ⟨S256x4x128, .f32⟩
  | 125 => ⟨S4x4096x256, .f32⟩
  | 126 => ⟨S_, .f32⟩
  | 127 => ⟨S4x4096x256, .f32⟩
  | _ => ⟨S4096x512, .f32⟩

abbrev hbmTy0_1 (i : Nat) : BufTy := match i % 128 with
  | 0 => ⟨S4x4096x256, .f32⟩
  | 1 => ⟨S_, .f32⟩
  | 2 => ⟨S4x4096, .f32⟩
  | 3 => ⟨S_, .f32⟩
  | 4 => ⟨S4x4096, .f32⟩
  | 5 => ⟨S4x4096, .f32⟩
  | 6 => ⟨S4x4096x1, .f32⟩
  | 7 => ⟨S4x4096x256, .f32⟩
  | 8 => ⟨S4x4096x256, .f32⟩
  | 9 => ⟨S4x4096x256, .f32⟩
  | 10 => ⟨S_, .f32⟩
  | 11 => ⟨S4x4096, .f32⟩
  | 12 => ⟨S4x4096x1, .f32⟩
  | 13 => ⟨S4x4096x256, .f32⟩
  | 14 => ⟨S4x4096x256, .f32⟩
  | 15 => ⟨S256x4x128, .f32⟩
  | 16 => ⟨S4x128x4096, .f32⟩
  | 17 => ⟨S4096x4x128, .f32⟩
  | 18 => ⟨S4096x512, .f32⟩
  | 19 => ⟨S4096x1024, .f32⟩
  | 20 => ⟨S4096x1024, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_cst_12 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_cst_16 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_17 : Ref sig .tc := ⟨.hbm, 126, rfl⟩
abbrev main_v91 : Ref sig .tc := ⟨.hbm, 127, rfl⟩
abbrev main_v92 : Ref sig .tc := ⟨.hbm, 128, rfl⟩
abbrev main_cst_18 : Ref sig .tc := ⟨.hbm, 129, rfl⟩
abbrev main_v93 : Ref sig .tc := ⟨.hbm, 130, rfl⟩
abbrev main_cst_19 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_20 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]
-- ==== KernelPreFwd.lean ====
abbrev S4096x1024 : Shape := ⟨2, ![4096, 1024]⟩
abbrev S4096x256 : Shape := ⟨2, ![4096, 256]⟩
abbrev S1x1024 : Shape := ⟨2, ![1, 1024]⟩
abbrev S1024x384 : Shape := ⟨2, ![1024, 384]⟩
abbrev S1024x256 : Shape := ⟨2, ![1024, 256]⟩
abbrev S1024x128 : Shape := ⟨2, ![1024, 128]⟩
abbrev S1024x512 : Shape := ⟨2, ![1024, 512]⟩
abbrev S1x384 : Shape := ⟨2, ![1, 384]⟩
abbrev S1x256 : Shape := ⟨2, ![1, 256]⟩
abbrev S4x384x256 : Shape := ⟨3, ![4, 384, 256]⟩
abbrev S4x256x256 : Shape := ⟨3, ![4, 256, 256]⟩
abbrev S4096x512 : Shape := ⟨2, ![4096, 512]⟩
abbrev S256x1024 : Shape := ⟨2, ![256, 1024]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S256x384 : Shape := ⟨2, ![256, 384]⟩
abbrev S256x128 : Shape := ⟨2, ![256, 128]⟩
abbrev S1x384x256 : Shape := ⟨3, ![1, 384, 256]⟩
abbrev S384x256 : Shape := ⟨2, ![384, 256]⟩
abbrev S1x256x256 : Shape := ⟨3, ![1, 256, 256]⟩

abbrev nBuf : Space → Nat
  | .hbm => 19
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S1x1024, .f32⟩
  | .hbm, ⟨5, _⟩ => ⟨S1024x384, .bf16⟩
  | .hbm, ⟨6, _⟩ => ⟨S1024x256, .bf16⟩
  | .hbm, ⟨7, _⟩ => ⟨S1024x128, .bf16⟩
  | .hbm, ⟨8, _⟩ => ⟨S1024x512, .bf16⟩
  | .hbm, ⟨9, _⟩ => ⟨S1x384, .f32⟩
  | .hbm, ⟨10, _⟩ => ⟨S1x256, .f32⟩
  | .hbm, ⟨11, _⟩ => ⟨S4x384x256, .bf16⟩
  | .hbm, ⟨12, _⟩ => ⟨S4x256x256, .bf16⟩
  | .hbm, ⟨13, _⟩ => ⟨S1x256, .f32⟩
  | .hbm, ⟨14, _⟩ => ⟨S1x256, .f32⟩
  | .hbm, ⟨15, _⟩ => ⟨S4096x1024, .bf16⟩
  | .hbm, ⟨16, _⟩ => ⟨S4096x1024, .bf16⟩
  | .hbm, ⟨17, _⟩ => ⟨S4096x512, .bf16⟩
  | .hbm, ⟨18, _⟩ => ⟨S4096x512, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S1x1024, .f32⟩
  | .local _ .vmem, ⟨9, _⟩ => ⟨S1024x384, .bf16⟩
  | .local _ .vmem, ⟨10, _⟩ => ⟨S1024x256, .bf16⟩
  | .local _ .vmem, ⟨11, _⟩ => ⟨S1024x128, .bf16⟩
  | .local _ .vmem, ⟨12, _⟩ => ⟨S1024x512, .bf16⟩
  | .local _ .vmem, ⟨13, _⟩ => ⟨S1x384, .f32⟩
  | .local _ .vmem, ⟨14, _⟩ => ⟨S1x256, .f32⟩
  | .local _ .vmem, ⟨15, _⟩ => ⟨S4x384x256, .bf16⟩
  | .local _ .vmem, ⟨16, _⟩ => ⟨S4x256x256, .bf16⟩
  | .local _ .vmem, ⟨17, _⟩ => ⟨S1x256, .f32⟩
  | .local _ .vmem, ⟨18, _⟩ => ⟨S1x256, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x512, .bf16⟩
  | .local _ .vmem, ⟨24, _⟩ => ⟨S256x512, .bf16⟩
  | .local _ .vmem, ⟨25, _⟩ => ⟨S256x512, .f32⟩
  | .local _ .vmem, ⟨26, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x384x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Proof.MemNorm.lean ====
/-
  The gradient of the memory norm's gain (`mem_norm_bwd`): the kernel's one grid point holds the whole memory, and
  what it adds into the gain's gradient, started at zero, is the column sum of the normalised rows times the
  cotangent, which is the derivative of `rms_norm` with respect to its gain.
-/
module

public import proofs.«01_k».proof.Defs
public import proofs.«01_k».proof.Proof.Gen.KernelMemNorm
public import proofs.«01_k».proof.Proof.Gen.KernelMemNorm.Frame
public import proofs.«01_k».proof.Proof.Gen.KernelMemNormIdeal.Frame
public import proofs.«01_k».proof.Proof.Gen.KernelMemNormIdeal.Value
public import proofs.«01_k».proof.Proof.Gen.ReferenceMemNormIdeal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelMemNormIdeal.Value

open Cert.KernelMemNormIdeal Cert.KernelMemNormIdeal.Gen

variable (m : (ℓ : Loc nD τ sig) → Buf (Elt Ideal) ℓ)

/-- Every window's block index at the one grid point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The gain's gradient after the run, over the program's arguments. -/
theorem final (c : Dev nD) : (dats m 0 c).arrAt 3 (cfgs 0).N
    = k0_pay2 (F := Ideal) (shapeCast S256x1024 (m ((c : Thread nD τ).loc main_arg0)) shapeCasts_S1x256x1024_S256x1024)
        (shapeCast S256x1024 (m ((c : Thread nD τ).loc main_arg2)) shapeCasts_S1x256x1024_S256x1024) (k0_pay1 (F := Ideal)) := by
  refine (dats m 0 c).arrAt_eq_of_after_last 3 t0_0 (by decide +kernel) _ fun j => ?_
  blk_simp
  rw [after0_3]
  rw [outsAt0]
  frame_out
  blk_point [iblk, V, idx t0_0]

end Cert.KernelMemNormIdeal.Value

namespace Cert.Proof.MemNorm

open Cert.ReferenceMemNormIdeal Cert.ReferenceMemNormIdeal.Gen in
/-- The gain's gradient as the reference computes it, over the memory's rows and the cotangent's. -/
def REF (X D : FVec Ideal S256x1024 .f32) : FVec Ideal S1x1024 .f32 :=
  broadcastInDim S1x1024 ![1] bcast_S1024_S1x1024_1 (Host.reduceAdd (shapeCast _ (Host.reduceAdd (mulf (mulf X (broadcastInDim S256x1024 ![0, 1] bcast_S256x1_S256x1024_0_1 (Host.rsqrt (addf (Host.divf (broadcastInDim S256x1 ![0] bcast_S256_S256x1_0 (Host.reduceAdd (mulf X X) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) D) (constant S_ .f32 0x00000000#32) reducesTo_S256x1024_S1024_d0 h_S_) shapeCasts_S1024_S1x1024) (constant S_ .f32 0x00000000#32) reducesTo_S1x1024_S1024_d0 h_S_)

open Cert.KernelMemNormIdeal Cert.KernelMemNormIdeal.Gen in
/-- What the kernel stores is what the reference computes, entry by entry. -/
theorem pay_eq_ref (X D : FVec Ideal S256x1024 .f32) (i : Fin 1) (j : Fin 1024) :
    k0_pay2 (F := Ideal) X D (k0_pay1 (F := Ideal)) (ix2 i j) = REF X D (ix2 i j) := by
  pointwise [k0_pay2, k0_pay1, REF]
  rw [Fin.sum_univ_one]

end Cert.Proof.MemNorm

namespace Cert.Proof.MemNorm

theorem frame_kernel : Cert.quiescent_KernelMemNorm := fun m ρ _ => Cert.KernelMemNorm.Gen.frame m ρ
theorem frame_ideal : Cert.quiescent_KernelMemNormIdeal := fun m ρ _ => Cert.KernelMemNormIdeal.Gen.frame m ρ
theorem frame_reference : Cert.quiescent_ReferenceMemNormIdeal := fun m ρ _ =>
  (θ_run Cert.ReferenceMemNormIdeal.defs _ _).mono (fun r h => ⟨fun c => (h c).2, sem_eq_zero_of_no_sems (by decide) r.2⟩)
    (Cert.ReferenceMemNormIdeal.Value.run (F := Ideal) m ρ)

theorem value : Cert.algebraic_KernelMemNormIdeal_ReferenceMemNormIdeal := by
  pair_intro
  · run_from Cert.KernelMemNormIdeal.Gen.run_main m g
  · run_from Cert.ReferenceMemNormIdeal.Value.run m' g'
    rw [Cert.KernelMemNormIdeal.Value.final m c]
    funext j
    obtain ⟨a, b, rfl⟩ : ∃ (a : Fin 1) (b : Fin 1024), j = ix2 a b := ⟨j 0, j 1, eq_ix2 j⟩
    exact (pay_eq_ref _ _ a b).symm

end Cert.Proof.MemNorm

end
-- ==== Proof.FfnW.lean ====
/-
  The gradients of the feed-forward layer's three weights (`ffn_bwd_w`): every shard of the hidden units is one run of
  four grid points, each of which adds the product of a block of 1024 tokens into the shard's accumulator; the sum over
  the four blocks is the reference's one product over all 4096 tokens.
-/
module

public import proofs.«01_k».proof.Defs
public import proofs.«01_k».proof.Proof.Gen.KernelFfnW
public import proofs.«01_k».proof.Proof.Gen.KernelFfnW.Frame
public import proofs.«01_k».proof.Proof.Gen.KernelFfnWIdeal.Frame
public import proofs.«01_k».proof.Proof.Gen.KernelFfnWIdeal.Value
public import proofs.«01_k».proof.Proof.Gen.ReferenceFfnWIdeal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.KernelFfnWIdeal.Value

open Cert.KernelFfnWIdeal Cert.KernelFfnWIdeal.Gen

variable (m : (ℓ : Loc nD τ sig) → Buf (Elt Ideal) ℓ)

/-- Every window's block index at a grid point. -/
theorem idx : ∀ t : Fin cfg0.N, win0_0.index t = ![t.val % 4, 0] ∧ win0_1.index t = ![t.val % 4, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, 0, 0] ∧ win0_7.index t = ![t.val / 4, 0, 0] ∧ win0_8.index t = ![t.val / 4, 0, 0] :=
  (by decide +kernel : ∀ t : Fin grid0.N, _)

theorem zero_gate (j : S1x688x1024.Idx) : k0_pay6 (F := Ideal) j = 0 := by pointwise! [k0_pay6]
theorem zero_up (j : S1x688x1024.Idx) : k0_pay7 (F := Ideal) j = 0 := by pointwise! [k0_pay7]
theorem zero_down (j : S1x688x1024.Idx) : k0_pay8 (F := Ideal) j = 0 := by pointwise! [k0_pay8]

/-- A block's part of the gate weight's gradient, added into what the buffer held. -/
theorem pay_gate (h : Vec Ideal S1024x1024 .bf16) (acc : Vec Ideal S1x688x1024 .f32) (d : Vec Ideal S1x1024x688 .bf16) (j : S1x688x1024.Idx) :
    k0_pay9 (F := Ideal) h acc d j = acc j + ∑ k : Fin 1024, d (ix3 (0 : Fin 1) k (j 1)) * h (ix2 k (j 2)) := by
  pointwise [k0_pay9, k0_pay5]

/-- A block's part of the up weight's gradient, added into what the buffer held. -/
theorem pay_up (h : Vec Ideal S1024x1024 .bf16) (acc : Vec Ideal S1x688x1024 .f32) (d : Vec Ideal S1x1024x688 .bf16) (j : S1x688x1024.Idx) :
    k0_pay1 (F := Ideal) (k0_pay5 h) acc d j = acc j + ∑ k : Fin 1024, d (ix3 (0 : Fin 1) k (j 1)) * h (ix2 k (j 2)) := by
  pointwise [k0_pay1, k0_pay5]

/-- A block's part of the down weight's gradient, added into what the buffer held. -/
theorem pay_down (g u : Vec Ideal S1x1024x688 .bf16) (x : Vec Ideal S1024x1024 .f32) (acc : Vec Ideal S1x688x1024 .f32) (j : S1x688x1024.Idx) :
    k0_pay2 (F := Ideal) (k0_pay3 g u) (k0_pay4 x) acc j
      = acc j + ∑ k : Fin 1024, g (ix3 (0 : Fin 1) k (j 1)) * Ideal.logistic (g (ix3 (0 : Fin 1) k (j 1))) * u (ix3 (0 : Fin 1) k (j 1))
          * (Ideal.ofBits .f32 0x3F000000#32 * x (ix2 k (j 2))) := by
  pointwise [k0_pay2, k0_pay3, k0_pay4]

/-- The gate weight's gradient after the run: one sum over all tokens. -/
theorem final_gate (c : Dev nD) : (dats m 0 c).arrAt 6 (cfgs 0).N
    = fun i : S4x688x1024.Idx => ∑ s : Fin 4096, (show FVec Ideal S4x4096x688 .bf16 from V m c main_v29) (ix3 (i 0) s (i 1))
        * (show FVec Ideal S4096x1024 .bf16 from V m c main_v25) (ix2 s (i 2)) := by
  refine (dats m 0 c).arrAt_eq_of_covers 6 _ (by decide +kernel) fun t hf y => ?_
  blk_simp
  rw [after0_6, Pipeline.eq_sum_fin_of_reset_step_apply_of_flush (fun n h => (outsAt0 m c n h).1) 4 (fun _ => 0) _
    (fun t h j => by rw [outsAt0_A m c t h]; frame_out; rw [pay_gate, zero_gate])
    (fun t h j => by rw [outsAt0_B m c t h]; frame_out; rw [pay_gate])
    t ((flush0_6 t).mp hf) _, zero_add]
  refine Fin.sum_mul_add_congr fun s k hl => ?_
  blk_point [iblk, idx t, idx ⟨_, Pipeline.run_point_lt_of_flush t ((flush0_6 t).mp hf) s⟩]

/-- The up weight's gradient after the run: one sum over all tokens. -/
theorem final_up (c : Dev nD) : (dats m 0 c).arrAt 7 (cfgs 0).N
    = fun i : S4x688x1024.Idx => ∑ s : Fin 4096, (show FVec Ideal S4x4096x688 .bf16 from V m c main_v32) (ix3 (i 0) s (i 1))
        * (show FVec Ideal S4096x1024 .bf16 from V m c main_v25) (ix2 s (i 2)) := by
  refine (dats m 0 c).arrAt_eq_of_covers 7 _ (by decide +kernel) fun t hf y => ?_
  blk_simp
  rw [after0_7, Pipeline.eq_sum_fin_of_reset_step_apply_of_flush (fun n h => (outsAt0 m c n h).2.1) 4 (fun _ => 0) _
    (fun t h j => by rw [outsAt0_A m c t h]; frame_out; rw [pay_up, zero_up])
    (fun t h j => by rw [outsAt0_B m c t h]; frame_out; rw [pay_up])
    t ((flush0_7 t).mp hf) _, zero_add]
  refine Fin.sum_mul_add_congr fun s k hl => ?_
  blk_point [iblk, idx t, idx ⟨_, Pipeline.run_point_lt_of_flush t ((flush0_7 t).mp hf) s⟩]

/-- The down weight's gradient after the run: one sum over all tokens. -/
theorem final_down (c : Dev nD) : (dats m 0 c).arrAt 8 (cfgs 0).N
    = fun i : S4x688x1024.Idx => ∑ s : Fin 4096, (show FVec Ideal S4x4096x688 .bf16 from V m c main_v19) (ix3 (i 0) s (i 1))
        * Ideal.logistic ((show FVec Ideal S4x4096x688 .bf16 from V m c main_v19) (ix3 (i 0) s (i 1)))
        * (show FVec Ideal S4x4096x688 .bf16 from V m c main_v24) (ix3 (i 0) s (i 1))
        * (Ideal.ofBits .f32 0x3F000000#32 * (show FVec Ideal S4096x1024 .f32 from V m c main_v26) (ix2 s (i 2))) := by
  refine (dats m 0 c).arrAt_eq_of_covers 8 _ (by decide +kernel) fun t hf y => ?_
  blk_simp
  rw [after0_8, Pipeline.eq_sum_fin_of_reset_step_apply_of_flush (fun n h => (outsAt0 m c n h).2.2) 4 (fun _ => 0) _
    (fun t h j => by rw [outsAt0_A m c t h]; frame_out; rw [pay_down, zero_down])
    (fun t h j => by rw [outsAt0_B m c t h]; frame_out; rw [pay_down])
    t ((flush0_8 t).mp hf) _, zero_add]
  refine Fin.sum_mul_add_congr fun s k hl => ?_
  blk_point [iblk, idx t, idx ⟨_, Pipeline.run_point_lt_of_flush t ((flush0_8 t).mp hf) s⟩]

/-- The normalised rows, as the host computes them before the call. -/
def ROWS (X : FVec Ideal S1x4096x1024 .f32) (W : FVec Ideal S1x1024 .f32) : FVec Ideal S4096x1024 .f32 :=
  mulf (mulf (shapeCast _ X shapeCasts_S1x4096x1024_S4096x1024) (broadcastInDim S4096x1024 ![0, 1] bcast_S4096x1_S4096x1024_0_1 (Host.rsqrt (addf (Host.divf (broadcastInDim S4096x1 ![0] bcast_S4096_S4096x1_0 (Host.reduceAdd (mulf (shapeCast _ X shapeCasts_S1x4096x1024_S4096x1024) (shapeCast _ X shapeCasts_S1x4096x1024_S4096x1024)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ W shapeCasts_S1x1024_S1024)))

/-- A projection of the normalised rows. -/
def PROJ (H : FVec Ideal S4096x1024 .f32) (W : FVec Ideal S1x1024x2752 .f32) : FVec Ideal S4096x2752 .f32 :=
  Host.dotGeneral dot_S4096x1024_S1024x2752_S4096x2752_1_0_0_1_n_n none H (shapeCast _ W shapeCasts_S1x1024x2752_S1024x2752)

/-- An array over the hidden units, cut into the four shards. -/
def SHARDS (A : FVec Ideal S4096x2752 .f32) : FVec Ideal S4x4096x688 .bf16 :=
  truncf .bf16 (transpose S4x4096x688 [1, 0, 2] (shapeCast _ A shapeCasts_S4096x2752_S4096x4x688) transposes_S4096x4x688_S4x4096x688_1_0_2)

theorem V_rows (c : Dev nD) : V m c main_v25 = truncf .bf16 (ROWS (m ((c : Thread nD τ).loc main_arg0)) (m ((c : Thread nD τ).loc main_arg1))) := by
  unfold V; after_results; try rfl
theorem V_gate (c : Dev nD) : V m c main_v19
    = SHARDS (PROJ (ROWS (m ((c : Thread nD τ).loc main_arg0)) (m ((c : Thread nD τ).loc main_arg1))) (m ((c : Thread nD τ).loc main_arg2))) := by
  unfold V; after_results; try rfl
theorem V_up (c : Dev nD) : V m c main_v24
    = SHARDS (PROJ (ROWS (m ((c : Thread nD τ).loc main_arg0)) (m ((c : Thread nD τ).loc main_arg1))) (m ((c : Thread nD τ).loc main_arg3))) := by
  unfold V; after_results; try rfl
theorem V_ct (c : Dev nD) : V m c main_v26 = shapeCast S4096x1024 (m ((c : Thread nD τ).loc main_arg4)) shapeCasts_S1x4096x1024_S4096x1024 := by
  unfold V; after_results; try rfl
theorem V_dgate (c : Dev nD) : V m c main_v29 = SHARDS (m ((c : Thread nD τ).loc main_arg5)) := by
  unfold V; after_results; try rfl
theorem V_dup (c : Dev nD) : V m c main_v32 = SHARDS (m ((c : Thread nD τ).loc main_arg6)) := by
  unfold V; after_results; try rfl

end Cert.KernelFfnWIdeal.Value

namespace Cert.Proof.FfnW

open Cert.KernelFfnWIdeal.Value (ROWS PROJ SHARDS)

section
open Cert.ReferenceFfnWIdeal Cert.ReferenceFfnWIdeal.Gen

/-- The gradient of a projection's weight in the reference, over the normalised rows and the projection's cotangent. -/
def REF_IN (H : FVec Ideal S4096x1024 .f32) (D : FVec Ideal S4096x2752 .f32) : FVec Ideal S4x688x1024 .f32 :=
  shapeCast _ (transpose S2752x1024 [1, 0] (shapeCast _ (broadcastInDim S1x1024x2752 ![1, 2] bcast_S1024x2752_S1x1024x2752_1_2 (transpose S1024x2752 [1, 0] (Host.dotGeneral dot_S4096x2752_S4096x1024_S2752x1024_0_0_1_1_n_n none D H) transposes_S2752x1024_S1024x2752_1_0)) shapeCasts_S1x1024x2752_S1024x2752) transposes_S1024x2752_S2752x1024_1_0) shapeCasts_S2752x1024_S4x688x1024

/-- The gradient of the down weight in the reference, over the two projections and the layer's cotangent. -/
def REF_DOWN (G U : FVec Ideal S4096x2752 .f32) (C : FVec Ideal S1x4096x1024 .f32) : FVec Ideal S4x688x1024 .f32 :=
  shapeCast _ (transpose S2752x1024 [1, 0] (Host.dotGeneral dot_S4096x1024_S4096x2752_S1024x2752_0_0_1_1_n_n none (mulf (broadcastInDim S4096x1024 ![] bcast_S_S4096x1024 (constant S_ .f32 0x3F000000#32)) (shapeCast _ C shapeCasts_S1x4096x1024_S4096x1024)) (mulf (mulf G (Host.divf (broadcastInDim S4096x2752 ![] bcast_S_S4096x2752 (constant S_ .f32 0x3F800000#32)) (addf (broadcastInDim S4096x2752 ![] bcast_S_S4096x2752 (constant S_ .f32 0x3F800000#32)) (Host.exp (Host.negf G))))) U)) transposes_S1024x2752_S2752x1024_1_0) shapeCasts_S2752x1024_S4x688x1024

theorem in_eq (H : FVec Ideal S4096x1024 .f32) (D : FVec Ideal S4096x2752 .f32) (a : Fin 4) (b : Fin 688) (d : Fin 1024) :
    ∑ s : Fin 4096, SHARDS D (ix3 a s b) * (truncf .bf16 H : FVec Ideal S4096x1024 .bf16) (ix2 s d) = REF_IN H D (ix3 a b d) := by
  pointwise [SHARDS, REF_IN]

theorem down_eq (G U : FVec Ideal S4096x2752 .f32) (C : FVec Ideal S1x4096x1024 .f32) (a : Fin 4) (b : Fin 688) (d : Fin 1024) :
    ∑ s : Fin 4096, SHARDS G (ix3 a s b) * Ideal.logistic (SHARDS G (ix3 a s b)) * SHARDS U (ix3 a s b)
        * (Ideal.ofBits .f32 0x3F000000#32 * (shapeCast S4096x1024 C shapeCasts_S1x4096x1024_S4096x1024 : FVec Ideal S4096x1024 .f32) (ix2 s d)) = REF_DOWN G U C (ix3 a b d) := by
  pointwise [SHARDS, REF_DOWN]
  exact Finset.sum_congr rfl fun s _ => mul_comm _ _

end

theorem frame_kernel : Cert.quiescent_KernelFfnW := fun m ρ _ => Cert.KernelFfnW.Gen.frame m ρ
theorem frame_ideal : Cert.quiescent_KernelFfnWIdeal := fun m ρ _ => Cert.KernelFfnWIdeal.Gen.frame m ρ
theorem frame_reference : Cert.quiescent_ReferenceFfnWIdeal := fun m ρ _ =>
  (θ_run Cert.ReferenceFfnWIdeal.defs _ _).mono (fun r h => ⟨fun c => (h c).2.2.2, sem_eq_zero_of_no_sems (by decide) r.2⟩)
    (Cert.ReferenceFfnWIdeal.Value.run (F := Ideal) m ρ)

theorem value : Cert.algebraic_KernelFfnWIdeal_ReferenceFfnWIdeal := by
  pair_intro
  · run_from Cert.KernelFfnWIdeal.Value.run m g
  · run_from Cert.ReferenceFfnWIdeal.Value.run m' g'
    · rw [← Cert.KernelFfnWIdeal.Value.final6 m c, Cert.KernelFfnWIdeal.Value.final_gate m c, Cert.KernelFfnWIdeal.Value.V_rows, Cert.KernelFfnWIdeal.Value.V_dgate]
      funext j
      obtain ⟨a, b, d, rfl⟩ : ∃ (a : Fin 4) (b : Fin 688) (d : Fin 1024), j = ix3 a b d := ⟨j 0, j 1, j 2, eq_ix3 j⟩
      exact (in_eq _ _ a b d).symm
    · rw [← Cert.KernelFfnWIdeal.Value.final7 m c, Cert.KernelFfnWIdeal.Value.final_up m c, Cert.KernelFfnWIdeal.Value.V_rows, Cert.KernelFfnWIdeal.Value.V_dup]
      funext j
      obtain ⟨a, b, d, rfl⟩ : ∃ (a : Fin 4) (b : Fin 688) (d : Fin 1024), j = ix3 a b d := ⟨j 0, j 1, j 2, eq_ix3 j⟩
      exact (in_eq _ _ a b d).symm
    · rw [← Cert.KernelFfnWIdeal.Value.final8 m c, Cert.KernelFfnWIdeal.Value.final_down m c, Cert.KernelFfnWIdeal.Value.V_gate, Cert.KernelFfnWIdeal.Value.V_up, Cert.KernelFfnWIdeal.Value.V_ct]
      funext j
      obtain ⟨a, b, d, rfl⟩ : ∃ (a : Fin 4) (b : Fin 688) (d : Fin 1024), j = ix3 a b d := ⟨j 0, j 1, j 2, eq_ix3 j⟩
      exact (down_eq _ _ _ a b d).symm

end Cert.Proof.FfnW

end
-- ==== Proof.FfnActBlock.lean ====
/-
  One grid step of `ffn_bwd_act`: what its body leaves in every output window and in the carried sum, entry by entry.
-/
module

public import proofs.«01_k».proof.Proof.Gen.KernelFfnActIdeal.Frame
public import Idealize.ShloMosaic.Lib.Pipeline.ValueKit
public import Idealize.ShloMosaic.Lib.Pipeline.ReadBack
public import Idealize.ShloMosaic.Lib.Pipeline.FrameBody
public import Idealize.ShloMosaic.Lib.Pointwise
public import Idealize.ShloMosaic.Lib.VecWindow

@[expose] public section
set_option maxRecDepth 16384
noncomputable section
open Idealize.ShloMosaic Idealize.ShloMosaic.TcCoe Idealize.SL.Sem
open Idealize.ShloMosaic.Pipeline (Dat)
open scoped BigOperators
namespace Cert.KernelFfnActIdeal.Value
open Cert.KernelFfnActIdeal Cert.KernelFfnActIdeal.Gen
variable (m : (ℓ : Loc nD τ sig) → Buf (Elt Ideal) ℓ)

/-- A block's gradient of the gated product: the cotangent's rows against the down weight. -/
def DA (d : Vec Ideal S512x1024 .bf16) (wd : Vec Ideal S2x688x1024 .bf16) (s : Fin 2) (r : Fin 512) (k : Fin 688) : EReal :=
  ∑ j : Fin 1024, d (ix2 r j) * wd (ix3 s k j)

/-- A block's gradient of the gate projection. -/
def DG (d : Vec Ideal S512x1024 .bf16) (wd : Vec Ideal S2x688x1024 .bf16) (g u : Vec Ideal S2x512x688 .bf16) (s : Fin 2) (r : Fin 512) (k : Fin 688) : EReal :=
  DA d wd s r k * u (ix3 s r k) * (Ideal.logistic (g (ix3 s r k)) * (1 + g (ix3 s r k) * (1 - Ideal.logistic (g (ix3 s r k)))))

/-- A block's gradient of the up projection. -/
def DU (d : Vec Ideal S512x1024 .bf16) (wd : Vec Ideal S2x688x1024 .bf16) (g : Vec Ideal S2x512x688 .bf16) (s : Fin 2) (r : Fin 512) (k : Fin 688) : EReal :=
  DA d wd s r k * (g (ix3 s r k) * Ideal.logistic (g (ix3 s r k)))

/-- One shard's part of a block's gradient of the normalised rows. -/
def DH (d : Vec Ideal S512x1024 .bf16) (wd : Vec Ideal S2x688x1024 .bf16) (g u : Vec Ideal S2x512x688 .bf16) (wg wu : Vec Ideal S2x688x1024 .bf16) (s : Fin 2) (r : Fin 512) (e : Fin 1024) : EReal :=
  (∑ k : Fin 688, DG d wd g u s r k * wg (ix3 s k e)) + ∑ k : Fin 688, DU d wd g s r k * wu (ix3 s k e)

theorem dd_A (c : Dev nD) (t : Fin cfg0.N) (h0 : t.val % 2 = 0) :
    (outsAt0 m c t.val t.isLt).2.2.2.2.1 = k0_pay8 (F := Ideal) (iblk m c 0 t) := by
  rw [outsAt0_A m c t h0 (by omega)]
  frame_out

theorem dd_B (c : Dev nD) (t : Fin cfg0.N) (h0 : ¬t.val % 2 = 0) :
    (outsAt0 m c t.val t.isLt).2.2.2.2.1 = (outsAt0 m c (t.val - 1) (Nat.lt_of_le_of_lt (Nat.sub_le _ _) t.isLt)).2.2.2.2.1 := by
  by_cases h2 : t.val < 2
  · rw [outsAt0_B m c t h0 (by omega) h2 (by omega)]; rfl
  · rw [outsAt0_C m c t h0 (by omega) h2 (by omega)]; rfl

/-- Two stores that cover an index hide every earlier one there. -/
theorem canon_hide {S : Shape} {e : EltTy} {Val : EltTy → Type} [∀ e, Nonempty (Val e)] (p q : View.Piece Val S e) (L : List (View.Piece Val S e))
    (y : S.Idx) (h : ∃ r ∈ [p, q], y ∈ r.1.set) : View.canon (p :: q :: L) y = View.canon [p, q] y := by
  by_cases hp : y ∈ p.1.set
  · obtain ⟨x, rfl⟩ := p.1.exists_idx_of_mem hp
    rw [show p.1.idx x = p.1.emb x from rfl, View.canon_cons_emb, View.canon_cons_emb]
  · rw [View.canon_cons_of_not_mem _ _ hp, View.canon_cons_of_not_mem _ _ hp]
    have hq : y ∈ q.1.set := by
      obtain ⟨r, hr, hy⟩ := h
      rcases List.mem_cons.mp hr with rfl | hr
      · exact absurd hy hp
      · rcases List.mem_cons.mp hr with rfl | hr
        · exact hy
        · exact absurd hr List.not_mem_nil
    obtain ⟨x, rfl⟩ := q.1.exists_idx_of_mem hq
    rw [show q.1.idx x = q.1.emb x from rfl, View.canon_cons_emb, View.canon_cons_emb]

/-- A whole-block read after a list of stores is what the stores left. -/
theorem readCov_whole {sp : Space} {e : EltTy} (v : View sig .tc sp S512x1024 e) (L : List (View.Piece (Elt Ideal) S512x1024 e))
    : v.readCov L (Rect.unit (s := S512x1024) ![0, 0] S512x1024.size inb_S512x1024_S512x1024_0_0).toLoadRect = View.canon L := by
  rw [View.readCov_eq_canon']
  funext j
  exact congrArg _ (Rect.emb_unit_full inb_S512x1024_S512x1024_0_0 j)

theorem dg_A (c : Dev nD) (t : Fin cfg0.N) (h0 : t.val % 2 = 0) (s : Fin 2) (r : Fin 512) (k : Fin 688) :
    (outsAt0 m c t.val t.isLt).2.2.1 (ix3 s r k)
      = DG (outsAt0 m c t.val t.isLt).2.2.2.2.1 (iblk m c 7 t) (iblk m c 3 t) (iblk m c 4 t) s r k := by
  rw [dd_A m c t h0, outsAt0_A m c t h0 (by omega)]
  frame_open
  simp (disch := decide) only [↓ View.readCov_skip, ↓ View.readCov_cons_toLoadRect, ↓ View.readCov_fill]
  frame_out
  generalize k0_pay8 (iblk m c 0 t) = D
  canon_tiles x h
  all_goals (open_payloads; pointwise [DG, DA]; (blk_point [] <;> first | exact h1.symm | exact h2.symm | (have e : s.val = _ := h0; omega)))

theorem du_A (c : Dev nD) (t : Fin cfg0.N) (h0 : t.val % 2 = 0) (s : Fin 2) (r : Fin 512) (k : Fin 688) :
    (outsAt0 m c t.val t.isLt).2.2.2.1 (ix3 s r k)
      = DU (outsAt0 m c t.val t.isLt).2.2.2.2.1 (iblk m c 7 t) (iblk m c 3 t) s r k := by
  rw [dd_A m c t h0, outsAt0_A m c t h0 (by omega)]
  frame_open
  simp (disch := decide) only [↓ View.readCov_skip, ↓ View.readCov_cons_toLoadRect, ↓ View.readCov_fill]
  frame_out
  generalize k0_pay8 (iblk m c 0 t) = D
  canon_tiles x h
  all_goals (open_payloads; pointwise [DU, DA]; (blk_point [] <;> first | exact h1.symm | exact h2.symm | (have e : s.val = _ := h0; omega)))

theorem dh_A (c : Dev nD) (t : Fin cfg0.N) (h0 : t.val % 2 = 0) (r : Fin 512) (e : Fin 1024) :
    (outsAt0 m c t.val t.isLt).2.2.2.2.2 (ix2 r e)
      = (0 + DH (outsAt0 m c t.val t.isLt).2.2.2.2.1 (iblk m c 7 t) (iblk m c 3 t) (iblk m c 4 t) (iblk m c 5 t) (iblk m c 6 t) 0 r e)
        + DH (outsAt0 m c t.val t.isLt).2.2.2.2.1 (iblk m c 7 t) (iblk m c 3 t) (iblk m c 4 t) (iblk m c 5 t) (iblk m c 6 t) 1 r e := by
  rw [dd_A m c t h0, outsAt0_A m c t h0 (by omega)]
  frame_open
  simp (disch := decide) only [↓ View.readCov_skip, ↓ View.readCov_cons_toLoadRect, ↓ View.readCov_fill]
  frame_out
  generalize k0_pay8 (iblk m c 0 t) = D
  rw [canon_hide _ _ _ _ (View.cover_of_tiled_head _ _ _ (by rfl) _)]
  canon_tiles x h
  all_goals (open_payloads; pointwise [DH, DG, DU, DA])
  all_goals (blk_point [] <;> first | exact h0.symm | exact h1.symm)

theorem dg_B (c : Dev nD) (t : Fin cfg0.N) (h0 : ¬t.val % 2 = 0) (s : Fin 2) (r : Fin 512) (k : Fin 688) :
    (outsAt0 m c t.val t.isLt).2.2.1 (ix3 s r k)
      = DG (outsAt0 m c t.val t.isLt).2.2.2.2.1 (iblk m c 7 t) (iblk m c 3 t) (iblk m c 4 t) s r k := by
  rw [dd_B m c t h0]
  by_cases h2 : t.val < 2
  on_goal 1 => rw [outsAt0_B m c t h0 (by omega) h2 (by omega)]
  on_goal 2 => rw [outsAt0_C m c t h0 (by omega) h2 (by omega)]
  all_goals
    frame_open
    simp (disch := decide) only [↓ View.readCov_skip, ↓ View.readCov_cons_toLoadRect, ↓ View.readCov_fill]
    frame_out
    simp only [read_unread_whole]
    generalize (outsAt0 m c (t.val - 1) _).2.2.2.2.1 = D
    canon_tiles x h
    all_goals (open_payloads; pointwise [DG, DA]; (blk_point [] <;> first | exact h1.symm | exact h2.symm | (have e : s.val = _ := h0; omega)))

theorem du_B (c : Dev nD) (t : Fin cfg0.N) (h0 : ¬t.val % 2 = 0) (s : Fin 2) (r : Fin 512) (k : Fin 688) :
    (outsAt0 m c t.val t.isLt).2.2.2.1 (ix3 s r k)
      = DU (outsAt0 m c t.val t.isLt).2.2.2.2.1 (iblk m c 7 t) (iblk m c 3 t) s r k := by
  rw [dd_B m c t h0]
  by_cases h2 : t.val < 2
  on_goal 1 => rw [outsAt0_B m c t h0 (by omega) h2 (by omega)]
  on_goal 2 => rw [outsAt0_C m c t h0 (by omega) h2 (by omega)]
  all_goals
    frame_open
    simp (disch := decide) only [↓ View.readCov_skip, ↓ View.readCov_cons_toLoadRect, ↓ View.readCov_fill]
    frame_out
    simp only [read_unread_whole]
    generalize (outsAt0 m c (t.val - 1) _).2.2.2.2.1 = D
    canon_tiles x h
    all_goals (open_payloads; pointwise [DU, DA]; (blk_point [] <;> first | exact h1.symm | exact h2.symm | (have e : s.val = _ := h0; omega)))

theorem dh_B (c : Dev nD) (t : Fin cfg0.N) (h0 : ¬t.val % 2 = 0) (r : Fin 512) (e : Fin 1024) :
    (outsAt0 m c t.val t.isLt).2.2.2.2.2 (ix2 r e)
      = ((outsAt0 m c (t.val - 1) (Nat.lt_of_le_of_lt (Nat.sub_le _ _) t.isLt)).2.2.2.2.2 (ix2 r e)
          + DH (outsAt0 m c t.val t.isLt).2.2.2.2.1 (iblk m c 7 t) (iblk m c 3 t) (iblk m c 4 t) (iblk m c 5 t) (iblk m c 6 t) 0 r e)
        + DH (outsAt0 m c t.val t.isLt).2.2.2.2.1 (iblk m c 7 t) (iblk m c 3 t) (iblk m c 4 t) (iblk m c 5 t) (iblk m c 6 t) 1 r e := by
  rw [dd_B m c t h0]
  by_cases h2 : t.val < 2
  on_goal 1 => rw [outsAt0_B m c t h0 (by omega) h2 (by omega)]
  on_goal 2 => rw [outsAt0_C m c t h0 (by omega) h2 (by omega)]
  all_goals
    frame_open
    simp (disch := decide) only [↓ View.readCov_skip, ↓ View.readCov_cons_toLoadRect, ↓ View.readCov_fill]
    frame_out
    simp only [read_unread_whole]
    generalize (outsAt0 m c (t.val - 1) _).2.2.2.2.1 = D
    rw [canon_hide _ _ _ _ (View.cover_of_tiled_head _ _ _ (by rfl) _)]
    canon_tiles x h
    all_goals (open_payloads; pointwise [DH, DG, DU, DA])
    all_goals (blk_point [] <;> first | exact h0.symm | exact h1.symm)

theorem dx_B (c : Dev nD) (t : Fin cfg0.N) (h0 : ¬t.val % 2 = 0) :
    (outsAt0 m c t.val t.isLt).1 = k0_pay6 (F := Ideal) (iblk m c 1 t) (outsAt0 m c t.val t.isLt).2.2.2.2.2 (iblk m c 2 t) (iblk m c 0 t) := by
  by_cases h2 : t.val < 2
  on_goal 1 => rw [outsAt0_B m c t h0 (by omega) h2 (by omega)]
  on_goal 2 => rw [outsAt0_C m c t h0 (by omega) h2 (by omega)]
  all_goals
    frame_open
    simp (disch := decide) only [↓ View.readCov_skip, ↓ View.readCov_cons_toLoadRect, ↓ View.readCov_fill]
    frame_out
    exact congrArg (fun d => k0_pay6 (F := Ideal) _ d _ _) (readCov_whole _ _)

theorem dn_B (c : Dev nD) (t : Fin cfg0.N) (h0 : ¬t.val % 2 = 0) (h2 : t.val < 2) :
    (outsAt0 m c t.val t.isLt).2.1 = k0_pay7 (F := Ideal) (iblk m c 1 t) (outsAt0 m c t.val t.isLt).2.2.2.2.2 := by
  rw [outsAt0_B m c t h0 (by omega) h2 (by omega)]
  frame_open
  simp (disch := decide) only [↓ View.readCov_skip, ↓ View.readCov_cons_toLoadRect, ↓ View.readCov_fill]
  frame_out
  exact congrArg (fun d => k0_pay7 (F := Ideal) _ d) (readCov_whole _ _)

theorem dn_C (c : Dev nD) (t : Fin cfg0.N) (h0 : ¬t.val % 2 = 0) (h2 : ¬t.val < 2) :
    (outsAt0 m c t.val t.isLt).2.1 = k0_pay2 (F := Ideal) (k0_pay7 (F := Ideal) (iblk m c 1 t) (outsAt0 m c t.val t.isLt).2.2.2.2.2)
      (outsAt0 m c (t.val - 1) (Nat.lt_of_le_of_lt (Nat.sub_le _ _) t.isLt)).2.1 := by
  rw [outsAt0_C m c t h0 (by omega) h2 (by omega)]
  frame_open
  simp (disch := decide) only [↓ View.readCov_skip, ↓ View.readCov_cons_toLoadRect, ↓ View.readCov_fill]
  frame_out
  exact congrArg (fun d => k0_pay2 (F := Ideal) (k0_pay7 (F := Ideal) _ d) _) (readCov_whole _ _)

theorem dn_A (c : Dev nD) (t : Fin cfg0.N) (h0 : t.val % 2 = 0) (h2 : 2 ≤ t.val) :
    (outsAt0 m c t.val t.isLt).2.1 = (outsAt0 m c (t.val - 1) (Nat.lt_of_le_of_lt (Nat.sub_le _ _) t.isLt)).2.1 := by
  rw [outsAt0_A m c t h0 (by omega)]
  rfl

end Cert.KernelFfnActIdeal.Value
end
-- ==== Proof.FfnActArrays.lean ====
/-
  The arrays that `ffn_bwd_act` leaves: the runs of grid steps put together, over the operands that the region reads.
-/
module

public import proofs.«01_k».proof.Proof.FfnActBlock

@[expose] public section
set_option maxRecDepth 16384
noncomputable section
open Idealize.ShloMosaic Idealize.ShloMosaic.TcCoe Idealize.SL.Sem
open Idealize.ShloMosaic.Pipeline (Dat)
open scoped BigOperators
namespace Cert.KernelFfnActIdeal.Value
open Cert.KernelFfnActIdeal Cert.KernelFfnActIdeal.Gen
variable (m : (ℓ : Loc nD τ sig) → Buf (Elt Ideal) ℓ)

/-- Every window's block index at a grid point. -/
theorem idx : ∀ t : Fin cfg0.N, win0_0.index t = ![t.val / 2, 0] ∧ win0_1.index t = ![t.val / 2, 0] ∧ win0_2.index t = ![0, 0]
    ∧ win0_3.index t = ![t.val % 2, t.val / 2, 0] ∧ win0_4.index t = ![t.val % 2, t.val / 2, 0]
    ∧ win0_5.index t = ![t.val % 2, 0, 0] ∧ win0_6.index t = ![t.val % 2, 0, 0] ∧ win0_7.index t = ![t.val % 2, 0, 0]
    ∧ win0_8.index t = ![t.val / 2, 0] ∧ win0_9.index t = ![0, 0]
    ∧ win0_10.index t = ![t.val % 2, t.val / 2, 0] ∧ win0_11.index t = ![t.val % 2, t.val / 2, 0] :=
  (by decide +kernel : ∀ t : Fin grid0.N, _)

/-- The array row of a block's row at a grid point. -/
def row (t : Fin cfg0.N) (r : Fin 512) : Fin 4096 := ⟨512 * (t.val / 2) + r.val, by have := t.isLt; have : cfg0.N = 16 := rfl; omega⟩
/-- The shard of a block's shard at a grid point. -/
def shard (t : Fin cfg0.N) (s : Fin 2) : Fin 4 := ⟨2 * (t.val % 2) + s.val, by omega⟩

abbrev ctA (c : Dev nD) : FVec Ideal S4096x1024 .f32 := V m c main_v36
abbrev xA (c : Dev nD) : FVec Ideal S4096x1024 .f32 := V m c main_v37
abbrev gainA (c : Dev nD) : FVec Ideal S1x1024 .f32 := V m c main_arg1
abbrev gA (c : Dev nD) : FVec Ideal S4x4096x688 .bf16 := V m c main_v30
abbrev uA (c : Dev nD) : FVec Ideal S4x4096x688 .bf16 := V m c main_v35
abbrev wgA (c : Dev nD) : FVec Ideal S4x688x1024 .bf16 := V m c main_v3
abbrev wuA (c : Dev nD) : FVec Ideal S4x688x1024 .bf16 := V m c main_v7
abbrev wdA (c : Dev nD) : FVec Ideal S4x688x1024 .bf16 := V m c main_v10

/-- The constant one half. -/
def half : EReal := Ideal.ofBits .f32 0x3F000000#32

/-- The gradient of the gated product. -/
def DAa (C : FVec Ideal S4096x1024 .f32) (WD : FVec Ideal S4x688x1024 .bf16) (a : Fin 4) (i : Fin 4096) (k : Fin 688) : EReal :=
  ∑ j : Fin 1024, (half * C (ix2 i j)) * WD (ix3 a k j)
/-- The gradient of the gate projection. -/
def DGa (C : FVec Ideal S4096x1024 .f32) (WD : FVec Ideal S4x688x1024 .bf16) (G U : FVec Ideal S4x4096x688 .bf16) (a : Fin 4) (i : Fin 4096) (k : Fin 688) : EReal :=
  DAa C WD a i k * U (ix3 a i k) * (Ideal.logistic (G (ix3 a i k)) * (1 + G (ix3 a i k) * (1 - Ideal.logistic (G (ix3 a i k)))))
/-- The gradient of the up projection. -/
def DUa (C : FVec Ideal S4096x1024 .f32) (WD : FVec Ideal S4x688x1024 .bf16) (G : FVec Ideal S4x4096x688 .bf16) (a : Fin 4) (i : Fin 4096) (k : Fin 688) : EReal :=
  DAa C WD a i k * (G (ix3 a i k) * Ideal.logistic (G (ix3 a i k)))
/-- One shard's part of the gradient of the normalised rows. -/
def DHa (C : FVec Ideal S4096x1024 .f32) (WD : FVec Ideal S4x688x1024 .bf16) (G U : FVec Ideal S4x4096x688 .bf16) (WG WU : FVec Ideal S4x688x1024 .bf16)
    (a : Fin 4) (i : Fin 4096) (e : Fin 1024) : EReal :=
  (∑ k : Fin 688, DGa C WD G U a i k * WG (ix3 a k e)) + ∑ k : Fin 688, DUa C WD G a i k * WU (ix3 a k e)
/-- The gradient of the normalised rows. -/
def DHs (C : FVec Ideal S4096x1024 .f32) (WD : FVec Ideal S4x688x1024 .bf16) (G U : FVec Ideal S4x4096x688 .bf16) (WG WU : FVec Ideal S4x688x1024 .bf16)
    (i : Fin 4096) (e : Fin 1024) : EReal :=
  ∑ a : Fin 4, DHa C WD G U WG WU a i e

theorem x_at (c : Dev nD) (t : Fin cfg0.N) (r : Fin 512) (j : Fin 1024) : iblk m c 1 t (ix2 r j) = xA m c (ix2 (row t r) j) := by
  blk_point [iblk, idx t, row]
theorem ct_at (c : Dev nD) (t : Fin cfg0.N) (r : Fin 512) (j : Fin 1024) : iblk m c 0 t (ix2 r j) = ctA m c (ix2 (row t r) j) := by
  blk_point [iblk, idx t, row]
theorem gain_at (c : Dev nD) (t : Fin cfg0.N) (r : Fin 1) (j : Fin 1024) : iblk m c 2 t (ix2 r j) = gainA m c (ix2 r j) := by
  blk_point [iblk, idx t]
theorem g_at (c : Dev nD) (t : Fin cfg0.N) (s : Fin 2) (r : Fin 512) (k : Fin 688) : iblk m c 3 t (ix3 s r k) = gA m c (ix3 (shard t s) (row t r) k) := by
  blk_point [iblk, idx t, row, shard]
theorem u_at (c : Dev nD) (t : Fin cfg0.N) (s : Fin 2) (r : Fin 512) (k : Fin 688) : iblk m c 4 t (ix3 s r k) = uA m c (ix3 (shard t s) (row t r) k) := by
  blk_point [iblk, idx t, row, shard]
theorem wg_at (c : Dev nD) (t : Fin cfg0.N) (s : Fin 2) (k : Fin 688) (j : Fin 1024) : iblk m c 5 t (ix3 s k j) = wgA m c (ix3 (shard t s) k j) := by
  blk_point [iblk, idx t, shard]
theorem wu_at (c : Dev nD) (t : Fin cfg0.N) (s : Fin 2) (k : Fin 688) (j : Fin 1024) : iblk m c 6 t (ix3 s k j) = wuA m c (ix3 (shard t s) k j) := by
  blk_point [iblk, idx t, shard]
theorem wd_at (c : Dev nD) (t : Fin cfg0.N) (s : Fin 2) (k : Fin 688) (j : Fin 1024) : iblk m c 7 t (ix3 s k j) = wdA m c (ix3 (shard t s) k j) := by
  blk_point [iblk, idx t, shard]

theorem pay8_at (x : Vec Ideal S512x1024 .f32) (r : Fin 512) (j : Fin 1024) : k0_pay8 (F := Ideal) x (ix2 r j) = half * x (ix2 r j) := by
  pointwise [k0_pay8, half]

/-- The scaled cotangent that the scratch holds. -/
theorem dd_at (c : Dev nD) (t : Fin cfg0.N) (r : Fin 512) (j : Fin 1024) :
    (outsAt0 m c t.val t.isLt).2.2.2.2.1 (ix2 r j) = half * ctA m c (ix2 (row t r) j) := by
  by_cases h0 : t.val % 2 = 0
  · rw [dd_A m c t h0, pay8_at, ct_at]
  · have hlt : t.val - 1 < cfg0.N := Nat.lt_of_le_of_lt (Nat.sub_le _ _) t.isLt
    have hrow : row ⟨t.val - 1, hlt⟩ r = row t r := Fin.ext (by show 512 * ((t.val - 1) / 2) + r.val = 512 * (t.val / 2) + r.val; omega)
    rw [dd_B m c t h0, dd_A m c ⟨t.val - 1, hlt⟩ (by show (t.val - 1) % 2 = 0; omega), pay8_at, ct_at, hrow]

theorem DA_at (c : Dev nD) (t : Fin cfg0.N) (s : Fin 2) (r : Fin 512) (k : Fin 688) :
    DA (outsAt0 m c t.val t.isLt).2.2.2.2.1 (iblk m c 7 t) s r k = DAa (ctA m c) (wdA m c) (shard t s) (row t r) k := by
  unfold DA DAa
  exact Finset.sum_congr rfl fun j _ => by rw [dd_at, wd_at]

theorem DG_at (c : Dev nD) (t : Fin cfg0.N) (s : Fin 2) (r : Fin 512) (k : Fin 688) :
    DG (outsAt0 m c t.val t.isLt).2.2.2.2.1 (iblk m c 7 t) (iblk m c 3 t) (iblk m c 4 t) s r k
      = DGa (ctA m c) (wdA m c) (gA m c) (uA m c) (shard t s) (row t r) k := by
  unfold DG DGa
  rw [DA_at, g_at, u_at]

theorem DU_at (c : Dev nD) (t : Fin cfg0.N) (s : Fin 2) (r : Fin 512) (k : Fin 688) :
    DU (outsAt0 m c t.val t.isLt).2.2.2.2.1 (iblk m c 7 t) (iblk m c 3 t) s r k
      = DUa (ctA m c) (wdA m c) (gA m c) (shard t s) (row t r) k := by
  unfold DU DUa
  rw [DA_at, g_at]

theorem DH_at (c : Dev nD) (t : Fin cfg0.N) (s : Fin 2) (r : Fin 512) (e : Fin 1024) :
    DH (outsAt0 m c t.val t.isLt).2.2.2.2.1 (iblk m c 7 t) (iblk m c 3 t) (iblk m c 4 t) (iblk m c 5 t) (iblk m c 6 t) s r e
      = DHa (ctA m c) (wdA m c) (gA m c) (uA m c) (wgA m c) (wuA m c) (shard t s) (row t r) e := by
  unfold DH DHa
  exact congrArg₂ (· + ·) (Finset.sum_congr rfl fun k _ => by rw [DG_at, wg_at]) (Finset.sum_congr rfl fun k _ => by rw [DU_at, wu_at])

/-- After a block's second point the scratch holds the whole gradient of its normalised rows. -/
theorem dh_at (c : Dev nD) (t : Fin cfg0.N) (h0 : ¬t.val % 2 = 0) (r : Fin 512) (e : Fin 1024) :
    (outsAt0 m c t.val t.isLt).2.2.2.2.2 (ix2 r e) = DHs (ctA m c) (wdA m c) (gA m c) (uA m c) (wgA m c) (wuA m c) (row t r) e := by
  have hlt : t.val - 1 < cfg0.N := Nat.lt_of_le_of_lt (Nat.sub_le _ _) t.isLt
  have hrow : row ⟨t.val - 1, hlt⟩ r = row t r := Fin.ext (by show 512 * ((t.val - 1) / 2) + r.val = 512 * (t.val / 2) + r.val; omega)
  rw [dh_B m c t h0, dh_A m c ⟨t.val - 1, hlt⟩ (by show (t.val - 1) % 2 = 0; omega), DH_at, DH_at, DH_at, DH_at, hrow, DHs, Fin.sum_univ_four, zero_add,
    show shard ⟨t.val - 1, hlt⟩ 0 = 0 from Fin.ext (by show 2 * ((t.val - 1) % 2) + 0 = 0; omega),
    show shard ⟨t.val - 1, hlt⟩ 1 = 1 from Fin.ext (by show 2 * ((t.val - 1) % 2) + 1 = 1; omega),
    show shard t 0 = 2 from Fin.ext (by show 2 * (t.val % 2) + 0 = 2; omega),
    show shard t 1 = 3 from Fin.ext (by show 2 * (t.val % 2) + 1 = 3; omega)]

/-- The gate projection's gradient after the run. -/
theorem final_gate (c : Dev nD) : (dats m 0 c).arrAt 10 (cfgs 0).N
    = fun i : S4x4096x688.Idx => DGa (ctA m c) (wdA m c) (gA m c) (uA m c) (i 0) (i 1) (i 2) := by
  refine (dats m 0 c).arrAt_eq_of_covers 10 _ (by decide +kernel) fun t hf y => ?_
  blk_simp
  rw [after0_10]
  obtain ⟨s, r, k, rfl⟩ : ∃ (s : Fin 2) (r : Fin 512) (k : Fin 688), y = ix3 s r k := ⟨y 0, y 1, y 2, eq_ix3 y⟩
  have e : (outsAt0 m c t.val t.isLt).2.2.1 (ix3 s r k) = DGa (ctA m c) (wdA m c) (gA m c) (uA m c) (shard t s) (row t r) k := by
    by_cases h0 : t.val % 2 = 0
    · rw [dg_A m c t h0, DG_at]
    · rw [dg_B m c t h0, DG_at]
  refine e.trans ?_
  blk_point [idx t, shard, row]

/-- The up projection's gradient after the run. -/
theorem final_up (c : Dev nD) : (dats m 0 c).arrAt 11 (cfgs 0).N
    = fun i : S4x4096x688.Idx => DUa (ctA m c) (wdA m c) (gA m c) (i 0) (i 1) (i 2) := by
  refine (dats m 0 c).arrAt_eq_of_covers 11 _ (by decide +kernel) fun t hf y => ?_
  blk_simp
  rw [after0_11]
  obtain ⟨s, r, k, rfl⟩ : ∃ (s : Fin 2) (r : Fin 512) (k : Fin 688), y = ix3 s r k := ⟨y 0, y 1, y 2, eq_ix3 y⟩
  have e : (outsAt0 m c t.val t.isLt).2.2.2.1 (ix3 s r k) = DUa (ctA m c) (wdA m c) (gA m c) (shard t s) (row t r) k := by
    by_cases h0 : t.val % 2 = 0
    · rw [du_A m c t h0, DU_at]
    · rw [du_B m c t h0, DU_at]
  refine e.trans ?_
  blk_point [idx t, shard, row]

/-- A row's reciprocal root of its mean square. -/
def RS (x : Fin 1024 → EReal) : EReal :=
  Ideal.rsqrt (Ideal.div (∑ j : Fin 1024, x j * x j) (Ideal.ofBits .f32 0x44800000#32) + Ideal.ofBits .f32 0x358637BD#32)

/-- A row's gradient through the norm, from the gradient of the normalised row, the gain and the cotangent of the residual. -/
def DXr (x d g k : Fin 1024 → EReal) (e : Fin 1024) : EReal :=
  k e + RS x * (d e * g e - x e * RS x * Ideal.div (∑ j : Fin 1024, d j * g j * (x j * RS x)) (Ideal.ofBits .f32 0x44800000#32))

theorem pay4_at (x : Vec Ideal S512x1024 .f32) (r : Fin 512) (j : Fin 1) : k0_pay4 (F := Ideal) x (ix2 r j) = RS fun e => x (ix2 r e) := by
  pointwise [k0_pay4, k0_pay3, RS]

theorem pay5_at (x : Vec Ideal S512x1024 .f32) (r : Fin 512) (e : Fin 1024) : k0_pay5 (F := Ideal) x (ix2 r e) = x (ix2 r e) * RS fun e => x (ix2 r e) := by
  pointwise [k0_pay5, k0_pay4, k0_pay3, RS]

theorem pay6_at (x d : Vec Ideal S512x1024 .f32) (g : Vec Ideal S1x1024 .f32) (k : Vec Ideal S512x1024 .f32) (r : Fin 512) (e : Fin 1024) :
    k0_pay6 (F := Ideal) x d g k (ix2 r e) = DXr (fun j => x (ix2 r j)) (fun j => d (ix2 r j)) (fun j => g (ix2 0 j)) (fun j => k (ix2 r j)) e := by
  pointwise [k0_pay6, k0_pay5, k0_pay4, k0_pay3, RS, DXr]

theorem pay7_at (x d : Vec Ideal S512x1024 .f32) (z : Fin 1) (e : Fin 1024) :
    k0_pay7 (F := Ideal) x d (ix2 z e) = ∑ r : Fin 512, d (ix2 r e) * (x (ix2 r e) * RS fun j => x (ix2 r j)) := by
  pointwise [k0_pay7, k0_pay5, k0_pay4, k0_pay3, RS]

/-- The input's gradient, over the arrays that the call is given. -/
def dxA (c : Dev nD) (i : S4096x1024.Idx) : EReal :=
  DXr (fun j => xA m c (ix2 (i 0) j)) (DHs (ctA m c) (wdA m c) (gA m c) (uA m c) (wgA m c) (wuA m c) (i 0))
    (fun j => gainA m c (ix2 0 j)) (fun j => ctA m c (ix2 (i 0) j)) (i 1)

/-- The input's gradient after the run. -/
theorem final_dx (c : Dev nD) : (dats m 0 c).arrAt 8 (cfgs 0).N = dxA m c := by
  refine (dats m 0 c).arrAt_eq_of_covers 8 _ (by decide +kernel) fun t hf y => ?_
  have h0 : ¬t.val % 2 = 0 := by have := (flush0_8 t).mp hf; omega
  blk_simp
  rw [after0_8]
  obtain ⟨r, e, rfl⟩ : ∃ (r : Fin 512) (e : Fin 1024), y = ix2 r e := ⟨y 0, y 1, eq_ix2 y⟩
  have h : (outsAt0 m c t.val t.isLt).1 (ix2 r e) = dxA m c (ix2 (row t r) e) := by
    rw [dx_B m c t h0, pay6_at]
    simp only [x_at, gain_at, ct_at, dh_at m c t h0]
    rfl
  refine h.trans (congrArg (dxA m c) ?_)
  blk_point [idx t, row]

/-- One row's part of the gradient of the gain. -/
def DNr (x d : Fin 1024 → EReal) (e : Fin 1024) : EReal := d e * (x e * RS x)

theorem dn_at (c : Dev nD) (n : ℕ) (hn : n < 8) (e : Fin 1024) :
    (outsAt0 m c (2 * n + 1) (by show 2 * n + 1 < 16; omega)).2.1 (ix2 0 e)
      = ∑ s ∈ Finset.range (n + 1), ∑ r : Fin 512, if h : 512 * s + r.val < 4096 then
          DNr (fun j => xA m c (ix2 ⟨512 * s + r.val, h⟩ j)) (DHs (ctA m c) (wdA m c) (gA m c) (uA m c) (wgA m c) (wuA m c) ⟨512 * s + r.val, h⟩) e else 0 := by
  have part (t : Fin cfg0.N) (s : ℕ) (ht : t.val = 2 * s + 1) : k0_pay7 (F := Ideal) (iblk m c 1 t) (outsAt0 m c t.val t.isLt).2.2.2.2.2 (ix2 0 e)
      = ∑ r : Fin 512, if h : 512 * s + r.val < 4096 then
          DNr (fun j => xA m c (ix2 ⟨512 * s + r.val, h⟩ j)) (DHs (ctA m c) (wdA m c) (gA m c) (uA m c) (wgA m c) (wuA m c) ⟨512 * s + r.val, h⟩) e else 0 := by
    rw [pay7_at]
    refine Finset.sum_congr rfl fun r _ => ?_
    have hlt : 512 * s + r.val < 4096 := by have := t.isLt; have : cfg0.N = 16 := rfl; omega
    have hrow : row t r = ⟨512 * s + r.val, hlt⟩ := Fin.ext (by show 512 * (t.val / 2) + r.val = 512 * s + r.val; omega)
    rw [dif_pos hlt, ← hrow, DNr]
    simp only [x_at, dh_at m c t (show ¬t.val % 2 = 0 by omega)]
  induction n with
  | zero =>
    have h : (1 : ℕ) < cfg0.N := by show 1 < 16; omega
    rw [Finset.sum_range_one, ← part ⟨1, h⟩ 0 rfl]
    exact congrFun (dn_B m c ⟨1, h⟩ (by show ¬1 % 2 = 0; omega) (by show 1 < 2; omega)) _
  | succ n ih =>
    have h : 2 * (n + 1) + 1 < cfg0.N := by show 2 * (n + 1) + 1 < 16; omega
    have h' : 2 * (n + 1) < cfg0.N := by omega
    rw [Finset.sum_range_succ, ← part ⟨2 * (n + 1) + 1, h⟩ (n + 1) rfl, ← ih (by omega)]
    refine (congrFun (dn_C m c ⟨2 * (n + 1) + 1, h⟩ (by show ¬(2 * (n + 1) + 1) % 2 = 0; omega) (by show ¬2 * (n + 1) + 1 < 2; omega)) _).trans ?_
    refine Eq.trans (?_ : _ = _ + _) (congrArg (· + _) (congrFun (dn_A m c ⟨2 * (n + 1), h'⟩ (by show 2 * (n + 1) % 2 = 0; omega) (by show 2 ≤ 2 * (n + 1); omega)) _))
    generalize k0_pay7 (F := Ideal) _ _ = P
    show k0_pay2 (F := Ideal) P (outsAt0 m c (2 * (n + 1)) h').2.1 (ix2 0 e) = (outsAt0 m c (2 * (n + 1)) h').2.1 (ix2 0 e) + P (ix2 0 e)
    generalize (outsAt0 m c (2 * (n + 1)) h').2.1 = Q
    pointwise [k0_pay2]

/-- The gain's gradient, over the arrays that the call is given. -/
def dnA (c : Dev nD) (i : S1x1024.Idx) : EReal :=
  ∑ s : Fin 4096, DNr (fun j => xA m c (ix2 s j)) (DHs (ctA m c) (wdA m c) (gA m c) (uA m c) (wgA m c) (wuA m c) s) (i 1)

/-- The gain's gradient after the run. -/
theorem final_norm (c : Dev nD) : (dats m 0 c).arrAt 9 (cfgs 0).N = dnA m c := by
  refine (dats m 0 c).arrAt_eq_of_covers 9 _ (by decide +kernel) fun t hf y => ?_
  have h0 : t.val = 15 := by have := (flush0_9 t).mp hf; have := t.isLt; have : cfg0.grid.N = 16 := rfl; omega
  blk_simp
  rw [after0_9]
  obtain ⟨z, e, rfl⟩ : ∃ (z : Fin 1) (e : Fin 1024), y = ix2 z e := ⟨y 0, y 1, eq_ix2 y⟩
  obtain rfl : z = 0 := Subsingleton.elim _ _
  have last : ∀ (n : ℕ) (hn : n < cfg0.N), n = 15 → outsAt0 m c n hn = outsAt0 m c 15 (by show 15 < 16; omega) := by rintro _ _ rfl; rfl
  have h : (outsAt0 m c t.val t.isLt).2.1 (ix2 0 e) = dnA m c (ix2 0 e) := by
    rw [last _ _ h0]
    refine (dn_at m c 7 (by omega) e).trans ?_
    rw [Finset.sum_range]
    refine (Fin.sum_mul_add_congr (S := 8) (n := 512) fun s r hl => ?_)
    have hs : 512 * s.val + r.val < 4096 := by omega
    rw [dif_pos hs]
    simp only [Nat.mul_comm 512 s.val]
    rfl
  refine h.trans (congrArg (dnA m c) ?_)
  blk_point [idx t]

end Cert.KernelFfnActIdeal.Value
end
-- ==== Proof.RealEntries.lean ====
/-
  Entries that are real numbers: the closure of the real numbers in the extended reals under the operations that the
  kernels use, and the reading of a precondition "every entry is below infinity in absolute value".
-/
module

public import Idealize.ShloMosaic.Lib.Pointwise
public import Idealize.ShloMosaic.Lib.ReduceAll
public import Idealize.ShloMosaic.PureOps

@[expose] public section
noncomputable section
open Idealize.ShloMosaic
open scoped BigOperators
namespace Cert.Proof

/-- An extended real that is a real number. -/
def IsReal (a : EReal) : Prop := ∃ r : ℝ, a = (r : EReal)

namespace IsReal
variable {a b : EReal}

theorem coe (r : ℝ) : IsReal (r : EReal) := ⟨r, rfl⟩
theorem zero : IsReal 0 := ⟨0, rfl⟩
theorem one : IsReal 1 := ⟨1, rfl⟩
theorem add (ha : IsReal a) (hb : IsReal b) : IsReal (a + b) := by
  obtain ⟨x, rfl⟩ := ha; obtain ⟨y, rfl⟩ := hb; exact ⟨x + y, (EReal.coe_add x y).symm⟩
theorem sub (ha : IsReal a) (hb : IsReal b) : IsReal (a - b) := by
  obtain ⟨x, rfl⟩ := ha; obtain ⟨y, rfl⟩ := hb; exact ⟨x - y, (EReal.coe_sub x y).symm⟩
theorem mul (ha : IsReal a) (hb : IsReal b) : IsReal (a * b) := by
  obtain ⟨x, rfl⟩ := ha; obtain ⟨y, rfl⟩ := hb; exact ⟨x * y, (EReal.coe_mul x y).symm⟩
theorem neg (ha : IsReal a) : IsReal (-a) := by
  obtain ⟨x, rfl⟩ := ha; exact ⟨-x, (EReal.coe_neg x).symm⟩

end IsReal

/-- A finite sum of real numbers, taken in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem IsReal.sum {ι : Type*} (s : Finset ι) {f : ι → EReal} (h : ∀ i, IsReal (f i)) : IsReal (∑ i ∈ s, f i) := by
  choose g hg using h
  simp only [hg]
  exact ⟨_, coe_sum s g⟩

/-- A row of real entries is the row of coercions. -/
theorem IsReal.choose {ι : Type*} {f : ι → EReal} (h : ∀ i, IsReal (f i)) : ∃ g : ι → ℝ, f = fun i => (g i : EReal) := by
  choose g hg using h
  exact ⟨g, funext hg⟩

theorem logistic_coe (x : ℝ) : Ideal.logistic (x : EReal) = ((1 / (1 + Real.exp (-x)) : ℝ) : EReal) := by
  have h : (1 + Real.exp (-x)) ≠ 0 := by positivity
  show Ideal.div 1 (1 + Ideal.exp (-(x : EReal))) = _
  rw [← EReal.coe_neg, show Ideal.exp ((-x : ℝ) : EReal) = ((Real.exp (-x) : ℝ) : EReal) from rfl, ← EReal.coe_one, ← EReal.coe_add, Ideal.div_coe h, EReal.coe_one, one_mul]

theorem IsReal.logistic {a : EReal} (ha : IsReal a) : IsReal (Ideal.logistic a) := by
  obtain ⟨x, rfl⟩ := ha; exact ⟨_, logistic_coe x⟩

/-- `jnp.all (jnp.abs x < jnp.inf)` says that every entry is real. -/
theorem isReal_of_bounded {s t u : Shape} [Subsingleton t.Idx] {axes : List (Fin s.rank)} (x : FVec Ideal s .f32) {dims : Fin u.rank → Fin s.rank}
    (hb : u.BroadcastsInDim s dims) {v : Shape} (init : v.Idx → BitVec 1) (h : s.ReducesTo axes t) (hu : 0 < v.numel) (j : t.Idx)
    (e : Host.reduce IntOp.andi (cmpf .olt (Host.absf x) (broadcastInDim s dims hb (constant u .f32 0x7F800000#32))) init h hu j = 1#1)
    (i : s.Idx) : IsReal (x i) := by
  have hi : cmpf .olt (Host.absf x) (broadcastInDim s dims hb (constant u .f32 0x7F800000#32)) i = 1#1 := Host.reduce_andi_all _ init h hu j e i
  have hlt : x i < ⊤ ∧ -(x i) < ⊤ := by
    have h : Ideal.cmp .olt (max (x i) (-(x i))) (Ideal.ofBits .f32 0x7F800000#32) = 1#1 := hi
    have top : Ideal.ofBits .f32 0x7F800000#32 = ⊤ := by simp [Ideal.ofBits, Ideal.ieee]
    rw [top] at h
    have : max (x i) (-(x i)) < ⊤ := by
      by_contra hn
      simp [Ideal.cmp, hn] at h
    exact max_lt_iff.mp this
  generalize x i = y at hlt
  induction y using EReal.rec with
  | bot => simp at hlt
  | coe r => exact ⟨r, rfl⟩
  | top => simp at hlt

end Cert.Proof
end
-- ==== Proof.FfnActRef.lean ====
/-
  The reference's gradients of the feed-forward layer, read entry by entry: the terms that the reference's run leaves,
  cut at the arrays that they share.
-/
module

public import proofs.«01_k».proof.Proof.Gen.ReferenceFfnActIdeal.Run
public import proofs.«01_k».proof.Proof.RealEntries
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open scoped BigOperators
namespace Cert.Proof.FfnActRef
open Cert.ReferenceFfnActIdeal Cert.ReferenceFfnActIdeal.Gen

/-- The tokens' rows. -/
def TOKENS (X : FVec Ideal S1x4096x1024 .f32) : FVec Ideal S4096x1024 .f32 := shapeCast _ X shapeCasts_S1x4096x1024_S4096x1024
/-- The mean square of every row, with the norm's offset. -/
def MEANSQ (X : FVec Ideal S4096x1024 .f32) : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The rows over their root mean square. -/
def XHAT (X : FVec Ideal S4096x1024 .f32) : FVec Ideal S4096x1024 .f32 :=
  mulf X (broadcastInDim S4096x1024 ![0, 1] bcast_S4096x1_S4096x1024_0_1 (Host.rsqrt (MEANSQ X)))
/-- The gain on every row. -/
def GAIN (W : FVec Ideal S1x1024 .f32) : FVec Ideal S4096x1024 .f32 :=
  broadcastInDim S4096x1024 ![0, 1] bcast_S1x1024_S4096x1024_0_1 (broadcastInDim S1x1024 ![1] bcast_S1024_S1x1024_1 (shapeCast _ W shapeCasts_S1x1024_S1024))
/-- A projection of the normalised rows. -/
def PROJ (H : FVec Ideal S4096x1024 .f32) (W : FVec Ideal S1x1024x2752 .f32) : FVec Ideal S4096x2752 .f32 :=
  Host.dotGeneral dot_S4096x1024_S1024x2752_S4096x2752_1_0_0_1_n_n none H (shapeCast _ W shapeCasts_S1x1024x2752_S1024x2752)
/-- The gradient of the gated product. -/
def DACT (C : FVec Ideal S1x4096x1024 .f32) (WD : FVec Ideal S1x2752x1024 .f32) : FVec Ideal S4096x2752 .f32 :=
  Host.dotGeneral dot_S4096x1024_S2752x1024_S4096x2752_1_1_0_0_n_n none (mulf (broadcastInDim S4096x1024 ![] bcast_S_S4096x1024 (constant S_ .f32 0x3F000000#32)) (shapeCast _ C shapeCasts_S1x4096x1024_S4096x1024)) (shapeCast _ WD shapeCasts_S1x2752x1024_S2752x1024)
def ONES : FVec Ideal S4096x2752 .f32 := broadcastInDim S4096x2752 ![] bcast_S_S4096x2752 (constant S_ .f32 0x3F800000#32)
def SIG (G : FVec Ideal S4096x2752 .f32) : FVec Ideal S4096x2752 .f32 := Host.divf ONES (addf ONES (Host.exp (Host.negf G)))
/-- The gradient of the gate projection. -/
def DG (A G U : FVec Ideal S4096x2752 .f32) : FVec Ideal S4096x2752 .f32 :=
  addf (mulf (mulf A U) (SIG G)) (mulf (mulf G (mulf A U)) (mulf (SIG G) (subf ONES (SIG G))))
/-- The gradient of the up projection. -/
def DU (A G : FVec Ideal S4096x2752 .f32) : FVec Ideal S4096x2752 .f32 := mulf (mulf G (SIG G)) A
/-- The gradient of the normalised rows. -/
def DH (dg du : FVec Ideal S4096x2752 .f32) (WG WU : FVec Ideal S1x1024x2752 .f32) : FVec Ideal S4096x1024 .f32 :=
  addf (Host.dotGeneral dot_S4096x2752_S1024x2752_S4096x1024_1_1_0_0_n_n none du (shapeCast _ WU shapeCasts_S1x1024x2752_S1024x2752)) (Host.dotGeneral dot_S4096x2752_S1024x2752_S4096x1024_1_1_0_0_n_n none dg (shapeCast _ WG shapeCasts_S1x1024x2752_S1024x2752))
/-- An array over the hidden units, cut into the four shards. -/
def SHARDS (A : FVec Ideal S4096x2752 .f32) : FVec Ideal S4x4096x688 .bf16 :=
  truncf .bf16 (transpose S4x4096x688 [1, 0, 2] (shapeCast _ A shapeCasts_S4096x2752_S4096x4x688) transposes_S4096x4x688_S4x4096x688_1_0_2) bitsLt_bf16_f32
/-- The gradient of the norm's gain. -/
def DN (X D : FVec Ideal S4096x1024 .f32) : FVec Ideal S1x1024 .f32 :=
  broadcastInDim S1x1024 ![1] bcast_S1024_S1x1024_1 (Host.reduceAdd (shapeCast _ (Host.reduceAdd (mulf (XHAT X) D) (constant S_ .f32 0x00000000#32) reducesTo_S4096x1024_S1024_d0 h_S_) shapeCasts_S1024_S1x1024) (constant S_ .f32 0x00000000#32) reducesTo_S1x1024_S1024_d0 h_S_)
/-- A row's part of the gradient that goes through the root mean square, half of it. -/
def THRU (X D : FVec Ideal S4096x1024 .f32) : FVec Ideal S4096x1024 .f32 :=
  broadcastInDim S4096x1024 ![0] bcast_S4096_S4096x1024_0 (Host.reduceAdd (Host.divf (mulf (shapeCast _ (Host.reduceAdd (mulf X D) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (MEANSQ X)) (MEANSQ X)))) (broadcastInDim S4096x1 ![] bcast_S_S4096x1 (constant S_ .f32 0x44800000#32))) (constant S_ .f32 0x00000000#32) reducesTo_S4096x1_S4096_d1 h_S_)
/-- The gradient of the input; `D` is the gradient of the row over its root mean square. -/
def DX (X D : FVec Ideal S4096x1024 .f32) (C : FVec Ideal S1x4096x1024 .f32) : FVec Ideal S4096x1024 .f32 :=
  shapeCast _ (addf (broadcastInDim S1x4096x1024 ![1, 2] bcast_S4096x1024_S1x4096x1024_1_2 (addf (addf (mulf D (broadcastInDim S4096x1024 ![0, 1] bcast_S4096x1_S4096x1024_0_1 (Host.rsqrt (MEANSQ X)))) (mulf X (THRU X D))) (mulf (THRU X D) X))) (broadcastInDim S1x4096x1024 ![1, 2] bcast_S4096x1024_S1x4096x1024_1_2 (shapeCast _ C shapeCasts_S1x4096x1024_S4096x1024))) shapeCasts_S1x4096x1024_S4096x1024

/-- The hidden unit of a shard's unit. -/
def unit (a : Fin 4) (k : Fin 688) : Fin 2752 := ⟨a.val * 688 + k.val, by omega⟩

/-- The mean square of a row, with the norm's offset. -/
def msq (x : Fin 1024 → EReal) : EReal := Ideal.div (∑ j : Fin 1024, x j * x j) (Ideal.ofBits .f32 0x44800000#32) + Ideal.ofBits .f32 0x358637BD#32

theorem tokens_at (X : FVec Ideal S1x4096x1024 .f32) (i : Fin 4096) (j : Fin 1024) : TOKENS X (ix2 i j) = X (ix3 0 i j) := by
  pointwise [TOKENS]
theorem gain_at (W : FVec Ideal S1x1024 .f32) (i : Fin 4096) (j : Fin 1024) : GAIN W (ix2 i j) = W (ix2 0 j) := by
  pointwise [GAIN]
theorem meansq_at (X : FVec Ideal S4096x1024 .f32) (i : Fin 4096) (z : Fin 1) : MEANSQ X (ix2 i z) = msq fun j => X (ix2 i j) := by
  pointwise [MEANSQ, msq]
theorem xhat_at (X : FVec Ideal S4096x1024 .f32) (i : Fin 4096) (j : Fin 1024) : XHAT X (ix2 i j) = X (ix2 i j) * Ideal.rsqrt (msq fun j => X (ix2 i j)) := by
  pointwise [XHAT, MEANSQ, msq]
theorem proj_at (H : FVec Ideal S4096x1024 .f32) (W : FVec Ideal S1x1024x2752 .f32) (i : Fin 4096) (k : Fin 2752) :
    PROJ H W (ix2 i k) = ∑ j : Fin 1024, H (ix2 i j) * W (ix3 0 j k) := by
  pointwise [PROJ]
theorem dact_at (C : FVec Ideal S1x4096x1024 .f32) (WD : FVec Ideal S1x2752x1024 .f32) (i : Fin 4096) (k : Fin 2752) :
    DACT C WD (ix2 i k) = ∑ j : Fin 1024, (Ideal.ofBits .f32 0x3F000000#32 * C (ix3 0 i j)) * WD (ix3 0 k j) := by
  pointwise [DACT]
theorem sig_at (G : FVec Ideal S4096x2752 .f32) (i : Fin 4096) (k : Fin 2752) : SIG G (ix2 i k) = Ideal.logistic (G (ix2 i k)) := by
  pointwise [SIG, ONES]
  rfl
theorem dg_at (A G U : FVec Ideal S4096x2752 .f32) (i : Fin 4096) (k : Fin 2752) :
    DG A G U (ix2 i k) = A (ix2 i k) * U (ix2 i k) * Ideal.logistic (G (ix2 i k))
      + G (ix2 i k) * (A (ix2 i k) * U (ix2 i k)) * (Ideal.logistic (G (ix2 i k)) * (1 - Ideal.logistic (G (ix2 i k)))) := by
  rw [← sig_at]
  pointwise [DG, ONES]
theorem du_at (A G : FVec Ideal S4096x2752 .f32) (i : Fin 4096) (k : Fin 2752) :
    DU A G (ix2 i k) = G (ix2 i k) * Ideal.logistic (G (ix2 i k)) * A (ix2 i k) := by
  rw [← sig_at]
  pointwise [DU]
theorem dh_at (dg du : FVec Ideal S4096x2752 .f32) (WG WU : FVec Ideal S1x1024x2752 .f32) (i : Fin 4096) (e : Fin 1024) :
    DH dg du WG WU (ix2 i e) = (∑ k : Fin 2752, du (ix2 i k) * WU (ix3 0 e k)) + ∑ k : Fin 2752, dg (ix2 i k) * WG (ix3 0 e k) := by
  pointwise [DH]
theorem shards_at (A : FVec Ideal S4096x2752 .f32) (a : Fin 4) (i : Fin 4096) (k : Fin 688) : SHARDS A (ix3 a i k) = A (ix2 i (unit a k)) := by
  pointwise [SHARDS, unit]
theorem dn_at (X D : FVec Ideal S4096x1024 .f32) (z : Fin 1) (e : Fin 1024) :
    DN X D (ix2 z e) = ∑ i : Fin 4096, XHAT X (ix2 i e) * D (ix2 i e) := by
  pointwise [DN]
  rw [Fin.sum_univ_one]
theorem thru_at (X D : FVec Ideal S4096x1024 .f32) (i : Fin 4096) (j : Fin 1024) :
    THRU X D (ix2 i j) = Ideal.div ((∑ e : Fin 1024, X (ix2 i e) * D (ix2 i e)) * (Ideal.ofBits .f32 0xBF000000#32 * Ideal.div (Ideal.rsqrt (msq fun j => X (ix2 i j))) (msq fun j => X (ix2 i j))))
      (Ideal.ofBits .f32 0x44800000#32) := by
  rw [← meansq_at X i 0]
  pointwise [THRU]
  rw [Fin.sum_univ_one]
theorem dx_at (X D : FVec Ideal S4096x1024 .f32) (C : FVec Ideal S1x4096x1024 .f32) (i : Fin 4096) (j : Fin 1024) :
    DX X D C (ix2 i j) = D (ix2 i j) * Ideal.rsqrt (msq fun j => X (ix2 i j)) + X (ix2 i j) * THRU X D (ix2 i j) + THRU X D (ix2 i j) * X (ix2 i j) + C (ix3 0 i j) := by
  rw [← meansq_at X i 0]
  pointwise [DX]

end Cert.Proof.FfnActRef
end
-- ==== Proof.NormReal.lean ====
/-
  The gradient of a root-mean-square norm at real entries: what the kernels compute row by row is what the chain rule
  through the reciprocal root gives; and the gradient of the gate's `g · sigmoid g`.
-/
module

public import proofs.«01_k».proof.Proof.RealEntries

@[expose] public section
noncomputable section
open Idealize.ShloMosaic
open scoped BigOperators
namespace Cert.Proof

theorem ofBits_1024 : Ideal.ofBits .f32 0x44800000#32 = ((1024 : ℝ) : EReal) := by
  simp [Ideal.ofBits, Ideal.ieee]
  rw [← EReal.coe_mul]
  norm_num
theorem ofBits_half : Ideal.ofBits .f32 0x3F000000#32 = ((1 / 2 : ℝ) : EReal) := by
  simp [Ideal.ofBits, Ideal.ieee]
  rw [← EReal.coe_mul]
  norm_num
theorem ofBits_neg_half : Ideal.ofBits .f32 0xBF000000#32 = ((-(1 / 2) : ℝ) : EReal) := by
  simp [Ideal.ofBits, Ideal.ieee]
  rw [← EReal.coe_mul]
  norm_num
/-- The norm's offset is a positive real. -/
theorem ofBits_eps : ∃ e : ℝ, 0 < e ∧ Ideal.ofBits .f32 0x358637BD#32 = (e : EReal) := by
  refine ⟨_, ?_, by simp [Ideal.ofBits, Ideal.ieee]; rfl⟩
  positivity

theorem rsqrt_coe {v : ℝ} (h : 0 < v) : Ideal.rsqrt (v : EReal) = (((√v)⁻¹ : ℝ) : EReal) := by
  show (if v < 0 then ⊥ else if v = 0 then ⊤ else (((√v)⁻¹ : ℝ) : EReal)) = _
  rw [if_neg (by linarith), if_neg h.ne']

/-- The gradient of `g · sigmoid g · u` in `g`, written as one product or by the product rule. -/
theorem silu_grad {a g u : EReal} (ha : IsReal a) (hg : IsReal g) (hu : IsReal u) :
    a * u * (Ideal.logistic g * (1 + g * (1 - Ideal.logistic g)))
      = a * u * Ideal.logistic g + g * (a * u) * (Ideal.logistic g * (1 - Ideal.logistic g)) := by
  obtain ⟨s, hs⟩ := hg.logistic
  rw [hs]
  obtain ⟨x, rfl⟩ := ha; obtain ⟨y, rfl⟩ := hg; obtain ⟨z, rfl⟩ := hu
  simp only [← EReal.coe_one, ← EReal.coe_mul, ← EReal.coe_add, ← EReal.coe_sub]
  congr 1
  ring

/-- The mean square of a row, with the norm's offset. -/
def msq {n : ℕ} (N : EReal) (x : Fin n → EReal) : EReal := Ideal.div (∑ j : Fin n, x j * x j) N + Ideal.ofBits .f32 0x358637BD#32

theorem msq_coe {n : ℕ} {N : ℝ} (hN : 0 < N) (x : Fin n → ℝ) : ∃ v : ℝ, 0 < v ∧ msq (N : EReal) (fun j => (x j : EReal)) = (v : EReal) := by
  obtain ⟨e, he, hE⟩ := ofBits_eps
  refine ⟨(∑ j, x j * x j) * (1 / N) + e, ?_, ?_⟩
  · have : 0 ≤ ∑ j, x j * x j := Finset.sum_nonneg fun j _ => mul_self_nonneg _
    positivity
  · unfold msq
    simp only [← EReal.coe_mul]
    rw [hE, coe_sum, Ideal.div_coe hN.ne', ← EReal.coe_mul, ← EReal.coe_add]

theorem IsReal.rsqrt_msq {n : ℕ} {N : ℝ} (hN : 0 < N) {x : Fin n → EReal} (hx : ∀ j, IsReal (x j)) : IsReal (Ideal.rsqrt (msq (N : EReal) x)) := by
  obtain ⟨x, rfl⟩ := IsReal.choose hx
  obtain ⟨v, hv, e⟩ := msq_coe hN x
  rw [e, rsqrt_coe hv]; exact ⟨_, rfl⟩

/-- A row's gradient through its norm: the kernel's `r · (d − x̂ · mean (d · x̂))` is the product rule's sum. -/
theorem norm_grad {n : ℕ} {N : ℝ} (hN : 0 < N) {x d : Fin n → EReal} (hx : ∀ j, IsReal (x j)) (hd : ∀ j, IsReal (d j)) (e : Fin n) :
    Ideal.rsqrt (msq (N : EReal) x) * (d e - x e * Ideal.rsqrt (msq (N : EReal) x) * Ideal.div (∑ j : Fin n, d j * (x j * Ideal.rsqrt (msq (N : EReal) x))) (N : EReal))
      = d e * Ideal.rsqrt (msq (N : EReal) x)
        + x e * Ideal.div ((∑ j : Fin n, x j * d j) * (((-(1 / 2) : ℝ) : EReal) * Ideal.div (Ideal.rsqrt (msq (N : EReal) x)) (msq (N : EReal) x))) (N : EReal)
        + Ideal.div ((∑ j : Fin n, x j * d j) * (((-(1 / 2) : ℝ) : EReal) * Ideal.div (Ideal.rsqrt (msq (N : EReal) x)) (msq (N : EReal) x))) (N : EReal) * x e := by
  obtain ⟨x, rfl⟩ := IsReal.choose hx
  obtain ⟨d, rfl⟩ := IsReal.choose hd
  obtain ⟨v, hv, ev⟩ := msq_coe hN x
  have hs : √v * √v = v := Real.mul_self_sqrt hv.le
  have hs0 : 0 < √v := Real.sqrt_pos.mpr hv
  simp only [ev, rsqrt_coe hv, Ideal.div_coe hN.ne', Ideal.div_coe hv.ne', ← EReal.coe_mul, coe_sum, ← EReal.coe_add, ← EReal.coe_sub]
  congr 1
  have h1 : ∑ j, d j * (x j * (√v)⁻¹) = (∑ j, x j * d j) * (√v)⁻¹ := by
    rw [Finset.sum_mul]; exact Finset.sum_congr rfl fun j _ => by ring
  rw [h1]
  generalize ∑ j, x j * d j = S
  generalize √v = s at hs hs0
  rw [← hs]
  have := hs0.ne'
  field_simp
  ring

end Cert.Proof
end
-- ==== Proof.FfnAct.lean ====
/-
  The gradients of the feed-forward layer's input, of its norm's gain and of its two projections (`ffn_bwd_act`), at
  real arguments.
-/
module

public import proofs.«01_k».proof.Defs
public import proofs.«01_k».proof.Proof.Gen.KernelFfnAct
public import proofs.«01_k».proof.Proof.Gen.KernelFfnAct.Frame
public import proofs.«01_k».proof.Proof.Gen.KernelFfnActIdeal.Value
public import proofs.«01_k».proof.Proof.Gen.Pre_ffn_finite
public import proofs.«01_k».proof.Proof.FfnActArrays
public import proofs.«01_k».proof.Proof.FfnActRef
public import proofs.«01_k».proof.Proof.NormReal
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.KernelFfnActIdeal.Value

open Cert.KernelFfnActIdeal Cert.KernelFfnActIdeal.Gen
open Cert.Proof (IsReal)
open Cert.Proof.FfnActRef (TOKENS MEANSQ XHAT GAIN PROJ DACT SHARDS unit)

variable (m : (ℓ : Loc nD τ sig) → Buf (Elt Ideal) ℓ)

/-- A projection's weight with the hidden units as rows, cut into the four shards. -/
def COLS (W : FVec Ideal S1x1024x2752 .f32) : FVec Ideal S4x688x1024 .bf16 :=
  shapeCast _ (truncf .bf16 (transpose S2752x1024 [1, 0] (shapeCast _ W shapeCasts_S1x1024x2752_S1024x2752 : FVec Ideal S1024x2752 .f32) transposes_S1024x2752_S2752x1024_1_0) bitsLt_bf16_f32) shapeCasts_S2752x1024_S4x688x1024
/-- The down weight, cut into the four shards. -/
def ROWS (W : FVec Ideal S1x2752x1024 .f32) : FVec Ideal S4x688x1024 .bf16 :=
  shapeCast _ (truncf .bf16 (shapeCast _ W shapeCasts_S1x2752x1024_S2752x1024 : FVec Ideal S2752x1024 .f32) bitsLt_bf16_f32) shapeCasts_S2752x1024_S4x688x1024
/-- The normalised rows. -/
def HID (X : FVec Ideal S1x4096x1024 .f32) (W : FVec Ideal S1x1024 .f32) : FVec Ideal S4096x1024 .f32 := mulf (XHAT (TOKENS X)) (GAIN W)

theorem cols_at (W : FVec Ideal S1x1024x2752 .f32) (a : Fin 4) (k : Fin 688) (e : Fin 1024) : COLS W (ix3 a k e) = W (ix3 0 e (unit a k)) := by
  pointwise [COLS, unit]
theorem rows_at (W : FVec Ideal S1x2752x1024 .f32) (a : Fin 4) (k : Fin 688) (e : Fin 1024) : ROWS W (ix3 a k e) = W (ix3 0 (unit a k) e) := by
  pointwise [ROWS, unit]

theorem V_x (c : Dev nD) : V m c main_v37 = TOKENS (m ((c : Thread nD τ).loc main_arg0)) := by unfold V; after_results; try rfl
theorem V_ct (c : Dev nD) : V m c main_v36 = TOKENS (m ((c : Thread nD τ).loc main_arg5)) := by unfold V; after_results; try rfl
theorem V_wg (c : Dev nD) : V m c main_v3 = COLS (m ((c : Thread nD τ).loc main_arg2)) := by unfold V; after_results; try rfl
theorem V_wu (c : Dev nD) : V m c main_v7 = COLS (m ((c : Thread nD τ).loc main_arg3)) := by unfold V; after_results; try rfl
theorem V_wd (c : Dev nD) : V m c main_v10 = ROWS (m ((c : Thread nD τ).loc main_arg4)) := by unfold V; after_results; try rfl
theorem V_g (c : Dev nD) : V m c main_v30
    = SHARDS (PROJ (HID (m ((c : Thread nD τ).loc main_arg0)) (m ((c : Thread nD τ).loc main_arg1))) (m ((c : Thread nD τ).loc main_arg2))) := by
  unfold V; after_results; try rfl
theorem V_u (c : Dev nD) : V m c main_v35
    = SHARDS (PROJ (HID (m ((c : Thread nD τ).loc main_arg0)) (m ((c : Thread nD τ).loc main_arg1))) (m ((c : Thread nD τ).loc main_arg3))) := by
  unfold V; after_results; try rfl

end Cert.KernelFfnActIdeal.Value

namespace Cert.Proof.FfnAct

open Cert.KernelFfnActIdeal Cert.KernelFfnActIdeal.Value
open Cert.Proof.FfnActRef (TOKENS MEANSQ XHAT GAIN PROJ DACT SHARDS unit)

section
variable (X C : FVec Ideal S1x4096x1024 .f32) (W : FVec Ideal S1x1024 .f32) (WG WU : FVec Ideal S1x1024x2752 .f32) (WD : FVec Ideal S1x2752x1024 .f32)

/-- Every entry of the six arguments is real. -/
structure Real : Prop where
  x : ∀ i, IsReal (X i)
  w : ∀ i, IsReal (W i)
  wg : ∀ i, IsReal (WG i)
  wu : ∀ i, IsReal (WU i)
  wd : ∀ i, IsReal (WD i)
  c : ∀ i, IsReal (C i)

variable {X C W WG WU WD} (h : Real X C W WG WU WD)
include h

theorem hid_real (i : Fin 4096) (j : Fin 1024) : IsReal (HID X W (ix2 i j)) := by
  show IsReal (XHAT (TOKENS X) (ix2 i j) * GAIN W (ix2 i j))
  rw [FfnActRef.xhat_at, FfnActRef.gain_at]
  have hx : ∀ j, IsReal (TOKENS X (ix2 i j)) := fun j => by rw [FfnActRef.tokens_at]; exact h.x _
  refine ((hx j).mul ?_).mul (h.w _)
  have := IsReal.rsqrt_msq (N := 1024) (by norm_num) hx
  rw [← ofBits_1024] at this
  exact this

theorem proj_real (P : FVec Ideal S1x1024x2752 .f32) (hP : ∀ i, IsReal (P i)) (i : Fin 4096) (k : Fin 2752) : IsReal (PROJ (HID X W) P (ix2 i k)) := by
  rw [FfnActRef.proj_at]
  exact IsReal.sum _ fun j => (hid_real h i j).mul (hP _)

theorem dact_real (i : Fin 4096) (k : Fin 2752) : IsReal (DACT C WD (ix2 i k)) := by
  rw [FfnActRef.dact_at, ofBits_half]
  exact IsReal.sum _ fun j => ((IsReal.coe _).mul (h.c _)).mul (h.wd _)

omit h in
theorem dact_eq (a : Fin 4) (i : Fin 4096) (k : Fin 688) : DAa (TOKENS C) (ROWS WD) a i k = DACT C WD (ix2 i (unit a k)) := by
  rw [FfnActRef.dact_at, DAa]
  exact Finset.sum_congr rfl fun j _ => by rw [rows_at, FfnActRef.tokens_at, half]

/-- The gate projection's gradient. -/
theorem gate_eq (a : Fin 4) (i : Fin 4096) (k : Fin 688) :
    DGa (TOKENS C) (ROWS WD) (SHARDS (PROJ (HID X W) WG)) (SHARDS (PROJ (HID X W) WU)) a i k
      = FfnActRef.DG (DACT C WD) (PROJ (HID X W) WG) (PROJ (HID X W) WU) (ix2 i (unit a k)) := by
  rw [DGa, dact_eq, FfnActRef.shards_at, FfnActRef.shards_at, FfnActRef.dg_at]
  exact silu_grad (dact_real h _ _) (proj_real h _ h.wg _ _) (proj_real h _ h.wu _ _)

omit h in
/-- The up projection's gradient. -/
theorem up_eq (a : Fin 4) (i : Fin 4096) (k : Fin 688) :
    DUa (TOKENS C) (ROWS WD) (SHARDS (PROJ (HID X W) WG)) a i k
      = FfnActRef.DU (DACT C WD) (PROJ (HID X W) WG) (ix2 i (unit a k)) := by
  rw [DUa, dact_eq, FfnActRef.shards_at, FfnActRef.du_at]
  exact mul_comm _ _

/-- The reference's gradient of the normalised rows. -/
abbrev DHREF (X C : FVec Ideal S1x4096x1024 .f32) (W : FVec Ideal S1x1024 .f32) (WG WU : FVec Ideal S1x1024x2752 .f32) (WD : FVec Ideal S1x2752x1024 .f32) : FVec Ideal S4096x1024 .f32 :=
  FfnActRef.DH (FfnActRef.DG (DACT C WD) (PROJ (HID X W) WG) (PROJ (HID X W) WU)) (FfnActRef.DU (DACT C WD) (PROJ (HID X W) WG)) WG WU

/-- The gradient of the normalised rows: the four shards' sums are one sum over all hidden units. -/
theorem rows_eq (i : Fin 4096) (e : Fin 1024) :
    DHs (TOKENS C) (ROWS WD) (SHARDS (PROJ (HID X W) WG)) (SHARDS (PROJ (HID X W) WU)) (COLS WG) (COLS WU) i e = DHREF X C W WG WU WD (ix2 i e) := by
  rw [DHREF, FfnActRef.dh_at, DHs]
  simp only [DHa]
  rw [Finset.sum_add_distrib, add_comm]
  refine congrArg₂ (· + ·) (Fin.sum_mul_add_congr fun a k hl => ?_) (Fin.sum_mul_add_congr fun a k hl => ?_)
  · rw [up_eq, cols_at]; rfl
  · rw [gate_eq h, cols_at]; rfl

theorem rows_real (i : Fin 4096) (e : Fin 1024) : IsReal (DHREF X C W WG WU WD (ix2 i e)) := by
  rw [DHREF, FfnActRef.dh_at]
  refine (IsReal.sum _ fun k => ?_).add (IsReal.sum _ fun k => ?_)
  · rw [FfnActRef.du_at]
    exact (((proj_real h _ h.wg _ _).mul (proj_real h _ h.wg _ _).logistic).mul (dact_real h _ _)).mul (h.wu _)
  · rw [FfnActRef.dg_at, ← silu_grad (dact_real h _ _) (proj_real h _ h.wg _ _) (proj_real h _ h.wu _ _)]
    have hg := proj_real h _ h.wg i k
    exact (((dact_real h _ _).mul (proj_real h _ h.wu _ _)).mul (hg.logistic.mul (IsReal.one.add (hg.mul (IsReal.one.sub hg.logistic))))).mul (h.wg _)

/-- The input's gradient. -/
theorem dx_eq (i : Fin 4096) (e : Fin 1024) :
    DXr (fun j => TOKENS X (ix2 i j)) (DHs (TOKENS C) (ROWS WD) (SHARDS (PROJ (HID X W) WG)) (SHARDS (PROJ (HID X W) WU)) (COLS WG) (COLS WU) i)
        (fun j => W (ix2 0 j)) (fun j => TOKENS C (ix2 i j)) e
      = FfnActRef.DX (TOKENS X) (mulf (DHREF X C W WG WU WD) (GAIN W)) C (ix2 i e) := by
  have hx : ∀ j, IsReal (TOKENS X (ix2 i j)) := fun j => by rw [FfnActRef.tokens_at]; exact h.x _
  have hd : ∀ j, IsReal (DHREF X C W WG WU WD (ix2 i j) * W (ix2 0 j)) := fun j => (rows_real h i j).mul (h.w _)
  have key := norm_grad (N := 1024) (by norm_num) hx hd e
  rw [← ofBits_1024, ← ofBits_neg_half] at key
  have dm : ∀ j, (mulf (DHREF X C W WG WU WD) (GAIN W) : FVec Ideal S4096x1024 .f32) (ix2 i j) = DHREF X C W WG WU WD (ix2 i j) * W (ix2 0 j) := fun j => by
    rw [← FfnActRef.gain_at W i j]; rfl
  rw [FfnActRef.dx_at, FfnActRef.thru_at, DXr]
  simp only [rows_eq h, dm]
  rw [add_comm, FfnActRef.tokens_at C]
  exact congrArg (· + _) key

/-- The gain's gradient. -/
theorem norm_eq (z : Fin 1) (e : Fin 1024) :
    ∑ s : Fin 4096, DNr (fun j => TOKENS X (ix2 s j)) (DHs (TOKENS C) (ROWS WD) (SHARDS (PROJ (HID X W) WG)) (SHARDS (PROJ (HID X W) WU)) (COLS WG) (COLS WU) s) e
      = FfnActRef.DN (TOKENS X) (DHREF X C W WG WU WD) (ix2 z e) := by
  rw [FfnActRef.dn_at]
  refine Finset.sum_congr rfl fun s _ => ?_
  rw [DNr, rows_eq h, FfnActRef.xhat_at, mul_comm]
  rfl

end

/-- What the precondition says of the arguments. -/
theorem real_of_pre (m : (ℓ : Loc nD τ sig) → Buf (Elt Ideal) ℓ) (hp : Cert.Pre_KernelFfnActIdeal_ffn_finite m) (c : Dev nD) :
    Real (m ((c : Thread nD τ).loc main_arg0)) (m ((c : Thread nD τ).loc main_arg5)) (m ((c : Thread nD τ).loc main_arg1)) (m ((c : Thread nD τ).loc main_arg2)) (m ((c : Thread nD τ).loc main_arg3)) (m ((c : Thread nD τ).loc main_arg4)) := by
  have e := congrFun (hp c) (Shape.Idx.first Pre_ffn_finite.Facts.h_S_)
  simp only [Pre_ffn_finite.fn, Pre_ffn_finite.fn_part1] at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨isReal_of_bounded _ _ _ _ _ _ e0, isReal_of_bounded _ _ _ _ _ _ e1, isReal_of_bounded _ _ _ _ _ _ e2,
    isReal_of_bounded _ _ _ _ _ _ e3, isReal_of_bounded _ _ _ _ _ _ e4, isReal_of_bounded _ _ _ _ _ _ e5⟩

/-- The arrays of the kernel's rows, over the arguments. -/
theorem dxA_at (m : (ℓ : Loc nD τ sig) → Buf (Elt Ideal) ℓ) (c : Dev nD) (i : Fin 4096) (e : Fin 1024) :
    dxA m c (ix2 i e)
      = DXr (fun j => TOKENS (m ((c : Thread nD τ).loc main_arg0)) (ix2 i j))
          (DHs (TOKENS (m ((c : Thread nD τ).loc main_arg5))) (ROWS (m ((c : Thread nD τ).loc main_arg4)))
            (SHARDS (PROJ (HID (m ((c : Thread nD τ).loc main_arg0)) (m ((c : Thread nD τ).loc main_arg1))) (m ((c : Thread nD τ).loc main_arg2))))
            (SHARDS (PROJ (HID (m ((c : Thread nD τ).loc main_arg0)) (m ((c : Thread nD τ).loc main_arg1))) (m ((c : Thread nD τ).loc main_arg3))))
            (COLS (m ((c : Thread nD τ).loc main_arg2))) (COLS (m ((c : Thread nD τ).loc main_arg3))) i)
          (fun j => m ((c : Thread nD τ).loc main_arg1) (ix2 0 j)) (fun j => TOKENS (m ((c : Thread nD τ).loc main_arg5)) (ix2 i j)) e := by
  rw [← V_x, ← V_ct, ← V_wg, ← V_wu, ← V_wd, ← V_g, ← V_u]
  rfl

theorem dnA_at (m : (ℓ : Loc nD τ sig) → Buf (Elt Ideal) ℓ) (c : Dev nD) (z : Fin 1) (e : Fin 1024) :
    dnA m c (ix2 z e)
      = ∑ s : Fin 4096, DNr (fun j => TOKENS (m ((c : Thread nD τ).loc main_arg0)) (ix2 s j))
          (DHs (TOKENS (m ((c : Thread nD τ).loc main_arg5))) (ROWS (m ((c : Thread nD τ).loc main_arg4)))
            (SHARDS (PROJ (HID (m ((c : Thread nD τ).loc main_arg0)) (m ((c : Thread nD τ).loc main_arg1))) (m ((c : Thread nD τ).loc main_arg2))))
            (SHARDS (PROJ (HID (m ((c : Thread nD τ).loc main_arg0)) (m ((c : Thread nD τ).loc main_arg1))) (m ((c : Thread nD τ).loc main_arg3))))
            (COLS (m ((c : Thread nD τ).loc main_arg2))) (COLS (m ((c : Thread nD τ).loc main_arg3))) s) e := by
  rw [← V_x, ← V_ct, ← V_wg, ← V_wu, ← V_wd, ← V_g, ← V_u]
  rfl

theorem gA_at (m : (ℓ : Loc nD τ sig) → Buf (Elt Ideal) ℓ) (c : Dev nD) (a : Fin 4) (i : Fin 4096) (k : Fin 688) :
    DGa (ctA m c) (wdA m c) (gA m c) (uA m c) a i k
      = DGa (TOKENS (m ((c : Thread nD τ).loc main_arg5))) (ROWS (m ((c : Thread nD τ).loc main_arg4))) (SHARDS (PROJ (HID (m ((c : Thread nD τ).loc main_arg0)) (m ((c : Thread nD τ).loc main_arg1))) (m ((c : Thread nD τ).loc main_arg2)))) (SHARDS (PROJ (HID (m ((c : Thread nD τ).loc main_arg0)) (m ((c : Thread nD τ).loc main_arg1))) (m ((c : Thread nD τ).loc main_arg3)))) a i k := by
  rw [← V_ct, ← V_wd, ← V_g, ← V_u]

theorem uA_at (m : (ℓ : Loc nD τ sig) → Buf (Elt Ideal) ℓ) (c : Dev nD) (a : Fin 4) (i : Fin 4096) (k : Fin 688) :
    DUa (ctA m c) (wdA m c) (gA m c) a i k = DUa (TOKENS (m ((c : Thread nD τ).loc main_arg5))) (ROWS (m ((c : Thread nD τ).loc main_arg4))) (SHARDS (PROJ (HID (m ((c : Thread nD τ).loc main_arg0)) (m ((c : Thread nD τ).loc main_arg1))) (m ((c : Thread nD τ).loc main_arg2)))) a i k := by
  rw [← V_ct, ← V_wd, ← V_g]

section
variable (m : (ℓ : Loc Cert.ReferenceFfnActIdeal.nD Cert.ReferenceFfnActIdeal.τ Cert.ReferenceFfnActIdeal.sig) → Buf (Elt Ideal) ℓ) (c : Dev Cert.ReferenceFfnActIdeal.nD)
  {X C : FVec Ideal S1x4096x1024 .f32} {W : FVec Ideal S1x1024 .f32} {WG WU : FVec Ideal S1x1024x2752 .f32} {WD : FVec Ideal S1x2752x1024 .f32}
  (h0 : m ((c : Thread ReferenceFfnActIdeal.nD ReferenceFfnActIdeal.τ).loc ReferenceFfnActIdeal.main_arg0) = X)
  (h1 : m ((c : Thread ReferenceFfnActIdeal.nD ReferenceFfnActIdeal.τ).loc ReferenceFfnActIdeal.main_arg1) = W)
  (h2 : m ((c : Thread ReferenceFfnActIdeal.nD ReferenceFfnActIdeal.τ).loc ReferenceFfnActIdeal.main_arg2) = WG)
  (h3 : m ((c : Thread ReferenceFfnActIdeal.nD ReferenceFfnActIdeal.τ).loc ReferenceFfnActIdeal.main_arg3) = WU)
  (h4 : m ((c : Thread ReferenceFfnActIdeal.nD ReferenceFfnActIdeal.τ).loc ReferenceFfnActIdeal.main_arg4) = WD)
  (h5 : m ((c : Thread ReferenceFfnActIdeal.nD ReferenceFfnActIdeal.τ).loc ReferenceFfnActIdeal.main_arg5) = C)
include h0 h1 h2 h3 h4 h5

theorem ref_gate : ReferenceFfnActIdeal.Value.res_main_v99 m c = SHARDS (FfnActRef.DG (DACT C WD) (PROJ (HID X W) WG) (PROJ (HID X W) WU)) := by
  subst h0 h1 h2 h3 h4 h5; rfl
theorem ref_dx : ReferenceFfnActIdeal.Value.res_main_v96 m c = FfnActRef.DX (TOKENS X) (mulf (DHREF X C W WG WU WD) (GAIN W)) C := by
  subst h0 h1 h2 h3 h4 h5; rfl
theorem ref_norm : ReferenceFfnActIdeal.Value.res_main_v60 m c = FfnActRef.DN (TOKENS X) (DHREF X C W WG WU WD) := by
  subst h0 h1 h2 h3 h4 h5; rfl

end

theorem frame_kernel : Cert.quiescent_KernelFfnAct := fun m ρ _ => Cert.KernelFfnAct.Gen.frame m ρ
theorem frame_ideal : Cert.quiescent_KernelFfnActIdeal := fun m ρ _ => Cert.KernelFfnActIdeal.Gen.frame m ρ
theorem frame_ideal_pre : Cert.quiescent_KernelFfnActIdeal_pre_ffn_finite := fun m ρ _ => Cert.KernelFfnActIdeal.Gen.frame m ρ
theorem frame_reference : Cert.quiescent_ReferenceFfnActIdeal := fun m ρ _ =>
  (θ_run Cert.ReferenceFfnActIdeal.defs _ _).mono (fun r h => ⟨fun c => (h c).2.2.2.2, sem_eq_zero_of_no_sems (by decide) r.2⟩)
    (Cert.ReferenceFfnActIdeal.Value.run (F := Ideal) m ρ)
theorem frame_reference_pre : Cert.quiescent_ReferenceFfnActIdeal_pre_ffn_finite := fun m ρ _ => frame_reference m ρ trivial

theorem value : Cert.algebraic_KernelFfnActIdeal_ReferenceFfnActIdeal_pre_ffn_finite := by
  pair_intro
  · run_from Cert.KernelFfnActIdeal.Value.run m g
  · run_from Cert.ReferenceFfnActIdeal.Value.run m' g'
    all_goals have h := real_of_pre m hpre c
    all_goals obtain ⟨a0, a1, a2, a3, a4, a5⟩ := hagree c
    · rw [← Cert.KernelFfnActIdeal.Value.final8 m c, final_dx m c, ref_dx m' c a0 a1 a2 a3 a4 a5]
      funext j
      obtain ⟨i, e, rfl⟩ : ∃ (i : Fin 4096) (e : Fin 1024), j = ix2 i e := ⟨j 0, j 1, eq_ix2 j⟩
      rw [dxA_at]
      exact (dx_eq h i e).symm
    · rw [← Cert.KernelFfnActIdeal.Value.final9 m c, final_norm m c, ref_norm m' c a0 a1 a2 a3 a4 a5]
      funext j
      obtain ⟨z, e, rfl⟩ : ∃ (z : Fin 1) (e : Fin 1024), j = ix2 z e := ⟨j 0, j 1, eq_ix2 j⟩
      rw [dnA_at]
      exact (norm_eq h z e).symm
    · rw [← Cert.KernelFfnActIdeal.Value.final10 m c, final_gate m c, ref_gate m' c a0 a1 a2 a3 a4 a5]
      funext j
      obtain ⟨a, i, k, rfl⟩ : ∃ (a : Fin 4) (i : Fin 4096) (k : Fin 688), j = ix3 a i k := ⟨j 0, j 1, j 2, eq_ix3 j⟩
      exact (((gA_at m c a i k).trans (gate_eq h a i k)).trans (FfnActRef.shards_at _ a i k).symm).symm
    · rw [← Cert.KernelFfnActIdeal.Value.final11 m c, final_up m c]
      funext j
      obtain ⟨a, i, k, rfl⟩ : ∃ (a : Fin 4) (i : Fin 4096) (k : Fin 688), j = ix3 a i k := ⟨j 0, j 1, j 2, eq_ix3 j⟩
      exact (((uA_at m c a i k).trans (up_eq a i k)).trans (FfnActRef.shards_at _ a i k).symm).symm

end Cert.Proof.FfnAct

end
-- ==== Proof.KeyNormRef.lean ====
/-
  The reference of the memory keys' norm: its host operations as a list, and its run read back value by value.
-/
module

public import proofs.«01_k».proof.Proof.Gen.ReferenceKeyNormIdeal
public import proofs.«01_k».proof.Defs
public import Idealize.ShloMosaic.Lib.StableHlo.Run

@[expose] public section

noncomputable section

namespace Cert.Proof.KeyNormRef

open Cert.ReferenceKeyNormIdeal Cert.ReferenceKeyNormIdeal.Gen Idealize.ShloMosaic Idealize.ShloMosaic.TcCoe Idealize.SL.Sem Idealize.ShloMosaic.StableHlo

variable {F : FTy → Type} [FloatOps F]

/-- The arrays of one shape and element type. -/
abbrev V (F : FTy → Type) (s : Shape) (e : EltTy) : Type := (⟨s, e⟩ : BufTy).Contents (Elt F)

abbrev ops : List (HloOp τ sig (Elt F)) :=
  [ reshape main_arg0 main_v0 rfl shapeCasts_S256x1024_S256x2x4x128,
    unary main_v0 main_v1 ((extractStridedSlice S256x1x4x128 ![0, 0, 0, 0] · slices_S256x2x4x128_S256x1x4x128_0_0_0_0) : V F S256x2x4x128 .f32 → V F S256x1x4x128 .f32),
    reshape main_v1 main_v2 rfl shapeCasts_S256x1x4x128_S256x4x128,
    reshape main_arg1 main_v3 rfl shapeCasts_S1x128_S128,
    binary main_v2 main_v2 main_v4 (mulf : V F S256x4x128 .f32 → V F S256x4x128 .f32 → V F S256x4x128 .f32),
    nullary main_cst (constant S_ .f32 0x00000000#32),
    binary main_v4 main_cst main_v5 ((fun x v => Host.reduceAdd x v reducesTo_S256x4x128_S256x4_d2 h_S_) : V F S256x4x128 .f32 → V F S_ .f32 → V F S256x4 .f32),
    unary main_v5 main_v6 (broadcastInDim S256x4x1 ![0, 1] bcast_S256x4_S256x4x1_0_1 : V F S256x4 .f32 → V F S256x4x1 .f32),
    nullary main_cst_0 (constant S_ .f32 0x43000000#32),
    unary main_cst_0 main_v7 (broadcastInDim S256x4x1 ![] bcast_S_S256x4x1 : V F S_ .f32 → V F S256x4x1 .f32),
    binary main_v6 main_v7 main_v8 (Host.divf : V F S256x4x1 .f32 → V F S256x4x1 .f32 → V F S256x4x1 .f32),
    nullary main_cst_1 (constant S_ .f32 0x358637BD#32),
    unary main_cst_1 main_v9 (broadcastInDim S256x4x1 ![] bcast_S_S256x4x1 : V F S_ .f32 → V F S256x4x1 .f32),
    binary main_v8 main_v9 main_v10 (addf : V F S256x4x1 .f32 → V F S256x4x1 .f32 → V F S256x4x1 .f32),
    unary main_v10 main_v11 (Host.rsqrt : V F S256x4x1 .f32 → V F S256x4x1 .f32),
    binary main_v11 main_v10 main_v12 (Host.divf : V F S256x4x1 .f32 → V F S256x4x1 .f32 → V F S256x4x1 .f32),
    nullary main_cst_2 (constant S_ .f32 0xBF000000#32),
    unary main_cst_2 main_v13 (broadcastInDim S256x4x1 ![] bcast_S_S256x4x1 : V F S_ .f32 → V F S256x4x1 .f32),
    binary main_v13 main_v12 main_v14 (mulf : V F S256x4x1 .f32 → V F S256x4x1 .f32 → V F S256x4x1 .f32),
    unary main_v11 main_v15 (broadcastInDim S256x4x128 ![0, 1, 2] bcast_S256x4x1_S256x4x128_0_1_2 : V F S256x4x1 .f32 → V F S256x4x128 .f32),
    binary main_v2 main_v15 main_v16 (mulf : V F S256x4x128 .f32 → V F S256x4x128 .f32 → V F S256x4x128 .f32),
    unary main_v3 main_v17 (broadcastInDim S1x1x128 ![2] bcast_S128_S1x1x128_2 : V F S128 .f32 → V F S1x1x128 .f32),
    unary main_v17 main_v18 (broadcastInDim S256x4x128 ![0, 1, 2] bcast_S1x1x128_S256x4x128_0_1_2 : V F S1x1x128 .f32 → V F S256x4x128 .f32),
    binary main_v16 main_v18 main_v19 (mulf : V F S256x4x128 .f32 → V F S256x4x128 .f32 → V F S256x4x128 .f32),
    reshape main_v19 main_v20 rfl shapeCasts_S256x4x128_S256x512,
    reshape main_arg2 main_v21 rfl shapeCasts_S256x512_S256x4x128,
    binary main_v16 main_v21 main_v22 (mulf : V F S256x4x128 .f32 → V F S256x4x128 .f32 → V F S256x4x128 .f32),
    nullary main_cst_3 (constant S_ .f32 0x00000000#32),
    binary main_v22 main_cst_3 main_v23 ((fun x v => Host.reduceAdd x v reducesTo_S256x4x128_S128_d0_1 h_S_) : V F S256x4x128 .f32 → V F S_ .f32 → V F S128 .f32),
    reshape main_v23 main_v24 rfl shapeCasts_S128_S1x1x128,
    unary main_v17 main_v25 (broadcastInDim S256x4x128 ![0, 1, 2] bcast_S1x1x128_S256x4x128_0_1_2 : V F S1x1x128 .f32 → V F S256x4x128 .f32),
    binary main_v21 main_v25 main_v26 (mulf : V F S256x4x128 .f32 → V F S256x4x128 .f32 → V F S256x4x128 .f32),
    nullary main_cst_4 (constant S_ .f32 0x00000000#32),
    binary main_v24 main_cst_4 main_v27 ((fun x v => Host.reduceAdd x v reducesTo_S1x1x128_S128_d0_1 h_S_) : V F S1x1x128 .f32 → V F S_ .f32 → V F S128 .f32),
    binary main_v2 main_v26 main_v28 (mulf : V F S256x4x128 .f32 → V F S256x4x128 .f32 → V F S256x4x128 .f32),
    nullary main_cst_5 (constant S_ .f32 0x00000000#32),
    binary main_v28 main_cst_5 main_v29 ((fun x v => Host.reduceAdd x v reducesTo_S256x4x128_S256x4_d2 h_S_) : V F S256x4x128 .f32 → V F S_ .f32 → V F S256x4 .f32),
    reshape main_v29 main_v30 rfl shapeCasts_S256x4_S256x4x1,
    unary main_v11 main_v31 (broadcastInDim S256x4x128 ![0, 1, 2] bcast_S256x4x1_S256x4x128_0_1_2 : V F S256x4x1 .f32 → V F S256x4x128 .f32),
    binary main_v26 main_v31 main_v32 (mulf : V F S256x4x128 .f32 → V F S256x4x128 .f32 → V F S256x4x128 .f32),
    binary main_v30 main_v14 main_v33 (mulf : V F S256x4x1 .f32 → V F S256x4x1 .f32 → V F S256x4x1 .f32),
    nullary main_cst_6 (constant S_ .f32 0x43000000#32),
    unary main_cst_6 main_v34 (broadcastInDim S256x4x1 ![] bcast_S_S256x4x1 : V F S_ .f32 → V F S256x4x1 .f32),
    binary main_v33 main_v34 main_v35 (Host.divf : V F S256x4x1 .f32 → V F S256x4x1 .f32 → V F S256x4x1 .f32),
    nullary main_cst_7 (constant S_ .f32 0x00000000#32),
    binary main_v35 main_cst_7 main_v36 ((fun x v => Host.reduceAdd x v reducesTo_S256x4x1_S256x4_d2 h_S_) : V F S256x4x1 .f32 → V F S_ .f32 → V F S256x4 .f32),
    unary main_v36 main_v37 (broadcastInDim S256x4x128 ![0, 1] bcast_S256x4_S256x4x128_0_1 : V F S256x4 .f32 → V F S256x4x128 .f32),
    binary main_v2 main_v37 main_v38 (mulf : V F S256x4x128 .f32 → V F S256x4x128 .f32 → V F S256x4x128 .f32),
    binary main_v32 main_v38 main_v39 (addf : V F S256x4x128 .f32 → V F S256x4x128 .f32 → V F S256x4x128 .f32),
    binary main_v37 main_v2 main_v40 (mulf : V F S256x4x128 .f32 → V F S256x4x128 .f32 → V F S256x4x128 .f32),
    binary main_v39 main_v40 main_v41 (addf : V F S256x4x128 .f32 → V F S256x4x128 .f32 → V F S256x4x128 .f32),
    unary main_v27 main_v42 (broadcastInDim S1x128 ![1] bcast_S128_S1x128_1 : V F S128 .f32 → V F S1x128 .f32),
    unary main_v41 main_v43 (broadcastInDim S256x1x4x128 ![0, 2, 3] bcast_S256x4x128_S256x1x4x128_0_2_3 : V F S256x4x128 .f32 → V F S256x1x4x128 .f32),
    nullary main_cst_8 (constant S_ .f32 0x00000000#32),
    binary main_v43 main_cst_8 main_v44 ((fun x v => pad S256x2x4x128 ![0, 0, 0, 0] ![0, 1, 0, 0] ![0, 0, 0, 0] x v pads_S256x1x4x128_S256x2x4x128_000_010_000_000 h_S_) : V F S256x1x4x128 .f32 → V F S_ .f32 → V F S256x2x4x128 .f32),
    reshape main_v44 main_v45 rfl shapeCasts_S256x2x4x128_S256x1024,
    unary main_v45 main_v46 ((extractStridedSlice S256x512 ![0, 0] · slices_S256x1024_S256x512_0_0) : V F S256x1024 .f32 → V F S256x512 .f32) ]

set_option maxHeartbeats 40000000 in
theorem main_eq (c : Dev nD) : main (F := F) c = seq ops := rfl

set_option maxHeartbeats 4000000 in
theorem ops_bufs : (ops : List (HloOp τ sig (Elt F))).Forall fun op => op.bufs ⊆ tcRefs τ sig :=
  ⟨reshape_bufs_sub .., unary_bufs_sub .., reshape_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub .., reshape_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., unary_bufs_sub .., unary_bufs_sub .., nullary_bufs_sub .., binary_bufs_sub .., reshape_bufs_sub .., unary_bufs_sub ..⟩

/-! ## What the operations compute, value by value -/

def rows (a0 : V F S256x1024 .f32) : V F S256x4x128 .f32 :=
  shapeCast S256x4x128 (extractStridedSlice S256x1x4x128 ![0, 0, 0, 0] (shapeCast S256x2x4x128 a0 shapeCasts_S256x1024_S256x2x4x128) slices_S256x2x4x128_S256x1x4x128_0_0_0_0) shapeCasts_S256x1x4x128_S256x4x128

def meanSq (a0 : V F S256x1024 .f32) : V F S256x4x1 .f32 :=
  addf (Host.divf (broadcastInDim S256x4x1 ![0, 1] bcast_S256x4_S256x4x1_0_1 (Host.reduceAdd (mulf (rows a0) (rows a0)) ((constant S_ .f32 0x00000000#32)) reducesTo_S256x4x128_S256x4_d2 h_S_)) (broadcastInDim S256x4x1 ![] bcast_S_S256x4x1 ((constant S_ .f32 0x43000000#32)))) (broadcastInDim S256x4x1 ![] bcast_S_S256x4x1 ((constant S_ .f32 0x358637BD#32)))

def root (a0 : V F S256x1024 .f32) : V F S256x4x1 .f32 :=
  Host.rsqrt (meanSq a0)

def slope (a0 : V F S256x1024 .f32) : V F S256x4x1 .f32 :=
  mulf (broadcastInDim S256x4x1 ![] bcast_S_S256x4x1 ((constant S_ .f32 0xBF000000#32))) (Host.divf (root a0) (meanSq a0))

def unit (a0 : V F S256x1024 .f32) : V F S256x4x128 .f32 :=
  mulf (rows a0) (broadcastInDim S256x4x128 ![0, 1, 2] bcast_S256x4x1_S256x4x128_0_1_2 (root a0))

def scaled (a1 : V F S1x128 .f32) (a2 : V F S256x512 .f32) : V F S256x4x128 .f32 :=
  mulf (shapeCast S256x4x128 a2 shapeCasts_S256x512_S256x4x128) (broadcastInDim S256x4x128 ![0, 1, 2] bcast_S1x1x128_S256x4x128_0_1_2 (broadcastInDim S1x1x128 ![2] bcast_S128_S1x1x128_2 (shapeCast S128 a1 shapeCasts_S1x128_S128)))

def pull (a0 : V F S256x1024 .f32) (a1 : V F S1x128 .f32) (a2 : V F S256x512 .f32) : V F S256x4 .f32 :=
  Host.reduceAdd (Host.divf (mulf (shapeCast S256x4x1 (Host.reduceAdd (mulf (rows a0) (scaled a1 a2)) ((constant S_ .f32 0x00000000#32)) reducesTo_S256x4x128_S256x4_d2 h_S_) shapeCasts_S256x4_S256x4x1) (slope a0)) (broadcastInDim S256x4x1 ![] bcast_S_S256x4x1 ((constant S_ .f32 0x43000000#32)))) ((constant S_ .f32 0x00000000#32)) reducesTo_S256x4x1_S256x4_d2 h_S_

def dGain (a0 : V F S256x1024 .f32) (a2 : V F S256x512 .f32) : V F S1x128 .f32 :=
  broadcastInDim S1x128 ![1] bcast_S128_S1x128_1 (Host.reduceAdd (shapeCast S1x1x128 (Host.reduceAdd (mulf (unit a0) (shapeCast S256x4x128 a2 shapeCasts_S256x512_S256x4x128)) ((constant S_ .f32 0x00000000#32)) reducesTo_S256x4x128_S128_d0_1 h_S_) shapeCasts_S128_S1x1x128) ((constant S_ .f32 0x00000000#32)) reducesTo_S1x1x128_S128_d0_1 h_S_)

def dRows (a0 : V F S256x1024 .f32) (a1 : V F S1x128 .f32) (a2 : V F S256x512 .f32) : V F S256x512 .f32 :=
  extractStridedSlice S256x512 ![0, 0] (shapeCast S256x1024 (pad S256x2x4x128 ![0, 0, 0, 0] ![0, 1, 0, 0] ![0, 0, 0, 0] (broadcastInDim S256x1x4x128 ![0, 2, 3] bcast_S256x4x128_S256x1x4x128_0_2_3 (addf (addf (mulf (scaled a1 a2) (broadcastInDim S256x4x128 ![0, 1, 2] bcast_S256x4x1_S256x4x128_0_1_2 (root a0))) (mulf (rows a0) (broadcastInDim S256x4x128 ![0, 1] bcast_S256x4_S256x4x128_0_1 (pull a0 a1 a2)))) (mulf (broadcastInDim S256x4x128 ![0, 1] bcast_S256x4_S256x4x128_0_1 (pull a0 a1 a2)) (rows a0)))) ((constant S_ .f32 0x00000000#32)) pads_S256x1x4x128_S256x2x4x128_000_010_000_000 h_S_) shapeCasts_S256x2x4x128_S256x1024) slices_S256x1024_S256x512_0_0

set_option maxHeartbeats 40000000 in
/-- Every run terminates with the results at these values of the arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = dGain (m ((c.tc : Thread nD τ).loc main_arg0)) (m ((c.tc : Thread nD τ).loc main_arg2))
      ∧ r.2.mem ((c.tc : Thread nD τ).loc main_v46) = dRows (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v42).trans (by after_results <;> rfl),
      (h c main_v46).trans (by after_results <;> rfl),
      (h c main_arg0).trans (by after_results <;> rfl),
      (h c main_arg1).trans (by after_results <;> rfl),
      (h c main_arg2).trans (by after_results <;> rfl)⟩)
    (run_seq (by decide) (by decide) defs main (fun _ => ops) main_eq (fun _ => ops_bufs) m ρ)

end Cert.Proof.KeyNormRef

end
-- ==== Proof.KeyNorm.lean ====
/-
  The memory keys' norm (`mem_key_norm_bwd`): one grid point holds the 256 rows of four heads; each head's 128 lanes are
  normalised and pulled back by themselves, and the four gradients are laid side by side by adding them with zeros around.
-/
module

public import proofs.«01_k».proof.Defs
public import proofs.«01_k».proof.Proof.KeyNormRef
public import proofs.«01_k».proof.Proof.Gen.KernelKeyNorm
public import proofs.«01_k».proof.Proof.Gen.KernelKeyNorm.Frame
public import proofs.«01_k».proof.Proof.Gen.KernelKeyNormIdeal.Frame
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelKeyNormIdeal.Value

open Cert.KernelKeyNormIdeal Cert.KernelKeyNormIdeal.Gen

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The keys' gradient as the kernel stores it, from the keys, the gain and the cotangent. -/
def keysGrad (x : FVec Ideal S256x512 .f32) (g : FVec Ideal S1x128 .f32) (d : FVec Ideal S256x512 .f32) : FVec Ideal S256x512 .f32 :=
  k0_pay1 (F := Ideal) g (k0_pay4 x) (k0_pay6 x) (k0_pay7 x) (k0_pay21 d)
    (k0_pay28 g (k0_pay14 x) (k0_pay16 (k0_pay15 x)) (k0_pay17 (k0_pay15 x)) (k0_pay23 d) (k0_pay26 x g d))
    (k0_pay30 g (k0_pay9 x) (k0_pay11 x) (k0_pay12 x) (k0_pay22 d))

/-- The gain's gradient as the kernel stores it. -/
def gainGrad (x d : FVec Ideal S256x512 .f32) : FVec Ideal S1x128 .f32 :=
  k0_pay2 (F := Ideal) (k0_pay8 x) (k0_pay21 d) (k0_pay29 (k0_pay13 x) (k0_pay22 d) (k0_pay25 x d) (k0_pay27 (k0_pay14 x) (k0_pay15 x) d)) (k0_pay3 (F := Ideal))

theorem low_lanes : S256x1024.Slices ![0, 0] S256x512 := by decide

/-- The keys: the memory projection's lower lanes. -/
def keys (kv : FVec Ideal S256x1024 .f32) : FVec Ideal S256x512 .f32 := extractStridedSlice S256x512 ![0, 0] kv low_lanes

theorem block0 (c : Dev nD) : iblk m c 0 t0_0 = keys (m ((c : Thread nD τ).loc main_arg0)) := by
  funext j
  blk_point [iblk, V, idx t0_0, keys]
  all_goals rfl
theorem block1 (c : Dev nD) : iblk m c 1 t0_0 = m ((c : Thread nD τ).loc main_arg1) := by
  funext j
  blk_point [iblk, V, idx t0_0]
theorem block2 (c : Dev nD) : iblk m c 2 t0_0 = m ((c : Thread nD τ).loc main_arg2) := by
  funext j
  blk_point [iblk, V, idx t0_0]

theorem final_keys (c : Dev nD) : (dats m 0 c).arrAt 3 (cfgs 0).N
    = keysGrad (keys (m ((c : Thread nD τ).loc main_arg0))) (m ((c : Thread nD τ).loc main_arg1)) (m ((c : Thread nD τ).loc main_arg2)) := by
  refine (dats m 0 c).arrAt_eq_of_after_last 3 t0_0 (by decide +kernel) _ fun j => ?_
  blk_simp
  rw [after0_3]
  rw [outsAt0]
  frame_out
  rw [block0, block1, block2]
  rfl

theorem final_gain (c : Dev nD) : (dats m 0 c).arrAt 4 (cfgs 0).N
    = gainGrad (keys (m ((c : Thread nD τ).loc main_arg0))) (m ((c : Thread nD τ).loc main_arg2)) := by
  refine (dats m 0 c).arrAt_eq_of_after_last 4 t0_0 (by decide +kernel) _ fun j => ?_
  blk_simp
  rw [after0_4]
  rw [outsAt0]
  frame_out
  rw [block0, block2]
  rfl

end Cert.KernelKeyNormIdeal.Value

namespace Cert.Proof.KeyNorm

open Cert.KernelKeyNormIdeal Cert.KernelKeyNormIdeal.Gen Cert.KernelKeyNormIdeal.Value

/-- A lane of the four heads' 512 is a head and one of its 128 lanes. -/
theorem lane_cases (l : Fin 512) : (∃ e : Fin 128, l = ⟨e.val, by omega⟩) ∨ (∃ e : Fin 128, l = ⟨e.val + 128, by omega⟩)
    ∨ (∃ e : Fin 128, l = ⟨e.val + 256, by omega⟩) ∨ (∃ e : Fin 128, l = ⟨e.val + 384, by omega⟩) := by
  by_cases h1 : l.val < 128
  · exact .inl ⟨⟨l, h1⟩, rfl⟩
  by_cases h2 : l.val < 256
  · exact .inr (.inl ⟨⟨l - 128, by omega⟩, Fin.ext (by simp; omega)⟩)
  by_cases h3 : l.val < 384
  · exact .inr (.inr (.inl ⟨⟨l - 256, by omega⟩, Fin.ext (by simp; omega)⟩))
  · exact .inr (.inr (.inr ⟨⟨l - 384, by omega⟩, Fin.ext (by simp; omega)⟩))

set_option maxHeartbeats 4000000 in
/-- Outside its own lanes a head's gradient is zero, and in them it is the reference's. -/
theorem keys_grad (kv : FVec Ideal S256x1024 .f32) (g : FVec Ideal S1x128 .f32) (d : FVec Ideal S256x512 .f32) (r : Fin 256) (l : Fin 512) :
    keysGrad (keys kv) g d (ix2 r l) = KeyNormRef.dRows (F := Ideal) kv g d (ix2 r l) := by
  rcases lane_cases l with ⟨e, rfl⟩ | ⟨e, rfl⟩ | ⟨e, rfl⟩ | ⟨e, rfl⟩
  · have q : e.val / 128 = 0 := by omega
    pointwise [keysGrad, keys, KeyNormRef.dRows, KeyNormRef.pull, KeyNormRef.scaled, KeyNormRef.unit, KeyNormRef.slope, KeyNormRef.root, KeyNormRef.meanSq, KeyNormRef.rows, k0_pay1, k0_pay4, k0_pay5, k0_pay6, k0_pay7, k0_pay9, k0_pay10, k0_pay11, k0_pay12, k0_pay14, k0_pay15, k0_pay16, k0_pay17, k0_pay21, k0_pay22, k0_pay23, k0_pay24, k0_pay26, k0_pay28, k0_pay30, k0_pay18, k0_pay19, k0_pay20]
    simp (disch := omega) only [dif_pos, dif_neg, zero_add, add_zero, q, Nat.mod_eq_of_lt e.isLt, Nat.zero_mod, Nat.zero_mul]
  · have q : (e.val + 128) / 128 = 1 := by omega
    pointwise [keysGrad, keys, KeyNormRef.dRows, KeyNormRef.pull, KeyNormRef.scaled, KeyNormRef.unit, KeyNormRef.slope, KeyNormRef.root, KeyNormRef.meanSq, KeyNormRef.rows, k0_pay1, k0_pay4, k0_pay5, k0_pay6, k0_pay7, k0_pay9, k0_pay10, k0_pay11, k0_pay12, k0_pay14, k0_pay15, k0_pay16, k0_pay17, k0_pay21, k0_pay22, k0_pay23, k0_pay24, k0_pay26, k0_pay28, k0_pay30, k0_pay18, k0_pay19, k0_pay20]
    simp (disch := omega) only [dif_pos, dif_neg, zero_add, add_zero, q, Nat.add_sub_cancel]
  · have q : (e.val + 256) / 128 = 2 := by omega
    pointwise [keysGrad, keys, KeyNormRef.dRows, KeyNormRef.pull, KeyNormRef.scaled, KeyNormRef.unit, KeyNormRef.slope, KeyNormRef.root, KeyNormRef.meanSq, KeyNormRef.rows, k0_pay1, k0_pay4, k0_pay5, k0_pay6, k0_pay7, k0_pay9, k0_pay10, k0_pay11, k0_pay12, k0_pay14, k0_pay15, k0_pay16, k0_pay17, k0_pay21, k0_pay22, k0_pay23, k0_pay24, k0_pay26, k0_pay28, k0_pay30, k0_pay18, k0_pay19, k0_pay20]
    simp (disch := omega) only [dif_pos, dif_neg, zero_add, add_zero, q, Nat.add_sub_cancel]
  · have q : (e.val + 384) / 128 = 3 := by omega
    pointwise [keysGrad, keys, KeyNormRef.dRows, KeyNormRef.pull, KeyNormRef.scaled, KeyNormRef.unit, KeyNormRef.slope, KeyNormRef.root, KeyNormRef.meanSq, KeyNormRef.rows, k0_pay1, k0_pay4, k0_pay5, k0_pay6, k0_pay7, k0_pay9, k0_pay10, k0_pay11, k0_pay12, k0_pay14, k0_pay15, k0_pay16, k0_pay17, k0_pay21, k0_pay22, k0_pay23, k0_pay24, k0_pay26, k0_pay28, k0_pay30, k0_pay18, k0_pay19, k0_pay20]
    simp (disch := omega) only [dif_pos, dif_neg, zero_add, add_zero, q, Nat.add_sub_cancel]

/-- The host's sum over the two leading axes. -/
theorem sum_rows_heads {a b n : ℕ} (h : (⟨3, ![a, b, n]⟩ : Shape).ReducesTo [0, 1] ⟨1, ![n]⟩) (v : (⟨3, ![a, b, n]⟩ : Shape).Idx → EReal) (init : EReal)
    (j : (⟨1, ![n]⟩ : Shape).Idx) : Ideal.hostReduceAdd h v init j = init + ∑ r : Fin a, ∑ k : Fin b, v (ix3 r k (j 0)) := by
  unfold Ideal.hostReduceAdd
  congr 1
  rw [Finset.sum_filter_eq_sum_of_fiber (fun i => h.drop i = j) (fun k : Fin a × Fin b => ix3 k.1 k.2 (j 0))
    (fun _ _ e => Prod.ext (congrFun e 0) (congrFun e 1)) (fun i => ⟨fun e => ⟨(i 0, i 1), ?_⟩, ?_⟩) v, Fintype.sum_prod_type]
  · funext x; apply Fin.ext
    match x with
    | ⟨0, _⟩ => rfl
    | ⟨1, _⟩ => rfl
    | ⟨2, _⟩ => exact (congrArg Fin.val (congrFun e 0)).symm
  · rintro ⟨k, rfl⟩
    funext x
    match x with
    | ⟨0, _⟩ => rfl

set_option maxHeartbeats 4000000 in
theorem gain_grad (kv : FVec Ideal S256x1024 .f32) (d : FVec Ideal S256x512 .f32) (r : Fin 1) (e : Fin 128) :
    gainGrad (keys kv) d (ix2 r e) = KeyNormRef.dGain (F := Ideal) kv d (ix2 r e) := by
  pointwise [gainGrad, keys, KeyNormRef.dGain, KeyNormRef.unit, KeyNormRef.root, KeyNormRef.meanSq, KeyNormRef.rows, k0_pay2, k0_pay3, k0_pay4, k0_pay5, k0_pay6, k0_pay8, k0_pay9, k0_pay10, k0_pay11, k0_pay13, k0_pay14, k0_pay15, k0_pay16, k0_pay21, k0_pay22, k0_pay23, k0_pay24, k0_pay25, k0_pay27, k0_pay29, k0_pay18, k0_pay19, k0_pay20]
  simp only [sum_rows_heads]
  pointwise
  simp only [sum_rows_heads]
  pointwise
  simp only [Fin.sum_univ_one, Fin.sum_univ_four, Finset.sum_add_distrib, Fin.val_zero, Fin.val_one, Fin.val_two,
    Nat.reduceMul, zero_mul, one_mul, zero_add]
  rw [add_comm, add_comm (_ + _) (∑ _, _), add_comm (∑ _, _) (∑ _, _)]
  simp only [add_assoc]
  rfl

theorem frame_kernel : Cert.quiescent_KernelKeyNorm := fun m ρ _ => Cert.KernelKeyNorm.Gen.frame m ρ
theorem frame_ideal : Cert.quiescent_KernelKeyNormIdeal := fun m ρ _ => Cert.KernelKeyNormIdeal.Gen.frame m ρ
theorem frame_reference : Cert.quiescent_ReferenceKeyNormIdeal := fun m ρ _ =>
  (θ_run Cert.ReferenceKeyNormIdeal.defs _ _).mono (fun r h => ⟨fun c => (h c).2.2, sem_eq_zero_of_no_sems (by decide) r.2⟩)
    (KeyNormRef.run (F := Ideal) m ρ)

theorem value : Cert.algebraic_KernelKeyNormIdeal_ReferenceKeyNormIdeal := by
  pair_intro
  · run_from Cert.KernelKeyNormIdeal.Gen.run_main m g
  · run_from KeyNormRef.run m' g'
    · rw [final_keys m c]
      funext j
      obtain ⟨a, b, rfl⟩ : ∃ (a : Fin 256) (b : Fin 512), j = ix2 a b := ⟨j 0, j 1, eq_ix2 j⟩
      exact (keys_grad _ _ _ a b).symm
    · rw [final_gain m c]
      funext j
      obtain ⟨a, b, rfl⟩ : ∃ (a : Fin 1) (b : Fin 128), j = ix2 a b := ⟨j 0, j 1, eq_ix2 j⟩
      exact (gain_grad _ _ a b).symm

end Cert.Proof.KeyNorm
end
-- ==== Proof.AttnTables.lean ====
/-
  The attention gradient's two prefetched tables: which query block and which key block each of the ten steps of a head
  works on, and what of the kernel's side conditions follows from them.
-/
module

public import proofs.«01_k».proof.Proof.Gen.KernelAttnIdeal
public import proofs.«01_k».proof.Proof.Gen.KernelAttnIdeal.Skeleton
public import proofs.«01_k».proof.Proof.Gen.KernelAttnIdeal.Launch
public import Idealize.ShloMosaic.Lib.Pipeline.Frame
public import Idealize.ShloMosaic.Lib.VecWindow
public import Idealize.ShloMosaic.Lib.Tactic
public import Idealize.ShloMosaic.Init

@[expose] public section

set_option maxRecDepth 16384

noncomputable section

namespace Cert.KernelAttnIdeal.Run

open Idealize.ShloMosaic Idealize.ShloMosaic.TcCoe Idealize.ShloMosaic.Tactic
open Cert.KernelAttnIdeal Cert.KernelAttnIdeal.Gen

variable {F : FTy → Type} [FloatOps F] [Named F]

/-- The query block and the key block of a grid point. -/
def wq (i : grid0.Coords) : BitVec 32 := lit0 ⟨(i 1).val, (i 1).isLt⟩
def wk (i : grid0.Coords) : BitVec 32 := lit1 ⟨(i 1).val, (i 1).isLt⟩

/-- The tables as the program writes them. -/
def tabs : pre0.Contents (Elt F) := fun
  | 0 => fun i => lit0 (S10.rowMajor i)
  | 1 => fun i => lit1 (S10.rowMajor i)
  | ⟨_ + 2, h⟩ => absurd h (Nat.not_lt.2 (Nat.le_add_left _ _))

theorem row_idx : ∀ i : grid0.Coords, S10.rowMajor ((Rect.unit (s := S10) (k0_off1 i) S1.size (k0_off1_inb i)).point numel1_S1) = ⟨(i 1).val, (i 1).isLt⟩ := by
  decide +kernel

/-- The block indices the tables give. -/
theorem ix_q : ∀ i : grid0.Coords, cc0_transform_0 (F := F) k0_off1_inb numel1_S1 tabs i = ![(wq i).toNat, (i 0).val] :=
  of_decide_eq_true (by sl_kernel_rfl)
theorem ix_k : ∀ i : grid0.Coords, cc0_transform_1 (F := F) k0_off1_inb numel1_S1 tabs i = ![(wk i).toNat, (i 0).val] :=
  of_decide_eq_true (by sl_kernel_rfl)

/-- What the body assumes of the words, and where the rows of the query block lie. -/
theorem chk : ∀ i : grid0.Coords, k0_chk1 (wq i) (wk i) := by decide +kernel
theorem inb : ∀ i : grid0.Coords, ∀ a, k0_off3 (wq i) a + S1024x256.size a ≤ S4096x256.size a := by decide +kernel

/-- A step is a head's first, another on the diagonal, or one off the diagonal. -/
theorem cases : ∀ i : grid0.Coords,
    (k0_cond1 i = 1#1 ∧ k0_cond2 (wq i) (wk i) = 1#1 ∧ k0_cond3 (wq i) (wk i) = 1#1 ∧ ¬ k0_cond4 (wq i) (wk i) = 1#1)
      ∨ (¬ k0_cond1 i = 1#1 ∧ k0_cond2 (wq i) (wk i) = 1#1 ∧ k0_cond3 (wq i) (wk i) = 1#1 ∧ ¬ k0_cond4 (wq i) (wk i) = 1#1)
      ∨ (¬ k0_cond1 i = 1#1 ∧ ¬ k0_cond2 (wq i) (wk i) = 1#1 ∧ ¬ k0_cond3 (wq i) (wk i) = 1#1 ∧ k0_cond4 (wq i) (wk i) = 1#1) := by
  decide +kernel

/-- The pipeline's side condition of the tables. -/
theorem ok : ok0 (F := F) tabs := of_decide_eq_true (by sl_kernel_rfl)

end Cert.KernelAttnIdeal.Run
-- ==== Proof.AttnRun.lean ====
/-
  One step of the attention gradient's kernel: the body run over its operands' contents. A head's first step zeroes the
  query gradient, a diagonal step the key and value gradients; then the step adds its tile's three products.
-/
module

public import proofs.«01_k».proof.Proof.AttnTables

@[expose] public section

set_option maxRecDepth 16384

noncomputable section

namespace Cert.KernelAttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttnIdeal Cert.KernelAttnIdeal.Gen

variable {F : FTy → Type} [FloatOps F] [Named F]

local notation "𝕄" => MT nD τ sig Unit (Elt F) ℕ (UR sig nD τ) ℕ

/-- The rows of the query gradient a step adds into. -/
abbrev rows (i : grid0.Coords) (x : Vec F S4096x256 .f32) : Vec F S1024x256 .f32 := VecWindow.window x (k0_off3 (wq i)) S1024x256.size (inb i)

/-- The three gradients after a step, over the operands' blocks and what the step found in them. -/
def stepQ (i : grid0.Coords) (q k : Vec F S1024x256 .bf16) (v : Vec F S1024x128 .bf16) (d o : Vec F S1024x128 .f32) (l : Vec F S1x1024x128 .f32)
    (x : Vec F S4096x256 .f32) : Vec F S4096x256 .f32 :=
  if k0_cond2 (wq i) (wk i) = 1#1 then
    VecWindow.put (if k0_cond1 i = 1#1 then k0_pay1 (F := F) else x) (k0_off3 (wq i)) S1024x256.size
      (k0_pay4 (k0_pay13 q k l d o v) (rows i (if k0_cond1 i = 1#1 then k0_pay1 (F := F) else x)) k)
  else VecWindow.put x (k0_off3 (wq i)) S1024x256.size (k0_pay7 (k0_pay19 q k l d o v) (k0_pay22 (rows i x)) k)
def stepK (i : grid0.Coords) (q k : Vec F S1024x256 .bf16) (v : Vec F S1024x128 .bf16) (d o : Vec F S1024x128 .f32) (l : Vec F S1x1024x128 .f32)
    (y : Vec F S1024x256 .f32) : Vec F S1024x256 .f32 :=
  if k0_cond2 (wq i) (wk i) = 1#1 then k0_pay5 (k0_pay15 q k l d o v q) (k0_pay2 (F := F)) else k0_pay8 (k0_pay21 q k l d o v q) y
def stepV (i : grid0.Coords) (q k : Vec F S1024x256 .bf16) (d : Vec F S1024x128 .f32) (l : Vec F S1x1024x128 .f32)
    (z : Vec F S1024x128 .f32) : Vec F S1024x128 .f32 :=
  if k0_cond2 (wq i) (wk i) = 1#1 then k0_pay6 (k0_pay14 q k l d) (k0_pay3 (F := F)) else k0_pay9 (k0_pay20 q k l d) z

/-- A table's buffer held, for reading, at the contents `f`. -/
abbrev TblBuf (c : Dev nD) {S : Shape} {e : EltTy} (M : Memref sig .tc .smem S e) : Type := Buf (Elt F) (M.view.loc (c : Thread nD τ))
abbrev tbl (c : Dev nD) {S : Shape} {e : EltTy} (M : Memref sig .tc .smem S e) (f : TblBuf (F := F) c M) : sProp 𝕄 :=
  M.view.loc (c : Thread nD τ) ↦{fullShare.right} f

theorem ret_bind {E : Type → Type} {α β : Type} (a : α) (k : α → Prog E β) : (Prog.ret a >>= k) = k a := rfl

set_option maxHeartbeats 4000000 in
theorem run (c : Dev nD) (i : grid0.Coords)
    (T : TblBuf (F := F) c (Memref.whole main_c)) (U : TblBuf (F := F) c (Memref.whole main_c_0)) (hT : T = tabs (F := F) 0) (hU : U = tabs (F := F) 1)
    (arg4 : Memref sig .tc .vmem S1024x256 .bf16) (harg4 : arg4.IsWhole) (arg5 : Memref sig .tc .vmem S1024x256 .bf16) (harg5 : arg5.IsWhole)
    (arg6 : Memref sig .tc .vmem S1024x128 .bf16) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S1x1024x128 .f32) (harg9 : arg9.IsWhole)
    (arg10 : Memref sig .tc .vmem S4096x256 .f32) (harg10 : arg10.IsWhole) (arg11 : Memref sig .tc .vmem S1024x256 .f32) (harg11 : arg11.IsWhole)
    (arg12 : Memref sig .tc .vmem S1024x128 .f32) (harg12 : arg12.IsWhole)
    (q k : Vec F S1024x256 .bf16) (v : Vec F S1024x128 .bf16) (d o : Vec F S1024x128 .f32) (l : Vec F S1x1024x128 .f32)
    (x : Vec F S4096x256 .f32) (y : Vec F S1024x256 .f32) (z : Vec F S1024x128 .f32) (E : Set ℕ) (K : PUnit → sProp 𝕄) :
    iprop(tbl (F := F) c (Memref.whole main_c) T ∗ tbl (F := F) c (Memref.whole main_c_0) U
        ∗ owns (c : Thread nD τ) arg4 fullShare q ∗ owns (c : Thread nD τ) arg5 fullShare k ∗ owns (c : Thread nD τ) arg6 fullShare v
        ∗ owns (c : Thread nD τ) arg7 fullShare d ∗ owns (c : Thread nD τ) arg8 fullShare o ∗ owns (c : Thread nD τ) arg9 fullShare l
        ∗ owns (c : Thread nD τ) arg10 fullShare x ∗ owns (c : Thread nD τ) arg11 fullShare y ∗ owns (c : Thread nD τ) arg12 fullShare z
        ∗ (iprop(tbl (F := F) c (Memref.whole main_c) T ∗ tbl (F := F) c (Memref.whole main_c_0) U
        ∗ owns (c : Thread nD τ) arg4 fullShare q ∗ owns (c : Thread nD τ) arg5 fullShare k ∗ owns (c : Thread nD τ) arg6 fullShare v
        ∗ owns (c : Thread nD τ) arg7 fullShare d ∗ owns (c : Thread nD τ) arg8 fullShare o ∗ owns (c : Thread nD τ) arg9 fullShare l
        ∗ owns (c : Thread nD τ) arg10 fullShare (stepQ i q k v d o l x) ∗ owns (c : Thread nD τ) arg11 fullShare (stepK i q k v d o l y)
        ∗ owns (c : Thread nD τ) arg12 fullShare (stepV i q k d l z)) -∗ K ⟨⟩))
      ⊢ wp frame (wpE (defs₀ (F := F)) Variants.none c none) E (cc0_mla_attn_bwd i (Memref.whole main_c) (Memref.isWhole_whole _) (Memref.whole main_c_0) (Memref.isWhole_whole _)
          arg4 harg4 arg5 harg5 arg6 harg6 arg7 harg7 arg8 harg8 arg9 harg9 arg10 harg10 arg11 harg11 arg12 harg12) K := by
  simp only [cc0_mla_attn_bwd_eq_skeleton]; unfold cc0_mla_attn_bwd_skel
  simp only [k0_part1_eq_skeleton, k0_part2_eq_skeleton]
  unfold owns tbl
  iintro ⟨T0, T1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  have rd2 : ∀ f h, View.readAt (Elt F) arg10.view (Rect.unit (s := S4096x256) (k0_off2 (wq i)) S1024x256.size h).toLoadRect f = rows i (View.read (Elt F) arg10.view f) :=
    fun f h => View.readAt_unit arg10.view f h rfl (inb i)
  have rd3 : ∀ f h, View.readAt (Elt F) arg10.view (Rect.unit (s := S4096x256) (k0_off3 (wq i)) S1024x256.size h).toLoadRect f = rows i (View.read (Elt F) arg10.view f) :=
    fun f h => View.readAt_unit arg10.view f h rfl (inb i)
  have e4 : ∀ h, View.readAt (Elt F) arg4.view (Rect.unit (s := S1024x256) ![0, 0] S1024x256.size h).toLoadRect (harg4.unread q) = q := fun h => by rw [View.readAt_full, hf4]
  have e5 : ∀ h, View.readAt (Elt F) arg5.view (Rect.unit (s := S1024x256) ![0, 0] S1024x256.size h).toLoadRect (harg5.unread k) = k := fun h => by rw [View.readAt_full, hf5]
  have e6 : ∀ h, View.readAt (Elt F) arg6.view (Rect.unit (s := S1024x128) ![0, 0] S1024x128.size h).toLoadRect (harg6.unread v) = v := fun h => by rw [View.readAt_full, hf6]
  have e7 : ∀ h, View.readAt (Elt F) arg7.view (Rect.unit (s := S1024x128) ![0, 0] S1024x128.size h).toLoadRect (harg7.unread d) = d := fun h => by rw [View.readAt_full, hf7]
  have e8 : ∀ h, View.readAt (Elt F) arg8.view (Rect.unit (s := S1024x128) ![0, 0] S1024x128.size h).toLoadRect (harg8.unread o) = o := fun h => by rw [View.readAt_full, hf8]
  have e9 : ∀ h, View.readAt (Elt F) arg9.view (Rect.unit (s := S1x1024x128) ![0, 0, 0] S1x1024x128.size h).toLoadRect (harg9.unread l) = l := fun h => by rw [View.readAt_full, hf9]
  have e11 : ∀ h, View.readAt (Elt F) arg11.view (Rect.unit (s := S1024x256) ![0, 0] S1024x256.size h).toLoadRect (harg11.unread y) = y := fun h => by rw [View.readAt_full, hf11]
  have e12 : ∀ h, View.readAt (Elt F) arg12.view (Rect.unit (s := S1024x128) ![0, 0] S1024x128.size h).toLoadRect (harg12.unread z) = z := fun h => by rw [View.readAt_full, hf12]
  have c11 : ∀ f h h' w L, View.readAt (Elt F) arg11.view (Rect.unit (s := S1024x256) ![0, 0] S1024x256.size h).toLoadRect (arg11.view.writes (Elt F) f (⟨Rect.unit (s := S1024x256) ![0, 0] S1024x256.size h', w⟩ :: L)) = w := fun f h h' w L => View.readAt_writes_full ..
  have c12 : ∀ f h h' w L, View.readAt (Elt F) arg12.view (Rect.unit (s := S1024x128) ![0, 0] S1024x128.size h).toLoadRect (arg12.view.writes (Elt F) f (⟨Rect.unit (s := S1024x128) ![0, 0] S1024x128.size h', w⟩ :: L)) = w := fun f h h' w L => View.readAt_writes_full ..
  have c10 : ∀ f h w L, View.read (Elt F) arg10.view (arg10.view.writes (Elt F) f (⟨Rect.unit (s := S4096x256) ![0, 0] S4096x256.size h, w⟩ :: L)) = w := fun f h w L => View.read_writes_full ..
  sl_respell [smemLoad]; rw [smemLoadElt_bind]
  named_smem T0 (wq i) (by rw [hT]; exact (congrArg lit0 (row_idx i)).symm)
  rw [ret_bind, smemLoadElt_bind]
  named_smem T1 (wk i) (by rw [hU]; exact (congrArg lit1 (row_idx i)).symm)
  rw [ret_bind]
  rcases cases i with ⟨h1, h2, h3, h4⟩ | ⟨h1, h2, h3, h4⟩ | ⟨h1, h2, h3, h4⟩
  all_goals
    sl_exec (disch := first | sl_exact (chk i) | sl_exact h1 | sl_exact h2 | sl_exact h3 | sl_exact h4)
    sl_step
    iapply Hk
    isplitl [T0]; · iexact T0
    isplitl [T1]; · iexact T1
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [H10]
    · iexists _; isplitr; rotate_left; iexact H10; ipureintro
      rw [View.read_writes_cons_put _ _ _ _ _ (rfl : _ = k0_off3 (wq i))]
      (try delta run.sl.r); (try delta run.sl.r_1); (try delta run.sl.r_2); (try delta run.sl.r_3); (try delta run.sl.r_4); (try delta run.sl.r_5); (try delta run.sl.r_6); (try delta run.sl.r_7); (try delta run.sl.r_8); (try delta run.sl.r_9); (try delta run.sl.v56); (try delta run.sl.v64); (try delta run.sl.v68); (try delta run.sl.v64_1); (try delta run.sl.v68_1); (try delta run.sl.H10_1); (try delta run.sl.H11_1); (try delta run.sl.H12_1); (try delta run.sl.H11_1_1); (try delta run.sl.H12_1_1)
      simp only [stepQ, h1, h2, if_true, if_false, View.readCov, rd2, rd3, c10, View.writes_nil, e4, e5, e6, e7, e8, e9, hf10]
    isplitl [H11]
    · iexists _; isplitr; rotate_left; iexact H11; ipureintro
      rw [View.read_writes_full]
      (try delta run.sl.r); (try delta run.sl.r_1); (try delta run.sl.r_2); (try delta run.sl.r_3); (try delta run.sl.r_4); (try delta run.sl.r_5); (try delta run.sl.r_6); (try delta run.sl.r_7); (try delta run.sl.r_8); (try delta run.sl.r_9); (try delta run.sl.v56); (try delta run.sl.v64); (try delta run.sl.v68); (try delta run.sl.v64_1); (try delta run.sl.v68_1); (try delta run.sl.H10_1); (try delta run.sl.H11_1); (try delta run.sl.H12_1); (try delta run.sl.H11_1_1); (try delta run.sl.H12_1_1)
      simp only [stepK, h2, if_true, if_false, View.readCov, c11, e4, e5, e6, e7, e8, e9, e11]
    iexists _; isplitr; rotate_left; iexact H12; ipureintro
    rw [View.read_writes_full]
    (try delta run.sl.r); (try delta run.sl.r_1); (try delta run.sl.r_2); (try delta run.sl.r_3); (try delta run.sl.r_4); (try delta run.sl.r_5); (try delta run.sl.r_6); (try delta run.sl.r_7); (try delta run.sl.r_8); (try delta run.sl.r_9); (try delta run.sl.v56); (try delta run.sl.v64); (try delta run.sl.v68); (try delta run.sl.v64_1); (try delta run.sl.v68_1); (try delta run.sl.H10_1); (try delta run.sl.H11_1); (try delta run.sl.H12_1); (try delta run.sl.H11_1_1); (try delta run.sl.H12_1_1)
    simp only [stepV, h2, if_true, if_false, View.readCov, c12, e4, e5, e6, e7, e8, e9, e12]

end Cert.KernelAttnIdeal.Run

end
-- ==== Proof.AttnFrame.lean ====
/-
  The attention gradient's kernel as a whole: the forty steps' contents as one recursion, the body's obligation at each,
  and the run. An output block is new exactly where its step does not read it, so the recursion may start anywhere.
-/
module

public import proofs.«01_k».proof.Defs
public import proofs.«01_k».proof.Proof.Gen.KernelAttn
public import proofs.«01_k».proof.Proof.AttnRun
public import Idealize.ShloMosaic.Lib.Pipeline.FrameBody
public import Idealize.ShloMosaic.Lib.Pipeline.TableIdle

@[expose] public section

set_option maxRecDepth 16384

noncomputable section

namespace Cert.KernelAttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelAttnIdeal Cert.KernelAttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline at its tables. -/
abbrev adm : (p : Fin 1) → (pcfgs (F := F) p).Adm := fun _ => ⟨tabs, ok⟩
abbrev cfgA : Pipeline.Cfg sig Λ₀ := Pipeline.pin (pcfgs (F := F)) (adm (F := F)) 0

/-- What the region finds in core `c`'s buffers. -/
abbrev V (c : Dev nD) (b : Ref sig .tc) : Buf (Elt F) ((c : Thread nD τ).loc b) := StableHlo.after hostOps0 (fun b => m (c, b)) b

theorem fresh_ops : (hostOps0 : List (HloOp τ sig (Elt F))).Forall fun op => op.fresh = ∅ := by
  simp only [List.Forall]; repeat' constructor

set_option maxHeartbeats 1600000 in
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh_ops main_chain

theorem kept (b : Ref sig .tc) (h : (hostOps0 : List (HloOp τ sig (Elt F))).Forall fun op => Proc.devRef .tc b ∉ op.writes) (c : Dev nD) :
    V m c b = m ((c : Thread nD τ).loc b) :=
  StableHlo.after_of_forall_not_mem (b := Proc.devRef .tc b) _ _ (List.forall_iff_forall_mem.mp h)

theorem tab0 (c : Dev nD) : StableHlo.after hostOps0 (fun b => m (c, b)) (Proc.devRef .tc main_c) = (fun i => lit0 (S10.rowMajor i)) := by
  unfold hostOps0
  after_results
  rfl
theorem tab1 (c : Dev nD) : StableHlo.after hostOps0 (fun b => m (c, b)) (Proc.devRef .tc main_c_0) = (fun i => lit1 (S10.rowMajor i)) := by
  unfold hostOps0
  after_results
  rfl
theorem hpf (c : Dev nD) : ∀ k, V m c (pre0.ref k) = tabs (F := F) k := fun
  | 0 => tab0 m c
  | 1 => tab1 m c

/-! ## The windows' blocks, the schedule -/

/-- Window `w`'s block at point `t`, read off its array as the region finds it. -/
def iblk (c : Dev nD) (w : Fin (cfgA (F := F)).W) (t : Fin (cfgA (F := F)).N) : (((cfgA (F := F)).win w).xblock ((cfgA (F := F)).grid.coords t)).Idx → Elt F ((cfgA (F := F)).win w).elt :=
  (((cfgA (F := F)).win w).blk t).view.read (Elt F) (V m c (Pipeline.arrRef spec0 w))

theorem live6 : ∀ i : grid0.Coords, (cfgA (F := F)).idle 6 i = false := of_decide_eq_true (by sl_kernel_rfl)
theorem live7 : ∀ i : grid0.Coords, (cfgA (F := F)).idle 7 i = false := of_decide_eq_true (by sl_kernel_rfl)
theorem live8 : ∀ i : grid0.Coords, (cfgA (F := F)).idle 8 i = false := of_decide_eq_true (by sl_kernel_rfl)

/-- Where the point before wrote an output's block back, the point does not read what it finds there. -/
theorem new6 : ∀ t : Fin grid0.N, ∀ h : t.val + 1 < grid0.N, ((cfgA (F := F)).win 6).flushF t = true → k0_cond1 (grid0.coords ⟨t.val + 1, h⟩) = 1#1 :=
  of_decide_eq_true (by sl_kernel_rfl)
theorem new7 : ∀ t : Fin grid0.N, ∀ h : t.val + 1 < grid0.N, ((cfgA (F := F)).win 7).flushF t = true →
    k0_cond2 (wq (grid0.coords ⟨t.val + 1, h⟩)) (wk (grid0.coords ⟨t.val + 1, h⟩)) = 1#1 :=
  of_decide_eq_true (by sl_kernel_rfl)
theorem new8 : ∀ t : Fin grid0.N, ∀ h : t.val + 1 < grid0.N, ((cfgA (F := F)).win 8).flushF t = true →
    k0_cond2 (wq (grid0.coords ⟨t.val + 1, h⟩)) (wk (grid0.coords ⟨t.val + 1, h⟩)) = 1#1 :=
  of_decide_eq_true (by sl_kernel_rfl)
theorem first1 : ∀ t : Fin grid0.N, t.val = 0 → k0_cond1 (grid0.coords t) = 1#1 ∧ k0_cond2 (wq (grid0.coords t)) (wk (grid0.coords t)) = 1#1 := by decide +kernel

/-! ## The recursion -/

/-- The three output buffers after point `n`. -/
def outs (c : Dev nD) : (n : ℕ) → n < grid0.N → Vec F S4096x256 .f32 × Vec F S1024x256 .f32 × Vec F S1024x128 .f32
  | 0, hn =>
    (stepQ (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (k0_pay1 (F := F)),
     stepK (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (k0_pay2 (F := F)),
     stepV (grid0.coords ⟨0, hn⟩) (iblk m c 0 ⟨0, hn⟩) (iblk m c 1 ⟨0, hn⟩) (iblk m c 3 ⟨0, hn⟩) (iblk m c 5 ⟨0, hn⟩) (k0_pay3 (F := F)))
  | n + 1, hn =>
    (stepQ (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outs c n (by omega)).1,
     stepK (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outs c n (by omega)).2.1,
     stepV (grid0.coords ⟨n + 1, hn⟩) (iblk m c 0 ⟨n + 1, hn⟩) (iblk m c 1 ⟨n + 1, hn⟩) (iblk m c 3 ⟨n + 1, hn⟩) (iblk m c 5 ⟨n + 1, hn⟩) (outs c n (by omega)).2.2)

/-- The pipeline's proof data: each input's buffer at its block, the outputs' at the recursion. -/
def dats (p : Fin 1) (c : Dev nD) : Dat τ (Elt F) Unit ℕ (UR sig nD τ) ℕ (Pipeline.pin (pcfgs (F := F)) (adm (F := F)) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).1
    | ⟨7, _⟩ => (outs m c t.val t.isLt).2.1
    | ⟨8, _⟩ => (outs m c t.val t.isLt).2.2
  Φ t := iprop(Pipeline.ΦA spec0 c ∗ Pipeline.ΦT pre0 (tabs (F := F)) c)
  q _ := fullShare
  owed _ := 0

theorem A_eq (c : Dev nD) (w : Fin (cfgA (F := F)).W) : (dats m 0 c).A w = V m c (Pipeline.arrRef spec0 w) := by
  dsimp only [dats]
theorem after0 (c : Dev nD) (t : Fin (cfgA (F := F)).N) : (dats m 0 c).after 0 t = iblk m c 0 t := by dsimp only [dats]; rfl
theorem after1 (c : Dev nD) (t : Fin (cfgA (F := F)).N) : (dats m 0 c).after 1 t = iblk m c 1 t := by dsimp only [dats]; rfl
theorem after2 (c : Dev nD) (t : Fin (cfgA (F := F)).N) : (dats m 0 c).after 2 t = iblk m c 2 t := by dsimp only [dats]; rfl
theorem after3 (c : Dev nD) (t : Fin (cfgA (F := F)).N) : (dats m 0 c).after 3 t = iblk m c 3 t := by dsimp only [dats]; rfl
theorem after4 (c : Dev nD) (t : Fin (cfgA (F := F)).N) : (dats m 0 c).after 4 t = iblk m c 4 t := by dsimp only [dats]; rfl
theorem after5 (c : Dev nD) (t : Fin (cfgA (F := F)).N) : (dats m 0 c).after 5 t = iblk m c 5 t := by dsimp only [dats]; rfl
theorem after6 (c : Dev nD) (t : Fin (cfgA (F := F)).N) : (dats m 0 c).after 6 t = (outs m c t.val t.isLt).1 := by dsimp only [dats]; rfl
theorem after7 (c : Dev nD) (t : Fin (cfgA (F := F)).N) : (dats m 0 c).after 7 t = (outs m c t.val t.isLt).2.1 := by dsimp only [dats]; rfl
theorem after8 (c : Dev nD) (t : Fin (cfgA (F := F)).N) : (dats m 0 c).after 8 t = (outs m c t.val t.isLt).2.2 := by dsimp only [dats]; rfl
theorem before0 (c : Dev nD) (t : Fin (cfgA (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgA (F := F)).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgA (F := F)).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgA (F := F)).N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

theorem stepQ_new (i : grid0.Coords) (h : k0_cond1 i = 1#1) (q k : Vec F S1024x256 .bf16) (v : Vec F S1024x128 .bf16) (d o : Vec F S1024x128 .f32) (l : Vec F S1x1024x128 .f32)
    (x x' : Vec F S4096x256 .f32) : stepQ i q k v d o l x = stepQ i q k v d o l x' := by
  have h2 : k0_cond2 (wq i) (wk i) = 1#1 := by
    rcases cases i with ⟨_, h2, _⟩ | ⟨h1, _⟩ | ⟨h1, _⟩
    · exact h2
    · exact absurd h h1
    · exact absurd h h1
  simp only [stepQ, h, h2, if_true]
theorem stepK_new (i : grid0.Coords) (h : k0_cond2 (wq i) (wk i) = 1#1) (q k : Vec F S1024x256 .bf16) (v : Vec F S1024x128 .bf16) (d o : Vec F S1024x128 .f32) (l : Vec F S1x1024x128 .f32)
    (y y' : Vec F S1024x256 .f32) : stepK i q k v d o l y = stepK i q k v d o l y' := by
  simp only [stepK, h, if_true]
theorem stepV_new (i : grid0.Coords) (h : k0_cond2 (wq i) (wk i) = 1#1) (q k : Vec F S1024x256 .bf16) (d : Vec F S1024x128 .f32) (l : Vec F S1x1024x128 .f32)
    (z z' : Vec F S1024x128 .f32) : stepV i q k d l z = stepV i q k d l z' := by
  simp only [stepV, h, if_true]

/-- An output that is stored at every point: what the body finds is what the point before left, unless that was written back. -/
theorem found (c : Dev nD) (w : Fin (cfgA (F := F)).W) (hw : ((cfgA (F := F)).win w).isOut = true) (hlive : ∀ i, (cfgA (F := F)).idle w i = false)
    (hclip : ∀ (i : (cfgA (F := F)).grid.Coords) a, ((cfgA (F := F)).win w).clip i a = none) (n : ℕ) (hn : n + 1 < (cfgA (F := F)).N) (d) :
    ((cfgA (F := F)).win w).flushF ⟨n, Nat.lt_of_succ_lt hn⟩ = true ∨ (dats m 0 c).before w ⟨n + 1, hn⟩ d = (dats m 0 c).after w ⟨n, Nat.lt_of_succ_lt hn⟩ := by
  cases h : ((cfgA (F := F)).win w).flushF ⟨n, Nat.lt_of_succ_lt hn⟩
  · refine Or.inr ?_
    rw [Dat.before_out_traj _ w hw hclip (fun t _ hi _ => absurd hi (by rw [hlive]; exact Bool.false_ne_true)) (n + 1) ⟨n + 1, hn⟩ rfl d, if_neg]
    · rfl
    · rw [Pipeline.Cfg.fresh_succ _ w n (Nat.lt_of_succ_lt hn), Pipeline.Window.flush_eq_flushF, h, hlive]
      exact Bool.false_ne_true
  · exact Or.inl rfl

theorem found6 (c : Dev nD) (t : Fin (cfgA (F := F)).N) (d) :
    stepQ (grid0.coords t) (iblk m c 0 t) (iblk m c 1 t) (iblk m c 2 t) (iblk m c 3 t) (iblk m c 4 t) (iblk m c 5 t) ((dats m 0 c).before 6 t d) = (outs m c t.val t.isLt).1 := by
  obtain ⟨n, hn⟩ := t
  cases n with
  | zero => exact stepQ_new _ (first1 ⟨0, hn⟩ rfl).1 ..
  | succ n =>
    rcases found m c 6 rfl live6 (fun _ _ => rfl) n hn d with h | h
    · exact stepQ_new _ (new6 ⟨n, Nat.lt_of_succ_lt hn⟩ hn h) ..
    · rw [h, after6]; rfl
theorem found7 (c : Dev nD) (t : Fin (cfgA (F := F)).N) (d) :
    stepK (grid0.coords t) (iblk m c 0 t) (iblk m c 1 t) (iblk m c 2 t) (iblk m c 3 t) (iblk m c 4 t) (iblk m c 5 t) ((dats m 0 c).before 7 t d) = (outs m c t.val t.isLt).2.1 := by
  obtain ⟨n, hn⟩ := t
  cases n with
  | zero => exact stepK_new _ (first1 ⟨0, hn⟩ rfl).2 ..
  | succ n =>
    rcases found m c 7 rfl live7 (fun _ _ => rfl) n hn d with h | h
    · exact stepK_new _ (new7 ⟨n, Nat.lt_of_succ_lt hn⟩ hn h) ..
    · rw [h, after7]; rfl
theorem found8 (c : Dev nD) (t : Fin (cfgA (F := F)).N) (d) :
    stepV (grid0.coords t) (iblk m c 0 t) (iblk m c 1 t) (iblk m c 3 t) (iblk m c 5 t) ((dats m 0 c).before 8 t d) = (outs m c t.val t.isLt).2.2 := by
  obtain ⟨n, hn⟩ := t
  cases n with
  | zero => exact stepV_new _ (first1 ⟨0, hn⟩ rfl).2 ..
  | succ n =>
    rcases found m c 8 rfl live8 (fun _ _ => rfl) n hn d with h | h
    · exact stepV_new _ (new8 ⟨n, Nat.lt_of_succ_lt hn⟩ hn h) ..
    · rw [h, after8]; rfl

/-! ## The body's obligation -/

theorem tables_eq (c : Dev nD) : (Pipeline.ΦT pre0 (tabs (F := F)) c : sProp 𝕄)
    = iprop(tbl (F := F) c (Memref.whole main_c) (tabs (F := F) 0) ∗ tbl (F := F) c (Memref.whole main_c_0) (tabs (F := F) 1)) := by
  unfold Pipeline.ΦT Pipeline.prefHeld
  rw [show (Finset.univ : Finset (Fin 2)) = insert 0 {1} from by decide, bigSep_insert (by decide), bigSep_singleton]
  rfl

abbrev bodyA (t : Fin (cfgA (F := F)).N) : Prog (TpuEff nD τ sig (Elt F) Λ₀ .tc) PUnit :=
  cc0_mla_attn_bwd (grid0.coords t) (Memref.whole main_c) (Memref.isWhole_whole _) (Memref.whole main_c_0) (Memref.isWhole_whole _) (spec0_0.stage ((cfgA (F := F)).slots t 0)) (hstage0_0 (((cfgA (F := F)).slots t 0).cast nbuf0_0)) (spec0_1.stage ((cfgA (F := F)).slots t 1)) (hstage0_1 (((cfgA (F := F)).slots t 1).cast nbuf0_1)) (spec0_2.stage ((cfgA (F := F)).slots t 2)) (hstage0_2 (((cfgA (F := F)).slots t 2).cast nbuf0_2)) (spec0_3.stage ((cfgA (F := F)).slots t 3)) (hstage0_3 (((cfgA (F := F)).slots t 3).cast nbuf0_3)) (spec0_4.stage ((cfgA (F := F)).slots t 4)) (hstage0_4 (((cfgA (F := F)).slots t 4).cast nbuf0_4)) (spec0_5.stage ((cfgA (F := F)).slots t 5)) (hstage0_5 (((cfgA (F := F)).slots t 5).cast nbuf0_5)) (spec0_6.stage ((cfgA (F := F)).slots t 6)) (hstage0_6 (((cfgA (F := F)).slots t 6).cast nbuf0_6)) (spec0_7.stage ((cfgA (F := F)).slots t 7)) (hstage0_7 (((cfgA (F := F)).slots t 7).cast nbuf0_7)) (spec0_8.stage ((cfgA (F := F)).slots t 8)) (hstage0_8 (((cfgA (F := F)).slots t 8).cast nbuf0_8))

theorem row (t : Fin (cfgA (F := F)).N) : defs₀ (F := F) .tc (cfgA (F := F)).body ((cfgA (F := F)).bodyArgs t ((cfgA (F := F)).slots t)) = bodyA t := by
  unfold defs₀; rw [Defs.onTc_tc]

set_option maxHeartbeats 4000000 in
theorem sound (c : Dev nD) (t : Fin (cfgA (F := F)).N) :
    iprop((dats m 0 c).Φ t.castSucc ∗ (dats m 0 c).owesAt () t.castSucc
      ∗ (∃ d, owns (c : Thread nD τ) (spec0_0.stage ((cfgA (F := F)).slots t 0)) fullShare ((dats m 0 c).before 0 t d))
      ∗ (∃ d, owns (c : Thread nD τ) (spec0_1.stage ((cfgA (F := F)).slots t 1)) fullShare ((dats m 0 c).before 1 t d))
      ∗ (∃ d, owns (c : Thread nD τ) (spec0_2.stage ((cfgA (F := F)).slots t 2)) fullShare ((dats m 0 c).before 2 t d))
      ∗ (∃ d, owns (c : Thread nD τ) (spec0_3.stage ((cfgA (F := F)).slots t 3)) fullShare ((dats m 0 c).before 3 t d))
      ∗ (∃ d, owns (c : Thread nD τ) (spec0_4.stage ((cfgA (F := F)).slots t 4)) fullShare ((dats m 0 c).before 4 t d))
      ∗ (∃ d, owns (c : Thread nD τ) (spec0_5.stage ((cfgA (F := F)).slots t 5)) fullShare ((dats m 0 c).before 5 t d))
      ∗ (∃ d, owns (c : Thread nD τ) (spec0_6.stage ((cfgA (F := F)).slots t 6)) fullShare ((dats m 0 c).before 6 t d))
      ∗ (∃ d, owns (c : Thread nD τ) (spec0_7.stage ((cfgA (F := F)).slots t 7)) fullShare ((dats m 0 c).before 7 t d))
      ∗ (∃ d, owns (c : Thread nD τ) (spec0_8.stage ((cfgA (F := F)).slots t 8)) fullShare ((dats m 0 c).before 8 t d)))
    ⊢ wp frame (wpE (defs₀ (F := F)) Variants.none c none) Set.univ (bodyA t) (fun _ =>
      iprop((dats m 0 c).Φ t.succ ∗ (dats m 0 c).owesAt () t.succ
        ∗ (dats m 0 c).leavesExact 0 t
        ∗ (dats m 0 c).leavesExact 1 t
        ∗ (dats m 0 c).leavesExact 2 t
        ∗ (dats m 0 c).leavesExact 3 t
        ∗ (dats m 0 c).leavesExact 4 t
        ∗ (dats m 0 c).leavesExact 5 t
        ∗ (dats m 0 c).leavesExact 6 t
        ∗ (dats m 0 c).leavesExact 7 t
        ∗ (dats m 0 c).leavesExact 8 t)) := by
  rw [show (dats m 0 c).owesAt () t.succ = (dats m 0 c).owesAt () t.castSucc from rfl]
  rw [show (dats m 0 c).Φ t.succ = iprop(Pipeline.ΦA spec0 c ∗ Pipeline.ΦT pre0 (tabs (F := F)) c) from rfl,
    show (dats m 0 c).Φ t.castSucc = iprop(Pipeline.ΦA spec0 c ∗ Pipeline.ΦT pre0 (tabs (F := F)) c) from rfl, tables_eq]
  simp only [before0, before1, before2, before3, before4, before5]
  rw [show (dats m 0 c).leavesExact 0 t = owns (c : Thread nD τ) (spec0_0.stage ((cfgA (F := F)).slots t 0)) fullShare ((dats m 0 c).after 0 t) from by
    unfold Dat.leavesExact; rw [show (cfgA (F := F)).idle 0 ((cfgA (F := F)).grid.coords t) = false from rfl]; try rfl, after0]
  rw [show (dats m 0 c).leavesExact 1 t = owns (c : Thread nD τ) (spec0_1.stage ((cfgA (F := F)).slots t 1)) fullShare ((dats m 0 c).after 1 t) from by
    unfold Dat.leavesExact; rw [show (cfgA (F := F)).idle 1 ((cfgA (F := F)).grid.coords t) = false from rfl]; try rfl, after1]
  rw [show (dats m 0 c).leavesExact 2 t = owns (c : Thread nD τ) (spec0_2.stage ((cfgA (F := F)).slots t 2)) fullShare ((dats m 0 c).after 2 t) from by
    unfold Dat.leavesExact; rw [show (cfgA (F := F)).idle 2 ((cfgA (F := F)).grid.coords t) = false from rfl]; try rfl, after2]
  rw [show (dats m 0 c).leavesExact 3 t = owns (c : Thread nD τ) (spec0_3.stage ((cfgA (F := F)).slots t 3)) fullShare ((dats m 0 c).after 3 t) from by
    unfold Dat.leavesExact; rw [show (cfgA (F := F)).idle 3 ((cfgA (F := F)).grid.coords t) = false from rfl]; try rfl, after3]
  rw [show (dats m 0 c).leavesExact 4 t = owns (c : Thread nD τ) (spec0_4.stage ((cfgA (F := F)).slots t 4)) fullShare ((dats m 0 c).after 4 t) from by
    unfold Dat.leavesExact; rw [show (cfgA (F := F)).idle 4 ((cfgA (F := F)).grid.coords t) = false from rfl]; try rfl, after4]
  rw [show (dats m 0 c).leavesExact 5 t = owns (c : Thread nD τ) (spec0_5.stage ((cfgA (F := F)).slots t 5)) fullShare ((dats m 0 c).after 5 t) from by
    unfold Dat.leavesExact; rw [show (cfgA (F := F)).idle 5 ((cfgA (F := F)).grid.coords t) = false from rfl]; try rfl, after5]
  rw [show (dats m 0 c).leavesExact 6 t = owns (c : Thread nD τ) (spec0_6.stage ((cfgA (F := F)).slots t 6)) fullShare ((dats m 0 c).after 6 t) from by
    unfold Dat.leavesExact; rw [show (cfgA (F := F)).idle 6 ((cfgA (F := F)).grid.coords t) = false from live6 _]; try rfl, after6]
  rw [show (dats m 0 c).leavesExact 7 t = owns (c : Thread nD τ) (spec0_7.stage ((cfgA (F := F)).slots t 7)) fullShare ((dats m 0 c).after 7 t) from by
    unfold Dat.leavesExact; rw [show (cfgA (F := F)).idle 7 ((cfgA (F := F)).grid.coords t) = false from live7 _]; try rfl, after7]
  rw [show (dats m 0 c).leavesExact 8 t = owns (c : Thread nD τ) (spec0_8.stage ((cfgA (F := F)).slots t 8)) fullShare ((dats m 0 c).after 8 t) from by
    unfold Dat.leavesExact; rw [show (cfgA (F := F)).idle 8 ((cfgA (F := F)).grid.coords t) = false from live8 _]; try rfl, after8]
  iintro ⟨⟨Ha, T0, T1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) (tabs (F := F) 0) (tabs (F := F) 1) rfl rfl (spec0_0.stage ((cfgA (F := F)).slots t 0)) (hstage0_0 (((cfgA (F := F)).slots t 0).cast nbuf0_0)) (spec0_1.stage ((cfgA (F := F)).slots t 1)) (hstage0_1 (((cfgA (F := F)).slots t 1).cast nbuf0_1)) (spec0_2.stage ((cfgA (F := F)).slots t 2)) (hstage0_2 (((cfgA (F := F)).slots t 2).cast nbuf0_2)) (spec0_3.stage ((cfgA (F := F)).slots t 3)) (hstage0_3 (((cfgA (F := F)).slots t 3).cast nbuf0_3)) (spec0_4.stage ((cfgA (F := F)).slots t 4)) (hstage0_4 (((cfgA (F := F)).slots t 4).cast nbuf0_4)) (spec0_5.stage ((cfgA (F := F)).slots t 5)) (hstage0_5 (((cfgA (F := F)).slots t 5).cast nbuf0_5)) (spec0_6.stage ((cfgA (F := F)).slots t 6)) (hstage0_6 (((cfgA (F := F)).slots t 6).cast nbuf0_6)) (spec0_7.stage ((cfgA (F := F)).slots t 7)) (hstage0_7 (((cfgA (F := F)).slots t 7).cast nbuf0_7)) (spec0_8.stage ((cfgA (F := F)).slots t 8)) (hstage0_8 (((cfgA (F := F)).slots t 8).cast nbuf0_8))
    (iblk m c 0 t) (iblk m c 1 t) (iblk m c 2 t) (iblk m c 3 t) (iblk m c 4 t) (iblk m c 5 t)
    ((dats m 0 c).before 6 t d6) ((dats m 0 c).before 7 t d7) ((dats m 0 c).before 8 t d8))
  rw [found6, found7, found8]
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨T0, T1, H0, H1, H2, H3, H4, H5, H6, H7, H8⟩
  isplitl [Ha T0 T1]
  · isplitl [Ha]; · iexact Ha
    isplitl [T0]; · iexact T0
    iexact T1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0, row]
  exact triple_restated (sound m c t) rfl .rfl fun _ => .rfl

/-! ## The run -/

set_option backward.isDefEq.respectTransparency.types false in
theorem run_main : θ_run defs (onTc (τ := τ) (main (F := F))) (s₀ m ρ)
    (fun r => (Pipeline.FramePost (Pipeline.pin (pcfgs (F := F)) (adm (F := F))) (dats m) 0 (V m)) r ∧ r.2.sem = fun _ => 0) :=
  Pipeline.θ_run_frameP (Q' := _) pcfgs (adm (F := F)) (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hpf := hpf m) (hΦ := fun _ _ => rfl)

/-- No host operation before the region writes an argument. -/
theorem args_kept : ∀ b ∈ [main_arg0, main_arg1, main_arg2, main_arg3], (hostOps0 : List (HloOp τ sig (Elt F))).Forall fun op => Proc.devRef .tc b ∉ op.writes := by
  simp only [List.forall_mem_cons, List.forall_mem_nil]
  refine ⟨?_, ?_, ?_, ?_, fun _ h => absurd h List.not_mem_nil⟩ <;>
  · simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- A run's end has the arguments as they were. -/
theorem args_after (r : PUnit.{1} × MemSt nD τ sig (Elt F)) (h : Pipeline.FramePost (Pipeline.pin (pcfgs (F := F)) (adm (F := F))) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (show ∀ w : Fin 9, (spec0 w).arr.view.ref ≠ main_arg0 from by decide))).trans (kept m main_arg0 (args_kept _ (by simp)) c),
   ((h c).2 main_arg1 (Pipeline.mem_restRefs_of main_arg1 (by decide) (show ∀ w : Fin 9, (spec0 w).arr.view.ref ≠ main_arg1 from by decide))).trans (kept m main_arg1 (args_kept _ (by simp)) c),
   ((h c).2 main_arg2 (Pipeline.mem_restRefs_of main_arg2 (by decide) (show ∀ w : Fin 9, (spec0 w).arr.view.ref ≠ main_arg2 from by decide))).trans (kept m main_arg2 (args_kept _ (by simp)) c),
   ((h c).2 main_arg3 (Pipeline.mem_restRefs_of main_arg3 (by decide) (show ∀ w : Fin 9, (spec0 w).arr.view.ref ≠ main_arg3 from by decide))).trans (kept m main_arg3 (args_kept _ (by simp)) c)⟩

/-- The run ends, leaves the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_after m r h.1, h.2⟩) (run_main m ρ)

end Cert.KernelAttnIdeal.Run

end
-- ==== Proof.AttnTile.lean ====
/-
  One step of the attention gradient's kernel, entry by entry: the tile's probabilities, the gradient of its scores and
  the three products that the step adds, over the blocks that it reads.
-/
module

public import proofs.«01_k».proof.Proof.AttnRun
public import Idealize.ShloMosaic.Lib.Pointwise
public import Idealize.ShloMosaic.Lib.WordCmp
public import Idealize.ShloMosaic.Lib.Pipeline.ValueKit

@[expose] public section

set_option maxRecDepth 16384

noncomputable section

namespace Cert.KernelAttnIdeal.Run

open Idealize.ShloMosaic Idealize.ShloMosaic.TcCoe
open scoped BigOperators
open Cert.KernelAttnIdeal Cert.KernelAttnIdeal.Gen

/-- Eight copies of a block side by side, at an entry. -/
theorem copies (x : FVec Ideal S1024x128 .f32) (r c : Fin 1024) :
    concatenate S1024x1024 1 [⟨S1024x128, x⟩, ⟨S1024x128, x⟩, ⟨S1024x128, x⟩, ⟨S1024x128, x⟩, ⟨S1024x128, x⟩, ⟨S1024x128, x⟩, ⟨S1024x128, x⟩, ⟨S1024x128, x⟩]
      concatenates_S1024x128_S1024x128_S1024x128_S1024x128_S1024x128_S1024x128_S1024x128_S1024x128_S1024x1024_d1 (ix2 r c)
      = x (ix2 r ⟨c.val % 128, Nat.mod_lt _ (by decide)⟩) := by
  have := c.isLt
  pointwise
  split_ifs <;> exact congrArg x (congrArg (ix2 r) (Fin.ext (by simp only []; omega)))

/-- A tile's score: the masked one only where the row has reached the column. -/
def score (masked : Bool) (q k : Vec Ideal S1024x256 .bf16) (r c : Fin 1024) : EReal :=
  if masked = true ∧ r < c then ⊥ else ∑ e : Fin 256, q (ix2 r e) * k (ix2 c e)
/-- A tile's probability. -/
def prob (masked : Bool) (q k : Vec Ideal S1024x256 .bf16) (l : Vec Ideal S1x1024x128 .f32) (r c : Fin 1024) : EReal :=
  Ideal.exp (score masked q k r c - l (ix3 (0 : Fin 1) r ⟨c.val % 128, Nat.mod_lt _ (by decide)⟩))
/-- The gradient of a tile's score. -/
def dScore (masked : Bool) (q k : Vec Ideal S1024x256 .bf16) (l : Vec Ideal S1x1024x128 .f32) (d o : Vec Ideal S1024x128 .f32) (v : Vec Ideal S1024x128 .bf16)
    (r c : Fin 1024) : EReal :=
  prob masked q k l r c * ((∑ e : Fin 128, d (ix2 r e) * v (ix2 c e)) - ∑ e : Fin 128, d (ix2 r e) * o (ix2 r e))

variable (q k : Vec Ideal S1024x256 .bf16) (l : Vec Ideal S1x1024x128 .f32) (d o : Vec Ideal S1024x128 .f32) (v : Vec Ideal S1024x128 .bf16)

theorem select_sge {α : Type} (a b : ℕ) (ha : a < 4096) (hb : b < 4096) (x y : α) :
    Scalar.select (IntOp.cmpi .sge (BitVec.ofNat 32 a) (BitVec.ofNat 32 b)) x y = if a < b then y else x := by
  rw [WordCmp.cmpi_sge_ofNat (by omega) (by omega), Scalar.select]
  by_cases h : a < b
  · rw [if_pos h, decide_eq_false (by omega)]; rfl
  · rw [if_neg h, decide_eq_true (by omega)]; rfl

theorem mask_bot : Named.named (F := Ideal) (φ := .f32) κ "mask" 0xF149F2CA#32 = (⊥ : EReal) := IdealRules.named_const.ideal_named_scalar _ _ _ _ rfl

theorem pay10_at (r c : Fin 1024) : k0_pay10 (F := Ideal) q k l (ix2 r c) = prob true q k l r c := by
  unfold k0_pay10
  pointwise [copies]
  rw [select_sge _ _ (by omega) (by omega), mask_bot, prob, score]
  simp only [true_and, Fin.lt_def]
theorem pay16_at (r c : Fin 1024) : k0_pay16 (F := Ideal) q k l (ix2 r c) = prob false q k l r c := by
  unfold k0_pay16
  pointwise [copies]
  simp only [prob, score, Bool.false_eq_true, false_and, if_false]
theorem pay13_at (r c : Fin 1024) : k0_pay13 (F := Ideal) q k l d o v (ix2 r c) = dScore true q k l d o v r c := by
  unfold k0_pay13
  pointwise [copies, pay10_at, k0_pay11, k0_pay12]
  rfl
theorem pay19_at (r c : Fin 1024) : k0_pay19 (F := Ideal) q k l d o v (ix2 r c) = dScore false q k l d o v r c := by
  unfold k0_pay19
  pointwise [copies, pay16_at, k0_pay17, k0_pay18, dScore]

/-- Whether a step lies on the diagonal. -/
def diag (i : grid0.Coords) : Bool := decide (k0_cond2 (wq i) (wk i) = 1#1)

theorem stepK_at (i : grid0.Coords) (y : Vec Ideal S1024x256 .f32) (c : Fin 1024) (e : Fin 256) :
    stepK i q k v d o l y (ix2 c e)
      = (if diag i = true then 0 else y (ix2 c e)) + ∑ r : Fin 1024, dScore (diag i) q k l d o v r c * q (ix2 r e) := by
  by_cases h : k0_cond2 (wq i) (wk i) = 1#1
  · rw [stepK, if_pos h, show diag i = true from decide_eq_true h, if_pos rfl]
    pointwise [k0_pay5, k0_pay2, k0_pay15, pay13_at]
  · rw [stepK, if_neg h, show diag i = false from decide_eq_false h, if_neg (by decide)]
    pointwise [k0_pay8, k0_pay21, pay19_at]
theorem stepV_at (i : grid0.Coords) (z : Vec Ideal S1024x128 .f32) (c : Fin 1024) (e : Fin 128) :
    stepV i q k d l z (ix2 c e)
      = (if diag i = true then 0 else z (ix2 c e)) + ∑ r : Fin 1024, prob (diag i) q k l r c * d (ix2 r e) := by
  by_cases h : k0_cond2 (wq i) (wk i) = 1#1
  · rw [stepV, if_pos h, show diag i = true from decide_eq_true h, if_pos rfl]
    pointwise [k0_pay6, k0_pay3, k0_pay14, pay10_at, k0_pay11, k0_pay12]
  · rw [stepV, if_neg h, show diag i = false from decide_eq_false h, if_neg (by decide)]
    pointwise [k0_pay9, k0_pay20, pay16_at, k0_pay17, k0_pay18]

/-- Where the query block's rows begin. -/
theorem off3 : ∀ i : grid0.Coords, k0_off3 (wq i) = ![1024 * (wq i).toNat, 0] := by decide +kernel

/-- Rows put over the query block's rows, at an entry. -/
theorem put_at (i : grid0.Coords) (x : Vec Ideal S4096x256 .f32) (w : Vec Ideal S1024x256 .f32) (R : Fin 4096) (e : Fin 256) :
    VecWindow.put x (k0_off3 (wq i)) S1024x256.size w (ix2 R e)
      = if R.val / 1024 = (wq i).toNat then w (ix2 ⟨R.val % 1024, Nat.mod_lt _ (by decide)⟩ e) else x (ix2 R e) := by
  have h0 : k0_off3 (wq i) 0 = 1024 * (wq i).toNat := congrFun (off3 i) 0
  have h1 : k0_off3 (wq i) 1 = 0 := congrFun (off3 i) 1
  unfold VecWindow.put
  by_cases h : R.val / 1024 = (wq i).toNat
  · rw [if_pos h, dif_pos]
    · refine congrArg w (funext fun a => Fin.ext ?_)
      match a with
      | ⟨0, _⟩ => show R.val - k0_off3 (wq i) 0 = R.val % 1024; omega
      | ⟨1, _⟩ => show e.val - k0_off3 (wq i) 1 = e.val; omega
    · intro a
      match a with
      | ⟨0, _⟩ => show k0_off3 (wq i) 0 ≤ R.val ∧ R.val < k0_off3 (wq i) 0 + 1024; omega
      | ⟨1, _⟩ => have := e.isLt; show k0_off3 (wq i) 1 ≤ e.val ∧ e.val < k0_off3 (wq i) 1 + 256; omega
  · rw [if_neg h, dif_neg]
    intro hall
    have : k0_off3 (wq i) 0 ≤ R.val ∧ R.val < k0_off3 (wq i) 0 + 1024 := hall 0
    omega

theorem rows_at (i : grid0.Coords) (x : Vec Ideal S4096x256 .f32) (R : Fin 4096) (e : Fin 256) (h : R.val / 1024 = (wq i).toNat) :
    rows i x (ix2 ⟨R.val % 1024, Nat.mod_lt _ (by decide)⟩ e) = x (ix2 R e) := by
  have h0 : k0_off3 (wq i) 0 = 1024 * (wq i).toNat := congrFun (off3 i) 0
  have h1 : k0_off3 (wq i) 1 = 0 := congrFun (off3 i) 1
  refine congrArg x (funext fun a => Fin.ext ?_)
  match a with
  | ⟨0, _⟩ => show k0_off3 (wq i) 0 + 1 * (R.val % 1024) = R.val; omega
  | ⟨1, _⟩ => show k0_off3 (wq i) 1 + 1 * e.val = e.val; omega

theorem stepQ_at (i : grid0.Coords) (x : Vec Ideal S4096x256 .f32) (R : Fin 4096) (e : Fin 256) :
    stepQ i q k v d o l x (ix2 R e)
      = (if k0_cond1 i = 1#1 then 0 else x (ix2 R e)) + if R.val / 1024 = (wq i).toNat
          then ∑ c : Fin 1024, dScore (diag i) q k l d o v ⟨R.val % 1024, Nat.mod_lt _ (by decide)⟩ c * k (ix2 c e) else 0 := by
  have zero : k0_pay1 (F := Ideal) (ix2 R e) = 0 := by pointwise [k0_pay1]
  rcases cases i with ⟨h1, h2, _⟩ | ⟨h1, h2, _⟩ | ⟨h1, h2, _⟩
  · rw [stepQ, if_pos h2, show diag i = true from decide_eq_true h2, if_pos h1, put_at, if_pos h1]
    by_cases h : R.val / 1024 = (wq i).toNat
    · rw [if_pos h, if_pos h]
      pointwise [k0_pay4, pay13_at]
      rw [rows_at i _ R e h, zero, zero_add]
    · rw [if_neg h, if_neg h, zero, add_zero]
  · rw [stepQ, if_pos h2, show diag i = true from decide_eq_true h2, if_neg h1, put_at, if_neg h1]
    by_cases h : R.val / 1024 = (wq i).toNat
    · rw [if_pos h, if_pos h]
      pointwise [k0_pay4, pay13_at]
      rw [rows_at i _ R e h]
    · rw [if_neg h, if_neg h, add_zero]
  · rw [stepQ, if_neg h2, show diag i = false from decide_eq_false h2, put_at, if_neg h1]
    by_cases h : R.val / 1024 = (wq i).toNat
    · rw [if_pos h, if_pos h]
      pointwise [k0_pay7, k0_pay22, pay19_at]
      rw [rows_at i _ R e h]
    · rw [if_neg h, if_neg h, add_zero]

end Cert.KernelAttnIdeal.Run
end
-- ==== Proof.AttnArrays.lean ====
/-
  The arrays that the attention gradient's kernel leaves: the forty steps put together, over the operands that the region
  reads. A key block's gradients are summed over the query blocks from its own on, a query block's over the key blocks up
  to its own; the tiles left out are masked throughout, so each is one product over all 4096 rows.
-/
module

public import proofs.«01_k».proof.Proof.AttnFrame
public import proofs.«01_k».proof.Proof.AttnTile

@[expose] public section

set_option maxRecDepth 16384

noncomputable section

namespace Cert.KernelAttnIdeal.Run

open Idealize.ShloMosaic Idealize.ShloMosaic.TcCoe Idealize.SL.Sem Idealize.ShloMosaic.Tactic
open Idealize.ShloMosaic.Pipeline (Dat)
open scoped BigOperators
open Cert.KernelAttnIdeal Cert.KernelAttnIdeal.Gen

variable (m : (ℓ : Loc nD τ sig) → Buf (Elt Ideal) ℓ)

/-- The head, the query block and the key block of a grid point. -/
def hd (t : Fin grid0.N) : Fin 4 := ⟨t.val / 10, by have := t.isLt; have : grid0.N = 40 := rfl; omega⟩
def qb (t : Fin grid0.N) : Fin 4 := ![0, 1, 2, 3, 1, 2, 3, 2, 3, 3] ⟨t.val % 10, Nat.mod_lt _ (by decide)⟩
def kb (t : Fin grid0.N) : Fin 4 := ![0, 0, 0, 0, 1, 1, 1, 2, 2, 3] ⟨t.val % 10, Nat.mod_lt _ (by decide)⟩

theorem wq_eq : ∀ t : Fin grid0.N, (wq (grid0.coords t)).toNat = (qb t).val := by decide +kernel
theorem wk_eq : ∀ t : Fin grid0.N, (wk (grid0.coords t)).toNat = (kb t).val := by decide +kernel
theorem diag_eq : ∀ t : Fin grid0.N, diag (grid0.coords t) = decide (qb t = kb t) := by decide +kernel
theorem kb_le : ∀ t : Fin grid0.N, kb t ≤ qb t := by decide +kernel

/-- Every window's block index at a grid point. -/
theorem idx : ∀ t : Fin grid0.N, ((cfgA (F := Ideal)).win 0).index t = ![(qb t).val, (hd t).val] ∧ ((cfgA (F := Ideal)).win 1).index t = ![(kb t).val, (hd t).val]
    ∧ ((cfgA (F := Ideal)).win 2).index t = ![(kb t).val, (hd t).val] ∧ ((cfgA (F := Ideal)).win 3).index t = ![(qb t).val, (hd t).val]
    ∧ ((cfgA (F := Ideal)).win 4).index t = ![(qb t).val, (hd t).val] ∧ ((cfgA (F := Ideal)).win 5).index t = ![(hd t).val, (qb t).val, 0]
    ∧ ((cfgA (F := Ideal)).win 6).index t = ![0, (hd t).val] ∧ ((cfgA (F := Ideal)).win 7).index t = ![(kb t).val, (hd t).val]
    ∧ ((cfgA (F := Ideal)).win 8).index t = ![(kb t).val, (hd t).val] :=
  of_decide_eq_true (by sl_kernel_rfl)

/-- The array row of a block's row. -/
def arow (b : Fin 4) (r : Fin 1024) : Fin 4096 := ⟨b.val * 1024 + r.val, by omega⟩
/-- The array lane of a head's lane. -/
def lane (h : Fin 4) (e : Fin 256) : Fin 1024 := ⟨h.val * 256 + e.val, by omega⟩
def vlane (h : Fin 4) (e : Fin 128) : Fin 512 := ⟨h.val * 128 + e.val, by omega⟩

abbrev qA (c : Dev nD) : FVec Ideal S4096x1024 .bf16 := V m c main_v31
abbrev kA (c : Dev nD) : FVec Ideal S4096x1024 .bf16 := V m c main_v35
abbrev vA (c : Dev nD) : FVec Ideal S4096x512 .bf16 := V m c main_v38
abbrev dA (c : Dev nD) : FVec Ideal S4096x512 .f32 := V m c main_v40
abbrev oA (c : Dev nD) : FVec Ideal S4096x512 .f32 := V m c main_v24
abbrev lA (c : Dev nD) : FVec Ideal S4x4096x128 .f32 := V m c main_v27

theorem q_at (c : Dev nD) (t : Fin grid0.N) (r : Fin 1024) (e : Fin 256) : iblk m c 0 t (ix2 r e) = qA m c (ix2 (arow (qb t) r) (lane (hd t) e)) := by
  blk_point [iblk, idx t, arow, lane]
theorem k_at (c : Dev nD) (t : Fin grid0.N) (r : Fin 1024) (e : Fin 256) : iblk m c 1 t (ix2 r e) = kA m c (ix2 (arow (kb t) r) (lane (hd t) e)) := by
  blk_point [iblk, idx t, arow, lane]
theorem v_at (c : Dev nD) (t : Fin grid0.N) (r : Fin 1024) (e : Fin 128) : iblk m c 2 t (ix2 r e) = vA m c (ix2 (arow (kb t) r) (vlane (hd t) e)) := by
  blk_point [iblk, idx t, arow, vlane]
theorem d_at (c : Dev nD) (t : Fin grid0.N) (r : Fin 1024) (e : Fin 128) : iblk m c 3 t (ix2 r e) = dA m c (ix2 (arow (qb t) r) (vlane (hd t) e)) := by
  blk_point [iblk, idx t, arow, vlane]
theorem o_at (c : Dev nD) (t : Fin grid0.N) (r : Fin 1024) (e : Fin 128) : iblk m c 4 t (ix2 r e) = oA m c (ix2 (arow (qb t) r) (vlane (hd t) e)) := by
  blk_point [iblk, idx t, arow, vlane]
theorem read5 (A : FVec Ideal S4x4096x128 .f32) (t : Fin grid0.N) (r : Fin 1024) (e : Fin 128) :
   (((cfgA (F := Ideal)).win 5).blk t).view.read (Elt Ideal) A (ix3 (0 : Fin 1) r e) = A (ix3 (hd t) (arow (qb t) r) e) := by
  have h := (idx t).2.2.2.2.2.1
  refine (rfl : _ = A ((((cfgA (F := Ideal)).win 5).blk t).view.emb (ix3 (0 : Fin 1) r e))).trans (congrArg A (funext fun a => Fin.ext ?_))
  match a with
  | ⟨0, _⟩ =>
    show ((cfgA (F := Ideal)).win 5).index t 0 * 1 + 1 * 0 = hd t
    rw [h]; simp
  | ⟨1, _⟩ =>
    show ((cfgA (F := Ideal)).win 5).index t 1 * 1024 + 1 * r.val = arow (qb t) r
    rw [h]; simp [arow]
  | ⟨2, _⟩ =>
    show ((cfgA (F := Ideal)).win 5).index t 2 * 128 + 1 * e.val = e
    rw [h]; simp
theorem l_at (c : Dev nD) (t : Fin grid0.N) (r : Fin 1024) (e : Fin 128) :
    iblk m c 5 t (ix3 (0 : Fin 1) r e) = lA m c (ix3 (hd t) (arow (qb t) r) e) := read5 _ t r e

/-! ## One tile over the arrays -/

section Arrays
variable (Q K : FVec Ideal S4096x1024 .bf16) (W : FVec Ideal S4096x512 .bf16) (D O : FVec Ideal S4096x512 .f32) (L : FVec Ideal S4x4096x128 .f32)

/-- A score, a probability and the gradient of a score, over whole arrays. -/
def sc (h : Fin 4) (R C : Fin 4096) : EReal := if R < C then ⊥ else ∑ e : Fin 256, Q (ix2 R (lane h e)) * K (ix2 C (lane h e))
def pr (h : Fin 4) (R C : Fin 4096) : EReal := Ideal.exp (sc Q K h R C - L (ix3 h R ⟨C.val % 128, Nat.mod_lt _ (by decide)⟩))
def ds (h : Fin 4) (R C : Fin 4096) : EReal :=
  pr Q K L h R C * ((∑ e : Fin 128, D (ix2 R (vlane h e)) * W (ix2 C (vlane h e))) - ∑ e : Fin 128, D (ix2 R (vlane h e)) * O (ix2 R (vlane h e)))

/-- Above the diagonal there is nothing. -/
theorem pr_above (h : Fin 4) (R C : Fin 4096) (hlt : R < C) : pr Q K L h R C = 0 := by
  rw [pr, sc, if_pos hlt, EReal.bot_sub]
  rfl
theorem ds_above (h : Fin 4) (R C : Fin 4096) (hlt : R < C) : ds Q K W D O L h R C = 0 := by rw [ds, pr_above _ _ _ _ _ _ hlt, zero_mul]

end Arrays

theorem arow_lt (b b' : Fin 4) (r r' : Fin 1024) (h : b ≤ b') : (decide (b' = b) = true ∧ r < r') ↔ arow b' r < arow b r' := by
  rw [decide_eq_true_iff, Fin.lt_def, Fin.lt_def]
  show _ ↔ b'.val * 1024 + r.val < b.val * 1024 + r'.val
  have := Fin.le_def.mp h
  constructor
  · rintro ⟨rfl, h2⟩; omega
  · intro h2; exact ⟨Fin.ext (by omega), by have : b'.val = b.val := (by omega); omega⟩

theorem lane_of_key (b : Fin 4) (r : Fin 1024) : (⟨r.val % 128, Nat.mod_lt _ (by decide)⟩ : Fin 128) = ⟨(arow b r).val % 128, Nat.mod_lt _ (by decide)⟩ :=
  Fin.ext (by show r.val % 128 = (b.val * 1024 + r.val) % 128; omega)

theorem prob_at (c : Dev nD) (t : Fin grid0.N) (r r' : Fin 1024) :
    prob (diag (grid0.coords t)) (iblk m c 0 t) (iblk m c 1 t) (iblk m c 5 t) r r' = pr (qA m c) (kA m c) (lA m c) (hd t) (arow (qb t) r) (arow (kb t) r') := by
  rw [prob, score, pr, sc, l_at, lane_of_key (kb t) r', diag_eq]
  simp only [q_at, k_at, arow_lt _ _ _ _ (kb_le t)]
theorem dScore_at (c : Dev nD) (t : Fin grid0.N) (r r' : Fin 1024) :
    dScore (diag (grid0.coords t)) (iblk m c 0 t) (iblk m c 1 t) (iblk m c 5 t) (iblk m c 3 t) (iblk m c 4 t) (iblk m c 2 t) r r'
      = ds (qA m c) (kA m c) (vA m c) (dA m c) (oA m c) (lA m c) (hd t) (arow (qb t) r) (arow (kb t) r') := by
  rw [dScore, prob_at, ds]
  simp only [d_at, v_at, o_at]

/-! ## The recursion in closed form -/

/-- One query block's part of a key's gradients, one key block's part of a query's. -/
def partK (c : Dev nD) (h : Fin 4) (k : Fin 4096) (e : Fin 256) (x : Fin 4) : EReal :=
  ∑ r : Fin 1024, ds (qA m c) (kA m c) (vA m c) (dA m c) (oA m c) (lA m c) h (arow x r) k * qA m c (ix2 (arow x r) (lane h e))
def partV (c : Dev nD) (h : Fin 4) (k : Fin 4096) (e : Fin 128) (x : Fin 4) : EReal :=
  ∑ r : Fin 1024, pr (qA m c) (kA m c) (lA m c) h (arow x r) k * dA m c (ix2 (arow x r) (vlane h e))
def partQ (c : Dev nD) (h : Fin 4) (R : Fin 4096) (e : Fin 256) (x : Fin 4) : EReal :=
  ∑ r : Fin 1024, ds (qA m c) (kA m c) (vA m c) (dA m c) (oA m c) (lA m c) h R (arow x r) * kA m c (ix2 (arow x r) (lane h e))

/-- The query blocks that a point's key block has met; the key blocks that a query block has met. -/
def metQ (t : Fin grid0.N) : Finset (Fin 4) := Finset.univ.filter fun x => kb t ≤ x ∧ x ≤ qb t
def metK (t : Fin grid0.N) (b : Fin 4) : Finset (Fin 4) := Finset.univ.filter fun x => x ≤ b ∧ (![0, 3, 5, 6] x + b.val : ℕ) ≤ t.val % 10

theorem metQ_new : ∀ t : Fin grid0.N, diag (grid0.coords t) = true → metQ t = {qb t} := by decide +kernel
theorem metQ_old : ∀ t : Fin grid0.N, ∀ h : t.val + 1 < grid0.N, ¬diag (grid0.coords ⟨t.val + 1, h⟩) = true →
    hd ⟨t.val + 1, h⟩ = hd t ∧ kb ⟨t.val + 1, h⟩ = kb t ∧ metQ ⟨t.val + 1, h⟩ = insert (qb ⟨t.val + 1, h⟩) (metQ t) ∧ qb ⟨t.val + 1, h⟩ ∉ metQ t := by decide +kernel
theorem metK_new : ∀ t : Fin grid0.N, k0_cond1 (grid0.coords t) = 1#1 → ∀ b, metK t b = if b = qb t then {kb t} else ∅ := by decide +kernel
theorem metK_old : ∀ t : Fin grid0.N, ∀ h : t.val + 1 < grid0.N, ¬k0_cond1 (grid0.coords ⟨t.val + 1, h⟩) = 1#1 → hd ⟨t.val + 1, h⟩ = hd t
    ∧ ∀ b, metK ⟨t.val + 1, h⟩ b = (if b = qb ⟨t.val + 1, h⟩ then insert (kb ⟨t.val + 1, h⟩) (metK t b) else metK t b) ∧ (b = qb ⟨t.val + 1, h⟩ → kb ⟨t.val + 1, h⟩ ∉ metK t b) := by decide +kernel

theorem sumK (c : Dev nD) (t : Fin grid0.N) (r : Fin 1024) (e : Fin 256) :
    (outs m c t.val t.isLt).2.1 (ix2 r e) = ∑ x ∈ metQ t, partK m c (hd t) (arow (kb t) r) e x := by
  obtain ⟨n, hn⟩ := t
  induction n with
  | zero =>
    have h0 : diag (grid0.coords ⟨0, hn⟩) = true := decide_eq_true (first1 ⟨0, hn⟩ rfl).2
    refine (stepK_at ..).trans ?_
    rw [if_pos h0, zero_add, metQ_new _ h0, Finset.sum_singleton, partK]
    simp only [dScore_at, q_at]
  | succ n ih =>
    refine (stepK_at ..).trans ?_
    by_cases h0 : diag (grid0.coords ⟨n + 1, hn⟩) = true
    · rw [if_pos h0, zero_add, metQ_new _ h0, Finset.sum_singleton, partK]
      simp only [dScore_at, q_at]
    · obtain ⟨hh, hk, hm, hnot⟩ := metQ_old ⟨n, Nat.lt_of_succ_lt hn⟩ hn h0
      rw [if_neg h0, show (outs m c n (by omega)).2.1 (ix2 r e) = _ from ih (Nat.lt_of_succ_lt hn), hm, Finset.sum_insert hnot, add_comm, ← hh, ← hk]
      refine congrArg (· + _) ?_
      rw [partK]
      simp only [dScore_at, q_at]
theorem sumV (c : Dev nD) (t : Fin grid0.N) (r : Fin 1024) (e : Fin 128) :
    (outs m c t.val t.isLt).2.2 (ix2 r e) = ∑ x ∈ metQ t, partV m c (hd t) (arow (kb t) r) e x := by
  obtain ⟨n, hn⟩ := t
  induction n with
  | zero =>
    have h0 : diag (grid0.coords ⟨0, hn⟩) = true := decide_eq_true (first1 ⟨0, hn⟩ rfl).2
    refine (stepV_at ..).trans ?_
    rw [if_pos h0, zero_add, metQ_new _ h0, Finset.sum_singleton, partV]
    simp only [prob_at, d_at]
  | succ n ih =>
    refine (stepV_at ..).trans ?_
    by_cases h0 : diag (grid0.coords ⟨n + 1, hn⟩) = true
    · rw [if_pos h0, zero_add, metQ_new _ h0, Finset.sum_singleton, partV]
      simp only [prob_at, d_at]
    · obtain ⟨hh, hk, hm, hnot⟩ := metQ_old ⟨n, Nat.lt_of_succ_lt hn⟩ hn h0
      rw [if_neg h0, show (outs m c n (by omega)).2.2 (ix2 r e) = _ from ih (Nat.lt_of_succ_lt hn), hm, Finset.sum_insert hnot, add_comm, ← hh, ← hk]
      refine congrArg (· + _) ?_
      rw [partV]
      simp only [prob_at, d_at]

/-- The block of an array row. -/
def blockOf (R : Fin 4096) : Fin 4 := ⟨R.val / 1024, by omega⟩

theorem termQ (c : Dev nD) (t : Fin grid0.N) (R : Fin 4096) (e : Fin 256) :
    (if R.val / 1024 = (wq (grid0.coords t)).toNat then ∑ r : Fin 1024, dScore (diag (grid0.coords t)) (iblk m c 0 t) (iblk m c 1 t) (iblk m c 5 t) (iblk m c 3 t) (iblk m c 4 t) (iblk m c 2 t)
      ⟨R.val % 1024, Nat.mod_lt _ (by decide)⟩ r * iblk m c 1 t (ix2 r e) else 0)
      = if blockOf R = qb t then partQ m c (hd t) R e (kb t) else 0 := by
  rw [wq_eq]
  by_cases h : blockOf R = qb t
  · have hR : arow (qb t) ⟨R.val % 1024, Nat.mod_lt _ (by decide)⟩ = R := by
      rw [← h]; exact Fin.ext (by show R.val / 1024 * 1024 + R.val % 1024 = R.val; omega)
    rw [if_pos h, if_pos (show R.val / 1024 = (qb t).val from congrArg Fin.val h), partQ]
    simp only [dScore_at, k_at, hR]
  · rw [if_neg h, if_neg (show ¬R.val / 1024 = (qb t).val from fun h' => h (Fin.ext h'))]

theorem sumQ (c : Dev nD) (t : Fin grid0.N) (R : Fin 4096) (e : Fin 256) :
    (outs m c t.val t.isLt).1 (ix2 R e) = ∑ x ∈ metK t (blockOf R), partQ m c (hd t) R e x := by
  have new (t : Fin grid0.N) (h1 : k0_cond1 (grid0.coords t) = 1#1) (x : Vec Ideal S4096x256 .f32) :
      stepQ (grid0.coords t) (iblk m c 0 t) (iblk m c 1 t) (iblk m c 2 t) (iblk m c 3 t) (iblk m c 4 t) (iblk m c 5 t) x (ix2 R e)
        = ∑ x ∈ metK t (blockOf R), partQ m c (hd t) R e x := by
    rw [stepQ_at, if_pos h1, zero_add, termQ, metK_new t h1]
    split_ifs
    · rw [Finset.sum_singleton]
    · rw [Finset.sum_empty]
  obtain ⟨n, hn⟩ := t
  induction n with
  | zero => exact new _ (first1 ⟨0, hn⟩ rfl).1 _
  | succ n ih =>
    by_cases h1 : k0_cond1 (grid0.coords ⟨n + 1, hn⟩) = 1#1
    · exact new _ h1 _
    · obtain ⟨hh, hm⟩ := metK_old ⟨n, Nat.lt_of_succ_lt hn⟩ hn h1
      refine (stepQ_at ..).trans ?_
      rw [if_neg h1, show (outs m c n (by omega)).1 (ix2 R e) = _ from ih (Nat.lt_of_succ_lt hn), termQ, (hm _).1, ← hh]
      split_ifs with h
      · rw [Finset.sum_insert ((hm _).2 h), add_comm]
      · rw [add_zero]

/-! ## The three gradients -/

def dqH (c : Dev nD) (h : Fin 4) (R : Fin 4096) (C : Fin 1024) : EReal := ∑ k : Fin 4096, ds (qA m c) (kA m c) (vA m c) (dA m c) (oA m c) (lA m c) h R k * kA m c (ix2 k C)
def dkH (c : Dev nD) (h : Fin 4) (k : Fin 4096) (C : Fin 1024) : EReal := ∑ q : Fin 4096, ds (qA m c) (kA m c) (vA m c) (dA m c) (oA m c) (lA m c) h q k * qA m c (ix2 q C)
def dvH (c : Dev nD) (h : Fin 4) (k : Fin 4096) (C : Fin 512) : EReal := ∑ q : Fin 4096, pr (qA m c) (kA m c) (lA m c) h q k * dA m c (ix2 q C)
/-- The head of an array's lane. -/
def head (C : Fin 1024) : Fin 4 := ⟨C.val / 256, by omega⟩
def vhead (C : Fin 512) : Fin 4 := ⟨C.val / 128, by omega⟩
def dqA (c : Dev nD) : FVec Ideal S4096x1024 .f32 := fun i => dqH m c (head (i 1)) (i 0) (i 1)
def dkA (c : Dev nD) : FVec Ideal S4096x1024 .f32 := fun i => dkH m c (head (i 1)) (i 0) (i 1)
def dvA (c : Dev nD) : FVec Ideal S4096x512 .f32 := fun i => dvH m c (vhead (i 1)) (i 0) (i 1)

theorem head_lane (h : Fin 4) (e : Fin 256) : head (lane h e) = h := Fin.ext (by show (h.val * 256 + e.val) / 256 = h.val; omega)
theorem head_vlane (h : Fin 4) (e : Fin 128) : vhead (vlane h e) = h := Fin.ext (by show (h.val * 128 + e.val) / 128 = h.val; omega)
theorem dqA_at (c : Dev nD) (h : Fin 4) (R : Fin 4096) (e : Fin 256) : dqA m c (ix2 R (lane h e)) = dqH m c h R (lane h e) :=
  congrArg (fun h' => dqH m c h' R (lane h e)) (head_lane h e)
theorem dkA_at (c : Dev nD) (h : Fin 4) (k : Fin 4096) (e : Fin 256) : dkA m c (ix2 k (lane h e)) = dkH m c h k (lane h e) :=
  congrArg (fun h' => dkH m c h' k (lane h e)) (head_lane h e)
theorem dvA_at (c : Dev nD) (h : Fin 4) (k : Fin 4096) (e : Fin 128) : dvA m c (ix2 k (vlane h e)) = dvH m c h k (vlane h e) :=
  congrArg (fun h' => dvH m c h' k (vlane h e)) (head_vlane h e)

/-- A sum over the blocks met is one over all rows where the others contribute nothing. -/
theorem sum_met (s : Finset (Fin 4)) (f : Fin 4096 → EReal) (h : ∀ x ∉ s, ∀ r, f (arow x r) = 0) : ∑ x ∈ s, ∑ r : Fin 1024, f (arow x r) = ∑ R : Fin 4096, f R :=
  (Finset.sum_subset (Finset.subset_univ s) fun x _ hx => Finset.sum_eq_zero fun r _ => h x hx r).trans
    (Fin.sum_mul_add_congr (S := 4) (n := 1024) fun x r hl => rfl)

theorem last7 : ∀ t : Fin grid0.N, ((cfgA (F := Ideal)).win 7).flush t = true → qb t = 3 := of_decide_eq_true (by sl_kernel_rfl)
theorem last8 : ∀ t : Fin grid0.N, ((cfgA (F := Ideal)).win 8).flush t = true → qb t = 3 := of_decide_eq_true (by sl_kernel_rfl)
theorem last6 : ∀ t : Fin grid0.N, ((cfgA (F := Ideal)).win 6).flush t = true → t.val % 10 = 9 := of_decide_eq_true (by sl_kernel_rfl)

theorem unmetQ (t : Fin grid0.N) (h : qb t = 3) (x : Fin 4) (hx : x ∉ metQ t) (r r' : Fin 1024) : arow x r < arow (kb t) r' := by
  have : x < kb t := by
    by_contra hc
    exact hx (Finset.mem_filter.mpr ⟨Finset.mem_univ _, by omega, by rw [h]; omega⟩)
  show x.val * 1024 + r.val < (kb t).val * 1024 + r'.val
  omega
theorem unmetK (t : Fin grid0.N) (h : t.val % 10 = 9) (R : Fin 4096) (x : Fin 4) (hx : x ∉ metK t (blockOf R)) (r : Fin 1024) : R < arow x r := by
  have le : ∀ x b : Fin 4, x ≤ b → (![0, 3, 5, 6] x + b.val : ℕ) ≤ 9 := by decide
  have : blockOf R < x := by
    by_contra hc
    exact hx (Finset.mem_filter.mpr ⟨Finset.mem_univ _, by omega, by rw [h]; exact le _ _ (by omega)⟩)
  have : R.val / 1024 < x.val := this
  show R.val < x.val * 1024 + r.val
  omega

theorem final_dq (c : Dev nD) : (dats m 0 c).arrAt 6 (cfgA (F := Ideal)).N = dqA m c := by
  refine (dats m 0 c).arrAt_eq_of_covers 6 _ (by decide +kernel) fun t hf y => ?_
  have h9 := last6 t hf
  blk_simp
  rw [after6]
  obtain ⟨R, e, rfl⟩ : ∃ (R : Fin 4096) (e : Fin 256), y = ix2 R e := ⟨y 0, y 1, eq_ix2 y⟩
  have h : (outs m c t.val t.isLt).1 (ix2 R e) = dqA m c (ix2 R (lane (hd t) e)) := by
    rw [sumQ]
    refine (sum_met _ (fun k => ds (qA m c) (kA m c) (vA m c) (dA m c) (oA m c) (lA m c) (hd t) R k * kA m c (ix2 k (lane (hd t) e)))
      fun x hx r => by rw [ds_above _ _ _ _ _ _ _ _ _ (unmetK t h9 R x hx r), zero_mul]).trans (dqA_at ..).symm
  refine h.trans (congrArg (dqA m c) ?_)
  blk_point [idx t, lane]
theorem final_dk (c : Dev nD) : (dats m 0 c).arrAt 7 (cfgA (F := Ideal)).N = dkA m c := by
  refine (dats m 0 c).arrAt_eq_of_covers 7 _ (by decide +kernel) fun t hf y => ?_
  have h3 := last7 t hf
  blk_simp
  rw [after7]
  obtain ⟨r, e, rfl⟩ : ∃ (r : Fin 1024) (e : Fin 256), y = ix2 r e := ⟨y 0, y 1, eq_ix2 y⟩
  have h : (outs m c t.val t.isLt).2.1 (ix2 r e) = dkA m c (ix2 (arow (kb t) r) (lane (hd t) e)) := by
    rw [sumK]
    refine (sum_met _ (fun q => ds (qA m c) (kA m c) (vA m c) (dA m c) (oA m c) (lA m c) (hd t) q (arow (kb t) r) * qA m c (ix2 q (lane (hd t) e)))
      fun x hx r' => by rw [ds_above _ _ _ _ _ _ _ _ _ (unmetQ t h3 x hx r' r), zero_mul]).trans (dkA_at ..).symm
  refine h.trans (congrArg (dkA m c) ?_)
  blk_point [idx t, lane, arow]
theorem final_dv (c : Dev nD) : (dats m 0 c).arrAt 8 (cfgA (F := Ideal)).N = dvA m c := by
  refine (dats m 0 c).arrAt_eq_of_covers 8 _ (by decide +kernel) fun t hf y => ?_
  have h3 := last8 t hf
  blk_simp
  rw [after8]
  obtain ⟨r, e, rfl⟩ : ∃ (r : Fin 1024) (e : Fin 128), y = ix2 r e := ⟨y 0, y 1, eq_ix2 y⟩
  have h : (outs m c t.val t.isLt).2.2 (ix2 r e) = dvA m c (ix2 (arow (kb t) r) (vlane (hd t) e)) := by
    rw [sumV]
    refine (sum_met _ (fun q => pr (qA m c) (kA m c) (lA m c) (hd t) q (arow (kb t) r) * dA m c (ix2 q (vlane (hd t) e)))
      fun x hx r' => by rw [pr_above _ _ _ _ _ _ (unmetQ t h3 x hx r' r), zero_mul]).trans (dvA_at ..).symm
  refine h.trans (congrArg (dvA m c) ?_)
  blk_point [idx t, vlane, arow]

/-- The run leaves the three gradients, and the arguments as they were. -/
theorem run_arrays (ρ : Dev nD → PrngReg) : θ_run defs (onTc (τ := τ) (main (F := Ideal))) ⟨m, fun _ => 0, ρ⟩ (fun r => ∀ c : Dev nD,
      r.2.mem ((c.tc : Thread nD τ).loc main_v41_0) = dqA m c
      ∧ r.2.mem ((c.tc : Thread nD τ).loc main_v41_1) = dkA m c
      ∧ r.2.mem ((c.tc : Thread nD τ).loc main_v41_2) = dvA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 6).trans (final_dq m c), ((h.1 c).1 7).trans (final_dk m c), ((h.1 c).1 8).trans (final_dv m c), args_after m r h.1 c⟩)
    (run_main m ρ)

end Cert.KernelAttnIdeal.Run
end
-- ==== Proof.AttnRefRun.lean ====
/-
  The reference of the attention backward has no kernel: its @main is one straight line of host operations. Here they are
  as a list, and its run read back value by value.
-/
module

public import proofs.«01_k».proof.Proof.Gen.ReferenceAttnIdeal
public import proofs.«01_k».proof.Defs
public import Idealize.ShloMosaic.Lib.StableHlo.Run

@[expose] public section

noncomputable section

namespace Cert.Proof.AttnRef

open Cert.ReferenceAttnIdeal Cert.ReferenceAttnIdeal.Gen Idealize.ShloMosaic Idealize.ShloMosaic.TcCoe Idealize.SL.Sem Idealize.ShloMosaic.StableHlo

variable {F : FTy → Type} [FloatOps F]

/-- The arrays of one shape and element type. -/
abbrev V (F : FTy → Type) (s : Shape) (e : EltTy) : Type := (⟨s, e⟩ : BufTy).Contents (Elt F)

abbrev ops : List (HloOp τ sig (Elt F)) :=
  [ reshape main_arg0 main_v0 rfl shapeCasts_S1x4096x4x192_S4096x4x192,
    reshape main_arg1 main_v1 rfl shapeCasts_S1x4096x4x192_S4096x4x192,
    reshape main_arg2 main_v2 rfl shapeCasts_S1x4096x4x128_S4096x4x128,
    binary main_v0 main_v1 main_v3 ((fun l r => Host.dotGeneral dot_S4096x4x192_S4096x4x192_S4x4096x4096_2_2_0_0_1_1 none l r) : V F S4096x4x192 .f32 → V F S4096x4x192 .f32 → V F S4x4096x4096 .f32),
    nullary main_v4 (iotaInDim S4096 32 0),
    unary main_v4 main_v5 (broadcastInDim S4096x1 ![0] bcast_S4096_S4096x1_0 : V F S4096 .i32 → V F S4096x1 .i32),
    unary main_v4 main_v6 (broadcastInDim S1x4096 ![1] bcast_S4096_S1x4096_1 : V F S4096 .i32 → V F S1x4096 .i32),
    unary main_v5 main_v7 (broadcastInDim S4096x4096 ![0, 1] bcast_S4096x1_S4096x4096_0_1 : V F S4096x1 .i32 → V F S4096x4096 .i32),
    unary main_v6 main_v8 (broadcastInDim S4096x4096 ![0, 1] bcast_S1x4096_S4096x4096_0_1 : V F S1x4096 .i32 → V F S4096x4096 .i32),
    binary main_v7 main_v8 main_v9 (cmpi .sge : V F S4096x4096 .i32 → V F S4096x4096 .i32 → V F S4096x4096 .i1),
    unary main_v9 main_v10 (broadcastInDim S4x4096x4096 ![1, 2] bcast_S4096x4096_S4x4096x4096_1_2 : V F S4096x4096 .i1 → V F S4x4096x4096 .i1),
    nullary main_cst (constant S_ .f32 0xFF800000#32),
    unary main_cst main_v11 (broadcastInDim S4x4096x4096 ![] bcast_S_S4x4096x4096 : V F S_ .f32 → V F S4x4096x4096 .f32),
    ternary main_v10 main_v3 main_v11 main_v12 (select : V F S4x4096x4096 .i1 → V F S4x4096x4096 .f32 → V F S4x4096x4096 .f32 → V F S4x4096x4096 .f32),
    nullary main_cst_0 (constant S_ .f32 0x00000000#32),
    unary main_cst_0 main_v13 (broadcastInDim S4x4096x4096 ![] bcast_S_S4x4096x4096 : V F S_ .f32 → V F S4x4096x4096 .f32),
    nullary main_cst_1 (constant S_ .f32 0xFF800000#32),
    binary main_v12 main_cst_1 main_v14 ((fun x v => Host.reduce FloatOps.maximumf x v reducesTo_S4x4096x4096_S4x4096_d2 h_S_) : V F S4x4096x4096 .f32 → V F S_ .f32 → V F S4x4096 .f32),
    reshape main_v14 main_v15 rfl shapeCasts_S4x4096_S4x4096x1,
    unary main_v15 main_v16 (broadcastInDim S4x4096x4096 ![0, 1, 2] bcast_S4x4096x1_S4x4096x4096_0_1_2 : V F S4x4096x1 .f32 → V F S4x4096x4096 .f32),
    binary main_v12 main_v16 main_v17 (cmpf .oeq : V F S4x4096x4096 .f32 → V F S4x4096x4096 .f32 → V F S4x4096x4096 .i1),
    unary main_v17 main_v18 (uitofp .f32 : V F S4x4096x4096 .i1 → V F S4x4096x4096 .f32),
    nullary main_cst_2 (constant S_ .f32 0x00000000#32),
    binary main_v18 main_cst_2 main_v19 ((fun x v => Host.reduceAdd x v reducesTo_S4x4096x4096_S4x4096_d2 h_S_) : V F S4x4096x4096 .f32 → V F S_ .f32 → V F S4x4096 .f32),
    nullary main_cst_3 (constant S_ .f32 0xFF800000#32),
    unary main_cst_3 main_v20 (broadcastInDim S4x4096 ![] bcast_S_S4x4096 : V F S_ .f32 → V F S4x4096 .f32),
    binary main_v20 main_v14 main_v21 (maximumf : V F S4x4096 .f32 → V F S4x4096 .f32 → V F S4x4096 .f32),
    nullary main_cst_4 (constant S_ .f32 0xFF800000#32),
    unary main_cst_4 main_v22 (broadcastInDim S4x4096 ![] bcast_S_S4x4096 : V F S_ .f32 → V F S4x4096 .f32),
    binary main_v14 main_v22 main_v23 (cmpf .ogt : V F S4x4096 .f32 → V F S4x4096 .f32 → V F S4x4096 .i1),
    nullary main_cst_5 (constant S_ .f32 0xFF800000#32),
    unary main_cst_5 main_v24 (broadcastInDim S4x4096 ![] bcast_S_S4x4096 : V F S_ .f32 → V F S4x4096 .f32),
    binary main_v14 main_v24 main_v25 (cmpf .oeq : V F S4x4096 .f32 → V F S4x4096 .f32 → V F S4x4096 .i1),
    nullary main_cst_6 (constant S_ .f32 0x3F800000#32),
    unary main_cst_6 main_v26 (broadcastInDim S4x4096 ![] bcast_S_S4x4096 : V F S_ .f32 → V F S4x4096 .f32),
    nullary main_cst_7 (constant S_ .f32 0x00000000#32),
    unary main_cst_7 main_v27 (broadcastInDim S4x4096 ![] bcast_S_S4x4096 : V F S_ .f32 → V F S4x4096 .f32),
    nullary main_cst_8 (constant S_ .f32 0x3F000000#32),
    unary main_cst_8 main_v28 (broadcastInDim S4x4096 ![] bcast_S_S4x4096 : V F S_ .f32 → V F S4x4096 .f32),
    ternary main_v25 main_v28 main_v27 main_v29 (select : V F S4x4096 .i1 → V F S4x4096 .f32 → V F S4x4096 .f32 → V F S4x4096 .f32),
    ternary main_v23 main_v26 main_v29 main_v30 (select : V F S4x4096 .i1 → V F S4x4096 .f32 → V F S4x4096 .f32 → V F S4x4096 .f32),
    unary main_v21 main_v31 (broadcastInDim S4x4096x1 ![0, 1] bcast_S4x4096_S4x4096x1_0_1 : V F S4x4096 .f32 → V F S4x4096x1 .f32),
    unary main_v31 main_v32 (broadcastInDim S4x4096x4096 ![0, 1, 2] bcast_S4x4096x1_S4x4096x4096_0_1_2 : V F S4x4096x1 .f32 → V F S4x4096x4096 .f32),
    binary main_v12 main_v32 main_v33 (subf : V F S4x4096x4096 .f32 → V F S4x4096x4096 .f32 → V F S4x4096x4096 .f32),
    unary main_v33 main_v34 (Host.exp : V F S4x4096x4096 .f32 → V F S4x4096x4096 .f32),
    nullary main_cst_9 (constant S_ .f32 0x00000000#32),
    binary main_v34 main_cst_9 main_v35 ((fun x v => Host.reduceAdd x v reducesTo_S4x4096x4096_S4x4096_d2 h_S_) : V F S4x4096x4096 .f32 → V F S_ .f32 → V F S4x4096 .f32),
    unary main_v35 main_v36 (broadcastInDim S4x4096x1 ![0, 1] bcast_S4x4096_S4x4096x1_0_1 : V F S4x4096 .f32 → V F S4x4096x1 .f32),
    unary main_v36 main_v37 (broadcastInDim S4x4096x4096 ![0, 1, 2] bcast_S4x4096x1_S4x4096x4096_0_1_2 : V F S4x4096x1 .f32 → V F S4x4096x4096 .f32),
    binary main_v34 main_v37 main_v38 (Host.divf : V F S4x4096x4096 .f32 → V F S4x4096x4096 .f32 → V F S4x4096x4096 .f32),
    binary main_v36 main_v36 main_v39 (mulf : V F S4x4096x1 .f32 → V F S4x4096x1 .f32 → V F S4x4096x1 .f32),
    nullary main_cst_10 (constant S_ .f32 0x3F800000#32),
    unary main_cst_10 main_v40 (broadcastInDim S4x4096x1 ![] bcast_S_S4x4096x1 : V F S_ .f32 → V F S4x4096x1 .f32),
    binary main_v40 main_v39 main_v41 (Host.divf : V F S4x4096x1 .f32 → V F S4x4096x1 .f32 → V F S4x4096x1 .f32),
    binary main_v2 main_v38 main_v42 ((fun l r => Host.dotGeneral dot_S4096x4x128_S4x4096x4096_S4x128x4096_0_2_2_1_1_0 none l r) : V F S4096x4x128 .f32 → V F S4x4096x4096 .f32 → V F S4x128x4096 .f32),
    unary main_v42 main_v43 ((transpose S4096x4x128 [2, 0, 1] · transposes_S4x128x4096_S4096x4x128_2_0_1) : V F S4x128x4096 .f32 → V F S4096x4x128 .f32),
    reshape main_arg3 main_v44 rfl shapeCasts_S1x4096x4x128_S4096x4x128,
    unary main_v44 main_v45 ((transpose S4x128x4096 [1, 2, 0] · transposes_S4096x4x128_S4x128x4096_1_2_0) : V F S4096x4x128 .f32 → V F S4x128x4096 .f32),
    binary main_v45 main_v2 main_v46 ((fun l r => Host.dotGeneral dot_S4x128x4096_S4096x4x128_S4x4096x4096_1_2_2_0_0_1 none l r) : V F S4x128x4096 .f32 → V F S4096x4x128 .f32 → V F S4x4096x4096 .f32),
    binary main_v45 main_v38 main_v47 ((fun l r => Host.dotGeneral dot_S4x128x4096_S4x4096x4096_S4x128x4096_2_1_1_2_0_0 none l r) : V F S4x128x4096 .f32 → V F S4x4096x4096 .f32 → V F S4x128x4096 .f32),
    unary main_v47 main_v48 ((transpose S4096x4x128 [2, 0, 1] · transposes_S4x128x4096_S4096x4x128_2_0_1) : V F S4x128x4096 .f32 → V F S4096x4x128 .f32),
    unary main_v41 main_v49 (broadcastInDim S4x4096x4096 ![0, 1, 2] bcast_S4x4096x1_S4x4096x4096_0_1_2 : V F S4x4096x1 .f32 → V F S4x4096x4096 .f32),
    binary main_v46 main_v49 main_v50 (mulf : V F S4x4096x4096 .f32 → V F S4x4096x4096 .f32 → V F S4x4096x4096 .f32),
    binary main_v50 main_v34 main_v51 (mulf : V F S4x4096x4096 .f32 → V F S4x4096x4096 .f32 → V F S4x4096x4096 .f32),
    nullary main_cst_11 (constant S_ .f32 0x00000000#32),
    binary main_v51 main_cst_11 main_v52 ((fun x v => Host.reduceAdd x v reducesTo_S4x4096x4096_S4x4096_d2 h_S_) : V F S4x4096x4096 .f32 → V F S_ .f32 → V F S4x4096 .f32),
    reshape main_v52 main_v53 rfl shapeCasts_S4x4096_S4x4096x1,
    unary main_v53 main_v54 (Host.negf : V F S4x4096x1 .f32 → V F S4x4096x1 .f32),
    unary main_v36 main_v55 (broadcastInDim S4x4096x4096 ![0, 1, 2] bcast_S4x4096x1_S4x4096x4096_0_1_2 : V F S4x4096x1 .f32 → V F S4x4096x4096 .f32),
    binary main_v46 main_v55 main_v56 (Host.divf : V F S4x4096x4096 .f32 → V F S4x4096x4096 .f32 → V F S4x4096x4096 .f32),
    nullary main_cst_12 (constant S_ .f32 0x00000000#32),
    binary main_v54 main_cst_12 main_v57 ((fun x v => Host.reduceAdd x v reducesTo_S4x4096x1_S4x4096_d2 h_S_) : V F S4x4096x1 .f32 → V F S_ .f32 → V F S4x4096 .f32),
    unary main_v57 main_v58 (broadcastInDim S4x4096x4096 ![0, 1] bcast_S4x4096_S4x4096x4096_0_1 : V F S4x4096 .f32 → V F S4x4096x4096 .f32),
    binary main_v56 main_v58 main_v59 (addf : V F S4x4096x4096 .f32 → V F S4x4096x4096 .f32 → V F S4x4096x4096 .f32),
    binary main_v59 main_v34 main_v60 (mulf : V F S4x4096x4096 .f32 → V F S4x4096x4096 .f32 → V F S4x4096x4096 .f32),
    nullary main_cst_13 (constant S_ .f32 0x00000000#32),
    unary main_cst_13 main_v61 (broadcastInDim S4x4096x4096 ![] bcast_S_S4x4096x4096 : V F S_ .f32 → V F S4x4096x4096 .f32),
    ternary main_v10 main_v60 main_v61 main_v62 (select : V F S4x4096x4096 .i1 → V F S4x4096x4096 .f32 → V F S4x4096x4096 .f32 → V F S4x4096x4096 .f32),
    binary main_v62 main_v0 main_v63 ((fun l r => Host.dotGeneral dot_S4x4096x4096_S4096x4x192_S4x4096x192_1_0_2_2_0_1 none l r) : V F S4x4096x4096 .f32 → V F S4096x4x192 .f32 → V F S4x4096x192 .f32),
    unary main_v63 main_v64 ((transpose S4096x4x192 [1, 0, 2] · transposes_S4x4096x192_S4096x4x192_1_0_2) : V F S4x4096x192 .f32 → V F S4096x4x192 .f32),
    binary main_v62 main_v1 main_v65 ((fun l r => Host.dotGeneral dot_S4x4096x4096_S4096x4x192_S4x4096x192_2_0_1_2_0_1 none l r) : V F S4x4096x4096 .f32 → V F S4096x4x192 .f32 → V F S4x4096x192 .f32),
    unary main_v65 main_v66 ((transpose S4096x4x192 [1, 0, 2] · transposes_S4x4096x192_S4096x4x192_1_0_2) : V F S4x4096x192 .f32 → V F S4096x4x192 .f32),
    unary main_v48 main_v67 (broadcastInDim S1x4096x4x128 ![1, 2, 3] bcast_S4096x4x128_S1x4096x4x128_1_2_3 : V F S4096x4x128 .f32 → V F S1x4096x4x128 .f32),
    unary main_v64 main_v68 (broadcastInDim S1x4096x4x192 ![1, 2, 3] bcast_S4096x4x192_S1x4096x4x192_1_2_3 : V F S4096x4x192 .f32 → V F S1x4096x4x192 .f32),
    unary main_v66 main_v69 (broadcastInDim S1x4096x4x192 ![1, 2, 3] bcast_S4096x4x192_S1x4096x4x192_1_2_3 : V F S4096x4x192 .f32 → V F S1x4096x4x192 .f32),
    reshape main_v69 main_v70 rfl shapeCasts_S1x4096x4x192_S4096x4x192,
    nullary main_cst_14 (constant S_ .f32 0x00000000#32),
    binary main_v70 main_cst_14 main_v71 ((fun x v => pad S4096x4x256 ![0, 0, 0] ![0, 0, 64] ![0, 0, 0] x v pads_S4096x4x192_S4096x4x256_000_000_0640 h_S_) : V F S4096x4x192 .f32 → V F S_ .f32 → V F S4096x4x256 .f32),
    reshape main_v71 main_v72 rfl shapeCasts_S4096x4x256_S4096x1024,
    reshape main_v68 main_v73 rfl shapeCasts_S1x4096x4x192_S4096x4x192,
    nullary main_cst_15 (constant S_ .f32 0x00000000#32),
    binary main_v73 main_cst_15 main_v74 ((fun x v => pad S4096x4x256 ![0, 0, 0] ![0, 0, 64] ![0, 0, 0] x v pads_S4096x4x192_S4096x4x256_000_000_0640 h_S_) : V F S4096x4x192 .f32 → V F S_ .f32 → V F S4096x4x256 .f32),
    reshape main_v74 main_v75 rfl shapeCasts_S4096x4x256_S4096x1024,
    reshape main_v67 main_v76 rfl shapeCasts_S1x4096x4x128_S4096x4x128,
    reshape main_v76 main_v77 rfl shapeCasts_S4096x4x128_S4096x512 ]

set_option maxHeartbeats 40000000 in
theorem main_eq (c : Dev nD) : main (F := F) c = seq ops := rfl

set_option maxHeartbeats 4000000 in
theorem ops_bufs : (ops : List (HloOp τ sig (Elt F))).Forall fun op => op.bufs ⊆ tcRefs τ sig :=
  ⟨reshape_bufs_sub .., reshape_bufs_sub .., reshape_bufs_sub .., binary_bufs_sub .., nullary_bufs_sub .., unary_bufs_sub .., unary_bufs_sub .., unary_bufs_sub .., unary_bufs_sub .., binary_bufs_sub .., unary_bufs_sub .., nullary_bufs_sub .., unary_bufs_sub .., ternary_bufs_sub .., nullary_bufs_sub .., unary_bufs_sub .., nullary_bufs_sub .., binary_bufs_sub .., reshape_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub .., nullary_bufs_sub .., unary_bufs_sub .., ternary_bufs_sub .., binary_bufs_sub .., unary_bufs_sub .., binary_bufs_sub .., unary_bufs_sub .., unary_bufs_sub .., unary_bufs_sub .., unary_bufs_sub .., reshape_bufs_sub .., nullary_bufs_sub .., binary_bufs_sub .., reshape_bufs_sub .., reshape_bufs_sub .., nullary_bufs_sub .., binary_bufs_sub .., reshape_bufs_sub .., reshape_bufs_sub .., reshape_bufs_sub ..⟩

/-! ## What the operations compute, value by value -/

def seen  : V F S4x4096x4096 .i1 :=
  broadcastInDim S4x4096x4096 ![1, 2] bcast_S4096x4096_S4x4096x4096_1_2 (cmpi .sge (broadcastInDim S4096x4096 ![0, 1] bcast_S4096x1_S4096x4096_0_1 (broadcastInDim S4096x1 ![0] bcast_S4096_S4096x1_0 ((iotaInDim S4096 32 0)))) (broadcastInDim S4096x4096 ![0, 1] bcast_S1x4096_S4096x4096_0_1 (broadcastInDim S1x4096 ![1] bcast_S4096_S1x4096_1 ((iotaInDim S4096 32 0)))))

def scores (a0 : V F S1x4096x4x192 .f32) (a1 : V F S1x4096x4x192 .f32) : V F S4x4096x4096 .f32 :=
  select (seen (F := F)) (Host.dotGeneral dot_S4096x4x192_S4096x4x192_S4x4096x4096_2_2_0_0_1_1 none (shapeCast S4096x4x192 a0 shapeCasts_S1x4096x4x192_S4096x4x192) (shapeCast S4096x4x192 a1 shapeCasts_S1x4096x4x192_S4096x4x192)) (broadcastInDim S4x4096x4096 ![] bcast_S_S4x4096x4096 ((constant S_ .f32 0xFF800000#32)))

def top (a0 : V F S1x4096x4x192 .f32) (a1 : V F S1x4096x4x192 .f32) : V F S4x4096 .f32 :=
  Host.reduce FloatOps.maximumf (scores a0 a1) ((constant S_ .f32 0xFF800000#32)) reducesTo_S4x4096x4096_S4x4096_d2 h_S_

def shift (a0 : V F S1x4096x4x192 .f32) (a1 : V F S1x4096x4x192 .f32) : V F S4x4096 .f32 :=
  maximumf (broadcastInDim S4x4096 ![] bcast_S_S4x4096 ((constant S_ .f32 0xFF800000#32))) (top a0 a1)

def weights (a0 : V F S1x4096x4x192 .f32) (a1 : V F S1x4096x4x192 .f32) : V F S4x4096x4096 .f32 :=
  Host.exp (subf (scores a0 a1) (broadcastInDim S4x4096x4096 ![0, 1, 2] bcast_S4x4096x1_S4x4096x4096_0_1_2 (broadcastInDim S4x4096x1 ![0, 1] bcast_S4x4096_S4x4096x1_0_1 (shift a0 a1))))

def total (a0 : V F S1x4096x4x192 .f32) (a1 : V F S1x4096x4x192 .f32) : V F S4x4096x1 .f32 :=
  broadcastInDim S4x4096x1 ![0, 1] bcast_S4x4096_S4x4096x1_0_1 (Host.reduceAdd (weights a0 a1) ((constant S_ .f32 0x00000000#32)) reducesTo_S4x4096x4096_S4x4096_d2 h_S_)

def probs (a0 : V F S1x4096x4x192 .f32) (a1 : V F S1x4096x4x192 .f32) : V F S4x4096x4096 .f32 :=
  Host.divf (weights a0 a1) (broadcastInDim S4x4096x4096 ![0, 1, 2] bcast_S4x4096x1_S4x4096x4096_0_1_2 (total a0 a1))

def cot (a3 : V F S1x4096x4x128 .f32) : V F S4x128x4096 .f32 :=
  transpose S4x128x4096 [1, 2, 0] (shapeCast S4096x4x128 a3 shapeCasts_S1x4096x4x128_S4096x4x128) transposes_S4096x4x128_S4x128x4096_1_2_0

def dProbs (a2 : V F S1x4096x4x128 .f32) (a3 : V F S1x4096x4x128 .f32) : V F S4x4096x4096 .f32 :=
  Host.dotGeneral dot_S4x128x4096_S4096x4x128_S4x4096x4096_1_2_2_0_0_1 none (cot a3) (shapeCast S4096x4x128 a2 shapeCasts_S1x4096x4x128_S4096x4x128)

def invSq (a0 : V F S1x4096x4x192 .f32) (a1 : V F S1x4096x4x192 .f32) : V F S4x4096x4096 .f32 :=
  broadcastInDim S4x4096x4096 ![0, 1, 2] bcast_S4x4096x1_S4x4096x4096_0_1_2 (Host.divf (broadcastInDim S4x4096x1 ![] bcast_S_S4x4096x1 ((constant S_ .f32 0x3F800000#32))) (mulf (total a0 a1) (total a0 a1)))

def mean (a0 : V F S1x4096x4x192 .f32) (a1 : V F S1x4096x4x192 .f32) (a2 : V F S1x4096x4x128 .f32) (a3 : V F S1x4096x4x128 .f32) : V F S4x4096x4096 .f32 :=
  broadcastInDim S4x4096x4096 ![0, 1] bcast_S4x4096_S4x4096x4096_0_1 (Host.reduceAdd (Host.negf (shapeCast S4x4096x1 (Host.reduceAdd (mulf (mulf (dProbs a2 a3) (invSq a0 a1)) (weights a0 a1)) ((constant S_ .f32 0x00000000#32)) reducesTo_S4x4096x4096_S4x4096_d2 h_S_) shapeCasts_S4x4096_S4x4096x1)) ((constant S_ .f32 0x00000000#32)) reducesTo_S4x4096x1_S4x4096_d2 h_S_)

def dScores (a0 : V F S1x4096x4x192 .f32) (a1 : V F S1x4096x4x192 .f32) (a2 : V F S1x4096x4x128 .f32) (a3 : V F S1x4096x4x128 .f32) : V F S4x4096x4096 .f32 :=
  select (seen (F := F)) (mulf (addf (Host.divf (dProbs a2 a3) (broadcastInDim S4x4096x4096 ![0, 1, 2] bcast_S4x4096x1_S4x4096x4096_0_1_2 (total a0 a1))) (mean a0 a1 a2 a3)) (weights a0 a1)) (broadcastInDim S4x4096x4096 ![] bcast_S_S4x4096x4096 ((constant S_ .f32 0x00000000#32)))

def dQ (a0 : V F S1x4096x4x192 .f32) (a1 : V F S1x4096x4x192 .f32) (a2 : V F S1x4096x4x128 .f32) (a3 : V F S1x4096x4x128 .f32) : V F S4096x1024 .f32 :=
  shapeCast S4096x1024 (pad S4096x4x256 ![0, 0, 0] ![0, 0, 64] ![0, 0, 0] (shapeCast S4096x4x192 (broadcastInDim S1x4096x4x192 ![1, 2, 3] bcast_S4096x4x192_S1x4096x4x192_1_2_3 (transpose S4096x4x192 [1, 0, 2] (Host.dotGeneral dot_S4x4096x4096_S4096x4x192_S4x4096x192_2_0_1_2_0_1 none (dScores a0 a1 a2 a3) (shapeCast S4096x4x192 a1 shapeCasts_S1x4096x4x192_S4096x4x192)) transposes_S4x4096x192_S4096x4x192_1_0_2)) shapeCasts_S1x4096x4x192_S4096x4x192) ((constant S_ .f32 0x00000000#32)) pads_S4096x4x192_S4096x4x256_000_000_0640 h_S_) shapeCasts_S4096x4x256_S4096x1024

def dK (a0 : V F S1x4096x4x192 .f32) (a1 : V F S1x4096x4x192 .f32) (a2 : V F S1x4096x4x128 .f32) (a3 : V F S1x4096x4x128 .f32) : V F S4096x1024 .f32 :=
  shapeCast S4096x1024 (pad S4096x4x256 ![0, 0, 0] ![0, 0, 64] ![0, 0, 0] (shapeCast S4096x4x192 (broadcastInDim S1x4096x4x192 ![1, 2, 3] bcast_S4096x4x192_S1x4096x4x192_1_2_3 (transpose S4096x4x192 [1, 0, 2] (Host.dotGeneral dot_S4x4096x4096_S4096x4x192_S4x4096x192_1_0_2_2_0_1 none (dScores a0 a1 a2 a3) (shapeCast S4096x4x192 a0 shapeCasts_S1x4096x4x192_S4096x4x192)) transposes_S4x4096x192_S4096x4x192_1_0_2)) shapeCasts_S1x4096x4x192_S4096x4x192) ((constant S_ .f32 0x00000000#32)) pads_S4096x4x192_S4096x4x256_000_000_0640 h_S_) shapeCasts_S4096x4x256_S4096x1024

def dV (a0 : V F S1x4096x4x192 .f32) (a1 : V F S1x4096x4x192 .f32) (a3 : V F S1x4096x4x128 .f32) : V F S4096x512 .f32 :=
  shapeCast S4096x512 (shapeCast S4096x4x128 (broadcastInDim S1x4096x4x128 ![1, 2, 3] bcast_S4096x4x128_S1x4096x4x128_1_2_3 (transpose S4096x4x128 [2, 0, 1] (Host.dotGeneral dot_S4x128x4096_S4x4096x4096_S4x128x4096_2_1_1_2_0_0 none (cot a3) (probs a0 a1)) transposes_S4x128x4096_S4096x4x128_2_0_1)) shapeCasts_S1x4096x4x128_S4096x4x128) shapeCasts_S4096x4x128_S4096x512

set_option maxHeartbeats 40000000 in
/-- Every run terminates with the results at these values of the arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = dQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v75) = dK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v77) = dV (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v72).trans (by after_results <;> rfl),
      (h c main_v75).trans (by after_results <;> rfl),
      (h c main_v77).trans (by after_results <;> rfl),
      (h c main_arg0).trans (by after_results <;> rfl),
      (h c main_arg1).trans (by after_results <;> rfl),
      (h c main_arg2).trans (by after_results <;> rfl),
      (h c main_arg3).trans (by after_results <;> rfl)⟩)
    (run_seq (by decide) (by decide) defs main (fun _ => ops) main_eq (fun _ => ops_bufs) m ρ)

end Cert.Proof.AttnRef

end
-- ==== Proof.AttnEntries.lean ====
/-
  The reference's arrays of the attention gradient, entry by entry.
-/
module

public import proofs.«01_k».proof.Proof.AttnRefRun
public import proofs.«01_k».proof.Proof.RealEntries
public import Idealize.ShloMosaic.Lib.Pointwise
public import Idealize.ShloMosaic.Lib.WordCmp

@[expose] public section

set_option maxRecDepth 16384

noncomputable section

namespace Cert.Proof.AttnRef

open Idealize.ShloMosaic Idealize.ShloMosaic.TcCoe
open scoped BigOperators
open Cert.ReferenceAttnIdeal Cert.ReferenceAttnIdeal.Gen

variable (a0 a1 : FVec Ideal S1x4096x4x192 .f32) (a2 a3 : FVec Ideal S1x4096x4x128 .f32)

/-- The head's product of a query and a key; the score, masked where the key is later. -/
def logit (h : Fin 4) (q k : Fin 4096) : EReal := ∑ e : Fin 192, a0 (ix4 0 q h e) * a1 (ix4 0 k h e)
def score (h : Fin 4) (q k : Fin 4096) : EReal := if q < k then ⊥ else logit a0 a1 h q k

theorem negInf : Ideal.ofBits .f32 0xFF800000#32 = ⊥ := by simp [Ideal.ofBits, Ideal.ieee]

theorem seen_at {α : Type} (h : Fin 4) (q k : Fin 4096) (x y : α) : Scalar.select (seen (F := Ideal) (ix3 h q k)) x y = if q < k then y else x := by
  unfold seen
  pointwise
  rw [WordCmp.cmpi_sge_ofNat (by omega) (by omega), Scalar.select]
  by_cases h : q < k
  · rw [if_pos h, decide_eq_false (by omega)]; rfl
  · rw [if_neg h, decide_eq_true (by omega)]; rfl

theorem scores_at (h : Fin 4) (q k : Fin 4096) : scores (F := Ideal) a0 a1 (ix3 h q k) = score a0 a1 h q k := by
  unfold scores
  pointwise
  rw [seen_at, score, logit, negInf]

theorem top_at (h : Fin 4) (q : Fin 4096) : top (F := Ideal) a0 a1 (ix2 h q) = Finset.univ.sup fun k => score a0 a1 h q k := by
  unfold top
  pointwise [scores_at]
  rw [negInf]
  rfl

theorem max_negInf (t : FVec Ideal S4x4096 .f32) : maximumf (broadcastInDim S4x4096 ![] bcast_S_S4x4096 (constant (F := Ideal) S_ .f32 0xFF800000#32)) t = t := by
  funext i
  show max (Ideal.ofBits .f32 0xFF800000#32) (t i) = t i
  rw [negInf, max_eq_right bot_le]
theorem shift_eq : shift (F := Ideal) a0 a1 = top (F := Ideal) a0 a1 := max_negInf _

theorem weights_at (h : Fin 4) (q k : Fin 4096) : weights (F := Ideal) a0 a1 (ix3 h q k) = Ideal.exp (score a0 a1 h q k - top (F := Ideal) a0 a1 (ix2 h q)) := by
  unfold weights
  rw [shift_eq]
  pointwise [scores_at]

theorem total_at (h : Fin 4) (q : Fin 4096) (z : Fin 1) : total (F := Ideal) a0 a1 (ix3 h q z) = ∑ k : Fin 4096, weights (F := Ideal) a0 a1 (ix3 h q k) := by
  unfold total
  pointwise

theorem probs_at (h : Fin 4) (q k : Fin 4096) : probs (F := Ideal) a0 a1 (ix3 h q k) = Ideal.div (weights (F := Ideal) a0 a1 (ix3 h q k)) (total (F := Ideal) a0 a1 (ix3 h q 0)) := by
  unfold probs
  pointwise

/-- The gradient of a probability. -/
def dp (h : Fin 4) (q k : Fin 4096) : EReal := ∑ e : Fin 128, a3 (ix4 0 q h e) * a2 (ix4 0 k h e)
theorem dProbs_at (h : Fin 4) (q k : Fin 4096) : dProbs (F := Ideal) a2 a3 (ix3 h q k) = dp a2 a3 h q k := by
  unfold dProbs cot
  pointwise [dp]

theorem mean_at (h : Fin 4) (q k : Fin 4096) : mean (F := Ideal) a0 a1 a2 a3 (ix3 h q k)
    = -∑ k : Fin 4096, dp a2 a3 h q k * Ideal.div 1 (total (F := Ideal) a0 a1 (ix3 h q 0) * total (F := Ideal) a0 a1 (ix3 h q 0)) * weights (F := Ideal) a0 a1 (ix3 h q k) := by
  unfold mean invSq
  pointwise [dProbs_at]
  rw [Fin.sum_univ_one]

theorem dScores_at (h : Fin 4) (q k : Fin 4096) : dScores (F := Ideal) a0 a1 a2 a3 (ix3 h q k)
    = if q < k then 0 else (Ideal.div (dp a2 a3 h q k) (total (F := Ideal) a0 a1 (ix3 h q 0)) + mean (F := Ideal) a0 a1 a2 a3 (ix3 h q k)) * weights (F := Ideal) a0 a1 (ix3 h q k) := by
  unfold dScores
  pointwise [dProbs_at]
  rw [seen_at]

theorem dQ_at (R : Fin 4096) (h : Fin 4) (e : Fin 256) (hl : h.val * 256 + e.val < 1024) : dQ (F := Ideal) a0 a1 a2 a3 (ix2 R ⟨h.val * 256 + e.val, hl⟩)
    = if he : e.val < 192 then ∑ k : Fin 4096, dScores (F := Ideal) a0 a1 a2 a3 (ix3 h R k) * a1 (ix4 0 k h ⟨e.val, he⟩) else 0 := by
  unfold dQ
  pointwise
theorem dK_at (R : Fin 4096) (h : Fin 4) (e : Fin 256) (hl : h.val * 256 + e.val < 1024) : dK (F := Ideal) a0 a1 a2 a3 (ix2 R ⟨h.val * 256 + e.val, hl⟩)
    = if he : e.val < 192 then ∑ q : Fin 4096, dScores (F := Ideal) a0 a1 a2 a3 (ix3 h q R) * a0 (ix4 0 q h ⟨e.val, he⟩) else 0 := by
  unfold dK
  pointwise
theorem dV_at (R : Fin 4096) (h : Fin 4) (e : Fin 128) (hl : h.val * 128 + e.val < 512) : dV (F := Ideal) a0 a1 a3 (ix2 R ⟨h.val * 128 + e.val, hl⟩)
    = ∑ q : Fin 4096, a3 (ix4 0 q h e) * probs (F := Ideal) a0 a1 (ix3 h q R) := by
  unfold dV cot
  pointwise

end Cert.Proof.AttnRef
end
-- ==== Proof.AttnHost.lean ====
/-
  The operands of the attention gradient's kernel that the host computes, over the program's arguments: the heads padded to
  256 lanes, the attention's result and the logarithm of each row's total weight.
-/
module

public import proofs.«01_k».proof.Proof.AttnArrays
public import proofs.«01_k».proof.Proof.AttnEntries

@[expose] public section

set_option maxRecDepth 16384

noncomputable section

namespace Cert.KernelAttnIdeal.Run

open Idealize.ShloMosaic Idealize.ShloMosaic.TcCoe Idealize.ShloMosaic.Tactic
open scoped BigOperators
open Cert.KernelAttnIdeal Cert.KernelAttnIdeal.Gen

/-- A head's operand, padded; a value's rows. -/
def padded (a : FVec Ideal S1x4096x4x192 .f32) : FVec Ideal S4096x1024 .f32 :=
  shapeCast S4096x1024 (pad S4096x4x256 ![0, 0, 0] ![0, 0, 64] ![0, 0, 0] (shapeCast S4096x4x192 a shapeCasts_S1x4096x4x192_S4096x4x192) (constant S_ .f32 0x00000000#32) pads_S4096x4x192_S4096x4x256_000_000_0640 h_S_) shapeCasts_S4096x4x256_S4096x1024
def flat (a : FVec Ideal S1x4096x4x128 .f32) : FVec Ideal S4096x512 .f32 :=
  shapeCast S4096x512 (shapeCast S4096x4x128 a shapeCasts_S1x4096x4x128_S4096x4x128) shapeCasts_S4096x4x128_S4096x512

/-- The weights, their totals, the result and the logarithm of the totals, from the scores and their row maxima. -/
def wts (s : FVec Ideal S4x4096x4096 .f32) (t : FVec Ideal S4x4096 .f32) : FVec Ideal S4x4096x4096 .f32 :=
  Host.exp (subf s (broadcastInDim S4x4096x4096 ![0, 1, 2] bcast_S4x4096x1_S4x4096x4096_0_1_2 (broadcastInDim S4x4096x1 ![0, 1] bcast_S4x4096_S4x4096x1_0_1 t)))
def tot (w : FVec Ideal S4x4096x4096 .f32) : FVec Ideal S4x4096x1 .f32 :=
  broadcastInDim S4x4096x1 ![0, 1] bcast_S4x4096_S4x4096x1_0_1 (Host.reduceAdd w (constant S_ .f32 0x00000000#32) reducesTo_S4x4096x4096_S4x4096_d2 h_S_)
def res (w : FVec Ideal S4x4096x4096 .f32) (a2 : FVec Ideal S1x4096x4x128 .f32) : FVec Ideal S4096x512 .f32 :=
  shapeCast S4096x512 (transpose S4096x4x128 [2, 0, 1] (Host.dotGeneral dot_S4096x4x128_S4x4096x4096_S4x128x4096_0_2_2_1_1_0 none (shapeCast S4096x4x128 a2 shapeCasts_S1x4096x4x128_S4096x4x128)
    (Host.divf w (broadcastInDim S4x4096x4096 ![0, 1, 2] bcast_S4x4096x1_S4x4096x4096_0_1_2 (tot w)))) transposes_S4x128x4096_S4096x4x128_2_0_1) shapeCasts_S4096x4x128_S4096x512
def lse (w : FVec Ideal S4x4096x4096 .f32) (t : FVec Ideal S4x4096 .f32) : FVec Ideal S4x4096x128 .f32 :=
  broadcastInDim S4x4096x128 ![0, 1, 2] bcast_S4x4096x1_S4x4096x128_0_1_2 (addf (broadcastInDim S4x4096x1 ![0, 1] bcast_S4x4096_S4x4096x1_0_1 t) (Host.log (tot w)))

variable (m : (ℓ : Loc nD τ sig) → Buf (Elt Ideal) ℓ) (c : Dev nD)

abbrev arg0 : FVec Ideal S1x4096x4x192 .f32 := m ((c : Thread nD τ).loc main_arg0)
abbrev arg1 : FVec Ideal S1x4096x4x192 .f32 := m ((c : Thread nD τ).loc main_arg1)
abbrev arg2 : FVec Ideal S1x4096x4x128 .f32 := m ((c : Thread nD τ).loc main_arg2)
abbrev arg3 : FVec Ideal S1x4096x4x128 .f32 := m ((c : Thread nD τ).loc main_arg3)

abbrev scs : FVec Ideal S4x4096x4096 .f32 := Cert.Proof.AttnRef.scores (F := Ideal) (arg0 m c) (arg1 m c)
abbrev tops : FVec Ideal S4x4096 .f32 := Cert.Proof.AttnRef.top (F := Ideal) (arg0 m c) (arg1 m c)

theorem V_q : qA m c = padded (arg0 m c) := by unfold qA V hostOps0; after_results; rfl
theorem V_k : kA m c = padded (arg1 m c) := by unfold kA V hostOps0; after_results; rfl
theorem V_v : vA m c = flat (arg2 m c) := by unfold vA V hostOps0; after_results; rfl
theorem V_d : dA m c = flat (arg3 m c) := by unfold dA V hostOps0; after_results; rfl
theorem V_o : oA m c = res (wts (scs m c) (tops m c)) (arg2 m c) := by unfold oA V hostOps0; after_results; rfl
theorem V_l : lA m c = lse (wts (scs m c) (tops m c)) (tops m c) := by unfold lA V hostOps0; after_results; rfl

theorem padded_at (a : FVec Ideal S1x4096x4x192 .f32) (R : Fin 4096) (h : Fin 4) (e : Fin 256) :
    padded a (ix2 R (lane h e)) = if he : e.val < 192 then a (ix4 0 R h ⟨e.val, he⟩) else 0 := by
  pointwise [padded, lane]
theorem flat_at (a : FVec Ideal S1x4096x4x128 .f32) (R : Fin 4096) (h : Fin 4) (e : Fin 128) : flat a (ix2 R (vlane h e)) = a (ix4 0 R h e) := by
  pointwise [flat, vlane]
theorem wts_at (s : FVec Ideal S4x4096x4096 .f32) (t : FVec Ideal S4x4096 .f32) (h : Fin 4) (q k : Fin 4096) : wts s t (ix3 h q k) = Ideal.exp (s (ix3 h q k) - t (ix2 h q)) := by
  pointwise [wts]
theorem tot_at (w : FVec Ideal S4x4096x4096 .f32) (h : Fin 4) (q : Fin 4096) (z : Fin 1) : tot w (ix3 h q z) = ∑ k : Fin 4096, w (ix3 h q k) := by
  pointwise [tot]
theorem res_at (w : FVec Ideal S4x4096x4096 .f32) (a : FVec Ideal S1x4096x4x128 .f32) (R : Fin 4096) (h : Fin 4) (e : Fin 128) :
    res w a (ix2 R (vlane h e)) = ∑ k : Fin 4096, a (ix4 0 k h e) * Ideal.div (w (ix3 h R k)) (∑ k : Fin 4096, w (ix3 h R k)) := by
  pointwise [res, tot_at, vlane]
theorem lse_at (w : FVec Ideal S4x4096x4096 .f32) (t : FVec Ideal S4x4096 .f32) (h : Fin 4) (q : Fin 4096) (e : Fin 128) :
    lse w t (ix3 h q e) = t (ix2 h q) + Ideal.log (∑ k : Fin 4096, w (ix3 h q k)) := by
  pointwise [lse, tot_at]

end Cert.KernelAttnIdeal.Run
end
-- ==== Proof.AttnRow.lean ====
/-
  One row of causal attention over the real numbers: the probability that the kernel recomputes from the row's maximum and
  the logarithm of its total weight is the softmax's, and its gradient of a score is the softmax's derivative.
-/
module

public import proofs.«01_k».proof.Proof.RealEntries

@[expose] public section

noncomputable section

namespace Cert.Proof.AttnRow

open Idealize.ShloMosaic
open scoped BigOperators

variable {n d : ℕ} (q : Fin n) (s : Fin n → ℝ)

/-- A row's scores, masked after the row's own position. -/
def masked (k : Fin n) : EReal := if q < k then ⊥ else (s k : EReal)

/-- The largest score is a real number. -/
theorem max_real : ∃ M : ℝ, (Finset.univ.sup fun k => masked q s k) = (M : EReal) := by
  obtain ⟨k, -, hk⟩ := Finset.exists_mem_eq_sup Finset.univ ⟨q, Finset.mem_univ q⟩ fun k => masked q s k
  rw [hk, masked]
  split_ifs with h
  · exfalso
    have hq : masked q s q ≤ Finset.univ.sup fun k => masked q s k := Finset.le_sup (f := fun k => masked q s k) (Finset.mem_univ q)
    rw [hk, masked, if_neg (lt_irrefl q), masked, if_pos h] at hq
    exact absurd (le_bot_iff.mp hq) (EReal.coe_ne_bot _)
  · exact ⟨_, rfl⟩

variable (M : ℝ)

/-- A row's weights and their total. -/
def W (k : Fin n) : ℝ := if q < k then 0 else Real.exp (s k - M)
def T : ℝ := ∑ k, W q s M k

theorem T_pos : 0 < T q s M := by
  refine Finset.sum_pos' (fun k _ => ?_) ⟨q, Finset.mem_univ q, ?_⟩
  · unfold W; split_ifs <;> positivity
  · rw [W, if_neg (lt_irrefl q)]; positivity

theorem weight (k : Fin n) : Ideal.exp (masked q s k - (M : EReal)) = (W q s M k : EReal) := by
  unfold masked W
  split_ifs
  · rw [EReal.bot_sub]; rfl
  · rw [← EReal.coe_sub]; rfl
theorem total : ∑ k, (W q s M k : EReal) = (T q s M : EReal) := coe_sum _ _

/-- The recomputed probability. -/
theorem prob (k : Fin n) : Ideal.exp (masked q s k - ((M : EReal) + Ideal.log (T q s M : EReal))) = ((W q s M k * (1 / T q s M) : ℝ) : EReal) := by
  have hT := T_pos q s M
  rw [Ideal.log_coe, if_neg (not_le.mpr hT), ← EReal.coe_add]
  unfold masked W
  split_ifs
  · rw [EReal.bot_sub, zero_mul]; rfl
  · rw [← EReal.coe_sub, Ideal.exp_coe, sub_add_eq_sub_sub, Real.exp_sub, Real.exp_log hT]
    ring_nf
theorem div_total (x : ℝ) : Ideal.div (x : EReal) (T q s M : EReal) = ((x * (1 / T q s M) : ℝ) : EReal) := by
  rw [Ideal.div_coe (T_pos q s M).ne', EReal.coe_mul]

variable (D : Fin d → ℝ) (V : Fin n → Fin d → ℝ)

/-- The gradient of a probability, and the row's mean of it. -/
def P (k : Fin n) : ℝ := ∑ e, D e * V k e
def Δ : ℝ := ∑ k, P D V k * (W q s M k * (1 / T q s M))

theorem grad_prob (k : Fin n) : ∑ e, (D e : EReal) * (V k e : EReal) = (P D V k : EReal) := by
  simp only [← EReal.coe_mul, coe_sum]
  rfl
theorem mean_of_result : ∑ e, (D e : EReal) * ∑ k, (V k e : EReal) * ((W q s M k * (1 / T q s M) : ℝ) : EReal) = (Δ q s M D V : EReal) := by
  simp only [← EReal.coe_mul, coe_sum]
  refine congrArg _ ?_
  unfold Δ P
  simp only [Finset.mul_sum, Finset.sum_mul]
  rw [Finset.sum_comm]
  exact Finset.sum_congr rfl fun k _ => Finset.sum_congr rfl fun e _ => by ring

/-- The kernel's gradient of a score is the softmax's. -/
theorem grad_score (k : Fin n) :
    ((W q s M k * (1 / T q s M) : ℝ) : EReal) * ((P D V k : EReal) - (Δ q s M D V : EReal))
      = if q < k then 0 else (Ideal.div (P D V k : EReal) (T q s M : EReal)
          + -∑ k, (P D V k : EReal) * Ideal.div 1 ((T q s M : EReal) * (T q s M : EReal)) * (W q s M k : EReal)) * (W q s M k : EReal) := by
  have hT := (T_pos q s M).ne'
  rw [div_total, ← EReal.coe_mul, Ideal.div_coe (mul_ne_zero hT hT), one_mul]
  simp only [← EReal.coe_mul, coe_sum, ← EReal.coe_neg, ← EReal.coe_add, ← EReal.coe_sub]
  split_ifs with h
  · rw [W, if_pos h]; simp
  · refine congrArg _ ?_
    have : ∑ k, P D V k * (1 / (T q s M * T q s M)) * W q s M k = Δ q s M D V * (1 / T q s M) := by
      unfold Δ
      rw [Finset.sum_mul]
      exact Finset.sum_congr rfl fun k _ => by field_simp
    rw [this]
    ring

end Cert.Proof.AttnRow
end
-- ==== Proof.AttnValue.lean ====
/-
  The attention gradient as the kernel leaves it is the reference's, where the arguments are finite.
-/
module

public import proofs.«01_k».proof.Proof.AttnHost
public import proofs.«01_k».proof.Proof.AttnRow

@[expose] public section

set_option maxRecDepth 16384

noncomputable section

namespace Cert.KernelAttnIdeal.Run

open Idealize.ShloMosaic Idealize.ShloMosaic.TcCoe Idealize.ShloMosaic.Tactic
open scoped BigOperators
open Cert.KernelAttnIdeal Cert.KernelAttnIdeal.Gen
open Cert.Proof

/-- A sum over padded lanes. -/
theorem sum_pad (f : Fin 192 → EReal) : (∑ e : Fin 256, if he : e.val < 192 then f ⟨e.val, he⟩ else 0) = ∑ e : Fin 192, f e := by
  rw [Fin.sum_univ_add (a := 192) (b := 64)]
  have h1 : ∀ e : Fin 192, (if he : (Fin.castAdd 64 e).val < 192 then f ⟨(Fin.castAdd 64 e).val, he⟩ else 0) = f e := fun e => dif_pos e.isLt
  have h2 : ∀ e : Fin 64, (if he : (Fin.natAdd 192 e).val < 192 then f ⟨(Fin.natAdd 192 e).val, he⟩ else 0) = 0 := fun e => dif_neg (by simp)
  rw [Finset.sum_congr rfl fun e _ => h1 e, Finset.sum_congr rfl fun e _ => h2 e, Finset.sum_const_zero, add_zero]

section Row
variable (a0 a1 : FVec Ideal S1x4096x4x192 .f32) (a2 a3 : FVec Ideal S1x4096x4x128 .f32)

theorem sc_eq (h : Fin 4) (R C : Fin 4096) : sc (padded a0) (padded a1) h R C = AttnRef.score a0 a1 h R C := by
  unfold sc AttnRef.score AttnRef.logit
  refine if_congr Iff.rfl rfl ?_
  refine Eq.trans (Finset.sum_congr rfl fun e _ => ?_) (sum_pad fun e => a0 (ix4 0 R h e) * a1 (ix4 0 C h e))
  show padded a0 (ix2 R (lane h e)) * padded a1 (ix2 C (lane h e)) = _
  rw [padded_at, padded_at]
  split_ifs
  · rfl
  · rw [zero_mul]

variable (A0 A1 : S1x4096x4x192.Idx → ℝ) (A2 A3 : S1x4096x4x128.Idx → ℝ) (h0 : a0 = fun i => (A0 i : EReal)) (h1 : a1 = fun i => (A1 i : EReal))
  (h2 : a2 = fun i => (A2 i : EReal)) (h3 : a3 = fun i => (A3 i : EReal))

/-- The real scores of a query. -/
def rs (h : Fin 4) (R k : Fin 4096) : ℝ := ∑ e : Fin 192, A0 (ix4 0 R h e) * A1 (ix4 0 k h e)

include h0 h1 in
theorem score_real (h : Fin 4) (R k : Fin 4096) : AttnRef.score a0 a1 h R k = AttnRow.masked R (rs A0 A1 h R) k := by
  unfold AttnRef.score AttnRow.masked AttnRef.logit rs
  subst h0 h1
  simp only [← EReal.coe_mul, coe_sum]

include h0 h1 in
theorem top_real (h : Fin 4) (R : Fin 4096) : ∃ M : ℝ, AttnRef.top (F := Ideal) a0 a1 (ix2 h R) = (M : EReal) := by
  rw [AttnRef.top_at]
  simp only [score_real a0 a1 A0 A1 h0 h1]
  exact AttnRow.max_real R _

include h0 h1 h2 h3 in
theorem row_eq (s : FVec Ideal S4x4096x4096 .f32) (t : FVec Ideal S4x4096 .f32) (hs : ∀ h q k, s (ix3 h q k) = AttnRef.score a0 a1 h q k)
    (ht : ∀ h q, t (ix2 h q) = AttnRef.top (F := Ideal) a0 a1 (ix2 h q)) (h : Fin 4) (R C : Fin 4096) :
    pr (padded a0) (padded a1) (lse (wts s t) t) h R C = AttnRef.probs (F := Ideal) a0 a1 (ix3 h R C)
    ∧ ds (padded a0) (padded a1) (flat a2) (flat a3) (res (wts s t) a2) (lse (wts s t) t) h R C = AttnRef.dScores (F := Ideal) a0 a1 a2 a3 (ix3 h R C) := by
  obtain ⟨M, hM⟩ := top_real a0 a1 A0 A1 h0 h1 h R
  have hw (k : Fin 4096) : AttnRef.weights (F := Ideal) a0 a1 (ix3 h R k) = (AttnRow.W R (rs A0 A1 h R) M k : EReal) := by
    rw [AttnRef.weights_at, hM, score_real a0 a1 A0 A1 h0 h1, AttnRow.weight]
  have hk (k : Fin 4096) : wts s t (ix3 h R k) = (AttnRow.W R (rs A0 A1 h R) M k : EReal) := by
    rw [wts_at, hs, ht, hM, score_real a0 a1 A0 A1 h0 h1, AttnRow.weight]
  have hT : AttnRef.total (F := Ideal) a0 a1 (ix3 h R 0) = (AttnRow.T R (rs A0 A1 h R) M : EReal) := by
    rw [AttnRef.total_at]
    simp only [hw]
    exact AttnRow.total ..
  have hp : pr (padded a0) (padded a1) (lse (wts s t) t) h R C = ((AttnRow.W R (rs A0 A1 h R) M C * (1 / AttnRow.T R (rs A0 A1 h R) M) : ℝ) : EReal) := by
    rw [pr, sc_eq, lse_at, ht, hM, score_real a0 a1 A0 A1 h0 h1]
    simp only [hk]
    rw [AttnRow.total, AttnRow.prob]
  have hd (k : Fin 4096) : AttnRef.dp a2 a3 h R k = (AttnRow.P (fun e => A3 (ix4 0 R h e)) (fun k e => A2 (ix4 0 k h e)) k : EReal) := by
    unfold AttnRef.dp
    subst h2 h3
    exact AttnRow.grad_prob (fun e => A3 (ix4 0 R h e)) (fun k e => A2 (ix4 0 k h e)) k
  refine ⟨?_, ?_⟩
  · rw [hp, AttnRef.probs_at, hw, hT, AttnRow.div_total]
  · rw [ds, hp, AttnRef.dScores_at, AttnRef.mean_at, hT]
    simp only [hd, hw]
    rw [← AttnRow.grad_score]
    refine congrArg (_ * ·) (congrArg₂ (· - ·) ?_ ?_)
    · rw [← hd, AttnRef.dp]
      simp only [flat_at]
    · rw [← AttnRow.mean_of_result]
      refine Finset.sum_congr rfl fun e _ => ?_
      rw [flat_at, res_at]
      simp only [hk]
      rw [AttnRow.total]
      simp only [AttnRow.div_total]
      subst h2 h3
      rfl

end Row

/-! ## The three gradients -/

variable (m : (ℓ : Loc nD τ sig) → Buf (Elt Ideal) ℓ) (c : Dev nD)

theorem lanes (C : Fin 1024) : ∃ (h : Fin 4) (e : Fin 256), C = lane h e :=
  ⟨⟨C.val / 256, by omega⟩, ⟨C.val % 256, Nat.mod_lt _ (by decide)⟩, Fin.ext (by show C.val = C.val / 256 * 256 + C.val % 256; omega)⟩
theorem vlanes (C : Fin 512) : ∃ (h : Fin 4) (e : Fin 128), C = vlane h e :=
  ⟨⟨C.val / 128, by omega⟩, ⟨C.val % 128, Nat.mod_lt _ (by decide)⟩, Fin.ext (by show C.val = C.val / 128 * 128 + C.val % 128; omega)⟩

section Finite
variable (h0 : ∀ i, IsReal (arg0 m c i)) (h1 : ∀ i, IsReal (arg1 m c i)) (h2 : ∀ i, IsReal (arg2 m c i)) (h3 : ∀ i, IsReal (arg3 m c i))

include h0 h1 h2 h3 in
theorem rows_eq (h : Fin 4) (R C : Fin 4096) : pr (qA m c) (kA m c) (lA m c) h R C = AttnRef.probs (F := Ideal) (arg0 m c) (arg1 m c) (ix3 h R C)
    ∧ ds (qA m c) (kA m c) (vA m c) (dA m c) (oA m c) (lA m c) h R C = AttnRef.dScores (F := Ideal) (arg0 m c) (arg1 m c) (arg2 m c) (arg3 m c) (ix3 h R C) := by
  obtain ⟨A0, e0⟩ := IsReal.choose h0
  obtain ⟨A1, e1⟩ := IsReal.choose h1
  obtain ⟨A2, e2⟩ := IsReal.choose h2
  obtain ⟨A3, e3⟩ := IsReal.choose h3
  rw [V_q m c, V_k m c, V_v m c, V_d m c, V_o m c, V_l m c]
  exact row_eq _ _ _ _ A0 A1 A2 A3 e0 e1 e2 e3 _ _ (fun h q k => AttnRef.scores_at _ _ h q k) (fun h q => rfl) h R C

include h0 h1 h2 h3 in
theorem dq_eq : dqA m c = AttnRef.dQ (F := Ideal) (arg0 m c) (arg1 m c) (arg2 m c) (arg3 m c) := by
  funext i
  obtain ⟨R, C, rfl⟩ : ∃ (R : Fin 4096) (C : Fin 1024), i = ix2 R C := ⟨i 0, i 1, eq_ix2 i⟩
  obtain ⟨h, e, rfl⟩ := lanes C
  refine (dqA_at ..).trans (Eq.trans ?_ (AttnRef.dQ_at _ _ _ _ R h e _).symm)
  unfold dqH
  simp only [(rows_eq m c h0 h1 h2 h3 h R _).2]
  rw [V_k m c]
  simp only [padded_at]
  split_ifs
  · rfl
  · simp only [mul_zero, Finset.sum_const_zero]
include h0 h1 h2 h3 in
theorem dk_eq : dkA m c = AttnRef.dK (F := Ideal) (arg0 m c) (arg1 m c) (arg2 m c) (arg3 m c) := by
  funext i
  obtain ⟨R, C, rfl⟩ : ∃ (R : Fin 4096) (C : Fin 1024), i = ix2 R C := ⟨i 0, i 1, eq_ix2 i⟩
  obtain ⟨h, e, rfl⟩ := lanes C
  refine (dkA_at ..).trans (Eq.trans ?_ (AttnRef.dK_at _ _ _ _ R h e _).symm)
  unfold dkH
  simp only [(rows_eq m c h0 h1 h2 h3 h _ R).2]
  rw [V_q m c]
  simp only [padded_at]
  split_ifs
  · rfl
  · simp only [mul_zero, Finset.sum_const_zero]
include h0 h1 h2 h3 in
theorem dv_eq : dvA m c = AttnRef.dV (F := Ideal) (arg0 m c) (arg1 m c) (arg3 m c) := by
  funext i
  obtain ⟨R, C, rfl⟩ : ∃ (R : Fin 4096) (C : Fin 512), i = ix2 R C := ⟨i 0, i 1, eq_ix2 i⟩
  obtain ⟨h, e, rfl⟩ := vlanes C
  refine (dvA_at ..).trans (Eq.trans ?_ (AttnRef.dV_at _ _ _ R h e _).symm)
  unfold dvH
  simp only [(rows_eq m c h0 h1 h2 h3 h _ R).1]
  rw [V_d m c]
  simp only [flat_at]
  exact Finset.sum_congr rfl fun q _ => mul_comm _ _

end Finite

end Cert.KernelAttnIdeal.Run
end
-- ==== Proof.Attn.lean ====
/-
  The claims about the attention gradient (`mla_attn_bwd`).
-/
module

public import proofs.«01_k».proof.Defs
public import proofs.«01_k».proof.Proof.Gen.KernelAttn
public import proofs.«01_k».proof.Proof.Gen.Pre_attn_finite
public import proofs.«01_k».proof.Proof.AttnValue
public import Idealize.ShloMosaic.Lib.Claim
public import Idealize.ShloMosaic.Lib.Quiescent

@[expose] public section

set_option maxRecDepth 16384

noncomputable section

namespace Cert.Proof.Attn

open Idealize.ShloMosaic Idealize.ShloMosaic.TcCoe Idealize.SL.Sem

theorem frame_ideal : Cert.quiescent_KernelAttnIdeal := fun m ρ _ => Cert.KernelAttnIdeal.Run.frame_run m ρ
theorem frame_ideal_pre : Cert.quiescent_KernelAttnIdeal_pre_attn_finite := fun m ρ _ => Cert.KernelAttnIdeal.Run.frame_run m ρ

/-- The program as written is the idealized one with the mask's word in the mask's place. -/
@[instance_reducible] def asWritten : Named Bits := ⟨fun _ _ {φ} b => FloatOps.ofBits φ b⟩

theorem frame_kernel : Cert.quiescent_KernelAttn := fun m ρ _ => by
  letI := asWritten
  refine cast ?_ (Cert.KernelAttnIdeal.Run.frame_run (F := Bits) m ρ)
  sl_kernel_rfl

theorem frame_reference : Cert.quiescent_ReferenceAttnIdeal := fun m ρ _ =>
  (θ_run Cert.ReferenceAttnIdeal.defs _ _).mono (fun r h => ⟨fun c => (h c).2.2.2, sem_eq_zero_of_no_sems (by decide) r.2⟩)
    (AttnRef.run (F := Ideal) m ρ)
theorem frame_reference_pre : Cert.quiescent_ReferenceAttnIdeal_pre_attn_finite := fun m ρ _ => frame_reference m ρ trivial

/-- The mask's word stands for −∞. -/
theorem preserved : Cert.preserves_KernelAttn_KernelAttnIdeal :=
  ⟨rfl, fun _ => IdealRules.named_const.ideal_named _ _ _ _ rfl, IdealRules.named_const.ideal_named_scalar _ _ _ _ rfl⟩

open Cert.KernelAttnIdeal Cert.KernelAttnIdeal.Gen Cert.KernelAttnIdeal.Run in
/-- What the precondition says of the arguments. -/
theorem real_of_pre (m : (ℓ : Loc nD τ sig) → Buf (Elt Ideal) ℓ) (hp : Cert.Pre_KernelAttnIdeal_attn_finite m) (c : Dev nD) :
    (∀ i, IsReal (arg0 m c i)) ∧ (∀ i, IsReal (arg1 m c i)) ∧ (∀ i, IsReal (arg2 m c i)) ∧ ∀ i, IsReal (arg3 m c i) := by
  have e := congrFun (hp c) (Shape.Idx.first Pre_attn_finite.Facts.h_S_)
  simp only [Pre_attn_finite.fn] at e
  obtain ⟨e, e3⟩ := IntOp.andi_eq_one.mp e
  obtain ⟨e, e2⟩ := IntOp.andi_eq_one.mp e
  obtain ⟨e0, e1⟩ := IntOp.andi_eq_one.mp e
  exact ⟨isReal_of_bounded _ _ _ _ _ _ e0, isReal_of_bounded _ _ _ _ _ _ e1, isReal_of_bounded _ _ _ _ _ _ e2, isReal_of_bounded _ _ _ _ _ _ e3⟩

open Cert.KernelAttnIdeal.Run in
theorem value : Cert.algebraic_KernelAttnIdeal_ReferenceAttnIdeal_pre_attn_finite := by
  pair_intro
  · run_from Cert.KernelAttnIdeal.Run.run_arrays m g
  · run_from AttnRef.run m' g'
    all_goals obtain ⟨h0, h1, h2, h3⟩ := real_of_pre m hpre c
    · rw [dq_eq m c h0 h1 h2 h3]
    · rw [dk_eq m c h0 h1 h2 h3]
    · rw [dv_eq m c h0 h1 h2 h3]

end Cert.Proof.Attn

end
-- ==== Proof.SsmPrepRun.lean ====
/-
  The reference of the state parameters' backward has no kernel: its @main is one straight line of host operations. Here
  they are as a list, its run read back, and what they compute, value by value.
-/
module

public import proofs.«01_k».proof.Proof.Gen.ReferenceSsmPrepIdeal
public import proofs.«01_k».proof.Defs
public import Idealize.ShloMosaic.Lib.StableHlo.Run

@[expose] public section

noncomputable section

namespace Cert.Proof.SsmPrepRun

open Cert.ReferenceSsmPrepIdeal Cert.ReferenceSsmPrepIdeal.Gen Idealize.ShloMosaic Idealize.ShloMosaic.TcCoe Idealize.SL.Sem Idealize.ShloMosaic.StableHlo

variable {F : FTy → Type} [FloatOps F]

/-- The arrays of one shape and element type. -/
abbrev V (F : FTy → Type) (s : Shape) (e : EltTy) : Type := (⟨s, e⟩ : BufTy).Contents (Elt F)

abbrev ops : List (HloOp τ sig (Elt F)) :=
  [ unary main_arg2 main_v0 (Host.exp : V F S32x1 .f32 → V F S32x1 .f32),
    unary main_v0 main_v1 (broadcastInDim S32x64 ![0, 1] bcast_S32x1_S32x64_0_1 : V F S32x1 .f32 → V F S32x64 .f32),
    binary main_arg0 main_v1 main_v2 (mulf : V F S32x64 .f32 → V F S32x64 .f32 → V F S32x64 .f32),
    unary main_v2 main_v3 (Host.exp : V F S32x64 .f32 → V F S32x64 .f32),
    unary main_v0 main_v4 (broadcastInDim S32x64 ![0, 1] bcast_S32x1_S32x64_0_1 : V F S32x1 .f32 → V F S32x64 .f32),
    binary main_arg1 main_v4 main_v5 (mulf : V F S32x64 .f32 → V F S32x64 .f32 → V F S32x64 .f32),
    unary main_v5 main_v6 (Host.cos : V F S32x64 .f32 → V F S32x64 .f32),
    unary main_v5 main_v7 (Host.sin : V F S32x64 .f32 → V F S32x64 .f32),
    binary main_v3 main_v6 main_v8 (mulf : V F S32x64 .f32 → V F S32x64 .f32 → V F S32x64 .f32),
    unary main_v0 main_v9 (broadcastInDim S32x64 ![0, 1] bcast_S32x1_S32x64_0_1 : V F S32x1 .f32 → V F S32x64 .f32),
    binary main_arg1 main_v9 main_v10 (mulf : V F S32x64 .f32 → V F S32x64 .f32 → V F S32x64 .f32),
    unary main_v10 main_v11 (Host.sin : V F S32x64 .f32 → V F S32x64 .f32),
    unary main_v10 main_v12 (Host.cos : V F S32x64 .f32 → V F S32x64 .f32),
    binary main_v3 main_v11 main_v13 (mulf : V F S32x64 .f32 → V F S32x64 .f32 → V F S32x64 .f32),
    binary main_arg0 main_arg0 main_v14 (mulf : V F S32x64 .f32 → V F S32x64 .f32 → V F S32x64 .f32),
    binary main_arg1 main_arg1 main_v15 (mulf : V F S32x64 .f32 → V F S32x64 .f32 → V F S32x64 .f32),
    binary main_v14 main_v15 main_v16 (addf : V F S32x64 .f32 → V F S32x64 .f32 → V F S32x64 .f32),
    nullary main_cst (constant S_ .f32 0x3F800000#32),
    unary main_cst main_v17 (broadcastInDim S32x64 ![] bcast_S_S32x64 : V F S_ .f32 → V F S32x64 .f32),
    binary main_v8 main_v17 main_v18 (subf : V F S32x64 .f32 → V F S32x64 .f32 → V F S32x64 .f32),
    binary main_v18 main_arg0 main_v19 (mulf : V F S32x64 .f32 → V F S32x64 .f32 → V F S32x64 .f32),
    binary main_v13 main_arg1 main_v20 (mulf : V F S32x64 .f32 → V F S32x64 .f32 → V F S32x64 .f32),
    binary main_v19 main_v20 main_v21 (addf : V F S32x64 .f32 → V F S32x64 .f32 → V F S32x64 .f32),
    binary main_v21 main_v16 main_v22 (Host.divf : V F S32x64 .f32 → V F S32x64 .f32 → V F S32x64 .f32),
    binary main_v16 main_v16 main_v23 (mulf : V F S32x64 .f32 → V F S32x64 .f32 → V F S32x64 .f32),
    nullary main_cst_0 (constant S_ .f32 0x3F800000#32),
    unary main_cst_0 main_v24 (broadcastInDim S32x64 ![] bcast_S_S32x64 : V F S_ .f32 → V F S32x64 .f32),
    binary main_v24 main_v23 main_v25 (Host.divf : V F S32x64 .f32 → V F S32x64 .f32 → V F S32x64 .f32),
    binary main_v13 main_arg0 main_v26 (mulf : V F S32x64 .f32 → V F S32x64 .f32 → V F S32x64 .f32),
    binary main_v18 main_arg1 main_v27 (mulf : V F S32x64 .f32 → V F S32x64 .f32 → V F S32x64 .f32),
    binary main_v26 main_v27 main_v28 (subf : V F S32x64 .f32 → V F S32x64 .f32 → V F S32x64 .f32),
    binary main_v28 main_v16 main_v29 (Host.divf : V F S32x64 .f32 → V F S32x64 .f32 → V F S32x64 .f32),
    binary main_v16 main_v16 main_v30 (mulf : V F S32x64 .f32 → V F S32x64 .f32 → V F S32x64 .f32),
    nullary main_cst_1 (constant S_ .f32 0x3F800000#32),
    unary main_cst_1 main_v31 (broadcastInDim S32x64 ![] bcast_S_S32x64 : V F S_ .f32 → V F S32x64 .f32),
    binary main_v31 main_v30 main_v32 (Host.divf : V F S32x64 .f32 → V F S32x64 .f32 → V F S32x64 .f32),
    reshape main_arg3 main_v33 rfl shapeCasts_S512x64_S32x16x64,
    reshape main_arg4 main_v34 rfl shapeCasts_S512x64_S32x16x64,
    unary main_v22 main_v35 (broadcastInDim S32x1x64 ![0, 2] bcast_S32x64_S32x1x64_0_2 : V F S32x64 .f32 → V F S32x1x64 .f32),
    unary main_v35 main_v36 (broadcastInDim S32x16x64 ![0, 1, 2] bcast_S32x1x64_S32x16x64_0_1_2 : V F S32x1x64 .f32 → V F S32x16x64 .f32),
    binary main_v36 main_v33 main_v37 (mulf : V F S32x16x64 .f32 → V F S32x16x64 .f32 → V F S32x16x64 .f32),
    unary main_v29 main_v38 (broadcastInDim S32x1x64 ![0, 2] bcast_S32x64_S32x1x64_0_2 : V F S32x64 .f32 → V F S32x1x64 .f32),
    unary main_v38 main_v39 (broadcastInDim S32x16x64 ![0, 1, 2] bcast_S32x1x64_S32x16x64_0_1_2 : V F S32x1x64 .f32 → V F S32x16x64 .f32),
    binary main_v39 main_v34 main_v40 (mulf : V F S32x16x64 .f32 → V F S32x16x64 .f32 → V F S32x16x64 .f32),
    binary main_v37 main_v40 main_v41 (subf : V F S32x16x64 .f32 → V F S32x16x64 .f32 → V F S32x16x64 .f32),
    unary main_v22 main_v42 (broadcastInDim S32x1x64 ![0, 2] bcast_S32x64_S32x1x64_0_2 : V F S32x64 .f32 → V F S32x1x64 .f32),
    unary main_v42 main_v43 (broadcastInDim S32x16x64 ![0, 1, 2] bcast_S32x1x64_S32x16x64_0_1_2 : V F S32x1x64 .f32 → V F S32x16x64 .f32),
    binary main_v43 main_v34 main_v44 (mulf : V F S32x16x64 .f32 → V F S32x16x64 .f32 → V F S32x16x64 .f32),
    unary main_v29 main_v45 (broadcastInDim S32x1x64 ![0, 2] bcast_S32x64_S32x1x64_0_2 : V F S32x64 .f32 → V F S32x1x64 .f32),
    unary main_v45 main_v46 (broadcastInDim S32x16x64 ![0, 1, 2] bcast_S32x1x64_S32x16x64_0_1_2 : V F S32x1x64 .f32 → V F S32x16x64 .f32),
    binary main_v46 main_v33 main_v47 (mulf : V F S32x16x64 .f32 → V F S32x16x64 .f32 → V F S32x16x64 .f32),
    binary main_v44 main_v47 main_v48 (addf : V F S32x16x64 .f32 → V F S32x16x64 .f32 → V F S32x16x64 .f32),
    nullary main_v49 (iotaInDim S8x8 32 0),
    nullary main_v50 (iotaInDim S8x8 32 1),
    nullary main_c (constantI S_ 32 0#32),
    unary main_c main_v51 (broadcastInDim S8x8 ![] bcast_S_S8x8 : V F S_ .i32 → V F S8x8 .i32),
    binary main_v49 main_v51 main_v52 (addi : V F S8x8 .i32 → V F S8x8 .i32 → V F S8x8 .i32),
    binary main_v52 main_v50 main_v53 (cmpi .eq : V F S8x8 .i32 → V F S8x8 .i32 → V F S8x8 .i1),
    unary main_v53 main_v54 (uitofp .f32 : V F S8x8 .i1 → V F S8x8 .f32),
    unary main_v54 main_v55 (broadcastInDim S1x8x1x8x1 ![1, 3] bcast_S8x8_S1x8x1x8x1_1_3 : V F S8x8 .f32 → V F S1x8x1x8x1 .f32),
    reshape main_v8 main_v56 rfl shapeCasts_S32x64_S1x2048,
    unary main_v56 main_v57 (broadcastInDim S8x2048 ![0, 1] bcast_S1x2048_S8x2048_0_1 : V F S1x2048 .f32 → V F S8x2048 .f32),
    reshape main_v13 main_v58 rfl shapeCasts_S32x64_S1x2048,
    unary main_v58 main_v59 (broadcastInDim S8x2048 ![0, 1] bcast_S1x2048_S8x2048_0_1 : V F S1x2048 .f32 → V F S8x2048 .f32),
    reshape main_v41 main_v60 rfl shapeCasts_S32x16x64_S4x8x16x1x64,
    unary main_v60 main_v61 (broadcastInDim S4x8x16x8x64 ![0, 1, 2, 3, 4] bcast_S4x8x16x1x64_S4x8x16x8x64_0_1_2_3_4 : V F S4x8x16x1x64 .f32 → V F S4x8x16x8x64 .f32),
    unary main_v55 main_v62 (broadcastInDim S4x8x16x8x64 ![0, 1, 2, 3, 4] bcast_S1x8x1x8x1_S4x8x16x8x64_0_1_2_3_4 : V F S1x8x1x8x1 .f32 → V F S4x8x16x8x64 .f32),
    binary main_v61 main_v62 main_v63 (mulf : V F S4x8x16x8x64 .f32 → V F S4x8x16x8x64 .f32 → V F S4x8x16x8x64 .f32),
    reshape main_v63 main_v64 rfl shapeCasts_S4x8x16x8x64_S4x128x512,
    reshape main_v48 main_v65 rfl shapeCasts_S32x16x64_S4x8x16x1x64,
    unary main_v65 main_v66 (broadcastInDim S4x8x16x8x64 ![0, 1, 2, 3, 4] bcast_S4x8x16x1x64_S4x8x16x8x64_0_1_2_3_4 : V F S4x8x16x1x64 .f32 → V F S4x8x16x8x64 .f32),
    unary main_v55 main_v67 (broadcastInDim S4x8x16x8x64 ![0, 1, 2, 3, 4] bcast_S1x8x1x8x1_S4x8x16x8x64_0_1_2_3_4 : V F S1x8x1x8x1 .f32 → V F S4x8x16x8x64 .f32),
    binary main_v66 main_v67 main_v68 (mulf : V F S4x8x16x8x64 .f32 → V F S4x8x16x8x64 .f32 → V F S4x8x16x8x64 .f32),
    reshape main_v68 main_v69 rfl shapeCasts_S4x8x16x8x64_S4x128x512,
    reshape main_arg5 main_v70 rfl shapeCasts_S512x64_S32x16x64,
    reshape main_v70 main_v71 rfl shapeCasts_S32x16x64_S4x8x16x1x64,
    unary main_v71 main_v72 (broadcastInDim S4x8x16x8x64 ![0, 1, 2, 3, 4] bcast_S4x8x16x1x64_S4x8x16x8x64_0_1_2_3_4 : V F S4x8x16x1x64 .f32 → V F S4x8x16x8x64 .f32),
    unary main_v55 main_v73 (broadcastInDim S4x8x16x8x64 ![0, 1, 2, 3, 4] bcast_S1x8x1x8x1_S4x8x16x8x64_0_1_2_3_4 : V F S1x8x1x8x1 .f32 → V F S4x8x16x8x64 .f32),
    binary main_v72 main_v73 main_v74 (mulf : V F S4x8x16x8x64 .f32 → V F S4x8x16x8x64 .f32 → V F S4x8x16x8x64 .f32),
    reshape main_v74 main_v75 rfl shapeCasts_S4x8x16x8x64_S4x128x512,
    reshape main_arg6 main_v76 rfl shapeCasts_S512x64_S32x16x64,
    unary main_v76 main_v77 (Host.negf : V F S32x16x64 .f32 → V F S32x16x64 .f32),
    reshape main_v77 main_v78 rfl shapeCasts_S32x16x64_S4x8x16x1x64,
    unary main_v78 main_v79 (broadcastInDim S4x8x16x8x64 ![0, 1, 2, 3, 4] bcast_S4x8x16x1x64_S4x8x16x8x64_0_1_2_3_4 : V F S4x8x16x1x64 .f32 → V F S4x8x16x8x64 .f32),
    unary main_v55 main_v80 (broadcastInDim S4x8x16x8x64 ![0, 1, 2, 3, 4] bcast_S1x8x1x8x1_S4x8x16x8x64_0_1_2_3_4 : V F S1x8x1x8x1 .f32 → V F S4x8x16x8x64 .f32),
    binary main_v79 main_v80 main_v81 (mulf : V F S4x8x16x8x64 .f32 → V F S4x8x16x8x64 .f32 → V F S4x8x16x8x64 .f32),
    reshape main_v81 main_v82 rfl shapeCasts_S4x8x16x8x64_S4x128x512,
    reshape main_arg12 main_v83 rfl shapeCasts_S4x128x512_S4x8x16x8x64,
    unary main_v55 main_v84 (broadcastInDim S4x8x16x8x64 ![0, 1, 2, 3, 4] bcast_S1x8x1x8x1_S4x8x16x8x64_0_1_2_3_4 : V F S1x8x1x8x1 .f32 → V F S4x8x16x8x64 .f32),
    binary main_v83 main_v84 main_v85 (mulf : V F S4x8x16x8x64 .f32 → V F S4x8x16x8x64 .f32 → V F S4x8x16x8x64 .f32),
    nullary main_cst_2 (constant S_ .f32 0x00000000#32),
    binary main_v85 main_cst_2 main_v86 ((fun x v => Host.reduceAdd x v reducesTo_S4x8x16x8x64_S4x8x16x64_d3 h_S_) : V F S4x8x16x8x64 .f32 → V F S_ .f32 → V F S4x8x16x64 .f32),
    reshape main_v86 main_v87 rfl shapeCasts_S4x8x16x64_S4x8x16x1x64,
    reshape main_v87 main_v88 rfl shapeCasts_S4x8x16x1x64_S32x16x64,
    unary main_v88 main_v89 (Host.negf : V F S32x16x64 .f32 → V F S32x16x64 .f32),
    reshape main_v89 main_v90 rfl shapeCasts_S32x16x64_S512x64,
    reshape main_arg11 main_v91 rfl shapeCasts_S4x128x512_S4x8x16x8x64,
    unary main_v55 main_v92 (broadcastInDim S4x8x16x8x64 ![0, 1, 2, 3, 4] bcast_S1x8x1x8x1_S4x8x16x8x64_0_1_2_3_4 : V F S1x8x1x8x1 .f32 → V F S4x8x16x8x64 .f32),
    binary main_v91 main_v92 main_v93 (mulf : V F S4x8x16x8x64 .f32 → V F S4x8x16x8x64 .f32 → V F S4x8x16x8x64 .f32),
    nullary main_cst_3 (constant S_ .f32 0x00000000#32),
    binary main_v93 main_cst_3 main_v94 ((fun x v => Host.reduceAdd x v reducesTo_S4x8x16x8x64_S4x8x16x64_d3 h_S_) : V F S4x8x16x8x64 .f32 → V F S_ .f32 → V F S4x8x16x64 .f32),
    reshape main_v94 main_v95 rfl shapeCasts_S4x8x16x64_S4x8x16x1x64,
    reshape main_v95 main_v96 rfl shapeCasts_S4x8x16x1x64_S32x16x64,
    reshape main_v96 main_v97 rfl shapeCasts_S32x16x64_S512x64,
    reshape main_arg10 main_v98 rfl shapeCasts_S4x128x512_S4x8x16x8x64,
    unary main_v55 main_v99 (broadcastInDim S4x8x16x8x64 ![0, 1, 2, 3, 4] bcast_S1x8x1x8x1_S4x8x16x8x64_0_1_2_3_4 : V F S1x8x1x8x1 .f32 → V F S4x8x16x8x64 .f32),
    binary main_v98 main_v99 main_v100 (mulf : V F S4x8x16x8x64 .f32 → V F S4x8x16x8x64 .f32 → V F S4x8x16x8x64 .f32),
    nullary main_cst_4 (constant S_ .f32 0x00000000#32),
    binary main_v100 main_cst_4 main_v101 ((fun x v => Host.reduceAdd x v reducesTo_S4x8x16x8x64_S4x8x16x64_d3 h_S_) : V F S4x8x16x8x64 .f32 → V F S_ .f32 → V F S4x8x16x64 .f32),
    reshape main_v101 main_v102 rfl shapeCasts_S4x8x16x64_S4x8x16x1x64,
    reshape main_v102 main_v103 rfl shapeCasts_S4x8x16x1x64_S32x16x64,
    reshape main_arg9 main_v104 rfl shapeCasts_S4x128x512_S4x8x16x8x64,
    unary main_v55 main_v105 (broadcastInDim S4x8x16x8x64 ![0, 1, 2, 3, 4] bcast_S1x8x1x8x1_S4x8x16x8x64_0_1_2_3_4 : V F S1x8x1x8x1 .f32 → V F S4x8x16x8x64 .f32),
    binary main_v104 main_v105 main_v106 (mulf : V F S4x8x16x8x64 .f32 → V F S4x8x16x8x64 .f32 → V F S4x8x16x8x64 .f32),
    nullary main_cst_5 (constant S_ .f32 0x00000000#32),
    binary main_v106 main_cst_5 main_v107 ((fun x v => Host.reduceAdd x v reducesTo_S4x8x16x8x64_S4x8x16x64_d3 h_S_) : V F S4x8x16x8x64 .f32 → V F S_ .f32 → V F S4x8x16x64 .f32),
    reshape main_v107 main_v108 rfl shapeCasts_S4x8x16x64_S4x8x16x1x64,
    reshape main_v108 main_v109 rfl shapeCasts_S4x8x16x1x64_S32x16x64,
    nullary main_cst_6 (constant S_ .f32 0x00000000#32),
    binary main_arg8 main_cst_6 main_v110 ((fun x v => Host.reduceAdd x v reducesTo_S8x2048_S2048_d0 h_S_) : V F S8x2048 .f32 → V F S_ .f32 → V F S2048 .f32),
    unary main_v110 main_v111 (broadcastInDim S1x2048 ![1] bcast_S2048_S1x2048_1 : V F S2048 .f32 → V F S1x2048 .f32),
    reshape main_v111 main_v112 rfl shapeCasts_S1x2048_S32x64,
    nullary main_cst_7 (constant S_ .f32 0x00000000#32),
    binary main_arg7 main_cst_7 main_v113 ((fun x v => Host.reduceAdd x v reducesTo_S8x2048_S2048_d0 h_S_) : V F S8x2048 .f32 → V F S_ .f32 → V F S2048 .f32),
    unary main_v113 main_v114 (broadcastInDim S1x2048 ![1] bcast_S2048_S1x2048_1 : V F S2048 .f32 → V F S1x2048 .f32),
    reshape main_v114 main_v115 rfl shapeCasts_S1x2048_S32x64,
    unary main_v45 main_v116 (broadcastInDim S32x16x64 ![0, 1, 2] bcast_S32x1x64_S32x16x64_0_1_2 : V F S32x1x64 .f32 → V F S32x16x64 .f32),
    binary main_v116 main_v103 main_v117 (mulf : V F S32x16x64 .f32 → V F S32x16x64 .f32 → V F S32x16x64 .f32),
    binary main_v103 main_v33 main_v118 (mulf : V F S32x16x64 .f32 → V F S32x16x64 .f32 → V F S32x16x64 .f32),
    nullary main_cst_8 (constant S_ .f32 0x00000000#32),
    binary main_v118 main_cst_8 main_v119 ((fun x v => Host.reduceAdd x v reducesTo_S32x16x64_S32x64_d1 h_S_) : V F S32x16x64 .f32 → V F S_ .f32 → V F S32x64 .f32),
    reshape main_v119 main_v120 rfl shapeCasts_S32x64_S32x1x64,
    nullary main_cst_9 (constant S_ .f32 0x00000000#32),
    binary main_v120 main_cst_9 main_v121 ((fun x v => Host.reduceAdd x v reducesTo_S32x1x64_S32x64_d1 h_S_) : V F S32x1x64 .f32 → V F S_ .f32 → V F S32x64 .f32),
    unary main_v42 main_v122 (broadcastInDim S32x16x64 ![0, 1, 2] bcast_S32x1x64_S32x16x64_0_1_2 : V F S32x1x64 .f32 → V F S32x16x64 .f32),
    binary main_v122 main_v103 main_v123 (mulf : V F S32x16x64 .f32 → V F S32x16x64 .f32 → V F S32x16x64 .f32),
    binary main_v103 main_v34 main_v124 (mulf : V F S32x16x64 .f32 → V F S32x16x64 .f32 → V F S32x16x64 .f32),
    nullary main_cst_10 (constant S_ .f32 0x00000000#32),
    binary main_v124 main_cst_10 main_v125 ((fun x v => Host.reduceAdd x v reducesTo_S32x16x64_S32x64_d1 h_S_) : V F S32x16x64 .f32 → V F S_ .f32 → V F S32x64 .f32),
    reshape main_v125 main_v126 rfl shapeCasts_S32x64_S32x1x64,
    nullary main_cst_11 (constant S_ .f32 0x00000000#32),
    binary main_v126 main_cst_11 main_v127 ((fun x v => Host.reduceAdd x v reducesTo_S32x1x64_S32x64_d1 h_S_) : V F S32x1x64 .f32 → V F S_ .f32 → V F S32x64 .f32),
    unary main_v109 main_v128 (Host.negf : V F S32x16x64 .f32 → V F S32x16x64 .f32),
    unary main_v38 main_v129 (broadcastInDim S32x16x64 ![0, 1, 2] bcast_S32x1x64_S32x16x64_0_1_2 : V F S32x1x64 .f32 → V F S32x16x64 .f32),
    binary main_v129 main_v128 main_v130 (mulf : V F S32x16x64 .f32 → V F S32x16x64 .f32 → V F S32x16x64 .f32),
    binary main_v123 main_v130 main_v131 (addf : V F S32x16x64 .f32 → V F S32x16x64 .f32 → V F S32x16x64 .f32),
    binary main_v128 main_v34 main_v132 (mulf : V F S32x16x64 .f32 → V F S32x16x64 .f32 → V F S32x16x64 .f32),
    nullary main_cst_12 (constant S_ .f32 0x00000000#32),
    binary main_v132 main_cst_12 main_v133 ((fun x v => Host.reduceAdd x v reducesTo_S32x16x64_S32x64_d1 h_S_) : V F S32x16x64 .f32 → V F S_ .f32 → V F S32x64 .f32),
    reshape main_v133 main_v134 rfl shapeCasts_S32x64_S32x1x64,
    nullary main_cst_13 (constant S_ .f32 0x00000000#32),
    binary main_v134 main_cst_13 main_v135 ((fun x v => Host.reduceAdd x v reducesTo_S32x1x64_S32x64_d1 h_S_) : V F S32x1x64 .f32 → V F S_ .f32 → V F S32x64 .f32),
    binary main_v121 main_v135 main_v136 (addf : V F S32x64 .f32 → V F S32x64 .f32 → V F S32x64 .f32),
    unary main_v35 main_v137 (broadcastInDim S32x16x64 ![0, 1, 2] bcast_S32x1x64_S32x16x64_0_1_2 : V F S32x1x64 .f32 → V F S32x16x64 .f32),
    binary main_v137 main_v109 main_v138 (mulf : V F S32x16x64 .f32 → V F S32x16x64 .f32 → V F S32x16x64 .f32),
    binary main_v117 main_v138 main_v139 (addf : V F S32x16x64 .f32 → V F S32x16x64 .f32 → V F S32x16x64 .f32),
    binary main_v109 main_v33 main_v140 (mulf : V F S32x16x64 .f32 → V F S32x16x64 .f32 → V F S32x16x64 .f32),
    nullary main_cst_14 (constant S_ .f32 0x00000000#32),
    binary main_v140 main_cst_14 main_v141 ((fun x v => Host.reduceAdd x v reducesTo_S32x16x64_S32x64_d1 h_S_) : V F S32x16x64 .f32 → V F S_ .f32 → V F S32x64 .f32),
    reshape main_v141 main_v142 rfl shapeCasts_S32x64_S32x1x64,
    nullary main_cst_15 (constant S_ .f32 0x00000000#32),
    binary main_v142 main_cst_15 main_v143 ((fun x v => Host.reduceAdd x v reducesTo_S32x1x64_S32x64_d1 h_S_) : V F S32x1x64 .f32 → V F S_ .f32 → V F S32x64 .f32),
    binary main_v127 main_v143 main_v144 (addf : V F S32x64 .f32 → V F S32x64 .f32 → V F S32x64 .f32),
    reshape main_v131 main_v145 rfl shapeCasts_S32x16x64_S512x64,
    reshape main_v139 main_v146 rfl shapeCasts_S32x16x64_S512x64,
    binary main_v136 main_v32 main_v147 (mulf : V F S32x64 .f32 → V F S32x64 .f32 → V F S32x64 .f32),
    binary main_v147 main_v28 main_v148 (mulf : V F S32x64 .f32 → V F S32x64 .f32 → V F S32x64 .f32),
    unary main_v148 main_v149 (Host.negf : V F S32x64 .f32 → V F S32x64 .f32),
    binary main_v136 main_v16 main_v150 (Host.divf : V F S32x64 .f32 → V F S32x64 .f32 → V F S32x64 .f32),
    unary main_v150 main_v151 (Host.negf : V F S32x64 .f32 → V F S32x64 .f32),
    binary main_v18 main_v151 main_v152 (mulf : V F S32x64 .f32 → V F S32x64 .f32 → V F S32x64 .f32),
    binary main_v151 main_arg1 main_v153 (mulf : V F S32x64 .f32 → V F S32x64 .f32 → V F S32x64 .f32),
    binary main_v115 main_v153 main_v154 (addf : V F S32x64 .f32 → V F S32x64 .f32 → V F S32x64 .f32),
    binary main_v13 main_v150 main_v155 (mulf : V F S32x64 .f32 → V F S32x64 .f32 → V F S32x64 .f32),
    binary main_v150 main_arg0 main_v156 (mulf : V F S32x64 .f32 → V F S32x64 .f32 → V F S32x64 .f32),
    binary main_v112 main_v156 main_v157 (addf : V F S32x64 .f32 → V F S32x64 .f32 → V F S32x64 .f32),
    binary main_v144 main_v25 main_v158 (mulf : V F S32x64 .f32 → V F S32x64 .f32 → V F S32x64 .f32),
    binary main_v158 main_v21 main_v159 (mulf : V F S32x64 .f32 → V F S32x64 .f32 → V F S32x64 .f32),
    unary main_v159 main_v160 (Host.negf : V F S32x64 .f32 → V F S32x64 .f32),
    binary main_v149 main_v160 main_v161 (addf : V F S32x64 .f32 → V F S32x64 .f32 → V F S32x64 .f32),
    binary main_v144 main_v16 main_v162 (Host.divf : V F S32x64 .f32 → V F S32x64 .f32 → V F S32x64 .f32),
    binary main_v13 main_v162 main_v163 (mulf : V F S32x64 .f32 → V F S32x64 .f32 → V F S32x64 .f32),
    binary main_v152 main_v163 main_v164 (addf : V F S32x64 .f32 → V F S32x64 .f32 → V F S32x64 .f32),
    binary main_v162 main_arg1 main_v165 (mulf : V F S32x64 .f32 → V F S32x64 .f32 → V F S32x64 .f32),
    binary main_v157 main_v165 main_v166 (addf : V F S32x64 .f32 → V F S32x64 .f32 → V F S32x64 .f32),
    binary main_v18 main_v162 main_v167 (mulf : V F S32x64 .f32 → V F S32x64 .f32 → V F S32x64 .f32),
    binary main_v155 main_v167 main_v168 (addf : V F S32x64 .f32 → V F S32x64 .f32 → V F S32x64 .f32),
    binary main_v162 main_arg0 main_v169 (mulf : V F S32x64 .f32 → V F S32x64 .f32 → V F S32x64 .f32),
    binary main_v154 main_v169 main_v170 (addf : V F S32x64 .f32 → V F S32x64 .f32 → V F S32x64 .f32),
    binary main_arg1 main_v161 main_v171 (mulf : V F S32x64 .f32 → V F S32x64 .f32 → V F S32x64 .f32),
    binary main_v164 main_v171 main_v172 (addf : V F S32x64 .f32 → V F S32x64 .f32 → V F S32x64 .f32),
    binary main_v161 main_arg1 main_v173 (mulf : V F S32x64 .f32 → V F S32x64 .f32 → V F S32x64 .f32),
    binary main_v172 main_v173 main_v174 (addf : V F S32x64 .f32 → V F S32x64 .f32 → V F S32x64 .f32),
    binary main_arg0 main_v161 main_v175 (mulf : V F S32x64 .f32 → V F S32x64 .f32 → V F S32x64 .f32),
    binary main_v168 main_v175 main_v176 (addf : V F S32x64 .f32 → V F S32x64 .f32 → V F S32x64 .f32),
    binary main_v161 main_arg0 main_v177 (mulf : V F S32x64 .f32 → V F S32x64 .f32 → V F S32x64 .f32),
    binary main_v176 main_v177 main_v178 (addf : V F S32x64 .f32 → V F S32x64 .f32 → V F S32x64 .f32),
    binary main_v3 main_v166 main_v179 (mulf : V F S32x64 .f32 → V F S32x64 .f32 → V F S32x64 .f32),
    binary main_v166 main_v11 main_v180 (mulf : V F S32x64 .f32 → V F S32x64 .f32 → V F S32x64 .f32),
    binary main_v179 main_v12 main_v181 (mulf : V F S32x64 .f32 → V F S32x64 .f32 → V F S32x64 .f32),
    binary main_arg1 main_v181 main_v182 (mulf : V F S32x64 .f32 → V F S32x64 .f32 → V F S32x64 .f32),
    nullary main_cst_16 (constant S_ .f32 0x00000000#32),
    binary main_v182 main_cst_16 main_v183 ((fun x v => Host.reduceAdd x v reducesTo_S32x64_S32_d1 h_S_) : V F S32x64 .f32 → V F S_ .f32 → V F S32 .f32),
    reshape main_v183 main_v184 rfl shapeCasts_S32_S32x1,
    unary main_v0 main_v185 (broadcastInDim S32x64 ![0, 1] bcast_S32x1_S32x64_0_1 : V F S32x1 .f32 → V F S32x64 .f32),
    binary main_v181 main_v185 main_v186 (mulf : V F S32x64 .f32 → V F S32x64 .f32 → V F S32x64 .f32),
    binary main_v174 main_v186 main_v187 (addf : V F S32x64 .f32 → V F S32x64 .f32 → V F S32x64 .f32),
    binary main_v3 main_v170 main_v188 (mulf : V F S32x64 .f32 → V F S32x64 .f32 → V F S32x64 .f32),
    binary main_v170 main_v6 main_v189 (mulf : V F S32x64 .f32 → V F S32x64 .f32 → V F S32x64 .f32),
    binary main_v180 main_v189 main_v190 (addf : V F S32x64 .f32 → V F S32x64 .f32 → V F S32x64 .f32),
    unary main_v188 main_v191 (Host.negf : V F S32x64 .f32 → V F S32x64 .f32),
    binary main_v191 main_v7 main_v192 (mulf : V F S32x64 .f32 → V F S32x64 .f32 → V F S32x64 .f32),
    binary main_arg1 main_v192 main_v193 (mulf : V F S32x64 .f32 → V F S32x64 .f32 → V F S32x64 .f32),
    nullary main_cst_17 (constant S_ .f32 0x00000000#32),
    binary main_v193 main_cst_17 main_v194 ((fun x v => Host.reduceAdd x v reducesTo_S32x64_S32_d1 h_S_) : V F S32x64 .f32 → V F S_ .f32 → V F S32 .f32),
    reshape main_v194 main_v195 rfl shapeCasts_S32_S32x1,
    binary main_v184 main_v195 main_v196 (addf : V F S32x1 .f32 → V F S32x1 .f32 → V F S32x1 .f32),
    unary main_v0 main_v197 (broadcastInDim S32x64 ![0, 1] bcast_S32x1_S32x64_0_1 : V F S32x1 .f32 → V F S32x64 .f32),
    binary main_v192 main_v197 main_v198 (mulf : V F S32x64 .f32 → V F S32x64 .f32 → V F S32x64 .f32),
    binary main_v187 main_v198 main_v199 (addf : V F S32x64 .f32 → V F S32x64 .f32 → V F S32x64 .f32),
    binary main_v190 main_v3 main_v200 (mulf : V F S32x64 .f32 → V F S32x64 .f32 → V F S32x64 .f32),
    binary main_arg0 main_v200 main_v201 (mulf : V F S32x64 .f32 → V F S32x64 .f32 → V F S32x64 .f32),
    nullary main_cst_18 (constant S_ .f32 0x00000000#32),
    binary main_v201 main_cst_18 main_v202 ((fun x v => Host.reduceAdd x v reducesTo_S32x64_S32_d1 h_S_) : V F S32x64 .f32 → V F S_ .f32 → V F S32 .f32),
    reshape main_v202 main_v203 rfl shapeCasts_S32_S32x1,
    binary main_v196 main_v203 main_v204 (addf : V F S32x1 .f32 → V F S32x1 .f32 → V F S32x1 .f32),
    unary main_v0 main_v205 (broadcastInDim S32x64 ![0, 1] bcast_S32x1_S32x64_0_1 : V F S32x1 .f32 → V F S32x64 .f32),
    binary main_v200 main_v205 main_v206 (mulf : V F S32x64 .f32 → V F S32x64 .f32 → V F S32x64 .f32),
    binary main_v178 main_v206 main_v207 (addf : V F S32x64 .f32 → V F S32x64 .f32 → V F S32x64 .f32),
    binary main_v204 main_v0 main_v208 (mulf : V F S32x1 .f32 → V F S32x1 .f32 → V F S32x1 .f32) ]

set_option maxHeartbeats 40000000 in
theorem main_eq (c : Dev nD) : main (F := F) c = seq ops := rfl

set_option maxHeartbeats 4000000 in
theorem ops_bufs : (ops : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., nullary_bufs_sub .., unary_bufs_sub .., binary_bufs_sub .., reshape_bufs_sub .., reshape_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., nullary_bufs_sub .., nullary_bufs_sub .., nullary_bufs_sub .., unary_bufs_sub .., binary_bufs_sub .., binary_bufs_sub .., unary_bufs_sub .., unary_bufs_sub .., reshape_bufs_sub .., unary_bufs_sub .., reshape_bufs_sub .., unary_bufs_sub .., reshape_bufs_sub .., unary_bufs_sub .., unary_bufs_sub .., binary_bufs_sub .., reshape_bufs_sub .., reshape_bufs_sub .., unary_bufs_sub .., unary_bufs_sub .., binary_bufs_sub .., reshape_bufs_sub .., reshape_bufs_sub .., reshape_bufs_sub .., unary_bufs_sub .., unary_bufs_sub .., binary_bufs_sub .., reshape_bufs_sub .., reshape_bufs_sub .., unary_bufs_sub .., reshape_bufs_sub .., unary_bufs_sub .., unary_bufs_sub .., binary_bufs_sub .., reshape_bufs_sub .., reshape_bufs_sub .., unary_bufs_sub .., binary_bufs_sub .., nullary_bufs_sub .., binary_bufs_sub .., reshape_bufs_sub .., reshape_bufs_sub .., unary_bufs_sub .., reshape_bufs_sub .., reshape_bufs_sub .., unary_bufs_sub .., binary_bufs_sub .., nullary_bufs_sub .., binary_bufs_sub .., reshape_bufs_sub .., reshape_bufs_sub .., reshape_bufs_sub .., reshape_bufs_sub .., unary_bufs_sub .., binary_bufs_sub .., nullary_bufs_sub .., binary_bufs_sub .., reshape_bufs_sub .., reshape_bufs_sub .., reshape_bufs_sub .., unary_bufs_sub .., binary_bufs_sub .., nullary_bufs_sub .., binary_bufs_sub .., reshape_bufs_sub .., reshape_bufs_sub .., nullary_bufs_sub .., binary_bufs_sub .., unary_bufs_sub .., reshape_bufs_sub .., nullary_bufs_sub .., binary_bufs_sub .., unary_bufs_sub .., reshape_bufs_sub .., unary_bufs_sub .., binary_bufs_sub .., binary_bufs_sub .., nullary_bufs_sub .., binary_bufs_sub .., reshape_bufs_sub .., nullary_bufs_sub .., binary_bufs_sub .., unary_bufs_sub .., binary_bufs_sub .., binary_bufs_sub .., nullary_bufs_sub .., binary_bufs_sub .., reshape_bufs_sub .., nullary_bufs_sub .., binary_bufs_sub .., unary_bufs_sub .., unary_bufs_sub .., binary_bufs_sub .., binary_bufs_sub .., binary_bufs_sub .., nullary_bufs_sub .., binary_bufs_sub .., reshape_bufs_sub .., nullary_bufs_sub .., binary_bufs_sub .., binary_bufs_sub .., unary_bufs_sub .., binary_bufs_sub .., binary_bufs_sub .., binary_bufs_sub .., nullary_bufs_sub .., binary_bufs_sub .., reshape_bufs_sub .., nullary_bufs_sub .., binary_bufs_sub .., binary_bufs_sub .., reshape_bufs_sub .., reshape_bufs_sub .., binary_bufs_sub .., binary_bufs_sub .., unary_bufs_sub .., binary_bufs_sub .., unary_bufs_sub .., binary_bufs_sub .., binary_bufs_sub .., binary_bufs_sub .., binary_bufs_sub .., binary_bufs_sub .., binary_bufs_sub .., binary_bufs_sub .., binary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., binary_bufs_sub .., reshape_bufs_sub .., unary_bufs_sub .., binary_bufs_sub .., binary_bufs_sub .., binary_bufs_sub .., binary_bufs_sub .., binary_bufs_sub .., unary_bufs_sub .., binary_bufs_sub .., binary_bufs_sub .., nullary_bufs_sub .., binary_bufs_sub .., reshape_bufs_sub .., binary_bufs_sub .., unary_bufs_sub .., binary_bufs_sub .., binary_bufs_sub .., binary_bufs_sub .., binary_bufs_sub .., nullary_bufs_sub .., binary_bufs_sub .., reshape_bufs_sub .., binary_bufs_sub .., unary_bufs_sub .., binary_bufs_sub .., binary_bufs_sub .., binary_bufs_sub ..⟩

/-! ## What the operations compute, value by value -/

def dt (a2 : V F S32x1 .f32) : V F S32x1 .f32 :=
  Host.exp a2

def decay (a0 : V F S32x64 .f32) (a2 : V F S32x1 .f32) : V F S32x64 .f32 :=
  Host.exp (mulf a0 (broadcastInDim S32x64 ![0, 1] bcast_S32x1_S32x64_0_1 (dt a2)))

def angle (a1 : V F S32x64 .f32) (a2 : V F S32x1 .f32) : V F S32x64 .f32 :=
  mulf a1 (broadcastInDim S32x64 ![0, 1] bcast_S32x1_S32x64_0_1 (dt a2))

def cosine (a1 : V F S32x64 .f32) (a2 : V F S32x1 .f32) : V F S32x64 .f32 :=
  Host.cos (angle a1 a2)

def sine (a1 : V F S32x64 .f32) (a2 : V F S32x1 .f32) : V F S32x64 .f32 :=
  Host.sin (angle a1 a2)

def re (a0 : V F S32x64 .f32) (a1 : V F S32x64 .f32) (a2 : V F S32x1 .f32) : V F S32x64 .f32 :=
  mulf (decay a0 a2) (cosine a1 a2)

def angle' (a1 : V F S32x64 .f32) (a2 : V F S32x1 .f32) : V F S32x64 .f32 :=
  mulf a1 (broadcastInDim S32x64 ![0, 1] bcast_S32x1_S32x64_0_1 (dt a2))

def sine' (a1 : V F S32x64 .f32) (a2 : V F S32x1 .f32) : V F S32x64 .f32 :=
  Host.sin (angle' a1 a2)

def cosine' (a1 : V F S32x64 .f32) (a2 : V F S32x1 .f32) : V F S32x64 .f32 :=
  Host.cos (angle' a1 a2)

def im (a0 : V F S32x64 .f32) (a1 : V F S32x64 .f32) (a2 : V F S32x1 .f32) : V F S32x64 .f32 :=
  mulf (decay a0 a2) (sine' a1 a2)

def den (a0 : V F S32x64 .f32) (a1 : V F S32x64 .f32) : V F S32x64 .f32 :=
  addf (mulf a0 a0) (mulf a1 a1)

def re1 (a0 : V F S32x64 .f32) (a1 : V F S32x64 .f32) (a2 : V F S32x1 .f32) : V F S32x64 .f32 :=
  subf (re a0 a1 a2) (broadcastInDim S32x64 ![] bcast_S_S32x64 ((constant S_ .f32 0x3F800000#32)))

def numR (a0 : V F S32x64 .f32) (a1 : V F S32x64 .f32) (a2 : V F S32x1 .f32) : V F S32x64 .f32 :=
  addf (mulf (re1 a0 a1 a2) a0) (mulf (im a0 a1 a2) a1)

def coefR (a0 : V F S32x64 .f32) (a1 : V F S32x64 .f32) (a2 : V F S32x1 .f32) : V F S32x64 .f32 :=
  Host.divf (numR a0 a1 a2) (den a0 a1)

def inv2 (a0 : V F S32x64 .f32) (a1 : V F S32x64 .f32) : V F S32x64 .f32 :=
  Host.divf (broadcastInDim S32x64 ![] bcast_S_S32x64 ((constant S_ .f32 0x3F800000#32))) (mulf (den a0 a1) (den a0 a1))

def numI (a0 : V F S32x64 .f32) (a1 : V F S32x64 .f32) (a2 : V F S32x1 .f32) : V F S32x64 .f32 :=
  subf (mulf (im a0 a1 a2) a0) (mulf (re1 a0 a1 a2) a1)

def coefI (a0 : V F S32x64 .f32) (a1 : V F S32x64 .f32) (a2 : V F S32x1 .f32) : V F S32x64 .f32 :=
  Host.divf (numI a0 a1 a2) (den a0 a1)

def inv2' (a0 : V F S32x64 .f32) (a1 : V F S32x64 .f32) : V F S32x64 .f32 :=
  Host.divf (broadcastInDim S32x64 ![] bcast_S_S32x64 ((constant S_ .f32 0x3F800000#32))) (mulf (den a0 a1) (den a0 a1))

def bRe (a3 : V F S512x64 .f32) : V F S32x16x64 .f32 :=
  shapeCast S32x16x64 a3 shapeCasts_S512x64_S32x16x64

def bIm (a4 : V F S512x64 .f32) : V F S32x16x64 .f32 :=
  shapeCast S32x16x64 a4 shapeCasts_S512x64_S32x16x64

def own  : V F S1x8x1x8x1 .f32 :=
  broadcastInDim S1x8x1x8x1 ![1, 3] bcast_S8x8_S1x8x1x8x1_1_3 (uitofp .f32 (cmpi .eq (addi ((iotaInDim S8x8 32 0)) (broadcastInDim S8x8 ![] bcast_S_S8x8 ((constantI S_ 32 0#32)))) ((iotaInDim S8x8 32 1))))

def dCIm (a12 : V F S4x128x512 .f32) : V F S512x64 .f32 :=
  shapeCast S512x64 (Host.negf (shapeCast S32x16x64 (shapeCast S4x8x16x1x64 (Host.reduceAdd (mulf (shapeCast S4x8x16x8x64 a12 shapeCasts_S4x128x512_S4x8x16x8x64) (broadcastInDim S4x8x16x8x64 ![0, 1, 2, 3, 4] bcast_S1x8x1x8x1_S4x8x16x8x64_0_1_2_3_4 (own (F := F)))) ((constant S_ .f32 0x00000000#32)) reducesTo_S4x8x16x8x64_S4x8x16x64_d3 h_S_) shapeCasts_S4x8x16x64_S4x8x16x1x64) shapeCasts_S4x8x16x1x64_S32x16x64)) shapeCasts_S32x16x64_S512x64

def dCRe (a11 : V F S4x128x512 .f32) : V F S512x64 .f32 :=
  shapeCast S512x64 (shapeCast S32x16x64 (shapeCast S4x8x16x1x64 (Host.reduceAdd (mulf (shapeCast S4x8x16x8x64 a11 shapeCasts_S4x128x512_S4x8x16x8x64) (broadcastInDim S4x8x16x8x64 ![0, 1, 2, 3, 4] bcast_S1x8x1x8x1_S4x8x16x8x64_0_1_2_3_4 (own (F := F)))) ((constant S_ .f32 0x00000000#32)) reducesTo_S4x8x16x8x64_S4x8x16x64_d3 h_S_) shapeCasts_S4x8x16x64_S4x8x16x1x64) shapeCasts_S4x8x16x1x64_S32x16x64) shapeCasts_S32x16x64_S512x64

def dBi (a10 : V F S4x128x512 .f32) : V F S32x16x64 .f32 :=
  shapeCast S32x16x64 (shapeCast S4x8x16x1x64 (Host.reduceAdd (mulf (shapeCast S4x8x16x8x64 a10 shapeCasts_S4x128x512_S4x8x16x8x64) (broadcastInDim S4x8x16x8x64 ![0, 1, 2, 3, 4] bcast_S1x8x1x8x1_S4x8x16x8x64_0_1_2_3_4 (own (F := F)))) ((constant S_ .f32 0x00000000#32)) reducesTo_S4x8x16x8x64_S4x8x16x64_d3 h_S_) shapeCasts_S4x8x16x64_S4x8x16x1x64) shapeCasts_S4x8x16x1x64_S32x16x64

def dBr (a9 : V F S4x128x512 .f32) : V F S32x16x64 .f32 :=
  shapeCast S32x16x64 (shapeCast S4x8x16x1x64 (Host.reduceAdd (mulf (shapeCast S4x8x16x8x64 a9 shapeCasts_S4x128x512_S4x8x16x8x64) (broadcastInDim S4x8x16x8x64 ![0, 1, 2, 3, 4] bcast_S1x8x1x8x1_S4x8x16x8x64_0_1_2_3_4 (own (F := F)))) ((constant S_ .f32 0x00000000#32)) reducesTo_S4x8x16x8x64_S4x8x16x64_d3 h_S_) shapeCasts_S4x8x16x64_S4x8x16x1x64) shapeCasts_S4x8x16x1x64_S32x16x64

def dIm0 (a8 : V F S8x2048 .f32) : V F S32x64 .f32 :=
  shapeCast S32x64 (broadcastInDim S1x2048 ![1] bcast_S2048_S1x2048_1 (Host.reduceAdd a8 ((constant S_ .f32 0x00000000#32)) reducesTo_S8x2048_S2048_d0 h_S_)) shapeCasts_S1x2048_S32x64

def dRe0 (a7 : V F S8x2048 .f32) : V F S32x64 .f32 :=
  shapeCast S32x64 (broadcastInDim S1x2048 ![1] bcast_S2048_S1x2048_1 (Host.reduceAdd a7 ((constant S_ .f32 0x00000000#32)) reducesTo_S8x2048_S2048_d0 h_S_)) shapeCasts_S1x2048_S32x64

def nBr (a9 : V F S4x128x512 .f32) : V F S32x16x64 .f32 :=
  Host.negf (dBr a9)

def dCi (a3 : V F S512x64 .f32) (a4 : V F S512x64 .f32) (a9 : V F S4x128x512 .f32) (a10 : V F S4x128x512 .f32) : V F S32x64 .f32 :=
  addf (Host.reduceAdd (shapeCast S32x1x64 (Host.reduceAdd (mulf (dBi a10) (bRe a3)) ((constant S_ .f32 0x00000000#32)) reducesTo_S32x16x64_S32x64_d1 h_S_) shapeCasts_S32x64_S32x1x64) ((constant S_ .f32 0x00000000#32)) reducesTo_S32x1x64_S32x64_d1 h_S_) (Host.reduceAdd (shapeCast S32x1x64 (Host.reduceAdd (mulf (nBr a9) (bIm a4)) ((constant S_ .f32 0x00000000#32)) reducesTo_S32x16x64_S32x64_d1 h_S_) shapeCasts_S32x64_S32x1x64) ((constant S_ .f32 0x00000000#32)) reducesTo_S32x1x64_S32x64_d1 h_S_)

def dCr (a3 : V F S512x64 .f32) (a4 : V F S512x64 .f32) (a9 : V F S4x128x512 .f32) (a10 : V F S4x128x512 .f32) : V F S32x64 .f32 :=
  addf (Host.reduceAdd (shapeCast S32x1x64 (Host.reduceAdd (mulf (dBi a10) (bIm a4)) ((constant S_ .f32 0x00000000#32)) reducesTo_S32x16x64_S32x64_d1 h_S_) shapeCasts_S32x64_S32x1x64) ((constant S_ .f32 0x00000000#32)) reducesTo_S32x1x64_S32x64_d1 h_S_) (Host.reduceAdd (shapeCast S32x1x64 (Host.reduceAdd (mulf (dBr a9) (bRe a3)) ((constant S_ .f32 0x00000000#32)) reducesTo_S32x16x64_S32x64_d1 h_S_) shapeCasts_S32x64_S32x1x64) ((constant S_ .f32 0x00000000#32)) reducesTo_S32x1x64_S32x64_d1 h_S_)

def dBtIm (a0 : V F S32x64 .f32) (a1 : V F S32x64 .f32) (a2 : V F S32x1 .f32) (a9 : V F S4x128x512 .f32) (a10 : V F S4x128x512 .f32) : V F S512x64 .f32 :=
  shapeCast S512x64 (addf (mulf (broadcastInDim S32x16x64 ![0, 1, 2] bcast_S32x1x64_S32x16x64_0_1_2 (broadcastInDim S32x1x64 ![0, 2] bcast_S32x64_S32x1x64_0_2 (coefR a0 a1 a2))) (dBi a10)) (mulf (broadcastInDim S32x16x64 ![0, 1, 2] bcast_S32x1x64_S32x16x64_0_1_2 (broadcastInDim S32x1x64 ![0, 2] bcast_S32x64_S32x1x64_0_2 (coefI a0 a1 a2))) (nBr a9))) shapeCasts_S32x16x64_S512x64

def dBtRe (a0 : V F S32x64 .f32) (a1 : V F S32x64 .f32) (a2 : V F S32x1 .f32) (a9 : V F S4x128x512 .f32) (a10 : V F S4x128x512 .f32) : V F S512x64 .f32 :=
  shapeCast S512x64 (addf (mulf (broadcastInDim S32x16x64 ![0, 1, 2] bcast_S32x1x64_S32x16x64_0_1_2 (broadcastInDim S32x1x64 ![0, 2] bcast_S32x64_S32x1x64_0_2 (coefI a0 a1 a2))) (dBi a10)) (mulf (broadcastInDim S32x16x64 ![0, 1, 2] bcast_S32x1x64_S32x16x64_0_1_2 (broadcastInDim S32x1x64 ![0, 2] bcast_S32x64_S32x1x64_0_2 (coefR a0 a1 a2))) (dBr a9))) shapeCasts_S32x16x64_S512x64

def qCi (a0 : V F S32x64 .f32) (a1 : V F S32x64 .f32) (a3 : V F S512x64 .f32) (a4 : V F S512x64 .f32) (a9 : V F S4x128x512 .f32) (a10 : V F S4x128x512 .f32) : V F S32x64 .f32 :=
  Host.divf (dCi a3 a4 a9 a10) (den a0 a1)

def nCi (a0 : V F S32x64 .f32) (a1 : V F S32x64 .f32) (a3 : V F S512x64 .f32) (a4 : V F S512x64 .f32) (a9 : V F S4x128x512 .f32) (a10 : V F S4x128x512 .f32) : V F S32x64 .f32 :=
  Host.negf (qCi a0 a1 a3 a4 a9 a10)

def dDen (a0 : V F S32x64 .f32) (a1 : V F S32x64 .f32) (a2 : V F S32x1 .f32) (a3 : V F S512x64 .f32) (a4 : V F S512x64 .f32) (a9 : V F S4x128x512 .f32) (a10 : V F S4x128x512 .f32) : V F S32x64 .f32 :=
  addf (Host.negf (mulf (mulf (dCi a3 a4 a9 a10) (inv2' a0 a1)) (numI a0 a1 a2))) (Host.negf (mulf (mulf (dCr a3 a4 a9 a10) (inv2 a0 a1)) (numR a0 a1 a2)))

def qCr (a0 : V F S32x64 .f32) (a1 : V F S32x64 .f32) (a3 : V F S512x64 .f32) (a4 : V F S512x64 .f32) (a9 : V F S4x128x512 .f32) (a10 : V F S4x128x512 .f32) : V F S32x64 .f32 :=
  Host.divf (dCr a3 a4 a9 a10) (den a0 a1)

def dIm (a0 : V F S32x64 .f32) (a1 : V F S32x64 .f32) (a3 : V F S512x64 .f32) (a4 : V F S512x64 .f32) (a8 : V F S8x2048 .f32) (a9 : V F S4x128x512 .f32) (a10 : V F S4x128x512 .f32) : V F S32x64 .f32 :=
  addf (addf (dIm0 a8) (mulf (qCi a0 a1 a3 a4 a9 a10) a0)) (mulf (qCr a0 a1 a3 a4 a9 a10) a1)

def dRe (a0 : V F S32x64 .f32) (a1 : V F S32x64 .f32) (a3 : V F S512x64 .f32) (a4 : V F S512x64 .f32) (a7 : V F S8x2048 .f32) (a9 : V F S4x128x512 .f32) (a10 : V F S4x128x512 .f32) : V F S32x64 .f32 :=
  addf (addf (dRe0 a7) (mulf (nCi a0 a1 a3 a4 a9 a10) a1)) (mulf (qCr a0 a1 a3 a4 a9 a10) a0)

def dLi0 (a0 : V F S32x64 .f32) (a1 : V F S32x64 .f32) (a2 : V F S32x1 .f32) (a3 : V F S512x64 .f32) (a4 : V F S512x64 .f32) (a9 : V F S4x128x512 .f32) (a10 : V F S4x128x512 .f32) : V F S32x64 .f32 :=
  addf (addf (addf (mulf (re1 a0 a1 a2) (nCi a0 a1 a3 a4 a9 a10)) (mulf (im a0 a1 a2) (qCr a0 a1 a3 a4 a9 a10))) (mulf a1 (dDen a0 a1 a2 a3 a4 a9 a10))) (mulf (dDen a0 a1 a2 a3 a4 a9 a10) a1)

def dLr0 (a0 : V F S32x64 .f32) (a1 : V F S32x64 .f32) (a2 : V F S32x1 .f32) (a3 : V F S512x64 .f32) (a4 : V F S512x64 .f32) (a9 : V F S4x128x512 .f32) (a10 : V F S4x128x512 .f32) : V F S32x64 .f32 :=
  addf (addf (addf (mulf (im a0 a1 a2) (qCi a0 a1 a3 a4 a9 a10)) (mulf (re1 a0 a1 a2) (qCr a0 a1 a3 a4 a9 a10))) (mulf a0 (dDen a0 a1 a2 a3 a4 a9 a10))) (mulf (dDen a0 a1 a2 a3 a4 a9 a10) a0)

def dIm1 (a0 : V F S32x64 .f32) (a1 : V F S32x64 .f32) (a2 : V F S32x1 .f32) (a3 : V F S512x64 .f32) (a4 : V F S512x64 .f32) (a8 : V F S8x2048 .f32) (a9 : V F S4x128x512 .f32) (a10 : V F S4x128x512 .f32) : V F S32x64 .f32 :=
  mulf (decay a0 a2) (dIm a0 a1 a3 a4 a8 a9 a10)

def dIm2 (a0 : V F S32x64 .f32) (a1 : V F S32x64 .f32) (a2 : V F S32x1 .f32) (a3 : V F S512x64 .f32) (a4 : V F S512x64 .f32) (a8 : V F S8x2048 .f32) (a9 : V F S4x128x512 .f32) (a10 : V F S4x128x512 .f32) : V F S32x64 .f32 :=
  mulf (dIm a0 a1 a3 a4 a8 a9 a10) (sine' a1 a2)

def dSin (a0 : V F S32x64 .f32) (a1 : V F S32x64 .f32) (a2 : V F S32x1 .f32) (a3 : V F S512x64 .f32) (a4 : V F S512x64 .f32) (a8 : V F S8x2048 .f32) (a9 : V F S4x128x512 .f32) (a10 : V F S4x128x512 .f32) : V F S32x64 .f32 :=
  mulf (dIm1 a0 a1 a2 a3 a4 a8 a9 a10) (cosine' a1 a2)

def dRe1 (a0 : V F S32x64 .f32) (a1 : V F S32x64 .f32) (a2 : V F S32x1 .f32) (a3 : V F S512x64 .f32) (a4 : V F S512x64 .f32) (a7 : V F S8x2048 .f32) (a9 : V F S4x128x512 .f32) (a10 : V F S4x128x512 .f32) : V F S32x64 .f32 :=
  mulf (decay a0 a2) (dRe a0 a1 a3 a4 a7 a9 a10)

def dDec (a0 : V F S32x64 .f32) (a1 : V F S32x64 .f32) (a2 : V F S32x1 .f32) (a3 : V F S512x64 .f32) (a4 : V F S512x64 .f32) (a7 : V F S8x2048 .f32) (a8 : V F S8x2048 .f32) (a9 : V F S4x128x512 .f32) (a10 : V F S4x128x512 .f32) : V F S32x64 .f32 :=
  addf (dIm2 a0 a1 a2 a3 a4 a8 a9 a10) (mulf (dRe a0 a1 a3 a4 a7 a9 a10) (cosine a1 a2))

def dCos (a0 : V F S32x64 .f32) (a1 : V F S32x64 .f32) (a2 : V F S32x1 .f32) (a3 : V F S512x64 .f32) (a4 : V F S512x64 .f32) (a7 : V F S8x2048 .f32) (a9 : V F S4x128x512 .f32) (a10 : V F S4x128x512 .f32) : V F S32x64 .f32 :=
  mulf (Host.negf (dRe1 a0 a1 a2 a3 a4 a7 a9 a10)) (sine a1 a2)

def dLi (a0 : V F S32x64 .f32) (a1 : V F S32x64 .f32) (a2 : V F S32x1 .f32) (a3 : V F S512x64 .f32) (a4 : V F S512x64 .f32) (a7 : V F S8x2048 .f32) (a8 : V F S8x2048 .f32) (a9 : V F S4x128x512 .f32) (a10 : V F S4x128x512 .f32) : V F S32x64 .f32 :=
  addf (addf (dLi0 a0 a1 a2 a3 a4 a9 a10) (mulf (dSin a0 a1 a2 a3 a4 a8 a9 a10) (broadcastInDim S32x64 ![0, 1] bcast_S32x1_S32x64_0_1 (dt a2)))) (mulf (dCos a0 a1 a2 a3 a4 a7 a9 a10) (broadcastInDim S32x64 ![0, 1] bcast_S32x1_S32x64_0_1 (dt a2)))

def dExp (a0 : V F S32x64 .f32) (a1 : V F S32x64 .f32) (a2 : V F S32x1 .f32) (a3 : V F S512x64 .f32) (a4 : V F S512x64 .f32) (a7 : V F S8x2048 .f32) (a8 : V F S8x2048 .f32) (a9 : V F S4x128x512 .f32) (a10 : V F S4x128x512 .f32) : V F S32x64 .f32 :=
  mulf (dDec a0 a1 a2 a3 a4 a7 a8 a9 a10) (decay a0 a2)

def dLr (a0 : V F S32x64 .f32) (a1 : V F S32x64 .f32) (a2 : V F S32x1 .f32) (a3 : V F S512x64 .f32) (a4 : V F S512x64 .f32) (a7 : V F S8x2048 .f32) (a8 : V F S8x2048 .f32) (a9 : V F S4x128x512 .f32) (a10 : V F S4x128x512 .f32) : V F S32x64 .f32 :=
  addf (dLr0 a0 a1 a2 a3 a4 a9 a10) (mulf (dExp a0 a1 a2 a3 a4 a7 a8 a9 a10) (broadcastInDim S32x64 ![0, 1] bcast_S32x1_S32x64_0_1 (dt a2)))

def dLogDt (a0 : V F S32x64 .f32) (a1 : V F S32x64 .f32) (a2 : V F S32x1 .f32) (a3 : V F S512x64 .f32) (a4 : V F S512x64 .f32) (a7 : V F S8x2048 .f32) (a8 : V F S8x2048 .f32) (a9 : V F S4x128x512 .f32) (a10 : V F S4x128x512 .f32) : V F S32x1 .f32 :=
  mulf (addf (addf (shapeCast S32x1 (Host.reduceAdd (mulf a1 (dSin a0 a1 a2 a3 a4 a8 a9 a10)) ((constant S_ .f32 0x00000000#32)) reducesTo_S32x64_S32_d1 h_S_) shapeCasts_S32_S32x1) (shapeCast S32x1 (Host.reduceAdd (mulf a1 (dCos a0 a1 a2 a3 a4 a7 a9 a10)) ((constant S_ .f32 0x00000000#32)) reducesTo_S32x64_S32_d1 h_S_) shapeCasts_S32_S32x1)) (shapeCast S32x1 (Host.reduceAdd (mulf a0 (dExp a0 a1 a2 a3 a4 a7 a8 a9 a10)) ((constant S_ .f32 0x00000000#32)) reducesTo_S32x64_S32_d1 h_S_) shapeCasts_S32_S32x1)) (dt a2)

set_option maxHeartbeats 40000000 in
/-- Every run terminates with the results at these values of the arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v207) = dLr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v199) = dLi (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v208) = dLogDt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v146) = dBtRe (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10))
      ∧ r.2.mem ((c.tc : Thread nD τ).loc main_v145) = dBtIm (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10))
      ∧ r.2.mem ((c.tc : Thread nD τ).loc main_v97) = dCRe (m ((c.tc : Thread nD τ).loc main_arg11))
      ∧ r.2.mem ((c.tc : Thread nD τ).loc main_v90) = dCIm (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v207).trans (by after_results <;> rfl),
      (h c main_v199).trans (by after_results <;> rfl),
      (h c main_v208).trans (by after_results <;> rfl),
      (h c main_v146).trans (by after_results <;> rfl),
      (h c main_v145).trans (by after_results <;> rfl),
      (h c main_v97).trans (by after_results <;> rfl),
      (h c main_v90).trans (by after_results <;> rfl),
      (h c main_arg0).trans (by after_results <;> rfl),
      (h c main_arg1).trans (by after_results <;> rfl),
      (h c main_arg2).trans (by after_results <;> rfl),
      (h c main_arg3).trans (by after_results <;> rfl),
      (h c main_arg4).trans (by after_results <;> rfl),
      (h c main_arg5).trans (by after_results <;> rfl),
      (h c main_arg6).trans (by after_results <;> rfl),
      (h c main_arg7).trans (by after_results <;> rfl),
      (h c main_arg8).trans (by after_results <;> rfl),
      (h c main_arg9).trans (by after_results <;> rfl),
      (h c main_arg10).trans (by after_results <;> rfl),
      (h c main_arg11).trans (by after_results <;> rfl),
      (h c main_arg12).trans (by after_results <;> rfl)⟩)
    (run_seq (by decide) (by decide) defs main (fun _ => ops) main_eq (fun _ => ops_bufs) m ρ)

end Cert.Proof.SsmPrepRun

end
-- ==== Proof.SsmPrepStep.lean ====
/-
  One grid point of the discretisation's backward (`ssm_prep_bwd`): the one-hot matrices that take a block's groups out of
  the lanes, and what the point computes of its block, entry by entry.
-/
module

public import proofs.«01_k».proof.Defs
public import proofs.«01_k».proof.Proof.Gen.KernelSsmPrepIdeal.Skeleton
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open scoped BigOperators

namespace Cert.Proof.SsmPrep

/-! ## The chain rule through one pole -/

section
variable (a b l A R X Y : EReal)

def dec : EReal := Ideal.exp (a * Ideal.exp l)
def co : EReal := Ideal.cos (b * Ideal.exp l)
def si : EReal := Ideal.sin (b * Ideal.exp l)
def nr : EReal := dec a l * co b l - 1
def im : EReal := dec a l * si b l
def norm : EReal := a * a + b * b
def numR : EReal := nr a b l * a + im a b l * b
def numI : EReal := im a b l * a - nr a b l * b
def coefR : EReal := Ideal.div (numR a b l) (norm a b)
def coefI : EReal := Ideal.div (numI a b l) (norm a b)

/-- The cotangents of the squared norm, of the pole's two parts, and of the decay. -/
def dNorm : EReal := -(X * Ideal.div 1 (norm a b * norm a b) * numI a b l) + -(Y * Ideal.div 1 (norm a b * norm a b) * numR a b l)
def dR : EReal := R + -Ideal.div X (norm a b) * b + Ideal.div Y (norm a b) * a
def dI : EReal := A + Ideal.div X (norm a b) * a + Ideal.div Y (norm a b) * b
def dSin : EReal := dec a l * dI a b A X Y * co b l
def dCos : EReal := -(dec a l * dR a b R X Y) * si b l
def dExp : EReal := (dI a b A X Y * si b l + dR a b R X Y * co b l) * dec a l

/-- The gradients of the pole's real and imaginary part. -/
def dA : EReal :=
  im a b l * Ideal.div X (norm a b) + nr a b l * Ideal.div Y (norm a b) + a * dNorm a b l X Y + dNorm a b l X Y * a + dExp a b l A R X Y * Ideal.exp l
def dB : EReal :=
  nr a b l * -Ideal.div X (norm a b) + im a b l * Ideal.div Y (norm a b) + b * dNorm a b l X Y + dNorm a b l X Y * b
    + dSin a b l A X Y * Ideal.exp l + dCos a b l R X Y * Ideal.exp l

/-- Where nothing comes in and the pole is not zero, nothing goes out. -/
theorem dR_zero (h : norm a b ≠ 0) : dR a b 0 0 0 = 0 := by simp [dR, Ideal.div, h]
theorem dI_zero (h : norm a b ≠ 0) : dI a b 0 0 0 = 0 := by simp [dI, Ideal.div, h]
theorem dSin_zero (h : norm a b ≠ 0) : dSin a b l 0 0 0 = 0 := by simp [dSin, dI_zero a b h]
theorem dCos_zero (h : norm a b ≠ 0) : dCos a b l 0 0 0 = 0 := by simp [dCos, dR_zero a b h]
theorem dExp_zero (h : norm a b ≠ 0) : dExp a b l 0 0 0 0 = 0 := by simp [dExp, dI_zero a b h, dR_zero a b h]
theorem dA_zero (h : norm a b ≠ 0) : dA a b l 0 0 0 0 = 0 := by simp [dA, dNorm, dExp_zero a b l h, Ideal.div, h]
theorem dB_zero (h : norm a b ≠ 0) : dB a b l 0 0 0 0 = 0 := by simp [dB, dNorm, dSin_zero a b l h, dCos_zero a b l h, Ideal.div, h]
end

open Cert.KernelSsmPrepIdeal Cert.KernelSsmPrepIdeal.Gen

/-! ## The one-hot matrices -/

/-- Whether lane `l` is state `s` of its group. -/
abbrev til : FVec Ideal S64x512 .f32 := k0_pay5 (F := Ideal)
/-- Whether row `r` and lane `l` belong to one group of the block. -/
abbrev rows : FVec Ideal S128x512 .f32 := k0_pay7 (F := Ideal) k0_pay6 (iota .tc S128x512 32 [1] iota_S128x512_d1_w32) 6#32
/-- Whether lane `l` of the point's block belongs to group `g`. -/
abbrev grp (i : grid0.Coords) : FVec Ideal S32x512 .f32 := k0_pay8 (F := Ideal) (Scalar.muli (BitVec.ofNat 32 (i 0).val) 8#32)
/-- Whether row `r` of the point's block belongs to group `g`. -/
abbrev rep (i : grid0.Coords) : FVec Ideal S128x32 .f32 := k0_pay4 (F := Ideal) i

theorem word_and : ∀ l : Fin 512, IntOp.andi (BitVec.ofNat 32 l.val) 63#32 = BitVec.ofNat 32 (l.val % 64) := by decide +kernel
theorem word_lane : ∀ l : Fin 512, IntOp.shrsi ArithUnit.vector (BitVec.ofNat 32 l.val) 6#32 = BitVec.ofNat 32 (l.val / 64) := by decide +kernel
theorem word_row : ∀ r : Fin 128, IntOp.shrsi ArithUnit.vector (BitVec.ofNat 32 r.val) 4#32 = BitVec.ofNat 32 (r.val / 16) := by decide +kernel
theorem word_group : ∀ (x : Fin 8) (i : Fin 4), IntOp.addi (BitVec.ofNat 32 x.val) (Scalar.muli (BitVec.ofNat 32 i.val) 8#32) = BitVec.ofNat 32 (x.val + i.val * 8) := by
  decide +kernel

/-- A comparison of two small words, as a number. -/
theorem hot {x y : ℕ} (hx : x < 2 ^ 32) (hy : y < 2 ^ 32) :
    (FloatOps.sitofp FTy.f32 (BitVec.setWidth 32 (IntOp.cmpi CmpIPredicate.eq (BitVec.ofNat 32 x) (BitVec.ofNat 32 y))) : Ideal .f32) = if x = y then 1 else 0 := by
  rw [WordCmp.cmpi_eq_ofNat hx hy]
  by_cases h : x = y
  · rw [if_pos h, decide_eq_true h]
    show ((((BitVec.ofBool true).setWidth 32).toInt : ℝ) : EReal) = 1
    rw [show ((BitVec.ofBool true).setWidth 32).toInt = 1 from by decide]
    norm_num
  · rw [if_neg h, decide_eq_false h]
    show ((((BitVec.ofBool false).setWidth 32).toInt : ℝ) : EReal) = 0
    rw [show ((BitVec.ofBool false).setWidth 32).toInt = 0 from by decide]
    norm_num

theorem til_apply (s : Fin 64) (l : Fin 512) : til (ix2 s l) = if l.val % 64 = s.val then 1 else 0 := by
  pointwise [til, k0_pay5]
  rw [word_and l, hot (by omega) (by omega)]

theorem rows_apply (r : Fin 128) (l : Fin 512) : rows (ix2 r l) = if r.val / 16 = l.val / 64 then 1 else 0 := by
  pointwise [rows, k0_pay7, k0_pay6]
  rw [word_lane l, word_row r, hot (by omega) (by omega)]

theorem grp_apply (i : grid0.Coords) (g : Fin 32) (l : Fin 512) : grp i (ix2 g l) = if g.val = l.val / 64 + (i 0).val * 8 then 1 else 0 := by
  have hi : (i 0).val < 4 := (i 0).isLt
  pointwise [grp, k0_pay8]
  rw [word_lane l, word_group ⟨l.val / 64, by omega⟩ ⟨(i 0).val, hi⟩, hot (by omega) (by dsimp only; omega)]

theorem rep_apply (i : grid0.Coords) (r : Fin 128) (g : Fin 32) : rep i (ix2 r g) = if r.val / 16 + (i 0).val * 8 = g.val then 1 else 0 := by
  have hi : (i 0).val < 4 := (i 0).isLt
  pointwise [rep, k0_pay4]
  rw [word_row r, word_group ⟨r.val / 16, by omega⟩ ⟨(i 0).val, hi⟩, hot (by dsimp only; omega) (by omega)]

/-- A sum against a one-hot column is one of its terms. -/
theorem sum_pick {n : ℕ} (f : Fin n → EReal) {w : Fin n → EReal} (k : Fin n) (h1 : w k = 1) (h0 : ∀ l, l ≠ k → w l = 0) :
    ∑ l, f l * w l = f k := by
  rw [Finset.sum_eq_single k (fun l _ h => by rw [h0 l h, mul_zero]) (fun h => absurd (Finset.mem_univ k) h), h1, mul_one]

/-- A block's row, state by state: the lanes of its own group. -/
theorem pick_lane (Y : Vec Ideal S1x128x512 .f32) (r : Fin 128) (s : Fin 64) :
    ∑ l : Fin 512, Y (ix3 0 r l) * (rows (ix2 r l) * til (ix2 s l)) = Y (ix3 0 r ⟨r.val / 16 * 64 + s.val, by omega⟩) := by
  refine sum_pick (fun l => Y (ix3 0 r l)) ⟨r.val / 16 * 64 + s.val, by omega⟩ ?_ fun l h => ?_
  · rw [rows_apply, til_apply, if_pos (by dsimp only; omega), if_pos (by dsimp only; omega), one_mul]
  · rw [rows_apply, til_apply]
    by_cases h1 : r.val / 16 = l.val / 64
    · rw [if_neg (c := l.val % 64 = s.val) fun h2 => h (Fin.ext (by dsimp only; omega)), mul_zero]
    · rw [if_neg h1, zero_mul]

theorem pull9 (Y : Vec Ideal S1x128x512 .f32) (r : Fin 128) (s : Fin 64) :
    k0_pay29 (F := Ideal) til rows Y (ix2 r s) = Y (ix3 0 r ⟨r.val / 16 * 64 + s.val, by omega⟩) := by
  rw [← pick_lane Y r s]
  pointwise [k0_pay29]
  simp only [mul_assoc]

theorem pull10 (Y : Vec Ideal S1x128x512 .f32) (r : Fin 128) (s : Fin 64) :
    k0_pay28 (F := Ideal) til rows Y (ix2 r s) = Y (ix3 0 r ⟨r.val / 16 * 64 + s.val, by omega⟩) := by
  rw [← pick_lane Y r s]
  pointwise [k0_pay28]
  simp only [mul_assoc]

theorem pull11 (Y : Vec Ideal S1x128x512 .f32) (r : Fin 128) (s : Fin 64) :
    k0_pay27 (F := Ideal) til rows Y (ix2 r s) = Y (ix3 0 r ⟨r.val / 16 * 64 + s.val, by omega⟩) := by
  rw [← pick_lane Y r s]
  pointwise [k0_pay27]
  simp only [mul_assoc]

theorem pull12 (Y : Vec Ideal S1x128x512 .f32) (r : Fin 128) (s : Fin 64) :
    k0_pay26 (F := Ideal) til rows Y (ix2 r s) = -Y (ix3 0 r ⟨r.val / 16 * 64 + s.val, by omega⟩) := by
  rw [← pick_lane (fun j => -Y j) r s]
  pointwise [k0_pay26]
  simp only [mul_assoc, zero_sub]

variable (i : grid0.Coords) (a b prev : Vec Ideal S32x64 .f32) (l prev1 : Vec Ideal S32x1 .f32) (br bi : Vec Ideal S128x64 .f32)
  (y7 y8 : Vec Ideal S8x512 .f32) (y9 y10 : Vec Ideal S1x128x512 .f32)

/-- What comes into the point's two coefficients, and into the pole's two parts. -/
abbrev inCI : FVec Ideal S32x64 .f32 := k0_pay39 (F := Ideal) bi (rep i) (k0_pay29 til rows y9) (k0_pay33 br til rows y10)
abbrev inCR : FVec Ideal S32x64 .f32 := k0_pay40 (F := Ideal) br (rep i) (k0_pay29 til rows y9) (k0_pay35 bi til rows y10)
abbrev inR : FVec Ideal S32x64 .f32 := k0_pay31 (F := Ideal) til (grp i) y7
abbrev inI : FVec Ideal S32x64 .f32 := k0_pay30 (F := Ideal) til (grp i) y8

/-- The point's part of the gradient of the poles' real part, added to what the buffer held. -/
theorem step_re (g : Fin 32) (s : Fin 64) :
    k0_pay54 (F := Ideal) (k0_pay9 l) (k0_pay10 a l) (k0_pay12 b l)
      (k0_pay46 a b br bi (rep i) (k0_pay18 a b) (k0_pay29 til rows y9) (inR i y7) (k0_pay33 br til rows y10) (k0_pay35 bi til rows y10))
      (k0_pay48 a br bi (rep i) (k0_pay17 a b l) (k0_pay18 a b) (k0_pay19 a b l) (k0_pay20 a b l) (k0_pay21 a b) (k0_pay22 a b l) (k0_pay23 a b) (k0_pay29 til rows y9) (k0_pay33 br til rows y10) (k0_pay35 bi til rows y10))
      (k0_pay49 a b br bi (rep i) (k0_pay15 b l) (k0_pay18 a b) (k0_pay29 til rows y9) (inI i y8) (k0_pay33 br til rows y10) (k0_pay35 bi til rows y10))
      prev (ix2 g s)
    = prev (ix2 g s) + dA (a (ix2 g s)) (b (ix2 g s)) (l (ix2 g 0)) (inI i y8 (ix2 g s)) (inR i y7 (ix2 g s)) (inCI i br bi y9 y10 (ix2 g s)) (inCR i br bi y9 y10 (ix2 g s)) := by
  pointwise [k0_pay54, k0_pay53, k0_pay46, k0_pay45, k0_pay44, k0_pay42, k0_pay41, k0_pay48, k0_pay43, k0_pay49, k0_pay9, k0_pay10, k0_pay12, k0_pay11, k0_pay15, k0_pay14, k0_pay17, k0_pay18, k0_pay19, k0_pay20, k0_pay21, k0_pay22, k0_pay23]
  simp only [dA, dExp, dI, dR, dNorm, numR, numI, nr, im, norm, dec, co, si, zero_sub]

/-- The point's part of the gradient of the poles' imaginary part, added to what the buffer held. -/
theorem step_im (g : Fin 32) (s : Fin 64) :
    k0_pay55 (F := Ideal) (k0_pay9 l) (k0_pay10 a l) (k0_pay13 b l)
      (k0_pay46 a b br bi (rep i) (k0_pay18 a b) (k0_pay29 til rows y9) (inR i y7) (k0_pay33 br til rows y10) (k0_pay35 bi til rows y10))
      (k0_pay47 b br bi (rep i) (k0_pay17 a b l) (k0_pay18 a b) (k0_pay19 a b l) (k0_pay20 a b l) (k0_pay21 a b) (k0_pay22 a b l) (k0_pay23 a b) (k0_pay29 til rows y9) (k0_pay33 br til rows y10) (k0_pay35 bi til rows y10))
      (k0_pay50 a b br bi (rep i) (k0_pay10 a l) (k0_pay16 b l) (k0_pay18 a b) (k0_pay29 til rows y9) (inI i y8) (k0_pay33 br til rows y10) (k0_pay35 bi til rows y10))
      prev (ix2 g s)
    = prev (ix2 g s) + dB (a (ix2 g s)) (b (ix2 g s)) (l (ix2 g 0)) (inI i y8 (ix2 g s)) (inR i y7 (ix2 g s)) (inCI i br bi y9 y10 (ix2 g s)) (inCR i br bi y9 y10 (ix2 g s)) := by
  pointwise [k0_pay55, k0_pay52, k0_pay46, k0_pay45, k0_pay44, k0_pay42, k0_pay41, k0_pay47, k0_pay43, k0_pay50, k0_pay9, k0_pay10, k0_pay13, k0_pay11, k0_pay16, k0_pay14, k0_pay17, k0_pay15, k0_pay12, k0_pay18, k0_pay19, k0_pay20, k0_pay21, k0_pay22, k0_pay23]
  simp only [dB, dSin, dCos, dI, dR, dNorm, numR, numI, nr, im, norm, dec, co, si, zero_sub]

/-- The point's part of the gradient of the step's logarithm, added to what the buffer held. -/
theorem step_dt (g : Fin 32) (s : Fin 1) :
    k0_pay56 (F := Ideal) a b (k0_pay9 l) (k0_pay10 a l) (k0_pay12 b l) (k0_pay13 b l)
      (k0_pay46 a b br bi (rep i) (k0_pay18 a b) (k0_pay29 til rows y9) (inR i y7) (k0_pay33 br til rows y10) (k0_pay35 bi til rows y10))
      (k0_pay49 a b br bi (rep i) (k0_pay15 b l) (k0_pay18 a b) (k0_pay29 til rows y9) (inI i y8) (k0_pay33 br til rows y10) (k0_pay35 bi til rows y10))
      (k0_pay51 a b br bi (rep i) (k0_pay10 a l) (k0_pay16 b l) (k0_pay18 a b) (k0_pay29 til rows y9) (inI i y8) (k0_pay33 br til rows y10) (k0_pay35 bi til rows y10))
      prev1 (ix2 g s)
    = prev1 (ix2 g s) + (∑ s : Fin 64, b (ix2 g s) * dSin (a (ix2 g s)) (b (ix2 g s)) (l (ix2 g 0)) (inI i y8 (ix2 g s)) (inCI i br bi y9 y10 (ix2 g s)) (inCR i br bi y9 y10 (ix2 g s))
        + ∑ s : Fin 64, b (ix2 g s) * dCos (a (ix2 g s)) (b (ix2 g s)) (l (ix2 g 0)) (inR i y7 (ix2 g s)) (inCI i br bi y9 y10 (ix2 g s)) (inCR i br bi y9 y10 (ix2 g s))
        + ∑ s : Fin 64, a (ix2 g s) * dExp (a (ix2 g s)) (b (ix2 g s)) (l (ix2 g 0)) (inI i y8 (ix2 g s)) (inR i y7 (ix2 g s)) (inCI i br bi y9 y10 (ix2 g s)) (inCR i br bi y9 y10 (ix2 g s)))
      * Ideal.exp (l (ix2 g 0)) := by
  obtain rfl : s = 0 := Subsingleton.elim _ _
  pointwise [k0_pay56, k0_pay53, k0_pay52, k0_pay46, k0_pay45, k0_pay44, k0_pay42, k0_pay41, k0_pay49, k0_pay50, k0_pay51, k0_pay9, k0_pay10, k0_pay12, k0_pay13, k0_pay11, k0_pay15, k0_pay16, k0_pay14, k0_pay18]
  simp only [dSin, dCos, dExp, dI, dR, norm, dec, co, si, zero_sub]

/-! ## What comes into a point: its own groups' cotangents, and nothing at the other groups -/

/-- A sum over a block's rows at group `g`: the group's sixteen rows, where the block has them. -/
theorem pick_rows (f : Fin 128 → EReal) (g : Fin 32) :
    ∑ r : Fin 128, f r * rep i (ix2 r g) = if g.val / 8 = (i 0).val then ∑ p : Fin 16, f ⟨g.val % 8 * 16 + p.val, by omega⟩ else 0 := by
  have hi : (i 0).val < 4 := (i 0).isLt
  simp only [rep_apply]
  split
  · rename_i h
    simp only [mul_ite, mul_one, mul_zero]
    rw [← Finset.sum_filter]
    refine (Finset.sum_nbij (fun p : Fin 16 => (⟨g.val % 8 * 16 + p.val, by omega⟩ : Fin 128)) ?_ ?_ ?_ fun _ _ => rfl).symm
    · intro p _
      simp only [Finset.mem_filter, Finset.mem_univ, true_and]
      omega
    · intro p _ q _ e
      have := congrArg Fin.val e
      dsimp only at this
      exact Fin.ext (by omega)
    · intro r hr
      simp only [Finset.coe_filter, Finset.mem_univ, true_and, Set.mem_setOf_eq] at hr
      exact ⟨⟨r.val - g.val % 8 * 16, by omega⟩, by simp, Fin.ext (by dsimp only; omega)⟩
  · rename_i h
    exact Finset.sum_eq_zero fun r _ => by rw [if_neg (by omega), mul_zero]

/-- The coefficient each row of the block takes: its group's. -/
theorem pick_group (f : Fin 32 → EReal) (r : Fin 128) (k : Fin 32) (hk : k.val = r.val / 16 + (i 0).val * 8) :
    ∑ g : Fin 32, rep i (ix2 r g) * f g = f k := by
  simp only [mul_comm (rep i _)]
  exact sum_pick f k (by rw [rep_apply, if_pos hk.symm]) fun l h => by rw [rep_apply, if_neg fun e => h (Fin.ext (by omega))]

/-- A sum over the block's lanes at group `g` and state `s`: the one lane, where the block has it. -/
theorem pick_pole (f : Fin 512 → EReal) (g : Fin 32) (s : Fin 64) :
    ∑ l : Fin 512, f l * (grp i (ix2 g l) * til (ix2 s l)) = if g.val / 8 = (i 0).val then f ⟨g.val % 8 * 64 + s.val, by omega⟩ else 0 := by
  have hi : (i 0).val < 4 := (i 0).isLt
  split
  · refine sum_pick f ⟨g.val % 8 * 64 + s.val, by omega⟩ ?_ fun l h => ?_
    · rw [grp_apply, til_apply, if_pos (by dsimp only; omega), if_pos (by dsimp only; omega), one_mul]
    · rw [grp_apply, til_apply]
      by_cases h1 : g.val = l.val / 64 + (i 0).val * 8
      · rw [if_neg (c := l.val % 64 = s.val) fun h2 => h (Fin.ext (by dsimp only; omega)), mul_zero]
      · rw [if_neg h1, zero_mul]
  · exact Finset.sum_eq_zero fun l _ => by rw [grp_apply, if_neg (by omega), zero_mul, mul_zero]

theorem inR_apply (g : Fin 32) (s : Fin 64) :
    inR i y7 (ix2 g s) = if g.val / 8 = (i 0).val then ∑ k : Fin 8, y7 (ix2 k ⟨g.val % 8 * 64 + s.val, by omega⟩) else 0 := by
  rw [← pick_pole i (fun l => ∑ k : Fin 8, y7 (ix2 k l)) g s]
  pointwise [inR, k0_pay31]
  simp only [mul_assoc, Fin.sum_univ_one]

theorem inI_apply (g : Fin 32) (s : Fin 64) :
    inI i y8 (ix2 g s) = if g.val / 8 = (i 0).val then ∑ k : Fin 8, y8 (ix2 k ⟨g.val % 8 * 64 + s.val, by omega⟩) else 0 := by
  rw [← pick_pole i (fun l => ∑ k : Fin 8, y8 (ix2 k l)) g s]
  pointwise [inI, k0_pay30]
  simp only [mul_assoc, Fin.sum_univ_one]

theorem row_group (g : Fin 32) (p : Fin 16) : (g.val % 8 * 16 + p.val) / 16 = g.val % 8 := by omega

theorem inCI_apply (g : Fin 32) (s : Fin 64) :
    inCI i br bi y9 y10 (ix2 g s) = if g.val / 8 = (i 0).val then
      ∑ p : Fin 16, (y10 (ix3 0 ⟨g.val % 8 * 16 + p.val, by omega⟩ ⟨g.val % 8 * 64 + s.val, by omega⟩) * br (ix2 ⟨g.val % 8 * 16 + p.val, by omega⟩ s)
        + -y9 (ix3 0 ⟨g.val % 8 * 16 + p.val, by omega⟩ ⟨g.val % 8 * 64 + s.val, by omega⟩) * bi (ix2 ⟨g.val % 8 * 16 + p.val, by omega⟩ s)) else 0 := by
  pointwise [inCI, k0_pay39, k0_pay36, k0_pay33]
  rw [pick_rows i (fun x => k0_pay28 til rows y10 (ix2 x s) * br (ix2 x s) + (0 - k0_pay29 til rows y9 (ix2 x s)) * bi (ix2 x s)) g]
  simp only [pull9, pull10, zero_sub, row_group]

theorem inCR_apply (g : Fin 32) (s : Fin 64) :
    inCR i br bi y9 y10 (ix2 g s) = if g.val / 8 = (i 0).val then
      ∑ p : Fin 16, (y10 (ix3 0 ⟨g.val % 8 * 16 + p.val, by omega⟩ ⟨g.val % 8 * 64 + s.val, by omega⟩) * bi (ix2 ⟨g.val % 8 * 16 + p.val, by omega⟩ s)
        + y9 (ix3 0 ⟨g.val % 8 * 16 + p.val, by omega⟩ ⟨g.val % 8 * 64 + s.val, by omega⟩) * br (ix2 ⟨g.val % 8 * 16 + p.val, by omega⟩ s)) else 0 := by
  pointwise [inCR, k0_pay40, k0_pay35]
  rw [pick_rows i (fun x => k0_pay28 til rows y10 (ix2 x s) * bi (ix2 x s) + k0_pay29 til rows y9 (ix2 x s) * br (ix2 x s)) g]
  simp only [pull9, pull10, row_group]

/-! ## What leaves a point for its own rows -/

theorem coef_re (r : Fin 128) (s : Fin 64) (k : Fin 32) (hk : k.val = r.val / 16 + (i 0).val * 8) :
    k0_pay24 (F := Ideal) a b l (rep i) (ix2 r s) = coefR (a (ix2 k s)) (b (ix2 k s)) (l (ix2 k 0)) := by
  pointwise [k0_pay24]
  rw [pick_group i (fun x => Ideal.div (k0_pay20 a b l (ix2 x s)) (k0_pay18 a b (ix2 x s))) r k hk]
  pointwise [k0_pay20, k0_pay19, k0_pay18, k0_pay17, k0_pay15, k0_pay14, k0_pay12, k0_pay11, k0_pay10, k0_pay9, coefR, numR, norm, nr, im, dec, co, si]

theorem coef_im (r : Fin 128) (s : Fin 64) (k : Fin 32) (hk : k.val = r.val / 16 + (i 0).val * 8) :
    k0_pay25 (F := Ideal) a b l (rep i) (ix2 r s) = coefI (a (ix2 k s)) (b (ix2 k s)) (l (ix2 k 0)) := by
  pointwise [k0_pay25]
  rw [pick_group i (fun x => Ideal.div (k0_pay22 a b l (ix2 x s)) (k0_pay18 a b (ix2 x s))) r k hk]
  pointwise [k0_pay22, k0_pay19, k0_pay18, k0_pay17, k0_pay15, k0_pay14, k0_pay12, k0_pay11, k0_pay10, k0_pay9, coefI, numI, norm, nr, im, dec, co, si]

theorem step_btRe (r : Fin 128) (s : Fin 64) (k : Fin 32) (hk : k.val = r.val / 16 + (i 0).val * 8) :
    k0_pay38 (F := Ideal) (k0_pay24 a b l (rep i)) (k0_pay29 til rows y9) (k0_pay32 til rows (k0_pay25 a b l (rep i)) y10) (ix2 r s)
      = coefI (a (ix2 k s)) (b (ix2 k s)) (l (ix2 k 0)) * y10 (ix3 0 r ⟨r.val / 16 * 64 + s.val, by omega⟩)
        + coefR (a (ix2 k s)) (b (ix2 k s)) (l (ix2 k 0)) * y9 (ix3 0 r ⟨r.val / 16 * 64 + s.val, by omega⟩) := by
  rw [← coef_re i a b l r s k hk, ← coef_im i a b l r s k hk, ← pull9 y9 r s, ← pull10 y10 r s]
  pointwise [k0_pay38, k0_pay32]

theorem step_btIm (r : Fin 128) (s : Fin 64) (k : Fin 32) (hk : k.val = r.val / 16 + (i 0).val * 8) :
    k0_pay37 (F := Ideal) (k0_pay25 a b l (rep i)) (k0_pay29 til rows y9) (k0_pay34 til rows (k0_pay24 a b l (rep i)) y10) (ix2 r s)
      = coefR (a (ix2 k s)) (b (ix2 k s)) (l (ix2 k 0)) * y10 (ix3 0 r ⟨r.val / 16 * 64 + s.val, by omega⟩)
        + coefI (a (ix2 k s)) (b (ix2 k s)) (l (ix2 k 0)) * -y9 (ix3 0 r ⟨r.val / 16 * 64 + s.val, by omega⟩) := by
  rw [← coef_re i a b l r s k hk, ← coef_im i a b l r s k hk, ← pull9 y9 r s, ← pull10 y10 r s]
  pointwise [k0_pay37, k0_pay36, k0_pay34]
  rw [zero_sub]

end Cert.Proof.SsmPrep
end
-- ==== Proof.SsmPrepArrays.lean ====
/-
  The discretisation's backward (`ssm_prep_bwd`), the whole arrays: what each of the four grid points adds to the poles'
  gradients is its own eight groups' and nothing elsewhere, so the sum over the points is the gradient at every group; the
  matrices' gradients are each written once, block by block.
-/
module

public import proofs.«01_k».proof.Proof.SsmPrepStep
public import proofs.«01_k».proof.Proof.Gen.KernelSsmPrepIdeal.Frame

@[expose] public section

set_option maxRecDepth 16384

noncomputable section

open Idealize.ShloMosaic Idealize.ShloMosaic.TcCoe Idealize.SL.Sem
open Idealize.ShloMosaic.Pipeline (Dat)
open scoped BigOperators

namespace Cert.Proof.SsmPrep

open Cert.KernelSsmPrepIdeal Cert.KernelSsmPrepIdeal.Gen

/-! ## The gradients, over the arguments -/

section
variable (a b : FVec Ideal S32x64 .f32) (l : FVec Ideal S32x1 .f32) (br bi : FVec Ideal S512x64 .f32)
  (dr di : FVec Ideal S8x2048 .f32) (er ei : FVec Ideal S4x128x512 .f32)

/-- A cotangent of the poles' rows, summed over the rows. -/
def ctPole (g : Fin 32) (s : Fin 64) : EReal := ∑ k : Fin 8, dr (ix2 k ⟨g.val * 64 + s.val, by omega⟩)
/-- A cotangent of the dense matrix, at its group's own lanes. -/
def ctRow (g : Fin 32) (p : Fin 16) (s : Fin 64) : EReal :=
  er (ix3 ⟨g.val / 8, by omega⟩ ⟨g.val % 8 * 16 + p.val, by omega⟩ ⟨g.val % 8 * 64 + s.val, by omega⟩)
/-- The cotangents of the two coefficients. -/
def ctCI (g : Fin 32) (s : Fin 64) : EReal :=
  ∑ p : Fin 16, (ctRow ei g p s * br (ix2 ⟨g.val * 16 + p.val, by omega⟩ s) + -ctRow er g p s * bi (ix2 ⟨g.val * 16 + p.val, by omega⟩ s))
def ctCR (g : Fin 32) (s : Fin 64) : EReal :=
  ∑ p : Fin 16, (ctRow ei g p s * bi (ix2 ⟨g.val * 16 + p.val, by omega⟩ s) + ctRow er g p s * br (ix2 ⟨g.val * 16 + p.val, by omega⟩ s))

def gradRe (g : Fin 32) (s : Fin 64) : EReal :=
  dA (a (ix2 g s)) (b (ix2 g s)) (l (ix2 g 0)) (ctPole di g s) (ctPole dr g s) (ctCI br bi er ei g s) (ctCR br bi er ei g s)
def gradIm (g : Fin 32) (s : Fin 64) : EReal :=
  dB (a (ix2 g s)) (b (ix2 g s)) (l (ix2 g 0)) (ctPole di g s) (ctPole dr g s) (ctCI br bi er ei g s) (ctCR br bi er ei g s)
def gradDt (g : Fin 32) : EReal :=
  (∑ s : Fin 64, b (ix2 g s) * dSin (a (ix2 g s)) (b (ix2 g s)) (l (ix2 g 0)) (ctPole di g s) (ctCI br bi er ei g s) (ctCR br bi er ei g s)
    + ∑ s : Fin 64, b (ix2 g s) * dCos (a (ix2 g s)) (b (ix2 g s)) (l (ix2 g 0)) (ctPole dr g s) (ctCI br bi er ei g s) (ctCR br bi er ei g s)
    + ∑ s : Fin 64, a (ix2 g s) * dExp (a (ix2 g s)) (b (ix2 g s)) (l (ix2 g 0)) (ctPole di g s) (ctPole dr g s) (ctCI br bi er ei g s) (ctCR br bi er ei g s))
  * Ideal.exp (l (ix2 g 0))
end

variable (m : (ℓ : Loc nD τ sig) → Buf (Elt Ideal) ℓ) (c : Dev nD)

/-! ## What a point's windows hold of the arguments -/

theorem coord : ∀ t : Fin cfg0.N, (grid0.coords t 0).val = t.val := (by decide +kernel : ∀ t : Fin grid0.N, _)

/-- Every window's block index at a grid point. -/
theorem idx : ∀ t : Fin cfg0.N, win0_0.index t = ![0, 0] ∧ win0_1.index t = ![0, 0] ∧ win0_2.index t = ![0, 0]
    ∧ win0_3.index t = ![t.val, 0] ∧ win0_4.index t = ![t.val, 0] ∧ win0_7.index t = ![0, t.val] ∧ win0_8.index t = ![0, t.val]
    ∧ win0_9.index t = ![t.val, 0, 0] ∧ win0_10.index t = ![t.val, 0, 0] ∧ win0_11.index t = ![t.val, 0, 0] ∧ win0_12.index t = ![t.val, 0, 0]
    ∧ win0_13.index t = ![0, 0] ∧ win0_14.index t = ![0, 0] ∧ win0_15.index t = ![0, 0]
    ∧ win0_16.index t = ![t.val, 0] ∧ win0_17.index t = ![t.val, 0] ∧ win0_18.index t = ![t.val, 0] ∧ win0_19.index t = ![t.val, 0] :=
  (by decide +kernel : ∀ t : Fin grid0.N, _)

theorem blk0 (t : Fin cfg0.N) (g : Fin 32) (s : Fin 64) : (iblk m c 0 t : Vec Ideal S32x64 .f32) (ix2 g s) = m ((c : Thread nD τ).loc main_arg0) (ix2 g s) := by
  blk_point [iblk, V, idx t]
theorem blk1 (t : Fin cfg0.N) (g : Fin 32) (s : Fin 64) : (iblk m c 1 t : Vec Ideal S32x64 .f32) (ix2 g s) = m ((c : Thread nD τ).loc main_arg1) (ix2 g s) := by
  blk_point [iblk, V, idx t]
theorem blk2 (t : Fin cfg0.N) (g : Fin 32) (s : Fin 1) : (iblk m c 2 t : Vec Ideal S32x1 .f32) (ix2 g s) = m ((c : Thread nD τ).loc main_arg2) (ix2 g s) := by
  blk_point [iblk, V, idx t]
theorem blk3 (t : Fin cfg0.N) (r : Fin 128) (s : Fin 64) :
    (iblk m c 3 t : Vec Ideal S128x64 .f32) (ix2 r s) = m ((c : Thread nD τ).loc main_arg3) (ix2 ⟨t.val * 128 + r.val, by have : t.val < 4 := t.isLt; omega⟩ s) := by
  blk_point [iblk, V, idx t]
theorem blk4 (t : Fin cfg0.N) (r : Fin 128) (s : Fin 64) :
    (iblk m c 4 t : Vec Ideal S128x64 .f32) (ix2 r s) = m ((c : Thread nD τ).loc main_arg4) (ix2 ⟨t.val * 128 + r.val, by have : t.val < 4 := t.isLt; omega⟩ s) := by
  blk_point [iblk, V, idx t]
theorem blk7 (t : Fin cfg0.N) (k : Fin 8) (q : Fin 512) :
    (iblk m c 7 t : Vec Ideal S8x512 .f32) (ix2 k q) = m ((c : Thread nD τ).loc main_arg7) (ix2 k ⟨t.val * 512 + q.val, by have : t.val < 4 := t.isLt; omega⟩) := by
  blk_point [iblk, V, idx t]
theorem blk8 (t : Fin cfg0.N) (k : Fin 8) (q : Fin 512) :
    (iblk m c 8 t : Vec Ideal S8x512 .f32) (ix2 k q) = m ((c : Thread nD τ).loc main_arg8) (ix2 k ⟨t.val * 512 + q.val, by have : t.val < 4 := t.isLt; omega⟩) := by
  blk_point [iblk, V, idx t]
theorem blk9 (t : Fin cfg0.N) (r : Fin 128) (q : Fin 512) :
    (iblk m c 9 t : Vec Ideal S1x128x512 .f32) (ix3 0 r q) = m ((c : Thread nD τ).loc main_arg9) (ix3 ⟨t.val, t.isLt⟩ r q) := by
  blk_point [iblk, V, idx t]
theorem blk10 (t : Fin cfg0.N) (r : Fin 128) (q : Fin 512) :
    (iblk m c 10 t : Vec Ideal S1x128x512 .f32) (ix3 0 r q) = m ((c : Thread nD τ).loc main_arg10) (ix3 ⟨t.val, t.isLt⟩ r q) := by
  blk_point [iblk, V, idx t]
theorem blk11 (t : Fin cfg0.N) (r : Fin 128) (q : Fin 512) :
    (iblk m c 11 t : Vec Ideal S1x128x512 .f32) (ix3 0 r q) = m ((c : Thread nD τ).loc main_arg11) (ix3 ⟨t.val, t.isLt⟩ r q) := by
  blk_point [iblk, V, idx t]
theorem blk12 (t : Fin cfg0.N) (r : Fin 128) (q : Fin 512) :
    (iblk m c 12 t : Vec Ideal S1x128x512 .f32) (ix3 0 r q) = m ((c : Thread nD τ).loc main_arg12) (ix3 ⟨t.val, t.isLt⟩ r q) := by
  blk_point [iblk, V, idx t]

/-! ## What comes into a point -/

theorem inI_point (t : Fin cfg0.N) (g : Fin 32) (s : Fin 64) :
    inI (grid0.coords t) (iblk m c 8 t) (ix2 g s) = if g.val / 8 = t.val then ctPole (m ((c : Thread nD τ).loc main_arg8)) g s else 0 := by
  rw [inI_apply, coord t]
  split
  · refine Finset.sum_congr rfl fun k _ => ?_
    rw [blk8]
    exact congrArg _ (congrArg (ix2 k) (Fin.ext (by dsimp only; omega)))
  · rfl

theorem inR_point (t : Fin cfg0.N) (g : Fin 32) (s : Fin 64) :
    inR (grid0.coords t) (iblk m c 7 t) (ix2 g s) = if g.val / 8 = t.val then ctPole (m ((c : Thread nD τ).loc main_arg7)) g s else 0 := by
  rw [inR_apply, coord t]
  split
  · refine Finset.sum_congr rfl fun k _ => ?_
    rw [blk7]
    exact congrArg _ (congrArg (ix2 k) (Fin.ext (by dsimp only; omega)))
  · rfl

theorem ct9 (t : Fin cfg0.N) (g : Fin 32) (h : g.val / 8 = t.val) (p : Fin 16) (s : Fin 64) :
    (iblk m c 9 t : Vec Ideal S1x128x512 .f32) (ix3 0 ⟨g.val % 8 * 16 + p.val, by omega⟩ ⟨g.val % 8 * 64 + s.val, by omega⟩)
      = ctRow (m ((c : Thread nD τ).loc main_arg9)) g p s := by
  rw [blk9]
  exact congrArg (fun x => m ((c : Thread nD τ).loc main_arg9) (ix3 x _ _)) (Fin.ext h.symm)
theorem ct10 (t : Fin cfg0.N) (g : Fin 32) (h : g.val / 8 = t.val) (p : Fin 16) (s : Fin 64) :
    (iblk m c 10 t : Vec Ideal S1x128x512 .f32) (ix3 0 ⟨g.val % 8 * 16 + p.val, by omega⟩ ⟨g.val % 8 * 64 + s.val, by omega⟩)
      = ctRow (m ((c : Thread nD τ).loc main_arg10)) g p s := by
  rw [blk10]
  exact congrArg (fun x => m ((c : Thread nD τ).loc main_arg10) (ix3 x _ _)) (Fin.ext h.symm)
theorem row3 (t : Fin cfg0.N) (g : Fin 32) (h : g.val / 8 = t.val) (p : Fin 16) (s : Fin 64) :
    (iblk m c 3 t : Vec Ideal S128x64 .f32) (ix2 ⟨g.val % 8 * 16 + p.val, by omega⟩ s)
      = m ((c : Thread nD τ).loc main_arg3) (ix2 ⟨g.val * 16 + p.val, by omega⟩ s) := by
  rw [blk3]
  exact congrArg (fun x => m ((c : Thread nD τ).loc main_arg3) (ix2 x s)) (Fin.ext (by dsimp only; omega))
theorem row4 (t : Fin cfg0.N) (g : Fin 32) (h : g.val / 8 = t.val) (p : Fin 16) (s : Fin 64) :
    (iblk m c 4 t : Vec Ideal S128x64 .f32) (ix2 ⟨g.val % 8 * 16 + p.val, by omega⟩ s)
      = m ((c : Thread nD τ).loc main_arg4) (ix2 ⟨g.val * 16 + p.val, by omega⟩ s) := by
  rw [blk4]
  exact congrArg (fun x => m ((c : Thread nD τ).loc main_arg4) (ix2 x s)) (Fin.ext (by dsimp only; omega))

theorem inCI_point (t : Fin cfg0.N) (g : Fin 32) (s : Fin 64) :
    inCI (grid0.coords t) (iblk m c 3 t) (iblk m c 4 t) (iblk m c 9 t) (iblk m c 10 t) (ix2 g s) = if g.val / 8 = t.val then
      ctCI (m ((c : Thread nD τ).loc main_arg3)) (m ((c : Thread nD τ).loc main_arg4)) (m ((c : Thread nD τ).loc main_arg9)) (m ((c : Thread nD τ).loc main_arg10)) g s else 0 := by
  rw [inCI_apply, coord t]
  split
  · rename_i h
    refine Finset.sum_congr rfl fun p _ => ?_
    rw [ct9 m c t g h, ct10 m c t g h, row3 m c t g h, row4 m c t g h]
  · rfl

theorem inCR_point (t : Fin cfg0.N) (g : Fin 32) (s : Fin 64) :
    inCR (grid0.coords t) (iblk m c 3 t) (iblk m c 4 t) (iblk m c 9 t) (iblk m c 10 t) (ix2 g s) = if g.val / 8 = t.val then
      ctCR (m ((c : Thread nD τ).loc main_arg3)) (m ((c : Thread nD τ).loc main_arg4)) (m ((c : Thread nD τ).loc main_arg9)) (m ((c : Thread nD τ).loc main_arg10)) g s else 0 := by
  rw [inCR_apply, coord t]
  split
  · rename_i h
    refine Finset.sum_congr rfl fun p _ => ?_
    rw [ct9 m c t g h, ct10 m c t g h, row3 m c t g h, row4 m c t g h]
  · rfl

/-- A sum over the points of which only the group's own contributes. -/
theorem sum_points {g : Fin 32} {v : EReal} {f : Fin 4 → EReal} {q : Fin 4 → ℕ} (hq : ∀ k : Fin 4, q k = k.val)
    (h : ∀ k : Fin 4, f k = if g.val / 8 = q k then v else 0) : ∑ k, f k = v := by
  rw [Finset.sum_eq_single ⟨g.val / 8, by omega⟩ (fun k _ hk => by rw [h, hq, if_neg fun e => hk (Fin.ext e.symm)]) (fun e => absurd (Finset.mem_univ _) e), h, hq, if_pos rfl]

theorem zero_re (j : S32x64.Idx) : k0_pay1 (F := Ideal) j = 0 := by pointwise! [k0_pay1]
theorem zero_im (j : S32x64.Idx) : k0_pay2 (F := Ideal) j = 0 := by pointwise! [k0_pay2]
theorem zero_dt (j : S32x1.Idx) : k0_pay3 (F := Ideal) j = 0 := by pointwise! [k0_pay3]

/-- Each row's own lanes of a gradient laid out one group's row after another. -/
def rowOf (x : Vec Ideal S4x128x512 .f32) : Vec Ideal S512x64 .f32 := fun j =>
  x (ix3 ⟨(j 0).val / 128, by have := (j 0).isLt; change _ < 512 at this; omega⟩ ⟨(j 0).val % 128, by omega⟩
    ⟨(j 0).val % 128 / 16 * 64 + (j 1).val, by have := (j 1).isLt; change _ < 64 at this; omega⟩)

theorem rowOf_at (x : Vec Ideal S4x128x512 .f32) (t : Fin 4) (r : Fin 128) (s : Fin 64) (h : t.val * 128 + r.val < 512) :
    rowOf x (ix2 ⟨t.val * 128 + r.val, h⟩ s) = x (ix3 t r ⟨r.val / 16 * 64 + s.val, by omega⟩) := by
  have h0 : (t.val * 128 + r.val) / 128 = t.val := by omega
  have h1 : (t.val * 128 + r.val) % 128 = r.val := by omega
  show x (ix3 ⟨(t.val * 128 + r.val) / 128, _⟩ ⟨(t.val * 128 + r.val) % 128, _⟩ ⟨(t.val * 128 + r.val) % 128 / 16 * 64 + s.val, _⟩) = _
  simp only [h0, h1]

theorem ext2 {a b : ℕ} {i j : Shape.Idx ⟨2, ![a, b]⟩} (h0 : i 0 = j 0) (h1 : i 1 = j 1) : i = j :=
  (eq_ix2 i).trans (by rw [h0, h1]; exact (eq_ix2 j).symm)

/-! ## The arrays after the run -/

/-- The poles' gradients and the step's logarithm's, as the arrays hold them. -/
def outRe : Vec Ideal S32x64 .f32 := fun j =>
  gradRe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (j 0) (j 1)
def outIm : Vec Ideal S32x64 .f32 := fun j =>
  gradIm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (j 0) (j 1)
def outDt : Vec Ideal S32x1 .f32 := fun j =>
  gradDt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (j 0)

/-- The step's logarithm's gradient from those of the sine, the cosine and the exponential. -/
def timeGrad (a b : Vec Ideal S32x64 .f32) (l : Vec Ideal S32x1 .f32) (sn cs ex : Fin 64 → EReal) (g : Fin 32) : EReal :=
  (∑ s : Fin 64, b (ix2 g s) * sn s + ∑ s : Fin 64, b (ix2 g s) * cs s + ∑ s : Fin 64, a (ix2 g s) * ex s) * Ideal.exp (l (ix2 g 0))

/-- One point's part of the gradients of the poles and of the step's logarithm. -/
def partRe (t : Fin cfg0.N) (g : Fin 32) (s : Fin 64) : EReal :=
  dA ((iblk m c 0 t : Vec Ideal S32x64 .f32) (ix2 g s)) ((iblk m c 1 t : Vec Ideal S32x64 .f32) (ix2 g s)) ((iblk m c 2 t : Vec Ideal S32x1 .f32) (ix2 g 0))
    (inI (grid0.coords t) (iblk m c 8 t) (ix2 g s)) (inR (grid0.coords t) (iblk m c 7 t) (ix2 g s))
    (inCI (grid0.coords t) (iblk m c 3 t) (iblk m c 4 t) (iblk m c 9 t) (iblk m c 10 t) (ix2 g s))
    (inCR (grid0.coords t) (iblk m c 3 t) (iblk m c 4 t) (iblk m c 9 t) (iblk m c 10 t) (ix2 g s))
def partIm (t : Fin cfg0.N) (g : Fin 32) (s : Fin 64) : EReal :=
  dB ((iblk m c 0 t : Vec Ideal S32x64 .f32) (ix2 g s)) ((iblk m c 1 t : Vec Ideal S32x64 .f32) (ix2 g s)) ((iblk m c 2 t : Vec Ideal S32x1 .f32) (ix2 g 0))
    (inI (grid0.coords t) (iblk m c 8 t) (ix2 g s)) (inR (grid0.coords t) (iblk m c 7 t) (ix2 g s))
    (inCI (grid0.coords t) (iblk m c 3 t) (iblk m c 4 t) (iblk m c 9 t) (iblk m c 10 t) (ix2 g s))
    (inCR (grid0.coords t) (iblk m c 3 t) (iblk m c 4 t) (iblk m c 9 t) (iblk m c 10 t) (ix2 g s))
def partSin (t : Fin cfg0.N) (g : Fin 32) (s : Fin 64) : EReal :=
  dSin ((iblk m c 0 t : Vec Ideal S32x64 .f32) (ix2 g s)) ((iblk m c 1 t : Vec Ideal S32x64 .f32) (ix2 g s)) ((iblk m c 2 t : Vec Ideal S32x1 .f32) (ix2 g 0))
    (inI (grid0.coords t) (iblk m c 8 t) (ix2 g s))
    (inCI (grid0.coords t) (iblk m c 3 t) (iblk m c 4 t) (iblk m c 9 t) (iblk m c 10 t) (ix2 g s))
    (inCR (grid0.coords t) (iblk m c 3 t) (iblk m c 4 t) (iblk m c 9 t) (iblk m c 10 t) (ix2 g s))
def partCos (t : Fin cfg0.N) (g : Fin 32) (s : Fin 64) : EReal :=
  dCos ((iblk m c 0 t : Vec Ideal S32x64 .f32) (ix2 g s)) ((iblk m c 1 t : Vec Ideal S32x64 .f32) (ix2 g s)) ((iblk m c 2 t : Vec Ideal S32x1 .f32) (ix2 g 0))
    (inR (grid0.coords t) (iblk m c 7 t) (ix2 g s))
    (inCI (grid0.coords t) (iblk m c 3 t) (iblk m c 4 t) (iblk m c 9 t) (iblk m c 10 t) (ix2 g s))
    (inCR (grid0.coords t) (iblk m c 3 t) (iblk m c 4 t) (iblk m c 9 t) (iblk m c 10 t) (ix2 g s))
def partExp (t : Fin cfg0.N) (g : Fin 32) (s : Fin 64) : EReal :=
  dExp ((iblk m c 0 t : Vec Ideal S32x64 .f32) (ix2 g s)) ((iblk m c 1 t : Vec Ideal S32x64 .f32) (ix2 g s)) ((iblk m c 2 t : Vec Ideal S32x1 .f32) (ix2 g 0))
    (inI (grid0.coords t) (iblk m c 8 t) (ix2 g s)) (inR (grid0.coords t) (iblk m c 7 t) (ix2 g s))
    (inCI (grid0.coords t) (iblk m c 3 t) (iblk m c 4 t) (iblk m c 9 t) (iblk m c 10 t) (ix2 g s))
    (inCR (grid0.coords t) (iblk m c 3 t) (iblk m c 4 t) (iblk m c 9 t) (iblk m c 10 t) (ix2 g s))
def partDt (t : Fin cfg0.N) (g : Fin 32) : EReal :=
  timeGrad (iblk m c 0 t) (iblk m c 1 t) (iblk m c 2 t) (partSin m c t g) (partCos m c t g) (partExp m c t g) g

theorem partRe_eq (t : Fin cfg0.N) (g : Fin 32) (s : Fin 64) (hn : norm (m ((c : Thread nD τ).loc main_arg0) (ix2 g s)) (m ((c : Thread nD τ).loc main_arg1) (ix2 g s)) ≠ 0) :
    partRe m c t g s = if g.val / 8 = t.val then outRe m c (ix2 g s) else 0 := by
  rw [partRe, blk0, blk1, blk2, inI_point, inR_point, inCI_point, inCR_point]
  split
  · rfl
  · exact dA_zero _ _ _ hn

theorem partIm_eq (t : Fin cfg0.N) (g : Fin 32) (s : Fin 64) (hn : norm (m ((c : Thread nD τ).loc main_arg0) (ix2 g s)) (m ((c : Thread nD τ).loc main_arg1) (ix2 g s)) ≠ 0) :
    partIm m c t g s = if g.val / 8 = t.val then outIm m c (ix2 g s) else 0 := by
  rw [partIm, blk0, blk1, blk2, inI_point, inR_point, inCI_point, inCR_point]
  split
  · rfl
  · exact dB_zero _ _ _ hn

theorem partDt_eq (t : Fin cfg0.N) (g : Fin 32) (hn : ∀ g s, norm (m ((c : Thread nD τ).loc main_arg0) (ix2 g s)) (m ((c : Thread nD τ).loc main_arg1) (ix2 g s)) ≠ 0) :
    partDt m c t g = if g.val / 8 = t.val then outDt m c (ix2 g 0) else 0 := by
  simp only [partDt, timeGrad, partSin, partCos, partExp, blk0, blk1, blk2, inI_point, inR_point, inCI_point, inCR_point]
  split
  · simp only [outDt, gradDt]; rfl
  · simp only [dSin_zero _ _ _ (hn g _), dCos_zero _ _ _ (hn g _), dExp_zero _ _ _ (hn g _), mul_zero, Finset.sum_const_zero, add_zero, zero_mul]

/-! ## The arrays after the run -/

theorem final_re (hn : ∀ g s, norm (m ((c : Thread nD τ).loc main_arg0) (ix2 g s)) (m ((c : Thread nD τ).loc main_arg1) (ix2 g s)) ≠ 0) :
    (dats m 0 c).arrAt 13 (cfgs 0).N = outRe m c := by
  refine (dats m 0 c).arrAt_eq_of_covers 13 _ (by decide +kernel) fun t hf y => ?_
  blk_simp
  have h3 := (flush0_13 t).mp hf
  rw [after0_13, Pipeline.eq_sum_fin_of_reset_step_apply_of_flush (fun n h => (outsAt0 m c n h).1) 4 (fun _ => 0) (fun t j => partRe m c t (j 0) (j 1))
    (fun t h j => by
      obtain ⟨g, s, rfl⟩ : ∃ (g : Fin 32) (s : Fin 64), j = ix2 g s := ⟨j 0, j 1, eq_ix2 j⟩
      rw [outsAt0_A m c t h h h]; frame_out; rw [step_re, zero_re]; rfl)
    (fun t h j => by
      obtain ⟨g, s, rfl⟩ : ∃ (g : Fin 32) (s : Fin 64), j = ix2 g s := ⟨j 0, j 1, eq_ix2 j⟩
      rw [outsAt0_B m c t h h h]; frame_out; rw [step_re]; rfl)
    t h3 _, zero_add]
  have e : ∀ X : Vec Ideal S32x64 .f32, X ((win0_13.blk t).view.emb y) = X y := fun X => by blk_point [idx t]
  have hN : t.val < 4 := t.isLt
  have ez : ∀ k : Fin 4, 4 * (t.val / 4) + k.val = k.val := fun k => by omega
  refine Eq.trans ?_ (e (outRe m c)).symm
  refine (sum_points (g := y 0) ez fun k => partRe_eq m c _ _ _ (hn _ _)).trans (congrArg (outRe m c) (eq_ix2 y).symm)

set_option maxHeartbeats 4000000 in
theorem final_im (hn : ∀ g s, norm (m ((c : Thread nD τ).loc main_arg0) (ix2 g s)) (m ((c : Thread nD τ).loc main_arg1) (ix2 g s)) ≠ 0) :
    (dats m 0 c).arrAt 14 (cfgs 0).N = outIm m c := by
  refine (dats m 0 c).arrAt_eq_of_covers 14 _ (by decide +kernel) fun t hf y => ?_
  blk_simp
  have h3 := (flush0_14 t).mp hf
  rw [after0_14, Pipeline.eq_sum_fin_of_reset_step_apply_of_flush (fun n h => (outsAt0 m c n h).2.1) 4 (fun _ => 0) (fun t j => partIm m c t (j 0) (j 1))
    (fun t h j => by
      obtain ⟨g, s, rfl⟩ : ∃ (g : Fin 32) (s : Fin 64), j = ix2 g s := ⟨j 0, j 1, eq_ix2 j⟩
      rw [outsAt0_A m c t h h h]; frame_out; rw [step_im, zero_im]; rfl)
    (fun t h j => by
      obtain ⟨g, s, rfl⟩ : ∃ (g : Fin 32) (s : Fin 64), j = ix2 g s := ⟨j 0, j 1, eq_ix2 j⟩
      rw [outsAt0_B m c t h h h]; frame_out; rw [step_im]; rfl)
    t h3 _, zero_add]
  have e : ∀ X : Vec Ideal S32x64 .f32, X ((win0_14.blk t).view.emb y) = X y := fun X => by blk_point [idx t]
  have hN : t.val < 4 := t.isLt
  have ez : ∀ k : Fin 4, 4 * (t.val / 4) + k.val = k.val := fun k => by omega
  refine Eq.trans ?_ (e (outIm m c)).symm
  refine (sum_points (g := y 0) ez fun k => partIm_eq m c _ _ _ (hn _ _)).trans (congrArg (outIm m c) (eq_ix2 y).symm)

set_option maxHeartbeats 4000000 in
theorem final_dt (hn : ∀ g s, norm (m ((c : Thread nD τ).loc main_arg0) (ix2 g s)) (m ((c : Thread nD τ).loc main_arg1) (ix2 g s)) ≠ 0) :
    (dats m 0 c).arrAt 15 (cfgs 0).N = outDt m c := by
  refine (dats m 0 c).arrAt_eq_of_covers 15 _ (by decide +kernel) fun t hf y => ?_
  blk_simp
  have h3 := (flush0_15 t).mp hf
  rw [after0_15, Pipeline.eq_sum_fin_of_reset_step_apply_of_flush (fun n h => (outsAt0 m c n h).2.2.1) 4 (fun _ => 0) (fun t j => partDt m c t (j 0))
    (fun t h j => by
      obtain ⟨g, s, rfl⟩ : ∃ (g : Fin 32) (s : Fin 1), j = ix2 g s := ⟨j 0, j 1, eq_ix2 j⟩
      rw [outsAt0_A m c t h h h]; frame_out; rw [step_dt, zero_dt]; simp only [partDt, timeGrad, partSin, partCos, partExp]; rfl)
    (fun t h j => by
      obtain ⟨g, s, rfl⟩ : ∃ (g : Fin 32) (s : Fin 1), j = ix2 g s := ⟨j 0, j 1, eq_ix2 j⟩
      rw [outsAt0_B m c t h h h]; frame_out; rw [step_dt]; simp only [partDt, timeGrad, partSin, partCos, partExp]; rfl)
    t h3 _, zero_add]
  have e : ∀ X : Vec Ideal S32x1 .f32, X ((win0_15.blk t).view.emb y) = X y := fun X => by blk_point [idx t]
  have hN : t.val < 4 := t.isLt
  have ez : ∀ k : Fin 4, 4 * (t.val / 4) + k.val = k.val := fun k => by omega
  refine Eq.trans ?_ (e (outDt m c)).symm
  refine (sum_points (g := y 0) ez fun k => partDt_eq m c _ _ hn).trans (congrArg (outDt m c) (ext2 rfl (Subsingleton.elim (α := Fin 1) _ _)))

theorem final_cRe : (dats m 0 c).arrAt 18 (cfgs 0).N = rowOf (m ((c : Thread nD τ).loc main_arg11)) := by
  refine (dats m 0 c).arrAt_eq_of_covers 18 _ (by decide +kernel) fun t hf y => ?_
  blk_simp
  rw [after0_18]
  obtain ⟨r, s, rfl⟩ : ∃ (r : Fin 128) (s : Fin 64), y = ix2 r s := ⟨y 0, y 1, eq_ix2 y⟩
  have hN : t.val < 4 := t.isLt
  have e : ∀ X : Vec Ideal S512x64 .f32, X ((win0_18.blk t).view.emb (ix2 r s)) = X (ix2 ⟨t.val * 128 + r.val, by omega⟩ s) := fun X => by blk_point [idx t]
  refine Eq.trans ?_ (e _).symm
  refine Eq.trans ?_ (rowOf_at _ ⟨t.val, hN⟩ r s _).symm
  by_cases h : t.val % 4 = 0
  · rw [outsAt0_A m c t h h h]; frame_out
    exact (pull11 _ r s).trans (blk11 m c t r _)
  · rw [outsAt0_B m c t h h h]; frame_out
    exact (pull11 _ r s).trans (blk11 m c t r _)

theorem final_cIm : (dats m 0 c).arrAt 19 (cfgs 0).N = fun j => -rowOf (m ((c : Thread nD τ).loc main_arg12)) j := by
  refine (dats m 0 c).arrAt_eq_of_covers 19 _ (by decide +kernel) fun t hf y => ?_
  blk_simp
  rw [after0_19]
  obtain ⟨r, s, rfl⟩ : ∃ (r : Fin 128) (s : Fin 64), y = ix2 r s := ⟨y 0, y 1, eq_ix2 y⟩
  have hN : t.val < 4 := t.isLt
  have e : ∀ X : Vec Ideal S512x64 .f32, X ((win0_19.blk t).view.emb (ix2 r s)) = X (ix2 ⟨t.val * 128 + r.val, by omega⟩ s) := fun X => by blk_point [idx t]
  refine Eq.trans ?_ (e (fun j => -rowOf (m ((c : Thread nD τ).loc main_arg12)) j)).symm
  refine Eq.trans ?_ (congrArg (fun x => -x) (rowOf_at _ ⟨t.val, hN⟩ r s _)).symm
  by_cases h : t.val % 4 = 0
  · rw [outsAt0_A m c t h h h]; frame_out
    exact (pull12 _ r s).trans (congrArg (fun x => -x) (blk12 m c t r _))
  · rw [outsAt0_B m c t h h h]; frame_out
    exact (pull12 _ r s).trans (congrArg (fun x => -x) (blk12 m c t r _))

/-- A row's group. -/
def groupOf (j : S512x64.Idx) : Fin 32 := ⟨(j 0).val / 16, by have := (j 0).isLt; change _ < 512 at this; omega⟩

/-- The gradients of the transposed input weights, row by row. -/
def outBtRe (a b : Vec Ideal S32x64 .f32) (l : Vec Ideal S32x1 .f32) (x9 x10 : Vec Ideal S4x128x512 .f32) : Vec Ideal S512x64 .f32 := fun j =>
  coefI (a (ix2 (groupOf j) (j 1))) (b (ix2 (groupOf j) (j 1))) (l (ix2 (groupOf j) 0)) * rowOf x10 j
    + coefR (a (ix2 (groupOf j) (j 1))) (b (ix2 (groupOf j) (j 1))) (l (ix2 (groupOf j) 0)) * rowOf x9 j
def outBtIm (a b : Vec Ideal S32x64 .f32) (l : Vec Ideal S32x1 .f32) (x9 x10 : Vec Ideal S4x128x512 .f32) : Vec Ideal S512x64 .f32 := fun j =>
  coefR (a (ix2 (groupOf j) (j 1))) (b (ix2 (groupOf j) (j 1))) (l (ix2 (groupOf j) 0)) * rowOf x10 j
    + coefI (a (ix2 (groupOf j) (j 1))) (b (ix2 (groupOf j) (j 1))) (l (ix2 (groupOf j) 0)) * -rowOf x9 j

theorem final_btRe : (dats m 0 c).arrAt 16 (cfgs 0).N = outBtRe (m ((c : Thread nD τ).loc main_arg0)) (m ((c : Thread nD τ).loc main_arg1)) (m ((c : Thread nD τ).loc main_arg2)) (m ((c : Thread nD τ).loc main_arg9)) (m ((c : Thread nD τ).loc main_arg10)) := by
  refine (dats m 0 c).arrAt_eq_of_covers 16 _ (by decide +kernel) fun t hf y => ?_
  blk_simp
  rw [after0_16]
  obtain ⟨r, s, rfl⟩ : ∃ (r : Fin 128) (s : Fin 64), y = ix2 r s := ⟨y 0, y 1, eq_ix2 y⟩
  have hN : t.val < 4 := t.isLt
  have e : ∀ X : Vec Ideal S512x64 .f32, X ((win0_16.blk t).view.emb (ix2 r s)) = X (ix2 ⟨t.val * 128 + r.val, by omega⟩ s) := fun X => by blk_point [idx t]
  refine Eq.trans ?_ (e _).symm
  have hg : groupOf (ix2 ⟨t.val * 128 + r.val, by omega⟩ s) = ⟨r.val / 16 + t.val * 8, by omega⟩ :=
    Fin.ext (show (t.val * 128 + r.val) / 16 = r.val / 16 + t.val * 8 by omega)
  rw [outBtRe, hg, rowOf_at _ ⟨t.val, hN⟩ r s _, rowOf_at _ ⟨t.val, hN⟩ r s _]
  by_cases h : t.val % 4 = 0
  · rw [outsAt0_A m c t h h h]; frame_out
    refine (step_btRe (grid0.coords t) _ _ _ _ _ r s ⟨r.val / 16 + t.val * 8, by omega⟩ (by rw [coord t])).trans ?_
    rw [blk0, blk1, blk2, blk9, blk10]; rfl
  · rw [outsAt0_B m c t h h h]; frame_out
    refine (step_btRe (grid0.coords t) _ _ _ _ _ r s ⟨r.val / 16 + t.val * 8, by omega⟩ (by rw [coord t])).trans ?_
    rw [blk0, blk1, blk2, blk9, blk10]; rfl

theorem final_btIm : (dats m 0 c).arrAt 17 (cfgs 0).N = outBtIm (m ((c : Thread nD τ).loc main_arg0)) (m ((c : Thread nD τ).loc main_arg1)) (m ((c : Thread nD τ).loc main_arg2)) (m ((c : Thread nD τ).loc main_arg9)) (m ((c : Thread nD τ).loc main_arg10)) := by
  refine (dats m 0 c).arrAt_eq_of_covers 17 _ (by decide +kernel) fun t hf y => ?_
  blk_simp
  rw [after0_17]
  obtain ⟨r, s, rfl⟩ : ∃ (r : Fin 128) (s : Fin 64), y = ix2 r s := ⟨y 0, y 1, eq_ix2 y⟩
  have hN : t.val < 4 := t.isLt
  have e : ∀ X : Vec Ideal S512x64 .f32, X ((win0_17.blk t).view.emb (ix2 r s)) = X (ix2 ⟨t.val * 128 + r.val, by omega⟩ s) := fun X => by blk_point [idx t]
  refine Eq.trans ?_ (e _).symm
  have hg : groupOf (ix2 ⟨t.val * 128 + r.val, by omega⟩ s) = ⟨r.val / 16 + t.val * 8, by omega⟩ :=
    Fin.ext (show (t.val * 128 + r.val) / 16 = r.val / 16 + t.val * 8 by omega)
  rw [outBtIm, hg, rowOf_at _ ⟨t.val, hN⟩ r s _, rowOf_at _ ⟨t.val, hN⟩ r s _]
  by_cases h : t.val % 4 = 0
  · rw [outsAt0_A m c t h h h]; frame_out
    refine (step_btIm (grid0.coords t) _ _ _ _ _ r s ⟨r.val / 16 + t.val * 8, by omega⟩ (by rw [coord t])).trans ?_
    rw [blk0, blk1, blk2, blk9, blk10]; rfl
  · rw [outsAt0_B m c t h h h]; frame_out
    refine (step_btIm (grid0.coords t) _ _ _ _ _ r s ⟨r.val / 16 + t.val * 8, by omega⟩ (by rw [coord t])).trans ?_
    rw [blk0, blk1, blk2, blk9, blk10]; rfl

set_option maxHeartbeats 4000000 in
/-- What the program ends holding. -/
theorem run_arrays (ρ : Dev nD → PrngReg)
    (hn : ∀ (c : Dev nD) g s, norm (m ((c : Thread nD τ).loc main_arg0) (ix2 g s)) (m ((c : Thread nD τ).loc main_arg1) (ix2 g s)) ≠ 0) :
    θ_run defs (onTc (τ := τ) (main (F := Ideal))) ⟨m, fun _ => 0, ρ⟩ (fun r => ∀ c : Dev nD,
      r.2.mem ((c.tc : Thread nD τ).loc main_v0_0) = outRe m c
      ∧ r.2.mem ((c.tc : Thread nD τ).loc main_v0_1) = outIm m c
      ∧ r.2.mem ((c.tc : Thread nD τ).loc main_v0_2) = outDt m c
      ∧ r.2.mem ((c.tc : Thread nD τ).loc main_v0_3) = outBtRe (m ((c : Thread nD τ).loc main_arg0)) (m ((c : Thread nD τ).loc main_arg1)) (m ((c : Thread nD τ).loc main_arg2)) (m ((c : Thread nD τ).loc main_arg9)) (m ((c : Thread nD τ).loc main_arg10))
      ∧ r.2.mem ((c.tc : Thread nD τ).loc main_v0_4) = outBtIm (m ((c : Thread nD τ).loc main_arg0)) (m ((c : Thread nD τ).loc main_arg1)) (m ((c : Thread nD τ).loc main_arg2)) (m ((c : Thread nD τ).loc main_arg9)) (m ((c : Thread nD τ).loc main_arg10))
      ∧ r.2.mem ((c.tc : Thread nD τ).loc main_v0_5) = rowOf (m ((c : Thread nD τ).loc main_arg11))
      ∧ r.2.mem ((c.tc : Thread nD τ).loc main_v0_6) = (fun j => -rowOf (m ((c : Thread nD τ).loc main_arg12)) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h.1 c).1 13).trans (final_re m c (hn c)), ((h.1 c).1 14).trans (final_im m c (hn c)), ((h.1 c).1 15).trans (final_dt m c (hn c)), ((h.1 c).1 16).trans (final_btRe m c), ((h.1 c).1 17).trans (final_btIm m c), ((h.1 c).1 18).trans (final_cRe m c), ((h.1 c).1 19).trans (final_cIm m c), h.2 c⟩)
    (θ_run_and (run_main m ρ) (unchanged m ρ))

end Cert.Proof.SsmPrep

end
-- ==== Proof.SsmPrepEntries.lean ====
/-
  The reference of the discretisation's backward entry by entry, in the words of the kernel's one grid point.
-/
module

public import proofs.«01_k».proof.Proof.SsmPrepRun
public import proofs.«01_k».proof.Proof.SsmPrepArrays

@[expose] public section

set_option maxRecDepth 16384

noncomputable section

open Idealize.ShloMosaic Idealize.ShloMosaic.TcCoe Idealize.SL.Sem
open scoped BigOperators

namespace Cert.Proof.SsmPrepRun
open Cert.ReferenceSsmPrepIdeal

/-- The reference's own-block mask. -/
theorem ownWord {x y : ℕ} (hx : x < 2 ^ 32) (hy : y < 2 ^ 32) :
    (FloatOps.uitofp FTy.f32 (IntOp.cmpi CmpIPredicate.eq (IntOp.addi (BitVec.ofNat 32 x) 0#32) (BitVec.ofNat 32 y)) : Ideal .f32) = if x = y then 1 else 0 := by
  rw [show IntOp.addi (BitVec.ofNat 32 x) 0#32 = BitVec.ofNat 32 x from BitVec.add_zero _]
  show (((BitVec.ofBool (BitVec.ofNat 32 x == BitVec.ofNat 32 y)).toNat : ℝ) : EReal) = _
  by_cases h : x = y
  · subst h
    rw [if_pos rfl, beq_self_eq_true]
    exact congrArg (fun r : ℝ => (r : EReal)) Nat.cast_one
  · rw [if_neg h, beq_eq_false_iff_ne.mpr fun e => h (by
      have := congrArg BitVec.toNat e
      rwa [BitVec.toNat_ofNat, BitVec.toNat_ofNat, Nat.mod_eq_of_lt hx, Nat.mod_eq_of_lt hy] at this)]
    exact congrArg (fun r : ℝ => (r : EReal)) Nat.cast_zero

theorem poleIm_apply (a : V Ideal S8x2048 .f32) (g : Fin 32) (s : Fin 64) : dIm0 (F := Ideal) a (ix2 g s) = SsmPrep.ctPole a g s := by
  pointwise [dIm0, SsmPrep.ctPole]
theorem poleRe_apply (a : V Ideal S8x2048 .f32) (g : Fin 32) (s : Fin 64) : dRe0 (F := Ideal) a (ix2 g s) = SsmPrep.ctPole a g s := by
  pointwise [dRe0, SsmPrep.ctPole]

/-- A sum over the eight groups of a block against the mask is its own group's entry. -/
theorem sum_own (f : Fin 8 → EReal) (k : Fin 8) :
    ∑ x : Fin 8, f x * (FloatOps.uitofp FTy.f32 (IntOp.cmpi CmpIPredicate.eq (IntOp.addi (BitVec.ofNat 32 k.val) 0#32) (BitVec.ofNat 32 x.val)) : Ideal .f32) = f k :=
  SsmPrep.sum_pick f k (by rw [ownWord (by omega) (by omega), if_pos rfl]) (fun l hl => by rw [ownWord (by omega) (by omega), if_neg fun e => hl (Fin.ext e.symm)])

theorem dBi_apply (a : V Ideal S4x128x512 .f32) (g : Fin 32) (p : Fin 16) (s : Fin 64) : dBi (F := Ideal) a (ix3 g p s) = SsmPrep.ctRow a g p s := by
  refine Eq.trans ?_ (sum_own (fun x => a (ix3 ⟨g.val / 8, by omega⟩ ⟨g.val % 8 * 16 + p.val, by omega⟩ ⟨x.val * 64 + s.val, by omega⟩)) ⟨g.val % 8, by omega⟩)
  pointwise [dBi, own]

theorem dBr_apply (a : V Ideal S4x128x512 .f32) (g : Fin 32) (p : Fin 16) (s : Fin 64) : dBr (F := Ideal) a (ix3 g p s) = SsmPrep.ctRow a g p s := by
  refine Eq.trans ?_ (sum_own (fun x => a (ix3 ⟨g.val / 8, by omega⟩ ⟨g.val % 8 * 16 + p.val, by omega⟩ ⟨x.val * 64 + s.val, by omega⟩)) ⟨g.val % 8, by omega⟩)
  pointwise [dBr, own]

/-- A row's own lanes are its group's. -/
theorem row_eq (a : V Ideal S4x128x512 .f32) (r : Fin 512) (s : Fin 64) :
    SsmPrep.rowOf a (ix2 r s) = SsmPrep.ctRow a ⟨r.val / 16, by omega⟩ ⟨r.val % 16, by omega⟩ s := by
  have e0 : r.val / 16 / 8 = r.val / 128 := by omega
  have e1 : r.val % 128 / 16 * 16 + r.val % 16 = r.val % 128 := by omega
  have e2 : r.val / 16 % 8 = r.val % 128 / 16 := by omega
  show a (ix3 ⟨r.val / 128, _⟩ ⟨r.val % 128, _⟩ ⟨r.val % 128 / 16 * 64 + s.val, _⟩)
    = a (ix3 ⟨r.val / 16 / 8, _⟩ ⟨r.val / 16 % 8 * 16 + r.val % 16, _⟩ ⟨r.val / 16 % 8 * 64 + s.val, _⟩)
  simp only [e0, e1, e2]

theorem dCRe_apply (a : V Ideal S4x128x512 .f32) (r : Fin 512) (s : Fin 64) : dCRe (F := Ideal) a (ix2 r s) = SsmPrep.rowOf a (ix2 r s) := by
  have h := sum_own (fun x => a (ix3 ⟨r.val / 128, by omega⟩ ⟨r.val / 16 % 8 * 16 + r.val % 16, by omega⟩ ⟨x.val * 64 + s.val, by omega⟩)) ⟨r.val / 16 % 8, by omega⟩
  pointwise [dCRe, own]
  simp only at h
  rw [h, row_eq, SsmPrep.ctRow]
  simp only [Nat.div_div_eq_div_mul, Nat.reduceMul]

theorem dCIm_apply (a : V Ideal S4x128x512 .f32) (r : Fin 512) (s : Fin 64) : dCIm (F := Ideal) a (ix2 r s) = -SsmPrep.rowOf a (ix2 r s) := by
  have h := sum_own (fun x => a (ix3 ⟨r.val / 16 / 8, by omega⟩ ⟨r.val / 16 % 8 * 16 + r.val % 16, by omega⟩ ⟨x.val * 64 + s.val, by omega⟩)) ⟨r.val / 16 % 8, by omega⟩
  pointwise [dCIm, own]
  simp only at h
  rw [h, row_eq, SsmPrep.ctRow]

theorem dCi_apply (a3 a4 : V Ideal S512x64 .f32) (a9 a10 : V Ideal S4x128x512 .f32) (g : Fin 32) (s : Fin 64) :
    dCi (F := Ideal) a3 a4 a9 a10 (ix2 g s) = SsmPrep.ctCI a3 a4 a9 a10 g s := by
  pointwise [dCi, nBr, bRe, bIm]
  simp only [dBi_apply, dBr_apply, Fin.sum_univ_one, SsmPrep.ctCI, Finset.sum_add_distrib]

theorem dCr_apply (a3 a4 : V Ideal S512x64 .f32) (a9 a10 : V Ideal S4x128x512 .f32) (g : Fin 32) (s : Fin 64) :
    dCr (F := Ideal) a3 a4 a9 a10 (ix2 g s) = SsmPrep.ctCR a3 a4 a9 a10 g s := by
  pointwise [dCr, nBr, bRe, bIm]
  simp only [dBi_apply, dBr_apply, Fin.sum_univ_one, SsmPrep.ctCR, Finset.sum_add_distrib]

theorem dBtRe_apply (a0 a1 : V Ideal S32x64 .f32) (a2 : V Ideal S32x1 .f32) (a9 a10 : V Ideal S4x128x512 .f32) (r : Fin 512) (s : Fin 64) :
    dBtRe (F := Ideal) a0 a1 a2 a9 a10 (ix2 r s) = SsmPrep.outBtRe a0 a1 a2 a9 a10 (ix2 r s) := by
  pointwise [dBtRe, coefI, coefR, numI, numR, den, re1, re, im, decay, dt, sine', angle', cosine, angle, nBr]
  simp only [dBi_apply, dBr_apply]
  rw [SsmPrep.outBtRe, row_eq, row_eq]
  rfl

theorem dBtIm_apply (a0 a1 : V Ideal S32x64 .f32) (a2 : V Ideal S32x1 .f32) (a9 a10 : V Ideal S4x128x512 .f32) (r : Fin 512) (s : Fin 64) :
    dBtIm (F := Ideal) a0 a1 a2 a9 a10 (ix2 r s) = SsmPrep.outBtIm a0 a1 a2 a9 a10 (ix2 r s) := by
  pointwise [dBtIm, coefI, coefR, numI, numR, den, re1, re, im, decay, dt, sine', angle', cosine, angle, nBr]
  simp only [dBi_apply, dBr_apply]
  rw [SsmPrep.outBtIm, row_eq, row_eq]
  rfl

theorem dSin_apply (a0 a1 : V Ideal S32x64 .f32) (a2 : V Ideal S32x1 .f32) (a3 a4 : V Ideal S512x64 .f32) (a7 a8 : V Ideal S8x2048 .f32) (a9 a10 : V Ideal S4x128x512 .f32) (g : Fin 32) (s : Fin 64) :
    dSin (F := Ideal) a0 a1 a2 a3 a4 a8 a9 a10 (ix2 g s) = SsmPrep.dSin (a0 (ix2 g s)) (a1 (ix2 g s)) (a2 (ix2 g 0)) (SsmPrep.ctPole a8 g s) (SsmPrep.ctCI a3 a4 a9 a10 g s) (SsmPrep.ctCR a3 a4 a9 a10 g s) := by
  rw [← dCi_apply, ← dCr_apply, ← poleIm_apply]
  pointwise [dSin, dExp, dDec, dIm2, dIm1, dIm, dRe1, dRe, dLr0, dLi0, dDen, nCi, qCi, qCr, re1, re, im, numI, numR, inv2, inv2', den, decay, dt, sine', sine, angle', cosine', cosine, angle]
  rfl

theorem dCos_apply (a0 a1 : V Ideal S32x64 .f32) (a2 : V Ideal S32x1 .f32) (a3 a4 : V Ideal S512x64 .f32) (a7 a8 : V Ideal S8x2048 .f32) (a9 a10 : V Ideal S4x128x512 .f32) (g : Fin 32) (s : Fin 64) :
    dCos (F := Ideal) a0 a1 a2 a3 a4 a7 a9 a10 (ix2 g s) = SsmPrep.dCos (a0 (ix2 g s)) (a1 (ix2 g s)) (a2 (ix2 g 0)) (SsmPrep.ctPole a7 g s) (SsmPrep.ctCI a3 a4 a9 a10 g s) (SsmPrep.ctCR a3 a4 a9 a10 g s) := by
  rw [← dCi_apply, ← dCr_apply, ← poleRe_apply]
  pointwise [dCos, dExp, dDec, dIm2, dIm1, dIm, dRe1, dRe, dLr0, dLi0, dDen, nCi, qCi, qCr, re1, re, im, numI, numR, inv2, inv2', den, decay, dt, sine', sine, angle', cosine', cosine, angle]
  rfl

theorem dExp_apply (a0 a1 : V Ideal S32x64 .f32) (a2 : V Ideal S32x1 .f32) (a3 a4 : V Ideal S512x64 .f32) (a7 a8 : V Ideal S8x2048 .f32) (a9 a10 : V Ideal S4x128x512 .f32) (g : Fin 32) (s : Fin 64) :
    dExp (F := Ideal) a0 a1 a2 a3 a4 a7 a8 a9 a10 (ix2 g s) = SsmPrep.dExp (a0 (ix2 g s)) (a1 (ix2 g s)) (a2 (ix2 g 0)) (SsmPrep.ctPole a8 g s) (SsmPrep.ctPole a7 g s) (SsmPrep.ctCI a3 a4 a9 a10 g s) (SsmPrep.ctCR a3 a4 a9 a10 g s) := by
  rw [← dCi_apply, ← dCr_apply, ← poleIm_apply, ← poleRe_apply]
  pointwise [dExp, dExp, dDec, dIm2, dIm1, dIm, dRe1, dRe, dLr0, dLi0, dDen, nCi, qCi, qCr, re1, re, im, numI, numR, inv2, inv2', den, decay, dt, sine', sine, angle', cosine', cosine, angle]
  rfl

theorem dLr_apply (a0 a1 : V Ideal S32x64 .f32) (a2 : V Ideal S32x1 .f32) (a3 a4 : V Ideal S512x64 .f32) (a7 a8 : V Ideal S8x2048 .f32) (a9 a10 : V Ideal S4x128x512 .f32) (g : Fin 32) (s : Fin 64) :
    dLr (F := Ideal) a0 a1 a2 a3 a4 a7 a8 a9 a10 (ix2 g s) = SsmPrep.gradRe a0 a1 a2 a3 a4 a7 a8 a9 a10 g s := by
  rw [SsmPrep.gradRe, ← dCi_apply, ← dCr_apply, ← poleIm_apply, ← poleRe_apply]
  pointwise [dLr, dSin, dCos, dExp, dDec, dIm2, dIm1, dIm, dRe1, dRe, dLr0, dLi0, dDen, nCi, qCi, qCr, re1, re, im, numI, numR, inv2, inv2', den, decay, dt, sine', sine, angle', cosine', cosine, angle]
  rfl

theorem dLi_apply (a0 a1 : V Ideal S32x64 .f32) (a2 : V Ideal S32x1 .f32) (a3 a4 : V Ideal S512x64 .f32) (a7 a8 : V Ideal S8x2048 .f32) (a9 a10 : V Ideal S4x128x512 .f32) (g : Fin 32) (s : Fin 64) :
    dLi (F := Ideal) a0 a1 a2 a3 a4 a7 a8 a9 a10 (ix2 g s) = SsmPrep.gradIm a0 a1 a2 a3 a4 a7 a8 a9 a10 g s := by
  rw [SsmPrep.gradIm, ← dCi_apply, ← dCr_apply, ← poleIm_apply, ← poleRe_apply]
  pointwise [dLi, dSin, dCos, dExp, dDec, dIm2, dIm1, dIm, dRe1, dRe, dLr0, dLi0, dDen, nCi, qCi, qCr, re1, re, im, numI, numR, inv2, inv2', den, decay, dt, sine', sine, angle', cosine', cosine, angle]
  rfl

theorem dLogDt_apply (a0 a1 : V Ideal S32x64 .f32) (a2 : V Ideal S32x1 .f32) (a3 a4 : V Ideal S512x64 .f32) (a7 a8 : V Ideal S8x2048 .f32) (a9 a10 : V Ideal S4x128x512 .f32) (g : Fin 32) (s : Fin 1) :
    dLogDt (F := Ideal) a0 a1 a2 a3 a4 a7 a8 a9 a10 (ix2 g s) = SsmPrep.gradDt a0 a1 a2 a3 a4 a7 a8 a9 a10 g := by
  obtain rfl : s = 0 := Subsingleton.elim _ _
  simp only [SsmPrep.gradDt, ← dSin_apply a0 a1 a2 a3 a4 a7 a8 a9 a10, ← dCos_apply a0 a1 a2 a3 a4 a7 a8 a9 a10, ← dExp_apply a0 a1 a2 a3 a4 a7 a8 a9 a10]
  pointwise [dLogDt, dt]

end Cert.Proof.SsmPrepRun

end
-- ==== Proof.SsmPrep.lean ====
/-
  The discretisation's backward (`ssm_prep_bwd`): the programs' frames, and the pair, which holds where no pole is zero
  (the gradient divides by the pole's squared norm, and the kernel's grid points meet every pole).
-/
module

public import proofs.«01_k».proof.Proof.SsmPrepEntries
public import proofs.«01_k».proof.Proof.Gen.KernelSsmPrep
public import proofs.«01_k».proof.Proof.Gen.Pre_prep_nonzero
public import proofs.«01_k».proof.Proof.Gen.KernelSsmPrep.Frame
public import proofs.«01_k».proof.Proof.Gen.KernelSsmPrepIdeal.Frame
public import Idealize.ShloMosaic.Lib.ReduceAll
public import Idealize.ShloMosaic.Lib.Claim
public import Idealize.ShloMosaic.Lib.Quiescent

@[expose] public section

set_option maxRecDepth 16384

noncomputable section

namespace Cert.Proof.SsmPrep

open Idealize.ShloMosaic Idealize.ShloMosaic.TcCoe Idealize.SL.Sem Idealize.ShloMosaic.Tactic

theorem frame_kernel : Cert.quiescent_KernelSsmPrep := fun m ρ _ => Cert.KernelSsmPrep.Gen.frame m ρ
theorem frame_ideal : Cert.quiescent_KernelSsmPrepIdeal := fun m ρ _ => Cert.KernelSsmPrepIdeal.Gen.frame m ρ
theorem frame_ideal_pre : Cert.quiescent_KernelSsmPrepIdeal_pre_prep_nonzero := fun m ρ _ => Cert.KernelSsmPrepIdeal.Gen.frame m ρ
theorem frame_reference : Cert.quiescent_ReferenceSsmPrepIdeal := fun m ρ _ =>
  (θ_run Cert.ReferenceSsmPrepIdeal.defs _ _).mono (fun r h => ⟨fun c => (h c).2.2.2.2.2.2.2, sem_eq_zero_of_no_sems (by decide) r.2⟩)
    (SsmPrepRun.run (F := Ideal) m ρ)
theorem frame_reference_pre : Cert.quiescent_ReferenceSsmPrepIdeal_pre_prep_nonzero := fun m ρ _ => frame_reference m ρ trivial

/-- A comparison "above zero" that holds says the number is not zero. -/
theorem ne_of_above {x : EReal} (h : Ideal.cmp .ogt x (Ideal.ofBits .f32 0#32) = 1#1) : x ≠ 0 := by
  rintro rfl
  have z : Ideal.ofBits .f32 0#32 = 0 := by simp [Ideal.ofBits, Ideal.ieee]
  rw [z] at h
  simp [Ideal.cmp] at h

section
open Cert.KernelSsmPrepIdeal Cert.KernelSsmPrepIdeal.Gen

/-- What the precondition says of the poles. -/
theorem nonzero_of_pre (m : (ℓ : Loc nD τ sig) → Buf (Elt Ideal) ℓ) (hp : Cert.Pre_KernelSsmPrepIdeal_prep_nonzero m) (c : Dev nD) (g : Fin 32) (s : Fin 64) :
    norm (m ((c : Thread nD τ).loc main_arg0) (ix2 g s)) (m ((c : Thread nD τ).loc main_arg1) (ix2 g s)) ≠ 0 := by
  have e := congrFun (hp c) (Shape.Idx.first Pre_prep_nonzero.Facts.h_S_)
  simp only [Pre_prep_nonzero.fn] at e
  exact ne_of_above (Host.reduce_andi_all _ _ _ _ _ e (ix2 g s))

end

/-- Two matrices that agree entry by entry. -/
theorem matrix_ext {a b : ℕ} {f g : Shape.Idx ⟨2, ![a, b]⟩ → EReal} (h : ∀ r s, f (ix2 r s) = g (ix2 r s)) : f = g := by
  funext j
  rw [eq_ix2 j]
  exact h _ _

set_option maxHeartbeats 4000000 in
theorem value : Cert.algebraic_KernelSsmPrepIdeal_ReferenceSsmPrepIdeal_pre_prep_nonzero := by
  pair_intro
  · run_from run_arrays m g (nonzero_of_pre m hpre)
  · run_from SsmPrepRun.run m' g'
    · exact matrix_ext fun g s => SsmPrepRun.dLr_apply _ _ _ _ _ _ _ _ _ g s
    · exact matrix_ext fun g s => SsmPrepRun.dLi_apply _ _ _ _ _ _ _ _ _ g s
    · exact matrix_ext fun g s => SsmPrepRun.dLogDt_apply _ _ _ _ _ _ _ _ _ g s
    · exact matrix_ext fun g s => SsmPrepRun.dBtRe_apply _ _ _ _ _ g s
    · exact matrix_ext fun g s => SsmPrepRun.dBtIm_apply _ _ _ _ _ g s
    · exact matrix_ext fun g s => SsmPrepRun.dCRe_apply _ g s
    · exact matrix_ext fun g s => SsmPrepRun.dCIm_apply _ g s

end Cert.Proof.SsmPrep

end
-- ==== Proof.PostMixerRef.lean ====
/-
  The reference of what follows the mixers: its run leaves the arguments as they were.
-/
module

public import proofs.«01_k».proof.Defs
public import proofs.«01_k».proof.Proof.Gen.ReferencePostIdeal
public import Idealize.ShloMosaic.Lib.Claim
public import Idealize.ShloMosaic.Lib.Quiescent
public import Idealize.ShloMosaic.Lib.StableHlo.RunHlo

@[expose] public section

set_option maxRecDepth 65536

noncomputable section

namespace Cert.Proof.PostMixerRef

open Cert.ReferencePostIdeal Idealize.ShloMosaic Idealize.ShloMosaic.TcCoe Idealize.SL.Sem

/-- The buffers the operations write, in order. -/
abbrev written : List (Ref sig .tc) :=
  [
    main_v0, main_v1, main_v2, main_v3, main_v4, main_v5, main_v6, main_cst, main_v7, main_v8, main_cst_0, main_v9, main_v10, main_v11, main_cst_1, main_v12, main_v13, main_v14,
    main_cst_2, main_v15, main_v16, main_cst_3, main_v17, main_v18, main_v19, main_cst_4, main_v20, main_v21, main_cst_5, main_v22, main_v23, main_v24, main_v25, main_v26, main_v27,
    main_v28, main_v29, main_cst_6, main_v30, main_v31, main_cst_7, main_v32, main_v33, main_cst_8, main_v34, main_v35, main_v36, main_v37, main_v38, main_cst_9, main_v39, main_v40,
    main_cst_10, main_v41, main_v42, main_cst_11, main_v43, main_v44, main_v45, main_v46, main_cst_12, main_v47, main_v48, main_v49, main_v50, main_v51, main_v52, main_v53,
    main_cst_13, main_v54, main_v55, main_cst_14, main_v56, main_v57, main_cst_15, main_v58, main_v59, main_v60, main_v61, main_cst_16, main_v62, main_v63, main_v64, main_v65,
    main_v66, main_v67, main_v68, main_v69, main_v70, main_v71, main_cst_17, main_v72, main_v73, main_cst_18, main_v74, main_v75, main_cst_19, main_v76, main_v77, main_v78,
    main_v79, main_cst_20, main_v80, main_v81, main_v82, main_v83, main_v84, main_v85, main_v86, main_v87, main_v88, main_v89, main_cst_21, main_v90, main_v91, main_cst_22,
    main_v92, main_v93, main_cst_23, main_v94, main_v95, main_v96, main_v97, main_cst_24, main_v98, main_v99, main_v100, main_v101, main_v102, main_v103, main_v104, main_v105,
    main_v106, main_cst_25, main_v107, main_v108, main_cst_26, main_v109, main_v110, main_v111, main_v112, main_v113, main_cst_27, main_v114, main_cst_28, main_v115, main_v116,
    main_cst_29, main_v117, main_v118, main_cst_30, main_v119, main_v120, main_cst_31, main_v121, main_cst_32, main_v122, main_cst_33, main_v123, main_v124, main_v125, main_v126,
    main_v127, main_v128, main_v129, main_cst_34, main_v130, main_v131, main_v132, main_v133, main_v134, main_cst_35, main_v135, main_v136, main_v137, main_v138, main_v139,
    main_v140, main_v141, main_v142, main_v143, main_v144, main_v145, main_v146, main_v147, main_v148, main_v149, main_v150, main_v151, main_v152, main_v153, main_v154, main_v155,
    main_v156, main_cst_36, main_v157, main_v158, main_v159, main_v160, main_v161, main_cst_37, main_v162, main_v163, main_v164, main_v165, main_cst_38, main_v166, main_v167,
    main_v168, main_v169, main_v170, main_v171, main_v172, main_v173, main_cst_39, main_v174, main_v175, main_v176, main_v177, main_cst_40, main_v178, main_v179, main_cst_41,
    main_v180, main_v181, main_v182, main_v183, main_v184, main_cst_42, main_v185, main_v186, main_cst_43, main_v187, main_v188, main_v189, main_v190, main_v191, main_v192,
    main_v193, main_v194, main_v195, main_v196, main_v197, main_v198, main_cst_44, main_v199, main_v200, main_v201, main_v202, main_v203, main_cst_45, main_v204, main_v205,
    main_v206, main_v207, main_v208, main_v209, main_cst_46, main_v210, main_v211, main_cst_47, main_v212, main_v213, main_v214, main_v215, main_v216, main_v217, main_v218,
    main_v219, main_v220, main_v221, main_v222, main_v223, main_cst_48, main_v224, main_v225, main_v226, main_v227, main_v228, main_cst_49, main_v229, main_v230, main_v231,
    main_v232, main_v233, main_cst_50, main_v234, main_v235, main_cst_51, main_v236, main_v237, main_v238, main_v239, main_v240, main_v241, main_v242, main_cst_52, main_v243,
    main_v244, main_v245, main_v246, main_v247, main_cst_53, main_v248, main_v249, main_v250, main_v251, main_v252, main_cst_54, main_v253, main_v254, main_cst_55, main_v255,
    main_v256, main_v257, main_v258, main_v259, main_v260, main_v261, main_v262, main_v263, main_cst_56, main_v264, main_v265, main_v266, main_v267, main_v268, main_v269, main_v270,
    main_v271, main_cst_57, main_v272, main_v273, main_v274, main_cst_58, main_v275, main_v276, main_v277, main_cst_59, main_v278, main_v279, main_v280, main_v281, main_v282,
    main_v283, main_v284, main_cst_60, main_v285, main_v286, main_v287, main_v288, main_v289, main_v290 ]

set_option maxHeartbeats 40000000 in
/-- None of them is an argument. -/
theorem frame : Cert.quiescent_ReferencePostIdeal := fun m ρ _ =>
  θ_run_mono (StableHlo.run_hlo _ _ (by hlo_seq) (by decide) (by decide) (by simp)
    (by intro _ h; (repeat (cases h with | head => rfl | tail _ h => ?_)); exact nomatch h) m ρ) fun r hc => by
  have keep : ∀ (c : Dev nD) (b : Ref sig .tc), b ∉ written → r.2.mem ((c.tc : Thread nD τ).loc b) = m ((c.tc : Thread nD τ).loc b) :=
    fun c b hb => (hc c b).trans (StableHlo.after_of_writes_sub (W := written) _ _ (StableHlo.forall_writes_sub_of_map rfl) hb)
  exact ⟨fun c => ⟨keep c main_arg0 (by decide), keep c main_arg1 (by decide), keep c main_arg2 (by decide), keep c main_arg3 (by decide), keep c main_arg4 (by decide), keep c main_arg5 (by decide), keep c main_arg6 (by decide), keep c main_arg7 (by decide), keep c main_arg8 (by decide), keep c main_arg9 (by decide), keep c main_arg10 (by decide), keep c main_arg11 (by decide), keep c main_arg12 (by decide), keep c main_arg13 (by decide), keep c main_arg14 (by decide), keep c main_arg15 (by decide), keep c main_arg16 (by decide)⟩, sem_eq_zero_of_no_sems (by decide) r.2⟩

end Cert.Proof.PostMixerRef

end
-- ==== Proof.PostMixer.lean ====
/-
  The backward of what follows the mixers (`post_mixer_bwd`): one step of its body over any numbers, what it leaves in the output blocks not named, and the
  run of its grid. Both texts of the kernel end with every argument as it was.
-/
module

public import proofs.«01_k».proof.Defs
public import proofs.«01_k».proof.Proof.Gen.KernelPostIdeal
public import proofs.«01_k».proof.Proof.Gen.KernelPost.Frame.Runs
public import Idealize.ShloMosaic.Lib.Claim

@[expose] public section

set_option maxRecDepth 16384

noncomputable section

namespace Cert.KernelPost.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelPost Cert.KernelPost.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A step's blocks: the inputs' at their contents, the outputs' at anything. -/
abbrev held (c : Dev nD)
    (arg1 : Memref sig .tc .vmem S256x512 .f32) (arg2 : Memref sig .tc .vmem S256x512 .f32) (arg3 : Memref sig .tc .vmem S256x512 .f32)
    (arg4 : Memref sig .tc .vmem S256x1024 .f32) (arg5 : Memref sig .tc .vmem S256x512 .f32) (arg6 : Memref sig .tc .vmem S256x512 .f32)
    (arg7 : Memref sig .tc .vmem S1x512 .f32) (arg8 : Memref sig .tc .vmem S512x512 .bf16) (arg9 : Memref sig .tc .vmem S1x512 .f32)
    (arg10 : Memref sig .tc .vmem S1x512 .f32) (arg11 : Memref sig .tc .vmem S1x512 .f32) (arg12 : Memref sig .tc .vmem S512x1024 .bf16)
    (arg13 : Memref sig .tc .vmem S512x1024 .bf16) (arg14 : Memref sig .tc .vmem S1x1024 .f32) (arg15 : Memref sig .tc .vmem S4x1024x128 .bf16)
    (arg16 : Memref sig .tc .vmem S1x128 .f32) (arg17 : Memref sig .tc .vmem S512x1024 .bf16) (arg18 : Memref sig .tc .vmem S256x1024 .f32)
    (arg19 : Memref sig .tc .vmem S256x512 .f32) (arg20 : Memref sig .tc .vmem S256x512 .f32) (arg21 : Memref sig .tc .vmem S256x512 .f32)
    (arg22 : Memref sig .tc .vmem S256x1024 .f32) (arg23 : Memref sig .tc .vmem S256x512 .f32) (arg24 : Memref sig .tc .vmem S256x512 .f32)
    (arg25 : Memref sig .tc .vmem S1x512 .f32) (arg26 : Memref sig .tc .vmem S512x512 .f32) (arg27 : Memref sig .tc .vmem S1x512 .f32)
    (arg28 : Memref sig .tc .vmem S1x512 .f32) (arg29 : Memref sig .tc .vmem S1x512 .f32) (arg30 : Memref sig .tc .vmem S512x1024 .f32)
    (arg31 : Memref sig .tc .vmem S512x1024 .f32) (arg32 : Memref sig .tc .vmem S1x1024 .f32) (arg33 : Memref sig .tc .vmem S4x1024x128 .f32)
    (arg34 : Memref sig .tc .vmem S1x128 .f32) (arg35 : Memref sig .tc .vmem S512x1024 .f32)
    (x0 : Vec F S256x512 .f32) (x1 : Vec F S256x512 .f32) (x2 : Vec F S256x512 .f32) (x3 : Vec F S256x1024 .f32) (x4 : Vec F S256x512 .f32)
    (x5 : Vec F S256x512 .f32) (x6 : Vec F S1x512 .f32) (x7 : Vec F S512x512 .bf16) (x8 : Vec F S1x512 .f32) (x9 : Vec F S1x512 .f32)
    (x10 : Vec F S1x512 .f32) (x11 : Vec F S512x1024 .bf16) (x12 : Vec F S512x1024 .bf16) (x13 : Vec F S1x1024 .f32) (x14 : Vec F S4x1024x128 .bf16)
    (x15 : Vec F S1x128 .f32) (x16 : Vec F S512x1024 .bf16) (x17 : Vec F S256x1024 .f32) : sProp 𝕄 :=
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ owns (c : Thread nD τ) arg14 fullShare x13
      ∗ owns (c : Thread nD τ) arg15 fullShare x14
      ∗ owns (c : Thread nD τ) arg16 fullShare x15
      ∗ owns (c : Thread nD τ) arg17 fullShare x16
      ∗ owns (c : Thread nD τ) arg18 fullShare x17
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (∃ d, owns (c : Thread nD τ) arg23 fullShare d)
      ∗ (∃ d, owns (c : Thread nD τ) arg24 fullShare d)
      ∗ (∃ d, owns (c : Thread nD τ) arg25 fullShare d)
      ∗ (∃ d, owns (c : Thread nD τ) arg26 fullShare d)
      ∗ (∃ d, owns (c : Thread nD τ) arg27 fullShare d)
      ∗ (∃ d, owns (c : Thread nD τ) arg28 fullShare d)
      ∗ (∃ d, owns (c : Thread nD τ) arg29 fullShare d)
      ∗ (∃ d, owns (c : Thread nD τ) arg30 fullShare d)
      ∗ (∃ d, owns (c : Thread nD τ) arg31 fullShare d)
      ∗ (∃ d, owns (c : Thread nD τ) arg32 fullShare d)
      ∗ (∃ d, owns (c : Thread nD τ) arg33 fullShare d)
      ∗ (∃ d, owns (c : Thread nD τ) arg34 fullShare d)
      ∗ (∃ d, owns (c : Thread nD τ) arg35 fullShare d))

set_option maxHeartbeats 40000000 in
/-- A step hands back what it was given, whether it is the first (which clears the sums) or a later one. -/
theorem step (c : Dev nD) (i : grid0.Coords)
    (arg1 : Memref sig .tc .vmem S256x512 .f32) (arg2 : Memref sig .tc .vmem S256x512 .f32) (arg3 : Memref sig .tc .vmem S256x512 .f32)
    (arg4 : Memref sig .tc .vmem S256x1024 .f32) (arg5 : Memref sig .tc .vmem S256x512 .f32) (arg6 : Memref sig .tc .vmem S256x512 .f32)
    (arg7 : Memref sig .tc .vmem S1x512 .f32) (arg8 : Memref sig .tc .vmem S512x512 .bf16) (arg9 : Memref sig .tc .vmem S1x512 .f32)
    (arg10 : Memref sig .tc .vmem S1x512 .f32) (arg11 : Memref sig .tc .vmem S1x512 .f32) (arg12 : Memref sig .tc .vmem S512x1024 .bf16)
    (arg13 : Memref sig .tc .vmem S512x1024 .bf16) (arg14 : Memref sig .tc .vmem S1x1024 .f32) (arg15 : Memref sig .tc .vmem S4x1024x128 .bf16)
    (arg16 : Memref sig .tc .vmem S1x128 .f32) (arg17 : Memref sig .tc .vmem S512x1024 .bf16) (arg18 : Memref sig .tc .vmem S256x1024 .f32)
    (arg19 : Memref sig .tc .vmem S256x512 .f32) (arg20 : Memref sig .tc .vmem S256x512 .f32) (arg21 : Memref sig .tc .vmem S256x512 .f32)
    (arg22 : Memref sig .tc .vmem S256x1024 .f32) (arg23 : Memref sig .tc .vmem S256x512 .f32) (arg24 : Memref sig .tc .vmem S256x512 .f32)
    (arg25 : Memref sig .tc .vmem S1x512 .f32) (arg26 : Memref sig .tc .vmem S512x512 .f32) (arg27 : Memref sig .tc .vmem S1x512 .f32)
    (arg28 : Memref sig .tc .vmem S1x512 .f32) (arg29 : Memref sig .tc .vmem S1x512 .f32) (arg30 : Memref sig .tc .vmem S512x1024 .f32)
    (arg31 : Memref sig .tc .vmem S512x1024 .f32) (arg32 : Memref sig .tc .vmem S1x1024 .f32) (arg33 : Memref sig .tc .vmem S4x1024x128 .f32)
    (arg34 : Memref sig .tc .vmem S1x128 .f32) (arg35 : Memref sig .tc .vmem S512x1024 .f32)
    (harg1 : arg1.IsWhole) (harg2 : arg2.IsWhole) (harg3 : arg3.IsWhole) (harg4 : arg4.IsWhole) (harg5 : arg5.IsWhole) (harg6 : arg6.IsWhole)
    (harg7 : arg7.IsWhole) (harg8 : arg8.IsWhole) (harg9 : arg9.IsWhole) (harg10 : arg10.IsWhole) (harg11 : arg11.IsWhole) (harg12 : arg12.IsWhole)
    (harg13 : arg13.IsWhole) (harg14 : arg14.IsWhole) (harg15 : arg15.IsWhole) (harg16 : arg16.IsWhole) (harg17 : arg17.IsWhole)
    (harg18 : arg18.IsWhole) (harg19 : arg19.IsWhole) (harg20 : arg20.IsWhole) (harg21 : arg21.IsWhole) (harg22 : arg22.IsWhole)
    (harg23 : arg23.IsWhole) (harg24 : arg24.IsWhole) (harg25 : arg25.IsWhole) (harg26 : arg26.IsWhole) (harg27 : arg27.IsWhole)
    (harg28 : arg28.IsWhole) (harg29 : arg29.IsWhole) (harg30 : arg30.IsWhole) (harg31 : arg31.IsWhole) (harg32 : arg32.IsWhole)
    (harg33 : arg33.IsWhole) (harg34 : arg34.IsWhole) (harg35 : arg35.IsWhole)
    (x0 : Vec F S256x512 .f32) (x1 : Vec F S256x512 .f32) (x2 : Vec F S256x512 .f32) (x3 : Vec F S256x1024 .f32) (x4 : Vec F S256x512 .f32)
    (x5 : Vec F S256x512 .f32) (x6 : Vec F S1x512 .f32) (x7 : Vec F S512x512 .bf16) (x8 : Vec F S1x512 .f32) (x9 : Vec F S1x512 .f32)
    (x10 : Vec F S1x512 .f32) (x11 : Vec F S512x1024 .bf16) (x12 : Vec F S512x1024 .bf16) (x13 : Vec F S1x1024 .f32) (x14 : Vec F S4x1024x128 .bf16)
    (x15 : Vec F S1x128 .f32) (x16 : Vec F S512x1024 .bf16) (x17 : Vec F S256x1024 .f32)
    (K : PUnit → sProp 𝕄) :
    iprop(held c
      arg1 arg2 arg3 arg4 arg5 arg6 arg7 arg8 arg9 arg10 arg11 arg12 arg13 arg14 arg15 arg16 arg17 arg18 arg19 arg20 arg21 arg22 arg23 arg24 arg25
      arg26 arg27 arg28 arg29 arg30 arg31 arg32 arg33 arg34 arg35
      x0 x1 x2 x3 x4 x5 x6 x7 x8 x9 x10 x11 x12 x13 x14 x15 x16 x17
      ∗ (held c
      arg1 arg2 arg3 arg4 arg5 arg6 arg7 arg8 arg9 arg10 arg11 arg12 arg13 arg14 arg15 arg16 arg17 arg18 arg19 arg20 arg21 arg22 arg23 arg24 arg25
      arg26 arg27 arg28 arg29 arg30 arg31 arg32 arg33 arg34 arg35
      x0 x1 x2 x3 x4 x5 x6 x7 x8 x9 x10 x11 x12 x13 x14 x15 x16 x17 -∗ K ⟨⟩))
    ⊢ wp frame (wpE (defs₀ (F := F)) Variants.none c none) Set.univ (cc0_post_mixer_bwd i
        arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        arg24 harg24 arg25 harg25 arg26 harg26 arg27 harg27 arg28 harg28 arg29 harg29 arg30 harg30 arg31 harg31 arg32 harg32 arg33 harg33 arg34 harg34
        arg35 harg35) K := by
  simp only [cc0_post_mixer_bwd_eq_skeleton]; unfold cc0_post_mixer_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  by_cases h : cond0_0 i
  all_goals
    sl_exec (disch := sl_exact h)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    iexists _, _; isplitr; swap; · iexact H34
    ipureintro; rfl

/-- The outputs' windows. -/
def out : Fin 35 → Bool := fun w => decide (18 ≤ w.val)

/-- The pipeline's proof data: each input's buffer at its block after every step, the outputs' not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨30, h⟩ => Pipeline.Dat.unnamed (cfg := cfg0) ⟨30, h⟩ t
    | ⟨31, h⟩ => Pipeline.Dat.unnamed (cfg := cfg0) ⟨31, h⟩ t
    | ⟨32, h⟩ => Pipeline.Dat.unnamed (cfg := cfg0) ⟨32, h⟩ t
    | ⟨33, h⟩ => Pipeline.Dat.unnamed (cfg := cfg0) ⟨33, h⟩ t
    | ⟨34, h⟩ => Pipeline.Dat.unnamed (cfg := cfg0) ⟨34, h⟩ t
    | ⟨_ + 35, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem kept0 (c : Dev nD) (t : Fin cfg0.N) : (dats m 0 c).after 0 t = iblk m c 0 t := by dsimp only [dats]
theorem kept1 (c : Dev nD) (t : Fin cfg0.N) : (dats m 0 c).after 1 t = iblk m c 1 t := by dsimp only [dats]
theorem kept2 (c : Dev nD) (t : Fin cfg0.N) : (dats m 0 c).after 2 t = iblk m c 2 t := by dsimp only [dats]
theorem kept3 (c : Dev nD) (t : Fin cfg0.N) : (dats m 0 c).after 3 t = iblk m c 3 t := by dsimp only [dats]
theorem kept4 (c : Dev nD) (t : Fin cfg0.N) : (dats m 0 c).after 4 t = iblk m c 4 t := by dsimp only [dats]
theorem kept5 (c : Dev nD) (t : Fin cfg0.N) : (dats m 0 c).after 5 t = iblk m c 5 t := by dsimp only [dats]
theorem kept6 (c : Dev nD) (t : Fin cfg0.N) : (dats m 0 c).after 6 t = iblk m c 6 t := by dsimp only [dats]
theorem kept7 (c : Dev nD) (t : Fin cfg0.N) : (dats m 0 c).after 7 t = iblk m c 7 t := by dsimp only [dats]
theorem kept8 (c : Dev nD) (t : Fin cfg0.N) : (dats m 0 c).after 8 t = iblk m c 8 t := by dsimp only [dats]
theorem kept9 (c : Dev nD) (t : Fin cfg0.N) : (dats m 0 c).after 9 t = iblk m c 9 t := by dsimp only [dats]
theorem kept10 (c : Dev nD) (t : Fin cfg0.N) : (dats m 0 c).after 10 t = iblk m c 10 t := by dsimp only [dats]
theorem kept11 (c : Dev nD) (t : Fin cfg0.N) : (dats m 0 c).after 11 t = iblk m c 11 t := by dsimp only [dats]
theorem kept12 (c : Dev nD) (t : Fin cfg0.N) : (dats m 0 c).after 12 t = iblk m c 12 t := by dsimp only [dats]
theorem kept13 (c : Dev nD) (t : Fin cfg0.N) : (dats m 0 c).after 13 t = iblk m c 13 t := by dsimp only [dats]
theorem kept14 (c : Dev nD) (t : Fin cfg0.N) : (dats m 0 c).after 14 t = iblk m c 14 t := by dsimp only [dats]
theorem kept15 (c : Dev nD) (t : Fin cfg0.N) : (dats m 0 c).after 15 t = iblk m c 15 t := by dsimp only [dats]
theorem kept16 (c : Dev nD) (t : Fin cfg0.N) : (dats m 0 c).after 16 t = iblk m c 16 t := by dsimp only [dats]
theorem kept17 (c : Dev nD) (t : Fin cfg0.N) : (dats m 0 c).after 17 t = iblk m c 17 t := by dsimp only [dats]

theorem found0 (c : Dev nD) (t : Fin cfg0.N) (d) : (dats m 0 c).before 0 t d = iblk m c 0 t := before0_0_of m (dats m 0 c) (A_eq m c 0) (kept0 m c) t d
theorem found1 (c : Dev nD) (t : Fin cfg0.N) (d) : (dats m 0 c).before 1 t d = iblk m c 1 t := before0_1_of m (dats m 0 c) (A_eq m c 1) (kept1 m c) t d
theorem found2 (c : Dev nD) (t : Fin cfg0.N) (d) : (dats m 0 c).before 2 t d = iblk m c 2 t := before0_2_of m (dats m 0 c) (A_eq m c 2) (kept2 m c) t d
theorem found3 (c : Dev nD) (t : Fin cfg0.N) (d) : (dats m 0 c).before 3 t d = iblk m c 3 t := before0_3_of m (dats m 0 c) (A_eq m c 3) (kept3 m c) t d
theorem found4 (c : Dev nD) (t : Fin cfg0.N) (d) : (dats m 0 c).before 4 t d = iblk m c 4 t := before0_4_of m (dats m 0 c) (A_eq m c 4) (kept4 m c) t d
theorem found5 (c : Dev nD) (t : Fin cfg0.N) (d) : (dats m 0 c).before 5 t d = iblk m c 5 t := before0_5_of m (dats m 0 c) (A_eq m c 5) (kept5 m c) t d
theorem found6 (c : Dev nD) (t : Fin cfg0.N) (d) : (dats m 0 c).before 6 t d = iblk m c 6 t := before0_6_of m (dats m 0 c) (A_eq m c 6) (kept6 m c) t d
theorem found7 (c : Dev nD) (t : Fin cfg0.N) (d) : (dats m 0 c).before 7 t d = iblk m c 7 t := before0_7_of m (dats m 0 c) (A_eq m c 7) (kept7 m c) t d
theorem found8 (c : Dev nD) (t : Fin cfg0.N) (d) : (dats m 0 c).before 8 t d = iblk m c 8 t := before0_8_of m (dats m 0 c) (A_eq m c 8) (kept8 m c) t d
theorem found9 (c : Dev nD) (t : Fin cfg0.N) (d) : (dats m 0 c).before 9 t d = iblk m c 9 t := before0_9_of m (dats m 0 c) (A_eq m c 9) (kept9 m c) t d
theorem found10 (c : Dev nD) (t : Fin cfg0.N) (d) : (dats m 0 c).before 10 t d = iblk m c 10 t := before0_10_of m (dats m 0 c) (A_eq m c 10) (kept10 m c) t d
theorem found11 (c : Dev nD) (t : Fin cfg0.N) (d) : (dats m 0 c).before 11 t d = iblk m c 11 t := before0_11_of m (dats m 0 c) (A_eq m c 11) (kept11 m c) t d
theorem found12 (c : Dev nD) (t : Fin cfg0.N) (d) : (dats m 0 c).before 12 t d = iblk m c 12 t := before0_12_of m (dats m 0 c) (A_eq m c 12) (kept12 m c) t d
theorem found13 (c : Dev nD) (t : Fin cfg0.N) (d) : (dats m 0 c).before 13 t d = iblk m c 13 t := before0_13_of m (dats m 0 c) (A_eq m c 13) (kept13 m c) t d
theorem found14 (c : Dev nD) (t : Fin cfg0.N) (d) : (dats m 0 c).before 14 t d = iblk m c 14 t := before0_14_of m (dats m 0 c) (A_eq m c 14) (kept14 m c) t d
theorem found15 (c : Dev nD) (t : Fin cfg0.N) (d) : (dats m 0 c).before 15 t d = iblk m c 15 t := before0_15_of m (dats m 0 c) (A_eq m c 15) (kept15 m c) t d
theorem found16 (c : Dev nD) (t : Fin cfg0.N) (d) : (dats m 0 c).before 16 t d = iblk m c 16 t := before0_16_of m (dats m 0 c) (A_eq m c 16) (kept16 m c) t d
theorem found17 (c : Dev nD) (t : Fin cfg0.N) (d) : (dats m 0 c).before 17 t d = iblk m c 17 t := before0_17_of m (dats m 0 c) (A_eq m c 17) (kept17 m c) t d

/-- What a step finds, and what it leaves. -/
def before (c : Dev nD) (t : Fin cfg0.N) : sProp 𝕄 :=
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (∃ d, owns (c : Thread nD τ) (ms0_14 t) fullShare ((dats m 0 c).before 14 t d))
      ∗ (∃ d, owns (c : Thread nD τ) (ms0_15 t) fullShare ((dats m 0 c).before 15 t d))
      ∗ (∃ d, owns (c : Thread nD τ) (ms0_16 t) fullShare ((dats m 0 c).before 16 t d))
      ∗ (∃ d, owns (c : Thread nD τ) (ms0_17 t) fullShare ((dats m 0 c).before 17 t d))
      ∗ (∃ d, owns (c : Thread nD τ) (ms0_18 t) fullShare d)
      ∗ (∃ d, owns (c : Thread nD τ) (ms0_19 t) fullShare d)
      ∗ (∃ d, owns (c : Thread nD τ) (ms0_20 t) fullShare d)
      ∗ (∃ d, owns (c : Thread nD τ) (ms0_21 t) fullShare d)
      ∗ (∃ d, owns (c : Thread nD τ) (ms0_22 t) fullShare d)
      ∗ (∃ d, owns (c : Thread nD τ) (ms0_23 t) fullShare d)
      ∗ (∃ d, owns (c : Thread nD τ) (ms0_24 t) fullShare d)
      ∗ (∃ d, owns (c : Thread nD τ) (ms0_25 t) fullShare d)
      ∗ (∃ d, owns (c : Thread nD τ) (ms0_26 t) fullShare d)
      ∗ (∃ d, owns (c : Thread nD τ) (ms0_27 t) fullShare d)
      ∗ (∃ d, owns (c : Thread nD τ) (ms0_28 t) fullShare d)
      ∗ (∃ d, owns (c : Thread nD τ) (ms0_29 t) fullShare d)
      ∗ (∃ d, owns (c : Thread nD τ) (ms0_30 t) fullShare d)
      ∗ (∃ d, owns (c : Thread nD τ) (ms0_31 t) fullShare d)
      ∗ (∃ d, owns (c : Thread nD τ) (ms0_32 t) fullShare d)
      ∗ (∃ d, owns (c : Thread nD τ) (ms0_33 t) fullShare d)
      ∗ (∃ d, owns (c : Thread nD τ) (ms0_34 t) fullShare d))
def left (c : Dev nD) (t : Fin cfg0.N) : sProp 𝕄 :=
    iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t)
      ∗ owns (c : Thread nD τ) (ms0_4 t) fullShare ((dats m 0 c).after 4 t)
      ∗ owns (c : Thread nD τ) (ms0_5 t) fullShare ((dats m 0 c).after 5 t)
      ∗ owns (c : Thread nD τ) (ms0_6 t) fullShare ((dats m 0 c).after 6 t)
      ∗ owns (c : Thread nD τ) (ms0_7 t) fullShare ((dats m 0 c).after 7 t)
      ∗ owns (c : Thread nD τ) (ms0_8 t) fullShare ((dats m 0 c).after 8 t)
      ∗ owns (c : Thread nD τ) (ms0_9 t) fullShare ((dats m 0 c).after 9 t)
      ∗ owns (c : Thread nD τ) (ms0_10 t) fullShare ((dats m 0 c).after 10 t)
      ∗ owns (c : Thread nD τ) (ms0_11 t) fullShare ((dats m 0 c).after 11 t)
      ∗ owns (c : Thread nD τ) (ms0_12 t) fullShare ((dats m 0 c).after 12 t)
      ∗ owns (c : Thread nD τ) (ms0_13 t) fullShare ((dats m 0 c).after 13 t)
      ∗ owns (c : Thread nD τ) (ms0_14 t) fullShare ((dats m 0 c).after 14 t)
      ∗ owns (c : Thread nD τ) (ms0_15 t) fullShare ((dats m 0 c).after 15 t)
      ∗ owns (c : Thread nD τ) (ms0_16 t) fullShare ((dats m 0 c).after 16 t)
      ∗ owns (c : Thread nD τ) (ms0_17 t) fullShare ((dats m 0 c).after 17 t)
      ∗ (∃ d, owns (c : Thread nD τ) (ms0_18 t) fullShare d)
      ∗ (∃ d, owns (c : Thread nD τ) (ms0_19 t) fullShare d)
      ∗ (∃ d, owns (c : Thread nD τ) (ms0_20 t) fullShare d)
      ∗ (∃ d, owns (c : Thread nD τ) (ms0_21 t) fullShare d)
      ∗ (∃ d, owns (c : Thread nD τ) (ms0_22 t) fullShare d)
      ∗ (∃ d, owns (c : Thread nD τ) (ms0_23 t) fullShare d)
      ∗ (∃ d, owns (c : Thread nD τ) (ms0_24 t) fullShare d)
      ∗ (∃ d, owns (c : Thread nD τ) (ms0_25 t) fullShare d)
      ∗ (∃ d, owns (c : Thread nD τ) (ms0_26 t) fullShare d)
      ∗ (∃ d, owns (c : Thread nD τ) (ms0_27 t) fullShare d)
      ∗ (∃ d, owns (c : Thread nD τ) (ms0_28 t) fullShare d)
      ∗ (∃ d, owns (c : Thread nD τ) (ms0_29 t) fullShare d)
      ∗ (∃ d, owns (c : Thread nD τ) (ms0_30 t) fullShare d)
      ∗ (∃ d, owns (c : Thread nD τ) (ms0_31 t) fullShare d)
      ∗ (∃ d, owns (c : Thread nD τ) (ms0_32 t) fullShare d)
      ∗ (∃ d, owns (c : Thread nD τ) (ms0_33 t) fullShare d)
      ∗ (∃ d, owns (c : Thread nD τ) (ms0_34 t) fullShare d))

set_option maxHeartbeats 4000000 in
theorem sound (c : Dev nD) (t : Fin cfg0.N) :
    before m c t ⊢ wp frame (wpE (defs₀ (F := F)) Variants.none c none) Set.univ (bodyAt0 t) (fun _ => left m c t) := by
  unfold before left bodyAt0
  simp only [found0, found1, found2, found3, found4, found5, found6, found7, found8, found9, found10, found11, found12, found13, found14, found15, found16, found17]
  rw [show (dats m 0 c).Φ t.succ = (dats m 0 c).Φ t.castSucc from rfl, show (dats m 0 c).owesAt () t.succ = (dats m 0 c).owesAt () t.castSucc from rfl,
    kept0, kept1, kept2, kept3, kept4, kept5, kept6, kept7, kept8, kept9, kept10, kept11, kept12, kept13, kept14, kept15, kept16, kept17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, H18, H19, H20, H21, H22, H23, H24, H25, H26, H27, H28, H29, H30, H31, H32, H33, H34⟩
  iapply (step c (grid0.coords t)
    (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t)
    (ms0_14 t) (ms0_15 t) (ms0_16 t) (ms0_17 t) (ms0_18 t) (ms0_19 t) (ms0_20 t) (ms0_21 t) (ms0_22 t) (ms0_23 t) (ms0_24 t) (ms0_25 t) (ms0_26 t)
    (ms0_27 t) (ms0_28 t) (ms0_29 t) (ms0_30 t) (ms0_31 t) (ms0_32 t) (ms0_33 t) (ms0_34 t)
    _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t) (iblk m c 17 t) _)
  unfold held
  isplitl [H0 H1 H2 H3 H4 H5 H6 H7 H8 H9 H10 H11 H12 H13 H14 H15 H16 H17 H18 H19 H20 H21 H22 H23 H24 H25 H26 H27 H28 H29 H30 H31 H32 H33 H34]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

theorem row (t : Fin cfg0.N) : defs₀ (F := F) .tc cfg0.body (cfg0.bodyArgs t (cfg0.slots t)) = bodyAt0 t := by
  unfold defs₀; rw [Defs.onTc_tc]

set_option maxHeartbeats 40000000 in
theorem obligation (c : Dev nD) : BodyObligation (dats (F := F) m 0 c) (defs₀ (F := F)) Variants.none () Set.univ out := fun t => by
  rw [bigSep_W0, bigSep_W0, row]
  exact triple_restated (sound m c t) rfl .rfl fun _ => .rfl

set_option backward.isDefEq.respectTransparency.types false in
theorem grid_run : θ_run defs (onTc (τ := τ) (main (F := F))) (s₀ m ρ)
    (fun r => (Pipeline.RDat.FramePost (cfgs 0) (fun c => (dats m 0 c).toRForget out) (V m)) r ∧ r.2.sem = fun _ => 0) :=
  Pipeline.θ_run_frame_forget (Q' := _) cfgs (dats m) (0 : Fin 1) launch0 defs₀ Variants.none out m ρ main
    (hbody := fun c => (obligation m c).loose) (hshare := fun c => (dats m 0 c).share_full fun _ => rfl)
    (howed := fun _ _ => rfl) (V := V m) (hmain := hmain m Variants.none) (hA := A_eq m) (hΦ := fun _ _ => rfl)

set_option maxHeartbeats 4000000 in
theorem frame_run : θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) := by
  have run := grid_run m ρ
  have hA : ∀ c w, ((fun c => (dats m 0 c).toRForget out : (c : Dev nD) → Pipeline.RDat τ (Elt F) Unit ℕ (UR sig nD τ) ℕ (cfgs 0) c) c).A w = V m c (Pipeline.arrRef spec0 w) := A_eq m
  generalize (fun c => (dats m 0 c).toRForget out : (c : Dev nD) → Pipeline.RDat τ (Elt F) Unit ℕ (UR sig nD τ) ℕ (cfgs 0) c) = rd at run hA
  exact (θ_run defs _ _).mono (fun _ h => ⟨fun c => ⟨(Pipeline.RDat.FramePost.arr_in h.1 c 0 rfl).trans ((hA c 0).trans (V_main_arg0 m c)),
      (Pipeline.RDat.FramePost.arr_in h.1 c 1 rfl).trans ((hA c 1).trans (V_main_arg1 m c)),
      (Pipeline.RDat.FramePost.arr_in h.1 c 2 rfl).trans ((hA c 2).trans (V_main_arg2 m c)),
      (Pipeline.RDat.FramePost.arr_in h.1 c 3 rfl).trans ((hA c 3).trans (V_main_arg3 m c)),
      (Pipeline.RDat.FramePost.arr_in h.1 c 4 rfl).trans ((hA c 4).trans (V_main_arg4 m c)),
      (Pipeline.RDat.FramePost.arr_in h.1 c 5 rfl).trans ((hA c 5).trans (V_main_arg5 m c)),
      (Pipeline.RDat.FramePost.arr_in h.1 c 6 rfl).trans ((hA c 6).trans (V_main_arg6 m c)),
      ((h.1 c).2 main_arg7 (Pipeline.mem_restRefs_of main_arg7 (by decide) (by decide))).trans (V_main_arg7 m c),
      (Pipeline.RDat.FramePost.arr_in h.1 c 8 rfl).trans ((hA c 8).trans (V_main_arg8 m c)),
      (Pipeline.RDat.FramePost.arr_in h.1 c 9 rfl).trans ((hA c 9).trans (V_main_arg9 m c)),
      (Pipeline.RDat.FramePost.arr_in h.1 c 10 rfl).trans ((hA c 10).trans (V_main_arg10 m c)),
      ((h.1 c).2 main_arg11 (Pipeline.mem_restRefs_of main_arg11 (by decide) (by decide))).trans (V_main_arg11 m c),
      (Pipeline.RDat.FramePost.arr_in h.1 c 13 rfl).trans ((hA c 13).trans (V_main_arg12 m c)),
      ((h.1 c).2 main_arg13 (Pipeline.mem_restRefs_of main_arg13 (by decide) (by decide))).trans (V_main_arg13 m c),
      (Pipeline.RDat.FramePost.arr_in h.1 c 15 rfl).trans ((hA c 15).trans (V_main_arg14 m c)),
      ((h.1 c).2 main_arg15 (Pipeline.mem_restRefs_of main_arg15 (by decide) (by decide))).trans (V_main_arg15 m c),
      (Pipeline.RDat.FramePost.arr_in h.1 c 17 rfl).trans ((hA c 17).trans (V_main_arg16 m c))⟩, h.2⟩) run

end Cert.KernelPost.Step

namespace Cert.Proof.PostMixer

open Idealize.ShloMosaic Idealize.ShloMosaic.Tactic

theorem frame_kernel : Cert.quiescent_KernelPost := fun m ρ _ => Cert.KernelPost.Step.frame_run m ρ

theorem frame_ideal : Cert.quiescent_KernelPostIdeal := fun m ρ _ => by
  refine cast ?_ (Cert.KernelPost.Step.frame_run (F := Ideal) m ρ)
  sl_kernel_rfl

end Cert.Proof.PostMixer

end
-- ==== Proof.PreMixerRef.lean ====
/-
  The reference of what precedes the mixers: its run leaves the arguments as they were.
-/
module

public import proofs.«01_k».proof.Defs
public import proofs.«01_k».proof.Proof.Gen.ReferencePreIdeal
public import Idealize.ShloMosaic.Lib.Claim
public import Idealize.ShloMosaic.Lib.Quiescent
public import Idealize.ShloMosaic.Lib.StableHlo.RunHlo

@[expose] public section

set_option maxRecDepth 65536

noncomputable section

namespace Cert.Proof.PreMixerRef

open Cert.ReferencePreIdeal Idealize.ShloMosaic Idealize.ShloMosaic.TcCoe Idealize.SL.Sem

/-- The buffers the operations write, in order. -/
abbrev written : List (Ref sig .tc) :=
  [
    main_v0, main_cst, main_v1, main_v2, main_cst_0, main_v3, main_v4, main_cst_1, main_v5, main_v6, main_v7, main_v8, main_cst_2, main_v9, main_v10, main_v11, main_v12, main_v13,
    main_v14, main_v15, main_v16, main_v17, main_v18, main_v19, main_v20, main_cst_3, main_v21, main_v22, main_cst_4, main_v23, main_v24, main_cst_5, main_v25, main_v26, main_v27,
    main_v28, main_cst_6, main_v29, main_v30, main_v31, main_v32, main_v33, main_v34, main_v35, main_v36, main_v37, main_cst_7, main_v38, main_v39, main_cst_8, main_v40, main_v41,
    main_cst_9, main_v42, main_v43, main_v44, main_v45, main_cst_10, main_v46, main_v47, main_v48, main_v49, main_v50, main_v51, main_v52, main_v53, main_v54, main_v55, main_v56,
    main_v57, main_v58, main_v59, main_cst_11, main_v60, main_v61, main_cst_12, main_v62, main_v63, main_cst_13, main_v64, main_v65, main_v66, main_v67, main_cst_14, main_v68,
    main_v69, main_v70, main_v71, main_v72, main_v73, main_v74, main_v75, main_v76, main_cst_15, main_v77, main_v78, main_cst_16, main_v79, main_v80, main_cst_17, main_v81,
    main_v82, main_v83, main_v84, main_cst_18, main_v85, main_v86, main_v87, main_v88, main_v89, main_v90, main_v91, main_v92, main_v93, main_v94, main_v95, main_cst_19, main_v96,
    main_v97, main_cst_20, main_v98, main_v99, main_v100, main_v101, main_v102, main_v103, main_v104, main_v105, main_v106, main_v107, main_v108, main_v109, main_v110, main_v111,
    main_v112, main_v113, main_v114, main_v115, main_v116, main_v117, main_v118, main_v119, main_v120, main_v121, main_v122, main_cst_21, main_v123, main_v124, main_cst_22,
    main_v125, main_v126, main_cst_23, main_v127, main_v128, main_v129, main_v130, main_v131, main_v132, main_cst_24, main_v133, main_v134, main_cst_25, main_v135, main_v136,
    main_v137, main_v138, main_v139, main_v140, main_v141, main_v142, main_v143, main_v144, main_v145, main_v146, main_v147, main_v148, main_v149, main_v150, main_v151, main_v152,
    main_v153, main_v154, main_v155, main_v156, main_v157, main_v158, main_v159, main_cst_26, main_v160, main_v161, main_cst_27, main_v162, main_v163, main_v164, main_v165,
    main_v166, main_cst_28, main_v167, main_v168, main_v169, main_v170, main_v171, main_v172, main_v173, main_v174, main_v175, main_v176, main_v177, main_v178, main_v179, main_v180,
    main_v181, main_v182, main_v183, main_v184, main_v185, main_cst_29, main_v186, main_cst_30, main_v187, main_v188, main_cst_31, main_v189, main_cst_32, main_v190, main_v191,
    main_v192, main_v193, main_v194, main_cst_33, main_v195, main_v196, main_v197, main_v198, main_v199, main_v200, main_v201, main_v202, main_v203, main_v204, main_v205, main_v206,
    main_v207, main_v208, main_v209, main_v210, main_v211, main_cst_34, main_v212, main_cst_35, main_v213, main_v214, main_cst_36, main_v215, main_cst_37, main_v216, main_v217,
    main_v218, main_cst_38, main_v219, main_v220, main_v221, main_v222, main_cst_39, main_v223, main_v224, main_cst_40, main_v225, main_v226, main_v227, main_v228, main_v229,
    main_cst_41, main_v230, main_v231, main_cst_42, main_v232, main_v233, main_v234, main_v235, main_v236, main_v237, main_v238, main_v239, main_cst_43, main_v240, main_v241,
    main_v242, main_v243, main_cst_44, main_v244, main_v245, main_cst_45, main_v246, main_v247, main_v248, main_v249, main_v250, main_cst_46, main_v251, main_v252, main_cst_47,
    main_v253, main_v254, main_v255, main_v256, main_v257, main_v258, main_v259, main_v260, main_v261, main_cst_48, main_v262, main_v263, main_cst_49, main_v264, main_cst_50,
    main_v265, main_v266, main_v267, main_v268, main_v269, main_v270, main_v271, main_cst_51, main_v272, main_v273, main_v274, main_v275, main_v276, main_cst_52, main_v277,
    main_v278, main_v279, main_v280, main_v281, main_cst_53, main_v282, main_v283, main_cst_54, main_v284, main_v285, main_v286, main_v287, main_v288, main_v289, main_v290,
    main_v291, main_v292, main_v293, main_v294, main_cst_55, main_v295, main_v296, main_v297, main_v298, main_v299, main_cst_56, main_v300, main_v301, main_v302, main_v303,
    main_v304, main_cst_57, main_v305, main_v306, main_cst_58, main_v307, main_v308, main_v309, main_v310, main_v311, main_v312, main_v313, main_v314, main_v315, main_v316,
    main_v317, main_cst_59, main_v318, main_v319, main_v320, main_v321, main_v322, main_cst_60, main_v323, main_v324, main_v325, main_v326, main_v327, main_cst_61, main_v328,
    main_v329, main_cst_62, main_v330, main_v331, main_v332, main_v333, main_v334, main_v335, main_v336, main_v337, main_v338, main_v339, main_c, main_call0_v0, main_v340,
    main_v341, main_v342, main_v343, main_c_63, main_call1_v0, main_v344, main_v345, main_v346, main_c_64, main_call2_v0, main_v347, main_c_65, main_call3_v0, main_v348 ]

set_option maxHeartbeats 40000000 in
/-- None of them is an argument. -/
theorem frame : Cert.quiescent_ReferencePreIdeal := fun m ρ _ =>
  θ_run_mono (StableHlo.run_hlo _ _ (by hlo_seq) (by decide) (by decide) (by simp)
    (by intro _ h; (repeat (cases h with | head => rfl | tail _ h => ?_)); exact nomatch h) m ρ) fun r hc => by
  have keep : ∀ (c : Dev nD) (b : Ref sig .tc), b ∉ written → r.2.mem ((c.tc : Thread nD τ).loc b) = m ((c.tc : Thread nD τ).loc b) :=
    fun c b hb => (hc c b).trans (StableHlo.after_of_writes_sub (W := written) _ _ (StableHlo.forall_writes_sub_of_map rfl) hb)
  exact ⟨fun c => ⟨keep c main_arg0 (by decide), keep c main_arg1 (by decide), keep c main_arg2 (by decide), keep c main_arg3 (by decide), keep c main_arg4 (by decide), keep c main_arg5 (by decide), keep c main_arg6 (by decide), keep c main_arg7 (by decide), keep c main_arg8 (by decide), keep c main_arg9 (by decide), keep c main_arg10 (by decide), keep c main_arg11 (by decide), keep c main_arg12 (by decide), keep c main_arg13 (by decide), keep c main_arg14 (by decide)⟩, sem_eq_zero_of_no_sems (by decide) r.2⟩

end Cert.Proof.PreMixerRef

end
-- ==== Proof.PreMixer.lean ====
/-
  The backward of what precedes the mixers (`pre_mixer_bwd`): one step of its body over any numbers, what it leaves in the output blocks not named, and the
  run of its grid. Both texts of the kernel end with every argument as it was.
-/
module

public import proofs.«01_k».proof.Defs
public import proofs.«01_k».proof.Proof.Gen.KernelPreIdeal
public import proofs.«01_k».proof.Proof.Gen.KernelPre.Frame.Runs
public import Idealize.ShloMosaic.Lib.Claim

@[expose] public section

set_option maxRecDepth 16384

noncomputable section

namespace Cert.KernelPre.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelPre Cert.KernelPre.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A step's blocks: the inputs' at their contents, the outputs' at anything. -/
abbrev held (c : Dev nD)
    (arg1 : Memref sig .tc .vmem S256x1024 .f32) (arg2 : Memref sig .tc .vmem S256x256 .f32) (arg3 : Memref sig .tc .vmem S256x256 .f32)
    (arg4 : Memref sig .tc .vmem S256x256 .f32) (arg5 : Memref sig .tc .vmem S1x1024 .f32) (arg6 : Memref sig .tc .vmem S1024x384 .bf16)
    (arg7 : Memref sig .tc .vmem S1024x256 .bf16) (arg8 : Memref sig .tc .vmem S1024x128 .bf16) (arg9 : Memref sig .tc .vmem S1024x512 .bf16)
    (arg10 : Memref sig .tc .vmem S1x384 .f32) (arg11 : Memref sig .tc .vmem S1x256 .f32) (arg12 : Memref sig .tc .vmem S4x384x256 .bf16)
    (arg13 : Memref sig .tc .vmem S4x256x256 .bf16) (arg14 : Memref sig .tc .vmem S1x256 .f32) (arg15 : Memref sig .tc .vmem S1x256 .f32)
    (arg16 : Memref sig .tc .vmem S256x1024 .f32) (arg17 : Memref sig .tc .vmem S256x1024 .f32) (arg18 : Memref sig .tc .vmem S256x512 .f32)
    (arg19 : Memref sig .tc .vmem S256x512 .f32) (arg20 : Memref sig .tc .vmem S256x1024 .f32) (arg21 : Memref sig .tc .vmem S256x1024 .f32)
    (arg22 : Memref sig .tc .vmem S1x1024 .f32) (arg23 : Memref sig .tc .vmem S1024x384 .f32) (arg24 : Memref sig .tc .vmem S1024x256 .f32)
    (arg25 : Memref sig .tc .vmem S1024x128 .f32) (arg26 : Memref sig .tc .vmem S1024x512 .f32) (arg27 : Memref sig .tc .vmem S1x384 .f32)
    (arg28 : Memref sig .tc .vmem S1x256 .f32) (arg29 : Memref sig .tc .vmem S4x384x256 .f32) (arg30 : Memref sig .tc .vmem S4x256x256 .f32)
    (arg31 : Memref sig .tc .vmem S1x256 .f32) (arg32 : Memref sig .tc .vmem S1x256 .f32)
    (x0 : Vec F S256x1024 .f32) (x1 : Vec F S256x256 .f32) (x2 : Vec F S256x256 .f32) (x3 : Vec F S256x256 .f32) (x4 : Vec F S1x1024 .f32)
    (x5 : Vec F S1024x384 .bf16) (x6 : Vec F S1024x256 .bf16) (x7 : Vec F S1024x128 .bf16) (x8 : Vec F S1024x512 .bf16) (x9 : Vec F S1x384 .f32)
    (x10 : Vec F S1x256 .f32) (x11 : Vec F S4x384x256 .bf16) (x12 : Vec F S4x256x256 .bf16) (x13 : Vec F S1x256 .f32) (x14 : Vec F S1x256 .f32)
    (x15 : Vec F S256x1024 .f32) (x16 : Vec F S256x1024 .f32) (x17 : Vec F S256x512 .f32) (x18 : Vec F S256x512 .f32) (x19 : Vec F S256x1024 .f32) : sProp 𝕄 :=
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ owns (c : Thread nD τ) arg14 fullShare x13
      ∗ owns (c : Thread nD τ) arg15 fullShare x14
      ∗ owns (c : Thread nD τ) arg16 fullShare x15
      ∗ owns (c : Thread nD τ) arg17 fullShare x16
      ∗ owns (c : Thread nD τ) arg18 fullShare x17
      ∗ owns (c : Thread nD τ) arg19 fullShare x18
      ∗ owns (c : Thread nD τ) arg20 fullShare x19
      ∗ (∃ d, owns (c : Thread nD τ) arg21 fullShare d)
      ∗ (∃ d, owns (c : Thread nD τ) arg22 fullShare d)
      ∗ (∃ d, owns (c : Thread nD τ) arg23 fullShare d)
      ∗ (∃ d, owns (c : Thread nD τ) arg24 fullShare d)
      ∗ (∃ d, owns (c : Thread nD τ) arg25 fullShare d)
      ∗ (∃ d, owns (c : Thread nD τ) arg26 fullShare d)
      ∗ (∃ d, owns (c : Thread nD τ) arg27 fullShare d)
      ∗ (∃ d, owns (c : Thread nD τ) arg28 fullShare d)
      ∗ (∃ d, owns (c : Thread nD τ) arg29 fullShare d)
      ∗ (∃ d, owns (c : Thread nD τ) arg30 fullShare d)
      ∗ (∃ d, owns (c : Thread nD τ) arg31 fullShare d)
      ∗ (∃ d, owns (c : Thread nD τ) arg32 fullShare d))

set_option maxHeartbeats 40000000 in
/-- A step hands back what it was given, whether it is the first (which clears the sums) or a later one. -/
theorem step (c : Dev nD) (i : grid0.Coords)
    (arg1 : Memref sig .tc .vmem S256x1024 .f32) (arg2 : Memref sig .tc .vmem S256x256 .f32) (arg3 : Memref sig .tc .vmem S256x256 .f32)
    (arg4 : Memref sig .tc .vmem S256x256 .f32) (arg5 : Memref sig .tc .vmem S1x1024 .f32) (arg6 : Memref sig .tc .vmem S1024x384 .bf16)
    (arg7 : Memref sig .tc .vmem S1024x256 .bf16) (arg8 : Memref sig .tc .vmem S1024x128 .bf16) (arg9 : Memref sig .tc .vmem S1024x512 .bf16)
    (arg10 : Memref sig .tc .vmem S1x384 .f32) (arg11 : Memref sig .tc .vmem S1x256 .f32) (arg12 : Memref sig .tc .vmem S4x384x256 .bf16)
    (arg13 : Memref sig .tc .vmem S4x256x256 .bf16) (arg14 : Memref sig .tc .vmem S1x256 .f32) (arg15 : Memref sig .tc .vmem S1x256 .f32)
    (arg16 : Memref sig .tc .vmem S256x1024 .f32) (arg17 : Memref sig .tc .vmem S256x1024 .f32) (arg18 : Memref sig .tc .vmem S256x512 .f32)
    (arg19 : Memref sig .tc .vmem S256x512 .f32) (arg20 : Memref sig .tc .vmem S256x1024 .f32) (arg21 : Memref sig .tc .vmem S256x1024 .f32)
    (arg22 : Memref sig .tc .vmem S1x1024 .f32) (arg23 : Memref sig .tc .vmem S1024x384 .f32) (arg24 : Memref sig .tc .vmem S1024x256 .f32)
    (arg25 : Memref sig .tc .vmem S1024x128 .f32) (arg26 : Memref sig .tc .vmem S1024x512 .f32) (arg27 : Memref sig .tc .vmem S1x384 .f32)
    (arg28 : Memref sig .tc .vmem S1x256 .f32) (arg29 : Memref sig .tc .vmem S4x384x256 .f32) (arg30 : Memref sig .tc .vmem S4x256x256 .f32)
    (arg31 : Memref sig .tc .vmem S1x256 .f32) (arg32 : Memref sig .tc .vmem S1x256 .f32)
    (harg1 : arg1.IsWhole) (harg2 : arg2.IsWhole) (harg3 : arg3.IsWhole) (harg4 : arg4.IsWhole) (harg5 : arg5.IsWhole) (harg6 : arg6.IsWhole)
    (harg7 : arg7.IsWhole) (harg8 : arg8.IsWhole) (harg9 : arg9.IsWhole) (harg10 : arg10.IsWhole) (harg11 : arg11.IsWhole) (harg12 : arg12.IsWhole)
    (harg13 : arg13.IsWhole) (harg14 : arg14.IsWhole) (harg15 : arg15.IsWhole) (harg16 : arg16.IsWhole) (harg17 : arg17.IsWhole)
    (harg18 : arg18.IsWhole) (harg19 : arg19.IsWhole) (harg20 : arg20.IsWhole) (harg21 : arg21.IsWhole) (harg22 : arg22.IsWhole)
    (harg23 : arg23.IsWhole) (harg24 : arg24.IsWhole) (harg25 : arg25.IsWhole) (harg26 : arg26.IsWhole) (harg27 : arg27.IsWhole)
    (harg28 : arg28.IsWhole) (harg29 : arg29.IsWhole) (harg30 : arg30.IsWhole) (harg31 : arg31.IsWhole) (harg32 : arg32.IsWhole)
    (x0 : Vec F S256x1024 .f32) (x1 : Vec F S256x256 .f32) (x2 : Vec F S256x256 .f32) (x3 : Vec F S256x256 .f32) (x4 : Vec F S1x1024 .f32)
    (x5 : Vec F S1024x384 .bf16) (x6 : Vec F S1024x256 .bf16) (x7 : Vec F S1024x128 .bf16) (x8 : Vec F S1024x512 .bf16) (x9 : Vec F S1x384 .f32)
    (x10 : Vec F S1x256 .f32) (x11 : Vec F S4x384x256 .bf16) (x12 : Vec F S4x256x256 .bf16) (x13 : Vec F S1x256 .f32) (x14 : Vec F S1x256 .f32)
    (x15 : Vec F S256x1024 .f32) (x16 : Vec F S256x1024 .f32) (x17 : Vec F S256x512 .f32) (x18 : Vec F S256x512 .f32) (x19 : Vec F S256x1024 .f32)
    (K : PUnit → sProp 𝕄) :
    iprop(held c
      arg1 arg2 arg3 arg4 arg5 arg6 arg7 arg8 arg9 arg10 arg11 arg12 arg13 arg14 arg15 arg16 arg17 arg18 arg19 arg20 arg21 arg22 arg23 arg24 arg25
      arg26 arg27 arg28 arg29 arg30 arg31 arg32
      x0 x1 x2 x3 x4 x5 x6 x7 x8 x9 x10 x11 x12 x13 x14 x15 x16 x17 x18 x19
      ∗ (held c
      arg1 arg2 arg3 arg4 arg5 arg6 arg7 arg8 arg9 arg10 arg11 arg12 arg13 arg14 arg15 arg16 arg17 arg18 arg19 arg20 arg21 arg22 arg23 arg24 arg25
      arg26 arg27 arg28 arg29 arg30 arg31 arg32
      x0 x1 x2 x3 x4 x5 x6 x7 x8 x9 x10 x11 x12 x13 x14 x15 x16 x17 x18 x19 -∗ K ⟨⟩))
    ⊢ wp frame (wpE (defs₀ (F := F)) Variants.none c none) Set.univ (cc0_pre_mixer_bwd i
        arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23
        arg24 harg24 arg25 harg25 arg26 harg26 arg27 harg27 arg28 harg28 arg29 harg29 arg30 harg30 arg31 harg31 arg32 harg32) K := by
  simp only [cc0_pre_mixer_bwd_eq_skeleton]; unfold cc0_pre_mixer_bwd_skel
  simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
  by_cases h : cond0_0 i
  all_goals
    sl_exec (disch := sl_exact h)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    iexists _, _; isplitr; swap; · iexact H31
    ipureintro; rfl

/-- The outputs' windows. -/
def out : Fin 32 → Bool := fun w => decide (20 ≤ w.val)

/-- The pipeline's proof data: each input's buffer at its block after every step, the outputs' not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨30, h⟩ => Pipeline.Dat.unnamed (cfg := cfg0) ⟨30, h⟩ t
    | ⟨31, h⟩ => Pipeline.Dat.unnamed (cfg := cfg0) ⟨31, h⟩ t
    | ⟨_ + 32, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem kept0 (c : Dev nD) (t : Fin cfg0.N) : (dats m 0 c).after 0 t = iblk m c 0 t := by dsimp only [dats]
theorem kept1 (c : Dev nD) (t : Fin cfg0.N) : (dats m 0 c).after 1 t = iblk m c 1 t := by dsimp only [dats]
theorem kept2 (c : Dev nD) (t : Fin cfg0.N) : (dats m 0 c).after 2 t = iblk m c 2 t := by dsimp only [dats]
theorem kept3 (c : Dev nD) (t : Fin cfg0.N) : (dats m 0 c).after 3 t = iblk m c 3 t := by dsimp only [dats]
theorem kept4 (c : Dev nD) (t : Fin cfg0.N) : (dats m 0 c).after 4 t = iblk m c 4 t := by dsimp only [dats]
theorem kept5 (c : Dev nD) (t : Fin cfg0.N) : (dats m 0 c).after 5 t = iblk m c 5 t := by dsimp only [dats]
theorem kept6 (c : Dev nD) (t : Fin cfg0.N) : (dats m 0 c).after 6 t = iblk m c 6 t := by dsimp only [dats]
theorem kept7 (c : Dev nD) (t : Fin cfg0.N) : (dats m 0 c).after 7 t = iblk m c 7 t := by dsimp only [dats]
theorem kept8 (c : Dev nD) (t : Fin cfg0.N) : (dats m 0 c).after 8 t = iblk m c 8 t := by dsimp only [dats]
theorem kept9 (c : Dev nD) (t : Fin cfg0.N) : (dats m 0 c).after 9 t = iblk m c 9 t := by dsimp only [dats]
theorem kept10 (c : Dev nD) (t : Fin cfg0.N) : (dats m 0 c).after 10 t = iblk m c 10 t := by dsimp only [dats]
theorem kept11 (c : Dev nD) (t : Fin cfg0.N) : (dats m 0 c).after 11 t = iblk m c 11 t := by dsimp only [dats]
theorem kept12 (c : Dev nD) (t : Fin cfg0.N) : (dats m 0 c).after 12 t = iblk m c 12 t := by dsimp only [dats]
theorem kept13 (c : Dev nD) (t : Fin cfg0.N) : (dats m 0 c).after 13 t = iblk m c 13 t := by dsimp only [dats]
theorem kept14 (c : Dev nD) (t : Fin cfg0.N) : (dats m 0 c).after 14 t = iblk m c 14 t := by dsimp only [dats]
theorem kept15 (c : Dev nD) (t : Fin cfg0.N) : (dats m 0 c).after 15 t = iblk m c 15 t := by dsimp only [dats]
theorem kept16 (c : Dev nD) (t : Fin cfg0.N) : (dats m 0 c).after 16 t = iblk m c 16 t := by dsimp only [dats]
theorem kept17 (c : Dev nD) (t : Fin cfg0.N) : (dats m 0 c).after 17 t = iblk m c 17 t := by dsimp only [dats]
theorem kept18 (c : Dev nD) (t : Fin cfg0.N) : (dats m 0 c).after 18 t = iblk m c 18 t := by dsimp only [dats]
theorem kept19 (c : Dev nD) (t : Fin cfg0.N) : (dats m 0 c).after 19 t = iblk m c 19 t := by dsimp only [dats]

theorem found0 (c : Dev nD) (t : Fin cfg0.N) (d) : (dats m 0 c).before 0 t d = iblk m c 0 t := before0_0_of m (dats m 0 c) (A_eq m c 0) (kept0 m c) t d
theorem found1 (c : Dev nD) (t : Fin cfg0.N) (d) : (dats m 0 c).before 1 t d = iblk m c 1 t := before0_1_of m (dats m 0 c) (A_eq m c 1) (kept1 m c) t d
theorem found2 (c : Dev nD) (t : Fin cfg0.N) (d) : (dats m 0 c).before 2 t d = iblk m c 2 t := before0_2_of m (dats m 0 c) (A_eq m c 2) (kept2 m c) t d
theorem found3 (c : Dev nD) (t : Fin cfg0.N) (d) : (dats m 0 c).before 3 t d = iblk m c 3 t := before0_3_of m (dats m 0 c) (A_eq m c 3) (kept3 m c) t d
theorem found4 (c : Dev nD) (t : Fin cfg0.N) (d) : (dats m 0 c).before 4 t d = iblk m c 4 t := before0_4_of m (dats m 0 c) (A_eq m c 4) (kept4 m c) t d
theorem found5 (c : Dev nD) (t : Fin cfg0.N) (d) : (dats m 0 c).before 5 t d = iblk m c 5 t := before0_5_of m (dats m 0 c) (A_eq m c 5) (kept5 m c) t d
theorem found6 (c : Dev nD) (t : Fin cfg0.N) (d) : (dats m 0 c).before 6 t d = iblk m c 6 t := before0_6_of m (dats m 0 c) (A_eq m c 6) (kept6 m c) t d
theorem found7 (c : Dev nD) (t : Fin cfg0.N) (d) : (dats m 0 c).before 7 t d = iblk m c 7 t := before0_7_of m (dats m 0 c) (A_eq m c 7) (kept7 m c) t d
theorem found8 (c : Dev nD) (t : Fin cfg0.N) (d) : (dats m 0 c).before 8 t d = iblk m c 8 t := before0_8_of m (dats m 0 c) (A_eq m c 8) (kept8 m c) t d
theorem found9 (c : Dev nD) (t : Fin cfg0.N) (d) : (dats m 0 c).before 9 t d = iblk m c 9 t := before0_9_of m (dats m 0 c) (A_eq m c 9) (kept9 m c) t d
theorem found10 (c : Dev nD) (t : Fin cfg0.N) (d) : (dats m 0 c).before 10 t d = iblk m c 10 t := before0_10_of m (dats m 0 c) (A_eq m c 10) (kept10 m c) t d
theorem found11 (c : Dev nD) (t : Fin cfg0.N) (d) : (dats m 0 c).before 11 t d = iblk m c 11 t := before0_11_of m (dats m 0 c) (A_eq m c 11) (kept11 m c) t d
theorem found12 (c : Dev nD) (t : Fin cfg0.N) (d) : (dats m 0 c).before 12 t d = iblk m c 12 t := before0_12_of m (dats m 0 c) (A_eq m c 12) (kept12 m c) t d
theorem found13 (c : Dev nD) (t : Fin cfg0.N) (d) : (dats m 0 c).before 13 t d = iblk m c 13 t := before0_13_of m (dats m 0 c) (A_eq m c 13) (kept13 m c) t d
theorem found14 (c : Dev nD) (t : Fin cfg0.N) (d) : (dats m 0 c).before 14 t d = iblk m c 14 t := before0_14_of m (dats m 0 c) (A_eq m c 14) (kept14 m c) t d
theorem found15 (c : Dev nD) (t : Fin cfg0.N) (d) : (dats m 0 c).before 15 t d = iblk m c 15 t := before0_15_of m (dats m 0 c) (A_eq m c 15) (kept15 m c) t d
theorem found16 (c : Dev nD) (t : Fin cfg0.N) (d) : (dats m 0 c).before 16 t d = iblk m c 16 t := before0_16_of m (dats m 0 c) (A_eq m c 16) (kept16 m c) t d
theorem found17 (c : Dev nD) (t : Fin cfg0.N) (d) : (dats m 0 c).before 17 t d = iblk m c 17 t := before0_17_of m (dats m 0 c) (A_eq m c 17) (kept17 m c) t d
theorem found18 (c : Dev nD) (t : Fin cfg0.N) (d) : (dats m 0 c).before 18 t d = iblk m c 18 t := before0_18_of m (dats m 0 c) (A_eq m c 18) (kept18 m c) t d
theorem found19 (c : Dev nD) (t : Fin cfg0.N) (d) : (dats m 0 c).before 19 t d = iblk m c 19 t := before0_19_of m (dats m 0 c) (A_eq m c 19) (kept19 m c) t d

/-- What a step finds, and what it leaves. -/
def before (c : Dev nD) (t : Fin cfg0.N) : sProp 𝕄 :=
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (∃ d, owns (c : Thread nD τ) (ms0_14 t) fullShare ((dats m 0 c).before 14 t d))
      ∗ (∃ d, owns (c : Thread nD τ) (ms0_15 t) fullShare ((dats m 0 c).before 15 t d))
      ∗ (∃ d, owns (c : Thread nD τ) (ms0_16 t) fullShare ((dats m 0 c).before 16 t d))
      ∗ (∃ d, owns (c : Thread nD τ) (ms0_17 t) fullShare ((dats m 0 c).before 17 t d))
      ∗ (∃ d, owns (c : Thread nD τ) (ms0_18 t) fullShare ((dats m 0 c).before 18 t d))
      ∗ (∃ d, owns (c : Thread nD τ) (ms0_19 t) fullShare ((dats m 0 c).before 19 t d))
      ∗ (∃ d, owns (c : Thread nD τ) (ms0_20 t) fullShare d)
      ∗ (∃ d, owns (c : Thread nD τ) (ms0_21 t) fullShare d)
      ∗ (∃ d, owns (c : Thread nD τ) (ms0_22 t) fullShare d)
      ∗ (∃ d, owns (c : Thread nD τ) (ms0_23 t) fullShare d)
      ∗ (∃ d, owns (c : Thread nD τ) (ms0_24 t) fullShare d)
      ∗ (∃ d, owns (c : Thread nD τ) (ms0_25 t) fullShare d)
      ∗ (∃ d, owns (c : Thread nD τ) (ms0_26 t) fullShare d)
      ∗ (∃ d, owns (c : Thread nD τ) (ms0_27 t) fullShare d)
      ∗ (∃ d, owns (c : Thread nD τ) (ms0_28 t) fullShare d)
      ∗ (∃ d, owns (c : Thread nD τ) (ms0_29 t) fullShare d)
      ∗ (∃ d, owns (c : Thread nD τ) (ms0_30 t) fullShare d)
      ∗ (∃ d, owns (c : Thread nD τ) (ms0_31 t) fullShare d))
def left (c : Dev nD) (t : Fin cfg0.N) : sProp 𝕄 :=
    iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t)
      ∗ owns (c : Thread nD τ) (ms0_4 t) fullShare ((dats m 0 c).after 4 t)
      ∗ owns (c : Thread nD τ) (ms0_5 t) fullShare ((dats m 0 c).after 5 t)
      ∗ owns (c : Thread nD τ) (ms0_6 t) fullShare ((dats m 0 c).after 6 t)
      ∗ owns (c : Thread nD τ) (ms0_7 t) fullShare ((dats m 0 c).after 7 t)
      ∗ owns (c : Thread nD τ) (ms0_8 t) fullShare ((dats m 0 c).after 8 t)
      ∗ owns (c : Thread nD τ) (ms0_9 t) fullShare ((dats m 0 c).after 9 t)
      ∗ owns (c : Thread nD τ) (ms0_10 t) fullShare ((dats m 0 c).after 10 t)
      ∗ owns (c : Thread nD τ) (ms0_11 t) fullShare ((dats m 0 c).after 11 t)
      ∗ owns (c : Thread nD τ) (ms0_12 t) fullShare ((dats m 0 c).after 12 t)
      ∗ owns (c : Thread nD τ) (ms0_13 t) fullShare ((dats m 0 c).after 13 t)
      ∗ owns (c : Thread nD τ) (ms0_14 t) fullShare ((dats m 0 c).after 14 t)
      ∗ owns (c : Thread nD τ) (ms0_15 t) fullShare ((dats m 0 c).after 15 t)
      ∗ owns (c : Thread nD τ) (ms0_16 t) fullShare ((dats m 0 c).after 16 t)
      ∗ owns (c : Thread nD τ) (ms0_17 t) fullShare ((dats m 0 c).after 17 t)
      ∗ owns (c : Thread nD τ) (ms0_18 t) fullShare ((dats m 0 c).after 18 t)
      ∗ owns (c : Thread nD τ) (ms0_19 t) fullShare ((dats m 0 c).after 19 t)
      ∗ (∃ d, owns (c : Thread nD τ) (ms0_20 t) fullShare d)
      ∗ (∃ d, owns (c : Thread nD τ) (ms0_21 t) fullShare d)
      ∗ (∃ d, owns (c : Thread nD τ) (ms0_22 t) fullShare d)
      ∗ (∃ d, owns (c : Thread nD τ) (ms0_23 t) fullShare d)
      ∗ (∃ d, owns (c : Thread nD τ) (ms0_24 t) fullShare d)
      ∗ (∃ d, owns (c : Thread nD τ) (ms0_25 t) fullShare d)
      ∗ (∃ d, owns (c : Thread nD τ) (ms0_26 t) fullShare d)
      ∗ (∃ d, owns (c : Thread nD τ) (ms0_27 t) fullShare d)
      ∗ (∃ d, owns (c : Thread nD τ) (ms0_28 t) fullShare d)
      ∗ (∃ d, owns (c : Thread nD τ) (ms0_29 t) fullShare d)
      ∗ (∃ d, owns (c : Thread nD τ) (ms0_30 t) fullShare d)
      ∗ (∃ d, owns (c : Thread nD τ) (ms0_31 t) fullShare d))

set_option maxHeartbeats 4000000 in
theorem sound (c : Dev nD) (t : Fin cfg0.N) :
    before m c t ⊢ wp frame (wpE (defs₀ (F := F)) Variants.none c none) Set.univ (bodyAt0 t) (fun _ => left m c t) := by
  unfold before left bodyAt0
  simp only [found0, found1, found2, found3, found4, found5, found6, found7, found8, found9, found10, found11, found12, found13, found14, found15, found16, found17, found18, found19]
  rw [show (dats m 0 c).Φ t.succ = (dats m 0 c).Φ t.castSucc from rfl, show (dats m 0 c).owesAt () t.succ = (dats m 0 c).owesAt () t.castSucc from rfl,
    kept0, kept1, kept2, kept3, kept4, kept5, kept6, kept7, kept8, kept9, kept10, kept11, kept12, kept13, kept14, kept15, kept16, kept17, kept18, kept19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, H20, H21, H22, H23, H24, H25, H26, H27, H28, H29, H30, H31⟩
  iapply (step c (grid0.coords t)
    (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t)
    (ms0_14 t) (ms0_15 t) (ms0_16 t) (ms0_17 t) (ms0_18 t) (ms0_19 t) (ms0_20 t) (ms0_21 t) (ms0_22 t) (ms0_23 t) (ms0_24 t) (ms0_25 t) (ms0_26 t)
    (ms0_27 t) (ms0_28 t) (ms0_29 t) (ms0_30 t) (ms0_31 t)
    _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t) (iblk m c 17 t)
    (iblk m c 18 t) (iblk m c 19 t) _)
  unfold held
  isplitl [H0 H1 H2 H3 H4 H5 H6 H7 H8 H9 H10 H11 H12 H13 H14 H15 H16 H17 H18 H19 H20 H21 H22 H23 H24 H25 H26 H27 H28 H29 H30 H31]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

theorem row (t : Fin cfg0.N) : defs₀ (F := F) .tc cfg0.body (cfg0.bodyArgs t (cfg0.slots t)) = bodyAt0 t := by
  unfold defs₀; rw [Defs.onTc_tc]

set_option maxHeartbeats 40000000 in
theorem obligation (c : Dev nD) : BodyObligation (dats (F := F) m 0 c) (defs₀ (F := F)) Variants.none () Set.univ out := fun t => by
  rw [bigSep_W0, bigSep_W0, row]
  exact triple_restated (sound m c t) rfl .rfl fun _ => .rfl

set_option backward.isDefEq.respectTransparency.types false in
theorem grid_run : θ_run defs (onTc (τ := τ) (main (F := F))) (s₀ m ρ)
    (fun r => (Pipeline.RDat.FramePost (cfgs 0) (fun c => (dats m 0 c).toRForget out) (V m)) r ∧ r.2.sem = fun _ => 0) :=
  Pipeline.θ_run_frame_forget (Q' := _) cfgs (dats m) (0 : Fin 1) launch0 defs₀ Variants.none out m ρ main
    (hbody := fun c => (obligation m c).loose) (hshare := fun c => (dats m 0 c).share_full fun _ => rfl)
    (howed := fun _ _ => rfl) (V := V m) (hmain := hmain m Variants.none) (hA := A_eq m) (hΦ := fun _ _ => rfl)

set_option maxHeartbeats 4000000 in
theorem frame_run : θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) := by
  have run := grid_run m ρ
  have hA : ∀ c w, ((fun c => (dats m 0 c).toRForget out : (c : Dev nD) → Pipeline.RDat τ (Elt F) Unit ℕ (UR sig nD τ) ℕ (cfgs 0) c) c).A w = V m c (Pipeline.arrRef spec0 w) := A_eq m
  generalize (fun c => (dats m 0 c).toRForget out : (c : Dev nD) → Pipeline.RDat τ (Elt F) Unit ℕ (UR sig nD τ) ℕ (cfgs 0) c) = rd at run hA
  exact (θ_run defs _ _).mono (fun _ h => ⟨fun c => ⟨(Pipeline.RDat.FramePost.arr_in h.1 c 0 rfl).trans ((hA c 0).trans (V_main_arg0 m c)),
      ((h.1 c).2 main_arg1 (Pipeline.mem_restRefs_of main_arg1 (by decide) (by decide))).trans (V_main_arg1 m c),
      (Pipeline.RDat.FramePost.arr_in h.1 c 4 rfl).trans ((hA c 4).trans (V_main_arg2 m c)),
      ((h.1 c).2 main_arg3 (Pipeline.mem_restRefs_of main_arg3 (by decide) (by decide))).trans (V_main_arg3 m c),
      (Pipeline.RDat.FramePost.arr_in h.1 c 9 rfl).trans ((hA c 9).trans (V_main_arg4 m c)),
      ((h.1 c).2 main_arg5 (Pipeline.mem_restRefs_of main_arg5 (by decide) (by decide))).trans (V_main_arg5 m c),
      (Pipeline.RDat.FramePost.arr_in h.1 c 10 rfl).trans ((hA c 10).trans (V_main_arg6 m c)),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      (Pipeline.RDat.FramePost.arr_in h.1 c 15 rfl).trans ((hA c 15).trans (V_main_arg10 m c)),
      (Pipeline.RDat.FramePost.arr_in h.1 c 16 rfl).trans ((hA c 16).trans (V_main_arg11 m c)),
      (Pipeline.RDat.FramePost.arr_in h.1 c 17 rfl).trans ((hA c 17).trans (V_main_arg12 m c)),
      (Pipeline.RDat.FramePost.arr_in h.1 c 18 rfl).trans ((hA c 18).trans (V_main_arg13 m c)),
      (Pipeline.RDat.FramePost.arr_in h.1 c 19 rfl).trans ((hA c 19).trans (V_main_arg14 m c))⟩, h.2⟩) run

end Cert.KernelPre.Step

namespace Cert.Proof.PreMixer

open Idealize.ShloMosaic Idealize.ShloMosaic.Tactic

theorem frame_kernel : Cert.quiescent_KernelPre := fun m ρ _ => Cert.KernelPre.Step.frame_run m ρ

theorem frame_ideal : Cert.quiescent_KernelPreIdeal := fun m ρ _ => by
  refine cast ?_ (Cert.KernelPre.Step.frame_run (F := Ideal) m ρ)
  sl_kernel_rfl

end Cert.Proof.PreMixer

end
-- ==== Proof.SsmRef.lean ====
/-
  The reference of the state space recurrence: its run leaves the arguments as they were.
-/
module

public import proofs.«01_k».proof.Defs
public import proofs.«01_k».proof.Proof.Gen.ReferenceSsmIdeal
public import Idealize.ShloMosaic.Lib.Claim
public import Idealize.ShloMosaic.Lib.Quiescent
public import Idealize.ShloMosaic.Lib.StableHlo.RunHlo

@[expose] public section

set_option maxRecDepth 65536

noncomputable section

namespace Cert.Proof.SsmRef

open Cert.ReferenceSsmIdeal Idealize.ShloMosaic Idealize.ShloMosaic.TcCoe Idealize.SL.Sem

/-- The buffers the operations write, in order. -/
abbrev written : List (Ref sig .tc) :=
  [
    main_v0, main_v1, main_v2, main_v3, main_v4, main_v5, main_v6, main_v7, main_v8, main_v9, main_v10, main_v11, main_v12, main_v13, main_v14, main_v15, main_v16, main_v17,
    main_v18, main_v19, main_v20, main_v21, main_v22, main_v23, main_v24, main_v25, main_v26, main_v27, main_v28, main_v29, main_v30, main_v31, main_v32, main_v33, main_v34,
    main_v35, main_v36, main_v37, main_v38, main_v39, main_v40, main_v41, main_v42, main_v43, main_v44, main_v45, main_v46, main_v47, main_v48, main_v49, main_v50, main_v51,
    main_v52, main_v53, main_v54, main_v55, main_v56, main_v57, main_v58, main_v59, main_v60, main_v61, main_v62, main_v63, main_v64, main_v65, main_v66, main_v67, main_v68,
    main_v69, main_v70, main_v71, main_v72, main_v73, main_v74, main_v75, main_v76, main_v77, main_v78, main_v79, main_v80, main_v81, main_v82, main_v83, main_v84, main_v85,
    main_v86, main_v87, main_v88, main_v89, main_v90, main_v91, main_v92, main_v93, main_v94, main_v95, main_v96, main_v97, main_v98, main_v99, main_v100, main_v101, main_v102,
    main_v103, main_v104, main_v105, main_v106, main_v107, main_v108, main_v109, main_v110, main_v111, main_v112, main_v113, main_v114, main_v115, main_v116, main_v117, main_v118,
    main_v119, main_v120, main_v121, main_v122, main_v123, main_v124, main_v125, main_v126, main_v127, main_v128, main_v129, main_v130, main_v131, main_v132, main_v133, main_v134,
    main_v135, main_v136, main_v137, main_v138, main_v139, main_v140, main_v141, main_v142, main_v143, main_v144, main_v145, main_v146, main_v147, main_v148, main_v149, main_v150,
    main_v151, main_v152, main_v153, main_v154, main_v155, main_v156, main_v157, main_v158, main_v159, main_v160, main_v161, main_v162, main_v163, main_v164, main_v165, main_v166,
    main_v167, main_v168, main_v169, main_v170, main_v171, main_v172, main_v173, main_v174, main_v175, main_v176, main_v177, main_v178, main_v179, main_v180, main_v181, main_v182,
    main_v183, main_v184, main_v185, main_v186, main_v187, main_v188, main_v189, main_v190, main_v191, main_v192, main_v193, main_v194, main_v195, main_v196, main_v197, main_v198,
    main_v199, main_v200, main_v201, main_v202, main_v203, main_v204, main_v205, main_v206, main_v207, main_v208, main_v209, main_v210, main_v211, main_v212, main_v213, main_v214,
    main_v215, main_v216, main_v217, main_v218, main_v219, main_v220, main_v221, main_v222, main_v223, main_v224, main_v225, main_v226, main_v227, main_v228, main_v229, main_v230,
    main_v231, main_v232, main_v233, main_v234, main_v235, main_v236, main_v237, main_v238, main_v239, main_v240, main_v241, main_v242, main_v243, main_v244, main_v245, main_v246,
    main_v247, main_v248, main_v249, main_v250, main_v251, main_v252, main_v253, main_v254, main_v255, main_v256, main_v257, main_v258, main_v259, main_v260, main_v261, main_v262,
    main_v263, main_v264, main_v265, main_v266, main_v267, main_v268, main_v269, main_v270, main_v271, main_v272, main_v273, main_v274, main_v275, main_v276, main_v277, main_v278,
    main_v279, main_v280, main_v281, main_v282, main_v283, main_v284, main_v285, main_v286, main_v287, main_v288, main_v289, main_v290, main_v291, main_v292, main_v293, main_v294,
    main_v295, main_v296, main_v297, main_v298, main_v299, main_v300, main_v301, main_v302, main_v303, main_v304, main_v305, main_v306, main_v307, main_v308, main_v309, main_v310,
    main_v311, main_v312, main_v313, main_v314, main_v315, main_v316, main_v317, main_v318, main_v319, main_v320, main_v321, main_v322, main_v323, main_v324, main_v325, main_v326,
    main_v327, main_v328, main_v329, main_v330, main_v331, main_v332, main_v333, main_v334, main_v335, main_v336, main_v337, main_v338, main_v339, main_v340, main_v341, main_v342,
    main_v343, main_v344, main_v345, main_v346, main_v347, main_v348, main_v349, main_v350, main_v351, main_v352, main_v353, main_v354, main_v355, main_v356, main_v357, main_v358,
    main_v359, main_v360, main_v361, main_v362, main_v363, main_v364, main_v365, main_v366, main_v367, main_v368, main_v369, main_v370, main_v371, main_v372, main_v373, main_v374,
    main_v375, main_v376, main_v377, main_v378, main_v379, main_v380, main_v381, main_v382, main_v383, main_v384, main_v385, main_v386, main_v387, main_v388, main_v389, main_v390,
    main_v391, main_v392, main_v393, main_v394, main_v395, main_v396, main_v397, main_v398, main_v399, main_v400, main_v401, main_v402, main_v403, main_v404, main_v405, main_v406,
    main_v407, main_v408, main_v409, main_v410, main_v411, main_v412, main_v413, main_v414, main_v415, main_v416, main_v417, main_v418, main_v419, main_v420, main_v421, main_v422,
    main_v423, main_v424, main_v425, main_v426, main_v427, main_v428, main_v429, main_v430, main_v431, main_v432, main_v433, main_v434, main_v435, main_v436, main_v437, main_v438,
    main_v439, main_v440, main_v441, main_v442, main_v443, main_v444, main_v445, main_v446, main_v447, main_v448, main_v449, main_v450, main_v451, main_v452, main_v453, main_v454,
    main_v455, main_v456, main_v457, main_v458, main_v459, main_v460, main_v461, main_v462, main_v463, main_v464, main_v465, main_v466, main_v467, main_v468, main_v469, main_v470,
    main_v471, main_v472, main_v473, main_v474, main_v475, main_v476, main_v477, main_v478, main_v479, main_v480, main_v481, main_v482, main_v483, main_v484, main_v485, main_v486,
    main_v487, main_v488, main_v489, main_v490, main_v491, main_v492, main_v493, main_v494, main_v495, main_v496, main_v497, main_v498, main_v499, main_v500, main_v501, main_v502,
    main_v503, main_v504, main_v505, main_v506, main_v507, main_v508, main_v509, main_v510, main_v511, main_v512, main_v513, main_v514, main_v515, main_v516, main_v517, main_v518,
    main_v519, main_v520, main_v521, main_v522, main_v523, main_v524, main_v525, main_v526, main_v527, main_v528, main_v529, main_v530, main_v531, main_v532, main_v533, main_v534,
    main_v535, main_v536, main_v537, main_v538, main_v539, main_v540, main_v541, main_v542, main_v543, main_v544, main_v545, main_v546, main_v547, main_v548, main_v549, main_v550,
    main_v551, main_v552, main_v553, main_v554, main_v555, main_v556, main_v557, main_v558, main_v559, main_v560, main_v561, main_v562, main_v563, main_v564, main_v565, main_v566,
    main_v567, main_v568, main_v569, main_v570, main_v571, main_v572, main_v573, main_v574, main_v575, main_v576, main_v577, main_v578, main_v579, main_v580, main_v581, main_v582,
    main_v583, main_v584, main_v585, main_v586, main_v587, main_v588, main_v589, main_v590, main_v591, main_v592, main_v593, main_v594, main_v595, main_v596, main_v597, main_v598,
    main_v599, main_v600, main_v601, main_v602, main_v603, main_v604, main_v605, main_v606, main_v607, main_v608, main_v609, main_v610, main_v611, main_v612, main_v613, main_v614,
    main_v615, main_v616, main_v617, main_v618, main_v619, main_v620, main_v621, main_v622, main_v623, main_v624, main_v625, main_v626, main_v627, main_v628, main_v629, main_v630,
    main_v631, main_v632, main_v633, main_v634, main_v635, main_v636, main_v637, main_v638, main_v639, main_v640, main_v641, main_v642, main_v643, main_v644, main_v645, main_v646,
    main_v647, main_v648, main_v649, main_v650, main_v651, main_v652, main_v653, main_v654, main_v655, main_v656, main_v657, main_v658, main_v659, main_v660, main_v661, main_v662,
    main_v663, main_v664, main_v665, main_v666, main_v667, main_v668, main_v669, main_v670, main_v671, main_v672, main_v673, main_v674, main_v675, main_v676, main_v677, main_v678,
    main_v679, main_v680, main_v681, main_v682, main_v683, main_v684, main_v685, main_v686, main_v687, main_v688, main_v689, main_v690, main_v691, main_v692, main_v693, main_v694,
    main_v695, main_v696, main_v697, main_v698, main_v699, main_v700, main_v701, main_v702, main_v703, main_v704, main_v705, main_v706, main_v707, main_v708, main_v709, main_v710,
    main_v711, main_v712, main_v713, main_v714, main_v715, main_v716, main_v717, main_v718, main_v719, main_v720, main_v721, main_v722, main_v723, main_v724, main_v725, main_v726,
    main_v727, main_v728, main_v729, main_v730, main_v731, main_v732, main_v733, main_v734, main_v735, main_v736, main_v737, main_v738, main_v739, main_v740, main_v741, main_v742,
    main_v743, main_v744, main_v745, main_v746, main_v747, main_v748, main_v749, main_v750, main_v751, main_v752, main_v753, main_v754, main_v755, main_v756, main_v757, main_v758,
    main_v759, main_v760, main_v761, main_v762, main_v763, main_v764, main_v765, main_v766, main_v767, main_v768, main_v769, main_v770, main_v771, main_v772, main_v773, main_v774,
    main_v775, main_v776, main_v777, main_v778, main_v779, main_v780, main_v781, main_v782, main_v783, main_v784, main_v785, main_v786, main_v787, main_v788, main_v789, main_v790,
    main_v791, main_v792, main_v793, main_v794, main_v795, main_v796, main_v797, main_v798, main_v799, main_v800, main_v801, main_v802, main_v803, main_v804, main_v805, main_v806,
    main_v807, main_v808, main_v809, main_v810, main_v811, main_v812, main_v813, main_v814, main_v815, main_v816, main_v817, main_v818, main_v819, main_v820, main_v821, main_v822,
    main_v823, main_v824, main_v825, main_v826, main_v827, main_v828, main_v829, main_v830, main_cst, main_v831, main_v832, main_v833, main_cst_0, main_v834, main_v835, main_v836,
    main_v837, main_v838, main_v839, main_v840, main_v841, main_v842, main_v843, main_v844, main_v845, main_v846, main_v847, main_cst_1, main_v848, main_v849, main_cst_2, main_v850,
    main_v851, main_cst_3, main_v852, main_cst_4, main_v853, main_cst_5, main_v854, main_v855, main_cst_6, main_v856, main_v857, main_v858, main_v859, main_v860, main_v861,
    main_v862, main_v863, main_v864, main_v865, main_v866, main_v867, main_v868, main_v869, main_cst_7, main_v870, main_v871, main_v872, main_cst_8, main_v873, main_v874, main_v875,
    main_v876, main_v877, main_v878, main_v879, main_v880, main_v881, main_v882, main_v883, main_v884, main_v885, main_v886, main_cst_9, main_v887, main_v888, main_cst_10,
    main_v889, main_v890, main_cst_11, main_v891, main_cst_12, main_v892, main_cst_13, main_v893, main_v894, main_cst_14, main_v895, main_v896, main_v897, main_v898, main_v899,
    main_v900, main_v901, main_v902, main_v903, main_v904, main_v905, main_v906, main_v907, main_v908, main_cst_15, main_v909, main_v910, main_v911, main_cst_16, main_v912,
    main_v913, main_v914, main_v915, main_v916, main_v917, main_v918, main_v919, main_v920, main_v921, main_v922, main_v923, main_v924, main_v925, main_cst_17, main_v926, main_v927,
    main_cst_18, main_v928, main_v929, main_cst_19, main_v930, main_cst_20, main_v931, main_cst_21, main_v932, main_v933, main_cst_22, main_v934, main_v935, main_v936, main_v937,
    main_v938, main_v939, main_v940, main_v941, main_v942, main_v943, main_v944, main_v945, main_v946, main_v947, main_cst_23, main_v948, main_v949, main_v950, main_cst_24,
    main_v951, main_v952, main_v953, main_v954, main_v955, main_v956, main_v957, main_v958, main_v959, main_v960, main_v961, main_v962, main_v963, main_v964, main_cst_25, main_v965,
    main_v966, main_cst_26, main_v967, main_v968, main_cst_27, main_v969, main_cst_28, main_v970, main_cst_29, main_v971, main_v972, main_cst_30, main_v973, main_v974, main_v975,
    main_v976, main_v977, main_v978, main_v979, main_v980, main_v981, main_v982, main_v983, main_v984, main_v985, main_v986, main_cst_31, main_v987, main_v988, main_v989,
    main_cst_32, main_v990, main_v991, main_v992, main_v993, main_v994, main_v995, main_v996, main_v997, main_v998, main_v999, main_v1000, main_v1001, main_v1002, main_v1003,
    main_cst_33, main_v1004, main_v1005, main_cst_34, main_v1006, main_v1007, main_cst_35, main_v1008, main_cst_36, main_v1009, main_cst_37, main_v1010, main_v1011, main_cst_38,
    main_v1012, main_v1013, main_v1014, main_v1015, main_v1016, main_v1017, main_v1018, main_v1019, main_v1020, main_v1021, main_v1022, main_v1023, main_v1024, main_v1025,
    main_cst_39, main_v1026, main_v1027, main_v1028, main_cst_40, main_v1029, main_v1030, main_v1031, main_v1032, main_v1033, main_v1034, main_v1035, main_v1036, main_v1037,
    main_v1038, main_v1039, main_v1040, main_v1041, main_v1042, main_cst_41, main_v1043, main_v1044, main_cst_42, main_v1045, main_v1046, main_cst_43, main_v1047, main_cst_44,
    main_v1048, main_cst_45, main_v1049, main_v1050, main_cst_46, main_v1051, main_v1052, main_v1053, main_v1054, main_v1055, main_v1056, main_v1057, main_v1058, main_v1059,
    main_v1060, main_v1061, main_v1062, main_v1063, main_v1064, main_cst_47, main_v1065, main_v1066, main_v1067, main_cst_48, main_v1068, main_v1069, main_v1070, main_v1071,
    main_v1072, main_v1073, main_v1074, main_v1075, main_v1076, main_v1077, main_v1078, main_v1079, main_v1080, main_v1081, main_cst_49, main_v1082, main_v1083, main_cst_50,
    main_v1084, main_v1085, main_cst_51, main_v1086, main_cst_52, main_v1087, main_cst_53, main_v1088, main_v1089, main_cst_54, main_v1090, main_v1091, main_v1092, main_v1093,
    main_v1094, main_v1095, main_v1096, main_v1097, main_v1098, main_v1099, main_v1100, main_v1101, main_v1102, main_v1103, main_cst_55, main_v1104, main_v1105, main_v1106,
    main_cst_56, main_v1107, main_v1108, main_v1109, main_v1110, main_v1111, main_v1112, main_v1113, main_v1114, main_v1115, main_v1116, main_v1117, main_v1118, main_v1119,
    main_v1120, main_cst_57, main_v1121, main_v1122, main_cst_58, main_v1123, main_v1124, main_cst_59, main_v1125, main_cst_60, main_v1126, main_cst_61, main_v1127, main_v1128,
    main_cst_62, main_v1129, main_v1130, main_v1131, main_v1132, main_v1133, main_v1134, main_v1135, main_v1136, main_v1137, main_v1138, main_v1139, main_v1140, main_v1141,
    main_v1142, main_cst_63, main_v1143, main_v1144, main_v1145, main_cst_64, main_v1146, main_v1147, main_v1148, main_v1149, main_v1150, main_v1151, main_v1152, main_v1153,
    main_v1154, main_v1155, main_v1156, main_v1157, main_v1158, main_v1159, main_cst_65, main_v1160, main_v1161, main_cst_66, main_v1162, main_v1163, main_cst_67, main_v1164,
    main_cst_68, main_v1165, main_cst_69, main_v1166, main_v1167, main_cst_70, main_v1168, main_v1169, main_v1170, main_v1171, main_v1172, main_v1173, main_v1174, main_v1175,
    main_v1176, main_v1177, main_v1178, main_v1179, main_v1180, main_v1181, main_cst_71, main_v1182, main_v1183, main_v1184, main_cst_72, main_v1185, main_v1186, main_v1187,
    main_v1188, main_v1189, main_v1190, main_v1191, main_v1192, main_v1193, main_v1194, main_v1195, main_v1196, main_v1197, main_v1198, main_cst_73, main_v1199, main_v1200,
    main_cst_74, main_v1201, main_v1202, main_cst_75, main_v1203, main_cst_76, main_v1204, main_cst_77, main_v1205, main_v1206, main_cst_78, main_v1207, main_v1208, main_v1209,
    main_v1210, main_v1211, main_v1212, main_v1213, main_v1214, main_v1215, main_v1216, main_v1217, main_v1218, main_v1219, main_v1220, main_cst_79, main_v1221, main_v1222,
    main_v1223, main_cst_80, main_v1224, main_v1225, main_v1226, main_v1227, main_v1228, main_v1229, main_v1230, main_v1231, main_v1232, main_v1233, main_v1234, main_v1235,
    main_v1236, main_v1237, main_cst_81, main_v1238, main_v1239, main_cst_82, main_v1240, main_v1241, main_cst_83, main_v1242, main_cst_84, main_v1243, main_cst_85, main_v1244,
    main_v1245, main_cst_86, main_v1246, main_v1247, main_v1248, main_v1249, main_v1250, main_v1251, main_v1252, main_v1253, main_v1254, main_v1255, main_v1256, main_v1257,
    main_v1258, main_v1259, main_v1260, main_v1261, main_v1262, main_v1263, main_v1264, main_v1265, main_v1266, main_v1267, main_v1268, main_v1269, main_v1270, main_v1271,
    main_v1272, main_cst_87, main_v1273, main_cst_88, main_v1274, main_cst_89, main_v1275, main_cst_90, main_v1276, main_cst_91, main_v1277, main_v1278, main_cst_92, main_v1279,
    main_v1280, main_v1281, main_v1282, main_v1283, main_v1284, main_v1285, main_v1286, main_v1287, main_v1288, main_v1289, main_v1290, main_v1291, main_v1292, main_v1293,
    main_v1294, main_v1295, main_v1296, main_v1297, main_v1298, main_v1299, main_v1300, main_v1301, main_v1302, main_v1303, main_v1304, main_v1305, main_v1306, main_v1307,
    main_v1308, main_v1309, main_v1310, main_v1311, main_v1312, main_cst_93, main_v1313, main_cst_94, main_v1314, main_cst_95, main_v1315, main_cst_96, main_v1316, main_cst_97,
    main_v1317, main_v1318, main_cst_98, main_v1319, main_v1320, main_cst_99, main_v1321, main_v1322, main_cst_100, main_v1323, main_v1324, main_v1325, main_v1326, main_v1327,
    main_v1328, main_v1329, main_v1330, main_v1331, main_v1332, main_v1333, main_v1334, main_v1335, main_v1336, main_v1337, main_v1338, main_v1339, main_v1340, main_v1341,
    main_v1342, main_v1343, main_v1344, main_v1345, main_v1346, main_v1347, main_v1348, main_v1349, main_v1350, main_v1351, main_v1352, main_v1353, main_v1354, main_v1355,
    main_v1356, main_cst_101, main_v1357, main_cst_102, main_v1358, main_cst_103, main_v1359, main_cst_104, main_v1360, main_cst_105, main_v1361, main_v1362, main_cst_106,
    main_v1363, main_v1364, main_cst_107, main_v1365, main_v1366, main_cst_108, main_v1367, main_v1368, main_v1369, main_v1370, main_v1371, main_v1372, main_v1373, main_v1374,
    main_v1375, main_v1376, main_v1377, main_v1378, main_v1379, main_v1380, main_v1381, main_v1382, main_v1383, main_v1384, main_v1385, main_v1386, main_v1387, main_v1388,
    main_v1389, main_v1390, main_v1391, main_v1392, main_v1393, main_v1394, main_v1395, main_v1396, main_v1397, main_v1398, main_v1399, main_v1400, main_cst_109, main_v1401,
    main_cst_110, main_v1402, main_cst_111, main_v1403, main_cst_112, main_v1404, main_cst_113, main_v1405, main_v1406, main_cst_114, main_v1407, main_v1408, main_cst_115,
    main_v1409, main_v1410, main_cst_116, main_v1411, main_v1412, main_v1413, main_v1414, main_v1415, main_v1416, main_v1417, main_v1418, main_v1419, main_v1420, main_v1421,
    main_v1422, main_v1423, main_v1424, main_v1425, main_v1426, main_v1427, main_v1428, main_v1429, main_v1430, main_v1431, main_v1432, main_v1433, main_v1434, main_v1435,
    main_v1436, main_v1437, main_v1438, main_v1439, main_v1440, main_v1441, main_v1442, main_v1443, main_v1444, main_cst_117, main_v1445, main_cst_118, main_v1446, main_cst_119,
    main_v1447, main_cst_120, main_v1448, main_cst_121, main_v1449, main_v1450, main_cst_122, main_v1451, main_v1452, main_cst_123, main_v1453, main_v1454, main_cst_124, main_v1455,
    main_v1456, main_v1457, main_v1458, main_v1459, main_v1460, main_v1461, main_v1462, main_v1463, main_v1464, main_v1465, main_v1466, main_v1467, main_v1468, main_v1469,
    main_v1470, main_v1471, main_v1472, main_v1473, main_v1474, main_v1475, main_v1476, main_v1477, main_v1478, main_v1479, main_v1480, main_v1481, main_v1482, main_v1483,
    main_v1484, main_v1485, main_v1486, main_v1487, main_v1488, main_cst_125, main_v1489, main_cst_126, main_v1490, main_cst_127, main_v1491, main_cst_128, main_v1492, main_cst_129,
    main_v1493, main_v1494, main_cst_130, main_v1495, main_v1496, main_cst_131, main_v1497, main_v1498, main_cst_132, main_v1499, main_v1500, main_v1501, main_v1502, main_v1503,
    main_v1504, main_v1505, main_v1506, main_v1507, main_v1508, main_v1509, main_v1510, main_v1511, main_v1512, main_v1513, main_v1514, main_v1515, main_v1516, main_v1517,
    main_v1518, main_v1519, main_v1520, main_v1521, main_v1522, main_v1523, main_v1524, main_v1525, main_v1526, main_v1527, main_v1528, main_v1529, main_v1530, main_v1531,
    main_v1532, main_cst_133, main_v1533, main_cst_134, main_v1534, main_cst_135, main_v1535, main_cst_136, main_v1536, main_cst_137, main_v1537, main_v1538, main_cst_138,
    main_v1539, main_v1540, main_cst_139, main_v1541, main_v1542, main_cst_140, main_v1543, main_v1544, main_v1545, main_v1546, main_v1547, main_v1548, main_v1549, main_v1550,
    main_v1551, main_v1552, main_v1553, main_v1554, main_v1555, main_v1556, main_v1557, main_v1558, main_v1559, main_v1560, main_v1561, main_v1562, main_v1563, main_v1564,
    main_v1565, main_v1566, main_v1567, main_v1568, main_v1569, main_v1570, main_v1571, main_v1572, main_v1573, main_v1574, main_v1575, main_v1576, main_cst_141, main_v1577,
    main_cst_142, main_v1578, main_cst_143, main_v1579, main_cst_144, main_v1580, main_cst_145, main_v1581, main_v1582, main_cst_146, main_v1583, main_v1584, main_cst_147,
    main_v1585, main_v1586, main_cst_148, main_v1587, main_v1588, main_v1589, main_v1590, main_v1591, main_v1592, main_v1593, main_v1594, main_v1595, main_v1596, main_v1597,
    main_v1598, main_v1599, main_v1600, main_v1601, main_v1602, main_v1603, main_v1604, main_v1605, main_v1606, main_v1607, main_v1608, main_v1609, main_v1610, main_v1611,
    main_v1612, main_v1613, main_v1614, main_v1615, main_v1616, main_v1617, main_v1618, main_v1619, main_v1620, main_cst_149, main_v1621, main_cst_150, main_v1622, main_cst_151,
    main_v1623, main_cst_152, main_v1624, main_cst_153, main_v1625, main_v1626, main_cst_154, main_v1627, main_v1628, main_cst_155, main_v1629, main_v1630, main_cst_156, main_v1631,
    main_v1632, main_v1633, main_v1634, main_v1635, main_v1636, main_v1637, main_v1638, main_v1639, main_v1640, main_v1641, main_v1642, main_v1643, main_v1644, main_v1645,
    main_v1646, main_v1647, main_v1648, main_v1649, main_v1650, main_v1651, main_v1652, main_v1653, main_v1654, main_v1655, main_v1656, main_v1657, main_v1658, main_v1659,
    main_v1660, main_v1661, main_v1662, main_v1663, main_v1664, main_cst_157, main_v1665, main_cst_158, main_v1666, main_cst_159, main_v1667, main_cst_160, main_v1668, main_cst_161,
    main_v1669, main_v1670, main_cst_162, main_v1671, main_v1672, main_cst_163, main_v1673, main_v1674, main_cst_164, main_v1675, main_v1676, main_v1677, main_v1678, main_v1679,
    main_v1680, main_v1681, main_v1682, main_v1683, main_v1684, main_v1685, main_v1686, main_v1687, main_v1688, main_v1689, main_v1690, main_v1691, main_v1692, main_v1693,
    main_v1694, main_v1695, main_v1696, main_v1697, main_v1698, main_v1699, main_v1700, main_v1701, main_v1702, main_v1703, main_v1704, main_v1705, main_v1706, main_v1707,
    main_v1708, main_cst_165, main_v1709, main_cst_166, main_v1710, main_cst_167, main_v1711, main_cst_168, main_v1712, main_cst_169, main_v1713, main_v1714, main_cst_170,
    main_v1715, main_v1716, main_cst_171, main_v1717, main_v1718, main_cst_172, main_v1719, main_v1720, main_v1721, main_v1722, main_v1723, main_v1724, main_v1725, main_v1726,
    main_v1727, main_v1728, main_v1729, main_v1730, main_v1731, main_v1732, main_v1733, main_v1734, main_v1735, main_v1736, main_v1737, main_v1738, main_v1739, main_v1740,
    main_v1741, main_v1742, main_v1743, main_v1744, main_v1745, main_v1746, main_v1747, main_v1748, main_v1749, main_v1750, main_v1751, main_v1752, main_cst_173, main_v1753,
    main_cst_174, main_v1754, main_cst_175, main_v1755, main_cst_176, main_v1756, main_cst_177, main_v1757, main_v1758, main_cst_178, main_v1759, main_v1760, main_cst_179,
    main_v1761, main_v1762, main_cst_180, main_v1763, main_v1764, main_v1765, main_v1766, main_v1767, main_v1768, main_v1769, main_v1770, main_v1771, main_v1772, main_v1773,
    main_v1774, main_v1775, main_v1776, main_v1777, main_v1778, main_v1779, main_cst_181, main_v1780, main_v1781, main_cst_182, main_v1782, main_v1783 ]

set_option maxHeartbeats 40000000 in
/-- None of them is an argument. -/
theorem frame : Cert.quiescent_ReferenceSsmIdeal := fun m ρ _ =>
  θ_run_mono (StableHlo.run_hlo _ _ (by hlo_seq) (by decide) (by decide) (by simp)
    (by intro _ h; (repeat (cases h with | head => rfl | tail _ h => ?_)); exact nomatch h) m ρ) fun r hc => by
  have keep : ∀ (c : Dev nD) (b : Ref sig .tc), b ∉ written → r.2.mem ((c.tc : Thread nD τ).loc b) = m ((c.tc : Thread nD τ).loc b) :=
    fun c b hb => (hc c b).trans (StableHlo.after_of_writes_sub (W := written) _ _ (StableHlo.forall_writes_sub_of_map rfl) hb)
  exact ⟨fun c => ⟨keep c main_arg0 (by decide), keep c main_arg1 (by decide), keep c main_arg2 (by decide), keep c main_arg3 (by decide), keep c main_arg4 (by decide), keep c main_arg5 (by decide), keep c main_arg6 (by decide), keep c main_arg7 (by decide)⟩, sem_eq_zero_of_no_sems (by decide) r.2⟩

end Cert.Proof.SsmRef

end
-- ==== Proof.MemNormFwd.lean ====
/-
  The memory's norm (`mem_norm_fwd`): the kernel's one grid point holds the whole memory and normalises each of its rows,
  as `rms_norm` does.
-/
module

public import proofs.«01_k».proof.Defs
public import proofs.«01_k».proof.Proof.Gen.KernelMemNormFwd
public import proofs.«01_k».proof.Proof.Gen.KernelMemNormFwd.Frame
public import proofs.«01_k».proof.Proof.Gen.KernelMemNormFwdIdeal.Frame
public import proofs.«01_k».proof.Proof.Gen.ReferenceMemNormFwdIdeal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.MemNormFwd

section
open Cert.KernelMemNormFwdIdeal Cert.KernelMemNormFwdIdeal.Gen

variable (m : (ℓ : Loc nD τ sig) → Buf (Elt Ideal) ℓ)

/-- The windows' block indices at the one grid point. -/
theorem idx : ∀ t : Fin cfg0.N, win0_0.index t = ![0, 0] ∧ win0_1.index t = ![0, 0] ∧ win0_2.index t = ![0, 0] :=
  (by decide +kernel : ∀ t : Fin grid0.N, _)

/-- The rows after the run, over the program's arguments. -/
theorem final (c : Dev nD) : (dats m 0 c).arrAt 2 (cfgs 0).N
    = k0_pay1 (F := Ideal) (shapeCast S256x1024 (m ((c : Thread nD τ).loc main_arg0)) shapeCasts_S1x256x1024_S256x1024)
        (m ((c : Thread nD τ).loc main_arg1)) := by
  refine (dats m 0 c).arrAt_eq_of_after_last 2 t0_0 (by decide +kernel) _ fun j => ?_
  blk_simp
  rw [after0_2]
  unfold out0_2
  frame_out
  blk_point [iblk, V, idx t0_0]

end

open Cert.ReferenceMemNormFwdIdeal Cert.ReferenceMemNormFwdIdeal.Gen in
/-- The reference's rows, over the memory and the gain. -/
def rowsRef (X : FVec Ideal S1x256x1024 .f32) (G : FVec Ideal S1x1024 .f32) : FVec Ideal S256x1024 .bf16 :=
  truncf .bf16 (mulf (mulf (shapeCast _ X shapeCasts_S1x256x1024_S256x1024) (broadcastInDim S256x1024 ![0, 1] bcast_S256x1_S256x1024_0_1 (Host.rsqrt (addf (Host.divf (broadcastInDim S256x1 ![0] bcast_S256_S256x1_0 (Host.reduceAdd (mulf (shapeCast _ X shapeCasts_S1x256x1024_S256x1024) (shapeCast _ X shapeCasts_S1x256x1024_S256x1024)) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 (shapeCast _ G shapeCasts_S1x1024_S1024)))) bitsLt_bf16_f32

open Cert.KernelMemNormFwdIdeal Cert.KernelMemNormFwdIdeal.Gen in
theorem rows_eq (X : FVec Ideal S1x256x1024 .f32) (G : FVec Ideal S1x1024 .f32) (i : Fin 256) (j : Fin 1024) :
    k0_pay1 (F := Ideal) (shapeCast S256x1024 X shapeCasts_S1x256x1024_S256x1024) G (ix2 i j) = rowsRef X G (ix2 i j) := by
  pointwise [k0_pay1, rowsRef]

theorem frame_kernel : Cert.quiescent_KernelMemNormFwd := fun m ρ _ => Cert.KernelMemNormFwd.Gen.frame m ρ
theorem frame_ideal : Cert.quiescent_KernelMemNormFwdIdeal := fun m ρ _ => Cert.KernelMemNormFwdIdeal.Gen.frame m ρ
theorem frame_reference : Cert.quiescent_ReferenceMemNormFwdIdeal := fun m ρ _ =>
  (θ_run Cert.ReferenceMemNormFwdIdeal.defs _ _).mono (fun r h => ⟨fun c => (h c).2, sem_eq_zero_of_no_sems (by decide) r.2⟩)
    (Cert.ReferenceMemNormFwdIdeal.Value.run (F := Ideal) m ρ)

theorem value : Cert.algebraic_KernelMemNormFwdIdeal_ReferenceMemNormFwdIdeal := by
  pair_intro
  · run_from Cert.KernelMemNormFwdIdeal.Gen.run_main m g
  · run_from Cert.ReferenceMemNormFwdIdeal.Value.run m' g'
    rw [final m c]
    funext j
    obtain ⟨a, b, rfl⟩ : ∃ (a : Fin 256) (b : Fin 1024), j = ix2 a b := ⟨j 0, j 1, eq_ix2 j⟩
    exact (rows_eq _ _ a b).symm

end Cert.Proof.MemNormFwd
end
-- ==== Proof.KeyNormFwd.lean ====
/-
  The memory keys' norm (`mem_key_norm_fwd`): one grid point holds the 256 rows of four heads and normalises each head's 128
  lanes by themselves, as `rms_norm` does over the heads laid out as an axis.
-/
module

public import proofs.«01_k».proof.Defs
public import proofs.«01_k».proof.Proof.Gen.KernelKeyNormFwd
public import proofs.«01_k».proof.Proof.Gen.KernelKeyNormFwd.Frame
public import proofs.«01_k».proof.Proof.Gen.KernelKeyNormFwdIdeal.Frame
public import proofs.«01_k».proof.Proof.Gen.ReferenceKeyNormFwdIdeal.Run
public import proofs.«01_k».proof.Proof.KeyNorm
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.KeyNormFwd

section
open Cert.KernelKeyNormFwdIdeal Cert.KernelKeyNormFwdIdeal.Gen

variable (m : (ℓ : Loc nD τ sig) → Buf (Elt Ideal) ℓ)

/-- The windows' block indices at the one grid point. -/
theorem idx : ∀ t : Fin cfg0.N, win0_0.index t = ![0, 0] ∧ win0_1.index t = ![0, 0] ∧ win0_2.index t = ![0, 0] :=
  (by decide +kernel : ∀ t : Fin grid0.N, _)

theorem low_lanes : S256x1024.Slices ![0, 0] S256x512 := by decide

/-- The four heads' normalised lanes as the kernel stores them, from the memory projection and the gain. -/
def rows (kv : FVec Ideal S256x1024 .f32) (g : FVec Ideal S1x128 .f32) : FVec Ideal S256x512 .f32 :=
  have x : FVec Ideal S256x512 .f32 := extractStridedSlice S256x512 ![0, 0] kv low_lanes
  k0_pay1 (F := Ideal) g (k0_pay2 x g) (k0_pay3 x g) (k0_pay4 x g) (k0_pay5 x) (k0_pay6 x)

/-- The keys after the run, over the program's arguments. -/
theorem final (c : Dev nD) : (dats m 0 c).arrAt 2 (cfgs 0).N = rows (m ((c : Thread nD τ).loc main_arg0)) (m ((c : Thread nD τ).loc main_arg1)) := by
  have e0 : iblk m c 0 t0_0 = (extractStridedSlice S256x512 ![0, 0] (m ((c : Thread nD τ).loc main_arg0)) low_lanes : FVec Ideal S256x512 .f32) := by
    funext j
    blk_point [iblk, V, idx t0_0]
    all_goals rfl
  have e1 : iblk m c 1 t0_0 = m ((c : Thread nD τ).loc main_arg1) := by
    funext j
    blk_point [iblk, V, idx t0_0]
  refine (dats m 0 c).arrAt_eq_of_after_last 2 t0_0 (by decide +kernel) _ fun j => ?_
  blk_simp
  rw [after0_2]
  unfold out0_2
  frame_out
  rw [e0, e1]
  rfl

end

open Cert.ReferenceKeyNormFwdIdeal Cert.ReferenceKeyNormFwdIdeal.Gen in
/-- The reference's keys, over the memory projection and the gain. -/
def rowsRef (kv : FVec Ideal S256x1024 .f32) (g : FVec Ideal S1x128 .f32) : FVec Ideal S256x512 .f32 :=
  shapeCast _ (mulf (mulf (shapeCast _ (extractStridedSlice S256x1x4x128 ![0, 0, 0, 0] (shapeCast _ kv shapeCasts_S256x1024_S256x2x4x128) slices_S256x2x4x128_S256x1x4x128_0_0_0_0) shapeCasts_S256x1x4x128_S256x4x128) (broadcastInDim S256x4x128 ![0, 1, 2] bcast_S256x4x1_S256x4x128_0_1_2 (Host.rsqrt (addf (Host.divf (broadcastInDim S256x4x1 ![0, 1] bcast_S256x4_S256x4x1_0_1 (Host.reduceAdd (mulf (shapeCast _ (extractStridedSlice S256x1x4x128 ![0, 0, 0, 0] (shapeCast _ kv shapeCasts_S256x1024_S256x2x4x128) slices_S256x2x4x128_S256x1x4x128_0_0_0_0) shapeCasts_S256x1x4x128_S256x4x128) (shapeCast _ (extractStridedSlice S256x1x4x128 ![0, 0, 0, 0] (shapeCast _ kv shapeCasts_S256x1024_S256x2x4x128) slices_S256x2x4x128_S256x1x4x128_0_0_0_0) shapeCasts_S256x1x4x128_S256x4x128)) (constant S_ .f32 0x00000000#32) reducesTo_S256x4x128_S256x4_d2 h_S_)) (broadcastInDim S256x4x1 ![] bcast_S_S256x4x1 (constant S_ .f32 0x43000000#32))) (broadcastInDim S256x4x1 ![] bcast_S_S256x4x1 (constant S_ .f32 0x358637BD#32)))))) (broadcastInDim S256x4x128 ![0, 1, 2] bcast_S1x1x128_S256x4x128_0_1_2 (broadcastInDim S1x1x128 ![2] bcast_S128_S1x1x128_2 (shapeCast _ g shapeCasts_S1x128_S128)))) shapeCasts_S256x4x128_S256x512

open Cert.KernelKeyNormFwdIdeal Cert.KernelKeyNormFwdIdeal.Gen in
set_option maxHeartbeats 4000000 in
theorem rows_eq (kv : FVec Ideal S256x1024 .f32) (g : FVec Ideal S1x128 .f32) (r : Fin 256) (l : Fin 512) : rows kv g (ix2 r l) = rowsRef kv g (ix2 r l) := by
  rcases KeyNorm.lane_cases l with ⟨e, rfl⟩ | ⟨e, rfl⟩ | ⟨e, rfl⟩ | ⟨e, rfl⟩ <;>
  · pointwise [rows, rowsRef, k0_pay1, k0_pay2, k0_pay3, k0_pay4, k0_pay5, k0_pay6]
    simp (disch := omega) only [dif_pos, dif_neg, if_pos, if_neg, Nat.mod_eq_of_lt e.isLt, Nat.div_eq_of_lt e.isLt, Nat.add_sub_cancel,
      Nat.zero_mul, Nat.zero_add, Nat.one_mul, (by omega : (e.1 + 128) / 128 = 1), (by omega : (e.1 + 256) / 128 = 2), (by omega : (e.1 + 384) / 128 = 3),
      (by omega : e.1 + 256 - 128 - 128 = e.1), (by omega : e.1 + 384 - 128 - 128 - 128 = e.1)]

theorem frame_kernel : Cert.quiescent_KernelKeyNormFwd := fun m ρ _ => Cert.KernelKeyNormFwd.Gen.frame m ρ
theorem frame_ideal : Cert.quiescent_KernelKeyNormFwdIdeal := fun m ρ _ => Cert.KernelKeyNormFwdIdeal.Gen.frame m ρ
theorem frame_reference : Cert.quiescent_ReferenceKeyNormFwdIdeal := fun m ρ _ =>
  (θ_run Cert.ReferenceKeyNormFwdIdeal.defs _ _).mono (fun r h => ⟨fun c => (h c).2, sem_eq_zero_of_no_sems (by decide) r.2⟩)
    (Cert.ReferenceKeyNormFwdIdeal.Value.run (F := Ideal) m ρ)

theorem value : Cert.algebraic_KernelKeyNormFwdIdeal_ReferenceKeyNormFwdIdeal := by
  pair_intro
  · run_from Cert.KernelKeyNormFwdIdeal.Gen.run_main m g
  · run_from Cert.ReferenceKeyNormFwdIdeal.Value.run m' g'
    rw [final m c]
    funext j
    obtain ⟨a, b, rfl⟩ : ∃ (a : Fin 256) (b : Fin 512), j = ix2 a b := ⟨j 0, j 1, eq_ix2 j⟩
    exact (rows_eq _ _ a b).symm

end Cert.Proof.KeyNormFwd
end
-- ==== Proof.AttnFwdTables.lean ====
/-
  The attention forward's two prefetched tables: which query block and which key block each of the ten steps of a head
  works on, and what of the kernel's side conditions follows from them.
-/
module

public import proofs.«01_k».proof.Proof.Gen.KernelAttnFwdIdeal
public import proofs.«01_k».proof.Proof.Gen.KernelAttnFwdIdeal.Skeleton
public import proofs.«01_k».proof.Proof.Gen.KernelAttnFwdIdeal.Launch
public import Idealize.ShloMosaic.Lib.Pipeline.Frame
public import Idealize.ShloMosaic.Lib.VecWindow
public import Idealize.ShloMosaic.Lib.Tactic
public import Idealize.ShloMosaic.Init

@[expose] public section

set_option maxRecDepth 16384

noncomputable section

namespace Cert.KernelAttnFwdIdeal.Run

open Idealize.ShloMosaic Idealize.ShloMosaic.TcCoe Idealize.ShloMosaic.Tactic
open Cert.KernelAttnFwdIdeal Cert.KernelAttnFwdIdeal.Gen

variable {F : FTy → Type} [FloatOps F] [Named F]

/-- The query block and the key block of a grid point. -/
def wq (i : grid0.Coords) : BitVec 32 := lit0 ⟨(i 1).val, (i 1).isLt⟩
def wk (i : grid0.Coords) : BitVec 32 := lit1 ⟨(i 1).val, (i 1).isLt⟩

/-- The tables as the program writes them. -/
def tabs : pre0.Contents (Elt F) := fun
  | 0 => fun i => lit0 (S10.rowMajor i)
  | 1 => fun i => lit1 (S10.rowMajor i)
  | ⟨_ + 2, h⟩ => absurd h (Nat.not_lt.2 (Nat.le_add_left _ _))

theorem row_idx : ∀ i : grid0.Coords, S10.rowMajor ((Rect.unit (s := S10) (k0_off1 i) S1.size (k0_off1_inb i)).point numel1_S1) = ⟨(i 1).val, (i 1).isLt⟩ := by
  decide +kernel

/-- The block indices the tables give. -/
theorem ix_q : ∀ i : grid0.Coords, cc0_transform_0 (F := F) k0_off1_inb numel1_S1 tabs i = ![(wq i).toNat, (i 0).val] :=
  of_decide_eq_true (by sl_kernel_rfl)
theorem ix_k : ∀ i : grid0.Coords, cc0_transform_1 (F := F) k0_off1_inb numel1_S1 tabs i = ![(wk i).toNat, (i 0).val] :=
  of_decide_eq_true (by sl_kernel_rfl)

/-- A step that begins a query block's row of tiles, and one whose tile lies before the diagonal. -/
abbrev fst (k : BitVec 32) : Prop := Scalar.cmpi .ne (Scalar.extui (Scalar.cmpi .eq k 0#32) : BitVec 32) 0#32 = 1#1
abbrev off (q k : BitVec 32) : Prop := Scalar.cmpi .ne (Scalar.extui (Scalar.cmpi .slt k q) : BitVec 32) 0#32 = 1#1

/-- A step lies before the diagonal or on it. -/
theorem cases : ∀ i : grid0.Coords,
    (fst (wk i) ∧ off (wq i) (wk i) ∧ ¬ k0_cond3 (wq i) (wk i) = 1#1)
      ∨ (¬ fst (wk i) ∧ off (wq i) (wk i) ∧ ¬ k0_cond3 (wq i) (wk i) = 1#1)
      ∨ (fst (wk i) ∧ ¬ off (wq i) (wk i) ∧ k0_cond3 (wq i) (wk i) = 1#1)
      ∨ (¬ fst (wk i) ∧ ¬ off (wq i) (wk i) ∧ k0_cond3 (wq i) (wk i) = 1#1) := by
  decide +kernel

/-- The pipeline's side condition of the tables. -/
theorem ok : ok0 (F := F) tabs := of_decide_eq_true (by sl_kernel_rfl)

end Cert.KernelAttnFwdIdeal.Run
-- ==== Proof.AttnFwdRun.lean ====
/-
  One step of the attention forward's kernel: the body run over its operands' contents. A query block's first step begins
  its running maximum, total and result; a step takes its tile into them; a step on the diagonal stores the quotient and the
  logarithm.
-/
module

public import proofs.«01_k».proof.Proof.AttnFwdTables

@[expose] public section

set_option maxRecDepth 16384

noncomputable section

namespace Cert.KernelAttnFwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttnFwdIdeal Cert.KernelAttnFwdIdeal.Gen

variable {F : FTy → Type} [FloatOps F] [Named F]

local notation "𝕄" => MT nD τ sig Unit (Elt F) ℕ (UR sig nD τ) ℕ

/-- What a step begins with: a query block's first step at the mask and at zero. -/
def begM (i : grid0.Coords) (x : Vec F S1024x128 .f32) : Vec F S1024x128 .f32 := if fst (wk i) then k0_pay1 (F := F) else x
def begL (i : grid0.Coords) (y : Vec F S1024x128 .f32) : Vec F S1024x128 .f32 := if fst (wk i) then k0_pay2 (F := F) else y
def begA (i : grid0.Coords) (z : Vec F S1024x128 .f32) : Vec F S1024x128 .f32 := if fst (wk i) then k0_pay3 (F := F) else z

/-- The running maximum, total and result after a step. -/
def stepM (i : grid0.Coords) (q k : Vec F S1024x256 .bf16) (x : Vec F S1024x128 .f32) : Vec F S1024x128 .f32 :=
  if off (wq i) (wk i) then k0_pay4 (k0_pay10 q k (begM i x)) else k0_pay6 (k0_pay16 q k (begM i x))
def stepL (i : grid0.Coords) (q k : Vec F S1024x256 .bf16) (x y : Vec F S1024x128 .f32) : Vec F S1024x128 .f32 :=
  if off (wq i) (wk i) then k0_pay13 q k (begM i x) (begL i y) else k0_pay19 q k (begM i x) (begL i y)
def stepA (i : grid0.Coords) (q k : Vec F S1024x256 .bf16) (v x z : Vec F S1024x128 .f32) : Vec F S1024x128 .f32 :=
  if off (wq i) (wk i) then k0_pay14 q k (begM i x) (begA i z) v else k0_pay5 (k0_pay20 q k (begM i x) (begA i z) v)

/-- The result's block and the logarithm's after a step. -/
def outO (i : grid0.Coords) (a l o : Vec F S1024x128 .f32) : Vec F S1024x128 .f32 := if k0_cond3 (wq i) (wk i) = 1#1 then k0_pay7 a l else o
def outS (i : grid0.Coords) (u l : Vec F S1024x128 .f32) (s : Vec F S1x1024x128 .f32) : Vec F S1x1024x128 .f32 := if k0_cond3 (wq i) (wk i) = 1#1 then k0_pay8 u l else s

/-- A table's buffer held, for reading, at the contents `f`. -/
abbrev TblBuf (c : Dev nD) {S : Shape} {e : EltTy} (M : Memref sig .tc .smem S e) : Type := Buf (Elt F) (M.view.loc (c : Thread nD τ))
abbrev tbl (c : Dev nD) {S : Shape} {e : EltTy} (M : Memref sig .tc .smem S e) (f : TblBuf (F := F) c M) : sProp 𝕄 :=
  M.view.loc (c : Thread nD τ) ↦{fullShare.right} f

theorem ret_bind {E : Type → Type} {α β : Type} (a : α) (k : α → Prog E β) : (Prog.ret a >>= k) = k a := rfl

set_option maxHeartbeats 4000000 in
theorem run (c : Dev nD) (i : grid0.Coords)
    (T : TblBuf (F := F) c (Memref.whole main_c)) (U : TblBuf (F := F) c (Memref.whole main_c_0)) (hT : T = tabs (F := F) 0) (hU : U = tabs (F := F) 1)
    (arg4 : Memref sig .tc .vmem S1024x256 .bf16) (harg4 : arg4.IsWhole)
    (arg5 : Memref sig .tc .vmem S1024x256 .bf16) (harg5 : arg5.IsWhole)
    (arg6 : Memref sig .tc .vmem S1024x128 .f32) (harg6 : arg6.IsWhole)
    (arg7 : Memref sig .tc .vmem S1024x128 .f32) (harg7 : arg7.IsWhole)
    (arg8 : Memref sig .tc .vmem S1x1024x128 .f32) (harg8 : arg8.IsWhole)
    (arg9 : Memref sig .tc .vmem S1024x128 .f32) (harg9 : arg9.IsWhole)
    (arg10 : Memref sig .tc .vmem S1024x128 .f32) (harg10 : arg10.IsWhole)
    (arg11 : Memref sig .tc .vmem S1024x128 .f32) (harg11 : arg11.IsWhole)
    (q k : Vec F S1024x256 .bf16) (v o : Vec F S1024x128 .f32) (s : Vec F S1x1024x128 .f32) (x y z : Vec F S1024x128 .f32) (E : Set ℕ) (K : PUnit → sProp 𝕄) :
    iprop(tbl (F := F) c (Memref.whole main_c) T ∗ tbl (F := F) c (Memref.whole main_c_0) U
        ∗ owns (c : Thread nD τ) arg4 fullShare q
        ∗ owns (c : Thread nD τ) arg5 fullShare k
        ∗ owns (c : Thread nD τ) arg6 fullShare v
        ∗ owns (c : Thread nD τ) arg7 fullShare o
        ∗ owns (c : Thread nD τ) arg8 fullShare s
        ∗ owns (c : Thread nD τ) arg9 fullShare x
        ∗ owns (c : Thread nD τ) arg10 fullShare y
        ∗ owns (c : Thread nD τ) arg11 fullShare z
        ∗ (iprop(tbl (F := F) c (Memref.whole main_c) T ∗ tbl (F := F) c (Memref.whole main_c_0) U
        ∗ owns (c : Thread nD τ) arg4 fullShare q
        ∗ owns (c : Thread nD τ) arg5 fullShare k
        ∗ owns (c : Thread nD τ) arg6 fullShare v
        ∗ owns (c : Thread nD τ) arg7 fullShare (outO i (stepA i q k v x z) (stepL i q k x y) o)
        ∗ owns (c : Thread nD τ) arg8 fullShare (outS i (stepM i q k x) (stepL i q k x y) s)
        ∗ owns (c : Thread nD τ) arg9 fullShare (stepM i q k x)
        ∗ owns (c : Thread nD τ) arg10 fullShare (stepL i q k x y)
        ∗ owns (c : Thread nD τ) arg11 fullShare (stepA i q k v x z)) -∗ K ⟨⟩))
      ⊢ wp frame (wpE (defs₀ (F := F)) Variants.none c none) E (cc0_mla_attn_fwd i (Memref.whole main_c) (Memref.isWhole_whole _) (Memref.whole main_c_0) (Memref.isWhole_whole _)
          arg4 harg4 arg5 harg5 arg6 harg6 arg7 harg7 arg8 harg8 arg9 harg9 arg10 harg10 arg11 harg11) K := by
  simp only [cc0_mla_attn_fwd_eq_skeleton]; unfold cc0_mla_attn_fwd_skel
  simp only [k0_part1_eq_skeleton, k0_part2_eq_skeleton]
  unfold owns tbl
  iintro ⟨T0, T1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  have e4 : ∀ h, View.readAt (Elt F) arg4.view (Rect.unit (s := S1024x256) ![0, 0] S1024x256.size h).toLoadRect (harg4.unread q) = q := fun h => by rw [View.readAt_full, hf4]
  have e5 : ∀ h, View.readAt (Elt F) arg5.view (Rect.unit (s := S1024x256) ![0, 0] S1024x256.size h).toLoadRect (harg5.unread k) = k := fun h => by rw [View.readAt_full, hf5]
  have e6 : ∀ h, View.readAt (Elt F) arg6.view (Rect.unit (s := S1024x128) ![0, 0] S1024x128.size h).toLoadRect (harg6.unread v) = v := fun h => by rw [View.readAt_full, hf6]
  have e9 : ∀ h, View.readAt (Elt F) arg9.view (Rect.unit (s := S1024x128) ![0, 0] S1024x128.size h).toLoadRect (harg9.unread x) = x := fun h => by rw [View.readAt_full, hf9]
  have e10 : ∀ h, View.readAt (Elt F) arg10.view (Rect.unit (s := S1024x128) ![0, 0] S1024x128.size h).toLoadRect (harg10.unread y) = y := fun h => by rw [View.readAt_full, hf10]
  have e11 : ∀ h, View.readAt (Elt F) arg11.view (Rect.unit (s := S1024x128) ![0, 0] S1024x128.size h).toLoadRect (harg11.unread z) = z := fun h => by rw [View.readAt_full, hf11]
  have c9 : ∀ f h h' w L, View.readAt (Elt F) arg9.view (Rect.unit (s := S1024x128) ![0, 0] S1024x128.size h).toLoadRect (arg9.view.writes (Elt F) f (⟨Rect.unit (s := S1024x128) ![0, 0] S1024x128.size h', w⟩ :: L)) = w := fun f h h' w L => View.readAt_writes_full ..
  have c10 : ∀ f h h' w L, View.readAt (Elt F) arg10.view (Rect.unit (s := S1024x128) ![0, 0] S1024x128.size h).toLoadRect (arg10.view.writes (Elt F) f (⟨Rect.unit (s := S1024x128) ![0, 0] S1024x128.size h', w⟩ :: L)) = w := fun f h h' w L => View.readAt_writes_full ..
  have c11 : ∀ f h h' w L, View.readAt (Elt F) arg11.view (Rect.unit (s := S1024x128) ![0, 0] S1024x128.size h).toLoadRect (arg11.view.writes (Elt F) f (⟨Rect.unit (s := S1024x128) ![0, 0] S1024x128.size h', w⟩ :: L)) = w := fun f h h' w L => View.readAt_writes_full ..
  sl_respell [smemLoad]; rw [smemLoadElt_bind]
  named_smem T0 (wq i) (by rw [hT]; exact (congrArg lit0 (row_idx i)).symm)
  rw [ret_bind, smemLoadElt_bind]
  named_smem T1 (wk i) (by rw [hU]; exact (congrArg lit1 (row_idx i)).symm)
  rw [ret_bind]
  rcases cases i with ⟨h1, h2, h3⟩ | ⟨h1, h2, h3⟩ | ⟨h1, h2, h3⟩ | ⟨h1, h2, h3⟩
  all_goals
    first | have g1 := eq_false h1 | have g1 := eq_true h1
    first | have g2 := eq_false h2 | have g2 := eq_true h2
    first | have g3 := eq_false h3 | have g3 := eq_true h3
    sl_exec (disch := first | sl_exact h1 | sl_exact h2 | sl_exact h3)
    sl_step
    iapply Hk
    isplitl [T0]; · iexact T0
    isplitl [T1]; · iexact T1
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]
    · iexists _; isplitr; rotate_left; iexact H7; ipureintro
      first
        | rw [View.read_writes_full]
          (try delta run.sl.v60); (try delta run.sl.v57); (try delta run.sl.v56); (try delta run.sl.v60_1); (try delta run.sl.v57_1); (try delta run.sl.v56_1)
          (try delta run.sl.H9_2); (try delta run.sl.H10_2); (try delta run.sl.H11_2); (try delta run.sl.H9_1_2); (try delta run.sl.H10_1_2); (try delta run.sl.H11_1_2)
          (try delta run.sl.r); (try delta run.sl.r_1); (try delta run.sl.r_2); (try delta run.sl.r_3); (try delta run.sl.r_4); (try delta run.sl.r_5)
          (try delta run.sl.v18); (try delta run.sl.v28); (try delta run.sl.v37); (try delta run.sl.v18_1); (try delta run.sl.v28_1); (try delta run.sl.v37_1); (try delta run.sl.v23); (try delta run.sl.v33); (try delta run.sl.v42); (try delta run.sl.v23_1); (try delta run.sl.v33_1); (try delta run.sl.v42_1)
          (try delta run.sl.H9_1); (try delta run.sl.H10_1); (try delta run.sl.H11_1); (try delta run.sl.H9_1_1); (try delta run.sl.H10_1_1); (try delta run.sl.H11_1_1)
          simp only [outO, outS, stepM, stepL, stepA, begM, begL, begA, g1, g2, g3, if_true, if_false, View.readCov, c9, c10, c11, e4, e5, e6, e9, e10, e11]
        | simp only [outO, g3, if_false]; exact hf7
    isplitl [H8]
    · iexists _; isplitr; rotate_left; iexact H8; ipureintro
      first
        | rw [View.read_writes_full]
          (try delta run.sl.v60); (try delta run.sl.v57); (try delta run.sl.v56); (try delta run.sl.v60_1); (try delta run.sl.v57_1); (try delta run.sl.v56_1)
          (try delta run.sl.H9_2); (try delta run.sl.H10_2); (try delta run.sl.H11_2); (try delta run.sl.H9_1_2); (try delta run.sl.H10_1_2); (try delta run.sl.H11_1_2)
          (try delta run.sl.r); (try delta run.sl.r_1); (try delta run.sl.r_2); (try delta run.sl.r_3); (try delta run.sl.r_4); (try delta run.sl.r_5)
          (try delta run.sl.v18); (try delta run.sl.v28); (try delta run.sl.v37); (try delta run.sl.v18_1); (try delta run.sl.v28_1); (try delta run.sl.v37_1); (try delta run.sl.v23); (try delta run.sl.v33); (try delta run.sl.v42); (try delta run.sl.v23_1); (try delta run.sl.v33_1); (try delta run.sl.v42_1)
          (try delta run.sl.H9_1); (try delta run.sl.H10_1); (try delta run.sl.H11_1); (try delta run.sl.H9_1_1); (try delta run.sl.H10_1_1); (try delta run.sl.H11_1_1)
          simp only [outO, outS, stepM, stepL, stepA, begM, begL, begA, g1, g2, g3, if_true, if_false, View.readCov, c9, c10, c11, e4, e5, e6, e9, e10, e11]
        | simp only [outS, g3, if_false]; exact hf8
    isplitl [H9]
    · iexists _; isplitr; rotate_left; iexact H9; ipureintro
      (try delta run.sl.H9_2); (try delta run.sl.H9_1_2)
      rw [View.read_writes_full]
      (try delta run.sl.v60); (try delta run.sl.v57); (try delta run.sl.v56); (try delta run.sl.v60_1); (try delta run.sl.v57_1); (try delta run.sl.v56_1)
      (try delta run.sl.H9_2); (try delta run.sl.H10_2); (try delta run.sl.H11_2); (try delta run.sl.H9_1_2); (try delta run.sl.H10_1_2); (try delta run.sl.H11_1_2)
      (try delta run.sl.r); (try delta run.sl.r_1); (try delta run.sl.r_2); (try delta run.sl.r_3); (try delta run.sl.r_4); (try delta run.sl.r_5)
      (try delta run.sl.v18); (try delta run.sl.v28); (try delta run.sl.v37); (try delta run.sl.v18_1); (try delta run.sl.v28_1); (try delta run.sl.v37_1); (try delta run.sl.v23); (try delta run.sl.v33); (try delta run.sl.v42); (try delta run.sl.v23_1); (try delta run.sl.v33_1); (try delta run.sl.v42_1)
      (try delta run.sl.H9_1); (try delta run.sl.H10_1); (try delta run.sl.H11_1); (try delta run.sl.H9_1_1); (try delta run.sl.H10_1_1); (try delta run.sl.H11_1_1)
      simp only [outO, outS, stepM, stepL, stepA, begM, begL, begA, g1, g2, g3, if_true, if_false, View.readCov, c9, c10, c11, e4, e5, e6, e9, e10, e11]
    isplitl [H10]
    · iexists _; isplitr; rotate_left; iexact H10; ipureintro
      (try delta run.sl.H10_2); (try delta run.sl.H10_1_2)
      rw [View.read_writes_full]
      (try delta run.sl.v60); (try delta run.sl.v57); (try delta run.sl.v56); (try delta run.sl.v60_1); (try delta run.sl.v57_1); (try delta run.sl.v56_1)
      (try delta run.sl.H9_2); (try delta run.sl.H10_2); (try delta run.sl.H11_2); (try delta run.sl.H9_1_2); (try delta run.sl.H10_1_2); (try delta run.sl.H11_1_2)
      (try delta run.sl.r); (try delta run.sl.r_1); (try delta run.sl.r_2); (try delta run.sl.r_3); (try delta run.sl.r_4); (try delta run.sl.r_5)
      (try delta run.sl.v18); (try delta run.sl.v28); (try delta run.sl.v37); (try delta run.sl.v18_1); (try delta run.sl.v28_1); (try delta run.sl.v37_1); (try delta run.sl.v23); (try delta run.sl.v33); (try delta run.sl.v42); (try delta run.sl.v23_1); (try delta run.sl.v33_1); (try delta run.sl.v42_1)
      (try delta run.sl.H9_1); (try delta run.sl.H10_1); (try delta run.sl.H11_1); (try delta run.sl.H9_1_1); (try delta run.sl.H10_1_1); (try delta run.sl.H11_1_1)
      simp only [outO, outS, stepM, stepL, stepA, begM, begL, begA, g1, g2, g3, if_true, if_false, View.readCov, c9, c10, c11, e4, e5, e6, e9, e10, e11]
    · iexists _; isplitr; rotate_left; iexact H11; ipureintro
      (try delta run.sl.H11_2); (try delta run.sl.H11_1_2)
      rw [View.read_writes_full]
      (try delta run.sl.v60); (try delta run.sl.v57); (try delta run.sl.v56); (try delta run.sl.v60_1); (try delta run.sl.v57_1); (try delta run.sl.v56_1)
      (try delta run.sl.H9_2); (try delta run.sl.H10_2); (try delta run.sl.H11_2); (try delta run.sl.H9_1_2); (try delta run.sl.H10_1_2); (try delta run.sl.H11_1_2)
      (try delta run.sl.r); (try delta run.sl.r_1); (try delta run.sl.r_2); (try delta run.sl.r_3); (try delta run.sl.r_4); (try delta run.sl.r_5)
      (try delta run.sl.v18); (try delta run.sl.v28); (try delta run.sl.v37); (try delta run.sl.v18_1); (try delta run.sl.v28_1); (try delta run.sl.v37_1); (try delta run.sl.v23); (try delta run.sl.v33); (try delta run.sl.v42); (try delta run.sl.v23_1); (try delta run.sl.v33_1); (try delta run.sl.v42_1)
      (try delta run.sl.H9_1); (try delta run.sl.H10_1); (try delta run.sl.H11_1); (try delta run.sl.H9_1_1); (try delta run.sl.H10_1_1); (try delta run.sl.H11_1_1)
      simp only [outO, outS, stepM, stepL, stepA, begM, begL, begA, g1, g2, g3, if_true, if_false, View.readCov, c9, c10, c11, e4, e5, e6, e9, e10, e11]

end Cert.KernelAttnFwdIdeal.Run

end
-- ==== Proof.AttnFwdFrame.lean ====
/-
  The attention forward's kernel as a whole: the running maximum, total and result after each of the forty steps as one
  recursion, the body's obligation at each, and the run. Steps before the diagonal leave the output blocks as they were.
-/
module

public import proofs.«01_k».proof.Defs
public import proofs.«01_k».proof.Proof.Gen.KernelAttnFwd
public import proofs.«01_k».proof.Proof.AttnFwdRun
public import Idealize.ShloMosaic.Lib.Pipeline.FrameBody
public import Idealize.ShloMosaic.Lib.Pipeline.TableIdle

@[expose] public section

set_option maxRecDepth 16384

noncomputable section

namespace Cert.KernelAttnFwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelAttnFwdIdeal Cert.KernelAttnFwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline at its tables. -/
abbrev adm : (p : Fin 1) → (pcfgs (F := F) p).Adm := fun _ => ⟨tabs, ok⟩
abbrev cfgA : Pipeline.Cfg sig Λ₀ := Pipeline.pin (pcfgs (F := F)) (adm (F := F)) 0

/-- What the region finds in core `c`'s buffers. -/
abbrev V (c : Dev nD) (b : Ref sig .tc) : Buf (Elt F) ((c : Thread nD τ).loc b) := StableHlo.after hostOps0 (fun b => m (c, b)) b

theorem fresh_ops : (hostOps0 : List (HloOp τ sig (Elt F))).Forall fun op => op.fresh = ∅ := by
  simp only [List.Forall]; repeat' constructor

set_option maxHeartbeats 1600000 in
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh_ops main_chain

theorem kept (b : Ref sig .tc) (h : (hostOps0 : List (HloOp τ sig (Elt F))).Forall fun op => Proc.devRef .tc b ∉ op.writes) (c : Dev nD) :
    V m c b = m ((c : Thread nD τ).loc b) :=
  StableHlo.after_of_forall_not_mem (b := Proc.devRef .tc b) _ _ (List.forall_iff_forall_mem.mp h)

theorem tab0 (c : Dev nD) : StableHlo.after hostOps0 (fun b => m (c, b)) (Proc.devRef .tc main_c) = (fun i => lit0 (S10.rowMajor i)) := by
  unfold hostOps0
  after_results
  rfl
theorem tab1 (c : Dev nD) : StableHlo.after hostOps0 (fun b => m (c, b)) (Proc.devRef .tc main_c_0) = (fun i => lit1 (S10.rowMajor i)) := by
  unfold hostOps0
  after_results
  rfl
theorem hpf (c : Dev nD) : ∀ k, V m c (pre0.ref k) = tabs (F := F) k := fun
  | 0 => tab0 m c
  | 1 => tab1 m c

/-! ## The windows' blocks, the schedule -/

/-- Window `w`'s block at point `t`, read off its array as the region finds it. -/
def iblk (c : Dev nD) (w : Fin (cfgA (F := F)).W) (t : Fin (cfgA (F := F)).N) : (((cfgA (F := F)).win w).xblock ((cfgA (F := F)).grid.coords t)).Idx → Elt F ((cfgA (F := F)).win w).elt :=
  (((cfgA (F := F)).win w).blk t).view.read (Elt F) (V m c (Pipeline.arrRef spec0 w))

/-- Off the diagonal a step stores neither output nor moves it; on it, both. -/
theorem live3 : ∀ i : grid0.Coords, k0_cond3 (wq i) (wk i) = 1#1 → (cfgA (F := F)).idle 3 i = false := of_decide_eq_true (by sl_kernel_rfl)
theorem live4 : ∀ i : grid0.Coords, k0_cond3 (wq i) (wk i) = 1#1 → (cfgA (F := F)).idle 4 i = false := of_decide_eq_true (by sl_kernel_rfl)
theorem idle3 : ∀ i : grid0.Coords, ¬ k0_cond3 (wq i) (wk i) = 1#1 → (cfgA (F := F)).idle 3 i = true := of_decide_eq_true (by sl_kernel_rfl)
theorem idle4 : ∀ i : grid0.Coords, ¬ k0_cond3 (wq i) (wk i) = 1#1 → (cfgA (F := F)).idle 4 i = true := of_decide_eq_true (by sl_kernel_rfl)
theorem hold3 : ∀ t : Fin grid0.N, ¬ k0_cond3 (wq (grid0.coords t)) (wk (grid0.coords t)) = 1#1 → ((cfgA (F := F)).win 3).flushF t = false :=
  of_decide_eq_true (by sl_kernel_rfl)
theorem hold4 : ∀ t : Fin grid0.N, ¬ k0_cond3 (wq (grid0.coords t)) (wk (grid0.coords t)) = 1#1 → ((cfgA (F := F)).win 4).flushF t = false :=
  of_decide_eq_true (by sl_kernel_rfl)
theorem first : ∀ t : Fin grid0.N, t.val = 0 → fst (wk (grid0.coords t)) := by decide +kernel

/-! ## The recursion -/

/-- The running maximum, total and result after point `n`. -/
def scr (c : Dev nD) : (n : ℕ) → n < grid0.N → Vec F S1024x128 .f32 × Vec F S1024x128 .f32 × Vec F S1024x128 .f32
  | 0, hn =>
    (stepM (grid0.coords ⟨0, hn⟩) (iblk m c 0 ⟨0, hn⟩) (iblk m c 1 ⟨0, hn⟩) (k0_pay1 (F := F)),
     stepL (grid0.coords ⟨0, hn⟩) (iblk m c 0 ⟨0, hn⟩) (iblk m c 1 ⟨0, hn⟩) (k0_pay1 (F := F)) (k0_pay2 (F := F)),
     stepA (grid0.coords ⟨0, hn⟩) (iblk m c 0 ⟨0, hn⟩) (iblk m c 1 ⟨0, hn⟩) (iblk m c 2 ⟨0, hn⟩) (k0_pay1 (F := F)) (k0_pay3 (F := F)))
  | n + 1, hn =>
    (stepM (grid0.coords ⟨n + 1, hn⟩) (iblk m c 0 ⟨n + 1, hn⟩) (iblk m c 1 ⟨n + 1, hn⟩) (scr c n (by omega)).1,
     stepL (grid0.coords ⟨n + 1, hn⟩) (iblk m c 0 ⟨n + 1, hn⟩) (iblk m c 1 ⟨n + 1, hn⟩) (scr c n (by omega)).1 (scr c n (by omega)).2.1,
     stepA (grid0.coords ⟨n + 1, hn⟩) (iblk m c 0 ⟨n + 1, hn⟩) (iblk m c 1 ⟨n + 1, hn⟩) (iblk m c 2 ⟨n + 1, hn⟩) (scr c n (by omega)).1 (scr c n (by omega)).2.2)

/-- What the steps carry: the three buffers, from the second point on as the recursion says. -/
def carried (c : Dev nD) (p : ℕ) : sProp 𝕄 :=
  iprop(∃ (x y z : Vec F S1024x128 .f32), ⌜∀ n, ∀ h : n < grid0.N, p = n + 1 → x = (scr m c n h).1 ∧ y = (scr m c n h).2.1 ∧ z = (scr m c n h).2.2⌝
    ∗ owns (c : Thread nD τ) (Memref.whole cc0_scratch0) fullShare x ∗ owns (c : Thread nD τ) (Memref.whole cc0_scratch1) fullShare y
    ∗ owns (c : Thread nD τ) (Memref.whole cc0_scratch2) fullShare z)

/-- The pipeline's proof data: each input's buffer at its block, the outputs' at the quotient and the logarithm. -/
def dats (p : Fin 1) (c : Dev nD) : Dat τ (Elt F) Unit ℕ (UR sig nD τ) ℕ (Pipeline.pin (pcfgs (F := F)) (adm (F := F)) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay7 (scr m c t.val t.isLt).2.2 (scr m c t.val t.isLt).2.1
    | ⟨4, _⟩ => k0_pay8 (scr m c t.val t.isLt).1 (scr m c t.val t.isLt).2.1
  Φ t := iprop(carried m c t.val ∗ (∃ r, prngReg c r) ∗ Pipeline.ΦT pre0 (tabs (F := F)) c)
  q _ := fullShare
  owed _ := 0

theorem A_eq (c : Dev nD) (w : Fin (cfgA (F := F)).W) : (dats m 0 c).A w = V m c (Pipeline.arrRef spec0 w) := by
  dsimp only [dats]
theorem after0 (c : Dev nD) (t : Fin (cfgA (F := F)).N) : (dats m 0 c).after 0 t = iblk m c 0 t := by dsimp only [dats]; rfl
theorem after1 (c : Dev nD) (t : Fin (cfgA (F := F)).N) : (dats m 0 c).after 1 t = iblk m c 1 t := by dsimp only [dats]; rfl
theorem after2 (c : Dev nD) (t : Fin (cfgA (F := F)).N) : (dats m 0 c).after 2 t = iblk m c 2 t := by dsimp only [dats]; rfl
theorem after3 (c : Dev nD) (t : Fin (cfgA (F := F)).N) : (dats m 0 c).after 3 t = k0_pay7 (scr m c t.val t.isLt).2.2 (scr m c t.val t.isLt).2.1 := by dsimp only [dats]; rfl
theorem after4 (c : Dev nD) (t : Fin (cfgA (F := F)).N) : (dats m 0 c).after 4 t = k0_pay8 (scr m c t.val t.isLt).1 (scr m c t.val t.isLt).2.1 := by dsimp only [dats]; rfl
theorem before0 (c : Dev nD) (t : Fin (cfgA (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- A step from what the steps carry. -/
theorem step_eq (c : Dev nD) (t : Fin (cfgA (F := F)).N) (x y z : Vec F S1024x128 .f32)
    (h : ∀ n, ∀ h : n < grid0.N, t.val = n + 1 → x = (scr m c n h).1 ∧ y = (scr m c n h).2.1 ∧ z = (scr m c n h).2.2) :
    stepM (grid0.coords t) (iblk m c 0 t) (iblk m c 1 t) x = (scr m c t.val t.isLt).1
      ∧ stepL (grid0.coords t) (iblk m c 0 t) (iblk m c 1 t) x y = (scr m c t.val t.isLt).2.1
      ∧ stepA (grid0.coords t) (iblk m c 0 t) (iblk m c 1 t) (iblk m c 2 t) x z = (scr m c t.val t.isLt).2.2 := by
  obtain ⟨n, hn⟩ := t
  cases n with
  | zero =>
    have e := first ⟨0, hn⟩ rfl
    refine ⟨?_, ?_, ?_⟩
    · simp only [scr, stepM, begM, if_pos e]
    · simp only [scr, stepL, begM, begL, if_pos e]
    · simp only [scr, stepA, begM, begA, if_pos e]
  | succ n =>
    obtain ⟨rfl, rfl, rfl⟩ := h n (Nat.lt_of_succ_lt hn) rfl
    exact ⟨rfl, rfl, rfl⟩

theorem leaves3 (c : Dev nD) (t : Fin (cfgA (F := F)).N) (d) :
    owns (c : Thread nD τ) (spec0_3.stage ((cfgA (F := F)).slots t 3)) fullShare (outO (grid0.coords t) (scr m c t.val t.isLt).2.2 (scr m c t.val t.isLt).2.1 ((dats m 0 c).before 3 t d))
      ⊢ ((dats m 0 c).leavesExact 3 t : sProp 𝕄) := by
  by_cases h : k0_cond3 (wq (grid0.coords t)) (wk (grid0.coords t)) = 1#1
  · rw [show (dats m 0 c).leavesExact 3 t = owns (c : Thread nD τ) (spec0_3.stage ((cfgA (F := F)).slots t 3)) fullShare ((dats m 0 c).after 3 t) from by
      unfold Dat.leavesExact; rw [show (cfgA (F := F)).idle 3 ((cfgA (F := F)).grid.coords t) = false from live3 _ h]; try rfl, after3]
    exact Entails.of_eq (congrArg (fun X => owns (c : Thread nD τ) (spec0_3.stage ((cfgA (F := F)).slots t 3)) fullShare X) (if_pos h))
  · rw [Dat.leavesExact_idle _ 3 t (idle3 _ h) (by rw [Pipeline.Window.flush_eq_flushF]; exact hold3 t h)]
    refine (Entails.of_eq (congrArg (fun X => owns (c : Thread nD τ) (spec0_3.stage ((cfgA (F := F)).slots t 3)) fullShare X) (if_neg h))).trans ?_
    iintro H
    iexists d
    iexact H
theorem leaves4 (c : Dev nD) (t : Fin (cfgA (F := F)).N) (d) :
    owns (c : Thread nD τ) (spec0_4.stage ((cfgA (F := F)).slots t 4)) fullShare (outS (grid0.coords t) (scr m c t.val t.isLt).1 (scr m c t.val t.isLt).2.1 ((dats m 0 c).before 4 t d))
      ⊢ ((dats m 0 c).leavesExact 4 t : sProp 𝕄) := by
  by_cases h : k0_cond3 (wq (grid0.coords t)) (wk (grid0.coords t)) = 1#1
  · rw [show (dats m 0 c).leavesExact 4 t = owns (c : Thread nD τ) (spec0_4.stage ((cfgA (F := F)).slots t 4)) fullShare ((dats m 0 c).after 4 t) from by
      unfold Dat.leavesExact; rw [show (cfgA (F := F)).idle 4 ((cfgA (F := F)).grid.coords t) = false from live4 _ h]; try rfl, after4]
    exact Entails.of_eq (congrArg (fun X => owns (c : Thread nD τ) (spec0_4.stage ((cfgA (F := F)).slots t 4)) fullShare X) (if_pos h))
  · rw [Dat.leavesExact_idle _ 4 t (idle4 _ h) (by rw [Pipeline.Window.flush_eq_flushF]; exact hold4 t h)]
    refine (Entails.of_eq (congrArg (fun X => owns (c : Thread nD τ) (spec0_4.stage ((cfgA (F := F)).slots t 4)) fullShare X) (if_neg h))).trans ?_
    iintro H
    iexists d
    iexact H

/-! ## The body's obligation -/

theorem tables_eq (c : Dev nD) : (Pipeline.ΦT pre0 (tabs (F := F)) c : sProp 𝕄)
    = iprop(tbl (F := F) c (Memref.whole main_c) (tabs (F := F) 0) ∗ tbl (F := F) c (Memref.whole main_c_0) (tabs (F := F) 1)) := by
  unfold Pipeline.ΦT Pipeline.prefHeld
  rw [show (Finset.univ : Finset (Fin 2)) = insert 0 {1} from by decide, bigSep_insert (by decide), bigSep_singleton]
  rfl

abbrev bodyA (t : Fin (cfgA (F := F)).N) : Prog (TpuEff nD τ sig (Elt F) Λ₀ .tc) PUnit :=
  cc0_mla_attn_fwd (grid0.coords t) (Memref.whole main_c) (Memref.isWhole_whole _) (Memref.whole main_c_0) (Memref.isWhole_whole _) (spec0_0.stage ((cfgA (F := F)).slots t 0)) (hstage0_0 (((cfgA (F := F)).slots t 0).cast nbuf0_0)) (spec0_1.stage ((cfgA (F := F)).slots t 1)) (hstage0_1 (((cfgA (F := F)).slots t 1).cast nbuf0_1)) (spec0_2.stage ((cfgA (F := F)).slots t 2)) (hstage0_2 (((cfgA (F := F)).slots t 2).cast nbuf0_2)) (spec0_3.stage ((cfgA (F := F)).slots t 3)) (hstage0_3 (((cfgA (F := F)).slots t 3).cast nbuf0_3)) (spec0_4.stage ((cfgA (F := F)).slots t 4)) (hstage0_4 (((cfgA (F := F)).slots t 4).cast nbuf0_4)) (Memref.whole cc0_scratch0) (Memref.isWhole_whole _) (Memref.whole cc0_scratch1) (Memref.isWhole_whole _) (Memref.whole cc0_scratch2) (Memref.isWhole_whole _)

theorem row (t : Fin (cfgA (F := F)).N) : defs₀ (F := F) .tc (cfgA (F := F)).body ((cfgA (F := F)).bodyArgs t ((cfgA (F := F)).slots t)) = bodyA t := by
  unfold defs₀; rw [Defs.onTc_tc]

set_option maxHeartbeats 4000000 in
theorem sound (c : Dev nD) (t : Fin (cfgA (F := F)).N) :
    iprop((dats m 0 c).Φ t.castSucc ∗ (dats m 0 c).owesAt () t.castSucc
      ∗ (∃ d, owns (c : Thread nD τ) (spec0_0.stage ((cfgA (F := F)).slots t 0)) fullShare ((dats m 0 c).before 0 t d))
      ∗ (∃ d, owns (c : Thread nD τ) (spec0_1.stage ((cfgA (F := F)).slots t 1)) fullShare ((dats m 0 c).before 1 t d))
      ∗ (∃ d, owns (c : Thread nD τ) (spec0_2.stage ((cfgA (F := F)).slots t 2)) fullShare ((dats m 0 c).before 2 t d))
      ∗ (∃ d, owns (c : Thread nD τ) (spec0_3.stage ((cfgA (F := F)).slots t 3)) fullShare ((dats m 0 c).before 3 t d))
      ∗ (∃ d, owns (c : Thread nD τ) (spec0_4.stage ((cfgA (F := F)).slots t 4)) fullShare ((dats m 0 c).before 4 t d)))
    ⊢ wp frame (wpE (defs₀ (F := F)) Variants.none c none) Set.univ (bodyA t) (fun _ =>
      iprop((dats m 0 c).Φ t.succ ∗ (dats m 0 c).owesAt () t.succ
        ∗ (dats m 0 c).leavesExact 0 t
        ∗ (dats m 0 c).leavesExact 1 t
        ∗ (dats m 0 c).leavesExact 2 t
        ∗ (dats m 0 c).leavesExact 3 t
        ∗ (dats m 0 c).leavesExact 4 t)) := by
  rw [show (dats m 0 c).owesAt () t.succ = (dats m 0 c).owesAt () t.castSucc from rfl]
  rw [show (dats m 0 c).Φ t.succ = iprop(carried m c (t.val + 1) ∗ (∃ r, prngReg c r) ∗ Pipeline.ΦT pre0 (tabs (F := F)) c) from rfl,
    show (dats m 0 c).Φ t.castSucc = iprop(carried m c t.val ∗ (∃ r, prngReg c r) ∗ Pipeline.ΦT pre0 (tabs (F := F)) c) from rfl, tables_eq]
  simp only [before0, before1, before2]
  rw [show (dats m 0 c).leavesExact 0 t = owns (c : Thread nD τ) (spec0_0.stage ((cfgA (F := F)).slots t 0)) fullShare ((dats m 0 c).after 0 t) from by
    unfold Dat.leavesExact; rw [show (cfgA (F := F)).idle 0 ((cfgA (F := F)).grid.coords t) = false from rfl]; try rfl, after0]
  rw [show (dats m 0 c).leavesExact 1 t = owns (c : Thread nD τ) (spec0_1.stage ((cfgA (F := F)).slots t 1)) fullShare ((dats m 0 c).after 1 t) from by
    unfold Dat.leavesExact; rw [show (cfgA (F := F)).idle 1 ((cfgA (F := F)).grid.coords t) = false from rfl]; try rfl, after1]
  rw [show (dats m 0 c).leavesExact 2 t = owns (c : Thread nD τ) (spec0_2.stage ((cfgA (F := F)).slots t 2)) fullShare ((dats m 0 c).after 2 t) from by
    unfold Dat.leavesExact; rw [show (cfgA (F := F)).idle 2 ((cfgA (F := F)).grid.coords t) = false from rfl]; try rfl, after2]
  unfold carried
  iintro ⟨⟨⟨%x, %y, %z, %hs, S0, S1, S2⟩, Hp, T0, T1⟩, Ho, ⟨%d0, H0⟩, ⟨%d1, H1⟩, ⟨%d2, H2⟩, ⟨%d3, H3⟩, ⟨%d4, H4⟩⟩
  obtain ⟨eM, eL, eA⟩ := step_eq m c t x y z hs
  iapply (run c (grid0.coords t) (tabs (F := F) 0) (tabs (F := F) 1) rfl rfl (spec0_0.stage ((cfgA (F := F)).slots t 0)) (hstage0_0 (((cfgA (F := F)).slots t 0).cast nbuf0_0)) (spec0_1.stage ((cfgA (F := F)).slots t 1)) (hstage0_1 (((cfgA (F := F)).slots t 1).cast nbuf0_1)) (spec0_2.stage ((cfgA (F := F)).slots t 2)) (hstage0_2 (((cfgA (F := F)).slots t 2).cast nbuf0_2)) (spec0_3.stage ((cfgA (F := F)).slots t 3)) (hstage0_3 (((cfgA (F := F)).slots t 3).cast nbuf0_3)) (spec0_4.stage ((cfgA (F := F)).slots t 4)) (hstage0_4 (((cfgA (F := F)).slots t 4).cast nbuf0_4)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) ((dats m 0 c).before 3 t d3) ((dats m 0 c).before 4 t d4) x y z)
  rw [eM, eL, eA]
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  iintro ⟨T0, T1, H0, H1, H2, H3, H4, S0, S1, S2⟩
  isplitl [Hp T0 T1 S0 S1 S2]
  · isplitl [S0 S1 S2]
    · iexists (scr m c t.val t.isLt).1; iexists (scr m c t.val t.isLt).2.1; iexists (scr m c t.val t.isLt).2.2
      isplitr
      · ipureintro
        intro n h e
        obtain rfl : t.val = n := by omega
        exact ⟨rfl, rfl, rfl⟩
      isplitl [S0]; · iexact S0
      isplitl [S1]; · iexact S1
      iexact S2
    isplitl [Hp]; · iexact Hp
    isplitl [T0]; · iexact T0
    iexact T1
  isplitl [Ho]; · iexact Ho
  isplitl [H0]; · iexact H0
  isplitl [H1]; · iexact H1
  isplitl [H2]; · iexact H2
  isplitl [H3]
  · iapply (leaves3 m c t d3); iexact H3
  iapply (leaves4 m c t d4)
  iexact H4

theorem body_obligation (c : Dev nD) : BodyObligation (dats (F := F) m 0 c) (defs₀ (F := F)) Variants.none () Set.univ := fun t => by
  rw [bigSep_W0, bigSep_W0, row]
  exact triple_restated (sound m c t) rfl .rfl fun _ => .rfl

/-! ## The run -/

theorem enter (c : Dev nD) : iprop(Pipeline.ΦA spec0 c ∗ Pipeline.ΦT pre0 (tabs (F := F)) c) ⊢ ((dats m 0 c).Φ 0 : sProp 𝕄) := by
  rw [show (dats m 0 c).Φ 0 = iprop(carried m c 0 ∗ (∃ r, prngReg c r) ∗ Pipeline.ΦT pre0 (tabs (F := F)) c) from rfl]
  unfold Pipeline.ΦA carried
  rw [scopedRest0_eq]
  simp only [owns_whole]
  iintro ⟨⟨⟨⟨%f0, S0⟩, ⟨%f1, S1⟩, ⟨%f2, S2⟩⟩, Hp⟩, HT⟩
  isplitl [S0 S1 S2]
  · iexists f0; iexists f1; iexists f2
    isplitr
    · ipureintro; exact fun n _ e => absurd e (Nat.succ_ne_zero n).symm
    isplitl [S0]; · iexact S0
    isplitl [S1]; · iexact S1
    iexact S2
  isplitl [Hp]; · iexact Hp
  iexact HT

theorem leave (c : Dev nD) : ((dats m 0 c).Φ (Fin.last (cfgA (F := F)).N) : sProp 𝕄) ⊢ Pipeline.ΦA spec0 c := by
  rw [show (dats m 0 c).Φ (Fin.last (cfgA (F := F)).N) = iprop(carried m c (cfgA (F := F)).N ∗ (∃ r, prngReg c r) ∗ Pipeline.ΦT pre0 (tabs (F := F)) c) from rfl]
  unfold Pipeline.ΦA carried
  rw [scopedRest0_eq]
  simp only [owns_whole]
  iintro ⟨⟨%f0, %f1, %f2, -, S0, S1, S2⟩, Hp, -⟩
  isplitl [S0 S1 S2]
  · isplitl [S0]; · iexists f0; iexact S0
    isplitl [S1]; · iexists f1; iexact S1
    iexists f2; iexact S2
  iexact Hp

set_option backward.isDefEq.respectTransparency.types false in
theorem run_main : θ_run defs (onTc (τ := τ) (main (F := F))) (s₀ m ρ)
    (fun r => (Pipeline.FramePost (Pipeline.pin (pcfgs (F := F)) (adm (F := F))) (dats m) 0 (V m)) r ∧ r.2.sem = fun _ => 0) :=
  Pipeline.θ_run_frameP_track (Q' := _) pcfgs (adm (F := F)) (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hpf := hpf m) (hin := enter m) (hout := leave m)

/-- No host operation before the region writes an argument. -/
theorem args_kept : ∀ b ∈ [main_arg0, main_arg1, main_arg2], (hostOps0 : List (HloOp τ sig (Elt F))).Forall fun op => Proc.devRef .tc b ∉ op.writes := by
  simp only [List.forall_mem_cons, List.forall_mem_nil]
  refine ⟨?_, ?_, ?_, fun _ h => absurd h List.not_mem_nil⟩ <;>
  · simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- A run's end has the arguments as they were. -/
theorem args_after (r : PUnit.{1} × MemSt nD τ sig (Elt F)) (h : Pipeline.FramePost (Pipeline.pin (pcfgs (F := F)) (adm (F := F))) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (show ∀ w : Fin 5, (spec0 w).arr.view.ref ≠ main_arg0 from by decide))).trans (kept m main_arg0 (args_kept _ (by simp)) c),
   ((h c).2 main_arg1 (Pipeline.mem_restRefs_of main_arg1 (by decide) (show ∀ w : Fin 5, (spec0 w).arr.view.ref ≠ main_arg1 from by decide))).trans (kept m main_arg1 (args_kept _ (by simp)) c),
   ((h c).2 main_arg2 (Pipeline.mem_restRefs_of main_arg2 (by decide) (show ∀ w : Fin 5, (spec0 w).arr.view.ref ≠ main_arg2 from by decide))).trans (kept m main_arg2 (args_kept _ (by simp)) c)⟩

/-- The run ends, leaves the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_after m r h.1, h.2⟩) (run_main m ρ)

end Cert.KernelAttnFwdIdeal.Run

end
-- ==== Proof.AttnFwdTile.lean ====
/-
  One tile of the attention forward, at an entry: a step's running maximum, total and result.
-/
module

public import proofs.«01_k».proof.Proof.AttnFwdRun
public import proofs.«01_k».proof.Proof.AttnTile
public import proofs.«01_k».proof.Proof.AttnEntries
public import Idealize.ShloMosaic.Lib.Pointwise

@[expose] public section

set_option maxRecDepth 16384

noncomputable section

namespace Cert.KernelAttnFwdIdeal.Run

open Idealize.ShloMosaic Idealize.ShloMosaic.TcCoe
open scoped BigOperators
open Cert.KernelAttnFwdIdeal Cert.KernelAttnFwdIdeal.Gen
open Cert.KernelAttnIdeal.Run (score select_sge)

theorem copies (x : FVec Ideal S1024x128 .f32) (r c : Fin 1024) :
    concatenate S1024x1024 1 [⟨S1024x128, x⟩, ⟨S1024x128, x⟩, ⟨S1024x128, x⟩, ⟨S1024x128, x⟩, ⟨S1024x128, x⟩, ⟨S1024x128, x⟩, ⟨S1024x128, x⟩, ⟨S1024x128, x⟩]
      concatenates_S1024x128_S1024x128_S1024x128_S1024x128_S1024x128_S1024x128_S1024x128_S1024x128_S1024x1024_d1 (ix2 r c)
      = x (ix2 r ⟨c.val % 128, Nat.mod_lt _ (by decide)⟩) := Cert.KernelAttnIdeal.Run.copies x r c

theorem mask_bot : Named.named (F := Ideal) (φ := .f32) κ "mask" 0xF149F2CA#32 = (⊥ : EReal) := IdealRules.named_const.ideal_named_scalar _ _ _ _ rfl

variable (q k : Vec Ideal S1024x256 .bf16) (v x y z : Vec Ideal S1024x128 .f32)

/-- The maximum so far and a tile's; a tile's weight over it. -/
def mx (b : Bool) (r : Fin 1024) (l : Fin 128) : EReal := max (x (ix2 r l)) (Finset.univ.sup fun c => score b q k r c)
def wt (b : Bool) (r c : Fin 1024) : EReal := Ideal.exp (score b q k r c - mx q k x b r ⟨c.val % 128, Nat.mod_lt _ (by decide)⟩)

theorem pay9_at (r c : Fin 1024) : k0_pay9 (F := Ideal) q k (ix2 r c) = score false q k r c := by
  unfold k0_pay9
  pointwise
  simp only [score, Bool.false_eq_true, false_and, if_false]
theorem pay15_at (r c : Fin 1024) : k0_pay15 (F := Ideal) q k (ix2 r c) = score true q k r c := by
  unfold k0_pay15
  pointwise
  rw [select_sge _ _ (by omega) (by omega), mask_bot, score]
  simp only [true_and, Fin.lt_def]
theorem pay10_at (r : Fin 1024) (l : Fin 128) : k0_pay10 (F := Ideal) q k x (ix2 r l) = mx q k x false r l := by
  unfold k0_pay10
  pointwise [pay9_at]
  rw [Cert.Proof.AttnRef.negInf]
  rfl
theorem pay16_at (r : Fin 1024) (l : Fin 128) : k0_pay16 (F := Ideal) q k x (ix2 r l) = mx q k x true r l := by
  unfold k0_pay16
  pointwise [pay15_at]
  rw [Cert.Proof.AttnRef.negInf]
  rfl
theorem pay12_at (r c : Fin 1024) : k0_pay12 (F := Ideal) q k x (ix2 r c) = wt q k x false r c := by
  unfold k0_pay12
  pointwise [copies, pay9_at, pay10_at, wt]
theorem pay18_at (r c : Fin 1024) : k0_pay18 (F := Ideal) q k x (ix2 r c) = wt q k x true r c := by
  unfold k0_pay18
  pointwise [copies, pay15_at, pay16_at, wt]

/-- Whether a step's tile lies on the diagonal. -/
def diag (i : grid0.Coords) : Bool := decide (¬off (wq i) (wk i))

theorem stepM_at (i : grid0.Coords) (r : Fin 1024) (l : Fin 128) : stepM i q k x (ix2 r l) = mx q k (begM i x) (diag i) r l := by
  by_cases h : off (wq i) (wk i)
  · rw [stepM, if_pos h, show diag i = false from decide_eq_false (not_not.mpr h)]
    pointwise [k0_pay4, pay10_at]
  · rw [stepM, if_neg h, show diag i = true from decide_eq_true h]
    pointwise [k0_pay6, pay16_at]
theorem stepL_at (i : grid0.Coords) (r : Fin 1024) (l : Fin 128) : stepL i q k x y (ix2 r l)
    = Ideal.exp (begM i x (ix2 r l) - mx q k (begM i x) (diag i) r l) * begL i y (ix2 r l) + ∑ c : Fin 1024, wt q k (begM i x) (diag i) r c := by
  by_cases h : off (wq i) (wk i)
  · rw [stepL, if_pos h, show diag i = false from decide_eq_false (not_not.mpr h)]
    pointwise [k0_pay13, k0_pay11, pay10_at, pay12_at]
  · rw [stepL, if_neg h, show diag i = true from decide_eq_true h]
    pointwise [k0_pay19, k0_pay17, pay16_at, pay18_at]
theorem stepA_at (i : grid0.Coords) (r : Fin 1024) (e : Fin 128) : stepA i q k v x z (ix2 r e)
    = Ideal.exp (begM i x (ix2 r e) - mx q k (begM i x) (diag i) r e) * begA i z (ix2 r e) + ∑ c : Fin 1024, wt q k (begM i x) (diag i) r c * v (ix2 c e) := by
  by_cases h : off (wq i) (wk i)
  · rw [stepA, if_pos h, show diag i = false from decide_eq_false (not_not.mpr h)]
    pointwise [k0_pay14, k0_pay11, pay10_at, pay12_at]
  · rw [stepA, if_neg h, show diag i = true from decide_eq_true h]
    pointwise [k0_pay5, k0_pay20, k0_pay17, pay16_at, pay18_at]

theorem begM_first (i : grid0.Coords) (h : fst (wk i)) (r : Fin 1024) (l : Fin 128) : begM i x (ix2 r l) = ⊥ := by
  rw [begM, if_pos h]
  pointwise [k0_pay1]
  exact mask_bot
theorem begL_first (i : grid0.Coords) (h : fst (wk i)) (r : Fin 1024) (l : Fin 128) : begL i y (ix2 r l) = 0 := by
  rw [begL, if_pos h]
  pointwise [k0_pay2]
theorem begA_first (i : grid0.Coords) (h : fst (wk i)) (r : Fin 1024) (e : Fin 128) : begA i z (ix2 r e) = 0 := by
  rw [begA, if_pos h]
  pointwise [k0_pay3]

end Cert.KernelAttnFwdIdeal.Run
end
-- ==== Proof.AttnFwdRow.lean ====
/-
  The running softmax of one row over the real numbers: rescaling by the change of the maximum turns the weights taken over
  an earlier maximum into those over a later one.
-/
module

public import proofs.«01_k».proof.Proof.AttnRow

@[expose] public section

noncomputable section

namespace Cert.Proof.AttnFwdRow

open Idealize.ShloMosaic
open scoped BigOperators

/-- A score's weight over a maximum; a masked score has none. -/
def wt (a : EReal) (M : ℝ) : ℝ := if a = ⊥ then 0 else Real.exp (a.toReal - M)

theorem exp_wt {a : EReal} (h : a = ⊥ ∨ IsReal a) (M : ℝ) : Ideal.exp (a - (M : EReal)) = (wt a M : EReal) := by
  rcases h with rfl | ⟨r, rfl⟩
  · rw [EReal.bot_sub, wt, if_pos rfl]; rfl
  · rw [wt, if_neg (EReal.coe_ne_bot r), EReal.toReal_coe, ← EReal.coe_sub, Ideal.exp_coe]
theorem rescale_wt (a : EReal) (M N : ℝ) : Real.exp (M - N) * wt a M = wt a N := by
  unfold wt
  split_ifs
  · rw [mul_zero]
  · rw [← Real.exp_add]
    refine congrArg _ ?_
    ring

variable {ι β : Type*} [Fintype β] (S : Finset ι) {a g : ι → β → EReal} (ha : ∀ i j, a i j = ⊥ ∨ IsReal (a i j))

include ha in
theorem rescale (hg : ∀ i j, IsReal (g i j)) (M N : ℝ) :
    Ideal.exp ((M : EReal) - (N : EReal)) * ∑ i ∈ S, ∑ j, Ideal.exp (a i j - (M : EReal)) * g i j = ∑ i ∈ S, ∑ j, Ideal.exp (a i j - (N : EReal)) * g i j := by
  choose G hG using hg
  simp only [exp_wt (ha _ _), hG]
  rw [← EReal.coe_sub, Ideal.exp_coe]
  simp only [← EReal.coe_mul, coe_sum]
  refine congrArg _ ?_
  simp only [Finset.mul_sum]
  exact Finset.sum_congr rfl fun i _ => Finset.sum_congr rfl fun j _ => by rw [← mul_assoc, rescale_wt]

include ha in
/-- The largest of some scores is real where one is. -/
theorem sup_real {i : ι} (hi : i ∈ S) (j : β) (h : a i j ≠ ⊥) : IsReal (S.sup fun i => Finset.univ.sup (a i)) := by
  rw [← Finset.sup_product_left S Finset.univ fun p : ι × β => a p.1 p.2]
  have hm : (i, j) ∈ S ×ˢ (Finset.univ : Finset β) := Finset.mem_product.mpr ⟨hi, Finset.mem_univ j⟩
  obtain ⟨p, -, e⟩ := Finset.exists_mem_eq_sup (S ×ˢ Finset.univ) ⟨_, hm⟩ fun p : ι × β => a p.1 p.2
  have hle := Finset.le_sup (f := fun p : ι × β => a p.1 p.2) hm
  rw [e] at hle ⊢
  rcases ha p.1 p.2 with h' | h'
  · rw [h'] at hle; exact absurd (le_bot_iff.mp hle) h
  · exact h'

end Cert.Proof.AttnFwdRow
end
-- ==== Proof.AttnFwdArrays.lean ====
/-
  The arrays that the attention forward's kernel leaves: the forty steps put together. Over the key blocks that a query
  block has met, its running maximum is the largest score, and its running total and result are the sums of the weights over
  that maximum; the blocks left out are masked throughout.
-/
module

public import proofs.«01_k».proof.Proof.AttnFwdFrame
public import proofs.«01_k».proof.Proof.AttnFwdTile
public import proofs.«01_k».proof.Proof.AttnFwdRow
public import proofs.«01_k».proof.Proof.AttnArrays

@[expose] public section

set_option maxRecDepth 16384

noncomputable section

namespace Cert.KernelAttnFwdIdeal.Run

open Idealize.ShloMosaic Idealize.ShloMosaic.TcCoe Idealize.SL.Sem Idealize.ShloMosaic.Tactic
open Idealize.ShloMosaic.Pipeline (Dat)
open scoped BigOperators
open Cert.KernelAttnFwdIdeal Cert.KernelAttnFwdIdeal.Gen Cert.Proof
open Cert.KernelAttnIdeal.Run (score sc arow lane vlane arow_lt sum_met blockOf vhead head_vlane)

variable (m : (ℓ : Loc nD τ sig) → Buf (Elt Ideal) ℓ)

/-- The head, the query block and the key block of a grid point. -/
def hd (t : Fin grid0.N) : Fin 4 := ⟨t.val / 10, by have := t.isLt; have : grid0.N = 40 := rfl; omega⟩
def qb (t : Fin grid0.N) : Fin 4 := ![0, 1, 1, 2, 2, 2, 3, 3, 3, 3] ⟨t.val % 10, Nat.mod_lt _ (by decide)⟩
def kb (t : Fin grid0.N) : Fin 4 := ![0, 0, 1, 0, 1, 2, 0, 1, 2, 3] ⟨t.val % 10, Nat.mod_lt _ (by decide)⟩

theorem diag_eq : ∀ t : Fin grid0.N, diag (grid0.coords t) = decide (qb t = kb t) := by decide +kernel
theorem kb_le : ∀ t : Fin grid0.N, kb t ≤ qb t := by decide +kernel

/-- Every window's block index at a grid point. -/
theorem idx : ∀ t : Fin grid0.N, ((cfgA (F := Ideal)).win 0).index t = ![(qb t).val, (hd t).val] ∧ ((cfgA (F := Ideal)).win 1).index t = ![(kb t).val, (hd t).val]
    ∧ ((cfgA (F := Ideal)).win 2).index t = ![(kb t).val, (hd t).val] ∧ ((cfgA (F := Ideal)).win 3).index t = ![(qb t).val, (hd t).val]
    ∧ ((cfgA (F := Ideal)).win 4).index t = ![(hd t).val, (qb t).val, 0] :=
  of_decide_eq_true (by sl_kernel_rfl)

abbrev qA (c : Dev nD) : FVec Ideal S4096x1024 .bf16 := V m c main_v3
abbrev kA (c : Dev nD) : FVec Ideal S4096x1024 .bf16 := V m c main_v7
abbrev vA (c : Dev nD) : FVec Ideal S4096x512 .f32 := V m c main_v9

theorem q_at (c : Dev nD) (t : Fin grid0.N) (r : Fin 1024) (e : Fin 256) : iblk m c 0 t (ix2 r e) = qA m c (ix2 (arow (qb t) r) (lane (hd t) e)) := by
  blk_point [iblk, idx t, arow, lane]
theorem k_at (c : Dev nD) (t : Fin grid0.N) (r : Fin 1024) (e : Fin 256) : iblk m c 1 t (ix2 r e) = kA m c (ix2 (arow (kb t) r) (lane (hd t) e)) := by
  blk_point [iblk, idx t, arow, lane]
theorem v_at (c : Dev nD) (t : Fin grid0.N) (r : Fin 1024) (e : Fin 128) : iblk m c 2 t (ix2 r e) = vA m c (ix2 (arow (kb t) r) (vlane (hd t) e)) := by
  blk_point [iblk, idx t, arow, vlane]

/-! ## A row over some key blocks -/

section Row
variable (Q K : FVec Ideal S4096x1024 .bf16) (h : Fin 4) (R : Fin 4096)

/-- The largest score over some key blocks; the sum of the weights over `M`, each times its key's entry in `g`. -/
def top (S : Finset (Fin 4)) : EReal := S.sup fun x => Finset.univ.sup fun r : Fin 1024 => sc Q K h R (arow x r)
def acc (S : Finset (Fin 4)) (M : EReal) (g : Fin 4096 → EReal) : EReal := ∑ x ∈ S, ∑ r : Fin 1024, Ideal.exp (sc Q K h R (arow x r) - M) * g (arow x r)

variable (hQ : ∀ i, IsReal (Q i)) (hK : ∀ i, IsReal (K i))

include hQ hK in
theorem sc_real (C : Fin 4096) : sc Q K h R C = ⊥ ∨ IsReal (sc Q K h R C) := by
  unfold sc
  split_ifs
  · exact Or.inl rfl
  · exact Or.inr (IsReal.sum _ fun e => (hQ _).mul (hK _))

include hQ hK in
theorem top_real (S : Finset (Fin 4)) (h0 : 0 ∈ S) : IsReal (top Q K h R S) := by
  refine AttnFwdRow.sup_real S (fun x r => sc_real Q K h R hQ hK (arow x r)) h0 0 ?_
  have e : ¬R < arow 0 0 := fun hc => by have : R.val < 0 * 1024 + 0 := hc; omega
  show sc Q K h R (arow 0 0) ≠ ⊥
  rw [sc, if_neg e]
  obtain ⟨x, hx⟩ := IsReal.sum Finset.univ fun e : Fin 256 => (hQ (ix2 R (lane h e))).mul (hK (ix2 (arow 0 0) (lane h e)))
  rw [hx]
  exact EReal.coe_ne_bot x

theorem top_insert (S : Finset (Fin 4)) (x : Fin 4) : max (top Q K h R S) (Finset.univ.sup fun r => sc Q K h R (arow x r)) = top Q K h R (insert x S) := by
  unfold top
  rw [Finset.sup_insert, sup_comm]

include hQ hK in
theorem acc_insert (S : Finset (Fin 4)) (h0 : 0 ∈ S) (x : Fin 4) (hx : x ∉ S) (g : Fin 4096 → EReal) (hg : ∀ C, IsReal (g C)) :
    Ideal.exp (top Q K h R S - top Q K h R (insert x S)) * acc Q K h R S (top Q K h R S) g
        + ∑ r : Fin 1024, Ideal.exp (sc Q K h R (arow x r) - top Q K h R (insert x S)) * g (arow x r)
      = acc Q K h R (insert x S) (top Q K h R (insert x S)) g := by
  obtain ⟨M, hM⟩ := top_real Q K h R hQ hK S h0
  obtain ⟨N, hN⟩ := top_real Q K h R hQ hK (insert x S) (Finset.mem_insert_of_mem h0)
  unfold acc
  rw [hM, hN, AttnFwdRow.rescale S (fun x r => sc_real Q K h R hQ hK (arow x r)) (fun x r => hg (arow x r)) M N, Finset.sum_insert hx, add_comm]

/-- The blocks after the row's own are masked throughout. -/
theorem top_all (S : Finset (Fin 4)) (hS : ∀ x ∉ S, ∀ r, R < arow x r) : top Q K h R S = Finset.univ.sup fun C : Fin 4096 => sc Q K h R C := by
  refine le_antisymm (Finset.sup_le fun x _ => Finset.sup_le fun r _ => Finset.le_sup (f := fun C => sc Q K h R C) (Finset.mem_univ (arow x r))) (Finset.sup_le fun C _ => ?_)
  obtain ⟨x, r, rfl⟩ : ∃ (x : Fin 4) (r : Fin 1024), C = arow x r :=
    ⟨blockOf C, ⟨C.val % 1024, Nat.mod_lt _ (by decide)⟩, Fin.ext (by show C.val = C.val / 1024 * 1024 + C.val % 1024; omega)⟩
  by_cases hx : x ∈ S
  · exact le_trans (Finset.le_sup (f := fun r => sc Q K h R (arow x r)) (Finset.mem_univ r))
      (Finset.le_sup (f := fun x => Finset.univ.sup fun r : Fin 1024 => sc Q K h R (arow x r)) hx)
  · rw [sc, if_pos (hS x hx r)]
    exact bot_le
theorem acc_all (S : Finset (Fin 4)) (hS : ∀ x ∉ S, ∀ r, R < arow x r) (M : EReal) (g : Fin 4096 → EReal) :
    acc Q K h R S M g = ∑ C : Fin 4096, Ideal.exp (sc Q K h R C - M) * g C :=
  sum_met S (fun C => Ideal.exp (sc Q K h R C - M) * g C) fun x hx r => by
    rw [sc, if_pos (hS x hx r), EReal.bot_sub, show Ideal.exp (⊥ : EReal) = 0 from rfl, zero_mul]

end Row

/-! ## The recursion in closed form -/

/-- The key blocks that a query block has met. -/
def met (t : Fin grid0.N) : Finset (Fin 4) := Finset.univ.filter fun x => x ≤ kb t

theorem met_first : ∀ t : Fin grid0.N, fst (wk (grid0.coords t)) → met t = {kb t} := by decide +kernel
theorem met_next : ∀ t : Fin grid0.N, ∀ h : t.val + 1 < grid0.N, ¬fst (wk (grid0.coords ⟨t.val + 1, h⟩)) →
    hd ⟨t.val + 1, h⟩ = hd t ∧ qb ⟨t.val + 1, h⟩ = qb t ∧ met ⟨t.val + 1, h⟩ = insert (kb ⟨t.val + 1, h⟩) (met t) ∧ kb ⟨t.val + 1, h⟩ ∉ met t := by decide +kernel
theorem zero_met : ∀ t : Fin grid0.N, 0 ∈ met t := by decide +kernel

theorem score_at (c : Dev nD) (t : Fin grid0.N) (r r' : Fin 1024) :
    score (diag (grid0.coords t)) (iblk m c 0 t) (iblk m c 1 t) r r' = sc (qA m c) (kA m c) (hd t) (arow (qb t) r) (arow (kb t) r') := by
  rw [score, sc, diag_eq]
  simp only [q_at, k_at, arow_lt _ _ _ _ (kb_le t)]
theorem mx_at (c : Dev nD) (t : Fin grid0.N) (x : Vec Ideal S1024x128 .f32) (r : Fin 1024) (l : Fin 128) :
    mx (iblk m c 0 t) (iblk m c 1 t) x (diag (grid0.coords t)) r l
      = max (x (ix2 r l)) (Finset.univ.sup fun r' => sc (qA m c) (kA m c) (hd t) (arow (qb t) r) (arow (kb t) r')) := by
  rw [mx]
  simp only [score_at]

/-- A query block's row over the key blocks met. -/
def T (c : Dev nD) (t : Fin grid0.N) (r : Fin 1024) : EReal := top (qA m c) (kA m c) (hd t) (arow (qb t) r) (met t)
def A (c : Dev nD) (t : Fin grid0.N) (r : Fin 1024) (g : Fin 4096 → EReal) : EReal := acc (qA m c) (kA m c) (hd t) (arow (qb t) r) (met t) (T m c t r) g
def col (c : Dev nD) (h : Fin 4) (e : Fin 128) (C : Fin 4096) : EReal := vA m c (ix2 C (vlane h e))

/-- A step, given what its row begins with: the maximum, the total and the result that the row has then. -/
theorem step_at (c : Dev nD) (t : Fin grid0.N) (r : Fin 1024) (x y z : Vec Ideal S1024x128 .f32)
    (hM : ∀ l, mx (iblk m c 0 t) (iblk m c 1 t) (begM (grid0.coords t) x) (diag (grid0.coords t)) r l = T m c t r)
    (hL : ∀ l, Ideal.exp (begM (grid0.coords t) x (ix2 r l) - T m c t r) * begL (grid0.coords t) y (ix2 r l)
      + ∑ r' : Fin 1024, Ideal.exp (sc (qA m c) (kA m c) (hd t) (arow (qb t) r) (arow (kb t) r') - T m c t r) * 1 = A m c t r fun _ => 1)
    (hA : ∀ e, Ideal.exp (begM (grid0.coords t) x (ix2 r e) - T m c t r) * begA (grid0.coords t) z (ix2 r e)
      + ∑ r' : Fin 1024, Ideal.exp (sc (qA m c) (kA m c) (hd t) (arow (qb t) r) (arow (kb t) r') - T m c t r) * col m c (hd t) e (arow (kb t) r') = A m c t r (col m c (hd t) e)) :
    (∀ l, stepM (grid0.coords t) (iblk m c 0 t) (iblk m c 1 t) x (ix2 r l) = T m c t r)
      ∧ (∀ l, stepL (grid0.coords t) (iblk m c 0 t) (iblk m c 1 t) x y (ix2 r l) = A m c t r fun _ => 1)
      ∧ ∀ e, stepA (grid0.coords t) (iblk m c 0 t) (iblk m c 1 t) (iblk m c 2 t) x z (ix2 r e) = A m c t r (col m c (hd t) e) := by
  have w (r' : Fin 1024) : wt (iblk m c 0 t) (iblk m c 1 t) (begM (grid0.coords t) x) (diag (grid0.coords t)) r r'
      = Ideal.exp (sc (qA m c) (kA m c) (hd t) (arow (qb t) r) (arow (kb t) r') - T m c t r) := by rw [wt, hM, score_at]
  refine ⟨fun l => (stepM_at ..).trans (hM l), fun l => Eq.trans ?_ (hL l), fun e => Eq.trans ?_ (hA e)⟩
  · rw [stepL_at, hM]
    simp only [w, mul_one]
  · rw [stepA_at, hM]
    simp only [w, v_at, col]

section Finite
variable (c : Dev nD) (hQ : ∀ i, IsReal (qA m c i)) (hK : ∀ i, IsReal (kA m c i)) (hV : ∀ i, IsReal (vA m c i))

include hQ hK hV in
theorem scr_at (t : Fin grid0.N) (r : Fin 1024) :
    (∀ l, (scr m c t.val t.isLt).1 (ix2 r l) = T m c t r) ∧ (∀ l, (scr m c t.val t.isLt).2.1 (ix2 r l) = A m c t r fun _ => 1)
      ∧ ∀ e, (scr m c t.val t.isLt).2.2 (ix2 r e) = A m c t r (col m c (hd t) e) := by
  have new (t : Fin grid0.N) (hf : fst (wk (grid0.coords t))) (x y z : Vec Ideal S1024x128 .f32) :
      (∀ l, stepM (grid0.coords t) (iblk m c 0 t) (iblk m c 1 t) x (ix2 r l) = T m c t r)
      ∧ (∀ l, stepL (grid0.coords t) (iblk m c 0 t) (iblk m c 1 t) x y (ix2 r l) = A m c t r fun _ => 1)
      ∧ ∀ e, stepA (grid0.coords t) (iblk m c 0 t) (iblk m c 1 t) (iblk m c 2 t) x z (ix2 r e) = A m c t r (col m c (hd t) e) := by
    refine step_at m c t r x y z (fun l => ?_) (fun l => ?_) fun e => ?_
    · rw [mx_at, begM_first _ _ hf, max_eq_right bot_le, T, top, met_first t hf, Finset.sup_singleton]
    · rw [begL_first _ _ hf, mul_zero, zero_add, A, acc, met_first t hf, Finset.sum_singleton]
    · rw [begA_first _ _ hf, mul_zero, zero_add, A, acc, met_first t hf, Finset.sum_singleton]
  obtain ⟨n, hn⟩ := t
  induction n with
  | zero => exact new ⟨0, hn⟩ (first ⟨0, hn⟩ rfl) _ _ _
  | succ n ih =>
    by_cases hf : fst (wk (grid0.coords ⟨n + 1, hn⟩))
    · exact new ⟨n + 1, hn⟩ hf _ _ _
    · obtain ⟨iM, iL, iA⟩ := ih (Nat.lt_of_succ_lt hn)
      obtain ⟨eh, eq, em, hx⟩ := met_next ⟨n, Nat.lt_of_succ_lt hn⟩ hn hf
      have z0 := zero_met ⟨n, Nat.lt_of_succ_lt hn⟩
      have eT : T m c ⟨n + 1, hn⟩ r = top (qA m c) (kA m c) (hd ⟨n, Nat.lt_of_succ_lt hn⟩) (arow (qb ⟨n, Nat.lt_of_succ_lt hn⟩) r)
          (insert (kb ⟨n + 1, hn⟩) (met ⟨n, Nat.lt_of_succ_lt hn⟩)) := by rw [T, em, eh, eq]
      have eA (g : Fin 4096 → EReal) : A m c ⟨n + 1, hn⟩ r g = acc (qA m c) (kA m c) (hd ⟨n, Nat.lt_of_succ_lt hn⟩) (arow (qb ⟨n, Nat.lt_of_succ_lt hn⟩) r)
          (insert (kb ⟨n + 1, hn⟩) (met ⟨n, Nat.lt_of_succ_lt hn⟩)) (T m c ⟨n + 1, hn⟩ r) g := by rw [A, em, eh, eq]
      refine step_at m c ⟨n + 1, hn⟩ r _ _ _ (fun l => ?_) (fun l => ?_) fun e => ?_
      · rw [mx_at, begM, if_neg hf, iM, eT, ← top_insert, eh, eq, T]
      · rw [begM, if_neg hf, begL, if_neg hf, iM, iL, eA, eT, eh, eq]
        exact acc_insert _ _ _ _ hQ hK _ z0 _ hx _ fun _ => IsReal.one
      · rw [begM, if_neg hf, begA, if_neg hf, iM, iA, eA, eT, eh, eq]
        exact acc_insert _ _ _ _ hQ hK _ z0 _ hx _ fun _ => hV _

/-! ## The result and the logarithm -/

/-- A row's largest score, the sum of its weights, and of its weights times a column. -/
def topH (h : Fin 4) (R : Fin 4096) : EReal := Finset.univ.sup fun C : Fin 4096 => sc (qA m c) (kA m c) h R C
def totH (h : Fin 4) (R : Fin 4096) : EReal := ∑ C : Fin 4096, Ideal.exp (sc (qA m c) (kA m c) h R C - topH m c h R)
def oH (h : Fin 4) (R : Fin 4096) (C : Fin 512) : EReal :=
  Ideal.div (∑ k : Fin 4096, Ideal.exp (sc (qA m c) (kA m c) h R k - topH m c h R) * vA m c (ix2 k C)) (totH m c h R)
def oA : FVec Ideal S4096x512 .f32 := fun i => oH m c (vhead (i 1)) (i 0) (i 1)
def lA : FVec Ideal S4x4096x128 .f32 := fun i => topH m c (i 0) (i 1) + Ideal.log (totH m c (i 0) (i 1))

theorem oA_at (h : Fin 4) (R : Fin 4096) (e : Fin 128) : oA m c (ix2 R (vlane h e)) = oH m c h R (vlane h e) :=
  congrArg (fun h' => oH m c h' R (vlane h e)) (head_vlane h e)

theorem last3 : ∀ t : Fin grid0.N, ((cfgA (F := Ideal)).win 3).flush t = true → qb t = kb t := of_decide_eq_true (by sl_kernel_rfl)
theorem last4 : ∀ t : Fin grid0.N, ((cfgA (F := Ideal)).win 4).flush t = true → qb t = kb t := of_decide_eq_true (by sl_kernel_rfl)

theorem unmet (t : Fin grid0.N) (h : qb t = kb t) (r : Fin 1024) (x : Fin 4) (hx : x ∉ met t) (r' : Fin 1024) : arow (qb t) r < arow x r' := by
  have : qb t < x := by
    by_contra hc
    exact hx (Finset.mem_filter.mpr ⟨Finset.mem_univ _, by rw [← h]; omega⟩)
  have : (qb t).val < x.val := this
  show (qb t).val * 1024 + r.val < x.val * 1024 + r'.val
  omega

theorem T_last (t : Fin grid0.N) (h : qb t = kb t) (r : Fin 1024) : T m c t r = topH m c (hd t) (arow (qb t) r) :=
  top_all _ _ _ _ _ (unmet t h r)
theorem A_last (t : Fin grid0.N) (h : qb t = kb t) (r : Fin 1024) (g : Fin 4096 → EReal) : A m c t r g
    = ∑ k : Fin 4096, Ideal.exp (sc (qA m c) (kA m c) (hd t) (arow (qb t) r) k - topH m c (hd t) (arow (qb t) r)) * g k := by
  rw [A, acc_all _ _ _ _ _ (unmet t h r), T_last m c t h]
theorem tot_last (t : Fin grid0.N) (h : qb t = kb t) (r : Fin 1024) : (A m c t r fun _ => 1) = totH m c (hd t) (arow (qb t) r) := by
  rw [A_last m c t h, totH]
  simp only [mul_one]

include hQ hK hV in
theorem final_o : (dats m 0 c).arrAt 3 (cfgA (F := Ideal)).N = oA m c := by
  refine (dats m 0 c).arrAt_eq_of_covers 3 _ (by decide +kernel) fun t hf y => ?_
  have hd3 := last3 t hf
  blk_simp
  rw [after3]
  obtain ⟨r, e, rfl⟩ : ∃ (r : Fin 1024) (e : Fin 128), y = ix2 r e := ⟨y 0, y 1, eq_ix2 y⟩
  obtain ⟨iM, iL, iA⟩ := scr_at m c hQ hK hV t r
  have h : k0_pay7 (F := Ideal) (scr m c t.val t.isLt).2.2 (scr m c t.val t.isLt).2.1 (ix2 r e) = oA m c (ix2 (arow (qb t) r) (vlane (hd t) e)) := by
    rw [oA_at, oH, ← tot_last m c t hd3, ← A_last m c t hd3 r fun k => vA m c (ix2 k (vlane (hd t) e)), ← iL e]
    refine Eq.trans ?_ (congrArg (Ideal.div · _) (iA e))
    pointwise [k0_pay7]
  refine h.trans (congrArg (oA m c) ?_)
  blk_point [idx t, vlane, arow]
include hQ hK hV in
theorem final_l : (dats m 0 c).arrAt 4 (cfgA (F := Ideal)).N = lA m c := by
  refine (dats m 0 c).arrAt_eq_of_covers 4 _ (by decide +kernel) fun t hf y => ?_
  have hd4 := last4 t hf
  blk_simp
  rw [after4]
  obtain ⟨r, e, rfl⟩ : ∃ (r : Fin 1024) (e : Fin 128), y = ix3 (0 : Fin 1) r e := ⟨y 1, y 2, (eq_ix3 y).trans (congrArg (fun z : Fin 1 => ix3 z (y 1 : Fin 1024) (y 2 : Fin 128)) (Subsingleton.elim (α := Fin 1) (y 0) 0))⟩
  obtain ⟨iM, iL, iA⟩ := scr_at m c hQ hK hV t r
  have h : k0_pay8 (F := Ideal) (scr m c t.val t.isLt).1 (scr m c t.val t.isLt).2.1 (ix3 (0 : Fin 1) r e) = lA m c (ix3 (hd t) (arow (qb t) r) e) := by
    show _ = topH m c (hd t) (arow (qb t) r) + Ideal.log (totH m c (hd t) (arow (qb t) r))
    rw [← tot_last m c t hd4, ← T_last m c t hd4, ← iL e, ← iM e]
    pointwise [k0_pay8]
  refine h.trans (congrArg (lA m c) (funext fun a => Fin.ext ?_))
  have hi := (idx t).2.2.2.2
  match a with
  | ⟨0, _⟩ =>
    show (hd t).val = ((cfgA (F := Ideal)).win 4).index t 0 * 1 + 1 * 0
    rw [hi]; simp
  | ⟨1, _⟩ =>
    show (arow (qb t) r).val = ((cfgA (F := Ideal)).win 4).index t 1 * 1024 + 1 * r.val
    rw [hi]; simp [arow]
  | ⟨2, _⟩ =>
    show e.val = ((cfgA (F := Ideal)).win 4).index t 2 * 128 + 1 * e.val
    rw [hi]; simp

end Finite

/-- The run leaves the result and the logarithm, and the arguments as they were. -/
theorem run_arrays (ρ : Dev nD → PrngReg) (hQ : ∀ c i, IsReal (qA m c i)) (hK : ∀ c i, IsReal (kA m c i)) (hV : ∀ c i, IsReal (vA m c i)) :
    θ_run defs (onTc (τ := τ) (main (F := Ideal))) ⟨m, fun _ => 0, ρ⟩ (fun r => ∀ c : Dev nD,
      r.2.mem ((c.tc : Thread nD τ).loc main_v10_0) = oA m c
      ∧ r.2.mem ((c.tc : Thread nD τ).loc main_v10_1) = lA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final_o m c (hQ c) (hK c) (hV c)), ((h.1 c).1 4).trans (final_l m c (hQ c) (hK c) (hV c)), args_after m r h.1 c⟩)
    (run_main m ρ)

end Cert.KernelAttnFwdIdeal.Run
end
-- ==== Proof.AttnFwdValue.lean ====
/-
  The attention forward's result and logarithm are those of the reference, where every argument is finite.
-/
module

public import proofs.«01_k».proof.Proof.AttnFwdArrays
public import proofs.«01_k».proof.Proof.AttnValue

@[expose] public section

set_option maxRecDepth 16384

noncomputable section

namespace Cert.KernelAttnFwdIdeal.Run

open Idealize.ShloMosaic Idealize.ShloMosaic.TcCoe Idealize.ShloMosaic.Tactic
open scoped BigOperators
open Cert.KernelAttnFwdIdeal Cert.KernelAttnFwdIdeal.Gen Cert.Proof
open Cert.KernelAttnIdeal.Run (sc lane vlane padded flat wts res lse padded_at flat_at wts_at res_at lse_at lanes vlanes sc_eq rs score_real)

variable (m : (ℓ : Loc nD τ sig) → Buf (Elt Ideal) ℓ) (c : Dev nD)

abbrev arg0 : FVec Ideal S1x4096x4x192 .f32 := m ((c : Thread nD τ).loc main_arg0)
abbrev arg1 : FVec Ideal S1x4096x4x192 .f32 := m ((c : Thread nD τ).loc main_arg1)
abbrev arg2 : FVec Ideal S1x4096x4x128 .f32 := m ((c : Thread nD τ).loc main_arg2)

theorem V_q : qA m c = padded (arg0 m c) := by unfold qA V hostOps0; after_results; rfl
theorem V_k : kA m c = padded (arg1 m c) := by unfold kA V hostOps0; after_results; rfl
theorem V_v : vA m c = flat (arg2 m c) := by unfold vA V hostOps0; after_results; rfl

theorem padded_real (a : FVec Ideal S1x4096x4x192 .f32) (ha : ∀ i, IsReal (a i)) (i : S4096x1024.Idx) : IsReal (padded a i) := by
  obtain ⟨R, C, rfl⟩ : ∃ (R : Fin 4096) (C : Fin 1024), i = ix2 R C := ⟨i 0, i 1, eq_ix2 i⟩
  obtain ⟨h, e, rfl⟩ := lanes C
  refine Eq.subst (motive := IsReal) (padded_at a R h e).symm ?_
  split_ifs
  · exact ha _
  · exact IsReal.zero
theorem flat_real (a : FVec Ideal S1x4096x4x128 .f32) (ha : ∀ i, IsReal (a i)) (i : S4096x512.Idx) : IsReal (flat a i) := by
  obtain ⟨R, C, rfl⟩ : ∃ (R : Fin 4096) (C : Fin 512), i = ix2 R C := ⟨i 0, i 1, eq_ix2 i⟩
  obtain ⟨h, e, rfl⟩ := vlanes C
  exact Eq.subst (motive := IsReal) (flat_at a R h e).symm (ha _)

/-- The reference's row maxima and weights. -/
abbrev tops : FVec Ideal Cert.ReferenceAttnIdeal.S4x4096 .f32 := AttnRef.top (F := Ideal) (arg0 m c) (arg1 m c)
abbrev weights : FVec Ideal Cert.ReferenceAttnIdeal.S4x4096x4096 .f32 := wts (AttnRef.scores (F := Ideal) (arg0 m c) (arg1 m c)) (tops m c)

theorem top_eq (h : Fin 4) (R : Fin 4096) : topH m c h R = tops m c (ix2 h R) := by
  refine Eq.trans ?_ (AttnRef.top_at (arg0 m c) (arg1 m c) h R).symm
  rw [topH, V_q, V_k]
  exact congrArg _ (funext fun C => sc_eq _ _ h R C)
theorem weight_eq (h : Fin 4) (R k : Fin 4096) : Ideal.exp (sc (qA m c) (kA m c) h R k - topH m c h R) = weights m c (ix3 h R k) := by
  refine Eq.trans ?_ (wts_at _ _ h R k).symm
  rw [top_eq, V_q, V_k]
  exact congrArg (fun x => Ideal.exp (x - tops m c (ix2 h R))) ((sc_eq _ _ h R k).trans (AttnRef.scores_at _ _ h R k).symm)
theorem total_eq (h : Fin 4) (R : Fin 4096) : totH m c h R = ∑ k : Fin 4096, weights m c (ix3 h R k) :=
  Finset.sum_congr rfl fun k _ => weight_eq m c h R k

theorem l_eq : lA m c = lse (weights m c) (tops m c) := by
  funext i
  obtain ⟨h, R, e, rfl⟩ : ∃ (h : Fin 4) (R : Fin 4096) (e : Fin 128), i = ix3 h R e := ⟨i 0, i 1, i 2, eq_ix3 i⟩
  refine Eq.trans ?_ (lse_at _ _ h R e).symm
  show topH m c h R + Ideal.log (totH m c h R) = _
  rw [total_eq, top_eq]

theorem o_eq (h0 : ∀ i, IsReal (arg0 m c i)) (h1 : ∀ i, IsReal (arg1 m c i)) (h2 : ∀ i, IsReal (arg2 m c i)) :
    oA m c = res (weights m c) (arg2 m c) := by
  funext i
  obtain ⟨R, C, rfl⟩ : ∃ (R : Fin 4096) (C : Fin 512), i = ix2 R C := ⟨i 0, i 1, eq_ix2 i⟩
  obtain ⟨h, e, rfl⟩ := vlanes C
  refine (oA_at ..).trans (Eq.trans ?_ (res_at _ _ R h e).symm)
  obtain ⟨A0, e0⟩ := IsReal.choose h0
  obtain ⟨A1, e1⟩ := IsReal.choose h1
  obtain ⟨A2, e2⟩ := IsReal.choose h2
  obtain ⟨M, hM⟩ := Cert.KernelAttnIdeal.Run.top_real _ _ A0 A1 e0 e1 h R
  have hw (k : Fin 4096) : weights m c (ix3 h R k) = (AttnRow.W R (rs A0 A1 h R) M k : EReal) := by
    refine (wts_at _ _ h R k).trans ?_
    rw [AttnRef.scores_at, show tops m c (ix2 h R) = _ from hM, score_real _ _ A0 A1 e0 e1, AttnRow.weight]
  have hv (k : Fin 4096) : vA m c (ix2 k (vlane h e)) = (A2 (ix4 0 k h e) : EReal) := by
    rw [V_v]
    exact (flat_at _ k h e).trans (congrFun e2 _)
  rw [oH, total_eq]
  refine (congrArg (Ideal.div · _) (Finset.sum_congr rfl fun k _ => congrArg₂ (· * ·) ((weight_eq m c h R k).trans (hw k)) (hv k))).trans ?_
  simp only [hw]
  rw [AttnRow.total]
  simp only [AttnRow.div_total, ← EReal.coe_mul, coe_sum, e2]
  refine congrArg _ ?_
  rw [Finset.sum_mul]
  exact Finset.sum_congr rfl fun k _ => by ring

end Cert.KernelAttnFwdIdeal.Run
end
-- ==== Proof.AttnFwd.lean ====
/-
  The claims about the attention forward (`mla_attn_fwd`).
-/
module

public import proofs.«01_k».proof.Defs
public import proofs.«01_k».proof.Proof.Gen.KernelAttnFwd
public import proofs.«01_k».proof.Proof.Gen.ReferenceAttnFwdIdeal.Run
public import proofs.«01_k».proof.Proof.Gen.Pre_attn_fwd_finite
public import proofs.«01_k».proof.Proof.Attn
public import proofs.«01_k».proof.Proof.AttnFwdValue
public import Idealize.ShloMosaic.Lib.Claim
public import Idealize.ShloMosaic.Lib.Quiescent

@[expose] public section

set_option maxRecDepth 16384

noncomputable section

namespace Cert.Proof.AttnFwd

open Idealize.ShloMosaic Idealize.ShloMosaic.TcCoe Idealize.SL.Sem

theorem frame_ideal : Cert.quiescent_KernelAttnFwdIdeal := fun m ρ _ => Cert.KernelAttnFwdIdeal.Run.frame_run m ρ
theorem frame_ideal_pre : Cert.quiescent_KernelAttnFwdIdeal_pre_attn_fwd_finite := fun m ρ _ => Cert.KernelAttnFwdIdeal.Run.frame_run m ρ

theorem frame_kernel : Cert.quiescent_KernelAttnFwd := fun m ρ _ => by
  letI := Attn.asWritten
  refine cast ?_ (Cert.KernelAttnFwdIdeal.Run.frame_run (F := Bits) m ρ)
  sl_kernel_rfl

theorem frame_reference : Cert.quiescent_ReferenceAttnFwdIdeal := fun m ρ _ =>
  (θ_run Cert.ReferenceAttnFwdIdeal.defs _ _).mono (fun r h => ⟨fun c => (h c).2.2, sem_eq_zero_of_no_sems (by decide) r.2⟩)
    (Cert.ReferenceAttnFwdIdeal.Value.run (F := Ideal) m ρ)
theorem frame_reference_pre : Cert.quiescent_ReferenceAttnFwdIdeal_pre_attn_fwd_finite := fun m ρ _ => frame_reference m ρ trivial

/-- The mask's word stands for −∞. -/
theorem preserved : Cert.preserves_KernelAttnFwd_KernelAttnFwdIdeal :=
  ⟨rfl, fun _ => IdealRules.named_const.ideal_named _ _ _ _ rfl, IdealRules.named_const.ideal_named_scalar _ _ _ _ rfl⟩

open Cert.KernelAttnFwdIdeal Cert.KernelAttnFwdIdeal.Gen Cert.KernelAttnFwdIdeal.Run in
/-- What the precondition says of the arguments. -/
theorem real_of_pre (m : (ℓ : Loc nD τ sig) → Buf (Elt Ideal) ℓ) (hp : Cert.Pre_KernelAttnFwdIdeal_attn_fwd_finite m) (c : Dev nD) :
    (∀ i, IsReal (arg0 m c i)) ∧ (∀ i, IsReal (arg1 m c i)) ∧ ∀ i, IsReal (arg2 m c i) := by
  have e := congrFun (hp c) (Shape.Idx.first Pre_attn_fwd_finite.Facts.h_S_)
  simp only [Pre_attn_fwd_finite.fn] at e
  obtain ⟨e, e2⟩ := IntOp.andi_eq_one.mp e
  obtain ⟨e0, e1⟩ := IntOp.andi_eq_one.mp e
  exact ⟨isReal_of_bounded _ _ _ _ _ _ e0, isReal_of_bounded _ _ _ _ _ _ e1, isReal_of_bounded _ _ _ _ _ _ e2⟩

section
open Cert.ReferenceAttnFwdIdeal Cert.ReferenceAttnFwdIdeal.Gen

/-- The result and the logarithm over the arguments: by the scores, their row maxima and the weights these give. -/
def result (a0 a1 : FVec Ideal S1x4096x4x192 .f32) (a2 : FVec Ideal S1x4096x4x128 .f32) : FVec Ideal S4096x512 .f32 :=
  Cert.KernelAttnIdeal.Run.res (Cert.KernelAttnIdeal.Run.wts (AttnRef.scores (F := Ideal) a0 a1) (AttnRef.top (F := Ideal) a0 a1)) a2
def logarithm (a0 a1 : FVec Ideal S1x4096x4x192 .f32) : FVec Ideal S4x4096x128 .f32 :=
  Cert.KernelAttnIdeal.Run.lse (Cert.KernelAttnIdeal.Run.wts (AttnRef.scores (F := Ideal) a0 a1) (AttnRef.top (F := Ideal) a0 a1)) (AttnRef.top (F := Ideal) a0 a1)

theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v24)
        = result (m ((c.tc : Thread nD τ).loc main_arg0)) (m ((c.tc : Thread nD τ).loc main_arg1)) (m ((c.tc : Thread nD τ).loc main_arg2))
      ∧ r.2.mem ((c.tc : Thread nD τ).loc main_v27) = logarithm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans rfl, (h c).2.1.trans rfl, (h c).2.2⟩) (Value.run (F := Ideal) m ρ)

end

section
open Cert.KernelAttnFwdIdeal Cert.KernelAttnFwdIdeal.Gen Cert.KernelAttnFwdIdeal.Run

theorem run_kernel (m : (ℓ : Loc nD τ sig) → Buf (Elt Ideal) ℓ) (ρ : Dev nD → PrngReg) (hp : Cert.Pre_KernelAttnFwdIdeal_attn_fwd_finite m) :
    θ_run defs (onTc (τ := τ) (main (F := Ideal))) ⟨m, fun _ => 0, ρ⟩ (fun r => ∀ c : Dev nD,
      r.2.mem ((c.tc : Thread nD τ).loc main_v10_0) = result (arg0 m c) (arg1 m c) (arg2 m c)
      ∧ r.2.mem ((c.tc : Thread nD τ).loc main_v10_1) = logarithm (arg0 m c) (arg1 m c)
      ∧ r.2.mem ((c.tc : Thread nD τ).loc main_arg0) = arg0 m c
      ∧ r.2.mem ((c.tc : Thread nD τ).loc main_arg1) = arg1 m c
      ∧ r.2.mem ((c.tc : Thread nD τ).loc main_arg2) = arg2 m c) := by
  have hr := real_of_pre m hp
  refine (θ_run defs _ _).mono (fun r h c => ⟨(h c).1.trans (o_eq m c (hr c).1 (hr c).2.1 (hr c).2.2), (h c).2.1.trans (l_eq m c), (h c).2.2⟩)
    (run_arrays m ρ (fun c i => ?_) (fun c i => ?_) (fun c i => ?_))
  · rw [V_q]; exact padded_real _ (hr c).1 i
  · rw [V_k]; exact padded_real _ (hr c).2.1 i
  · rw [V_v]; exact flat_real _ (hr c).2.2 i

theorem value : Cert.algebraic_KernelAttnFwdIdeal_ReferenceAttnFwdIdeal_pre_attn_fwd_finite := fun m g m' g' hpre hagree =>
  ⟨fun c => result (arg0 m c) (arg1 m c) (arg2 m c), fun c => logarithm (arg0 m c) (arg1 m c), run_kernel m g hpre,
    (θ_run Cert.ReferenceAttnFwdIdeal.defs _ _).mono
      (fun r h c => ⟨(h c).1.trans (by rw [(hagree c).1, (hagree c).2.1, (hagree c).2.2]), (h c).2.1.trans (by rw [(hagree c).1, (hagree c).2.1]), (h c).2.2⟩)
      (run_reference m' g')⟩

end

end Cert.Proof.AttnFwd

end
-- ==== Proof.SsmPrepFwd.lean ====
/-
  The discretisation (`ssm_prep_fwd`): a grid point spreads its eight groups' poles over the lanes and its rows' weights over
  the lanes of their own group, with products against one-hot matrices. The reference lays the groups out as axes.
-/
module

public import proofs.«01_k».proof.Defs
public import proofs.«01_k».proof.Proof.Gen.KernelSsmPrepFwd
public import proofs.«01_k».proof.Proof.Gen.KernelSsmPrepFwd.Frame
public import proofs.«01_k».proof.Proof.Gen.KernelSsmPrepFwdIdeal.Frame
public import proofs.«01_k».proof.Proof.Gen.ReferenceSsmPrepFwdIdeal.Run
public import proofs.«01_k».proof.Proof.SsmPrepEntries
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open scoped BigOperators

namespace Cert.Proof.SsmPrepFwd
open Cert.Proof.SsmPrep (dec co si nr im numR numI coefR coefI hot sum_pick word_and word_lane word_row word_group)

section
open Cert.KernelSsmPrepFwdIdeal Cert.KernelSsmPrepFwdIdeal.Gen

/-! ## What both programs compute -/

/-- A value per group and state, in the eight equal rows of the lanes. -/
def lanes (f : Fin 32 → Fin 64 → EReal) : Vec Ideal S8x2048 .f32 := fun j =>
  f ⟨(j 1).val / 64, by have := (j 1).isLt; change _ < 2048 at this; omega⟩ ⟨(j 1).val % 64, by omega⟩

/-- A value per row and state, in the lanes of the row's own group, zero in the other lanes. -/
def dense (f : Fin 512 → Fin 64 → EReal) : Vec Ideal S4x128x512 .bf16 := fun j =>
  f ⟨(j 0).val * 128 + (j 1).val, by have h0 := (j 0).isLt; have h1 := (j 1).isLt; change _ < 4 at h0; change _ < 128 at h1; omega⟩ ⟨(j 2).val % 64, by omega⟩
    * if (j 1).val / 16 = (j 2).val / 64 then 1 else 0

def negated (x : Vec Ideal S512x64 .f32) (r : Fin 512) (s : Fin 64) : EReal := -x (ix2 r s)

section
variable (a b : Vec Ideal S32x64 .f32) (l : Vec Ideal S32x1 .f32) (br bi : Vec Ideal S512x64 .f32)

def poleRe (g : Fin 32) (s : Fin 64) : EReal := dec (a (ix2 g s)) (l (ix2 g 0)) * co (b (ix2 g s)) (l (ix2 g 0))
def poleIm (g : Fin 32) (s : Fin 64) : EReal := dec (a (ix2 g s)) (l (ix2 g 0)) * si (b (ix2 g s)) (l (ix2 g 0))
def cRe (r : Fin 512) (s : Fin 64) : EReal :=
  coefR (a (ix2 ⟨r.val / 16, by omega⟩ s)) (b (ix2 ⟨r.val / 16, by omega⟩ s)) (l (ix2 ⟨r.val / 16, by omega⟩ 0))
def cIm (r : Fin 512) (s : Fin 64) : EReal :=
  coefI (a (ix2 ⟨r.val / 16, by omega⟩ s)) (b (ix2 ⟨r.val / 16, by omega⟩ s)) (l (ix2 ⟨r.val / 16, by omega⟩ 0))
def weightRe (r : Fin 512) (s : Fin 64) : EReal := cRe a b l r s * br (ix2 r s) - cIm a b l r s * bi (ix2 r s)
def weightIm (r : Fin 512) (s : Fin 64) : EReal := cRe a b l r s * bi (ix2 r s) + cIm a b l r s * br (ix2 r s)
end

/-! ## The one-hot matrices -/

theorem til_apply (s : Fin 64) (q : Fin 512) : k0_pay6 (F := Ideal) (ix2 s q) = if q.val % 64 = s.val then 1 else 0 := by
  pointwise [k0_pay6]
  rw [word_and q, hot (by omega) (by omega)]

theorem rows_apply (r : Fin 128) (q : Fin 512) : k0_pay7 (F := Ideal) (ix2 r q) = if r.val / 16 = q.val / 64 then 1 else 0 := by
  pointwise [k0_pay7]
  rw [word_lane q, word_row r, hot (by omega) (by omega)]

theorem grp_apply (i : grid0.Coords) (g : Fin 32) (q : Fin 512) :
    k0_pay9 (F := Ideal) (iota .tc S32x512 32 [0] iota_S32x512_d0_w32) (k0_pay8 i) (ix2 g q) = if g.val = q.val / 64 + (i 0).val * 8 then 1 else 0 := by
  have hi : (i 0).val < 4 := (i 0).isLt
  pointwise [k0_pay9, k0_pay8]
  rw [word_lane q, word_group ⟨q.val / 64, by omega⟩ ⟨(i 0).val, hi⟩, hot (by omega) (by dsimp only; omega)]

theorem rep_apply (i : grid0.Coords) (r : Fin 128) (g : Fin 32) : k0_pay5 (F := Ideal) i (ix2 r g) = if r.val / 16 + (i 0).val * 8 = g.val then 1 else 0 := by
  have hi : (i 0).val < 4 := (i 0).isLt
  pointwise [k0_pay5]
  rw [word_row r, word_group ⟨r.val / 16, by omega⟩ ⟨(i 0).val, hi⟩, hot (by dsimp only; omega) (by omega)]

/-- A sum over the states against a lane's own. -/
theorem pick_state (f : Fin 64 → EReal) (q : Fin 512) : ∑ s : Fin 64, f s * k0_pay6 (F := Ideal) (ix2 s q) = f ⟨q.val % 64, by omega⟩ :=
  sum_pick f ⟨q.val % 64, by omega⟩ (by rw [til_apply, if_pos rfl]) fun s h => by rw [til_apply, if_neg fun e => h (Fin.ext e.symm)]

variable (i : grid0.Coords) (a b : Vec Ideal S32x64 .f32) (l : Vec Ideal S32x1 .f32) (br bi : Vec Ideal S128x64 .f32)

/-- A sum over the groups against a lane's own. -/
theorem pick_lane (f : Fin 32 → EReal) (q : Fin 512) (k : Fin 32) (hk : k.val = q.val / 64 + (i 0).val * 8) :
    ∑ g : Fin 32, f g * k0_pay9 (F := Ideal) (iota .tc S32x512 32 [0] iota_S32x512_d0_w32) (k0_pay8 i) (ix2 g q) = f k :=
  sum_pick f k (by rw [grp_apply, if_pos hk]) fun g h => by rw [grp_apply, if_neg fun e => h (Fin.ext (e.trans hk.symm))]

/-- A sum over the groups against a row's own. -/
theorem pick_row (f : Fin 32 → EReal) (r : Fin 128) (k : Fin 32) (hk : k.val = r.val / 16 + (i 0).val * 8) :
    ∑ g : Fin 32, k0_pay5 (F := Ideal) i (ix2 r g) * f g = f k := by
  simp only [mul_comm (k0_pay5 (F := Ideal) i _)]
  exact sum_pick f k (by rw [rep_apply, if_pos hk.symm]) fun g h => by rw [rep_apply, if_neg fun e => h (Fin.ext (e.symm.trans hk.symm))]

/-! ## What one point stores -/

theorem step_re (k : Fin 8) (q : Fin 512) (g : Fin 32) (hg : g.val = q.val / 64 + (i 0).val * 8) :
    k0_pay18 (F := Ideal) a b l k0_pay6 (iota .tc S32x512 32 [0] iota_S32x512_d0_w32) (k0_pay8 i) (ix2 k q) = poleRe a b l g ⟨q.val % 64, by omega⟩ := by
  pointwise [k0_pay18]
  simp only [pick_state]
  rw [pick_lane i (fun g => k0_pay12 (F := Ideal) a b l (ix2 g ⟨q.val % 64, _⟩)) q g hg]
  pointwise [k0_pay12, k0_pay11, k0_pay10, poleRe, dec, co]

theorem step_im (k : Fin 8) (q : Fin 512) (g : Fin 32) (hg : g.val = q.val / 64 + (i 0).val * 8) :
    k0_pay19 (F := Ideal) a b l k0_pay6 (iota .tc S32x512 32 [0] iota_S32x512_d0_w32) (k0_pay8 i) (ix2 k q) = poleIm a b l g ⟨q.val % 64, by omega⟩ := by
  pointwise [k0_pay19]
  simp only [pick_state]
  rw [pick_lane i (fun g => k0_pay13 (F := Ideal) a b l (ix2 g ⟨q.val % 64, _⟩)) q g hg]
  pointwise [k0_pay13, k0_pay11, k0_pay10, poleIm, dec, si]

theorem step_cRe (r : Fin 128) (s : Fin 64) (k : Fin 32) (hk : k.val = r.val / 16 + (i 0).val * 8) :
    k0_pay16 (F := Ideal) a b l (k0_pay5 i) (ix2 r s) = coefR (a (ix2 k s)) (b (ix2 k s)) (l (ix2 k 0)) := by
  pointwise [k0_pay16]
  rw [pick_row i (fun x => Ideal.div (k0_pay15 (F := Ideal) a b l (ix2 x s) * a (ix2 x s) + k0_pay13 (F := Ideal) a b l (ix2 x s) * b (ix2 x s)) (k0_pay14 (F := Ideal) a b (ix2 x s))) r k hk]
  pointwise [k0_pay15, k0_pay14, k0_pay13, k0_pay12, k0_pay11, k0_pay10, coefR, numR, SsmPrep.norm, nr, im, dec, co, si]

theorem step_cIm (r : Fin 128) (s : Fin 64) (k : Fin 32) (hk : k.val = r.val / 16 + (i 0).val * 8) :
    k0_pay17 (F := Ideal) a b l (k0_pay5 i) (ix2 r s) = coefI (a (ix2 k s)) (b (ix2 k s)) (l (ix2 k 0)) := by
  pointwise [k0_pay17]
  rw [pick_row i (fun x => Ideal.div (k0_pay13 (F := Ideal) a b l (ix2 x s) * a (ix2 x s) - k0_pay15 (F := Ideal) a b l (ix2 x s) * b (ix2 x s)) (k0_pay14 (F := Ideal) a b (ix2 x s))) r k hk]
  pointwise [k0_pay15, k0_pay14, k0_pay13, k0_pay12, k0_pay11, k0_pay10, coefI, numI, SsmPrep.norm, nr, im, dec, co, si]

theorem step_weightRe (r : Fin 128) (q : Fin 512) (k : Fin 32) (hk : k.val = r.val / 16 + (i 0).val * 8) (s : Fin 64) (hs : s = ⟨q.val % 64, by omega⟩) :
    k0_pay1 (F := Ideal) (k0_pay20 a b l br bi (k0_pay5 i) k0_pay6 k0_pay7) (ix3 0 r q)
      = (coefR (a (ix2 k s)) (b (ix2 k s)) (l (ix2 k 0)) * br (ix2 r s) - coefI (a (ix2 k s)) (b (ix2 k s)) (l (ix2 k 0)) * bi (ix2 r s))
        * if r.val / 16 = q.val / 64 then 1 else 0 := by
  subst hs
  pointwise [k0_pay1, k0_pay20]
  rw [pick_state (fun s => k0_pay16 (F := Ideal) a b l (k0_pay5 i) (ix2 r s) * br (ix2 r s) - k0_pay17 (F := Ideal) a b l (k0_pay5 i) (ix2 r s) * bi (ix2 r s)),
    step_cRe i a b l r _ k hk, step_cIm i a b l r _ k hk, rows_apply]

theorem step_weightIm (r : Fin 128) (q : Fin 512) (k : Fin 32) (hk : k.val = r.val / 16 + (i 0).val * 8) (s : Fin 64) (hs : s = ⟨q.val % 64, by omega⟩) :
    k0_pay2 (F := Ideal) k0_pay7 (k0_pay21 a b l br bi (k0_pay5 i) k0_pay6) (ix3 0 r q)
      = (coefR (a (ix2 k s)) (b (ix2 k s)) (l (ix2 k 0)) * bi (ix2 r s) + coefI (a (ix2 k s)) (b (ix2 k s)) (l (ix2 k 0)) * br (ix2 r s))
        * if r.val / 16 = q.val / 64 then 1 else 0 := by
  subst hs
  pointwise [k0_pay2, k0_pay21]
  rw [pick_state (fun s => k0_pay16 (F := Ideal) a b l (k0_pay5 i) (ix2 r s) * bi (ix2 r s) + k0_pay17 (F := Ideal) a b l (k0_pay5 i) (ix2 r s) * br (ix2 r s)),
    step_cRe i a b l r _ k hk, step_cIm i a b l r _ k hk, rows_apply]

theorem step_outRe (r : Fin 128) (q : Fin 512) :
    k0_pay3 (F := Ideal) br k0_pay6 k0_pay7 (ix3 0 r q) = br (ix2 r ⟨q.val % 64, by omega⟩) * if r.val / 16 = q.val / 64 then 1 else 0 := by
  pointwise [k0_pay3]
  rw [pick_state (fun s => br (ix2 r s)), rows_apply]

theorem step_outIm (r : Fin 128) (q : Fin 512) :
    k0_pay4 (F := Ideal) br k0_pay6 k0_pay7 (ix3 0 r q) = -br (ix2 r ⟨q.val % 64, by omega⟩) * if r.val / 16 = q.val / 64 then 1 else 0 := by
  pointwise [k0_pay4]
  rw [pick_state (fun s => br (ix2 r s)), rows_apply, zero_sub, neg_mul]

/-! ## The arrays after all points -/

variable (m : (ℓ : Loc nD τ sig) → Buf (Elt Ideal) ℓ) (c : Dev nD)

theorem coord : ∀ t : Fin cfg0.N, (grid0.coords t 0).val = t.val := (by decide +kernel : ∀ t : Fin grid0.N, _)

/-- Every window's block index at a grid point. -/
theorem idx : ∀ t : Fin cfg0.N, win0_0.index t = ![0, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, t.val] ∧ win0_8.index t = ![0, t.val]
    ∧ win0_9.index t = ![t.val, 0, 0] ∧ win0_10.index t = ![t.val, 0, 0] ∧ win0_11.index t = ![t.val, 0, 0] ∧ win0_12.index t = ![t.val, 0, 0] :=
  (by decide +kernel : ∀ t : Fin grid0.N, _)

/-- The arguments. -/
abbrev aRe : Vec Ideal S32x64 .f32 := m ((c : Thread nD τ).loc main_arg0)
abbrev aIm : Vec Ideal S32x64 .f32 := m ((c : Thread nD τ).loc main_arg1)
abbrev logDt : Vec Ideal S32x1 .f32 := m ((c : Thread nD τ).loc main_arg2)
abbrev btRe : Vec Ideal S512x64 .f32 := m ((c : Thread nD τ).loc main_arg3)
abbrev btIm : Vec Ideal S512x64 .f32 := m ((c : Thread nD τ).loc main_arg4)
abbrev ctRe : Vec Ideal S512x64 .f32 := m ((c : Thread nD τ).loc main_arg5)
abbrev ctIm : Vec Ideal S512x64 .f32 := m ((c : Thread nD τ).loc main_arg6)

theorem blk0 (t : Fin cfg0.N) (g : Fin 32) (s : Fin 64) : (iblk m c 0 t : Vec Ideal S32x64 .f32) (ix2 g s) = aRe m c (ix2 g s) := by
  blk_point [iblk, V, idx t]
theorem blk1 (t : Fin cfg0.N) (g : Fin 32) (s : Fin 64) : (iblk m c 1 t : Vec Ideal S32x64 .f32) (ix2 g s) = aIm m c (ix2 g s) := by
  blk_point [iblk, V, idx t]
theorem blk2 (t : Fin cfg0.N) (g : Fin 32) (s : Fin 1) : (iblk m c 2 t : Vec Ideal S32x1 .f32) (ix2 g s) = logDt m c (ix2 g s) := by
  blk_point [iblk, V, idx t]

/-- The point's row `r` among all rows. -/
abbrev row (t : Fin cfg0.N) (r : Fin 128) : Fin 512 := ⟨t.val * 128 + r.val, by have : t.val < 4 := t.isLt; omega⟩

theorem blk3 (t : Fin cfg0.N) (r : Fin 128) (s : Fin 64) : (iblk m c 3 t : Vec Ideal S128x64 .f32) (ix2 r s) = btRe m c (ix2 (row t r) s) := by
  blk_point [iblk, V, idx t]
theorem blk4 (t : Fin cfg0.N) (r : Fin 128) (s : Fin 64) : (iblk m c 4 t : Vec Ideal S128x64 .f32) (ix2 r s) = btIm m c (ix2 (row t r) s) := by
  blk_point [iblk, V, idx t]
theorem blk5 (t : Fin cfg0.N) (r : Fin 128) (s : Fin 64) : (iblk m c 5 t : Vec Ideal S128x64 .f32) (ix2 r s) = ctRe m c (ix2 (row t r) s) := by
  blk_point [iblk, V, idx t]
theorem blk6 (t : Fin cfg0.N) (r : Fin 128) (s : Fin 64) : (iblk m c 6 t : Vec Ideal S128x64 .f32) (ix2 r s) = ctIm m c (ix2 (row t r) s) := by
  blk_point [iblk, V, idx t]

/-- The array of the poles, at a point's block. -/
theorem lanes_at (f : Fin 32 → Fin 64 → EReal) (t : Fin cfg0.N) (k : Fin 8) (q : Fin 512) (h : t.val * 512 + q.val < 2048) :
    lanes f (ix2 k ⟨t.val * 512 + q.val, h⟩) = f ⟨q.val / 64 + t.val * 8, by omega⟩ ⟨q.val % 64, by omega⟩ := by
  show f ⟨(t.val * 512 + q.val) / 64, _⟩ ⟨(t.val * 512 + q.val) % 64, _⟩ = _
  exact congrArg₂ f (Fin.ext (by dsimp only; omega)) (Fin.ext (by dsimp only; omega))

/-- The group of a point's row. -/
theorem group_row (t : Fin cfg0.N) (r : Fin 128) : (row t r).val / 16 = r.val / 16 + t.val * 8 := by dsimp only; omega

theorem final_re : (dats m 0 c).arrAt 7 (cfgs 0).N = lanes (poleRe (aRe m c) (aIm m c) (logDt m c)) := by
  refine (dats m 0 c).arrAt_eq_of_covers 7 _ (by decide +kernel) fun t hf y => ?_
  blk_simp
  rw [after0_7]
  obtain ⟨k, q, rfl⟩ : ∃ (k : Fin 8) (q : Fin 512), y = ix2 k q := ⟨y 0, y 1, eq_ix2 y⟩
  have hN : t.val < 4 := t.isLt
  have e : ∀ X : Vec Ideal S8x2048 .f32, X ((win0_7.blk t).view.emb (ix2 k q)) = X (ix2 k ⟨t.val * 512 + q.val, by omega⟩) := fun X => by blk_point [idx t]
  refine Eq.trans ?_ ((e _).trans (lanes_at _ t k q _)).symm
  unfold_out out0_7; frame_out
  refine (step_re (grid0.coords t) _ _ _ k q ⟨q.val / 64 + t.val * 8, by omega⟩ (by rw [coord t])).trans ?_
  simp only [poleRe, blk0, blk1, blk2]

theorem final_im : (dats m 0 c).arrAt 8 (cfgs 0).N = lanes (poleIm (aRe m c) (aIm m c) (logDt m c)) := by
  refine (dats m 0 c).arrAt_eq_of_covers 8 _ (by decide +kernel) fun t hf y => ?_
  blk_simp
  rw [after0_8]
  obtain ⟨k, q, rfl⟩ : ∃ (k : Fin 8) (q : Fin 512), y = ix2 k q := ⟨y 0, y 1, eq_ix2 y⟩
  have hN : t.val < 4 := t.isLt
  have e : ∀ X : Vec Ideal S8x2048 .f32, X ((win0_8.blk t).view.emb (ix2 k q)) = X (ix2 k ⟨t.val * 512 + q.val, by omega⟩) := fun X => by blk_point [idx t]
  refine Eq.trans ?_ ((e _).trans (lanes_at _ t k q _)).symm
  unfold_out out0_8; frame_out
  refine (step_im (grid0.coords t) _ _ _ k q ⟨q.val / 64 + t.val * 8, by omega⟩ (by rw [coord t])).trans ?_
  simp only [poleIm, blk0, blk1, blk2]

theorem final_bRe : (dats m 0 c).arrAt 9 (cfgs 0).N = dense (weightRe (aRe m c) (aIm m c) (logDt m c) (btRe m c) (btIm m c)) := by
  refine (dats m 0 c).arrAt_eq_of_covers 9 _ (by decide +kernel) fun t hf y => ?_
  blk_simp
  rw [after0_9]
  obtain ⟨r, q, rfl⟩ : ∃ (r : Fin 128) (q : Fin 512), y = ix3 0 r q := ⟨y 1, y 2, (eq_ix3 y).trans (congrArg (fun x => ix3 x (y 1) (y 2)) (Subsingleton.elim (α := Fin 1) _ _))⟩
  have e : ∀ X : Vec Ideal S4x128x512 .bf16, X ((win0_9.blk t).view.emb (ix3 0 r q)) = X (ix3 ⟨t.val, t.isLt⟩ r q) := fun X => by blk_point [idx t]
  refine Eq.trans ?_ (e _).symm
  unfold_out out0_9; frame_out
  refine (step_weightRe (grid0.coords t) _ _ _ _ _ r q ⟨(row t r).val / 16, by omega⟩ (by rw [coord t]; exact group_row t r) ⟨q.val % 64, by omega⟩ rfl).trans ?_
  simp only [dense, weightRe, cRe, cIm, blk0, blk1, blk2, blk3, blk4]
  rfl

theorem final_bIm : (dats m 0 c).arrAt 10 (cfgs 0).N = dense (weightIm (aRe m c) (aIm m c) (logDt m c) (btRe m c) (btIm m c)) := by
  refine (dats m 0 c).arrAt_eq_of_covers 10 _ (by decide +kernel) fun t hf y => ?_
  blk_simp
  rw [after0_10]
  obtain ⟨r, q, rfl⟩ : ∃ (r : Fin 128) (q : Fin 512), y = ix3 0 r q := ⟨y 1, y 2, (eq_ix3 y).trans (congrArg (fun x => ix3 x (y 1) (y 2)) (Subsingleton.elim (α := Fin 1) _ _))⟩
  have e : ∀ X : Vec Ideal S4x128x512 .bf16, X ((win0_10.blk t).view.emb (ix3 0 r q)) = X (ix3 ⟨t.val, t.isLt⟩ r q) := fun X => by blk_point [idx t]
  refine Eq.trans ?_ (e _).symm
  unfold_out out0_10; frame_out
  refine (step_weightIm (grid0.coords t) _ _ _ _ _ r q ⟨(row t r).val / 16, by omega⟩ (by rw [coord t]; exact group_row t r) ⟨q.val % 64, by omega⟩ rfl).trans ?_
  simp only [dense, weightIm, cRe, cIm, blk0, blk1, blk2, blk3, blk4]
  rfl

theorem final_cRe : (dats m 0 c).arrAt 11 (cfgs 0).N = dense (fun r s => ctRe m c (ix2 r s)) := by
  refine (dats m 0 c).arrAt_eq_of_covers 11 _ (by decide +kernel) fun t hf y => ?_
  blk_simp
  rw [after0_11]
  obtain ⟨r, q, rfl⟩ : ∃ (r : Fin 128) (q : Fin 512), y = ix3 0 r q := ⟨y 1, y 2, (eq_ix3 y).trans (congrArg (fun x => ix3 x (y 1) (y 2)) (Subsingleton.elim (α := Fin 1) _ _))⟩
  have e : ∀ X : Vec Ideal S4x128x512 .bf16, X ((win0_11.blk t).view.emb (ix3 0 r q)) = X (ix3 ⟨t.val, t.isLt⟩ r q) := fun X => by blk_point [idx t]
  refine Eq.trans ?_ (e _).symm
  unfold_out out0_11; frame_out
  refine (step_outRe _ r q).trans ?_
  simp only [dense, blk5]
  rfl

theorem final_cIm : (dats m 0 c).arrAt 12 (cfgs 0).N = dense (negated (ctIm m c)) := by
  refine (dats m 0 c).arrAt_eq_of_covers 12 _ (by decide +kernel) fun t hf y => ?_
  blk_simp
  rw [after0_12]
  obtain ⟨r, q, rfl⟩ : ∃ (r : Fin 128) (q : Fin 512), y = ix3 0 r q := ⟨y 1, y 2, (eq_ix3 y).trans (congrArg (fun x => ix3 x (y 1) (y 2)) (Subsingleton.elim (α := Fin 1) _ _))⟩
  have e : ∀ X : Vec Ideal S4x128x512 .bf16, X ((win0_12.blk t).view.emb (ix3 0 r q)) = X (ix3 ⟨t.val, t.isLt⟩ r q) := fun X => by blk_point [idx t]
  refine Eq.trans ?_ (e _).symm
  unfold_out out0_12; frame_out
  refine (step_outIm _ r q).trans ?_
  simp only [dense, negated, blk6]
  rfl

/-- What the program ends holding. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v0_0) = lanes (poleRe (aRe m c) (aIm m c) (logDt m c))
      ∧ r.2.mem ((c.tc : Thread nD τ).loc main_v0_1) = lanes (poleIm (aRe m c) (aIm m c) (logDt m c))
      ∧ r.2.mem ((c.tc : Thread nD τ).loc main_v0_2) = dense (weightRe (aRe m c) (aIm m c) (logDt m c) (btRe m c) (btIm m c))
      ∧ r.2.mem ((c.tc : Thread nD τ).loc main_v0_3) = dense (weightIm (aRe m c) (aIm m c) (logDt m c) (btRe m c) (btIm m c))
      ∧ r.2.mem ((c.tc : Thread nD τ).loc main_v0_4) = dense (fun r s => ctRe m c (ix2 r s))
      ∧ r.2.mem ((c.tc : Thread nD τ).loc main_v0_5) = dense (negated (ctIm m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (final_re m c), ((h.1 c).1 8).trans (final_im m c), ((h.1 c).1 9).trans (final_bRe m c),
      ((h.1 c).1 10).trans (final_bIm m c), ((h.1 c).1 11).trans (final_cRe m c), ((h.1 c).1 12).trans (final_cIm m c), h.2 c⟩)
    (θ_run_and (run_main m ρ) (unchanged m ρ))

end

section
open Cert.ReferenceSsmPrepFwdIdeal Cert.ReferenceSsmPrepFwdIdeal.Gen

/-! ## The reference -/

variable (a b : FVec Ideal S32x64 .f32) (l : FVec Ideal S32x1 .f32) (x y : FVec Ideal S512x64 .f32)

def stepOf : FVec Ideal S32x64 .f32 := broadcastInDim S32x64 ![0, 1] bcast_S32x1_S32x64_0_1 (Host.exp l)
def refRe : FVec Ideal S32x64 .f32 := mulf (Host.exp (mulf a (stepOf l))) (Host.cos (mulf b (stepOf l)))
def refIm : FVec Ideal S32x64 .f32 := mulf (Host.exp (mulf a (stepOf l))) (Host.sin (mulf b (stepOf l)))
def refNr : FVec Ideal S32x64 .f32 := subf (refRe a b l) (broadcastInDim S32x64 ![] bcast_S_S32x64 (constant S_ .f32 0x3F800000#32))
def refNorm : FVec Ideal S32x64 .f32 := addf (mulf a a) (mulf b b)
/-- A value per group and state, at every row. -/
def perRow (v : FVec Ideal S32x64 .f32) : FVec Ideal S32x16x64 .f32 :=
  broadcastInDim S32x16x64 ![0, 1, 2] bcast_S32x1x64_S32x16x64_0_1_2 (broadcastInDim S32x1x64 ![0, 2] bcast_S32x64_S32x1x64_0_2 v)
def refCR : FVec Ideal S32x16x64 .f32 := perRow (Host.divf (addf (mulf (refNr a b l) a) (mulf (refIm a b l) b)) (refNorm a b))
def refCI : FVec Ideal S32x16x64 .f32 := perRow (Host.divf (subf (mulf (refIm a b l) a) (mulf (refNr a b l) b)) (refNorm a b))
def grouped : FVec Ideal S32x16x64 .f32 := shapeCast _ x shapeCasts_S512x64_S32x16x64
def refBR : FVec Ideal S32x16x64 .f32 := subf (mulf (refCR a b l) (grouped x)) (mulf (refCI a b l) (grouped y))
def refBI : FVec Ideal S32x16x64 .f32 := addf (mulf (refCR a b l) (grouped y)) (mulf (refCI a b l) (grouped x))
def refLanes (v : FVec Ideal S32x64 .f32) : FVec Ideal S8x2048 .f32 :=
  broadcastInDim S8x2048 ![0, 1] bcast_S1x2048_S8x2048_0_1 (shapeCast _ v shapeCasts_S32x64_S1x2048)
def refDense (v : FVec Ideal S32x16x64 .f32) : FVec Ideal S4x128x512 .bf16 :=
  truncf .bf16 (shapeCast _ (mulf (broadcastInDim S4x8x16x8x64 ![0, 1, 2, 3, 4] bcast_S4x8x16x1x64_S4x8x16x8x64_0_1_2_3_4 (shapeCast _ v shapeCasts_S32x16x64_S4x8x16x1x64))
    (broadcastInDim S4x8x16x8x64 ![0, 1, 2, 3, 4] bcast_S1x8x1x8x1_S4x8x16x8x64_0_1_2_3_4 (broadcastInDim S1x8x1x8x1 ![1, 3] bcast_S8x8_S1x8x1x8x1_1_3
      (uitofp .f32 (cmpi .eq (addi (iotaInDim S8x8 32 0) (broadcastInDim S8x8 ![] bcast_S_S8x8 (constantI S_ 32 0#32))) (iotaInDim S8x8 32 1))))))
    shapeCasts_S4x8x16x8x64_S4x128x512) bitsLt_bf16_f32

theorem lanes_eq (v : FVec Ideal S32x64 .f32) (f : Fin 32 → Fin 64 → EReal) (h : ∀ g s, v (ix2 g s) = f g s) : refLanes v = lanes f := by
  funext j
  obtain ⟨k, q, rfl⟩ : ∃ (k : Fin 8) (q : Fin 2048), j = ix2 k q := ⟨j 0, j 1, eq_ix2 j⟩
  refine Eq.trans ?_ (h _ _)
  pointwise [refLanes]

theorem dense_eq (v : FVec Ideal S32x16x64 .f32) (f : Fin 512 → Fin 64 → EReal)
    (h : ∀ (r : Fin 512) (s : Fin 64), v (ix3 ⟨r.val / 16, by omega⟩ ⟨r.val % 16, by omega⟩ s) = f r s) : refDense v = dense f := by
  funext j
  obtain ⟨t, r, q, rfl⟩ : ∃ (t : Fin 4) (r : Fin 128) (q : Fin 512), j = ix3 t r q := ⟨j 0, j 1, j 2, eq_ix3 j⟩
  show _ = f ⟨t.val * 128 + r.val, _⟩ ⟨q.val % 64, _⟩ * if r.val / 16 = q.val / 64 then 1 else 0
  rw [← h]
  pointwise [refDense]
  rw [SsmPrepRun.ownWord (by omega) (by omega)]
  simp only [(by omega : (t.val * 128 + r.val) / 16 = t.val * 8 + r.val / 16), (by omega : (t.val * 128 + r.val) % 16 = r.val % 16)]

theorem entry_re (g : Fin 32) (s : Fin 64) : refRe a b l (ix2 g s) = poleRe a b l g s := by
  pointwise [refRe, stepOf, poleRe, dec, co]
theorem entry_im (g : Fin 32) (s : Fin 64) : refIm a b l (ix2 g s) = poleIm a b l g s := by
  pointwise [refIm, stepOf, poleIm, dec, si]
theorem entry_bRe (r : Fin 512) (s : Fin 64) : refBR a b l x y (ix3 ⟨r.val / 16, by omega⟩ ⟨r.val % 16, by omega⟩ s) = weightRe a b l x y r s := by
  pointwise [refBR, refCR, refCI, perRow, grouped, refNr, refNorm, refRe, refIm, stepOf, weightRe, cRe, cIm, coefR, coefI, numR, numI, SsmPrep.norm, nr, im, dec, co, si]
theorem entry_bIm (r : Fin 512) (s : Fin 64) : refBI a b l x y (ix3 ⟨r.val / 16, by omega⟩ ⟨r.val % 16, by omega⟩ s) = weightIm a b l x y r s := by
  pointwise [refBI, refCR, refCI, perRow, grouped, refNr, refNorm, refRe, refIm, stepOf, weightIm, cRe, cIm, coefR, coefI, numR, numI, SsmPrep.norm, nr, im, dec, co, si]
theorem entry_group (r : Fin 512) (s : Fin 64) : grouped x (ix3 ⟨r.val / 16, by omega⟩ ⟨r.val % 16, by omega⟩ s) = x (ix2 r s) := by
  pointwise [grouped]
theorem entry_neg (r : Fin 512) (s : Fin 64) : Host.negf (grouped x) (ix3 ⟨r.val / 16, by omega⟩ ⟨r.val % 16, by omega⟩ s) = negated x r s := by
  pointwise [grouped, negated]

variable (m : (ℓ : Loc nD τ sig) → Buf (Elt Ideal) ℓ)

theorem run_reference (ρ : Dev nD → PrngReg) :
    θ_run defs (onTc (τ := τ) (main (F := Ideal))) ⟨m, fun _ => 0, ρ⟩ (fun r => ∀ c : Dev nD,
      r.2.mem ((c.tc : Thread nD τ).loc main_v49) = lanes (poleRe (m ((c.tc : Thread nD τ).loc main_arg0)) (m ((c.tc : Thread nD τ).loc main_arg1)) (m ((c.tc : Thread nD τ).loc main_arg2)))
      ∧ r.2.mem ((c.tc : Thread nD τ).loc main_v51) = lanes (poleIm (m ((c.tc : Thread nD τ).loc main_arg0)) (m ((c.tc : Thread nD τ).loc main_arg1)) (m ((c.tc : Thread nD τ).loc main_arg2)))
      ∧ r.2.mem ((c.tc : Thread nD τ).loc main_v75) = dense (weightRe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v76) = dense (weightIm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v77) = dense (fun r s => m ((c.tc : Thread nD τ).loc main_arg5) (ix2 r s))
      ∧ r.2.mem ((c.tc : Thread nD τ).loc main_v78) = dense (negated (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (lanes_eq (refRe _ _ _) _ (entry_re _ _ _)), (h c).2.1.trans (lanes_eq (refIm _ _ _) _ (entry_im _ _ _)),
      (h c).2.2.1.trans (dense_eq (refBR _ _ _ _ _) _ (entry_bRe _ _ _ _ _)), (h c).2.2.2.1.trans (dense_eq (refBI _ _ _ _ _) _ (entry_bIm _ _ _ _ _)),
      (h c).2.2.2.2.1.trans (dense_eq (grouped _) _ (entry_group _)), (h c).2.2.2.2.2.1.trans (dense_eq (Host.negf (grouped _)) _ (entry_neg _)), (h c).2.2.2.2.2.2⟩)
    (Value.run (F := Ideal) m ρ)

end

/-! ## The claims -/

theorem frame_kernel : Cert.quiescent_KernelSsmPrepFwd := fun m ρ _ => Cert.KernelSsmPrepFwd.Gen.frame m ρ
theorem frame_ideal : Cert.quiescent_KernelSsmPrepFwdIdeal := fun m ρ _ => Cert.KernelSsmPrepFwdIdeal.Gen.frame m ρ
theorem frame_reference : Cert.quiescent_ReferenceSsmPrepFwdIdeal := fun m ρ _ =>
  (θ_run Cert.ReferenceSsmPrepFwdIdeal.defs _ _).mono (fun r h => ⟨fun c => (h c).2.2.2.2.2.2, sem_eq_zero_of_no_sems (by decide) r.2⟩)
    (Cert.ReferenceSsmPrepFwdIdeal.Value.run (F := Ideal) m ρ)

open Cert.KernelSsmPrepFwdIdeal in
theorem value : Cert.algebraic_KernelSsmPrepFwdIdeal_ReferenceSsmPrepFwdIdeal := fun m g m' g' hpre hagree =>
  ⟨fun c => lanes (poleRe (aRe m c) (aIm m c) (logDt m c)), fun c => lanes (poleIm (aRe m c) (aIm m c) (logDt m c)),
    fun c => dense (weightRe (aRe m c) (aIm m c) (logDt m c) (btRe m c) (btIm m c)), fun c => dense (weightIm (aRe m c) (aIm m c) (logDt m c) (btRe m c) (btIm m c)),
    fun c => dense (fun r s => ctRe m c (ix2 r s)), fun c => dense (negated (ctIm m c)), run_kernel m g,
    (θ_run Cert.ReferenceSsmPrepFwdIdeal.defs _ _).mono (fun r h c => by
      obtain ⟨e0, e1, e2, e3, e4, e5, e6⟩ := hagree c
      have hc := h c
      simp only [e0, e1, e2, e3, e4, e5, e6] at hc ⊢
      exact hc) (run_reference m' g')⟩

end Cert.Proof.SsmPrepFwd
end
-- ==== Proof.PostMixerFwd.lean ====
/-
  What follows the mixers, forward: the kernel's runs and the reference's leave the arguments as they were.
-/
module

public import proofs.«01_k».proof.Defs
public import proofs.«01_k».proof.Proof.Gen.KernelPostFwd.Frame
public import proofs.«01_k».proof.Proof.Gen.KernelPostFwdIdeal.Frame
public import proofs.«01_k».proof.Proof.Gen.ReferencePostFwdIdeal
public import Idealize.ShloMosaic.Lib.Claim
public import Idealize.ShloMosaic.Lib.Quiescent
public import Idealize.ShloMosaic.Lib.StableHlo.RunHlo

@[expose] public section

set_option maxRecDepth 65536

noncomputable section

namespace Cert.Proof.PostMixerFwd

open Cert.ReferencePostFwdIdeal Idealize.ShloMosaic Idealize.ShloMosaic.TcCoe Idealize.SL.Sem

theorem frame_kernel : Cert.quiescent_KernelPostFwd := fun m ρ _ => Cert.KernelPostFwd.Gen.frame m ρ
theorem frame_ideal : Cert.quiescent_KernelPostFwdIdeal := fun m ρ _ => Cert.KernelPostFwdIdeal.Gen.frame m ρ

/-- The buffers the reference's operations write, in order. -/
abbrev written : List (Ref sig .tc) :=
  [
    main_v0, main_v1, main_v2, main_v3, main_v4, main_v5, main_v6, main_v7, main_v8, main_v9, main_v10, main_v11, main_v12, main_cst, main_v13, main_v14, main_v15,
    main_cst_0, main_v16, main_v17, main_v18, main_cst_1, main_v19, main_v20, main_cst_2, main_v21, main_v22, main_v23, main_v24, main_v25, main_v26, main_v27, main_v28,
    main_cst_3, main_v29, main_v30, main_cst_4, main_v31, main_v32, main_v33, main_v34, main_cst_5, main_v35, main_v36, main_cst_6, main_v37, main_v38, main_cst_7,
    main_v39, main_v40, main_v41, main_v42, main_v43, main_v44, main_v45, main_v46, main_cst_8, main_v47, main_v48, main_cst_9, main_v49, main_v50, main_cst_10, main_v51,
    main_v52, main_v53, main_v54, main_v55, main_v56, main_v57, main_v58, main_v59, main_v60, main_v61, main_cst_11, main_v62, main_v63, main_cst_12, main_v64, main_v65,
    main_cst_13, main_v66, main_v67, main_v68, main_v69, main_v70, main_v71, main_v72, main_v73, main_v74, main_v75, main_v76, main_cst_14, main_v77, main_v78,
    main_cst_15, main_v79, main_v80, main_cst_16, main_v81, main_v82, main_v83, main_v84, main_v85, main_v86, main_v87, main_v88, main_v89, main_v90, main_cst_17,
    main_v91, main_v92, main_cst_18, main_v93, main_cst_19, main_v94, main_v95, main_v96, main_v97, main_v98, main_v99, main_cst_20, main_v100, main_v101, main_v102,
    main_v103, main_v104, main_v105, main_v106, main_v107, main_v108, main_v109 ]

set_option maxHeartbeats 40000000 in
/-- None of them is an argument. -/
theorem frame_reference : Cert.quiescent_ReferencePostFwdIdeal := fun m ρ _ =>
  θ_run_mono (StableHlo.run_hlo _ _ (by hlo_seq) (by decide) (by decide) (by simp)
    (by intro _ h; (repeat (cases h with | head => rfl | tail _ h => ?_)); exact nomatch h) m ρ) fun r hc => by
  have keep : ∀ (c : Dev nD) (b : Ref sig .tc), b ∉ written → r.2.mem ((c.tc : Thread nD τ).loc b) = m ((c.tc : Thread nD τ).loc b) :=
    fun c b hb => (hc c b).trans (StableHlo.after_of_writes_sub (W := written) _ _ (StableHlo.forall_writes_sub_of_map rfl) hb)
  exact ⟨fun c => ⟨keep c main_arg0 (by decide), keep c main_arg1 (by decide), keep c main_arg2 (by decide), keep c main_arg3 (by decide), keep c main_arg4 (by decide), keep c main_arg5 (by decide), keep c main_arg6 (by decide), keep c main_arg7 (by decide), keep c main_arg8 (by decide), keep c main_arg9 (by decide), keep c main_arg10 (by decide), keep c main_arg11 (by decide), keep c main_arg12 (by decide), keep c main_arg13 (by decide), keep c main_arg14 (by decide), keep c main_arg15 (by decide), keep c main_arg16 (by decide)⟩, sem_eq_zero_of_no_sems (by decide) r.2⟩

end Cert.Proof.PostMixerFwd

end
-- ==== Proof.lean ====
/-
  The certificate: each module named below proves the claims about one call of the training step; this file only puts
  them together.
-/
module

public import proofs.«01_k».proof.Defs
public import proofs.«01_k».proof.Proof.MemNorm
public import proofs.«01_k».proof.Proof.FfnW
public import proofs.«01_k».proof.Proof.FfnAct
public import proofs.«01_k».proof.Proof.KeyNorm
public import proofs.«01_k».proof.Proof.Attn
public import proofs.«01_k».proof.Proof.SsmPrep
public import proofs.«01_k».proof.Proof.PostMixerRef
public import proofs.«01_k».proof.Proof.PostMixer
public import proofs.«01_k».proof.Proof.PreMixerRef
public import proofs.«01_k».proof.Proof.PreMixer
public import proofs.«01_k».proof.Proof.SsmRef
public import proofs.«01_k».proof.Proof.MemNormFwd
public import proofs.«01_k».proof.Proof.KeyNormFwd
public import proofs.«01_k».proof.Proof.AttnFwd
public import proofs.«01_k».proof.Proof.SsmPrepFwd
public import proofs.«01_k».proof.Proof.PostMixerFwd
public import proofs.«01_k».proof.Proof.Gen.KernelPreFwd.Frame
public import proofs.«01_k».proof.Proof.Gen.KernelPreFwdIdeal.Frame
public import proofs.«01_k».proof.Proof.Gen.KernelMemNorm
public import proofs.«01_k».proof.Proof.Gen.KernelMemNormIdeal
public import proofs.«01_k».proof.Proof.Gen.ReferenceMemNormIdeal
public import proofs.«01_k».proof.Proof.Gen.KernelFfnW
public import proofs.«01_k».proof.Proof.Gen.KernelFfnWIdeal
public import proofs.«01_k».proof.Proof.Gen.ReferenceFfnWIdeal
public import proofs.«01_k».proof.Proof.Gen.KernelFfnAct
public import proofs.«01_k».proof.Proof.Gen.KernelFfnActIdeal
public import proofs.«01_k».proof.Proof.Gen.ReferenceFfnActIdeal
public import proofs.«01_k».proof.Proof.Gen.KernelKeyNorm
public import proofs.«01_k».proof.Proof.Gen.KernelKeyNormIdeal
public import proofs.«01_k».proof.Proof.Gen.ReferenceKeyNormIdeal
public import proofs.«01_k».proof.Proof.Gen.KernelAttn
public import proofs.«01_k».proof.Proof.Gen.KernelAttnIdeal
public import proofs.«01_k».proof.Proof.Gen.ReferenceAttnIdeal
public import proofs.«01_k».proof.Proof.Gen.KernelSsmPrep
public import proofs.«01_k».proof.Proof.Gen.KernelSsmPrepIdeal
public import proofs.«01_k».proof.Proof.Gen.ReferenceSsmPrepIdeal
public import proofs.«01_k».proof.Proof.Gen.KernelPost
public import proofs.«01_k».proof.Proof.Gen.KernelPostIdeal
public import proofs.«01_k».proof.Proof.Gen.ReferencePostIdeal
public import proofs.«01_k».proof.Proof.Gen.KernelPre
public import proofs.«01_k».proof.Proof.Gen.KernelPreIdeal
public import proofs.«01_k».proof.Proof.Gen.ReferencePreIdeal
public import proofs.«01_k».proof.Proof.Gen.ReferenceSsmIdeal
public import proofs.«01_k».proof.Proof.Gen.KernelMemNormFwd
public import proofs.«01_k».proof.Proof.Gen.KernelMemNormFwdIdeal
public import proofs.«01_k».proof.Proof.Gen.ReferenceMemNormFwdIdeal
public import proofs.«01_k».proof.Proof.Gen.KernelKeyNormFwd
public import proofs.«01_k».proof.Proof.Gen.KernelKeyNormFwdIdeal
public import proofs.«01_k».proof.Proof.Gen.ReferenceKeyNormFwdIdeal
public import proofs.«01_k».proof.Proof.Gen.KernelAttnFwd
public import proofs.«01_k».proof.Proof.Gen.KernelAttnFwdIdeal
public import proofs.«01_k».proof.Proof.Gen.ReferenceAttnFwdIdeal
public import proofs.«01_k».proof.Proof.Gen.KernelSsmPrepFwd
public import proofs.«01_k».proof.Proof.Gen.KernelSsmPrepFwdIdeal
public import proofs.«01_k».proof.Proof.Gen.ReferenceSsmPrepFwdIdeal
public import proofs.«01_k».proof.Proof.Gen.KernelPostFwd
public import proofs.«01_k».proof.Proof.Gen.KernelPostFwdIdeal
public import proofs.«01_k».proof.Proof.Gen.ReferencePostFwdIdeal
public import proofs.«01_k».proof.Proof.Gen.KernelPreFwd
public import proofs.«01_k».proof.Proof.Gen.KernelPreFwdIdeal
public import proofs.«01_k».proof.Proof.Gen.Pre_ffn_finite
public import proofs.«01_k».proof.Proof.Gen.Pre_attn_finite
public import proofs.«01_k».proof.Proof.Gen.Pre_prep_nonzero
public import proofs.«01_k».proof.Proof.Gen.Pre_attn_fwd_finite

@[expose] public section

noncomputable section

namespace Cert.Proof

open Idealize.ShloMosaic Idealize.SL.Sem

theorem claim : Cert.Claim :=
  ⟨Cert.KernelMemNorm.Gen.facts,
    Cert.KernelMemNormIdeal.Gen.facts,
    Cert.ReferenceMemNormIdeal.Gen.facts,
    Cert.KernelFfnW.Gen.facts,
    Cert.KernelFfnWIdeal.Gen.facts,
    Cert.ReferenceFfnWIdeal.Gen.facts,
    Cert.KernelFfnAct.Gen.facts,
    Cert.KernelFfnActIdeal.Gen.facts,
    Cert.ReferenceFfnActIdeal.Gen.facts,
    Cert.KernelKeyNorm.Gen.facts,
    Cert.KernelKeyNormIdeal.Gen.facts,
    Cert.ReferenceKeyNormIdeal.Gen.facts,
    Cert.KernelAttn.Gen.facts,
    Cert.KernelAttnIdeal.Gen.facts,
    Cert.ReferenceAttnIdeal.Gen.facts,
    Cert.KernelSsmPrep.Gen.facts,
    Cert.KernelSsmPrepIdeal.Gen.facts,
    Cert.ReferenceSsmPrepIdeal.Gen.facts,
    Cert.KernelPost.Gen.facts,
    Cert.KernelPostIdeal.Gen.facts,
    Cert.ReferencePostIdeal.Gen.facts,
    Cert.KernelPre.Gen.facts,
    Cert.KernelPreIdeal.Gen.facts,
    Cert.ReferencePreIdeal.Gen.facts,
    Cert.ReferenceSsmIdeal.Gen.facts,
    Cert.KernelMemNormFwd.Gen.facts,
    Cert.KernelMemNormFwdIdeal.Gen.facts,
    Cert.ReferenceMemNormFwdIdeal.Gen.facts,
    Cert.KernelKeyNormFwd.Gen.facts,
    Cert.KernelKeyNormFwdIdeal.Gen.facts,
    Cert.ReferenceKeyNormFwdIdeal.Gen.facts,
    Cert.KernelAttnFwd.Gen.facts,
    Cert.KernelAttnFwdIdeal.Gen.facts,
    Cert.ReferenceAttnFwdIdeal.Gen.facts,
    Cert.KernelSsmPrepFwd.Gen.facts,
    Cert.KernelSsmPrepFwdIdeal.Gen.facts,
    Cert.ReferenceSsmPrepFwdIdeal.Gen.facts,
    Cert.KernelPostFwd.Gen.facts,
    Cert.KernelPostFwdIdeal.Gen.facts,
    Cert.ReferencePostFwdIdeal.Gen.facts,
    Cert.KernelPreFwd.Gen.facts,
    Cert.KernelPreFwdIdeal.Gen.facts,
    Cert.Pre_ffn_finite.Gen.facts,
    Cert.Pre_attn_finite.Gen.facts,
    Cert.Pre_prep_nonzero.Gen.facts,
    Cert.Pre_attn_fwd_finite.Gen.facts,
    MemNorm.frame_kernel,
    MemNorm.frame_ideal,
    MemNorm.frame_reference,
    FfnW.frame_kernel,
    FfnW.frame_ideal,
    FfnW.frame_reference,
    FfnAct.frame_kernel,
    FfnAct.frame_ideal,
    FfnAct.frame_ideal_pre,
    FfnAct.frame_reference,
    FfnAct.frame_reference_pre,
    KeyNorm.frame_kernel,
    KeyNorm.frame_ideal,
    KeyNorm.frame_reference,
    Attn.frame_kernel,
    Attn.frame_ideal,
    Attn.frame_ideal_pre,
    Attn.frame_reference,
    Attn.frame_reference_pre,
    SsmPrep.frame_kernel,
    SsmPrep.frame_ideal,
    SsmPrep.frame_ideal_pre,
    SsmPrep.frame_reference,
    SsmPrep.frame_reference_pre,
    PostMixer.frame_kernel,
    PostMixer.frame_ideal,
    PostMixerRef.frame,
    PreMixer.frame_kernel,
    PreMixer.frame_ideal,
    PreMixerRef.frame,
    SsmRef.frame,
    MemNormFwd.frame_kernel,
    MemNormFwd.frame_ideal,
    MemNormFwd.frame_reference,
    KeyNormFwd.frame_kernel,
    KeyNormFwd.frame_ideal,
    KeyNormFwd.frame_reference,
    AttnFwd.frame_kernel,
    AttnFwd.frame_ideal,
    AttnFwd.frame_ideal_pre,
    AttnFwd.frame_reference,
    AttnFwd.frame_reference_pre,
    SsmPrepFwd.frame_kernel,
    SsmPrepFwd.frame_ideal,
    SsmPrepFwd.frame_reference,
    PostMixerFwd.frame_kernel,
    PostMixerFwd.frame_ideal,
    PostMixerFwd.frame_reference,
    fun m ρ _ => Cert.KernelPreFwd.Gen.frame m ρ,
    fun m ρ _ => Cert.KernelPreFwdIdeal.Gen.frame m ρ,
    trivial,
    MemNorm.value,
    trivial,
    FfnW.value,
    trivial,
    FfnAct.value,
    trivial,
    KeyNorm.value,
    Attn.preserved,
    Attn.value,
    trivial,
    SsmPrep.value,
    trivial,
    trivial,
    trivial,
    MemNormFwd.value,
    trivial,
    KeyNormFwd.value,
    AttnFwd.preserved,
    AttnFwd.value,
    trivial,
    SsmPrepFwd.value,
    trivial,
    trivial⟩

end Cert.Proof

end
